-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v10_0)) (v2 : (c : Dev Cert.Kernel2Ideal.nD) → Buf (Elt Ideal) ((c.tc : Thread Cert.Kernel2Ideal.nD Cert.Kernel2Ideal.τ).loc Cert.Kernel2Ideal.main_v10_1)) (v3 : (c : Dev Cert.Kernel2Ideal.nD) → Buf (Elt Ideal) ((c.tc : Thread Cert.Kernel2Ideal.nD Cert.Kernel2Ideal.τ).loc Cert.Kernel2Ideal.main_v8)) (v4 : (c : Dev Cert.Kernel2Ideal.nD) → Buf (Elt Ideal) ((c.tc : Thread Cert.Kernel2Ideal.nD Cert.Kernel2Ideal.τ).loc Cert.Kernel2Ideal.main_v9)) (v5 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v10_0) = v1 c
          ∧ r.2.mem ((c.tc : Thread Cert.Kernel2Ideal.nD Cert.Kernel2Ideal.τ).loc Cert.Kernel2Ideal.main_v10_1) = v2 c
          ∧ r.2.mem ((c.tc : Thread Cert.Kernel2Ideal.nD Cert.Kernel2Ideal.τ).loc Cert.Kernel2Ideal.main_v8) = v3 c
          ∧ r.2.mem ((c.tc : Thread Cert.Kernel2Ideal.nD Cert.Kernel2Ideal.τ).loc Cert.Kernel2Ideal.main_v9) = v4 c
          ∧ r.2.mem ((c.tc : Thread Cert.Kernel2Ideal.nD Cert.Kernel2Ideal.τ).loc Cert.Kernel2Ideal.main_v7) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_v29) = v4 c
          ∧ r.2.mem ((c.tc : Thread Cert.Reference2Ideal.nD Cert.Reference2Ideal.τ).loc Cert.Reference2Ideal.main_v24) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v6)) (v2 : (c : Dev Cert.Kernel3Ideal.nD) → Buf (Elt Ideal) ((c.tc : Thread Cert.Kernel3Ideal.nD Cert.Kernel3Ideal.τ).loc Cert.Kernel3Ideal.main_v7)) (v3 : (c : Dev Cert.Kernel3Ideal.nD) → Buf (Elt Ideal) ((c.tc : Thread Cert.Kernel3Ideal.nD Cert.Kernel3Ideal.τ).loc Cert.Kernel3Ideal.main_v8)) (v4 : (c : Dev Cert.Kernel3Ideal.nD) → Buf (Elt Ideal) ((c.tc : Thread Cert.Kernel3Ideal.nD Cert.Kernel3Ideal.τ).loc Cert.Kernel3Ideal.main_v9)) (v5 : (c : Dev Cert.Kernel3Ideal.nD) → Buf (Elt Ideal) ((c.tc : Thread Cert.Kernel3Ideal.nD Cert.Kernel3Ideal.τ).loc Cert.Kernel3Ideal.main_v10_0)) (v6 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v6) = v1 c
          ∧ r.2.mem ((c.tc : Thread Cert.Kernel3Ideal.nD Cert.Kernel3Ideal.τ).loc Cert.Kernel3Ideal.main_v7) = v2 c
          ∧ r.2.mem ((c.tc : Thread Cert.Kernel3Ideal.nD Cert.Kernel3Ideal.τ).loc Cert.Kernel3Ideal.main_v8) = v3 c
          ∧ r.2.mem ((c.tc : Thread Cert.Kernel3Ideal.nD Cert.Kernel3Ideal.τ).loc Cert.Kernel3Ideal.main_v9) = v4 c
          ∧ r.2.mem ((c.tc : Thread Cert.Kernel3Ideal.nD Cert.Kernel3Ideal.τ).loc Cert.Kernel3Ideal.main_v10_0) = v5 c
          ∧ r.2.mem ((c.tc : Thread Cert.Kernel3Ideal.nD Cert.Kernel3Ideal.τ).loc Cert.Kernel3Ideal.main_v10_1) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_v24) = v4 c
          ∧ r.2.mem ((c.tc : Thread Cert.Reference3Ideal.nD Cert.Reference3Ideal.τ).loc Cert.Reference3Ideal.main_v46) = v5 c
          ∧ r.2.mem ((c.tc : Thread Cert.Reference3Ideal.nD Cert.Reference3Ideal.τ).loc Cert.Reference3Ideal.main_v49) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_2)) (v2 : (c : Dev Cert.Kernel4Ideal.nD) → Buf (Elt Ideal) ((c.tc : Thread Cert.Kernel4Ideal.nD Cert.Kernel4Ideal.τ).loc Cert.Kernel4Ideal.main_v18)) (v3 : (c : Dev Cert.Kernel4Ideal.nD) → Buf (Elt Ideal) ((c.tc : Thread Cert.Kernel4Ideal.nD Cert.Kernel4Ideal.τ).loc Cert.Kernel4Ideal.main_v13)) (v4 : (c : Dev Cert.Kernel4Ideal.nD) → Buf (Elt Ideal) ((c.tc : Thread Cert.Kernel4Ideal.nD Cert.Kernel4Ideal.τ).loc Cert.Kernel4Ideal.main_v14_0)) (v5 : (c : Dev Cert.Kernel4Ideal.nD) → Buf (Elt Ideal) ((c.tc : Thread Cert.Kernel4Ideal.nD Cert.Kernel4Ideal.τ).loc Cert.Kernel4Ideal.main_v14_1)) (v6 : (c : Dev Cert.Kernel4Ideal.nD) → Buf (Elt Ideal) ((c.tc : Thread Cert.Kernel4Ideal.nD Cert.Kernel4Ideal.τ).loc Cert.Kernel4Ideal.main_v15)) (v7 : (c : Dev Cert.Kernel4Ideal.nD) → Buf (Elt Ideal) ((c.tc : Thread Cert.Kernel4Ideal.nD Cert.Kernel4Ideal.τ).loc Cert.Kernel4Ideal.main_v19)) (v8 : (c : Dev Cert.Kernel4Ideal.nD) → Buf (Elt Ideal) ((c.tc : Thread Cert.Kernel4Ideal.nD Cert.Kernel4Ideal.τ).loc Cert.Kernel4Ideal.main_v17_0)) (v9 : (c : Dev Cert.Kernel4Ideal.nD) → Buf (Elt Ideal) ((c.tc : Thread Cert.Kernel4Ideal.nD Cert.Kernel4Ideal.τ).loc Cert.Kernel4Ideal.main_v17_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_2) = v1 c
          ∧ r.2.mem ((c.tc : Thread Cert.Kernel4Ideal.nD Cert.Kernel4Ideal.τ).loc Cert.Kernel4Ideal.main_v18) = v2 c
          ∧ r.2.mem ((c.tc : Thread Cert.Kernel4Ideal.nD Cert.Kernel4Ideal.τ).loc Cert.Kernel4Ideal.main_v13) = v3 c
          ∧ r.2.mem ((c.tc : Thread Cert.Kernel4Ideal.nD Cert.Kernel4Ideal.τ).loc Cert.Kernel4Ideal.main_v14_0) = v4 c
          ∧ r.2.mem ((c.tc : Thread Cert.Kernel4Ideal.nD Cert.Kernel4Ideal.τ).loc Cert.Kernel4Ideal.main_v14_1) = v5 c
          ∧ r.2.mem ((c.tc : Thread Cert.Kernel4Ideal.nD Cert.Kernel4Ideal.τ).loc Cert.Kernel4Ideal.main_v15) = v6 c
          ∧ r.2.mem ((c.tc : Thread Cert.Kernel4Ideal.nD Cert.Kernel4Ideal.τ).loc Cert.Kernel4Ideal.main_v19) = v7 c
          ∧ r.2.mem ((c.tc : Thread Cert.Kernel4Ideal.nD Cert.Kernel4Ideal.τ).loc Cert.Kernel4Ideal.main_v17_0) = v8 c
          ∧ r.2.mem ((c.tc : Thread Cert.Kernel4Ideal.nD Cert.Kernel4Ideal.τ).loc Cert.Kernel4Ideal.main_v17_1) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v49) = v4 c
          ∧ r.2.mem ((c.tc : Thread Cert.Reference4Ideal.nD Cert.Reference4Ideal.τ).loc Cert.Reference4Ideal.main_v52) = v5 c
          ∧ r.2.mem ((c.tc : Thread Cert.Reference4Ideal.nD Cert.Reference4Ideal.τ).loc Cert.Reference4Ideal.main_v21) = v6 c
          ∧ r.2.mem ((c.tc : Thread Cert.Reference4Ideal.nD Cert.Reference4Ideal.τ).loc Cert.Reference4Ideal.main_v24) = v7 c
          ∧ r.2.mem ((c.tc : Thread Cert.Reference4Ideal.nD Cert.Reference4Ideal.τ).loc Cert.Reference4Ideal.main_v46) = v8 c
          ∧ r.2.mem ((c.tc : Thread Cert.Reference4Ideal.nD Cert.Reference4Ideal.τ).loc Cert.Reference4Ideal.main_v53) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v15_0)) (v2 : (c : Dev Cert.Kernel5Ideal.nD) → Buf (Elt Ideal) ((c.tc : Thread Cert.Kernel5Ideal.nD Cert.Kernel5Ideal.τ).loc Cert.Kernel5Ideal.main_v13)) (v3 : (c : Dev Cert.Kernel5Ideal.nD) → Buf (Elt Ideal) ((c.tc : Thread Cert.Kernel5Ideal.nD Cert.Kernel5Ideal.τ).loc Cert.Kernel5Ideal.main_v16)) (v4 : (c : Dev Cert.Kernel5Ideal.nD) → Buf (Elt Ideal) ((c.tc : Thread Cert.Kernel5Ideal.nD Cert.Kernel5Ideal.τ).loc Cert.Kernel5Ideal.main_v17)) (v5 : (c : Dev Cert.Kernel5Ideal.nD) → Buf (Elt Ideal) ((c.tc : Thread Cert.Kernel5Ideal.nD Cert.Kernel5Ideal.τ).loc Cert.Kernel5Ideal.main_v18)) (v6 : (c : Dev Cert.Kernel5Ideal.nD) → Buf (Elt Ideal) ((c.tc : Thread Cert.Kernel5Ideal.nD Cert.Kernel5Ideal.τ).loc Cert.Kernel5Ideal.main_v19)) (v7 : (c : Dev Cert.Kernel5Ideal.nD) → Buf (Elt Ideal) ((c.tc : Thread Cert.Kernel5Ideal.nD Cert.Kernel5Ideal.τ).loc Cert.Kernel5Ideal.main_v20)) (v8 : (c : Dev Cert.Kernel5Ideal.nD) → Buf (Elt Ideal) ((c.tc : Thread Cert.Kernel5Ideal.nD Cert.Kernel5Ideal.τ).loc Cert.Kernel5Ideal.main_v21_1)) (v9 : (c : Dev Cert.Kernel5Ideal.nD) → Buf (Elt Ideal) ((c.tc : Thread Cert.Kernel5Ideal.nD Cert.Kernel5Ideal.τ).loc Cert.Kernel5Ideal.main_v22_1)) (v10 : (c : Dev Cert.Kernel5Ideal.nD) → Buf (Elt Ideal) ((c.tc : Thread Cert.Kernel5Ideal.nD Cert.Kernel5Ideal.τ).loc Cert.Kernel5Ideal.main_v25)) (v11 : (c : Dev Cert.Kernel5Ideal.nD) → Buf (Elt Ideal) ((c.tc : Thread Cert.Kernel5Ideal.nD Cert.Kernel5Ideal.τ).loc Cert.Kernel5Ideal.main_v26_0)) (v12 : (c : Dev Cert.Kernel5Ideal.nD) → Buf (Elt Ideal) ((c.tc : Thread Cert.Kernel5Ideal.nD Cert.Kernel5Ideal.τ).loc Cert.Kernel5Ideal.main_v26_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v15_0) = v1 c
          ∧ r.2.mem ((c.tc : Thread Cert.Kernel5Ideal.nD Cert.Kernel5Ideal.τ).loc Cert.Kernel5Ideal.main_v13) = v2 c
          ∧ r.2.mem ((c.tc : Thread Cert.Kernel5Ideal.nD Cert.Kernel5Ideal.τ).loc Cert.Kernel5Ideal.main_v16) = v3 c
          ∧ r.2.mem ((c.tc : Thread Cert.Kernel5Ideal.nD Cert.Kernel5Ideal.τ).loc Cert.Kernel5Ideal.main_v17) = v4 c
          ∧ r.2.mem ((c.tc : Thread Cert.Kernel5Ideal.nD Cert.Kernel5Ideal.τ).loc Cert.Kernel5Ideal.main_v18) = v5 c
          ∧ r.2.mem ((c.tc : Thread Cert.Kernel5Ideal.nD Cert.Kernel5Ideal.τ).loc Cert.Kernel5Ideal.main_v19) = v6 c
          ∧ r.2.mem ((c.tc : Thread Cert.Kernel5Ideal.nD Cert.Kernel5Ideal.τ).loc Cert.Kernel5Ideal.main_v20) = v7 c
          ∧ r.2.mem ((c.tc : Thread Cert.Kernel5Ideal.nD Cert.Kernel5Ideal.τ).loc Cert.Kernel5Ideal.main_v21_1) = v8 c
          ∧ r.2.mem ((c.tc : Thread Cert.Kernel5Ideal.nD Cert.Kernel5Ideal.τ).loc Cert.Kernel5Ideal.main_v22_1) = v9 c
          ∧ r.2.mem ((c.tc : Thread Cert.Kernel5Ideal.nD Cert.Kernel5Ideal.τ).loc Cert.Kernel5Ideal.main_v25) = v10 c
          ∧ r.2.mem ((c.tc : Thread Cert.Kernel5Ideal.nD Cert.Kernel5Ideal.τ).loc Cert.Kernel5Ideal.main_v26_0) = v11 c
          ∧ r.2.mem ((c.tc : Thread Cert.Kernel5Ideal.nD Cert.Kernel5Ideal.τ).loc Cert.Kernel5Ideal.main_v26_1) = v12 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v135) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v55) = v3 c
          ∧ r.2.mem ((c.tc : Thread Cert.Reference5Ideal.nD Cert.Reference5Ideal.τ).loc Cert.Reference5Ideal.main_v136) = v4 c
          ∧ r.2.mem ((c.tc : Thread Cert.Reference5Ideal.nD Cert.Reference5Ideal.τ).loc Cert.Reference5Ideal.main_v58) = v5 c
          ∧ r.2.mem ((c.tc : Thread Cert.Reference5Ideal.nD Cert.Reference5Ideal.τ).loc Cert.Reference5Ideal.main_v65) = v6 c
          ∧ r.2.mem ((c.tc : Thread Cert.Reference5Ideal.nD Cert.Reference5Ideal.τ).loc Cert.Reference5Ideal.main_v62) = v7 c
          ∧ r.2.mem ((c.tc : Thread Cert.Reference5Ideal.nD Cert.Reference5Ideal.τ).loc Cert.Reference5Ideal.main_v137) = v8 c
          ∧ r.2.mem ((c.tc : Thread Cert.Reference5Ideal.nD Cert.Reference5Ideal.τ).loc Cert.Reference5Ideal.main_v138) = v9 c
          ∧ r.2.mem ((c.tc : Thread Cert.Reference5Ideal.nD Cert.Reference5Ideal.τ).loc Cert.Reference5Ideal.main_v112) = v10 c
          ∧ r.2.mem ((c.tc : Thread Cert.Reference5Ideal.nD Cert.Reference5Ideal.τ).loc Cert.Reference5Ideal.main_v134) = v11 c
          ∧ r.2.mem ((c.tc : Thread Cert.Reference5Ideal.nD Cert.Reference5Ideal.τ).loc Cert.Reference5Ideal.main_v139) = v12 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v1_0)) (v5 : (c : Dev Cert.Kernel6Ideal.nD) → Buf (Elt Ideal) ((c.tc : Thread Cert.Kernel6Ideal.nD Cert.Kernel6Ideal.τ).loc Cert.Kernel6Ideal.main_v1_1)) (v6 : (c : Dev Cert.Kernel6Ideal.nD) → Buf (Elt Ideal) ((c.tc : Thread Cert.Kernel6Ideal.nD Cert.Kernel6Ideal.τ).loc Cert.Kernel6Ideal.main_v1_2)) (v7 : (c : Dev Cert.Kernel6Ideal.nD) → Buf (Elt Ideal) ((c.tc : Thread Cert.Kernel6Ideal.nD Cert.Kernel6Ideal.τ).loc Cert.Kernel6Ideal.main_v1_3)) (v8 : (c : Dev Cert.Kernel6Ideal.nD) → Buf (Elt Ideal) ((c.tc : Thread Cert.Kernel6Ideal.nD Cert.Kernel6Ideal.τ).loc Cert.Kernel6Ideal.main_v2_0)) (v9 : (c : Dev Cert.Kernel6Ideal.nD) → Buf (Elt Ideal) ((c.tc : Thread Cert.Kernel6Ideal.nD Cert.Kernel6Ideal.τ).loc Cert.Kernel6Ideal.main_v2_1)) (v10 : (c : Dev Cert.Kernel6Ideal.nD) → Buf (Elt Ideal) ((c.tc : Thread Cert.Kernel6Ideal.nD Cert.Kernel6Ideal.τ).loc Cert.Kernel6Ideal.main_v2_2)) (v11 : (c : Dev Cert.Kernel6Ideal.nD) → Buf (Elt Ideal) ((c.tc : Thread Cert.Kernel6Ideal.nD Cert.Kernel6Ideal.τ).loc Cert.Kernel6Ideal.main_v2_3)) (v12 : (c : Dev Cert.Kernel6Ideal.nD) → Buf (Elt Ideal) ((c.tc : Thread Cert.Kernel6Ideal.nD Cert.Kernel6Ideal.τ).loc Cert.Kernel6Ideal.main_v3_0)) (v13 : (c : Dev Cert.Kernel6Ideal.nD) → Buf (Elt Ideal) ((c.tc : Thread Cert.Kernel6Ideal.nD Cert.Kernel6Ideal.τ).loc Cert.Kernel6Ideal.main_v3_1)) (v14 : (c : Dev Cert.Kernel6Ideal.nD) → Buf (Elt Ideal) ((c.tc : Thread Cert.Kernel6Ideal.nD Cert.Kernel6Ideal.τ).loc Cert.Kernel6Ideal.main_v3_2)) (v15 : (c : Dev Cert.Kernel6Ideal.nD) → Buf (Elt Ideal) ((c.tc : Thread Cert.Kernel6Ideal.nD Cert.Kernel6Ideal.τ).loc Cert.Kernel6Ideal.main_v3_3)) (v16 : (c : Dev Cert.Kernel6Ideal.nD) → Buf (Elt Ideal) ((c.tc : Thread Cert.Kernel6Ideal.nD Cert.Kernel6Ideal.τ).loc Cert.Kernel6Ideal.main_v4_0)) (v17 : (c : Dev Cert.Kernel6Ideal.nD) → Buf (Elt Ideal) ((c.tc : Thread Cert.Kernel6Ideal.nD Cert.Kernel6Ideal.τ).loc Cert.Kernel6Ideal.main_v4_1)) (v18 : (c : Dev Cert.Kernel6Ideal.nD) → Buf (Elt Ideal) ((c.tc : Thread Cert.Kernel6Ideal.nD Cert.Kernel6Ideal.τ).loc Cert.Kernel6Ideal.main_v4_2)) (v19 : (c : Dev Cert.Kernel6Ideal.nD) → Buf (Elt Ideal) ((c.tc : Thread Cert.Kernel6Ideal.nD Cert.Kernel6Ideal.τ).loc Cert.Kernel6Ideal.main_v4_3)) (v20 : (c : Dev Cert.Kernel6Ideal.nD) → Buf (Elt Ideal) ((c.tc : Thread Cert.Kernel6Ideal.nD Cert.Kernel6Ideal.τ).loc Cert.Kernel6Ideal.main_v5_0)) (v21 : (c : Dev Cert.Kernel6Ideal.nD) → Buf (Elt Ideal) ((c.tc : Thread Cert.Kernel6Ideal.nD Cert.Kernel6Ideal.τ).loc Cert.Kernel6Ideal.main_v5_1)) (v22 : (c : Dev Cert.Kernel6Ideal.nD) → Buf (Elt Ideal) ((c.tc : Thread Cert.Kernel6Ideal.nD Cert.Kernel6Ideal.τ).loc Cert.Kernel6Ideal.main_v5_2)) (v23 : (c : Dev Cert.Kernel6Ideal.nD) → Buf (Elt Ideal) ((c.tc : Thread Cert.Kernel6Ideal.nD Cert.Kernel6Ideal.τ).loc Cert.Kernel6Ideal.main_v5_3)) (v24 : (c : Dev Cert.Kernel6Ideal.nD) → Buf (Elt Ideal) ((c.tc : Thread Cert.Kernel6Ideal.nD Cert.Kernel6Ideal.τ).loc Cert.Kernel6Ideal.main_v6_0)) (v25 : (c : Dev Cert.Kernel6Ideal.nD) → Buf (Elt Ideal) ((c.tc : Thread Cert.Kernel6Ideal.nD Cert.Kernel6Ideal.τ).loc Cert.Kernel6Ideal.main_v6_1)) (v26 : (c : Dev Cert.Kernel6Ideal.nD) → Buf (Elt Ideal) ((c.tc : Thread Cert.Kernel6Ideal.nD Cert.Kernel6Ideal.τ).loc Cert.Kernel6Ideal.main_v6_2)) (v27 : (c : Dev Cert.Kernel6Ideal.nD) → Buf (Elt Ideal) ((c.tc : Thread Cert.Kernel6Ideal.nD Cert.Kernel6Ideal.τ).loc Cert.Kernel6Ideal.main_v6_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v1_0) = v4 c
          ∧ r.2.mem ((c.tc : Thread Cert.Kernel6Ideal.nD Cert.Kernel6Ideal.τ).loc Cert.Kernel6Ideal.main_v1_1) = v5 c
          ∧ r.2.mem ((c.tc : Thread Cert.Kernel6Ideal.nD Cert.Kernel6Ideal.τ).loc Cert.Kernel6Ideal.main_v1_2) = v6 c
          ∧ r.2.mem ((c.tc : Thread Cert.Kernel6Ideal.nD Cert.Kernel6Ideal.τ).loc Cert.Kernel6Ideal.main_v1_3) = v7 c
          ∧ r.2.mem ((c.tc : Thread Cert.Kernel6Ideal.nD Cert.Kernel6Ideal.τ).loc Cert.Kernel6Ideal.main_v2_0) = v8 c
          ∧ r.2.mem ((c.tc : Thread Cert.Kernel6Ideal.nD Cert.Kernel6Ideal.τ).loc Cert.Kernel6Ideal.main_v2_1) = v9 c
          ∧ r.2.mem ((c.tc : Thread Cert.Kernel6Ideal.nD Cert.Kernel6Ideal.τ).loc Cert.Kernel6Ideal.main_v2_2) = v10 c
          ∧ r.2.mem ((c.tc : Thread Cert.Kernel6Ideal.nD Cert.Kernel6Ideal.τ).loc Cert.Kernel6Ideal.main_v2_3) = v11 c
          ∧ r.2.mem ((c.tc : Thread Cert.Kernel6Ideal.nD Cert.Kernel6Ideal.τ).loc Cert.Kernel6Ideal.main_v3_0) = v12 c
          ∧ r.2.mem ((c.tc : Thread Cert.Kernel6Ideal.nD Cert.Kernel6Ideal.τ).loc Cert.Kernel6Ideal.main_v3_1) = v13 c
          ∧ r.2.mem ((c.tc : Thread Cert.Kernel6Ideal.nD Cert.Kernel6Ideal.τ).loc Cert.Kernel6Ideal.main_v3_2) = v14 c
          ∧ r.2.mem ((c.tc : Thread Cert.Kernel6Ideal.nD Cert.Kernel6Ideal.τ).loc Cert.Kernel6Ideal.main_v3_3) = v15 c
          ∧ r.2.mem ((c.tc : Thread Cert.Kernel6Ideal.nD Cert.Kernel6Ideal.τ).loc Cert.Kernel6Ideal.main_v4_0) = v16 c
          ∧ r.2.mem ((c.tc : Thread Cert.Kernel6Ideal.nD Cert.Kernel6Ideal.τ).loc Cert.Kernel6Ideal.main_v4_1) = v17 c
          ∧ r.2.mem ((c.tc : Thread Cert.Kernel6Ideal.nD Cert.Kernel6Ideal.τ).loc Cert.Kernel6Ideal.main_v4_2) = v18 c
          ∧ r.2.mem ((c.tc : Thread Cert.Kernel6Ideal.nD Cert.Kernel6Ideal.τ).loc Cert.Kernel6Ideal.main_v4_3) = v19 c
          ∧ r.2.mem ((c.tc : Thread Cert.Kernel6Ideal.nD Cert.Kernel6Ideal.τ).loc Cert.Kernel6Ideal.main_v5_0) = v20 c
          ∧ r.2.mem ((c.tc : Thread Cert.Kernel6Ideal.nD Cert.Kernel6Ideal.τ).loc Cert.Kernel6Ideal.main_v5_1) = v21 c
          ∧ r.2.mem ((c.tc : Thread Cert.Kernel6Ideal.nD Cert.Kernel6Ideal.τ).loc Cert.Kernel6Ideal.main_v5_2) = v22 c
          ∧ r.2.mem ((c.tc : Thread Cert.Kernel6Ideal.nD Cert.Kernel6Ideal.τ).loc Cert.Kernel6Ideal.main_v5_3) = v23 c
          ∧ r.2.mem ((c.tc : Thread Cert.Kernel6Ideal.nD Cert.Kernel6Ideal.τ).loc Cert.Kernel6Ideal.main_v6_0) = v24 c
          ∧ r.2.mem ((c.tc : Thread Cert.Kernel6Ideal.nD Cert.Kernel6Ideal.τ).loc Cert.Kernel6Ideal.main_v6_1) = v25 c
          ∧ r.2.mem ((c.tc : Thread Cert.Kernel6Ideal.nD Cert.Kernel6Ideal.τ).loc Cert.Kernel6Ideal.main_v6_2) = v26 c
          ∧ r.2.mem ((c.tc : Thread Cert.Kernel6Ideal.nD Cert.Kernel6Ideal.τ).loc Cert.Kernel6Ideal.main_v6_3) = v27 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_v27) = v4 c
          ∧ r.2.mem ((c.tc : Thread Cert.Reference6Ideal.nD Cert.Reference6Ideal.τ).loc Cert.Reference6Ideal.main_v51) = v5 c
          ∧ r.2.mem ((c.tc : Thread Cert.Reference6Ideal.nD Cert.Reference6Ideal.τ).loc Cert.Reference6Ideal.main_v32) = v6 c
          ∧ r.2.mem ((c.tc : Thread Cert.Reference6Ideal.nD Cert.Reference6Ideal.τ).loc Cert.Reference6Ideal.main_v38) = v7 c
          ∧ r.2.mem ((c.tc : Thread Cert.Reference6Ideal.nD Cert.Reference6Ideal.τ).loc Cert.Reference6Ideal.main_v53) = v8 c
          ∧ r.2.mem ((c.tc : Thread Cert.Reference6Ideal.nD Cert.Reference6Ideal.τ).loc Cert.Reference6Ideal.main_v77) = v9 c
          ∧ r.2.mem ((c.tc : Thread Cert.Reference6Ideal.nD Cert.Reference6Ideal.τ).loc Cert.Reference6Ideal.main_v58) = v10 c
          ∧ r.2.mem ((c.tc : Thread Cert.Reference6Ideal.nD Cert.Reference6Ideal.τ).loc Cert.Reference6Ideal.main_v64) = v11 c
          ∧ r.2.mem ((c.tc : Thread Cert.Reference6Ideal.nD Cert.Reference6Ideal.τ).loc Cert.Reference6Ideal.main_v79) = v12 c
          ∧ r.2.mem ((c.tc : Thread Cert.Reference6Ideal.nD Cert.Reference6Ideal.τ).loc Cert.Reference6Ideal.main_v103) = v13 c
          ∧ r.2.mem ((c.tc : Thread Cert.Reference6Ideal.nD Cert.Reference6Ideal.τ).loc Cert.Reference6Ideal.main_v84) = v14 c
          ∧ r.2.mem ((c.tc : Thread Cert.Reference6Ideal.nD Cert.Reference6Ideal.τ).loc Cert.Reference6Ideal.main_v90) = v15 c
          ∧ r.2.mem ((c.tc : Thread Cert.Reference6Ideal.nD Cert.Reference6Ideal.τ).loc Cert.Reference6Ideal.main_v105) = v16 c
          ∧ r.2.mem ((c.tc : Thread Cert.Reference6Ideal.nD Cert.Reference6Ideal.τ).loc Cert.Reference6Ideal.main_v129) = v17 c
          ∧ r.2.mem ((c.tc : Thread Cert.Reference6Ideal.nD Cert.Reference6Ideal.τ).loc Cert.Reference6Ideal.main_v110) = v18 c
          ∧ r.2.mem ((c.tc : Thread Cert.Reference6Ideal.nD Cert.Reference6Ideal.τ).loc Cert.Reference6Ideal.main_v116) = v19 c
          ∧ r.2.mem ((c.tc : Thread Cert.Reference6Ideal.nD Cert.Reference6Ideal.τ).loc Cert.Reference6Ideal.main_v131) = v20 c
          ∧ r.2.mem ((c.tc : Thread Cert.Reference6Ideal.nD Cert.Reference6Ideal.τ).loc Cert.Reference6Ideal.main_v155) = v21 c
          ∧ r.2.mem ((c.tc : Thread Cert.Reference6Ideal.nD Cert.Reference6Ideal.τ).loc Cert.Reference6Ideal.main_v136) = v22 c
          ∧ r.2.mem ((c.tc : Thread Cert.Reference6Ideal.nD Cert.Reference6Ideal.τ).loc Cert.Reference6Ideal.main_v142) = v23 c
          ∧ r.2.mem ((c.tc : Thread Cert.Reference6Ideal.nD Cert.Reference6Ideal.τ).loc Cert.Reference6Ideal.main_v157) = v24 c
          ∧ r.2.mem ((c.tc : Thread Cert.Reference6Ideal.nD Cert.Reference6Ideal.τ).loc Cert.Reference6Ideal.main_v181) = v25 c
          ∧ r.2.mem ((c.tc : Thread Cert.Reference6Ideal.nD Cert.Reference6Ideal.τ).loc Cert.Reference6Ideal.main_v162) = v26 c
          ∧ r.2.mem ((c.tc : Thread Cert.Reference6Ideal.nD Cert.Reference6Ideal.τ).loc Cert.Reference6Ideal.main_v168) = v27 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v1_0)) (v5 : (c : Dev Cert.Kernel7Ideal.nD) → Buf (Elt Ideal) ((c.tc : Thread Cert.Kernel7Ideal.nD Cert.Kernel7Ideal.τ).loc Cert.Kernel7Ideal.main_v1_1)) (v6 : (c : Dev Cert.Kernel7Ideal.nD) → Buf (Elt Ideal) ((c.tc : Thread Cert.Kernel7Ideal.nD Cert.Kernel7Ideal.τ).loc Cert.Kernel7Ideal.main_v1_2)) (v7 : (c : Dev Cert.Kernel7Ideal.nD) → Buf (Elt Ideal) ((c.tc : Thread Cert.Kernel7Ideal.nD Cert.Kernel7Ideal.τ).loc Cert.Kernel7Ideal.main_v1_3)) (v8 : (c : Dev Cert.Kernel7Ideal.nD) → Buf (Elt Ideal) ((c.tc : Thread Cert.Kernel7Ideal.nD Cert.Kernel7Ideal.τ).loc Cert.Kernel7Ideal.main_v2_0)) (v9 : (c : Dev Cert.Kernel7Ideal.nD) → Buf (Elt Ideal) ((c.tc : Thread Cert.Kernel7Ideal.nD Cert.Kernel7Ideal.τ).loc Cert.Kernel7Ideal.main_v2_1)) (v10 : (c : Dev Cert.Kernel7Ideal.nD) → Buf (Elt Ideal) ((c.tc : Thread Cert.Kernel7Ideal.nD Cert.Kernel7Ideal.τ).loc Cert.Kernel7Ideal.main_v2_2)) (v11 : (c : Dev Cert.Kernel7Ideal.nD) → Buf (Elt Ideal) ((c.tc : Thread Cert.Kernel7Ideal.nD Cert.Kernel7Ideal.τ).loc Cert.Kernel7Ideal.main_v2_3)) (v12 : (c : Dev Cert.Kernel7Ideal.nD) → Buf (Elt Ideal) ((c.tc : Thread Cert.Kernel7Ideal.nD Cert.Kernel7Ideal.τ).loc Cert.Kernel7Ideal.main_v3_0)) (v13 : (c : Dev Cert.Kernel7Ideal.nD) → Buf (Elt Ideal) ((c.tc : Thread Cert.Kernel7Ideal.nD Cert.Kernel7Ideal.τ).loc Cert.Kernel7Ideal.main_v3_1)) (v14 : (c : Dev Cert.Kernel7Ideal.nD) → Buf (Elt Ideal) ((c.tc : Thread Cert.Kernel7Ideal.nD Cert.Kernel7Ideal.τ).loc Cert.Kernel7Ideal.main_v3_2)) (v15 : (c : Dev Cert.Kernel7Ideal.nD) → Buf (Elt Ideal) ((c.tc : Thread Cert.Kernel7Ideal.nD Cert.Kernel7Ideal.τ).loc Cert.Kernel7Ideal.main_v3_3)) (v16 : (c : Dev Cert.Kernel7Ideal.nD) → Buf (Elt Ideal) ((c.tc : Thread Cert.Kernel7Ideal.nD Cert.Kernel7Ideal.τ).loc Cert.Kernel7Ideal.main_v4_0)) (v17 : (c : Dev Cert.Kernel7Ideal.nD) → Buf (Elt Ideal) ((c.tc : Thread Cert.Kernel7Ideal.nD Cert.Kernel7Ideal.τ).loc Cert.Kernel7Ideal.main_v4_1)) (v18 : (c : Dev Cert.Kernel7Ideal.nD) → Buf (Elt Ideal) ((c.tc : Thread Cert.Kernel7Ideal.nD Cert.Kernel7Ideal.τ).loc Cert.Kernel7Ideal.main_v4_2)) (v19 : (c : Dev Cert.Kernel7Ideal.nD) → Buf (Elt Ideal) ((c.tc : Thread Cert.Kernel7Ideal.nD Cert.Kernel7Ideal.τ).loc Cert.Kernel7Ideal.main_v4_3)) (v20 : (c : Dev Cert.Kernel7Ideal.nD) → Buf (Elt Ideal) ((c.tc : Thread Cert.Kernel7Ideal.nD Cert.Kernel7Ideal.τ).loc Cert.Kernel7Ideal.main_v5_0)) (v21 : (c : Dev Cert.Kernel7Ideal.nD) → Buf (Elt Ideal) ((c.tc : Thread Cert.Kernel7Ideal.nD Cert.Kernel7Ideal.τ).loc Cert.Kernel7Ideal.main_v5_1)) (v22 : (c : Dev Cert.Kernel7Ideal.nD) → Buf (Elt Ideal) ((c.tc : Thread Cert.Kernel7Ideal.nD Cert.Kernel7Ideal.τ).loc Cert.Kernel7Ideal.main_v5_2)) (v23 : (c : Dev Cert.Kernel7Ideal.nD) → Buf (Elt Ideal) ((c.tc : Thread Cert.Kernel7Ideal.nD Cert.Kernel7Ideal.τ).loc Cert.Kernel7Ideal.main_v5_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v1_0) = v4 c
          ∧ r.2.mem ((c.tc : Thread Cert.Kernel7Ideal.nD Cert.Kernel7Ideal.τ).loc Cert.Kernel7Ideal.main_v1_1) = v5 c
          ∧ r.2.mem ((c.tc : Thread Cert.Kernel7Ideal.nD Cert.Kernel7Ideal.τ).loc Cert.Kernel7Ideal.main_v1_2) = v6 c
          ∧ r.2.mem ((c.tc : Thread Cert.Kernel7Ideal.nD Cert.Kernel7Ideal.τ).loc Cert.Kernel7Ideal.main_v1_3) = v7 c
          ∧ r.2.mem ((c.tc : Thread Cert.Kernel7Ideal.nD Cert.Kernel7Ideal.τ).loc Cert.Kernel7Ideal.main_v2_0) = v8 c
          ∧ r.2.mem ((c.tc : Thread Cert.Kernel7Ideal.nD Cert.Kernel7Ideal.τ).loc Cert.Kernel7Ideal.main_v2_1) = v9 c
          ∧ r.2.mem ((c.tc : Thread Cert.Kernel7Ideal.nD Cert.Kernel7Ideal.τ).loc Cert.Kernel7Ideal.main_v2_2) = v10 c
          ∧ r.2.mem ((c.tc : Thread Cert.Kernel7Ideal.nD Cert.Kernel7Ideal.τ).loc Cert.Kernel7Ideal.main_v2_3) = v11 c
          ∧ r.2.mem ((c.tc : Thread Cert.Kernel7Ideal.nD Cert.Kernel7Ideal.τ).loc Cert.Kernel7Ideal.main_v3_0) = v12 c
          ∧ r.2.mem ((c.tc : Thread Cert.Kernel7Ideal.nD Cert.Kernel7Ideal.τ).loc Cert.Kernel7Ideal.main_v3_1) = v13 c
          ∧ r.2.mem ((c.tc : Thread Cert.Kernel7Ideal.nD Cert.Kernel7Ideal.τ).loc Cert.Kernel7Ideal.main_v3_2) = v14 c
          ∧ r.2.mem ((c.tc : Thread Cert.Kernel7Ideal.nD Cert.Kernel7Ideal.τ).loc Cert.Kernel7Ideal.main_v3_3) = v15 c
          ∧ r.2.mem ((c.tc : Thread Cert.Kernel7Ideal.nD Cert.Kernel7Ideal.τ).loc Cert.Kernel7Ideal.main_v4_0) = v16 c
          ∧ r.2.mem ((c.tc : Thread Cert.Kernel7Ideal.nD Cert.Kernel7Ideal.τ).loc Cert.Kernel7Ideal.main_v4_1) = v17 c
          ∧ r.2.mem ((c.tc : Thread Cert.Kernel7Ideal.nD Cert.Kernel7Ideal.τ).loc Cert.Kernel7Ideal.main_v4_2) = v18 c
          ∧ r.2.mem ((c.tc : Thread Cert.Kernel7Ideal.nD Cert.Kernel7Ideal.τ).loc Cert.Kernel7Ideal.main_v4_3) = v19 c
          ∧ r.2.mem ((c.tc : Thread Cert.Kernel7Ideal.nD Cert.Kernel7Ideal.τ).loc Cert.Kernel7Ideal.main_v5_0) = v20 c
          ∧ r.2.mem ((c.tc : Thread Cert.Kernel7Ideal.nD Cert.Kernel7Ideal.τ).loc Cert.Kernel7Ideal.main_v5_1) = v21 c
          ∧ r.2.mem ((c.tc : Thread Cert.Kernel7Ideal.nD Cert.Kernel7Ideal.τ).loc Cert.Kernel7Ideal.main_v5_2) = v22 c
          ∧ r.2.mem ((c.tc : Thread Cert.Kernel7Ideal.nD Cert.Kernel7Ideal.τ).loc Cert.Kernel7Ideal.main_v5_3) = v23 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_v27) = v4 c
          ∧ r.2.mem ((c.tc : Thread Cert.Reference7Ideal.nD Cert.Reference7Ideal.τ).loc Cert.Reference7Ideal.main_v51) = v5 c
          ∧ r.2.mem ((c.tc : Thread Cert.Reference7Ideal.nD Cert.Reference7Ideal.τ).loc Cert.Reference7Ideal.main_v32) = v6 c
          ∧ r.2.mem ((c.tc : Thread Cert.Reference7Ideal.nD Cert.Reference7Ideal.τ).loc Cert.Reference7Ideal.main_v38) = v7 c
          ∧ r.2.mem ((c.tc : Thread Cert.Reference7Ideal.nD Cert.Reference7Ideal.τ).loc Cert.Reference7Ideal.main_v52) = v8 c
          ∧ r.2.mem ((c.tc : Thread Cert.Reference7Ideal.nD Cert.Reference7Ideal.τ).loc Cert.Reference7Ideal.main_v76) = v9 c
          ∧ r.2.mem ((c.tc : Thread Cert.Reference7Ideal.nD Cert.Reference7Ideal.τ).loc Cert.Reference7Ideal.main_v57) = v10 c
          ∧ r.2.mem ((c.tc : Thread Cert.Reference7Ideal.nD Cert.Reference7Ideal.τ).loc Cert.Reference7Ideal.main_v63) = v11 c
          ∧ r.2.mem ((c.tc : Thread Cert.Reference7Ideal.nD Cert.Reference7Ideal.τ).loc Cert.Reference7Ideal.main_v77) = v12 c
          ∧ r.2.mem ((c.tc : Thread Cert.Reference7Ideal.nD Cert.Reference7Ideal.τ).loc Cert.Reference7Ideal.main_v101) = v13 c
          ∧ r.2.mem ((c.tc : Thread Cert.Reference7Ideal.nD Cert.Reference7Ideal.τ).loc Cert.Reference7Ideal.main_v82) = v14 c
          ∧ r.2.mem ((c.tc : Thread Cert.Reference7Ideal.nD Cert.Reference7Ideal.τ).loc Cert.Reference7Ideal.main_v88) = v15 c
          ∧ r.2.mem ((c.tc : Thread Cert.Reference7Ideal.nD Cert.Reference7Ideal.τ).loc Cert.Reference7Ideal.main_v102) = v16 c
          ∧ r.2.mem ((c.tc : Thread Cert.Reference7Ideal.nD Cert.Reference7Ideal.τ).loc Cert.Reference7Ideal.main_v126) = v17 c
          ∧ r.2.mem ((c.tc : Thread Cert.Reference7Ideal.nD Cert.Reference7Ideal.τ).loc Cert.Reference7Ideal.main_v107) = v18 c
          ∧ r.2.mem ((c.tc : Thread Cert.Reference7Ideal.nD Cert.Reference7Ideal.τ).loc Cert.Reference7Ideal.main_v113) = v19 c
          ∧ r.2.mem ((c.tc : Thread Cert.Reference7Ideal.nD Cert.Reference7Ideal.τ).loc Cert.Reference7Ideal.main_v127) = v20 c
          ∧ r.2.mem ((c.tc : Thread Cert.Reference7Ideal.nD Cert.Reference7Ideal.τ).loc Cert.Reference7Ideal.main_v151) = v21 c
          ∧ r.2.mem ((c.tc : Thread Cert.Reference7Ideal.nD Cert.Reference7Ideal.τ).loc Cert.Reference7Ideal.main_v132) = v22 c
          ∧ r.2.mem ((c.tc : Thread Cert.Reference7Ideal.nD Cert.Reference7Ideal.τ).loc Cert.Reference7Ideal.main_v138) = v23 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_ffn_finite : Cert.Pre_ffn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_ffn_finite.lean ====
abbrev S8448x1024 : Shape := ⟨2, ![8448, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S25345x1024 : Shape := ⟨2, ![25345, 1024]⟩
abbrev S_ : Shape := ⟨0, ![]⟩

class Facts : Prop where
  bcast_S1024_S1x1024_1 : S1024.BroadcastsInDim S1x1024 (![1] : Fin 1 → Fin S1x1024.rank)
  transposes_S1024x2816_S2816x1024_1_0 : S1024x2816.Transposes [1, 0] S2816x1024
  concatenates_S8448x1024_S1x1024_S2816x1024_S2816x1024_S2816x1024_S8448x1024_S25345x1024_d0 : Shape.Concatenates [S8448x1024, S1x1024, S2816x1024, S2816x1024, S2816x1024, S8448x1024] S25345x1024 0
  bcast_S_S25345x1024 : S_.BroadcastsInDim S25345x1024 (![] : Fin 0 → Fin S25345x1024.rank)

variable [Facts]

def fn {F : FTy → Type} [FloatOps F] (main_arg0 : FVec F S8448x1024 .f32) (main_arg1 : FVec F S1024 .f32) (main_arg2 : FVec F S1024x2816 .f32) (main_arg3 : FVec F S1024x2816 .f32) (main_arg4 : FVec F S2816x1024 .f32) (main_arg5 : FVec F S8448x1024 .f32) : IVec S25345x1024 1 :=
  let main_v0 : FVec F S1x1024 .f32 := broadcastInDim S1x1024 ![1] bcast_S1024_S1x1024_1 main_arg1
  let main_v1 : FVec F S2816x1024 .f32 := (transpose S2816x1024 [1, 0] · transposes_S1024x2816_S2816x1024_1_0) main_arg2
  let main_v2 : FVec F S2816x1024 .f32 := (transpose S2816x1024 [1, 0] · transposes_S1024x2816_S2816x1024_1_0) main_arg3
  let main_v3 : FVec F S25345x1024 .f32 := concatenate S25345x1024 0 [⟨S8448x1024, main_arg0⟩, ⟨S1x1024, main_v0⟩, ⟨S2816x1024, main_v1⟩, ⟨S2816x1024, main_v2⟩, ⟨S2816x1024, main_arg4⟩, ⟨S8448x1024, main_arg5⟩] concatenates_S8448x1024_S1x1024_S2816x1024_S2816x1024_S2816x1024_S8448x1024_S25345x1024_d0
  let main_v4 : FVec F S25345x1024 .f32 := Host.absf main_v3
  let main_cst : FVec F S_ .f32 := constant S_ .f32 0x7F800000#32
  let main_v5 : FVec F S25345x1024 .f32 := broadcastInDim S25345x1024 ![] bcast_S_S25345x1024 main_cst
  let main_v6 : IVec S25345x1024 1 := cmpf .olt main_v4 main_v5
  main_v6
-- ==== Pre_finite.lean ====
abbrev S8208x3072 : Shape := ⟨2, ![8208, 3072]⟩
abbrev S8208x1024 : Shape := ⟨2, ![8208, 1024]⟩
abbrev S8208x4096 : Shape := ⟨2, ![8208, 4096]⟩
abbrev S_ : Shape := ⟨0, ![]⟩

class Facts : Prop where
  concatenates_S8208x3072_S8208x1024_S8208x4096_d1 : Shape.Concatenates [S8208x3072, S8208x1024] S8208x4096 1
  bcast_S_S8208x4096 : S_.BroadcastsInDim S8208x4096 (![] : Fin 0 → Fin S8208x4096.rank)

variable [Facts]

def fn {F : FTy → Type} [FloatOps F] (main_arg0 : FVec F S8208x3072 .f32) (main_arg1 : FVec F S8208x1024 .f32) : IVec S8208x4096 1 :=
  let main_v0 : FVec F S8208x4096 .f32 := (fun a b => concatenate S8208x4096 1 [⟨S8208x3072, a⟩, ⟨S8208x1024, b⟩] concatenates_S8208x3072_S8208x1024_S8208x4096_d1) main_arg0 main_arg1
  let main_v1 : FVec F S8208x4096 .f32 := Host.absf main_v0
  let main_cst : FVec F S_ .f32 := constant S_ .f32 0x7F800000#32
  let main_v2 : FVec F S8208x4096 .f32 := broadcastInDim S8208x4096 ![] bcast_S_S8208x4096 main_cst
  let main_v3 : IVec S8208x4096 1 := cmpf .olt main_v1 main_v2
  main_v3
-- ==== Kernel.lean ====
abbrev S8208x3072 : Shape := ⟨2, ![8208, 3072]⟩
abbrev S8208x1024 : Shape := ⟨2, ![8208, 1024]⟩
abbrev S8208x16x64 : Shape := ⟨3, ![8208, 16, 64]⟩
abbrev S8208 : Shape := ⟨1, ![8208]⟩
abbrev S16x8208x8208 : Shape := ⟨3, ![16, 8208, 8208]⟩
abbrev S_ : Shape := ⟨0, ![]⟩
abbrev S1x8208 : Shape := ⟨2, ![1, 8208]⟩
abbrev S8208x1 : Shape := ⟨2, ![8208, 1]⟩
abbrev S8208x8208 : Shape := ⟨2, ![8208, 8208]⟩
abbrev S16x8208 : Shape := ⟨2, ![16, 8208]⟩
abbrev S16x8448 : Shape := ⟨2, ![16, 8448]⟩
abbrev S8x33x256 : Shape := ⟨3, ![8, 33, 256]⟩
abbrev S8x2x8448 : Shape := ⟨3, ![8, 2, 8448]⟩
abbrev S8x1x8448 : Shape := ⟨3, ![8, 1, 8448]⟩
abbrev S8x3x8448 : Shape := ⟨3, ![8, 3, 8448]⟩
abbrev S8x8448x3 : Shape := ⟨3, ![8, 8448, 3]⟩
abbrev S8448x3072 : Shape := ⟨2, ![8448, 3072]⟩
abbrev S8448x1024 : Shape := ⟨2, ![8448, 1024]⟩
abbrev S256x128 : Shape := ⟨2, ![256, 128]⟩
abbrev S8448x128 : Shape := ⟨2, ![8448, 128]⟩
abbrev S1x256x3 : Shape := ⟨3, ![1, 256, 3]⟩
abbrev S2x256x1 : Shape := ⟨3, ![2, 256, 1]⟩
abbrev S1x128 : Shape := ⟨2, ![1, 128]⟩
abbrev S256x256 : Shape := ⟨2, ![256, 256]⟩
abbrev S1x256x1 : Shape := ⟨3, ![1, 256, 1]⟩
abbrev S256x1 : Shape := ⟨2, ![256, 1]⟩
abbrev S1 : Shape := ⟨1, ![1]⟩
abbrev S1x1x1 : Shape := ⟨3, ![1, 1, 1]⟩
abbrev S256 : Shape := ⟨1, ![256]⟩

abbrev nBuf : Space → Nat
  | .hbm => 63
  | .vmem => 19
  | .smem => 0
  | _ => 0

abbrev bufTy : (tb : Table) → Fin (tcTables nBuf tb) → BufTy
  | .hbm, ⟨0, _⟩ => ⟨S8208x3072, .f32⟩
  | .hbm, ⟨1, _⟩ => ⟨S8208x1024, .f32⟩
  | .hbm, ⟨2, _⟩ => ⟨S8208x1024, .f32⟩
  | .hbm, ⟨3, _⟩ => ⟨S8208x1024, .f32⟩
  | .hbm, ⟨4, _⟩ => ⟨S8208x1024, .f32⟩
  | .hbm, ⟨5, _⟩ => ⟨S8208x16x64, .f32⟩
  | .hbm, ⟨6, _⟩ => ⟨S8208x16x64, .f32⟩
  | .hbm, ⟨7, _⟩ => ⟨S8208, .i32⟩
  | .hbm, ⟨8, _⟩ => ⟨S16x8208x8208, .f32⟩
  | .hbm, ⟨9, _⟩ => ⟨S_, .f32⟩
  | .hbm, ⟨10, _⟩ => ⟨S16x8208x8208, .f32⟩
  | .hbm, ⟨11, _⟩ => ⟨S16x8208x8208, .f32⟩
  | .hbm, ⟨12, _⟩ => ⟨S1x8208, .i32⟩
  | .hbm, ⟨13, _⟩ => ⟨S8208x1, .i32⟩
  | .hbm, ⟨14, _⟩ => ⟨S8208x8208, .i32⟩
  | .hbm, ⟨15, _⟩ => ⟨S8208x8208, .i32⟩
  | .hbm, ⟨16, _⟩ => ⟨S8208x8208, .i1⟩
  | .hbm, ⟨17, _⟩ => ⟨S16x8208x8208, .f32⟩
  | .hbm, ⟨18, _⟩ => ⟨S16x8208x8208, .f32⟩
  | .hbm, ⟨19, _⟩ => ⟨S_, .f32⟩
  | .hbm, ⟨20, _⟩ => ⟨S16x8208x8208, .f32⟩
  | .hbm, ⟨21, _⟩ => ⟨S16x8208x8208, .f32⟩
  | .hbm, ⟨22, _⟩ => ⟨S16x8208x8208, .f32⟩
  | .hbm, ⟨23, _⟩ => ⟨S16x8208x8208, .f32⟩
  | .hbm, ⟨24, _⟩ => ⟨S16x8208x8208, .i1⟩
  | .hbm, ⟨25, _⟩ => ⟨S16x8208x8208, .f32⟩
  | .hbm, ⟨26, _⟩ => ⟨S16x8208x8208, .f32⟩
  | .hbm, ⟨27, _⟩ => ⟨S16x8208x8208, .f32⟩
  | .hbm, ⟨28, _⟩ => ⟨S16x8208x8208, .f32⟩
  | .hbm, ⟨29, _⟩ => ⟨S16x8208x8208, .f32⟩
  | .hbm, ⟨30, _⟩ => ⟨S16x8208x8208, .f32⟩
  | .hbm, ⟨31, _⟩ => ⟨S16x8208x8208, .f32⟩
  | .hbm, ⟨32, _⟩ => ⟨S16x8208x8208, .f32⟩
  | .hbm, ⟨33, _⟩ => ⟨S16x8208x8208, .f32⟩
  | .hbm, ⟨34, _⟩ => ⟨S_, .f32⟩
  | .hbm, ⟨35, _⟩ => ⟨S_, .f32⟩
  | .hbm, ⟨36, _⟩ => ⟨S16x8208x8208, .i1⟩
  | .hbm, ⟨37, _⟩ => ⟨S16x8208x8208, .f32⟩
  | .hbm, ⟨38, _⟩ => ⟨S16x8208x8208, .f32⟩
  | .hbm, ⟨39, _⟩ => ⟨S_, .f32⟩
  | .hbm, ⟨40, _⟩ => ⟨S16x8208, .f32⟩
  | .hbm, ⟨41, _⟩ => ⟨S_, .i32⟩
  | .hbm, ⟨42, _⟩ => ⟨S_, .f32⟩
  | .hbm, ⟨43, _⟩ => ⟨S16x8448, .f32⟩
  | .hbm, ⟨44, _⟩ => ⟨S8x33x256, .f32⟩
  | .hbm, ⟨45, _⟩ => ⟨S_, .f32⟩
  | .hbm, ⟨46, _⟩ => ⟨S8x33x256, .f32⟩
  | .hbm, ⟨47, _⟩ => ⟨S8x33x256, .f32⟩
  | .hbm, ⟨48, _⟩ => ⟨S8x2x8448, .f32⟩
  | .hbm, ⟨49, _⟩ => ⟨S8x1x8448, .f32⟩
  | .hbm, ⟨50, _⟩ => ⟨S8x3x8448, .f32⟩
  | .hbm, ⟨51, _⟩ => ⟨S8x8448x3, .f32⟩
  | .hbm, ⟨52, _⟩ => ⟨S_, .i32⟩
  | .hbm, ⟨53, _⟩ => ⟨S_, .f32⟩
  | .hbm, ⟨54, _⟩ => ⟨S8448x3072, .f32⟩
  | .hbm, ⟨55, _⟩ => ⟨S8448x3072, .bf16⟩
  | .hbm, ⟨56, _⟩ => ⟨S_, .i32⟩
  | .hbm, ⟨57, _⟩ => ⟨S_, .f32⟩
  | .hbm, ⟨58, _⟩ => ⟨S8448x1024, .f32⟩
  | .hbm, ⟨59, _⟩ => ⟨S8448x1024, .bf16⟩
  | .hbm, ⟨60, _⟩ => ⟨S8448x1024, .bf16⟩
  | .hbm, ⟨61, _⟩ => ⟨S8448x1024, .f32⟩
  | .hbm, ⟨62, _⟩ => ⟨S8448x1024, .f32⟩
  | .local _ .vmem, ⟨0, _⟩ => ⟨S256x128, .bf16⟩
  | .local _ .vmem, ⟨1, _⟩ => ⟨S256x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x128, .bf16⟩
  | .local _ .vmem, ⟨7, _⟩ => ⟨S256x128, .bf16⟩
  | .local _ .vmem, ⟨8, _⟩ => ⟨S1x256x3, .f32⟩
  | .local _ .vmem, ⟨9, _⟩ => ⟨S1x256x3, .f32⟩
  | .local _ .vmem, ⟨10, _⟩ => ⟨S256x128, .bf16⟩
  | .local _ .vmem, ⟨11, _⟩ => ⟨S256x128, .bf16⟩
  | .local _ .vmem, ⟨12, _⟩ => ⟨S8448x128, .f32⟩
  | .local _ .vmem, ⟨13, _⟩ => ⟨S8448x128, .f32⟩
  | .local _ .vmem, ⟨14, _⟩ => ⟨S8448x128, .f32⟩
  | .local _ .vmem, ⟨15, _⟩ => ⟨S8448x128, .f32⟩
  | .local _ .vmem, ⟨16, _⟩ => ⟨S2x256x1, .f32⟩
  | .local _ .vmem, ⟨17, _⟩ => ⟨S2x256x1, .f32⟩
  | .local _ .vmem, ⟨18, _⟩ => ⟨S256x128, .f32⟩
  | _, _ => ⟨S8208x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_c : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_call3_v0 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_call4_v0 : Ref sig .tc := ⟨.hbm, 57, rfl⟩
abbrev main_v28 : Ref sig .tc := ⟨.hbm, 58, rfl⟩
abbrev main_v29 : Ref sig .tc := ⟨.hbm, 59, rfl⟩
abbrev main_v30_0 : Ref sig .tc := ⟨.hbm, 60, rfl⟩
abbrev main_v30_1 : Ref sig .tc := ⟨.hbm, 61, rfl⟩
abbrev main_v30_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 33], ![false, false]⟩

def k0_mult1 : BitVec 32 :=
  let c0_i32_126 : BitVec 32 := 0#32
  c0_i32_126
@[reducible] def k0_t1_loop (i : grid0.Coords) (v60 : BitVec 32) : Scf.Loop 32 :=
  let arg1 : BitVec 32 := BitVec.ofNat 32 (i 1).val
  let c1_i32 : BitVec 32 := 1#32
  let v53 : BitVec 32 := Scalar.addi arg1 c1_i32
  let v61 : BitVec 32 := Scalar.subi v53 v60
  let c1_i32_22 : BitVec 32 := 1#32
  let v67 : BitVec 32 := Scalar.maxsi v61 c1_i32_22
  let v68 : BitVec 32 := Scalar.subi arg1 v67
  let c1_i32_24 : BitVec 32 := 1#32
  let v70 : BitVec 32 := Scalar.divsi v68 c1_i32_24
  let v71 : BitVec 32 := Scalar.muli v70 c1_i32_24
  let v72 : BitVec 32 := Scalar.addi v67 v71
  let c1_i32_25 : BitVec 32 := 1#32
  ⟨v67, v72, c1_i32_25⟩

def k0_mult2 (i : grid0.Coords) (v60 : BitVec 32) (k0_t1 : Fin (k0_t1_loop i v60).trips) : BitVec 32 :=
  let arg1 : BitVec 32 := BitVec.ofNat 32 (i 1).val
  let c1_i32 : BitVec 32 := 1#32
  let v53 : BitVec 32 := Scalar.addi arg1 c1_i32
  let v61 : BitVec 32 := Scalar.subi v53 v60
  let c1_i32_22 : BitVec 32 := 1#32
  let v67 : BitVec 32 := Scalar.maxsi v61 c1_i32_22
  let c1_i32_25 : BitVec 32 := 1#32
  let arg13 : BitVec 32 := Scf.iv v67 c1_i32_25 k0_t1
  let c256_i32_126 : BitVec 32 := 256#32
  let v279 : BitVec 32 := Scalar.muli arg13 c256_i32_126
  v279
def k0_off1 (i : grid0.Coords) (v60 : BitVec 32) (k0_t1 : Fin (k0_t1_loop i v60).trips) : Fin 2 → Nat :=
  let arg1 : BitVec 32 := BitVec.ofNat 32 (i 1).val
  let c1_i32 : BitVec 32 := 1#32
  let v53 : BitVec 32 := Scalar.addi arg1 c1_i32
  let v61 : BitVec 32 := Scalar.subi v53 v60
  let c1_i32_22 : BitVec 32 := 1#32
  let v67 : BitVec 32 := Scalar.maxsi v61 c1_i32_22
  let c1_i32_25 : BitVec 32 := 1#32
  let arg13 : BitVec 32 := Scf.iv v67 c1_i32_25 k0_t1
  let c256_i32_126 : BitVec 32 := 256#32
  let v279 : BitVec 32 := Scalar.muli arg13 c256_i32_126
  let v280 : BitVec 32 := v279
  let v281 : Index := Scalar.indexCast v280
  let c0_127 : Index := 0#32
  ![v281.toNat, 0]
@[reducible] def k0_t2_loop (i : grid0.Coords) (v60 : BitVec 32) : Scf.Loop 32 :=
  let arg1 : BitVec 32 := BitVec.ofNat 32 (i 1).val
  let c1_i32 : BitVec 32 := 1#32
  let v53 : BitVec 32 := Scalar.addi arg1 c1_i32
  let v61 : BitVec 32 := Scalar.subi v53 v60
  let c1_i32_22 : BitVec 32 := 1#32
  let v67 : BitVec 32 := Scalar.maxsi v61 c1_i32_22
  let v68 : BitVec 32 := Scalar.subi arg1 v67
  let c1_i32_24 : BitVec 32 := 1#32
  let v70 : BitVec 32 := Scalar.divsi v68 c1_i32_24
  let v71 : BitVec 32 := Scalar.muli v70 c1_i32_24
  let v72 : BitVec 32 := Scalar.addi v67 v71
  let v69 : BitVec 32 := Scalar.addi v67 v68
  let c1_i32_26 : BitVec 32 := 1#32
  ⟨v72, v69, c1_i32_26⟩
def k0_mult3 (i : grid0.Coords) (v60 : BitVec 32) (k0_t2 : Fin (k0_t2_loop i v60).trips) : BitVec 32 :=
  let arg1 : BitVec 32 := BitVec.ofNat 32 (i 1).val
  let c1_i32 : BitVec 32 := 1#32
  let v53 : BitVec 32 := Scalar.addi arg1 c1_i32
  let v61 : BitVec 32 := Scalar.subi v53 v60
  let c1_i32_22 : BitVec 32 := 1#32
  let v67 : BitVec 32 := Scalar.maxsi v61 c1_i32_22
  let v68 : BitVec 32 := Scalar.subi arg1 v67
  let c1_i32_24 : BitVec 32 := 1#32
  let v70 : BitVec 32 := Scalar.divsi v68 c1_i32_24
  let v71 : BitVec 32 := Scalar.muli v70 c1_i32_24
  let v72 : BitVec 32 := Scalar.addi v67 v71
  let c1_i32_26 : BitVec 32 := 1#32
  let arg13 : BitVec 32 := Scf.iv v72 c1_i32_26 k0_t2
  let c256_i32_126 : BitVec 32 := 256#32
  let v279 : BitVec 32 := Scalar.muli arg13 c256_i32_126
  v279
def k0_off2 (i : grid0.Coords) (v60 : BitVec 32) (k0_t2 : Fin (k0_t2_loop i v60).trips) : Fin 2 → Nat :=
  let arg1 : BitVec 32 := BitVec.ofNat 32 (i 1).val
  let c1_i32 : BitVec 32 := 1#32
  let v53 : BitVec 32 := Scalar.addi arg1 c1_i32
  let v61 : BitVec 32 := Scalar.subi v53 v60
  let c1_i32_22 : BitVec 32 := 1#32
  let v67 : BitVec 32 := Scalar.maxsi v61 c1_i32_22
  let v68 : BitVec 32 := Scalar.subi arg1 v67
  let c1_i32_24 : BitVec 32 := 1#32
  let v70 : BitVec 32 := Scalar.divsi v68 c1_i32_24
  let v71 : BitVec 32 := Scalar.muli v70 c1_i32_24
  let v72 : BitVec 32 := Scalar.addi v67 v71
  let c1_i32_26 : BitVec 32 := 1#32
  let arg13 : BitVec 32 := Scf.iv v72 c1_i32_26 k0_t2
  let c256_i32_126 : BitVec 32 := 256#32
  let v279 : BitVec 32 := Scalar.muli arg13 c256_i32_126
  let v280 : BitVec 32 := v279
  let v281 : Index := Scalar.indexCast v280
  let c0_127 : Index := 0#32
  ![v281.toNat, 0]

def k0_chk1 (i : grid0.Coords) (v60 : BitVec 32) : Prop :=
  ((k0_t1_loop i v60).OK) ∧
  (∀ k0_t1 : Fin (k0_t1_loop i v60).trips, 256 ∣ (k0_mult2 i v60 k0_t1).toNat) ∧
  (∀ k0_t1 : Fin (k0_t1_loop i v60).trips, ∀ a, (k0_off1 i v60 k0_t1) a + S256x128.size a ≤ S8448x128.size a) ∧
  ((k0_t2_loop i v60).OK) ∧
  (∀ k0_t2 : Fin (k0_t2_loop i v60).trips, 256 ∣ (k0_mult3 i v60 k0_t2).toNat) ∧
  (∀ k0_t2 : Fin (k0_t2_loop i v60).trips, ∀ a, (k0_off2 i v60 k0_t2) a + S256x128.size a ≤ S8448x128.size a)
theorem k0_t1_ok : ∀ (i : grid0.Coords) (v60 : BitVec 32) (k0_hw1 : k0_chk1 i v60), (k0_t1_loop i v60).OK := fun i v60 k0_hw1 => k0_hw1.1
theorem k0_mult2_dvd : ∀ (i : grid0.Coords) (v60 : BitVec 32) (k0_hw1 : k0_chk1 i v60) (k0_t1 : Fin (k0_t1_loop i v60).trips), 256 ∣ (k0_mult2 i v60 k0_t1).toNat := fun i v60 k0_hw1 k0_t1 => k0_hw1.2.1 k0_t1
theorem k0_off1_inb : ∀ (i : grid0.Coords) (v60 : BitVec 32) (k0_hw1 : k0_chk1 i v60) (k0_t1 : Fin (k0_t1_loop i v60).trips), ∀ a, (k0_off1 i v60 k0_t1) a + S256x128.size a ≤ S8448x128.size a := fun i v60 k0_hw1 k0_t1 => k0_hw1.2.2.1 k0_t1
theorem k0_t2_ok : ∀ (i : grid0.Coords) (v60 : BitVec 32) (k0_hw1 : k0_chk1 i v60), (k0_t2_loop i v60).OK := fun i v60 k0_hw1 => k0_hw1.2.2.2.1
theorem k0_mult3_dvd : ∀ (i : grid0.Coords) (v60 : BitVec 32) (k0_hw1 : k0_chk1 i v60) (k0_t2 : Fin (k0_t2_loop i v60).trips), 256 ∣ (k0_mult3 i v60 k0_t2).toNat := fun i v60 k0_hw1 k0_t2 => k0_hw1.2.2.2.2.1 k0_t2
theorem k0_off2_inb : ∀ (i : grid0.Coords) (v60 : BitVec 32) (k0_hw1 : k0_chk1 i v60) (k0_t2 : Fin (k0_t2_loop i v60).trips), ∀ a, (k0_off2 i v60 k0_t2) a + S256x128.size a ≤ S8448x128.size a := fun i v60 k0_hw1 k0_t2 => k0_hw1.2.2.2.2.2 k0_t2

def k0_mult4 (i : grid0.Coords) : BitVec 32 :=
  let arg1 : BitVec 32 := BitVec.ofNat 32 (i 1).val
  let c256_i32_27 : BitVec 32 := 256#32
  let v73 : BitVec 32 := Scalar.muli arg1 c256_i32_27
  v73
def k0_off3 (i : grid0.Coords) : Fin 2 → Nat :=
  let arg1 : BitVec 32 := BitVec.ofNat 32 (i 1).val
  let c256_i32_27 : BitVec 32 := 256#32
  let v73 : BitVec 32 := Scalar.muli arg1 c256_i32_27
  let v74 : BitVec 32 := v73
  let v75 : Index := Scalar.indexCast v74
  let c0_28 : Index := 0#32
  ![v75.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8448x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8448x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8208x3072 : Shape := ⟨2, ![8208, 3072]⟩
abbrev S8208x1024 : Shape := ⟨2, ![8208, 1024]⟩
abbrev S8208x16x64 : Shape := ⟨3, ![8208, 16, 64]⟩
abbrev S8208 : Shape := ⟨1, ![8208]⟩
abbrev S16x8208x8208 : Shape := ⟨3, ![16, 8208, 8208]⟩
abbrev S_ : Shape := ⟨0, ![]⟩
abbrev S1x8208 : Shape := ⟨2, ![1, 8208]⟩
abbrev S8208x1 : Shape := ⟨2, ![8208, 1]⟩
abbrev S8208x8208 : Shape := ⟨2, ![8208, 8208]⟩
abbrev S16x64x8208 : Shape := ⟨3, ![16, 64, 8208]⟩
abbrev S16x8208x64 : Shape := ⟨3, ![16, 8208, 64]⟩
abbrev S8448x1024 : Shape := ⟨2, ![8448, 1024]⟩

abbrev nBuf : Space → Nat
  | .hbm => 183
  | .vmem => 0
  | .smem => 0
  | _ => 0

abbrev hbmTy0_0 (i : Nat) : BufTy := match i % 128 with
  | 0 => ⟨S8208x3072, .f32⟩
  | 1 => ⟨S8208x1024, .f32⟩
  | 2 => ⟨S8208x1024, .f32⟩
  | 3 => ⟨S8208x1024, .f32⟩
  | 4 => ⟨S8208x1024, .f32⟩
  | 5 => ⟨S8208x16x64, .f32⟩
  | 6 => ⟨S8208x16x64, .f32⟩
  | 7 => ⟨S8208x16x64, .f32⟩
  | 8 => ⟨S8208, .i32⟩
  | 9 => ⟨S16x8208x8208, .f32⟩
  | 10 => ⟨S_, .f32⟩
  | 11 => ⟨S16x8208x8208, .f32⟩
  | 12 => ⟨S16x8208x8208, .f32⟩
  | 13 => ⟨S1x8208, .i32⟩
  | 14 => ⟨S8208x1, .i32⟩
  | 15 => ⟨S8208x8208, .i32⟩
  | 16 => ⟨S8208x8208, .i32⟩
  | 17 => ⟨S8208x8208, .i1⟩
  | 18 => ⟨S16x8208x8208, .f32⟩
  | 19 => ⟨S16x8208x8208, .f32⟩
  | 20 => ⟨S_, .f32⟩
  | 21 => ⟨S16x8208x8208, .f32⟩
  | 22 => ⟨S16x8208x8208, .f32⟩
  | 23 => ⟨S16x8208x8208, .f32⟩
  | 24 => ⟨S16x8208x8208, .f32⟩
  | 25 => ⟨S16x8208x8208, .i1⟩
  | 26 => ⟨S16x8208x8208, .f32⟩
  | 27 => ⟨S16x8208x8208, .f32⟩
  | 28 => ⟨S16x8208x8208, .f32⟩
  | 29 => ⟨S16x8208x8208, .f32⟩
  | 30 => ⟨S16x8208x8208, .f32⟩
  | 31 => ⟨S16x8208x8208, .f32⟩
  | 32 => ⟨S16x8208x8208, .f32⟩
  | 33 => ⟨S16x8208x8208, .f32⟩
  | 34 => ⟨S_, .f32⟩
  | 35 => ⟨S16x8208x8208, .f32⟩
  | 36 => ⟨S16x8208x8208, .i1⟩
  | 37 => ⟨S_, .f32⟩
  | 38 => ⟨S16x8208x8208, .f32⟩
  | 39 => ⟨S16x8208x8208, .f32⟩
  | 40 => ⟨S_, .f32⟩
  | 41 => ⟨S16x8208x8208, .f32⟩
  | 42 => ⟨S16x8208x8208, .i1⟩
  | 43 => ⟨S_, .f32⟩
  | 44 => ⟨S16x8208x8208, .f32⟩
  | 45 => ⟨S16x8208x8208, .f32⟩
  | 46 => ⟨S16x8208x8208, .f32⟩
  | 47 => ⟨S16x8208x8208, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S16x8208x8208, .f32⟩
  | 56 => ⟨S16x8208x8208, .i1⟩
  | 57 => ⟨S_, .f32⟩
  | 58 => ⟨S16x8208x8208, .f32⟩
  | 59 => ⟨S16x8208x8208, .f32⟩
  | 60 => ⟨S16x8208x8208, .f32⟩
  | 61 => ⟨S16x8208x8208, .f32⟩
  | 62 => ⟨S16x8208x8208, .f32⟩
  | 63 => ⟨S_, .f32⟩
  | 64 => ⟨S16x8208x8208, .f32⟩
  | 65 => ⟨S16x8208x8208, .f32⟩
  | 66 => ⟨S16x8208x8208, .f32⟩
  | 67 => ⟨S_, .f32⟩
  | 68 => ⟨S_, .f32⟩
  | 69 => ⟨S16x8208x8208, .i1⟩
  | 70 => ⟨S16x8208x8208, .f32⟩
  | 71 => ⟨S16x8208x8208, .f32⟩
  | 72 => ⟨S_, .f32⟩
  | 73 => ⟨S16x8208x8208, .f32⟩
  | 74 => ⟨S_, .f32⟩
  | 75 => ⟨S_, .f32⟩
  | 76 => ⟨S16x8208x8208, .f32⟩
  | 77 => ⟨S16x8208x8208, .f32⟩
  | 78 => ⟨S16x8208x8208, .f32⟩
  | 79 => ⟨S_, .f32⟩
  | 80 => ⟨S16x8208x8208, .f32⟩
  | 81 => ⟨S16x8208x8208, .f32⟩
  | 82 => ⟨S16x8208x8208, .f32⟩
  | 83 => ⟨S16x8208x8208, .f32⟩
  | 84 => ⟨S16x8208x8208, .i1⟩
  | 85 => ⟨S16x8208x8208, .f32⟩
  | 86 => ⟨S16x8208x8208, .f32⟩
  | 87 => ⟨S16x8208x8208, .f32⟩
  | 88 => ⟨S16x8208x8208, .f32⟩
  | 89 => ⟨S16x8208x8208, .f32⟩
  | 90 => ⟨S16x8208x8208, .f32⟩
  | 91 => ⟨S16x8208x8208, .f32⟩
  | 92 => ⟨S16x8208x8208, .f32⟩
  | 93 => ⟨S_, .f32⟩
  | 94 => ⟨S16x8208x8208, .f32⟩
  | 95 => ⟨S16x8208x8208, .i1⟩
  | 96 => ⟨S_, .f32⟩
  | 97 => ⟨S16x8208x8208, .f32⟩
  | 98 => ⟨S16x8208x8208, .f32⟩
  | 99 => ⟨S_, .f32⟩
  | 100 => ⟨S16x8208x8208, .f32⟩
  | 101 => ⟨S16x8208x8208, .i1⟩
  | 102 => ⟨S_, .f32⟩
  | 103 => ⟨S16x8208x8208, .f32⟩
  | 104 => ⟨S16x8208x8208, .f32⟩
  | 105 => ⟨S16x8208x8208, .f32⟩
  | 106 => ⟨S16x8208x8208, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S16x8208x8208, .f32⟩
  | 115 => ⟨S16x8208x8208, .i1⟩
  | 116 => ⟨S_, .f32⟩
  | 117 => ⟨S16x8208x8208, .f32⟩
  | 118 => ⟨S16x8208x8208, .f32⟩
  | 119 => ⟨S16x8208x8208, .f32⟩
  | 120 => ⟨S16x8208x8208, .f32⟩
  | 121 => ⟨S16x8208x8208, .f32⟩
  | 122 => ⟨S_, .f32⟩
  | 123 => ⟨S16x8208x8208, .f32⟩
  | 124 => ⟨S16x8208x8208, .f32⟩
  | 125 => ⟨S16x8208x8208, .f32⟩
  | 126 => ⟨S16x8208x8208, .f32⟩
  | 127 => ⟨S16x8208x8208, .f32⟩
  | _ => ⟨S8208x3072, .f32⟩

abbrev hbmTy0_1 (i : Nat) : BufTy := match i % 128 with
  | 0 => ⟨S_, .f32⟩
  | 1 => ⟨S_, .f32⟩
  | 2 => ⟨S16x8208x8208, .i1⟩
  | 3 => ⟨S16x8208x8208, .f32⟩
  | 4 => ⟨S16x8208x8208, .f32⟩
  | 5 => ⟨S_, .f32⟩
  | 6 => ⟨S16x8208x8208, .f32⟩
  | 7 => ⟨S16x64x8208, .f32⟩
  | 8 => ⟨S8208x16x64, .f32⟩
  | 9 => ⟨S8208x1024, .f32⟩
  | 10 => ⟨S8208x16x64, .f32⟩
  | 11 => ⟨S16x64x8208, .f32⟩
  | 12 => ⟨S16x8208x8208, .f32⟩
  | 13 => ⟨S16x64x8208, .f32⟩
  | 14 => ⟨S8208x16x64, .f32⟩
  | 15 => ⟨S_, .f32⟩
  | 16 => ⟨S16x8208x8208, .f32⟩
  | 17 => ⟨S16x8208x8208, .f32⟩
  | 18 => ⟨S16x8208x8208, .f32⟩
  | 19 => ⟨S16x8208x8208, .f32⟩
  | 20 => ⟨S16x8208x8208, .f32⟩
  | 21 => ⟨S16x8208x8208, .f32⟩
  | 22 => ⟨S16x8208x8208, .f32⟩
  | 23 => ⟨S_, .f32⟩
  | 24 => ⟨S_, .f32⟩
  | 25 => ⟨S16x8208x8208, .f32⟩
  | 26 => ⟨S16x8208x8208, .f32⟩
  | 27 => ⟨S_, .f32⟩
  | 28 => ⟨S16x8208x8208, .f32⟩
  | 29 => ⟨S16x8208x8208, .f32⟩
  | 30 => ⟨S16x8208x8208, .f32⟩
  | 31 => ⟨S16x8208x8208, .f32⟩
  | 32 => ⟨S16x8208x8208, .f32⟩
  | 33 => ⟨S16x8208x8208, .f32⟩
  | 34 => ⟨S16x8208x8208, .f32⟩
  | 35 => ⟨S_, .f32⟩
  | 36 => ⟨S16x8208x8208, .f32⟩
  | 37 => ⟨S16x8208x8208, .f32⟩
  | 38 => ⟨S16x8208x64, .f32⟩
  | 39 => ⟨S8208x16x64, .f32⟩
  | 40 => ⟨S16x8208x64, .f32⟩
  | 41 => ⟨S8208x16x64, .f32⟩
  | 42 => ⟨S8208x1024, .f32⟩
  | 43 => ⟨S8208x1024, .f32⟩
  | 44 => ⟨S8208x1024, .f32⟩
  | 45 => ⟨S_, .i32⟩
  | 46 => ⟨S_, .f32⟩
  | 47 => ⟨S8448x1024, .f32⟩
  | 48 => ⟨S_, .i32⟩
  | 49 => ⟨S_, .f32⟩
  | 50 => ⟨S8448x1024, .f32⟩
  | 51 => ⟨S_, .i32⟩
  | 52 => ⟨S_, .f32⟩
  | 53 => ⟨S8448x1024, .f32⟩
  | 54 => ⟨S8448x1024, .bf16⟩
  | _ => ⟨S8208x3072, .f32⟩

abbrev hbmTy (i : Nat) : BufTy := match i / 128 with
  | 0 => hbmTy0_0 i
  | 1 => hbmTy0_1 i
  | _ => ⟨S8208x3072, .f32⟩

abbrev bufTy : (tb : Table) → Fin (tcTables nBuf tb) → BufTy
  | .hbm, ⟨i, _⟩ => hbmTy i
  | _, _ => ⟨S8208x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_call6_v0 : Ref sig .tc := ⟨.hbm, 147, rfl⟩
abbrev main_call6_v1 : Ref sig .tc := ⟨.hbm, 148, rfl⟩
abbrev main_v34 : Ref sig .tc := ⟨.hbm, 149, rfl⟩
abbrev main_v35 : Ref sig .tc := ⟨.hbm, 150, rfl⟩
abbrev main_call7_cst : Ref sig .tc := ⟨.hbm, 151, rfl⟩
abbrev main_call7_v0 : Ref sig .tc := ⟨.hbm, 152, rfl⟩
abbrev main_v36 : Ref sig .tc := ⟨.hbm, 153, rfl⟩
abbrev main_v37 : Ref sig .tc := ⟨.hbm, 154, rfl⟩
abbrev main_call8_cst : Ref sig .tc := ⟨.hbm, 155, rfl⟩
abbrev main_call8_v0 : Ref sig .tc := ⟨.hbm, 156, rfl⟩
abbrev main_v38 : Ref sig .tc := ⟨.hbm, 157, rfl⟩
abbrev main_call9_v0 : Ref sig .tc := ⟨.hbm, 158, rfl⟩
abbrev main_call9_v1 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_cst_2 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_c : Ref sig .tc := ⟨.hbm, 173, rfl⟩
abbrev main_call10_v0 : Ref sig .tc := ⟨.hbm, 174, rfl⟩
abbrev main_v51 : Ref sig .tc := ⟨.hbm, 175, rfl⟩
abbrev main_c_3 : Ref sig .tc := ⟨.hbm, 176, rfl⟩
abbrev main_call11_v0 : Ref sig .tc := ⟨.hbm, 177, rfl⟩
abbrev main_v52 : Ref sig .tc := ⟨.hbm, 178, rfl⟩
abbrev main_c_4 : Ref sig .tc := ⟨.hbm, 179, rfl⟩
abbrev main_call12_v0 : Ref sig .tc := ⟨.hbm, 180, rfl⟩
abbrev main_v53 : Ref sig .tc := ⟨.hbm, 181, rfl⟩
abbrev main_v54 : Ref sig .tc := ⟨.hbm, 182, rfl⟩

abbrev nD : Nat := 1
abbrev τ : Topo := Topo.v7x

variable {F : FTy → Type} [FloatOps F]
-- ==== Kernel2.lean ====
abbrev S8448x1024 : Shape := ⟨2, ![8448, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8448x2816 : Shape := ⟨2, ![8448, 2816]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S768x2816 : Shape := ⟨2, ![768, 2816]⟩
abbrev S768x1024 : Shape := ⟨2, ![768, 1024]⟩
abbrev S768x1408 : Shape := ⟨2, ![768, 1408]⟩
abbrev S1408x1024 : Shape := ⟨2, ![1408, 1024]⟩
abbrev S1024x1408 : Shape := ⟨2, ![1024, 1408]⟩

abbrev nBuf : Space → Nat
  | .hbm => 22
  | .vmem => 63
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8448x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S8448x2816, .bf16⟩
  | .hbm, ⟨11, _⟩ => ⟨S8448x2816, .bf16⟩
  | .hbm, ⟨12, _⟩ => ⟨S8448x2816, .bf16⟩
  | .hbm, ⟨13, _⟩ => ⟨S8448x1024, .bf16⟩
  | .hbm, ⟨14, _⟩ => ⟨S8448x1024, .f32⟩
  | .hbm, ⟨15, _⟩ => ⟨S8448x2816, .bf16⟩
  | .hbm, ⟨16, _⟩ => ⟨S8448x2816, .bf16⟩
  | .hbm, ⟨17, _⟩ => ⟨S2816x1024, .f32⟩
  | .hbm, ⟨18, _⟩ => ⟨S1024x2816, .f32⟩
  | .hbm, ⟨19, _⟩ => ⟨S1024x2816, .f32⟩
  | .hbm, ⟨20, _⟩ => ⟨S8448x1024, .f32⟩
  | .hbm, ⟨21, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S384x2816, .bf16⟩
  | .local _ .vmem, ⟨6, _⟩ => ⟨S384x2816, .bf16⟩
  | .local _ .vmem, ⟨7, _⟩ => ⟨S384x2816, .bf16⟩
  | .local _ .vmem, ⟨8, _⟩ => ⟨S384x2816, .bf16⟩
  | .local _ .vmem, ⟨9, _⟩ => ⟨S384x2816, .bf16⟩
  | .local _ .vmem, ⟨10, _⟩ => ⟨S384x2816, .bf16⟩
  | .local _ .vmem, ⟨11, _⟩ => ⟨S384x1024, .bf16⟩
  | .local _ .vmem, ⟨12, _⟩ => ⟨S384x1024, .bf16⟩
  | .local _ .vmem, ⟨13, _⟩ => ⟨S768x2816, .bf16⟩
  | .local _ .vmem, ⟨14, _⟩ => ⟨S768x2816, .bf16⟩
  | .local _ .vmem, ⟨15, _⟩ => ⟨S2816x1024, .bf16⟩
  | .local _ .vmem, ⟨16, _⟩ => ⟨S768x1024, .f32⟩
  | .local _ .vmem, ⟨17, _⟩ => ⟨S768x1024, .f32⟩
  | .local _ .vmem, ⟨18, _⟩ => ⟨S768x1024, .f32⟩
  | .local _ .vmem, ⟨19, _⟩ => ⟨S768x1024, .f32⟩
  | .local _ .vmem, ⟨20, _⟩ => ⟨S384x1024, .f32⟩
  | .local _ .vmem, ⟨21, _⟩ => ⟨S384x1024, .f32⟩
  | .local _ .vmem, ⟨22, _⟩ => ⟨S2816x1024, .bf16⟩
  | .local _ .vmem, ⟨23, _⟩ => ⟨S384x2816, .bf16⟩
  | .local _ .vmem, ⟨24, _⟩ => ⟨S384x2816, .bf16⟩
  | .local _ .vmem, ⟨25, _⟩ => ⟨S384x2816, .bf16⟩
  | .local _ .vmem, ⟨26, _⟩ => ⟨S384x2816, .bf16⟩
  | .local _ .vmem, ⟨27, _⟩ => ⟨S384x2816, .bf16⟩
  | .local _ .vmem, ⟨28, _⟩ => ⟨S384x2816, .bf16⟩
  | .local _ .vmem, ⟨29, _⟩ => ⟨S384x2816, .bf16⟩
  | .local _ .vmem, ⟨30, _⟩ => ⟨S384x2816, .bf16⟩
  | .local _ .vmem, ⟨31, _⟩ => ⟨S768x1408, .bf16⟩
  | .local _ .vmem, ⟨32, _⟩ => ⟨S768x1408, .bf16⟩
  | .local _ .vmem, ⟨33, _⟩ => ⟨S768x1024, .f32⟩
  | .local _ .vmem, ⟨34, _⟩ => ⟨S768x1024, .f32⟩
  | .local _ .vmem, ⟨35, _⟩ => ⟨S1408x1024, .f32⟩
  | .local _ .vmem, ⟨36, _⟩ => ⟨S1408x1024, .f32⟩
  | .local _ .vmem, ⟨37, _⟩ => ⟨S768x1024, .bf16⟩
  | .local _ .vmem, ⟨38, _⟩ => ⟨S768x1024, .bf16⟩
  | .local _ .vmem, ⟨39, _⟩ => ⟨S768x1408, .bf16⟩
  | .local _ .vmem, ⟨40, _⟩ => ⟨S768x1408, .bf16⟩
  | .local _ .vmem, ⟨41, _⟩ => ⟨S1024x1408, .f32⟩
  | .local _ .vmem, ⟨42, _⟩ => ⟨S1024x1408, .f32⟩
  | .local _ .vmem, ⟨43, _⟩ => ⟨S768x1024, .bf16⟩
  | .local _ .vmem, ⟨44, _⟩ => ⟨S768x1024, .bf16⟩
  | .local _ .vmem, ⟨45, _⟩ => ⟨S768x1408, .bf16⟩
  | .local _ .vmem, ⟨46, _⟩ => ⟨S768x1408, .bf16⟩
  | .local _ .vmem, ⟨47, _⟩ => ⟨S1024x1408, .f32⟩
  | .local _ .vmem, ⟨48, _⟩ => ⟨S1024x1408, .f32⟩
  | .local _ .vmem, ⟨49, _⟩ => ⟨S384x2816, .bf16⟩
  | .local _ .vmem, ⟨50, _⟩ => ⟨S384x2816, .bf16⟩
  | .local _ .vmem, ⟨51, _⟩ => ⟨S1024x2816, .bf16⟩
  | .local _ .vmem, ⟨52, _⟩ => ⟨S384x2816, .bf16⟩
  | .local _ .vmem, ⟨53, _⟩ => ⟨S384x2816, .bf16⟩
  | .local _ .vmem, ⟨54, _⟩ => ⟨S1024x2816, .bf16⟩
  | .local _ .vmem, ⟨55, _⟩ => ⟨S384x1024, .f32⟩
  | .local _ .vmem, ⟨56, _⟩ => ⟨S384x1024, .f32⟩
  | .local _ .vmem, ⟨57, _⟩ => ⟨S1x1024, .f32⟩
  | .local _ .vmem, ⟨58, _⟩ => ⟨S384x1024, .f32⟩
  | .local _ .vmem, ⟨59, _⟩ => ⟨S384x1024, .f32⟩
  | .local _ .vmem, ⟨60, _⟩ => ⟨S384x1024, .f32⟩
  | .local _ .vmem, ⟨61, _⟩ => ⟨S384x1024, .f32⟩
  | .local _ .vmem, ⟨62, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg4_1 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg6_1 : Ref sig .tc := ⟨.vmem, 59, rfl⟩
abbrev cc6_stg7_0 : Ref sig .tc := ⟨.vmem, 60, rfl⟩
abbrev cc6_stg7_1 : Ref sig .tc := ⟨.vmem, 61, rfl⟩
abbrev cc6_stg8_0 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc6_sem0_0 : DmaSem sig := 49
abbrev cc6_sem0_1 : DmaSem sig := 50
abbrev cc6_sem1_0 : DmaSem sig := 51
abbrev cc6_sem2_0 : DmaSem sig := 52
abbrev cc6_sem2_1 : DmaSem sig := 53
abbrev cc6_sem3_0 : DmaSem sig := 54
abbrev cc6_sem4_0 : DmaSem sig := 55
abbrev cc6_sem4_1 : DmaSem sig := 56
abbrev cc6_sem5_0 : DmaSem sig := 57
abbrev cc6_sem6_0 : DmaSem sig := 58
abbrev cc6_sem6_1 : DmaSem sig := 59
abbrev cc6_sem7_0 : DmaSem sig := 60
abbrev cc6_sem7_1 : DmaSem sig := 61
abbrev cc6_sem8_0 : DmaSem sig := 62

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S768x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![22], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S384x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S384x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S384x2816 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S384x2816 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S384x2816 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨3, ![2, 1, 11], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S768x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S768x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 11], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S768x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S768x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 11], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S768x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S768x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![22], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S384x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x2816 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S384x2816 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1024x2816 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S384x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S384x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S384x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S1x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]
-- ==== Reference2Ideal.lean ====
abbrev S8448x1024 : Shape := ⟨2, ![8448, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x2816 : Shape := ⟨2, ![8448, 2816]⟩

abbrev nBuf : Space → Nat
  | .hbm => 88
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1024, .f32⟩
  | .hbm, ⟨22, _⟩ => ⟨S8448x1024, .f32⟩
  | .hbm, ⟨23, _⟩ => ⟨S1x1024, .f32⟩
  | .hbm, ⟨24, _⟩ => ⟨S8448x1024, .f32⟩
  | .hbm, ⟨25, _⟩ => ⟨S8448x1024, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S_, .f32⟩
  | .hbm, ⟨30, _⟩ => ⟨S8448x2816, .f32⟩
  | .hbm, ⟨31, _⟩ => ⟨S8448x2816, .f32⟩
  | .hbm, ⟨32, _⟩ => ⟨S_, .f32⟩
  | .hbm, ⟨33, _⟩ => ⟨S8448x2816, .f32⟩
  | .hbm, ⟨34, _⟩ => ⟨S8448x2816, .f32⟩
  | .hbm, ⟨35, _⟩ => ⟨S_, .f32⟩
  | .hbm, ⟨36, _⟩ => ⟨S8448x2816, .f32⟩
  | .hbm, ⟨37, _⟩ => ⟨S8448x2816, .f32⟩
  | .hbm, ⟨38, _⟩ => ⟨S8448x2816, .f32⟩
  | .hbm, ⟨39, _⟩ => ⟨S8448x2816, .f32⟩
  | .hbm, ⟨40, _⟩ => ⟨S8448x2816, .f32⟩
  | .hbm, ⟨41, _⟩ => ⟨S8448x2816, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S1024x2816, .f32⟩
  | .hbm, ⟨46, _⟩ => ⟨S2816x1024, .f32⟩
  | .hbm, ⟨47, _⟩ => ⟨S8448x2816, .f32⟩
  | .hbm, ⟨48, _⟩ => ⟨S8448x2816, .f32⟩
  | .hbm, ⟨49, _⟩ => ⟨S8448x2816, .f32⟩
  | .hbm, ⟨50, _⟩ => ⟨S2816x1024, .f32⟩
  | .hbm, ⟨51, _⟩ => ⟨S1024x2816, .f32⟩
  | .hbm, ⟨52, _⟩ => ⟨S8448x1024, .f32⟩
  | .hbm, ⟨53, _⟩ => ⟨S8448x2816, .f32⟩
  | .hbm, ⟨54, _⟩ => ⟨S8448x2816, .f32⟩
  | .hbm, ⟨55, _⟩ => ⟨S8448x2816, .f32⟩
  | .hbm, ⟨56, _⟩ => ⟨S8448x2816, .f32⟩
  | .hbm, ⟨57, _⟩ => ⟨S2816x1024, .f32⟩
  | .hbm, ⟨58, _⟩ => ⟨S1024x2816, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8448x1024, .f32⟩
  | .hbm, ⟨66, _⟩ => ⟨S8448x1024, .f32⟩
  | .hbm, ⟨67, _⟩ => ⟨S_, .f32⟩
  | .hbm, ⟨68, _⟩ => ⟨S1024, .f32⟩
  | .hbm, ⟨69, _⟩ => ⟨S8448x1024, .f32⟩
  | .hbm, ⟨70, _⟩ => ⟨S_, .f32⟩
  | .hbm, ⟨71, _⟩ => ⟨S8448, .f32⟩
  | .hbm, ⟨72, _⟩ => ⟨S8448x1, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S8448x1, .f32⟩
  | .hbm, ⟨77, _⟩ => ⟨S_, .f32⟩
  | .hbm, ⟨78, _⟩ => ⟨S8448x1, .f32⟩
  | .hbm, ⟨79, _⟩ => ⟨S8448x1, .f32⟩
  | .hbm, ⟨80, _⟩ => ⟨S_, .f32⟩
  | .hbm, ⟨81, _⟩ => ⟨S8448, .f32⟩
  | .hbm, ⟨82, _⟩ => ⟨S8448x1024, .f32⟩
  | .hbm, ⟨83, _⟩ => ⟨S8448x1024, .f32⟩
  | .hbm, ⟨84, _⟩ => ⟨S8448x1024, .f32⟩
  | .hbm, ⟨85, _⟩ => ⟨S8448x1024, .f32⟩
  | .hbm, ⟨86, _⟩ => ⟨S8448x1024, .f32⟩
  | .hbm, ⟨87, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Kernel3.lean ====
abbrev S8448x1024 : Shape := ⟨2, ![8448, 1024]⟩
abbrev S1024 : Shape := ⟨1, ![1024]⟩
abbrev S1024x3072 : Shape := ⟨2, ![1024, 3072]⟩
abbrev S1024x1024 : Shape := ⟨2, ![1024, 1024]⟩
abbrev S8448x3072 : Shape := ⟨2, ![8448, 3072]⟩
abbrev S1x1024 : Shape := ⟨2, ![1, 1024]⟩
abbrev S384x1024 : Shape := ⟨2, ![384, 1024]⟩
abbrev S384x3072 : Shape := ⟨2, ![384, 3072]⟩
abbrev S384 : Shape := ⟨1, ![384]⟩
abbrev S384x1 : Shape := ⟨2, ![384, 1]⟩
abbrev S768x1024 : Shape := ⟨2, ![768, 1024]⟩

abbrev nBuf : Space → Nat
  | .hbm => 20
  | .vmem => 42
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x3072, .f32⟩
  | .hbm, ⟨3, _⟩ => ⟨S8448x1024, .f32⟩
  | .hbm, ⟨4, _⟩ => ⟨S1024x1024, .f32⟩
  | .hbm, ⟨5, _⟩ => ⟨S8448x3072, .f32⟩
  | .hbm, ⟨6, _⟩ => ⟨S8448x1024, .f32⟩
  | .hbm, ⟨7, _⟩ => ⟨S1x1024, .f32⟩
  | .hbm, ⟨8, _⟩ => ⟨S1024x3072, .bf16⟩
  | .hbm, ⟨9, _⟩ => ⟨S1024x1024, .bf16⟩
  | .hbm, ⟨10, _⟩ => ⟨S8448x1024, .bf16⟩
  | .hbm, ⟨11, _⟩ => ⟨S8448x3072, .bf16⟩
  | .hbm, ⟨12, _⟩ => ⟨S8448x3072, .bf16⟩
  | .hbm, ⟨13, _⟩ => ⟨S8448x1024, .bf16⟩
  | .hbm, ⟨14, _⟩ => ⟨S8448x1024, .f32⟩
  | .hbm, ⟨15, _⟩ => ⟨S8448x1024, .bf16⟩
  | .hbm, ⟨16, _⟩ => ⟨S1024x1024, .f32⟩
  | .hbm, ⟨17, _⟩ => ⟨S1024x3072, .f32⟩
  | .hbm, ⟨18, _⟩ => ⟨S8448x1024, .f32⟩
  | .hbm, ⟨19, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x3072, .bf16⟩
  | .local _ .vmem, ⟨4, _⟩ => ⟨S384x3072, .bf16⟩
  | .local _ .vmem, ⟨5, _⟩ => ⟨S384x3072, .bf16⟩
  | .local _ .vmem, ⟨6, _⟩ => ⟨S384x1024, .bf16⟩
  | .local _ .vmem, ⟨7, _⟩ => ⟨S384x1024, .bf16⟩
  | .local _ .vmem, ⟨8, _⟩ => ⟨S768x1024, .bf16⟩
  | .local _ .vmem, ⟨9, _⟩ => ⟨S768x1024, .bf16⟩
  | .local _ .vmem, ⟨10, _⟩ => ⟨S1024x1024, .bf16⟩
  | .local _ .vmem, ⟨11, _⟩ => ⟨S768x1024, .f32⟩
  | .local _ .vmem, ⟨12, _⟩ => ⟨S768x1024, .f32⟩
  | .local _ .vmem, ⟨13, _⟩ => ⟨S768x1024, .f32⟩
  | .local _ .vmem, ⟨14, _⟩ => ⟨S768x1024, .f32⟩
  | .local _ .vmem, ⟨15, _⟩ => ⟨S768x1024, .f32⟩
  | .local _ .vmem, ⟨16, _⟩ => ⟨S768x1024, .f32⟩
  | .local _ .vmem, ⟨17, _⟩ => ⟨S1024x1024, .bf16⟩
  | .local _ .vmem, ⟨18, _⟩ => ⟨S768x1024, .bf16⟩
  | .local _ .vmem, ⟨19, _⟩ => ⟨S768x1024, .bf16⟩
  | .local _ .vmem, ⟨20, _⟩ => ⟨S768x1024, .bf16⟩
  | .local _ .vmem, ⟨21, _⟩ => ⟨S768x1024, .bf16⟩
  | .local _ .vmem, ⟨22, _⟩ => ⟨S768x1024, .f32⟩
  | .local _ .vmem, ⟨23, _⟩ => ⟨S768x1024, .f32⟩
  | .local _ .vmem, ⟨24, _⟩ => ⟨S1024x1024, .f32⟩
  | .local _ .vmem, ⟨25, _⟩ => ⟨S768x1024, .bf16⟩
  | .local _ .vmem, ⟨26, _⟩ => ⟨S768x1024, .bf16⟩
  | .local _ .vmem, ⟨27, _⟩ => ⟨S768x1024, .bf16⟩
  | .local _ .vmem, ⟨28, _⟩ => ⟨S768x1024, .bf16⟩
  | .local _ .vmem, ⟨29, _⟩ => ⟨S1024x1024, .f32⟩
  | .local _ .vmem, ⟨30, _⟩ => ⟨S1024x1024, .f32⟩
  | .local _ .vmem, ⟨31, _⟩ => ⟨S384x3072, .bf16⟩
  | .local _ .vmem, ⟨32, _⟩ => ⟨S384x3072, .bf16⟩
  | .local _ .vmem, ⟨33, _⟩ => ⟨S1024x3072, .bf16⟩
  | .local _ .vmem, ⟨34, _⟩ => ⟨S384x1024, .f32⟩
  | .local _ .vmem, ⟨35, _⟩ => ⟨S384x1024, .f32⟩
  | .local _ .vmem, ⟨36, _⟩ => ⟨S1x1024, .f32⟩
  | .local _ .vmem, ⟨37, _⟩ => ⟨S384x1024, .f32⟩
  | .local _ .vmem, ⟨38, _⟩ => ⟨S384x1024, .f32⟩
  | .local _ .vmem, ⟨39, _⟩ => ⟨S384x1024, .f32⟩
  | .local _ .vmem, ⟨40, _⟩ => ⟨S384x1024, .f32⟩
  | .local _ .vmem, ⟨41, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg4_1 : Ref sig .tc := ⟨.vmem, 38, rfl⟩
abbrev cc5_stg5_0 : Ref sig .tc := ⟨.vmem, 39, rfl⟩
abbrev cc5_stg5_1 : Ref sig .tc := ⟨.vmem, 40, rfl⟩
abbrev cc5_stg6_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc5_sem3_0 : DmaSem sig := 36
abbrev cc5_sem4_0 : DmaSem sig := 37
abbrev cc5_sem4_1 : DmaSem sig := 38
abbrev cc5_sem5_0 : DmaSem sig := 39
abbrev cc5_sem5_1 : DmaSem sig := 40
abbrev cc5_sem6_0 : DmaSem sig := 41

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S768x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S768x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S768x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![1, 1, 11], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S768x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S768x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 3, 11], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S768x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S768x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![22], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S384x3072 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x3072 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S384x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S384x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S384x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]
-- ==== Reference3Ideal.lean ====
abbrev S8448x1024 : Shape := ⟨2, ![8448, 1024]⟩
abbrev S1024 : Shape := ⟨1, ![1024]⟩
abbrev S1024x3072 : Shape := ⟨2, ![1024, 3072]⟩
abbrev S1024x1024 : Shape := ⟨2, ![1024, 1024]⟩
abbrev S8448x3072 : Shape := ⟨2, ![8448, 3072]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S3072x1024 : Shape := ⟨2, ![3072, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x3072, .f32⟩
  | .hbm, ⟨3, _⟩ => ⟨S8448x1024, .f32⟩
  | .hbm, ⟨4, _⟩ => ⟨S1024x1024, .f32⟩
  | .hbm, ⟨5, _⟩ => ⟨S8448x3072, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1024, .f32⟩
  | .hbm, ⟨23, _⟩ => ⟨S8448x1024, .f32⟩
  | .hbm, ⟨24, _⟩ => ⟨S1x1024, .f32⟩
  | .hbm, ⟨25, _⟩ => ⟨S8448x1024, .f32⟩
  | .hbm, ⟨26, _⟩ => ⟨S8448x1024, .f32⟩
  | .hbm, ⟨27, _⟩ => ⟨S8448x3072, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S1024x1024, .f32⟩
  | .hbm, ⟨32, _⟩ => ⟨S1024x1024, .f32⟩
  | .hbm, ⟨33, _⟩ => ⟨S8448x1024, .f32⟩
  | .hbm, ⟨34, _⟩ => ⟨S3072x1024, .f32⟩
  | .hbm, ⟨35, _⟩ => ⟨S1024x3072, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8448x1024, .f32⟩
  | .hbm, ⟨42, _⟩ => ⟨S8448x1024, .f32⟩
  | .hbm, ⟨43, _⟩ => ⟨S_, .f32⟩
  | .hbm, ⟨44, _⟩ => ⟨S1024, .f32⟩
  | .hbm, ⟨45, _⟩ => ⟨S8448x1024, .f32⟩
  | .hbm, ⟨46, _⟩ => ⟨S_, .f32⟩
  | .hbm, ⟨47, _⟩ => ⟨S8448, .f32⟩
  | .hbm, ⟨48, _⟩ => ⟨S8448x1, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1, .f32⟩
  | .hbm, ⟨53, _⟩ => ⟨S_, .f32⟩
  | .hbm, ⟨54, _⟩ => ⟨S8448x1, .f32⟩
  | .hbm, ⟨55, _⟩ => ⟨S8448x1, .f32⟩
  | .hbm, ⟨56, _⟩ => ⟨S_, .f32⟩
  | .hbm, ⟨57, _⟩ => ⟨S8448, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | .hbm, ⟨63, _⟩ => ⟨S8448x3072, .bf16⟩
  | .hbm, ⟨64, _⟩ => ⟨S8448x1024, .bf16⟩
  | .hbm, ⟨65, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel4.lean ====
abbrev S8448x1024 : Shape := ⟨2, ![8448, 1024]⟩
abbrev S1024 : Shape := ⟨1, ![1024]⟩
abbrev S1024x3088 : Shape := ⟨2, ![1024, 3088]⟩
abbrev S1024x1024 : Shape := ⟨2, ![1024, 1024]⟩
abbrev S8448x3088 : Shape := ⟨2, ![8448, 3088]⟩
abbrev S1x1024 : Shape := ⟨2, ![1, 1024]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S8448x3200 : Shape := ⟨2, ![8448, 3200]⟩
abbrev S8448x3072 : Shape := ⟨2, ![8448, 3072]⟩
abbrev S3072x8448 : Shape := ⟨2, ![3072, 8448]⟩
abbrev S384x1024 : Shape := ⟨2, ![384, 1024]⟩
abbrev S384x3072 : Shape := ⟨2, ![384, 3072]⟩
abbrev S3072x384 : Shape := ⟨2, ![3072, 384]⟩
abbrev S384 : Shape := ⟨1, ![384]⟩
abbrev S384x1 : Shape := ⟨2, ![384, 1]⟩
abbrev S8448x128 : Shape := ⟨2, ![8448, 128]⟩
abbrev S768x1024 : Shape := ⟨2, ![768, 1024]⟩
abbrev S768x128 : Shape := ⟨2, ![768, 128]⟩
abbrev S1024x8448 : Shape := ⟨2, ![1024, 8448]⟩
abbrev S1024x768 : Shape := ⟨2, ![1024, 768]⟩
abbrev S768x640 : Shape := ⟨2, ![768, 640]⟩
abbrev S1024x640 : Shape := ⟨2, ![1024, 640]⟩
abbrev S384x3200 : Shape := ⟨2, ![384, 3200]⟩
abbrev S8448x16 : Shape := ⟨2, ![8448, 16]⟩

abbrev nBuf : Space → Nat
  | .hbm => 35
  | .vmem => 51
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x3088, .f32⟩
  | .hbm, ⟨3, _⟩ => ⟨S8448x1024, .f32⟩
  | .hbm, ⟨4, _⟩ => ⟨S1024x1024, .f32⟩
  | .hbm, ⟨5, _⟩ => ⟨S8448x3088, .f32⟩
  | .hbm, ⟨6, _⟩ => ⟨S8448x1024, .f32⟩
  | .hbm, ⟨7, _⟩ => ⟨S1x1024, .f32⟩
  | .hbm, ⟨8, _⟩ => ⟨S1024x3072, .f32⟩
  | .hbm, ⟨9, _⟩ => ⟨S1024x3072, .bf16⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x3200, .bf16⟩
  | .hbm, ⟨16, _⟩ => ⟨S1024x1024, .bf16⟩
  | .hbm, ⟨17, _⟩ => ⟨S8448x1024, .bf16⟩
  | .hbm, ⟨18, _⟩ => ⟨S_, .i32⟩
  | .hbm, ⟨19, _⟩ => ⟨S_, .f32⟩
  | .hbm, ⟨20, _⟩ => ⟨S8448x3200, .f32⟩
  | .hbm, ⟨21, _⟩ => ⟨S8448x3200, .bf16⟩
  | .hbm, ⟨22, _⟩ => ⟨S8448x3072, .bf16⟩
  | .hbm, ⟨23, _⟩ => ⟨S8448x1024, .bf16⟩
  | .hbm, ⟨24, _⟩ => ⟨S3072x8448, .bf16⟩
  | .hbm, ⟨25, _⟩ => ⟨S8448x128, .f32⟩
  | .hbm, ⟨26, _⟩ => ⟨S8448x1024, .f32⟩
  | .hbm, ⟨27, _⟩ => ⟨S8448x1024, .bf16⟩
  | .hbm, ⟨28, _⟩ => ⟨S1024x8448, .bf16⟩
  | .hbm, ⟨29, _⟩ => ⟨S1024x1024, .f32⟩
  | .hbm, ⟨30, _⟩ => ⟨S1024x3200, .f32⟩
  | .hbm, ⟨31, _⟩ => ⟨S8448x1024, .f32⟩
  | .hbm, ⟨32, _⟩ => ⟨S1x1024, .f32⟩
  | .hbm, ⟨33, _⟩ => ⟨S8448x16, .f32⟩
  | .hbm, ⟨34, _⟩ => ⟨S1024x3088, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x3072, .bf16⟩
  | .local _ .vmem, ⟨4, _⟩ => ⟨S384x3072, .bf16⟩
  | .local _ .vmem, ⟨5, _⟩ => ⟨S384x3072, .bf16⟩
  | .local _ .vmem, ⟨6, _⟩ => ⟨S384x1024, .bf16⟩
  | .local _ .vmem, ⟨7, _⟩ => ⟨S384x1024, .bf16⟩
  | .local _ .vmem, ⟨8, _⟩ => ⟨S3072x384, .bf16⟩
  | .local _ .vmem, ⟨9, _⟩ => ⟨S3072x384, .bf16⟩
  | .local _ .vmem, ⟨10, _⟩ => ⟨S768x1024, .bf16⟩
  | .local _ .vmem, ⟨11, _⟩ => ⟨S768x1024, .bf16⟩
  | .local _ .vmem, ⟨12, _⟩ => ⟨S1024x128, .bf16⟩
  | .local _ .vmem, ⟨13, _⟩ => ⟨S768x128, .f32⟩
  | .local _ .vmem, ⟨14, _⟩ => ⟨S768x128, .f32⟩
  | .local _ .vmem, ⟨15, _⟩ => ⟨S768x1024, .bf16⟩
  | .local _ .vmem, ⟨16, _⟩ => ⟨S768x1024, .bf16⟩
  | .local _ .vmem, ⟨17, _⟩ => ⟨S1024x1024, .bf16⟩
  | .local _ .vmem, ⟨18, _⟩ => ⟨S768x1024, .f32⟩
  | .local _ .vmem, ⟨19, _⟩ => ⟨S768x1024, .f32⟩
  | .local _ .vmem, ⟨20, _⟩ => ⟨S768x1024, .f32⟩
  | .local _ .vmem, ⟨21, _⟩ => ⟨S768x1024, .f32⟩
  | .local _ .vmem, ⟨22, _⟩ => ⟨S768x1024, .f32⟩
  | .local _ .vmem, ⟨23, _⟩ => ⟨S768x1024, .f32⟩
  | .local _ .vmem, ⟨24, _⟩ => ⟨S1024x1024, .bf16⟩
  | .local _ .vmem, ⟨25, _⟩ => ⟨S768x1024, .bf16⟩
  | .local _ .vmem, ⟨26, _⟩ => ⟨S768x1024, .bf16⟩
  | .local _ .vmem, ⟨27, _⟩ => ⟨S1024x768, .bf16⟩
  | .local _ .vmem, ⟨28, _⟩ => ⟨S1024x768, .bf16⟩
  | .local _ .vmem, ⟨29, _⟩ => ⟨S768x1024, .bf16⟩
  | .local _ .vmem, ⟨30, _⟩ => ⟨S768x1024, .bf16⟩
  | .local _ .vmem, ⟨31, _⟩ => ⟨S768x1024, .f32⟩
  | .local _ .vmem, ⟨32, _⟩ => ⟨S768x1024, .f32⟩
  | .local _ .vmem, ⟨33, _⟩ => ⟨S1024x1024, .f32⟩
  | .local _ .vmem, ⟨34, _⟩ => ⟨S768x1024, .bf16⟩
  | .local _ .vmem, ⟨35, _⟩ => ⟨S768x1024, .bf16⟩
  | .local _ .vmem, ⟨36, _⟩ => ⟨S768x640, .bf16⟩
  | .local _ .vmem, ⟨37, _⟩ => ⟨S768x640, .bf16⟩
  | .local _ .vmem, ⟨38, _⟩ => ⟨S1024x640, .f32⟩
  | .local _ .vmem, ⟨39, _⟩ => ⟨S1024x640, .f32⟩
  | .local _ .vmem, ⟨40, _⟩ => ⟨S384x3200, .bf16⟩
  | .local _ .vmem, ⟨41, _⟩ => ⟨S384x3200, .bf16⟩
  | .local _ .vmem, ⟨42, _⟩ => ⟨S1024x3200, .bf16⟩
  | .local _ .vmem, ⟨43, _⟩ => ⟨S384x1024, .f32⟩
  | .local _ .vmem, ⟨44, _⟩ => ⟨S384x1024, .f32⟩
  | .local _ .vmem, ⟨45, _⟩ => ⟨S1x1024, .f32⟩
  | .local _ .vmem, ⟨46, _⟩ => ⟨S384x1024, .f32⟩
  | .local _ .vmem, ⟨47, _⟩ => ⟨S384x1024, .f32⟩
  | .local _ .vmem, ⟨48, _⟩ => ⟨S384x1024, .f32⟩
  | .local _ .vmem, ⟨49, _⟩ => ⟨S384x1024, .f32⟩
  | .local _ .vmem, ⟨50, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg5_1 : Ref sig .tc := ⟨.vmem, 49, rfl⟩
abbrev cc6_stg6_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem4_1 : DmaSem sig := 47
abbrev cc6_sem5_0 : DmaSem sig := 48
abbrev cc6_sem5_1 : DmaSem sig := 49
abbrev cc6_sem6_0 : DmaSem sig := 50

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S768x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S768x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S768x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S768x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S768x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S768x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x768 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨3, ![1, 1, 11], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S768x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S768x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 5, 11], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S768x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S768x640 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x640 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![22], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S384x3200 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x3200 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S384x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S384x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S384x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]
-- ==== Reference4Ideal.lean ====
abbrev S8448x1024 : Shape := ⟨2, ![8448, 1024]⟩
abbrev S1024 : Shape := ⟨1, ![1024]⟩
abbrev S1024x3088 : Shape := ⟨2, ![1024, 3088]⟩
abbrev S1024x1024 : Shape := ⟨2, ![1024, 1024]⟩
abbrev S8448x3088 : Shape := ⟨2, ![8448, 3088]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S3088x1024 : Shape := ⟨2, ![3088, 1024]⟩
abbrev S8448x3072 : Shape := ⟨2, ![8448, 3072]⟩
abbrev S3072x8448 : Shape := ⟨2, ![3072, 8448]⟩
abbrev S8448x16 : Shape := ⟨2, ![8448, 16]⟩
abbrev S1024x8448 : Shape := ⟨2, ![1024, 8448]⟩

abbrev nBuf : Space → Nat
  | .hbm => 70
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x3088, .f32⟩
  | .hbm, ⟨3, _⟩ => ⟨S8448x1024, .f32⟩
  | .hbm, ⟨4, _⟩ => ⟨S1024x1024, .f32⟩
  | .hbm, ⟨5, _⟩ => ⟨S8448x3088, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1024, .f32⟩
  | .hbm, ⟨23, _⟩ => ⟨S8448x1024, .f32⟩
  | .hbm, ⟨24, _⟩ => ⟨S1x1024, .f32⟩
  | .hbm, ⟨25, _⟩ => ⟨S8448x1024, .f32⟩
  | .hbm, ⟨26, _⟩ => ⟨S8448x1024, .f32⟩
  | .hbm, ⟨27, _⟩ => ⟨S8448x3088, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S1024x1024, .f32⟩
  | .hbm, ⟨32, _⟩ => ⟨S1024x1024, .f32⟩
  | .hbm, ⟨33, _⟩ => ⟨S8448x1024, .f32⟩
  | .hbm, ⟨34, _⟩ => ⟨S3088x1024, .f32⟩
  | .hbm, ⟨35, _⟩ => ⟨S1024x3088, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8448x1024, .f32⟩
  | .hbm, ⟨42, _⟩ => ⟨S8448x1024, .f32⟩
  | .hbm, ⟨43, _⟩ => ⟨S_, .f32⟩
  | .hbm, ⟨44, _⟩ => ⟨S1024, .f32⟩
  | .hbm, ⟨45, _⟩ => ⟨S8448x1024, .f32⟩
  | .hbm, ⟨46, _⟩ => ⟨S_, .f32⟩
  | .hbm, ⟨47, _⟩ => ⟨S8448, .f32⟩
  | .hbm, ⟨48, _⟩ => ⟨S8448x1, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1, .f32⟩
  | .hbm, ⟨53, _⟩ => ⟨S_, .f32⟩
  | .hbm, ⟨54, _⟩ => ⟨S8448x1, .f32⟩
  | .hbm, ⟨55, _⟩ => ⟨S8448x1, .f32⟩
  | .hbm, ⟨56, _⟩ => ⟨S_, .f32⟩
  | .hbm, ⟨57, _⟩ => ⟨S8448, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | .hbm, ⟨63, _⟩ => ⟨S8448x3072, .f32⟩
  | .hbm, ⟨64, _⟩ => ⟨S8448x3072, .bf16⟩
  | .hbm, ⟨65, _⟩ => ⟨S8448x1024, .bf16⟩
  | .hbm, ⟨66, _⟩ => ⟨S3072x8448, .bf16⟩
  | .hbm, ⟨67, _⟩ => ⟨S8448x16, .f32⟩
  | .hbm, ⟨68, _⟩ => ⟨S1024x8448, .bf16⟩
  | .hbm, ⟨69, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel5.lean ====
abbrev S8448x1024 : Shape := ⟨2, ![8448, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x2048 : Shape := ⟨2, ![384, 2048]⟩
abbrev S256x2048 : Shape := ⟨2, ![256, 2048]⟩
abbrev S1024x1024 : Shape := ⟨2, ![1024, 1024]⟩
abbrev S8448x2048 : Shape := ⟨2, ![8448, 2048]⟩
abbrev S8448x32 : Shape := ⟨2, ![8448, 32]⟩
abbrev S1x1024 : Shape := ⟨2, ![1, 1024]⟩
abbrev S1x384 : Shape := ⟨2, ![1, 384]⟩
abbrev S1x256 : Shape := ⟨2, ![1, 256]⟩
abbrev S8448x672 : Shape := ⟨2, ![8448, 672]⟩
abbrev S384x1024 : Shape := ⟨2, ![384, 1024]⟩
abbrev S384x672 : Shape := ⟨2, ![384, 672]⟩
abbrev S384x1 : Shape := ⟨2, ![384, 1]⟩
abbrev S8448x384 : Shape := ⟨2, ![8448, 384]⟩
abbrev S8448x256 : Shape := ⟨2, ![8448, 256]⟩
abbrev S384x384 : Shape := ⟨2, ![384, 384]⟩
abbrev S384x256 : Shape := ⟨2, ![384, 256]⟩
abbrev S768x1024 : Shape := ⟨2, ![768, 1024]⟩
abbrev S768x384 : Shape := ⟨2, ![768, 384]⟩
abbrev S768x256 : Shape := ⟨2, ![768, 256]⟩
abbrev S256x1024 : Shape := ⟨2, ![256, 1024]⟩
abbrev S768x672 : Shape := ⟨2, ![768, 672]⟩

abbrev nBuf : Space → Nat
  | .hbm => 46
  | .vmem => 87
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x672, .f32⟩
  | .hbm, ⟨3, _⟩ => ⟨S384, .f32⟩
  | .hbm, ⟨4, _⟩ => ⟨S256, .f32⟩
  | .hbm, ⟨5, _⟩ => ⟨S384x2048, .f32⟩
  | .hbm, ⟨6, _⟩ => ⟨S256x2048, .f32⟩
  | .hbm, ⟨7, _⟩ => ⟨S8448x1024, .f32⟩
  | .hbm, ⟨8, _⟩ => ⟨S1024x1024, .f32⟩
  | .hbm, ⟨9, _⟩ => ⟨S8448x2048, .f32⟩
  | .hbm, ⟨10, _⟩ => ⟨S8448x2048, .f32⟩
  | .hbm, ⟨11, _⟩ => ⟨S8448x32, .f32⟩
  | .hbm, ⟨12, _⟩ => ⟨S8448x1024, .f32⟩
  | .hbm, ⟨13, _⟩ => ⟨S1x1024, .f32⟩
  | .hbm, ⟨14, _⟩ => ⟨S1x384, .f32⟩
  | .hbm, ⟨15, _⟩ => ⟨S1x256, .f32⟩
  | .hbm, ⟨16, _⟩ => ⟨S1024x672, .bf16⟩
  | .hbm, ⟨17, _⟩ => ⟨S384x2048, .bf16⟩
  | .hbm, ⟨18, _⟩ => ⟨S256x2048, .bf16⟩
  | .hbm, ⟨19, _⟩ => ⟨S1024x1024, .bf16⟩
  | .hbm, ⟨20, _⟩ => ⟨S8448x1024, .bf16⟩
  | .hbm, ⟨21, _⟩ => ⟨S8448x2048, .bf16⟩
  | .hbm, ⟨22, _⟩ => ⟨S8448x2048, .bf16⟩
  | .hbm, ⟨23, _⟩ => ⟨S8448x672, .f32⟩
  | .hbm, ⟨24, _⟩ => ⟨S8448x1024, .bf16⟩
  | .hbm, ⟨25, _⟩ => ⟨S8448x384, .f32⟩
  | .hbm, ⟨26, _⟩ => ⟨S8448x256, .f32⟩
  | .hbm, ⟨27, _⟩ => ⟨S8448x32, .f32⟩
  | .hbm, ⟨28, _⟩ => ⟨S8448x2048, .f32⟩
  | .hbm, ⟨29, _⟩ => ⟨S8448x384, .bf16⟩
  | .hbm, ⟨30, _⟩ => ⟨S8448x2048, .bf16⟩
  | .hbm, ⟨31, _⟩ => ⟨S8448x256, .bf16⟩
  | .hbm, ⟨32, _⟩ => ⟨S8448x1024, .f32⟩
  | .hbm, ⟨33, _⟩ => ⟨S8448x1024, .bf16⟩
  | .hbm, ⟨34, _⟩ => ⟨S1024x1024, .f32⟩
  | .hbm, ⟨35, _⟩ => ⟨S384x2048, .f32⟩
  | .hbm, ⟨36, _⟩ => ⟨S256x2048, .f32⟩
  | .hbm, ⟨37, _⟩ => ⟨S8448x384, .f32⟩
  | .hbm, ⟨38, _⟩ => ⟨S1x384, .f32⟩
  | .hbm, ⟨39, _⟩ => ⟨S8448x256, .f32⟩
  | .hbm, ⟨40, _⟩ => ⟨S1x256, .f32⟩
  | .hbm, ⟨41, _⟩ => ⟨S8448x672, .f32⟩
  | .hbm, ⟨42, _⟩ => ⟨S8448x672, .bf16⟩
  | .hbm, ⟨43, _⟩ => ⟨S1024x672, .f32⟩
  | .hbm, ⟨44, _⟩ => ⟨S8448x1024, .f32⟩
  | .hbm, ⟨45, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x672, .bf16⟩
  | .local _ .vmem, ⟨4, _⟩ => ⟨S384x672, .f32⟩
  | .local _ .vmem, ⟨5, _⟩ => ⟨S384x672, .f32⟩
  | .local _ .vmem, ⟨6, _⟩ => ⟨S384x1024, .bf16⟩
  | .local _ .vmem, ⟨7, _⟩ => ⟨S384x1024, .bf16⟩
  | .local _ .vmem, ⟨8, _⟩ => ⟨S384x384, .f32⟩
  | .local _ .vmem, ⟨9, _⟩ => ⟨S384x384, .f32⟩
  | .local _ .vmem, ⟨10, _⟩ => ⟨S1x384, .f32⟩
  | .local _ .vmem, ⟨11, _⟩ => ⟨S384x2048, .bf16⟩
  | .local _ .vmem, ⟨12, _⟩ => ⟨S384x2048, .f32⟩
  | .local _ .vmem, ⟨13, _⟩ => ⟨S384x2048, .f32⟩
  | .local _ .vmem, ⟨14, _⟩ => ⟨S384x384, .bf16⟩
  | .local _ .vmem, ⟨15, _⟩ => ⟨S384x384, .bf16⟩
  | .local _ .vmem, ⟨16, _⟩ => ⟨S384x256, .f32⟩
  | .local _ .vmem, ⟨17, _⟩ => ⟨S384x256, .f32⟩
  | .local _ .vmem, ⟨18, _⟩ => ⟨S1x256, .f32⟩
  | .local _ .vmem, ⟨19, _⟩ => ⟨S256x2048, .bf16⟩
  | .local _ .vmem, ⟨20, _⟩ => ⟨S384x2048, .bf16⟩
  | .local _ .vmem, ⟨21, _⟩ => ⟨S384x2048, .bf16⟩
  | .local _ .vmem, ⟨22, _⟩ => ⟨S384x256, .bf16⟩
  | .local _ .vmem, ⟨23, _⟩ => ⟨S384x256, .bf16⟩
  | .local _ .vmem, ⟨24, _⟩ => ⟨S768x1024, .bf16⟩
  | .local _ .vmem, ⟨25, _⟩ => ⟨S768x1024, .bf16⟩
  | .local _ .vmem, ⟨26, _⟩ => ⟨S1024x1024, .bf16⟩
  | .local _ .vmem, ⟨27, _⟩ => ⟨S768x1024, .f32⟩
  | .local _ .vmem, ⟨28, _⟩ => ⟨S768x1024, .f32⟩
  | .local _ .vmem, ⟨29, _⟩ => ⟨S768x1024, .f32⟩
  | .local _ .vmem, ⟨30, _⟩ => ⟨S768x1024, .f32⟩
  | .local _ .vmem, ⟨31, _⟩ => ⟨S768x1024, .f32⟩
  | .local _ .vmem, ⟨32, _⟩ => ⟨S768x1024, .f32⟩
  | .local _ .vmem, ⟨33, _⟩ => ⟨S1024x1024, .bf16⟩
  | .local _ .vmem, ⟨34, _⟩ => ⟨S768x1024, .bf16⟩
  | .local _ .vmem, ⟨35, _⟩ => ⟨S768x1024, .bf16⟩
  | .local _ .vmem, ⟨36, _⟩ => ⟨S768x1024, .bf16⟩
  | .local _ .vmem, ⟨37, _⟩ => ⟨S768x1024, .bf16⟩
  | .local _ .vmem, ⟨38, _⟩ => ⟨S768x1024, .f32⟩
  | .local _ .vmem, ⟨39, _⟩ => ⟨S768x1024, .f32⟩
  | .local _ .vmem, ⟨40, _⟩ => ⟨S1024x1024, .f32⟩
  | .local _ .vmem, ⟨41, _⟩ => ⟨S768x384, .bf16⟩
  | .local _ .vmem, ⟨42, _⟩ => ⟨S768x384, .bf16⟩
  | .local _ .vmem, ⟨43, _⟩ => ⟨S768x1024, .bf16⟩
  | .local _ .vmem, ⟨44, _⟩ => ⟨S768x1024, .bf16⟩
  | .local _ .vmem, ⟨45, _⟩ => ⟨S384x1024, .f32⟩
  | .local _ .vmem, ⟨46, _⟩ => ⟨S384x1024, .f32⟩
  | .local _ .vmem, ⟨47, _⟩ => ⟨S768x256, .bf16⟩
  | .local _ .vmem, ⟨48, _⟩ => ⟨S768x256, .bf16⟩
  | .local _ .vmem, ⟨49, _⟩ => ⟨S768x1024, .bf16⟩
  | .local _ .vmem, ⟨50, _⟩ => ⟨S768x1024, .bf16⟩
  | .local _ .vmem, ⟨51, _⟩ => ⟨S256x1024, .f32⟩
  | .local _ .vmem, ⟨52, _⟩ => ⟨S256x1024, .f32⟩
  | .local _ .vmem, ⟨53, _⟩ => ⟨S384x2048, .bf16⟩
  | .local _ .vmem, ⟨54, _⟩ => ⟨S384x2048, .bf16⟩
  | .local _ .vmem, ⟨55, _⟩ => ⟨S384x2048, .bf16⟩
  | .local _ .vmem, ⟨56, _⟩ => ⟨S384x384, .f32⟩
  | .local _ .vmem, ⟨57, _⟩ => ⟨S384x384, .f32⟩
  | .local _ .vmem, ⟨58, _⟩ => ⟨S1x384, .f32⟩
  | .local _ .vmem, ⟨59, _⟩ => ⟨S384x384, .f32⟩
  | .local _ .vmem, ⟨60, _⟩ => ⟨S384x384, .f32⟩
  | .local _ .vmem, ⟨61, _⟩ => ⟨S1x384, .f32⟩
  | .local _ .vmem, ⟨62, _⟩ => ⟨S384x2048, .bf16⟩
  | .local _ .vmem, ⟨63, _⟩ => ⟨S384x2048, .bf16⟩
  | .local _ .vmem, ⟨64, _⟩ => ⟨S256x2048, .bf16⟩
  | .local _ .vmem, ⟨65, _⟩ => ⟨S384x256, .f32⟩
  | .local _ .vmem, ⟨66, _⟩ => ⟨S384x256, .f32⟩
  | .local _ .vmem, ⟨67, _⟩ => ⟨S1x256, .f32⟩
  | .local _ .vmem, ⟨68, _⟩ => ⟨S384x256, .f32⟩
  | .local _ .vmem, ⟨69, _⟩ => ⟨S384x256, .f32⟩
  | .local _ .vmem, ⟨70, _⟩ => ⟨S1x256, .f32⟩
  | .local _ .vmem, ⟨71, _⟩ => ⟨S768x1024, .bf16⟩
  | .local _ .vmem, ⟨72, _⟩ => ⟨S768x1024, .bf16⟩
  | .local _ .vmem, ⟨73, _⟩ => ⟨S768x672, .bf16⟩
  | .local _ .vmem, ⟨74, _⟩ => ⟨S768x672, .bf16⟩
  | .local _ .vmem, ⟨75, _⟩ => ⟨S1024x672, .f32⟩
  | .local _ .vmem, ⟨76, _⟩ => ⟨S384x672, .bf16⟩
  | .local _ .vmem, ⟨77, _⟩ => ⟨S384x672, .bf16⟩
  | .local _ .vmem, ⟨78, _⟩ => ⟨S1024x672, .bf16⟩
  | .local _ .vmem, ⟨79, _⟩ => ⟨S384x1024, .f32⟩
  | .local _ .vmem, ⟨80, _⟩ => ⟨S384x1024, .f32⟩
  | .local _ .vmem, ⟨81, _⟩ => ⟨S1x1024, .f32⟩
  | .local _ .vmem, ⟨82, _⟩ => ⟨S384x1024, .f32⟩
  | .local _ .vmem, ⟨83, _⟩ => ⟨S384x1024, .f32⟩
  | .local _ .vmem, ⟨84, _⟩ => ⟨S384x1024, .f32⟩
  | .local _ .vmem, ⟨85, _⟩ => ⟨S384x1024, .f32⟩
  | .local _ .vmem, ⟨86, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v15_0 : Ref sig .tc := ⟨.hbm, 30, rfl⟩
abbrev main_v15_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v22_0 : Ref sig .tc := ⟨.hbm, 39, rfl⟩
abbrev main_v22_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg2_0 : Ref sig .tc := ⟨.vmem, 56, rfl⟩
abbrev cc8_stg2_1 : Ref sig .tc := ⟨.vmem, 57, rfl⟩
abbrev cc8_stg3_0 : Ref sig .tc := ⟨.vmem, 58, rfl⟩
abbrev cc8_stg4_0 : Ref sig .tc := ⟨.vmem, 59, rfl⟩
abbrev cc8_stg4_1 : Ref sig .tc := ⟨.vmem, 60, rfl⟩
abbrev cc8_stg5_0 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc9_stg5_0 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg1_1 : Ref sig .tc := ⟨.vmem, 74, rfl⟩
abbrev cc10_stg2_0 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg2_1 : Ref sig .tc := ⟨.vmem, 80, rfl⟩
abbrev cc11_stg3_0 : Ref sig .tc := ⟨.vmem, 81, rfl⟩
abbrev cc11_stg4_0 : Ref sig .tc := ⟨.vmem, 82, rfl⟩
abbrev cc11_stg4_1 : Ref sig .tc := ⟨.vmem, 83, rfl⟩
abbrev cc11_stg5_0 : Ref sig .tc := ⟨.vmem, 84, rfl⟩
abbrev cc11_stg5_1 : Ref sig .tc := ⟨.vmem, 85, rfl⟩
abbrev cc11_stg6_0 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc8_sem0_0 : DmaSem sig := 53
abbrev cc8_sem0_1 : DmaSem sig := 54
abbrev cc8_sem1_0 : DmaSem sig := 55
abbrev cc8_sem2_0 : DmaSem sig := 56
abbrev cc8_sem2_1 : DmaSem sig := 57
abbrev cc8_sem3_0 : DmaSem sig := 58
abbrev cc8_sem4_0 : DmaSem sig := 59
abbrev cc8_sem4_1 : DmaSem sig := 60
abbrev cc8_sem5_0 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem2_1 : DmaSem sig := 66
abbrev cc9_sem3_0 : DmaSem sig := 67
abbrev cc9_sem4_0 : DmaSem sig := 68
abbrev cc9_sem4_1 : DmaSem sig := 69
abbrev cc9_sem5_0 : DmaSem sig := 70
abbrev cc10_sem0_0 : DmaSem sig := 71
abbrev cc10_sem0_1 : DmaSem sig := 72
abbrev cc10_sem1_0 : DmaSem sig := 73
abbrev cc10_sem1_1 : DmaSem sig := 74
abbrev cc10_sem2_0 : DmaSem sig := 75
abbrev cc11_sem0_0 : DmaSem sig := 76
abbrev cc11_sem0_1 : DmaSem sig := 77
abbrev cc11_sem1_0 : DmaSem sig := 78
abbrev cc11_sem2_0 : DmaSem sig := 79
abbrev cc11_sem2_1 : DmaSem sig := 80
abbrev cc11_sem3_0 : DmaSem sig := 81
abbrev cc11_sem4_0 : DmaSem sig := 82
abbrev cc11_sem4_1 : DmaSem sig := 83
abbrev cc11_sem5_0 : DmaSem sig := 84
abbrev cc11_sem5_1 : DmaSem sig := 85
abbrev cc11_sem6_0 : DmaSem sig := 86

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x672 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S384x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S384x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S384x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![22], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S384x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S384x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S384x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![1, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S768x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S768x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S768x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S768x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S768x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨3, ![1, 1, 11], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S768x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S768x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![1, 2, 11], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S768x384 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S768x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S384x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 2, 11], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S768x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S768x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨1, ![22], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S384x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S384x2048 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S384x384 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x384 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S384x384 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x384 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![22], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S384x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x2048 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S384x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S384x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev grid10 : Pipeline.Grid := ⟨3, ![1, 1, 11], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S768x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S768x672 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 1 → Memref sig .tc .vmem S1024x672 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, true, false]

abbrev grid11 : Pipeline.Grid := ⟨1, ![22], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S384x672 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1024x672 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S384x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S384x1024 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S384x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x1024 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]
-- ==== Reference5Ideal.lean ====
abbrev S8448x1024 : Shape := ⟨2, ![8448, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x2048 : Shape := ⟨2, ![384, 2048]⟩
abbrev S256x2048 : Shape := ⟨2, ![256, 2048]⟩
abbrev S1024x1024 : Shape := ⟨2, ![1024, 1024]⟩
abbrev S8448x2048 : Shape := ⟨2, ![8448, 2048]⟩
abbrev S8448x32 : Shape := ⟨2, ![8448, 32]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x672 : Shape := ⟨2, ![8448, 672]⟩
abbrev S8448x384 : Shape := ⟨2, ![8448, 384]⟩
abbrev S1x384 : Shape := ⟨2, ![1, 384]⟩
abbrev S8448x256 : Shape := ⟨2, ![8448, 256]⟩
abbrev S1x256 : Shape := ⟨2, ![1, 256]⟩
abbrev S2048x256 : Shape := ⟨2, ![2048, 256]⟩
abbrev S2048x384 : Shape := ⟨2, ![2048, 384]⟩
abbrev S672x1024 : Shape := ⟨2, ![672, 1024]⟩

abbrev nBuf : Space → Nat
  | .hbm => 183
  | .vmem => 0
  | .smem => 0
  | _ => 0

abbrev hbmTy0_0 (i : Nat) : BufTy := match i % 128 with
  | 0 => ⟨S8448x1024, .f32⟩
  | 1 => ⟨S1024, .f32⟩
  | 2 => ⟨S1024x672, .f32⟩
  | 3 => ⟨S384, .f32⟩
  | 4 => ⟨S256, .f32⟩
  | 5 => ⟨S384x2048, .f32⟩
  | 6 => ⟨S256x2048, .f32⟩
  | 7 => ⟨S8448x1024, .f32⟩
  | 8 => ⟨S1024x1024, .f32⟩
  | 9 => ⟨S8448x2048, .f32⟩
  | 10 => ⟨S8448x2048, .f32⟩
  | 11 => ⟨S8448x32, .f32⟩
  | 12 => ⟨S8448x1024, .f32⟩
  | 13 => ⟨S8448x1024, .f32⟩
  | 14 => ⟨S_, .f32⟩
  | 15 => ⟨S8448, .f32⟩
  | 16 => ⟨S8448x1, .f32⟩
  | 17 => ⟨S_, .f32⟩
  | 18 => ⟨S8448x1, .f32⟩
  | 19 => ⟨S8448x1, .f32⟩
  | 20 => ⟨S_, .f32⟩
  | 21 => ⟨S8448x1, .f32⟩
  | 22 => ⟨S8448x1, .f32⟩
  | 23 => ⟨S8448x1, .f32⟩
  | 24 => ⟨S8448x1, .f32⟩
  | 25 => ⟨S_, .f32⟩
  | 26 => ⟨S8448x1, .f32⟩
  | 27 => ⟨S8448x1, .f32⟩
  | 28 => ⟨S8448x1024, .f32⟩
  | 29 => ⟨S8448x1024, .f32⟩
  | 30 => ⟨S1x1024, .f32⟩
  | 31 => ⟨S8448x1024, .f32⟩
  | 32 => ⟨S8448x1024, .f32⟩
  | 33 => ⟨S8448x672, .f32⟩
  | 34 => ⟨S8448x384, .f32⟩
  | 35 => ⟨S8448x384, .f32⟩
  | 36 => ⟨S_, .f32⟩
  | 37 => ⟨S8448, .f32⟩
  | 38 => ⟨S8448x1, .f32⟩
  | 39 => ⟨S_, .f32⟩
  | 40 => ⟨S8448x1, .f32⟩
  | 41 => ⟨S8448x1, .f32⟩
  | 42 => ⟨S_, .f32⟩
  | 43 => ⟨S8448x1, .f32⟩
  | 44 => ⟨S8448x1, .f32⟩
  | 45 => ⟨S8448x1, .f32⟩
  | 46 => ⟨S8448x1, .f32⟩
  | 47 => ⟨S_, .f32⟩
  | 48 => ⟨S8448x1, .f32⟩
  | 49 => ⟨S8448x1, .f32⟩
  | 50 => ⟨S8448x384, .f32⟩
  | 51 => ⟨S8448x384, .f32⟩
  | 52 => ⟨S1x384, .f32⟩
  | 53 => ⟨S8448x384, .f32⟩
  | 54 => ⟨S8448x384, .f32⟩
  | 55 => ⟨S8448x256, .f32⟩
  | 56 => ⟨S8448x256, .f32⟩
  | 57 => ⟨S_, .f32⟩
  | 58 => ⟨S8448, .f32⟩
  | 59 => ⟨S8448x1, .f32⟩
  | 60 => ⟨S_, .f32⟩
  | 61 => ⟨S8448x1, .f32⟩
  | 62 => ⟨S8448x1, .f32⟩
  | 63 => ⟨S_, .f32⟩
  | 64 => ⟨S8448x1, .f32⟩
  | 65 => ⟨S8448x1, .f32⟩
  | 66 => ⟨S8448x1, .f32⟩
  | 67 => ⟨S8448x1, .f32⟩
  | 68 => ⟨S_, .f32⟩
  | 69 => ⟨S8448x1, .f32⟩
  | 70 => ⟨S8448x1, .f32⟩
  | 71 => ⟨S8448x256, .f32⟩
  | 72 => ⟨S8448x256, .f32⟩
  | 73 => ⟨S1x256, .f32⟩
  | 74 => ⟨S8448x256, .f32⟩
  | 75 => ⟨S8448x256, .f32⟩
  | 76 => ⟨S8448x2048, .f32⟩
  | 77 => ⟨S8448x2048, .f32⟩
  | 78 => ⟨S8448x32, .f32⟩
  | 79 => ⟨S8448x1024, .f32⟩
  | 80 => ⟨S8448x1024, .f32⟩
  | 81 => ⟨S8448x1024, .f32⟩
  | 82 => ⟨S1024x1024, .f32⟩
  | 83 => ⟨S1024x1024, .f32⟩
  | 84 => ⟨S8448x1024, .f32⟩
  | 85 => ⟨S_, .f32⟩
  | 86 => ⟨S8448x672, .f32⟩
  | 87 => ⟨S2048x256, .f32⟩
  | 88 => ⟨S256x2048, .f32⟩
  | 89 => ⟨S8448x256, .f32⟩
  | 90 => ⟨S2048x384, .f32⟩
  | 91 => ⟨S384x2048, .f32⟩
  | 92 => ⟨S8448x384, .f32⟩
  | 93 => ⟨S8448x256, .f32⟩
  | 94 => ⟨S_, .f32⟩
  | 95 => ⟨S256, .f32⟩
  | 96 => ⟨S1x256, .f32⟩
  | 97 => ⟨S8448x256, .f32⟩
  | 98 => ⟨S8448x256, .f32⟩
  | 99 => ⟨S_, .f32⟩
  | 100 => ⟨S256, .f32⟩
  | 101 => ⟨S8448x256, .f32⟩
  | 102 => ⟨S_, .f32⟩
  | 103 => ⟨S8448, .f32⟩
  | 104 => ⟨S8448x1, .f32⟩
  | 105 => ⟨S8448x256, .f32⟩
  | 106 => ⟨S8448x256, .f32⟩
  | 107 => ⟨S8448x1, .f32⟩
  | 108 => ⟨S_, .f32⟩
  | 109 => ⟨S8448x1, .f32⟩
  | 110 => ⟨S8448x1, .f32⟩
  | 111 => ⟨S_, .f32⟩
  | 112 => ⟨S8448, .f32⟩
  | 113 => ⟨S8448x256, .f32⟩
  | 114 => ⟨S8448x256, .f32⟩
  | 115 => ⟨S8448x256, .f32⟩
  | 116 => ⟨S8448x256, .f32⟩
  | 117 => ⟨S8448x256, .f32⟩
  | 118 => ⟨S_, .f32⟩
  | 119 => ⟨S8448x672, .f32⟩
  | 120 => ⟨S8448x672, .f32⟩
  | 121 => ⟨S8448x384, .f32⟩
  | 122 => ⟨S_, .f32⟩
  | 123 => ⟨S384, .f32⟩
  | 124 => ⟨S1x384, .f32⟩
  | 125 => ⟨S8448x384, .f32⟩
  | 126 => ⟨S8448x384, .f32⟩
  | 127 => ⟨S_, .f32⟩
  | _ => ⟨S8448x1024, .f32⟩

abbrev hbmTy0_1 (i : Nat) : BufTy := match i % 128 with
  | 0 => ⟨S384, .f32⟩
  | 1 => ⟨S8448x384, .f32⟩
  | 2 => ⟨S_, .f32⟩
  | 3 => ⟨S8448, .f32⟩
  | 4 => ⟨S8448x1, .f32⟩
  | 5 => ⟨S8448x384, .f32⟩
  | 6 => ⟨S8448x384, .f32⟩
  | 7 => ⟨S8448x1, .f32⟩
  | 8 => ⟨S_, .f32⟩
  | 9 => ⟨S8448x1, .f32⟩
  | 10 => ⟨S8448x1, .f32⟩
  | 11 => ⟨S_, .f32⟩
  | 12 => ⟨S8448, .f32⟩
  | 13 => ⟨S8448x384, .f32⟩
  | 14 => ⟨S8448x384, .f32⟩
  | 15 => ⟨S8448x384, .f32⟩
  | 16 => ⟨S8448x384, .f32⟩
  | 17 => ⟨S8448x384, .f32⟩
  | 18 => ⟨S_, .f32⟩
  | 19 => ⟨S8448x672, .f32⟩
  | 20 => ⟨S8448x672, .f32⟩
  | 21 => ⟨S672x1024, .f32⟩
  | 22 => ⟨S1024x672, .f32⟩
  | 23 => ⟨S8448x1024, .f32⟩
  | 24 => ⟨S8448x1024, .f32⟩
  | 25 => ⟨S_, .f32⟩
  | 26 => ⟨S1024, .f32⟩
  | 27 => ⟨S1x1024, .f32⟩
  | 28 => ⟨S8448x1024, .f32⟩
  | 29 => ⟨S8448x1024, .f32⟩
  | 30 => ⟨S_, .f32⟩
  | 31 => ⟨S1024, .f32⟩
  | 32 => ⟨S8448x1024, .f32⟩
  | 33 => ⟨S_, .f32⟩
  | 34 => ⟨S8448, .f32⟩
  | 35 => ⟨S8448x1, .f32⟩
  | 36 => ⟨S8448x1024, .f32⟩
  | 37 => ⟨S8448x1024, .f32⟩
  | 38 => ⟨S8448x1024, .f32⟩
  | 39 => ⟨S8448x1, .f32⟩
  | 40 => ⟨S_, .f32⟩
  | 41 => ⟨S8448x1, .f32⟩
  | 42 => ⟨S8448x1, .f32⟩
  | 43 => ⟨S_, .f32⟩
  | 44 => ⟨S8448, .f32⟩
  | 45 => ⟨S8448x1024, .f32⟩
  | 46 => ⟨S8448x1024, .f32⟩
  | 47 => ⟨S8448x1024, .f32⟩
  | 48 => ⟨S8448x1024, .f32⟩
  | 49 => ⟨S8448x1024, .f32⟩
  | 50 => ⟨S8448x2048, .bf16⟩
  | 51 => ⟨S8448x1024, .bf16⟩
  | 52 => ⟨S1x384, .f32⟩
  | 53 => ⟨S1x256, .f32⟩
  | 54 => ⟨S1x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_19 : Ref sig .tc := ⟨.hbm, 127, rfl⟩
abbrev main_v94 : Ref sig .tc := ⟨.hbm, 128, rfl⟩
abbrev main_v95 : Ref sig .tc := ⟨.hbm, 129, rfl⟩
abbrev main_cst_20 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_21 : Ref sig .tc := ⟨.hbm, 136, rfl⟩
abbrev main_v101 : Ref sig .tc := ⟨.hbm, 137, rfl⟩
abbrev main_v102 : Ref sig .tc := ⟨.hbm, 138, rfl⟩
abbrev main_cst_22 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_23 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_24 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_25 : Ref sig .tc := ⟨.hbm, 158, rfl⟩
abbrev main_v119 : Ref sig .tc := ⟨.hbm, 159, rfl⟩
abbrev main_v120 : Ref sig .tc := ⟨.hbm, 160, rfl⟩
abbrev main_cst_26 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_cst_28 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]
-- ==== Kernel6.lean ====
abbrev S1024x384 : Shape := ⟨2, ![1024, 384]⟩
abbrev S4x1024x384 : Shape := ⟨3, ![4, 1024, 384]⟩
abbrev S128x1024 : Shape := ⟨2, ![128, 1024]⟩
abbrev S4x128x1024 : Shape := ⟨3, ![4, 128, 1024]⟩
abbrev S128x672 : Shape := ⟨2, ![128, 672]⟩
abbrev S4x128x672 : Shape := ⟨3, ![4, 128, 672]⟩
abbrev S384x192 : Shape := ⟨2, ![384, 192]⟩
abbrev S4x384x192 : Shape := ⟨3, ![4, 384, 192]⟩
abbrev S256x256 : Shape := ⟨2, ![256, 256]⟩
abbrev S4x256x256 : Shape := ⟨3, ![4, 256, 256]⟩
abbrev S1024x386 : Shape := ⟨2, ![1024, 386]⟩
abbrev S4x1024x386 : Shape := ⟨3, ![4, 1024, 386]⟩
abbrev S4096x352 : Shape := ⟨2, ![4096, 352]⟩
abbrev S4x4096x352 : Shape := ⟨3, ![4, 4096, 352]⟩
abbrev S512x384 : Shape := ⟨2, ![512, 384]⟩
abbrev S4x512x384 : Shape := ⟨3, ![4, 512, 384]⟩
abbrev S1x512x384 : Shape := ⟨3, ![1, 512, 384]⟩
abbrev S64x1024 : Shape := ⟨2, ![64, 1024]⟩
abbrev S4x64x1024 : Shape := ⟨3, ![4, 64, 1024]⟩
abbrev S1x64x1024 : Shape := ⟨3, ![1, 64, 1024]⟩
abbrev S64x672 : Shape := ⟨2, ![64, 672]⟩
abbrev S4x64x672 : Shape := ⟨3, ![4, 64, 672]⟩
abbrev S1x64x672 : Shape := ⟨3, ![1, 64, 672]⟩
abbrev S192x192 : Shape := ⟨2, ![192, 192]⟩
abbrev S4x192x192 : Shape := ⟨3, ![4, 192, 192]⟩
abbrev S1x192x192 : Shape := ⟨3, ![1, 192, 192]⟩
abbrev S128x256 : Shape := ⟨2, ![128, 256]⟩
abbrev S4x128x256 : Shape := ⟨3, ![4, 128, 256]⟩
abbrev S1x128x256 : Shape := ⟨3, ![1, 128, 256]⟩
abbrev S256x386 : Shape := ⟨2, ![256, 386]⟩
abbrev S4x256x386 : Shape := ⟨3, ![4, 256, 386]⟩
abbrev S1x256x386 : Shape := ⟨3, ![1, 256, 386]⟩
abbrev S512x352 : Shape := ⟨2, ![512, 352]⟩
abbrev S4x512x352 : Shape := ⟨3, ![4, 512, 352]⟩
abbrev S1x512x352 : Shape := ⟨3, ![1, 512, 352]⟩

abbrev nBuf : Space → Nat
  | .hbm => 56
  | .vmem => 112
  | .smem => 0
  | _ => 0

abbrev bufTy : (tb : Table) → Fin (tcTables nBuf tb) → BufTy
  | .hbm, ⟨0, _⟩ => ⟨S1024x384, .f32⟩
  | .hbm, ⟨1, _⟩ => ⟨S4x1024x384, .bf16⟩
  | .hbm, ⟨2, _⟩ => ⟨S1024x384, .f32⟩
  | .hbm, ⟨3, _⟩ => ⟨S1024x384, .f32⟩
  | .hbm, ⟨4, _⟩ => ⟨S128x1024, .f32⟩
  | .hbm, ⟨5, _⟩ => ⟨S4x128x1024, .bf16⟩
  | .hbm, ⟨6, _⟩ => ⟨S128x1024, .f32⟩
  | .hbm, ⟨7, _⟩ => ⟨S128x1024, .f32⟩
  | .hbm, ⟨8, _⟩ => ⟨S128x672, .f32⟩
  | .hbm, ⟨9, _⟩ => ⟨S4x128x672, .bf16⟩
  | .hbm, ⟨10, _⟩ => ⟨S128x672, .f32⟩
  | .hbm, ⟨11, _⟩ => ⟨S128x672, .f32⟩
  | .hbm, ⟨12, _⟩ => ⟨S384x192, .f32⟩
  | .hbm, ⟨13, _⟩ => ⟨S4x384x192, .bf16⟩
  | .hbm, ⟨14, _⟩ => ⟨S384x192, .f32⟩
  | .hbm, ⟨15, _⟩ => ⟨S384x192, .f32⟩
  | .hbm, ⟨16, _⟩ => ⟨S256x256, .f32⟩
  | .hbm, ⟨17, _⟩ => ⟨S4x256x256, .bf16⟩
  | .hbm, ⟨18, _⟩ => ⟨S256x256, .f32⟩
  | .hbm, ⟨19, _⟩ => ⟨S256x256, .f32⟩
  | .hbm, ⟨20, _⟩ => ⟨S1024x386, .f32⟩
  | .hbm, ⟨21, _⟩ => ⟨S4x1024x386, .bf16⟩
  | .hbm, ⟨22, _⟩ => ⟨S1024x386, .f32⟩
  | .hbm, ⟨23, _⟩ => ⟨S1024x386, .f32⟩
  | .hbm, ⟨24, _⟩ => ⟨S4096x352, .f32⟩
  | .hbm, ⟨25, _⟩ => ⟨S4x4096x352, .bf16⟩
  | .hbm, ⟨26, _⟩ => ⟨S4096x352, .f32⟩
  | .hbm, ⟨27, _⟩ => ⟨S4096x352, .f32⟩
  | .hbm, ⟨28, _⟩ => ⟨S1024x384, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x672, .f32⟩
  | .hbm, ⟨37, _⟩ => ⟨S128x672, .f32⟩
  | .hbm, ⟨38, _⟩ => ⟨S128x672, .f32⟩
  | .hbm, ⟨39, _⟩ => ⟨S128x672, .f32⟩
  | .hbm, ⟨40, _⟩ => ⟨S384x192, .f32⟩
  | .hbm, ⟨41, _⟩ => ⟨S384x192, .f32⟩
  | .hbm, ⟨42, _⟩ => ⟨S384x192, .f32⟩
  | .hbm, ⟨43, _⟩ => ⟨S384x192, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S1024x386, .f32⟩
  | .hbm, ⟨49, _⟩ => ⟨S1024x386, .f32⟩
  | .hbm, ⟨50, _⟩ => ⟨S1024x386, .f32⟩
  | .hbm, ⟨51, _⟩ => ⟨S1024x386, .f32⟩
  | .hbm, ⟨52, _⟩ => ⟨S4096x352, .f32⟩
  | .hbm, ⟨53, _⟩ => ⟨S4096x352, .f32⟩
  | .hbm, ⟨54, _⟩ => ⟨S4096x352, .f32⟩
  | .hbm, ⟨55, _⟩ => ⟨S4096x352, .f32⟩
  | .local _ .vmem, ⟨0, _⟩ => ⟨S512x384, .f32⟩
  | .local _ .vmem, ⟨1, _⟩ => ⟨S512x384, .f32⟩
  | .local _ .vmem, ⟨2, _⟩ => ⟨S4x512x384, .bf16⟩
  | .local _ .vmem, ⟨3, _⟩ => ⟨S4x512x384, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S64x1024, .f32⟩
  | .local _ .vmem, ⟨17, _⟩ => ⟨S64x1024, .f32⟩
  | .local _ .vmem, ⟨18, _⟩ => ⟨S4x64x1024, .bf16⟩
  | .local _ .vmem, ⟨19, _⟩ => ⟨S4x64x1024, .bf16⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x672, .f32⟩
  | .local _ .vmem, ⟨33, _⟩ => ⟨S64x672, .f32⟩
  | .local _ .vmem, ⟨34, _⟩ => ⟨S4x64x672, .bf16⟩
  | .local _ .vmem, ⟨35, _⟩ => ⟨S4x64x672, .bf16⟩
  | .local _ .vmem, ⟨36, _⟩ => ⟨S64x672, .f32⟩
  | .local _ .vmem, ⟨37, _⟩ => ⟨S64x672, .f32⟩
  | .local _ .vmem, ⟨38, _⟩ => ⟨S64x672, .f32⟩
  | .local _ .vmem, ⟨39, _⟩ => ⟨S64x672, .f32⟩
  | .local _ .vmem, ⟨40, _⟩ => ⟨S64x672, .f32⟩
  | .local _ .vmem, ⟨41, _⟩ => ⟨S64x672, .f32⟩
  | .local _ .vmem, ⟨42, _⟩ => ⟨S64x672, .f32⟩
  | .local _ .vmem, ⟨43, _⟩ => ⟨S64x672, .f32⟩
  | .local _ .vmem, ⟨44, _⟩ => ⟨S64x672, .f32⟩
  | .local _ .vmem, ⟨45, _⟩ => ⟨S64x672, .f32⟩
  | .local _ .vmem, ⟨46, _⟩ => ⟨S64x672, .f32⟩
  | .local _ .vmem, ⟨47, _⟩ => ⟨S64x672, .f32⟩
  | .local _ .vmem, ⟨48, _⟩ => ⟨S192x192, .f32⟩
  | .local _ .vmem, ⟨49, _⟩ => ⟨S192x192, .f32⟩
  | .local _ .vmem, ⟨50, _⟩ => ⟨S4x192x192, .bf16⟩
  | .local _ .vmem, ⟨51, _⟩ => ⟨S4x192x192, .bf16⟩
  | .local _ .vmem, ⟨52, _⟩ => ⟨S192x192, .f32⟩
  | .local _ .vmem, ⟨53, _⟩ => ⟨S192x192, .f32⟩
  | .local _ .vmem, ⟨54, _⟩ => ⟨S192x192, .f32⟩
  | .local _ .vmem, ⟨55, _⟩ => ⟨S192x192, .f32⟩
  | .local _ .vmem, ⟨56, _⟩ => ⟨S192x192, .f32⟩
  | .local _ .vmem, ⟨57, _⟩ => ⟨S192x192, .f32⟩
  | .local _ .vmem, ⟨58, _⟩ => ⟨S192x192, .f32⟩
  | .local _ .vmem, ⟨59, _⟩ => ⟨S192x192, .f32⟩
  | .local _ .vmem, ⟨60, _⟩ => ⟨S192x192, .f32⟩
  | .local _ .vmem, ⟨61, _⟩ => ⟨S192x192, .f32⟩
  | .local _ .vmem, ⟨62, _⟩ => ⟨S192x192, .f32⟩
  | .local _ .vmem, ⟨63, _⟩ => ⟨S192x192, .f32⟩
  | .local _ .vmem, ⟨64, _⟩ => ⟨S128x256, .f32⟩
  | .local _ .vmem, ⟨65, _⟩ => ⟨S128x256, .f32⟩
  | .local _ .vmem, ⟨66, _⟩ => ⟨S4x128x256, .bf16⟩
  | .local _ .vmem, ⟨67, _⟩ => ⟨S4x128x256, .bf16⟩
  | .local _ .vmem, ⟨68, _⟩ => ⟨S128x256, .f32⟩
  | .local _ .vmem, ⟨69, _⟩ => ⟨S128x256, .f32⟩
  | .local _ .vmem, ⟨70, _⟩ => ⟨S128x256, .f32⟩
  | .local _ .vmem, ⟨71, _⟩ => ⟨S128x256, .f32⟩
  | .local _ .vmem, ⟨72, _⟩ => ⟨S128x256, .f32⟩
  | .local _ .vmem, ⟨73, _⟩ => ⟨S128x256, .f32⟩
  | .local _ .vmem, ⟨74, _⟩ => ⟨S128x256, .f32⟩
  | .local _ .vmem, ⟨75, _⟩ => ⟨S128x256, .f32⟩
  | .local _ .vmem, ⟨76, _⟩ => ⟨S128x256, .f32⟩
  | .local _ .vmem, ⟨77, _⟩ => ⟨S128x256, .f32⟩
  | .local _ .vmem, ⟨78, _⟩ => ⟨S128x256, .f32⟩
  | .local _ .vmem, ⟨79, _⟩ => ⟨S128x256, .f32⟩
  | .local _ .vmem, ⟨80, _⟩ => ⟨S256x386, .f32⟩
  | .local _ .vmem, ⟨81, _⟩ => ⟨S256x386, .f32⟩
  | .local _ .vmem, ⟨82, _⟩ => ⟨S4x256x386, .bf16⟩
  | .local _ .vmem, ⟨83, _⟩ => ⟨S4x256x386, .bf16⟩
  | .local _ .vmem, ⟨84, _⟩ => ⟨S256x386, .f32⟩
  | .local _ .vmem, ⟨85, _⟩ => ⟨S256x386, .f32⟩
  | .local _ .vmem, ⟨86, _⟩ => ⟨S256x386, .f32⟩
  | .local _ .vmem, ⟨87, _⟩ => ⟨S256x386, .f32⟩
  | .local _ .vmem, ⟨88, _⟩ => ⟨S256x386, .f32⟩
  | .local _ .vmem, ⟨89, _⟩ => ⟨S256x386, .f32⟩
  | .local _ .vmem, ⟨90, _⟩ => ⟨S256x386, .f32⟩
  | .local _ .vmem, ⟨91, _⟩ => ⟨S256x386, .f32⟩
  | .local _ .vmem, ⟨92, _⟩ => ⟨S256x386, .f32⟩
  | .local _ .vmem, ⟨93, _⟩ => ⟨S256x386, .f32⟩
  | .local _ .vmem, ⟨94, _⟩ => ⟨S256x386, .f32⟩
  | .local _ .vmem, ⟨95, _⟩ => ⟨S256x386, .f32⟩
  | .local _ .vmem, ⟨96, _⟩ => ⟨S512x352, .f32⟩
  | .local _ .vmem, ⟨97, _⟩ => ⟨S512x352, .f32⟩
  | .local _ .vmem, ⟨98, _⟩ => ⟨S4x512x352, .bf16⟩
  | .local _ .vmem, ⟨99, _⟩ => ⟨S4x512x352, .bf16⟩
  | .local _ .vmem, ⟨100, _⟩ => ⟨S512x352, .f32⟩
  | .local _ .vmem, ⟨101, _⟩ => ⟨S512x352, .f32⟩
  | .local _ .vmem, ⟨102, _⟩ => ⟨S512x352, .f32⟩
  | .local _ .vmem, ⟨103, _⟩ => ⟨S512x352, .f32⟩
  | .local _ .vmem, ⟨104, _⟩ => ⟨S512x352, .f32⟩
  | .local _ .vmem, ⟨105, _⟩ => ⟨S512x352, .f32⟩
  | .local _ .vmem, ⟨106, _⟩ => ⟨S512x352, .f32⟩
  | .local _ .vmem, ⟨107, _⟩ => ⟨S512x352, .f32⟩
  | .local _ .vmem, ⟨108, _⟩ => ⟨S512x352, .f32⟩
  | .local _ .vmem, ⟨109, _⟩ => ⟨S512x352, .f32⟩
  | .local _ .vmem, ⟨110, _⟩ => ⟨S512x352, .f32⟩
  | .local _ .vmem, ⟨111, _⟩ => ⟨S512x352, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v0_3 : Ref sig .tc := ⟨.hbm, 31, rfl⟩
abbrev main_v1_0 : Ref sig .tc := ⟨.hbm, 32, rfl⟩
abbrev main_v1_1 : Ref sig .tc := ⟨.hbm, 33, rfl⟩
abbrev main_v1_2 : Ref sig .tc := ⟨.hbm, 34, rfl⟩
abbrev main_v1_3 : Ref sig .tc := ⟨.hbm, 35, rfl⟩
abbrev main_v2_0 : Ref sig .tc := ⟨.hbm, 36, rfl⟩
abbrev main_v2_1 : Ref sig .tc := ⟨.hbm, 37, rfl⟩
abbrev main_v2_2 : Ref sig .tc := ⟨.hbm, 38, rfl⟩
abbrev main_v2_3 : Ref sig .tc := ⟨.hbm, 39, rfl⟩
abbrev main_v3_0 : Ref sig .tc := ⟨.hbm, 40, rfl⟩
abbrev main_v3_1 : Ref sig .tc := ⟨.hbm, 41, rfl⟩
abbrev main_v3_2 : Ref sig .tc := ⟨.hbm, 42, rfl⟩
abbrev main_v3_3 : Ref sig .tc := ⟨.hbm, 43, rfl⟩
abbrev main_v4_0 : Ref sig .tc := ⟨.hbm, 44, rfl⟩
abbrev main_v4_1 : Ref sig .tc := ⟨.hbm, 45, rfl⟩
abbrev main_v4_2 : Ref sig .tc := ⟨.hbm, 46, rfl⟩
abbrev main_v4_3 : Ref sig .tc := ⟨.hbm, 47, rfl⟩
abbrev main_v5_0 : Ref sig .tc := ⟨.hbm, 48, rfl⟩
abbrev main_v5_1 : Ref sig .tc := ⟨.hbm, 49, rfl⟩
abbrev main_v5_2 : Ref sig .tc := ⟨.hbm, 50, rfl⟩
abbrev main_v5_3 : Ref sig .tc := ⟨.hbm, 51, rfl⟩
abbrev main_v6_0 : Ref sig .tc := ⟨.hbm, 52, rfl⟩
abbrev main_v6_1 : Ref sig .tc := ⟨.hbm, 53, rfl⟩
abbrev main_v6_2 : Ref sig .tc := ⟨.hbm, 54, rfl⟩
abbrev main_v6_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg5_1 : Ref sig .tc := ⟨.vmem, 75, rfl⟩
abbrev cc4_stg6_0 : Ref sig .tc := ⟨.vmem, 76, rfl⟩
abbrev cc4_stg6_1 : Ref sig .tc := ⟨.vmem, 77, rfl⟩
abbrev cc4_stg7_0 : Ref sig .tc := ⟨.vmem, 78, rfl⟩
abbrev cc4_stg7_1 : Ref sig .tc := ⟨.vmem, 79, rfl⟩
abbrev cc5_stg0_0 : Ref sig .tc := ⟨.vmem, 80, rfl⟩
abbrev cc5_stg0_1 : Ref sig .tc := ⟨.vmem, 81, rfl⟩
abbrev cc5_stg1_0 : Ref sig .tc := ⟨.vmem, 82, rfl⟩
abbrev cc5_stg1_1 : Ref sig .tc := ⟨.vmem, 83, rfl⟩
abbrev cc5_stg2_0 : Ref sig .tc := ⟨.vmem, 84, rfl⟩
abbrev cc5_stg2_1 : Ref sig .tc := ⟨.vmem, 85, rfl⟩
abbrev cc5_stg3_0 : Ref sig .tc := ⟨.vmem, 86, rfl⟩
abbrev cc5_stg3_1 : Ref sig .tc := ⟨.vmem, 87, rfl⟩
abbrev cc5_stg4_0 : Ref sig .tc := ⟨.vmem, 88, rfl⟩
abbrev cc5_stg4_1 : Ref sig .tc := ⟨.vmem, 89, rfl⟩
abbrev cc5_stg5_0 : Ref sig .tc := ⟨.vmem, 90, rfl⟩
abbrev cc5_stg5_1 : Ref sig .tc := ⟨.vmem, 91, rfl⟩
abbrev cc5_stg6_0 : Ref sig .tc := ⟨.vmem, 92, rfl⟩
abbrev cc5_stg6_1 : Ref sig .tc := ⟨.vmem, 93, rfl⟩
abbrev cc5_stg7_0 : Ref sig .tc := ⟨.vmem, 94, rfl⟩
abbrev cc5_stg7_1 : Ref sig .tc := ⟨.vmem, 95, rfl⟩
abbrev cc6_stg0_0 : Ref sig .tc := ⟨.vmem, 96, rfl⟩
abbrev cc6_stg0_1 : Ref sig .tc := ⟨.vmem, 97, rfl⟩
abbrev cc6_stg1_0 : Ref sig .tc := ⟨.vmem, 98, rfl⟩
abbrev cc6_stg1_1 : Ref sig .tc := ⟨.vmem, 99, rfl⟩
abbrev cc6_stg2_0 : Ref sig .tc := ⟨.vmem, 100, rfl⟩
abbrev cc6_stg2_1 : Ref sig .tc := ⟨.vmem, 101, rfl⟩
abbrev cc6_stg3_0 : Ref sig .tc := ⟨.vmem, 102, rfl⟩
abbrev cc6_stg3_1 : Ref sig .tc := ⟨.vmem, 103, rfl⟩
abbrev cc6_stg4_0 : Ref sig .tc := ⟨.vmem, 104, rfl⟩
abbrev cc6_stg4_1 : Ref sig .tc := ⟨.vmem, 105, rfl⟩
abbrev cc6_stg5_0 : Ref sig .tc := ⟨.vmem, 106, rfl⟩
abbrev cc6_stg5_1 : Ref sig .tc := ⟨.vmem, 107, rfl⟩
abbrev cc6_stg6_0 : Ref sig .tc := ⟨.vmem, 108, rfl⟩
abbrev cc6_stg6_1 : Ref sig .tc := ⟨.vmem, 109, rfl⟩
abbrev cc6_stg7_0 : Ref sig .tc := ⟨.vmem, 110, rfl⟩
abbrev cc6_stg7_1 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem5_1 : DmaSem sig := 75
abbrev cc4_sem6_0 : DmaSem sig := 76
abbrev cc4_sem6_1 : DmaSem sig := 77
abbrev cc4_sem7_0 : DmaSem sig := 78
abbrev cc4_sem7_1 : DmaSem sig := 79
abbrev cc5_sem0_0 : DmaSem sig := 80
abbrev cc5_sem0_1 : DmaSem sig := 81
abbrev cc5_sem1_0 : DmaSem sig := 82
abbrev cc5_sem1_1 : DmaSem sig := 83
abbrev cc5_sem2_0 : DmaSem sig := 84
abbrev cc5_sem2_1 : DmaSem sig := 85
abbrev cc5_sem3_0 : DmaSem sig := 86
abbrev cc5_sem3_1 : DmaSem sig := 87
abbrev cc5_sem4_0 : DmaSem sig := 88
abbrev cc5_sem4_1 : DmaSem sig := 89
abbrev cc5_sem5_0 : DmaSem sig := 90
abbrev cc5_sem5_1 : DmaSem sig := 91
abbrev cc5_sem6_0 : DmaSem sig := 92
abbrev cc5_sem6_1 : DmaSem sig := 93
abbrev cc5_sem7_0 : DmaSem sig := 94
abbrev cc5_sem7_1 : DmaSem sig := 95
abbrev cc6_sem0_0 : DmaSem sig := 96
abbrev cc6_sem0_1 : DmaSem sig := 97
abbrev cc6_sem1_0 : DmaSem sig := 98
abbrev cc6_sem1_1 : DmaSem sig := 99
abbrev cc6_sem2_0 : DmaSem sig := 100
abbrev cc6_sem2_1 : DmaSem sig := 101
abbrev cc6_sem3_0 : DmaSem sig := 102
abbrev cc6_sem3_1 : DmaSem sig := 103
abbrev cc6_sem4_0 : DmaSem sig := 104
abbrev cc6_sem4_1 : DmaSem sig := 105
abbrev cc6_sem5_0 : DmaSem sig := 106
abbrev cc6_sem5_1 : DmaSem sig := 107
abbrev cc6_sem6_0 : DmaSem sig := 108
abbrev cc6_sem6_1 : DmaSem sig := 109
abbrev cc6_sem7_0 : DmaSem sig := 110
abbrev cc6_sem7_1 : DmaSem sig := 111

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x672 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x64x672 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x672 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x672 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x672 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S64x672 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S64x672 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S64x672 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S192x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x192x192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S192x192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S192x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S192x192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S192x192 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S192x192 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S192x192 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4x128x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S128x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S128x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S128x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S128x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S128x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x386 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4x256x386 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x386 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x386 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x386 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x386 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x386 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x386 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x352 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4x512x352 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x352 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x352 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x352 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x352 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x352 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x352 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]
-- ==== Kernel6Ideal.lean ====
abbrev S1024x384 : Shape := ⟨2, ![1024, 384]⟩
abbrev S4x1024x384 : Shape := ⟨3, ![4, 1024, 384]⟩
abbrev S128x1024 : Shape := ⟨2, ![128, 1024]⟩
abbrev S4x128x1024 : Shape := ⟨3, ![4, 128, 1024]⟩
abbrev S128x672 : Shape := ⟨2, ![128, 672]⟩
abbrev S4x128x672 : Shape := ⟨3, ![4, 128, 672]⟩
abbrev S384x192 : Shape := ⟨2, ![384, 192]⟩
abbrev S4x384x192 : Shape := ⟨3, ![4, 384, 192]⟩
abbrev S256x256 : Shape := ⟨2, ![256, 256]⟩
abbrev S4x256x256 : Shape := ⟨3, ![4, 256, 256]⟩
abbrev S1024x386 : Shape := ⟨2, ![1024, 386]⟩
abbrev S4x1024x386 : Shape := ⟨3, ![4, 1024, 386]⟩
abbrev S4096x352 : Shape := ⟨2, ![4096, 352]⟩
abbrev S4x4096x352 : Shape := ⟨3, ![4, 4096, 352]⟩
abbrev S512x384 : Shape := ⟨2, ![512, 384]⟩
abbrev S4x512x384 : Shape := ⟨3, ![4, 512, 384]⟩
abbrev S1x512x384 : Shape := ⟨3, ![1, 512, 384]⟩
abbrev S64x1024 : Shape := ⟨2, ![64, 1024]⟩
abbrev S4x64x1024 : Shape := ⟨3, ![4, 64, 1024]⟩
abbrev S1x64x1024 : Shape := ⟨3, ![1, 64, 1024]⟩
abbrev S64x672 : Shape := ⟨2, ![64, 672]⟩
abbrev S4x64x672 : Shape := ⟨3, ![4, 64, 672]⟩
abbrev S1x64x672 : Shape := ⟨3, ![1, 64, 672]⟩
abbrev S192x192 : Shape := ⟨2, ![192, 192]⟩
abbrev S4x192x192 : Shape := ⟨3, ![4, 192, 192]⟩
abbrev S1x192x192 : Shape := ⟨3, ![1, 192, 192]⟩
abbrev S128x256 : Shape := ⟨2, ![128, 256]⟩
abbrev S4x128x256 : Shape := ⟨3, ![4, 128, 256]⟩
abbrev S1x128x256 : Shape := ⟨3, ![1, 128, 256]⟩
abbrev S256x386 : Shape := ⟨2, ![256, 386]⟩
abbrev S4x256x386 : Shape := ⟨3, ![4, 256, 386]⟩
abbrev S1x256x386 : Shape := ⟨3, ![1, 256, 386]⟩
abbrev S512x352 : Shape := ⟨2, ![512, 352]⟩
abbrev S4x512x352 : Shape := ⟨3, ![4, 512, 352]⟩
abbrev S1x512x352 : Shape := ⟨3, ![1, 512, 352]⟩

abbrev nBuf : Space → Nat
  | .hbm => 56
  | .vmem => 112
  | .smem => 0
  | _ => 0

abbrev bufTy : (tb : Table) → Fin (tcTables nBuf tb) → BufTy
  | .hbm, ⟨0, _⟩ => ⟨S1024x384, .f32⟩
  | .hbm, ⟨1, _⟩ => ⟨S4x1024x384, .bf16⟩
  | .hbm, ⟨2, _⟩ => ⟨S1024x384, .f32⟩
  | .hbm, ⟨3, _⟩ => ⟨S1024x384, .f32⟩
  | .hbm, ⟨4, _⟩ => ⟨S128x1024, .f32⟩
  | .hbm, ⟨5, _⟩ => ⟨S4x128x1024, .bf16⟩
  | .hbm, ⟨6, _⟩ => ⟨S128x1024, .f32⟩
  | .hbm, ⟨7, _⟩ => ⟨S128x1024, .f32⟩
  | .hbm, ⟨8, _⟩ => ⟨S128x672, .f32⟩
  | .hbm, ⟨9, _⟩ => ⟨S4x128x672, .bf16⟩
  | .hbm, ⟨10, _⟩ => ⟨S128x672, .f32⟩
  | .hbm, ⟨11, _⟩ => ⟨S128x672, .f32⟩
  | .hbm, ⟨12, _⟩ => ⟨S384x192, .f32⟩
  | .hbm, ⟨13, _⟩ => ⟨S4x384x192, .bf16⟩
  | .hbm, ⟨14, _⟩ => ⟨S384x192, .f32⟩
  | .hbm, ⟨15, _⟩ => ⟨S384x192, .f32⟩
  | .hbm, ⟨16, _⟩ => ⟨S256x256, .f32⟩
  | .hbm, ⟨17, _⟩ => ⟨S4x256x256, .bf16⟩
  | .hbm, ⟨18, _⟩ => ⟨S256x256, .f32⟩
  | .hbm, ⟨19, _⟩ => ⟨S256x256, .f32⟩
  | .hbm, ⟨20, _⟩ => ⟨S1024x386, .f32⟩
  | .hbm, ⟨21, _⟩ => ⟨S4x1024x386, .bf16⟩
  | .hbm, ⟨22, _⟩ => ⟨S1024x386, .f32⟩
  | .hbm, ⟨23, _⟩ => ⟨S1024x386, .f32⟩
  | .hbm, ⟨24, _⟩ => ⟨S4096x352, .f32⟩
  | .hbm, ⟨25, _⟩ => ⟨S4x4096x352, .bf16⟩
  | .hbm, ⟨26, _⟩ => ⟨S4096x352, .f32⟩
  | .hbm, ⟨27, _⟩ => ⟨S4096x352, .f32⟩
  | .hbm, ⟨28, _⟩ => ⟨S1024x384, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x672, .f32⟩
  | .hbm, ⟨37, _⟩ => ⟨S128x672, .f32⟩
  | .hbm, ⟨38, _⟩ => ⟨S128x672, .f32⟩
  | .hbm, ⟨39, _⟩ => ⟨S128x672, .f32⟩
  | .hbm, ⟨40, _⟩ => ⟨S384x192, .f32⟩
  | .hbm, ⟨41, _⟩ => ⟨S384x192, .f32⟩
  | .hbm, ⟨42, _⟩ => ⟨S384x192, .f32⟩
  | .hbm, ⟨43, _⟩ => ⟨S384x192, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S1024x386, .f32⟩
  | .hbm, ⟨49, _⟩ => ⟨S1024x386, .f32⟩
  | .hbm, ⟨50, _⟩ => ⟨S1024x386, .f32⟩
  | .hbm, ⟨51, _⟩ => ⟨S1024x386, .f32⟩
  | .hbm, ⟨52, _⟩ => ⟨S4096x352, .f32⟩
  | .hbm, ⟨53, _⟩ => ⟨S4096x352, .f32⟩
  | .hbm, ⟨54, _⟩ => ⟨S4096x352, .f32⟩
  | .hbm, ⟨55, _⟩ => ⟨S4096x352, .f32⟩
  | .local _ .vmem, ⟨0, _⟩ => ⟨S512x384, .f32⟩
  | .local _ .vmem, ⟨1, _⟩ => ⟨S512x384, .f32⟩
  | .local _ .vmem, ⟨2, _⟩ => ⟨S4x512x384, .bf16⟩
  | .local _ .vmem, ⟨3, _⟩ => ⟨S4x512x384, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S64x1024, .f32⟩
  | .local _ .vmem, ⟨17, _⟩ => ⟨S64x1024, .f32⟩
  | .local _ .vmem, ⟨18, _⟩ => ⟨S4x64x1024, .bf16⟩
  | .local _ .vmem, ⟨19, _⟩ => ⟨S4x64x1024, .bf16⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x672, .f32⟩
  | .local _ .vmem, ⟨33, _⟩ => ⟨S64x672, .f32⟩
  | .local _ .vmem, ⟨34, _⟩ => ⟨S4x64x672, .bf16⟩
  | .local _ .vmem, ⟨35, _⟩ => ⟨S4x64x672, .bf16⟩
  | .local _ .vmem, ⟨36, _⟩ => ⟨S64x672, .f32⟩
  | .local _ .vmem, ⟨37, _⟩ => ⟨S64x672, .f32⟩
  | .local _ .vmem, ⟨38, _⟩ => ⟨S64x672, .f32⟩
  | .local _ .vmem, ⟨39, _⟩ => ⟨S64x672, .f32⟩
  | .local _ .vmem, ⟨40, _⟩ => ⟨S64x672, .f32⟩
  | .local _ .vmem, ⟨41, _⟩ => ⟨S64x672, .f32⟩
  | .local _ .vmem, ⟨42, _⟩ => ⟨S64x672, .f32⟩
  | .local _ .vmem, ⟨43, _⟩ => ⟨S64x672, .f32⟩
  | .local _ .vmem, ⟨44, _⟩ => ⟨S64x672, .f32⟩
  | .local _ .vmem, ⟨45, _⟩ => ⟨S64x672, .f32⟩
  | .local _ .vmem, ⟨46, _⟩ => ⟨S64x672, .f32⟩
  | .local _ .vmem, ⟨47, _⟩ => ⟨S64x672, .f32⟩
  | .local _ .vmem, ⟨48, _⟩ => ⟨S192x192, .f32⟩
  | .local _ .vmem, ⟨49, _⟩ => ⟨S192x192, .f32⟩
  | .local _ .vmem, ⟨50, _⟩ => ⟨S4x192x192, .bf16⟩
  | .local _ .vmem, ⟨51, _⟩ => ⟨S4x192x192, .bf16⟩
  | .local _ .vmem, ⟨52, _⟩ => ⟨S192x192, .f32⟩
  | .local _ .vmem, ⟨53, _⟩ => ⟨S192x192, .f32⟩
  | .local _ .vmem, ⟨54, _⟩ => ⟨S192x192, .f32⟩
  | .local _ .vmem, ⟨55, _⟩ => ⟨S192x192, .f32⟩
  | .local _ .vmem, ⟨56, _⟩ => ⟨S192x192, .f32⟩
  | .local _ .vmem, ⟨57, _⟩ => ⟨S192x192, .f32⟩
  | .local _ .vmem, ⟨58, _⟩ => ⟨S192x192, .f32⟩
  | .local _ .vmem, ⟨59, _⟩ => ⟨S192x192, .f32⟩
  | .local _ .vmem, ⟨60, _⟩ => ⟨S192x192, .f32⟩
  | .local _ .vmem, ⟨61, _⟩ => ⟨S192x192, .f32⟩
  | .local _ .vmem, ⟨62, _⟩ => ⟨S192x192, .f32⟩
  | .local _ .vmem, ⟨63, _⟩ => ⟨S192x192, .f32⟩
  | .local _ .vmem, ⟨64, _⟩ => ⟨S128x256, .f32⟩
  | .local _ .vmem, ⟨65, _⟩ => ⟨S128x256, .f32⟩
  | .local _ .vmem, ⟨66, _⟩ => ⟨S4x128x256, .bf16⟩
  | .local _ .vmem, ⟨67, _⟩ => ⟨S4x128x256, .bf16⟩
  | .local _ .vmem, ⟨68, _⟩ => ⟨S128x256, .f32⟩
  | .local _ .vmem, ⟨69, _⟩ => ⟨S128x256, .f32⟩
  | .local _ .vmem, ⟨70, _⟩ => ⟨S128x256, .f32⟩
  | .local _ .vmem, ⟨71, _⟩ => ⟨S128x256, .f32⟩
  | .local _ .vmem, ⟨72, _⟩ => ⟨S128x256, .f32⟩
  | .local _ .vmem, ⟨73, _⟩ => ⟨S128x256, .f32⟩
  | .local _ .vmem, ⟨74, _⟩ => ⟨S128x256, .f32⟩
  | .local _ .vmem, ⟨75, _⟩ => ⟨S128x256, .f32⟩
  | .local _ .vmem, ⟨76, _⟩ => ⟨S128x256, .f32⟩
  | .local _ .vmem, ⟨77, _⟩ => ⟨S128x256, .f32⟩
  | .local _ .vmem, ⟨78, _⟩ => ⟨S128x256, .f32⟩
  | .local _ .vmem, ⟨79, _⟩ => ⟨S128x256, .f32⟩
  | .local _ .vmem, ⟨80, _⟩ => ⟨S256x386, .f32⟩
  | .local _ .vmem, ⟨81, _⟩ => ⟨S256x386, .f32⟩
  | .local _ .vmem, ⟨82, _⟩ => ⟨S4x256x386, .bf16⟩
  | .local _ .vmem, ⟨83, _⟩ => ⟨S4x256x386, .bf16⟩
  | .local _ .vmem, ⟨84, _⟩ => ⟨S256x386, .f32⟩
  | .local _ .vmem, ⟨85, _⟩ => ⟨S256x386, .f32⟩
  | .local _ .vmem, ⟨86, _⟩ => ⟨S256x386, .f32⟩
  | .local _ .vmem, ⟨87, _⟩ => ⟨S256x386, .f32⟩
  | .local _ .vmem, ⟨88, _⟩ => ⟨S256x386, .f32⟩
  | .local _ .vmem, ⟨89, _⟩ => ⟨S256x386, .f32⟩
  | .local _ .vmem, ⟨90, _⟩ => ⟨S256x386, .f32⟩
  | .local _ .vmem, ⟨91, _⟩ => ⟨S256x386, .f32⟩
  | .local _ .vmem, ⟨92, _⟩ => ⟨S256x386, .f32⟩
  | .local _ .vmem, ⟨93, _⟩ => ⟨S256x386, .f32⟩
  | .local _ .vmem, ⟨94, _⟩ => ⟨S256x386, .f32⟩
  | .local _ .vmem, ⟨95, _⟩ => ⟨S256x386, .f32⟩
  | .local _ .vmem, ⟨96, _⟩ => ⟨S512x352, .f32⟩
  | .local _ .vmem, ⟨97, _⟩ => ⟨S512x352, .f32⟩
  | .local _ .vmem, ⟨98, _⟩ => ⟨S4x512x352, .bf16⟩
  | .local _ .vmem, ⟨99, _⟩ => ⟨S4x512x352, .bf16⟩
  | .local _ .vmem, ⟨100, _⟩ => ⟨S512x352, .f32⟩
  | .local _ .vmem, ⟨101, _⟩ => ⟨S512x352, .f32⟩
  | .local _ .vmem, ⟨102, _⟩ => ⟨S512x352, .f32⟩
  | .local _ .vmem, ⟨103, _⟩ => ⟨S512x352, .f32⟩
  | .local _ .vmem, ⟨104, _⟩ => ⟨S512x352, .f32⟩
  | .local _ .vmem, ⟨105, _⟩ => ⟨S512x352, .f32⟩
  | .local _ .vmem, ⟨106, _⟩ => ⟨S512x352, .f32⟩
  | .local _ .vmem, ⟨107, _⟩ => ⟨S512x352, .f32⟩
  | .local _ .vmem, ⟨108, _⟩ => ⟨S512x352, .f32⟩
  | .local _ .vmem, ⟨109, _⟩ => ⟨S512x352, .f32⟩
  | .local _ .vmem, ⟨110, _⟩ => ⟨S512x352, .f32⟩
  | .local _ .vmem, ⟨111, _⟩ => ⟨S512x352, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v0_3 : Ref sig .tc := ⟨.hbm, 31, rfl⟩
abbrev main_v1_0 : Ref sig .tc := ⟨.hbm, 32, rfl⟩
abbrev main_v1_1 : Ref sig .tc := ⟨.hbm, 33, rfl⟩
abbrev main_v1_2 : Ref sig .tc := ⟨.hbm, 34, rfl⟩
abbrev main_v1_3 : Ref sig .tc := ⟨.hbm, 35, rfl⟩
abbrev main_v2_0 : Ref sig .tc := ⟨.hbm, 36, rfl⟩
abbrev main_v2_1 : Ref sig .tc := ⟨.hbm, 37, rfl⟩
abbrev main_v2_2 : Ref sig .tc := ⟨.hbm, 38, rfl⟩
abbrev main_v2_3 : Ref sig .tc := ⟨.hbm, 39, rfl⟩
abbrev main_v3_0 : Ref sig .tc := ⟨.hbm, 40, rfl⟩
abbrev main_v3_1 : Ref sig .tc := ⟨.hbm, 41, rfl⟩
abbrev main_v3_2 : Ref sig .tc := ⟨.hbm, 42, rfl⟩
abbrev main_v3_3 : Ref sig .tc := ⟨.hbm, 43, rfl⟩
abbrev main_v4_0 : Ref sig .tc := ⟨.hbm, 44, rfl⟩
abbrev main_v4_1 : Ref sig .tc := ⟨.hbm, 45, rfl⟩
abbrev main_v4_2 : Ref sig .tc := ⟨.hbm, 46, rfl⟩
abbrev main_v4_3 : Ref sig .tc := ⟨.hbm, 47, rfl⟩
abbrev main_v5_0 : Ref sig .tc := ⟨.hbm, 48, rfl⟩
abbrev main_v5_1 : Ref sig .tc := ⟨.hbm, 49, rfl⟩
abbrev main_v5_2 : Ref sig .tc := ⟨.hbm, 50, rfl⟩
abbrev main_v5_3 : Ref sig .tc := ⟨.hbm, 51, rfl⟩
abbrev main_v6_0 : Ref sig .tc := ⟨.hbm, 52, rfl⟩
abbrev main_v6_1 : Ref sig .tc := ⟨.hbm, 53, rfl⟩
abbrev main_v6_2 : Ref sig .tc := ⟨.hbm, 54, rfl⟩
abbrev main_v6_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg5_1 : Ref sig .tc := ⟨.vmem, 75, rfl⟩
abbrev cc4_stg6_0 : Ref sig .tc := ⟨.vmem, 76, rfl⟩
abbrev cc4_stg6_1 : Ref sig .tc := ⟨.vmem, 77, rfl⟩
abbrev cc4_stg7_0 : Ref sig .tc := ⟨.vmem, 78, rfl⟩
abbrev cc4_stg7_1 : Ref sig .tc := ⟨.vmem, 79, rfl⟩
abbrev cc5_stg0_0 : Ref sig .tc := ⟨.vmem, 80, rfl⟩
abbrev cc5_stg0_1 : Ref sig .tc := ⟨.vmem, 81, rfl⟩
abbrev cc5_stg1_0 : Ref sig .tc := ⟨.vmem, 82, rfl⟩
abbrev cc5_stg1_1 : Ref sig .tc := ⟨.vmem, 83, rfl⟩
abbrev cc5_stg2_0 : Ref sig .tc := ⟨.vmem, 84, rfl⟩
abbrev cc5_stg2_1 : Ref sig .tc := ⟨.vmem, 85, rfl⟩
abbrev cc5_stg3_0 : Ref sig .tc := ⟨.vmem, 86, rfl⟩
abbrev cc5_stg3_1 : Ref sig .tc := ⟨.vmem, 87, rfl⟩
abbrev cc5_stg4_0 : Ref sig .tc := ⟨.vmem, 88, rfl⟩
abbrev cc5_stg4_1 : Ref sig .tc := ⟨.vmem, 89, rfl⟩
abbrev cc5_stg5_0 : Ref sig .tc := ⟨.vmem, 90, rfl⟩
abbrev cc5_stg5_1 : Ref sig .tc := ⟨.vmem, 91, rfl⟩
abbrev cc5_stg6_0 : Ref sig .tc := ⟨.vmem, 92, rfl⟩
abbrev cc5_stg6_1 : Ref sig .tc := ⟨.vmem, 93, rfl⟩
abbrev cc5_stg7_0 : Ref sig .tc := ⟨.vmem, 94, rfl⟩
abbrev cc5_stg7_1 : Ref sig .tc := ⟨.vmem, 95, rfl⟩
abbrev cc6_stg0_0 : Ref sig .tc := ⟨.vmem, 96, rfl⟩
abbrev cc6_stg0_1 : Ref sig .tc := ⟨.vmem, 97, rfl⟩
abbrev cc6_stg1_0 : Ref sig .tc := ⟨.vmem, 98, rfl⟩
abbrev cc6_stg1_1 : Ref sig .tc := ⟨.vmem, 99, rfl⟩
abbrev cc6_stg2_0 : Ref sig .tc := ⟨.vmem, 100, rfl⟩
abbrev cc6_stg2_1 : Ref sig .tc := ⟨.vmem, 101, rfl⟩
abbrev cc6_stg3_0 : Ref sig .tc := ⟨.vmem, 102, rfl⟩
abbrev cc6_stg3_1 : Ref sig .tc := ⟨.vmem, 103, rfl⟩
abbrev cc6_stg4_0 : Ref sig .tc := ⟨.vmem, 104, rfl⟩
abbrev cc6_stg4_1 : Ref sig .tc := ⟨.vmem, 105, rfl⟩
abbrev cc6_stg5_0 : Ref sig .tc := ⟨.vmem, 106, rfl⟩
abbrev cc6_stg5_1 : Ref sig .tc := ⟨.vmem, 107, rfl⟩
abbrev cc6_stg6_0 : Ref sig .tc := ⟨.vmem, 108, rfl⟩
abbrev cc6_stg6_1 : Ref sig .tc := ⟨.vmem, 109, rfl⟩
abbrev cc6_stg7_0 : Ref sig .tc := ⟨.vmem, 110, rfl⟩
abbrev cc6_stg7_1 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem5_1 : DmaSem sig := 75
abbrev cc4_sem6_0 : DmaSem sig := 76
abbrev cc4_sem6_1 : DmaSem sig := 77
abbrev cc4_sem7_0 : DmaSem sig := 78
abbrev cc4_sem7_1 : DmaSem sig := 79
abbrev cc5_sem0_0 : DmaSem sig := 80
abbrev cc5_sem0_1 : DmaSem sig := 81
abbrev cc5_sem1_0 : DmaSem sig := 82
abbrev cc5_sem1_1 : DmaSem sig := 83
abbrev cc5_sem2_0 : DmaSem sig := 84
abbrev cc5_sem2_1 : DmaSem sig := 85
abbrev cc5_sem3_0 : DmaSem sig := 86
abbrev cc5_sem3_1 : DmaSem sig := 87
abbrev cc5_sem4_0 : DmaSem sig := 88
abbrev cc5_sem4_1 : DmaSem sig := 89
abbrev cc5_sem5_0 : DmaSem sig := 90
abbrev cc5_sem5_1 : DmaSem sig := 91
abbrev cc5_sem6_0 : DmaSem sig := 92
abbrev cc5_sem6_1 : DmaSem sig := 93
abbrev cc5_sem7_0 : DmaSem sig := 94
abbrev cc5_sem7_1 : DmaSem sig := 95
abbrev cc6_sem0_0 : DmaSem sig := 96
abbrev cc6_sem0_1 : DmaSem sig := 97
abbrev cc6_sem1_0 : DmaSem sig := 98
abbrev cc6_sem1_1 : DmaSem sig := 99
abbrev cc6_sem2_0 : DmaSem sig := 100
abbrev cc6_sem2_1 : DmaSem sig := 101
abbrev cc6_sem3_0 : DmaSem sig := 102
abbrev cc6_sem3_1 : DmaSem sig := 103
abbrev cc6_sem4_0 : DmaSem sig := 104
abbrev cc6_sem4_1 : DmaSem sig := 105
abbrev cc6_sem5_0 : DmaSem sig := 106
abbrev cc6_sem5_1 : DmaSem sig := 107
abbrev cc6_sem6_0 : DmaSem sig := 108
abbrev cc6_sem6_1 : DmaSem sig := 109
abbrev cc6_sem7_0 : DmaSem sig := 110
abbrev cc6_sem7_1 : DmaSem sig := 111

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x672 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x64x672 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x672 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x672 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x672 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S64x672 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S64x672 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S64x672 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S192x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x192x192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S192x192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S192x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S192x192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S192x192 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S192x192 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S192x192 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4x128x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S128x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S128x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S128x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S128x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S128x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x386 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4x256x386 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x386 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x386 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x386 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x386 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x386 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x386 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x352 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4x512x352 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x352 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x352 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x352 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x352 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x352 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x352 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]
-- ==== Reference6Ideal.lean ====
abbrev S1024x384 : Shape := ⟨2, ![1024, 384]⟩
abbrev S4x1024x384 : Shape := ⟨3, ![4, 1024, 384]⟩
abbrev S128x1024 : Shape := ⟨2, ![128, 1024]⟩
abbrev S4x128x1024 : Shape := ⟨3, ![4, 128, 1024]⟩
abbrev S128x672 : Shape := ⟨2, ![128, 672]⟩
abbrev S4x128x672 : Shape := ⟨3, ![4, 128, 672]⟩
abbrev S384x192 : Shape := ⟨2, ![384, 192]⟩
abbrev S4x384x192 : Shape := ⟨3, ![4, 384, 192]⟩
abbrev S256x256 : Shape := ⟨2, ![256, 256]⟩
abbrev S4x256x256 : Shape := ⟨3, ![4, 256, 256]⟩
abbrev S1024x386 : Shape := ⟨2, ![1024, 386]⟩
abbrev S4x1024x386 : Shape := ⟨3, ![4, 1024, 386]⟩
abbrev S4096x352 : Shape := ⟨2, ![4096, 352]⟩
abbrev S4x4096x352 : Shape := ⟨3, ![4, 4096, 352]⟩
abbrev S_ : Shape := ⟨0, ![]⟩

abbrev nBuf : Space → Nat
  | .hbm => 280
  | .vmem => 0
  | .smem => 0
  | _ => 0

abbrev hbmTy0_0 (i : Nat) : BufTy := match i % 128 with
  | 0 => ⟨S1024x384, .f32⟩
  | 1 => ⟨S4x1024x384, .bf16⟩
  | 2 => ⟨S1024x384, .f32⟩
  | 3 => ⟨S1024x384, .f32⟩
  | 4 => ⟨S128x1024, .f32⟩
  | 5 => ⟨S4x128x1024, .bf16⟩
  | 6 => ⟨S128x1024, .f32⟩
  | 7 => ⟨S128x1024, .f32⟩
  | 8 => ⟨S128x672, .f32⟩
  | 9 => ⟨S4x128x672, .bf16⟩
  | 10 => ⟨S128x672, .f32⟩
  | 11 => ⟨S128x672, .f32⟩
  | 12 => ⟨S384x192, .f32⟩
  | 13 => ⟨S4x384x192, .bf16⟩
  | 14 => ⟨S384x192, .f32⟩
  | 15 => ⟨S384x192, .f32⟩
  | 16 => ⟨S256x256, .f32⟩
  | 17 => ⟨S4x256x256, .bf16⟩
  | 18 => ⟨S256x256, .f32⟩
  | 19 => ⟨S256x256, .f32⟩
  | 20 => ⟨S1024x386, .f32⟩
  | 21 => ⟨S4x1024x386, .bf16⟩
  | 22 => ⟨S1024x386, .f32⟩
  | 23 => ⟨S1024x386, .f32⟩
  | 24 => ⟨S4096x352, .f32⟩
  | 25 => ⟨S4x4096x352, .bf16⟩
  | 26 => ⟨S4096x352, .f32⟩
  | 27 => ⟨S4096x352, .f32⟩
  | 28 => ⟨S4x1024x384, .f32⟩
  | 29 => ⟨S_, .f32⟩
  | 30 => ⟨S1024x384, .f32⟩
  | 31 => ⟨S_, .f32⟩
  | 32 => ⟨S1024x384, .f32⟩
  | 33 => ⟨S1024x384, .f32⟩
  | 34 => ⟨S_, .f32⟩
  | 35 => ⟨S1024x384, .f32⟩
  | 36 => ⟨S1024x384, .f32⟩
  | 37 => ⟨S1024x384, .f32⟩
  | 38 => ⟨S_, .f32⟩
  | 39 => ⟨S1024x384, .f32⟩
  | 40 => ⟨S1024x384, .f32⟩
  | 41 => ⟨S1024x384, .f32⟩
  | 42 => ⟨S_, .f32⟩
  | 43 => ⟨S1024x384, .f32⟩
  | 44 => ⟨S1024x384, .f32⟩
  | 45 => ⟨S1024x384, .f32⟩
  | 46 => ⟨S_, .f32⟩
  | 47 => ⟨S1024x384, .f32⟩
  | 48 => ⟨S1024x384, .f32⟩
  | 49 => ⟨S_, .f32⟩
  | 50 => ⟨S1024x384, .f32⟩
  | 51 => ⟨S1024x384, .f32⟩
  | 52 => ⟨S1024x384, .f32⟩
  | 53 => ⟨S_, .f32⟩
  | 54 => ⟨S1024x384, .f32⟩
  | 55 => ⟨S1024x384, .f32⟩
  | 56 => ⟨S1024x384, .f32⟩
  | 57 => ⟨S_, .f32⟩
  | 58 => ⟨S1024x384, .f32⟩
  | 59 => ⟨S1024x384, .f32⟩
  | 60 => ⟨S1024x384, .f32⟩
  | 61 => ⟨S_, .f32⟩
  | 62 => ⟨S1024x384, .f32⟩
  | 63 => ⟨S1024x384, .f32⟩
  | 64 => ⟨S4x128x1024, .f32⟩
  | 65 => ⟨S_, .f32⟩
  | 66 => ⟨S128x1024, .f32⟩
  | 67 => ⟨S_, .f32⟩
  | 68 => ⟨S128x1024, .f32⟩
  | 69 => ⟨S128x1024, .f32⟩
  | 70 => ⟨S_, .f32⟩
  | 71 => ⟨S128x1024, .f32⟩
  | 72 => ⟨S128x1024, .f32⟩
  | 73 => ⟨S128x1024, .f32⟩
  | 74 => ⟨S_, .f32⟩
  | 75 => ⟨S128x1024, .f32⟩
  | 76 => ⟨S128x1024, .f32⟩
  | 77 => ⟨S128x1024, .f32⟩
  | 78 => ⟨S_, .f32⟩
  | 79 => ⟨S128x1024, .f32⟩
  | 80 => ⟨S128x1024, .f32⟩
  | 81 => ⟨S128x1024, .f32⟩
  | 82 => ⟨S_, .f32⟩
  | 83 => ⟨S128x1024, .f32⟩
  | 84 => ⟨S128x1024, .f32⟩
  | 85 => ⟨S_, .f32⟩
  | 86 => ⟨S128x1024, .f32⟩
  | 87 => ⟨S128x1024, .f32⟩
  | 88 => ⟨S128x1024, .f32⟩
  | 89 => ⟨S_, .f32⟩
  | 90 => ⟨S128x1024, .f32⟩
  | 91 => ⟨S128x1024, .f32⟩
  | 92 => ⟨S128x1024, .f32⟩
  | 93 => ⟨S_, .f32⟩
  | 94 => ⟨S128x1024, .f32⟩
  | 95 => ⟨S128x1024, .f32⟩
  | 96 => ⟨S128x1024, .f32⟩
  | 97 => ⟨S_, .f32⟩
  | 98 => ⟨S128x1024, .f32⟩
  | 99 => ⟨S128x1024, .f32⟩
  | 100 => ⟨S4x128x672, .f32⟩
  | 101 => ⟨S_, .f32⟩
  | 102 => ⟨S128x672, .f32⟩
  | 103 => ⟨S_, .f32⟩
  | 104 => ⟨S128x672, .f32⟩
  | 105 => ⟨S128x672, .f32⟩
  | 106 => ⟨S_, .f32⟩
  | 107 => ⟨S128x672, .f32⟩
  | 108 => ⟨S128x672, .f32⟩
  | 109 => ⟨S128x672, .f32⟩
  | 110 => ⟨S_, .f32⟩
  | 111 => ⟨S128x672, .f32⟩
  | 112 => ⟨S128x672, .f32⟩
  | 113 => ⟨S128x672, .f32⟩
  | 114 => ⟨S_, .f32⟩
  | 115 => ⟨S128x672, .f32⟩
  | 116 => ⟨S128x672, .f32⟩
  | 117 => ⟨S128x672, .f32⟩
  | 118 => ⟨S_, .f32⟩
  | 119 => ⟨S128x672, .f32⟩
  | 120 => ⟨S128x672, .f32⟩
  | 121 => ⟨S_, .f32⟩
  | 122 => ⟨S128x672, .f32⟩
  | 123 => ⟨S128x672, .f32⟩
  | 124 => ⟨S128x672, .f32⟩
  | 125 => ⟨S_, .f32⟩
  | 126 => ⟨S128x672, .f32⟩
  | 127 => ⟨S128x672, .f32⟩
  | _ => ⟨S1024x384, .f32⟩

abbrev hbmTy0_1 (i : Nat) : BufTy := match i % 128 with
  | 0 => ⟨S128x672, .f32⟩
  | 1 => ⟨S_, .f32⟩
  | 2 => ⟨S128x672, .f32⟩
  | 3 => ⟨S128x672, .f32⟩
  | 4 => ⟨S128x672, .f32⟩
  | 5 => ⟨S_, .f32⟩
  | 6 => ⟨S128x672, .f32⟩
  | 7 => ⟨S128x672, .f32⟩
  | 8 => ⟨S4x384x192, .f32⟩
  | 9 => ⟨S_, .f32⟩
  | 10 => ⟨S384x192, .f32⟩
  | 11 => ⟨S_, .f32⟩
  | 12 => ⟨S384x192, .f32⟩
  | 13 => ⟨S384x192, .f32⟩
  | 14 => ⟨S_, .f32⟩
  | 15 => ⟨S384x192, .f32⟩
  | 16 => ⟨S384x192, .f32⟩
  | 17 => ⟨S384x192, .f32⟩
  | 18 => ⟨S_, .f32⟩
  | 19 => ⟨S384x192, .f32⟩
  | 20 => ⟨S384x192, .f32⟩
  | 21 => ⟨S384x192, .f32⟩
  | 22 => ⟨S_, .f32⟩
  | 23 => ⟨S384x192, .f32⟩
  | 24 => ⟨S384x192, .f32⟩
  | 25 => ⟨S384x192, .f32⟩
  | 26 => ⟨S_, .f32⟩
  | 27 => ⟨S384x192, .f32⟩
  | 28 => ⟨S384x192, .f32⟩
  | 29 => ⟨S_, .f32⟩
  | 30 => ⟨S384x192, .f32⟩
  | 31 => ⟨S384x192, .f32⟩
  | 32 => ⟨S384x192, .f32⟩
  | 33 => ⟨S_, .f32⟩
  | 34 => ⟨S384x192, .f32⟩
  | 35 => ⟨S384x192, .f32⟩
  | 36 => ⟨S384x192, .f32⟩
  | 37 => ⟨S_, .f32⟩
  | 38 => ⟨S384x192, .f32⟩
  | 39 => ⟨S384x192, .f32⟩
  | 40 => ⟨S384x192, .f32⟩
  | 41 => ⟨S_, .f32⟩
  | 42 => ⟨S384x192, .f32⟩
  | 43 => ⟨S384x192, .f32⟩
  | 44 => ⟨S4x256x256, .f32⟩
  | 45 => ⟨S_, .f32⟩
  | 46 => ⟨S256x256, .f32⟩
  | 47 => ⟨S_, .f32⟩
  | 48 => ⟨S256x256, .f32⟩
  | 49 => ⟨S256x256, .f32⟩
  | 50 => ⟨S_, .f32⟩
  | 51 => ⟨S256x256, .f32⟩
  | 52 => ⟨S256x256, .f32⟩
  | 53 => ⟨S256x256, .f32⟩
  | 54 => ⟨S_, .f32⟩
  | 55 => ⟨S256x256, .f32⟩
  | 56 => ⟨S256x256, .f32⟩
  | 57 => ⟨S256x256, .f32⟩
  | 58 => ⟨S_, .f32⟩
  | 59 => ⟨S256x256, .f32⟩
  | 60 => ⟨S256x256, .f32⟩
  | 61 => ⟨S256x256, .f32⟩
  | 62 => ⟨S_, .f32⟩
  | 63 => ⟨S256x256, .f32⟩
  | 64 => ⟨S256x256, .f32⟩
  | 65 => ⟨S_, .f32⟩
  | 66 => ⟨S256x256, .f32⟩
  | 67 => ⟨S256x256, .f32⟩
  | 68 => ⟨S256x256, .f32⟩
  | 69 => ⟨S_, .f32⟩
  | 70 => ⟨S256x256, .f32⟩
  | 71 => ⟨S256x256, .f32⟩
  | 72 => ⟨S256x256, .f32⟩
  | 73 => ⟨S_, .f32⟩
  | 74 => ⟨S256x256, .f32⟩
  | 75 => ⟨S256x256, .f32⟩
  | 76 => ⟨S256x256, .f32⟩
  | 77 => ⟨S_, .f32⟩
  | 78 => ⟨S256x256, .f32⟩
  | 79 => ⟨S256x256, .f32⟩
  | 80 => ⟨S4x1024x386, .f32⟩
  | 81 => ⟨S_, .f32⟩
  | 82 => ⟨S1024x386, .f32⟩
  | 83 => ⟨S_, .f32⟩
  | 84 => ⟨S1024x386, .f32⟩
  | 85 => ⟨S1024x386, .f32⟩
  | 86 => ⟨S_, .f32⟩
  | 87 => ⟨S1024x386, .f32⟩
  | 88 => ⟨S1024x386, .f32⟩
  | 89 => ⟨S1024x386, .f32⟩
  | 90 => ⟨S_, .f32⟩
  | 91 => ⟨S1024x386, .f32⟩
  | 92 => ⟨S1024x386, .f32⟩
  | 93 => ⟨S1024x386, .f32⟩
  | 94 => ⟨S_, .f32⟩
  | 95 => ⟨S1024x386, .f32⟩
  | 96 => ⟨S1024x386, .f32⟩
  | 97 => ⟨S1024x386, .f32⟩
  | 98 => ⟨S_, .f32⟩
  | 99 => ⟨S1024x386, .f32⟩
  | 100 => ⟨S1024x386, .f32⟩
  | 101 => ⟨S_, .f32⟩
  | 102 => ⟨S1024x386, .f32⟩
  | 103 => ⟨S1024x386, .f32⟩
  | 104 => ⟨S1024x386, .f32⟩
  | 105 => ⟨S_, .f32⟩
  | 106 => ⟨S1024x386, .f32⟩
  | 107 => ⟨S1024x386, .f32⟩
  | 108 => ⟨S1024x386, .f32⟩
  | 109 => ⟨S_, .f32⟩
  | 110 => ⟨S1024x386, .f32⟩
  | 111 => ⟨S1024x386, .f32⟩
  | 112 => ⟨S1024x386, .f32⟩
  | 113 => ⟨S_, .f32⟩
  | 114 => ⟨S1024x386, .f32⟩
  | 115 => ⟨S1024x386, .f32⟩
  | 116 => ⟨S4x4096x352, .f32⟩
  | 117 => ⟨S_, .f32⟩
  | 118 => ⟨S4096x352, .f32⟩
  | 119 => ⟨S_, .f32⟩
  | 120 => ⟨S4096x352, .f32⟩
  | 121 => ⟨S4096x352, .f32⟩
  | 122 => ⟨S_, .f32⟩
  | 123 => ⟨S4096x352, .f32⟩
  | 124 => ⟨S4096x352, .f32⟩
  | 125 => ⟨S4096x352, .f32⟩
  | 126 => ⟨S_, .f32⟩
  | 127 => ⟨S4096x352, .f32⟩
  | _ => ⟨S1024x384, .f32⟩

abbrev hbmTy0_2 (i : Nat) : BufTy := match i % 128 with
  | 0 => ⟨S4096x352, .f32⟩
  | 1 => ⟨S4096x352, .f32⟩
  | 2 => ⟨S_, .f32⟩
  | 3 => ⟨S4096x352, .f32⟩
  | 4 => ⟨S4096x352, .f32⟩
  | 5 => ⟨S4096x352, .f32⟩
  | 6 => ⟨S_, .f32⟩
  | 7 => ⟨S4096x352, .f32⟩
  | 8 => ⟨S4096x352, .f32⟩
  | 9 => ⟨S_, .f32⟩
  | 10 => ⟨S4096x352, .f32⟩
  | 11 => ⟨S4096x352, .f32⟩
  | 12 => ⟨S4096x352, .f32⟩
  | 13 => ⟨S_, .f32⟩
  | 14 => ⟨S4096x352, .f32⟩
  | 15 => ⟨S4096x352, .f32⟩
  | 16 => ⟨S4096x352, .f32⟩
  | 17 => ⟨S_, .f32⟩
  | 18 => ⟨S4096x352, .f32⟩
  | 19 => ⟨S4096x352, .f32⟩
  | 20 => ⟨S4096x352, .f32⟩
  | 21 => ⟨S_, .f32⟩
  | 22 => ⟨S4096x352, .f32⟩
  | 23 => ⟨S4096x352, .f32⟩
  | _ => ⟨S1024x384, .f32⟩

abbrev hbmTy (i : Nat) : BufTy := match i / 128 with
  | 0 => hbmTy0_0 i
  | 1 => hbmTy0_1 i
  | 2 => hbmTy0_2 i
  | _ => ⟨S1024x384, .f32⟩

abbrev bufTy : (tb : Table) → Fin (tcTables nBuf tb) → BufTy
  | .hbm, ⟨i, _⟩ => hbmTy i
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_2 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_3 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_cst_5 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_6 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_7 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_9 : Ref sig .tc := ⟨.hbm, 65, rfl⟩
abbrev main_v27 : Ref sig .tc := ⟨.hbm, 66, rfl⟩
abbrev main_cst_10 : Ref sig .tc := ⟨.hbm, 67, rfl⟩
abbrev main_v28 : Ref sig .tc := ⟨.hbm, 68, rfl⟩
abbrev main_v29 : Ref sig .tc := ⟨.hbm, 69, rfl⟩
abbrev main_cst_11 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_12 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_13 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_14 : Ref sig .tc := ⟨.hbm, 82, rfl⟩
abbrev main_v39 : Ref sig .tc := ⟨.hbm, 83, rfl⟩
abbrev main_v40 : Ref sig .tc := ⟨.hbm, 84, rfl⟩
abbrev main_cst_15 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_16 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_17 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_cst_20 : Ref sig .tc := ⟨.hbm, 103, rfl⟩
abbrev main_v54 : Ref sig .tc := ⟨.hbm, 104, rfl⟩
abbrev main_v55 : Ref sig .tc := ⟨.hbm, 105, rfl⟩
abbrev main_cst_21 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_22 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_23 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_24 : Ref sig .tc := ⟨.hbm, 118, rfl⟩
abbrev main_v65 : Ref sig .tc := ⟨.hbm, 119, rfl⟩
abbrev main_v66 : Ref sig .tc := ⟨.hbm, 120, rfl⟩
abbrev main_cst_25 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_26 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_27 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_28 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_29 : Ref sig .tc := ⟨.hbm, 137, rfl⟩
abbrev main_v79 : Ref sig .tc := ⟨.hbm, 138, rfl⟩
abbrev main_cst_30 : Ref sig .tc := ⟨.hbm, 139, rfl⟩
abbrev main_v80 : Ref sig .tc := ⟨.hbm, 140, rfl⟩
abbrev main_v81 : Ref sig .tc := ⟨.hbm, 141, rfl⟩
abbrev main_cst_31 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_32 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_cst_33 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_34 : Ref sig .tc := ⟨.hbm, 154, rfl⟩
abbrev main_v91 : Ref sig .tc := ⟨.hbm, 155, rfl⟩
abbrev main_v92 : Ref sig .tc := ⟨.hbm, 156, rfl⟩
abbrev main_cst_35 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_cst_36 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_cst_37 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_cst_38 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_39 : Ref sig .tc := ⟨.hbm, 173, rfl⟩
abbrev main_v105 : Ref sig .tc := ⟨.hbm, 174, rfl⟩
abbrev main_cst_40 : Ref sig .tc := ⟨.hbm, 175, rfl⟩
abbrev main_v106 : Ref sig .tc := ⟨.hbm, 176, rfl⟩
abbrev main_v107 : Ref sig .tc := ⟨.hbm, 177, rfl⟩
abbrev main_cst_41 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_42 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_43 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_44 : Ref sig .tc := ⟨.hbm, 190, rfl⟩
abbrev main_v117 : Ref sig .tc := ⟨.hbm, 191, rfl⟩
abbrev main_v118 : Ref sig .tc := ⟨.hbm, 192, rfl⟩
abbrev main_cst_45 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_cst_46 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_cst_47 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_cst_48 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_cst_49 : Ref sig .tc := ⟨.hbm, 209, rfl⟩
abbrev main_v131 : Ref sig .tc := ⟨.hbm, 210, rfl⟩
abbrev main_cst_50 : Ref sig .tc := ⟨.hbm, 211, rfl⟩
abbrev main_v132 : Ref sig .tc := ⟨.hbm, 212, rfl⟩
abbrev main_v133 : Ref sig .tc := ⟨.hbm, 213, rfl⟩
abbrev main_cst_51 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_cst_52 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_cst_53 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_cst_54 : Ref sig .tc := ⟨.hbm, 226, rfl⟩
abbrev main_v143 : Ref sig .tc := ⟨.hbm, 227, rfl⟩
abbrev main_v144 : Ref sig .tc := ⟨.hbm, 228, rfl⟩
abbrev main_cst_55 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_cst_56 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_57 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_cst_58 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_cst_59 : Ref sig .tc := ⟨.hbm, 245, rfl⟩
abbrev main_v157 : Ref sig .tc := ⟨.hbm, 246, rfl⟩
abbrev main_cst_60 : Ref sig .tc := ⟨.hbm, 247, rfl⟩
abbrev main_v158 : Ref sig .tc := ⟨.hbm, 248, rfl⟩
abbrev main_v159 : Ref sig .tc := ⟨.hbm, 249, rfl⟩
abbrev main_cst_61 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_cst_62 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_cst_63 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_cst_64 : Ref sig .tc := ⟨.hbm, 262, rfl⟩
abbrev main_v169 : Ref sig .tc := ⟨.hbm, 263, rfl⟩
abbrev main_v170 : Ref sig .tc := ⟨.hbm, 264, rfl⟩
abbrev main_cst_65 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_cst_66 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_cst_67 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_cst_68 : Ref sig .tc := ⟨.hbm, 277, rfl⟩
abbrev main_v180 : Ref sig .tc := ⟨.hbm, 278, rfl⟩
abbrev main_v181 : Ref sig .tc := ⟨.hbm, 279, rfl⟩

abbrev nD : Nat := 1
abbrev τ : Topo := Topo.v7x

variable {F : FTy → Type} [FloatOps F]
-- ==== Kernel7.lean ====
abbrev S1408x1024 : Shape := ⟨2, ![1408, 1024]⟩
abbrev S4x1408x1024 : Shape := ⟨3, ![4, 1408, 1024]⟩
abbrev S128x256 : Shape := ⟨2, ![128, 256]⟩
abbrev S4x128x256 : Shape := ⟨3, ![4, 128, 256]⟩
abbrev S16x128 : Shape := ⟨2, ![16, 128]⟩
abbrev S4x16x128 : Shape := ⟨3, ![4, 16, 128]⟩
abbrev S1x48 : Shape := ⟨2, ![1, 48]⟩
abbrev S4x1x48 : Shape := ⟨3, ![4, 1, 48]⟩
abbrev S1x32 : Shape := ⟨2, ![1, 32]⟩
abbrev S4x1x32 : Shape := ⟨3, ![4, 1, 32]⟩
abbrev S16x1024 : Shape := ⟨2, ![16, 1024]⟩
abbrev S8x16x1024 : Shape := ⟨3, ![8, 16, 1024]⟩
abbrev S176x1024 : Shape := ⟨2, ![176, 1024]⟩
abbrev S4x176x1024 : Shape := ⟨3, ![4, 176, 1024]⟩
abbrev S1x176x1024 : Shape := ⟨3, ![1, 176, 1024]⟩
abbrev S64x256 : Shape := ⟨2, ![64, 256]⟩
abbrev S4x64x256 : Shape := ⟨3, ![4, 64, 256]⟩
abbrev S1x64x256 : Shape := ⟨3, ![1, 64, 256]⟩
abbrev S8x128 : Shape := ⟨2, ![8, 128]⟩
abbrev S4x8x128 : Shape := ⟨3, ![4, 8, 128]⟩
abbrev S1x8x128 : Shape := ⟨3, ![1, 8, 128]⟩
abbrev S1x1x48 : Shape := ⟨3, ![1, 1, 48]⟩
abbrev S1x1x32 : Shape := ⟨3, ![1, 1, 32]⟩
abbrev S8x1024 : Shape := ⟨2, ![8, 1024]⟩
abbrev S8x8x1024 : Shape := ⟨3, ![8, 8, 1024]⟩
abbrev S1x8x1024 : Shape := ⟨3, ![1, 8, 1024]⟩

abbrev nBuf : Space → Nat
  | .hbm => 48
  | .vmem => 80
  | .smem => 0
  | _ => 0

abbrev bufTy : (tb : Table) → Fin (tcTables nBuf tb) → BufTy
  | .hbm, ⟨0, _⟩ => ⟨S1408x1024, .f32⟩
  | .hbm, ⟨1, _⟩ => ⟨S4x1408x1024, .bf16⟩
  | .hbm, ⟨2, _⟩ => ⟨S1408x1024, .f32⟩
  | .hbm, ⟨3, _⟩ => ⟨S1408x1024, .f32⟩
  | .hbm, ⟨4, _⟩ => ⟨S128x256, .f32⟩
  | .hbm, ⟨5, _⟩ => ⟨S4x128x256, .bf16⟩
  | .hbm, ⟨6, _⟩ => ⟨S128x256, .f32⟩
  | .hbm, ⟨7, _⟩ => ⟨S128x256, .f32⟩
  | .hbm, ⟨8, _⟩ => ⟨S16x128, .f32⟩
  | .hbm, ⟨9, _⟩ => ⟨S4x16x128, .f32⟩
  | .hbm, ⟨10, _⟩ => ⟨S16x128, .f32⟩
  | .hbm, ⟨11, _⟩ => ⟨S16x128, .f32⟩
  | .hbm, ⟨12, _⟩ => ⟨S1x48, .f32⟩
  | .hbm, ⟨13, _⟩ => ⟨S4x1x48, .f32⟩
  | .hbm, ⟨14, _⟩ => ⟨S1x48, .f32⟩
  | .hbm, ⟨15, _⟩ => ⟨S1x48, .f32⟩
  | .hbm, ⟨16, _⟩ => ⟨S1x32, .f32⟩
  | .hbm, ⟨17, _⟩ => ⟨S4x1x32, .f32⟩
  | .hbm, ⟨18, _⟩ => ⟨S1x32, .f32⟩
  | .hbm, ⟨19, _⟩ => ⟨S1x32, .f32⟩
  | .hbm, ⟨20, _⟩ => ⟨S16x1024, .f32⟩
  | .hbm, ⟨21, _⟩ => ⟨S8x16x1024, .f32⟩
  | .hbm, ⟨22, _⟩ => ⟨S16x1024, .f32⟩
  | .hbm, ⟨23, _⟩ => ⟨S16x1024, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S1x48, .f32⟩
  | .hbm, ⟨37, _⟩ => ⟨S1x48, .f32⟩
  | .hbm, ⟨38, _⟩ => ⟨S1x48, .f32⟩
  | .hbm, ⟨39, _⟩ => ⟨S1x48, .f32⟩
  | .hbm, ⟨40, _⟩ => ⟨S1x32, .f32⟩
  | .hbm, ⟨41, _⟩ => ⟨S1x32, .f32⟩
  | .hbm, ⟨42, _⟩ => ⟨S1x32, .f32⟩
  | .hbm, ⟨43, _⟩ => ⟨S1x32, .f32⟩
  | .hbm, ⟨44, _⟩ => ⟨S16x1024, .f32⟩
  | .hbm, ⟨45, _⟩ => ⟨S16x1024, .f32⟩
  | .hbm, ⟨46, _⟩ => ⟨S16x1024, .f32⟩
  | .hbm, ⟨47, _⟩ => ⟨S16x1024, .f32⟩
  | .local _ .vmem, ⟨0, _⟩ => ⟨S176x1024, .f32⟩
  | .local _ .vmem, ⟨1, _⟩ => ⟨S176x1024, .f32⟩
  | .local _ .vmem, ⟨2, _⟩ => ⟨S4x176x1024, .bf16⟩
  | .local _ .vmem, ⟨3, _⟩ => ⟨S4x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S64x256, .f32⟩
  | .local _ .vmem, ⟨17, _⟩ => ⟨S64x256, .f32⟩
  | .local _ .vmem, ⟨18, _⟩ => ⟨S4x64x256, .bf16⟩
  | .local _ .vmem, ⟨19, _⟩ => ⟨S4x64x256, .bf16⟩
  | .local _ .vmem, ⟨20, _⟩ => ⟨S64x256, .f32⟩
  | .local _ .vmem, ⟨21, _⟩ => ⟨S64x256, .f32⟩
  | .local _ .vmem, ⟨22, _⟩ => ⟨S64x256, .f32⟩
  | .local _ .vmem, ⟨23, _⟩ => ⟨S64x256, .f32⟩
  | .local _ .vmem, ⟨24, _⟩ => ⟨S64x256, .f32⟩
  | .local _ .vmem, ⟨25, _⟩ => ⟨S64x256, .f32⟩
  | .local _ .vmem, ⟨26, _⟩ => ⟨S64x256, .f32⟩
  | .local _ .vmem, ⟨27, _⟩ => ⟨S64x256, .f32⟩
  | .local _ .vmem, ⟨28, _⟩ => ⟨S64x256, .f32⟩
  | .local _ .vmem, ⟨29, _⟩ => ⟨S64x256, .f32⟩
  | .local _ .vmem, ⟨30, _⟩ => ⟨S64x256, .f32⟩
  | .local _ .vmem, ⟨31, _⟩ => ⟨S64x256, .f32⟩
  | .local _ .vmem, ⟨32, _⟩ => ⟨S8x128, .f32⟩
  | .local _ .vmem, ⟨33, _⟩ => ⟨S8x128, .f32⟩
  | .local _ .vmem, ⟨34, _⟩ => ⟨S4x8x128, .f32⟩
  | .local _ .vmem, ⟨35, _⟩ => ⟨S4x8x128, .f32⟩
  | .local _ .vmem, ⟨36, _⟩ => ⟨S8x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .vmem, ⟨41, _⟩ => ⟨S8x128, .f32⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S8x128, .f32⟩
  | .local _ .vmem, ⟨46, _⟩ => ⟨S8x128, .f32⟩
  | .local _ .vmem, ⟨47, _⟩ => ⟨S8x128, .f32⟩
  | .local _ .vmem, ⟨48, _⟩ => ⟨S1x48, .f32⟩
  | .local _ .vmem, ⟨49, _⟩ => ⟨S4x1x48, .f32⟩
  | .local _ .vmem, ⟨50, _⟩ => ⟨S1x48, .f32⟩
  | .local _ .vmem, ⟨51, _⟩ => ⟨S1x48, .f32⟩
  | .local _ .vmem, ⟨52, _⟩ => ⟨S1x48, .f32⟩
  | .local _ .vmem, ⟨53, _⟩ => ⟨S1x48, .f32⟩
  | .local _ .vmem, ⟨54, _⟩ => ⟨S1x48, .f32⟩
  | .local _ .vmem, ⟨55, _⟩ => ⟨S1x48, .f32⟩
  | .local _ .vmem, ⟨56, _⟩ => ⟨S1x32, .f32⟩
  | .local _ .vmem, ⟨57, _⟩ => ⟨S4x1x32, .f32⟩
  | .local _ .vmem, ⟨58, _⟩ => ⟨S1x32, .f32⟩
  | .local _ .vmem, ⟨59, _⟩ => ⟨S1x32, .f32⟩
  | .local _ .vmem, ⟨60, _⟩ => ⟨S1x32, .f32⟩
  | .local _ .vmem, ⟨61, _⟩ => ⟨S1x32, .f32⟩
  | .local _ .vmem, ⟨62, _⟩ => ⟨S1x32, .f32⟩
  | .local _ .vmem, ⟨63, _⟩ => ⟨S1x32, .f32⟩
  | .local _ .vmem, ⟨64, _⟩ => ⟨S8x1024, .f32⟩
  | .local _ .vmem, ⟨65, _⟩ => ⟨S8x1024, .f32⟩
  | .local _ .vmem, ⟨66, _⟩ => ⟨S8x8x1024, .f32⟩
  | .local _ .vmem, ⟨67, _⟩ => ⟨S8x8x1024, .f32⟩
  | .local _ .vmem, ⟨68, _⟩ => ⟨S8x1024, .f32⟩
  | .local _ .vmem, ⟨69, _⟩ => ⟨S8x1024, .f32⟩
  | .local _ .vmem, ⟨70, _⟩ => ⟨S8x1024, .f32⟩
  | .local _ .vmem, ⟨71, _⟩ => ⟨S8x1024, .f32⟩
  | .local _ .vmem, ⟨72, _⟩ => ⟨S8x1024, .f32⟩
  | .local _ .vmem, ⟨73, _⟩ => ⟨S8x1024, .f32⟩
  | .local _ .vmem, ⟨74, _⟩ => ⟨S8x1024, .f32⟩
  | .local _ .vmem, ⟨75, _⟩ => ⟨S8x1024, .f32⟩
  | .local _ .vmem, ⟨76, _⟩ => ⟨S8x1024, .f32⟩
  | .local _ .vmem, ⟨77, _⟩ => ⟨S8x1024, .f32⟩
  | .local _ .vmem, ⟨78, _⟩ => ⟨S8x1024, .f32⟩
  | .local _ .vmem, ⟨79, _⟩ => ⟨S8x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v1_0 : Ref sig .tc := ⟨.hbm, 28, rfl⟩
abbrev main_v1_1 : Ref sig .tc := ⟨.hbm, 29, rfl⟩
abbrev main_v1_2 : Ref sig .tc := ⟨.hbm, 30, rfl⟩
abbrev main_v1_3 : Ref sig .tc := ⟨.hbm, 31, rfl⟩
abbrev main_v2_0 : Ref sig .tc := ⟨.hbm, 32, rfl⟩
abbrev main_v2_1 : Ref sig .tc := ⟨.hbm, 33, rfl⟩
abbrev main_v2_2 : Ref sig .tc := ⟨.hbm, 34, rfl⟩
abbrev main_v2_3 : Ref sig .tc := ⟨.hbm, 35, rfl⟩
abbrev main_v3_0 : Ref sig .tc := ⟨.hbm, 36, rfl⟩
abbrev main_v3_1 : Ref sig .tc := ⟨.hbm, 37, rfl⟩
abbrev main_v3_2 : Ref sig .tc := ⟨.hbm, 38, rfl⟩
abbrev main_v3_3 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v4_3 : Ref sig .tc := ⟨.hbm, 43, rfl⟩
abbrev main_v5_0 : Ref sig .tc := ⟨.hbm, 44, rfl⟩
abbrev main_v5_1 : Ref sig .tc := ⟨.hbm, 45, rfl⟩
abbrev main_v5_2 : Ref sig .tc := ⟨.hbm, 46, rfl⟩
abbrev main_v5_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc4_stg0_0 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg2_1 : Ref sig .tc := ⟨.vmem, 69, rfl⟩
abbrev cc5_stg3_0 : Ref sig .tc := ⟨.vmem, 70, rfl⟩
abbrev cc5_stg3_1 : Ref sig .tc := ⟨.vmem, 71, rfl⟩
abbrev cc5_stg4_0 : Ref sig .tc := ⟨.vmem, 72, rfl⟩
abbrev cc5_stg4_1 : Ref sig .tc := ⟨.vmem, 73, rfl⟩
abbrev cc5_stg5_0 : Ref sig .tc := ⟨.vmem, 74, rfl⟩
abbrev cc5_stg5_1 : Ref sig .tc := ⟨.vmem, 75, rfl⟩
abbrev cc5_stg6_0 : Ref sig .tc := ⟨.vmem, 76, rfl⟩
abbrev cc5_stg6_1 : Ref sig .tc := ⟨.vmem, 77, rfl⟩
abbrev cc5_stg7_0 : Ref sig .tc := ⟨.vmem, 78, rfl⟩
abbrev cc5_stg7_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem1_0 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc4_sem0_0 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem7_0 : DmaSem sig := 63
abbrev cc5_sem0_0 : DmaSem sig := 64
abbrev cc5_sem0_1 : DmaSem sig := 65
abbrev cc5_sem1_0 : DmaSem sig := 66
abbrev cc5_sem1_1 : DmaSem sig := 67
abbrev cc5_sem2_0 : DmaSem sig := 68
abbrev cc5_sem2_1 : DmaSem sig := 69
abbrev cc5_sem3_0 : DmaSem sig := 70
abbrev cc5_sem3_1 : DmaSem sig := 71
abbrev cc5_sem4_0 : DmaSem sig := 72
abbrev cc5_sem4_1 : DmaSem sig := 73
abbrev cc5_sem5_0 : DmaSem sig := 74
abbrev cc5_sem5_1 : DmaSem sig := 75
abbrev cc5_sem6_0 : DmaSem sig := 76
abbrev cc5_sem6_1 : DmaSem sig := 77
abbrev cc5_sem7_0 : DmaSem sig := 78
abbrev cc5_sem7_1 : DmaSem sig := 79

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x64x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x48 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S4x1x48 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x48 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x48 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x48 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x48 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x48 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S1x48 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S4x1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8x8x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S8x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S8x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S8x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S8x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S8x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]
-- ==== Reference7Ideal.lean ====
abbrev S1408x1024 : Shape := ⟨2, ![1408, 1024]⟩
abbrev S4x1408x1024 : Shape := ⟨3, ![4, 1408, 1024]⟩
abbrev S128x256 : Shape := ⟨2, ![128, 256]⟩
abbrev S4x128x256 : Shape := ⟨3, ![4, 128, 256]⟩
abbrev S16x128 : Shape := ⟨2, ![16, 128]⟩
abbrev S4x16x128 : Shape := ⟨3, ![4, 16, 128]⟩
abbrev S1x48 : Shape := ⟨2, ![1, 48]⟩
abbrev S4x1x48 : Shape := ⟨3, ![4, 1, 48]⟩
abbrev S1x32 : Shape := ⟨2, ![1, 32]⟩
abbrev S4x1x32 : Shape := ⟨3, ![4, 1, 32]⟩
abbrev S16x1024 : Shape := ⟨2, ![16, 1024]⟩
abbrev S8x16x1024 : Shape := ⟨3, ![8, 16, 1024]⟩
abbrev S_ : Shape := ⟨0, ![]⟩

abbrev nBuf : Space → Nat
  | .hbm => 236
  | .vmem => 0
  | .smem => 0
  | _ => 0

abbrev hbmTy0_0 (i : Nat) : BufTy := match i % 128 with
  | 0 => ⟨S1408x1024, .f32⟩
  | 1 => ⟨S4x1408x1024, .bf16⟩
  | 2 => ⟨S1408x1024, .f32⟩
  | 3 => ⟨S1408x1024, .f32⟩
  | 4 => ⟨S128x256, .f32⟩
  | 5 => ⟨S4x128x256, .bf16⟩
  | 6 => ⟨S128x256, .f32⟩
  | 7 => ⟨S128x256, .f32⟩
  | 8 => ⟨S16x128, .f32⟩
  | 9 => ⟨S4x16x128, .f32⟩
  | 10 => ⟨S16x128, .f32⟩
  | 11 => ⟨S16x128, .f32⟩
  | 12 => ⟨S1x48, .f32⟩
  | 13 => ⟨S4x1x48, .f32⟩
  | 14 => ⟨S1x48, .f32⟩
  | 15 => ⟨S1x48, .f32⟩
  | 16 => ⟨S1x32, .f32⟩
  | 17 => ⟨S4x1x32, .f32⟩
  | 18 => ⟨S1x32, .f32⟩
  | 19 => ⟨S1x32, .f32⟩
  | 20 => ⟨S16x1024, .f32⟩
  | 21 => ⟨S8x16x1024, .f32⟩
  | 22 => ⟨S16x1024, .f32⟩
  | 23 => ⟨S16x1024, .f32⟩
  | 24 => ⟨S4x1408x1024, .f32⟩
  | 25 => ⟨S_, .f32⟩
  | 26 => ⟨S1408x1024, .f32⟩
  | 27 => ⟨S_, .f32⟩
  | 28 => ⟨S1408x1024, .f32⟩
  | 29 => ⟨S1408x1024, .f32⟩
  | 30 => ⟨S_, .f32⟩
  | 31 => ⟨S1408x1024, .f32⟩
  | 32 => ⟨S1408x1024, .f32⟩
  | 33 => ⟨S1408x1024, .f32⟩
  | 34 => ⟨S_, .f32⟩
  | 35 => ⟨S1408x1024, .f32⟩
  | 36 => ⟨S1408x1024, .f32⟩
  | 37 => ⟨S1408x1024, .f32⟩
  | 38 => ⟨S_, .f32⟩
  | 39 => ⟨S1408x1024, .f32⟩
  | 40 => ⟨S1408x1024, .f32⟩
  | 41 => ⟨S1408x1024, .f32⟩
  | 42 => ⟨S_, .f32⟩
  | 43 => ⟨S1408x1024, .f32⟩
  | 44 => ⟨S1408x1024, .f32⟩
  | 45 => ⟨S_, .f32⟩
  | 46 => ⟨S1408x1024, .f32⟩
  | 47 => ⟨S1408x1024, .f32⟩
  | 48 => ⟨S1408x1024, .f32⟩
  | 49 => ⟨S_, .f32⟩
  | 50 => ⟨S1408x1024, .f32⟩
  | 51 => ⟨S1408x1024, .f32⟩
  | 52 => ⟨S1408x1024, .f32⟩
  | 53 => ⟨S_, .f32⟩
  | 54 => ⟨S1408x1024, .f32⟩
  | 55 => ⟨S1408x1024, .f32⟩
  | 56 => ⟨S1408x1024, .f32⟩
  | 57 => ⟨S_, .f32⟩
  | 58 => ⟨S1408x1024, .f32⟩
  | 59 => ⟨S1408x1024, .f32⟩
  | 60 => ⟨S4x128x256, .f32⟩
  | 61 => ⟨S_, .f32⟩
  | 62 => ⟨S128x256, .f32⟩
  | 63 => ⟨S_, .f32⟩
  | 64 => ⟨S128x256, .f32⟩
  | 65 => ⟨S128x256, .f32⟩
  | 66 => ⟨S_, .f32⟩
  | 67 => ⟨S128x256, .f32⟩
  | 68 => ⟨S128x256, .f32⟩
  | 69 => ⟨S128x256, .f32⟩
  | 70 => ⟨S_, .f32⟩
  | 71 => ⟨S128x256, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S128x256, .f32⟩
  | 78 => ⟨S_, .f32⟩
  | 79 => ⟨S128x256, .f32⟩
  | 80 => ⟨S128x256, .f32⟩
  | 81 => ⟨S_, .f32⟩
  | 82 => ⟨S128x256, .f32⟩
  | 83 => ⟨S128x256, .f32⟩
  | 84 => ⟨S128x256, .f32⟩
  | 85 => ⟨S_, .f32⟩
  | 86 => ⟨S128x256, .f32⟩
  | 87 => ⟨S128x256, .f32⟩
  | 88 => ⟨S128x256, .f32⟩
  | 89 => ⟨S_, .f32⟩
  | 90 => ⟨S128x256, .f32⟩
  | 91 => ⟨S128x256, .f32⟩
  | 92 => ⟨S128x256, .f32⟩
  | 93 => ⟨S_, .f32⟩
  | 94 => ⟨S128x256, .f32⟩
  | 95 => ⟨S128x256, .f32⟩
  | 96 => ⟨S_, .f32⟩
  | 97 => ⟨S16x128, .f32⟩
  | 98 => ⟨S_, .f32⟩
  | 99 => ⟨S16x128, .f32⟩
  | 100 => ⟨S16x128, .f32⟩
  | 101 => ⟨S_, .f32⟩
  | 102 => ⟨S16x128, .f32⟩
  | 103 => ⟨S16x128, .f32⟩
  | 104 => ⟨S16x128, .f32⟩
  | 105 => ⟨S_, .f32⟩
  | 106 => ⟨S16x128, .f32⟩
  | 107 => ⟨S16x128, .f32⟩
  | 108 => ⟨S16x128, .f32⟩
  | 109 => ⟨S_, .f32⟩
  | 110 => ⟨S16x128, .f32⟩
  | 111 => ⟨S16x128, .f32⟩
  | 112 => ⟨S16x128, .f32⟩
  | 113 => ⟨S_, .f32⟩
  | 114 => ⟨S16x128, .f32⟩
  | 115 => ⟨S16x128, .f32⟩
  | 116 => ⟨S_, .f32⟩
  | 117 => ⟨S16x128, .f32⟩
  | 118 => ⟨S16x128, .f32⟩
  | 119 => ⟨S16x128, .f32⟩
  | 120 => ⟨S_, .f32⟩
  | 121 => ⟨S16x128, .f32⟩
  | 122 => ⟨S16x128, .f32⟩
  | 123 => ⟨S16x128, .f32⟩
  | 124 => ⟨S_, .f32⟩
  | 125 => ⟨S16x128, .f32⟩
  | 126 => ⟨S16x128, .f32⟩
  | 127 => ⟨S16x128, .f32⟩
  | _ => ⟨S1408x1024, .f32⟩

abbrev hbmTy0_1 (i : Nat) : BufTy := match i % 128 with
  | 0 => ⟨S_, .f32⟩
  | 1 => ⟨S16x128, .f32⟩
  | 2 => ⟨S16x128, .f32⟩
  | 3 => ⟨S_, .f32⟩
  | 4 => ⟨S1x48, .f32⟩
  | 5 => ⟨S_, .f32⟩
  | 6 => ⟨S1x48, .f32⟩
  | 7 => ⟨S1x48, .f32⟩
  | 8 => ⟨S_, .f32⟩
  | 9 => ⟨S1x48, .f32⟩
  | 10 => ⟨S1x48, .f32⟩
  | 11 => ⟨S1x48, .f32⟩
  | 12 => ⟨S_, .f32⟩
  | 13 => ⟨S1x48, .f32⟩
  | 14 => ⟨S1x48, .f32⟩
  | 15 => ⟨S1x48, .f32⟩
  | 16 => ⟨S_, .f32⟩
  | 17 => ⟨S1x48, .f32⟩
  | 18 => ⟨S1x48, .f32⟩
  | 19 => ⟨S1x48, .f32⟩
  | 20 => ⟨S_, .f32⟩
  | 21 => ⟨S1x48, .f32⟩
  | 22 => ⟨S1x48, .f32⟩
  | 23 => ⟨S_, .f32⟩
  | 24 => ⟨S1x48, .f32⟩
  | 25 => ⟨S1x48, .f32⟩
  | 26 => ⟨S1x48, .f32⟩
  | 27 => ⟨S_, .f32⟩
  | 28 => ⟨S1x48, .f32⟩
  | 29 => ⟨S1x48, .f32⟩
  | 30 => ⟨S1x48, .f32⟩
  | 31 => ⟨S_, .f32⟩
  | 32 => ⟨S1x48, .f32⟩
  | 33 => ⟨S1x48, .f32⟩
  | 34 => ⟨S1x48, .f32⟩
  | 35 => ⟨S_, .f32⟩
  | 36 => ⟨S1x48, .f32⟩
  | 37 => ⟨S1x48, .f32⟩
  | 38 => ⟨S_, .f32⟩
  | 39 => ⟨S1x32, .f32⟩
  | 40 => ⟨S_, .f32⟩
  | 41 => ⟨S1x32, .f32⟩
  | 42 => ⟨S1x32, .f32⟩
  | 43 => ⟨S_, .f32⟩
  | 44 => ⟨S1x32, .f32⟩
  | 45 => ⟨S1x32, .f32⟩
  | 46 => ⟨S1x32, .f32⟩
  | 47 => ⟨S_, .f32⟩
  | 48 => ⟨S1x32, .f32⟩
  | 49 => ⟨S1x32, .f32⟩
  | 50 => ⟨S1x32, .f32⟩
  | 51 => ⟨S_, .f32⟩
  | 52 => ⟨S1x32, .f32⟩
  | 53 => ⟨S1x32, .f32⟩
  | 54 => ⟨S1x32, .f32⟩
  | 55 => ⟨S_, .f32⟩
  | 56 => ⟨S1x32, .f32⟩
  | 57 => ⟨S1x32, .f32⟩
  | 58 => ⟨S_, .f32⟩
  | 59 => ⟨S1x32, .f32⟩
  | 60 => ⟨S1x32, .f32⟩
  | 61 => ⟨S1x32, .f32⟩
  | 62 => ⟨S_, .f32⟩
  | 63 => ⟨S1x32, .f32⟩
  | 64 => ⟨S1x32, .f32⟩
  | 65 => ⟨S1x32, .f32⟩
  | 66 => ⟨S_, .f32⟩
  | 67 => ⟨S1x32, .f32⟩
  | 68 => ⟨S1x32, .f32⟩
  | 69 => ⟨S1x32, .f32⟩
  | 70 => ⟨S_, .f32⟩
  | 71 => ⟨S1x32, .f32⟩
  | 72 => ⟨S1x32, .f32⟩
  | 73 => ⟨S_, .f32⟩
  | 74 => ⟨S16x1024, .f32⟩
  | 75 => ⟨S_, .f32⟩
  | 76 => ⟨S16x1024, .f32⟩
  | 77 => ⟨S16x1024, .f32⟩
  | 78 => ⟨S_, .f32⟩
  | 79 => ⟨S16x1024, .f32⟩
  | 80 => ⟨S16x1024, .f32⟩
  | 81 => ⟨S16x1024, .f32⟩
  | 82 => ⟨S_, .f32⟩
  | 83 => ⟨S16x1024, .f32⟩
  | 84 => ⟨S16x1024, .f32⟩
  | 85 => ⟨S16x1024, .f32⟩
  | 86 => ⟨S_, .f32⟩
  | 87 => ⟨S16x1024, .f32⟩
  | 88 => ⟨S16x1024, .f32⟩
  | 89 => ⟨S16x1024, .f32⟩
  | 90 => ⟨S_, .f32⟩
  | 91 => ⟨S16x1024, .f32⟩
  | 92 => ⟨S16x1024, .f32⟩
  | 93 => ⟨S_, .f32⟩
  | 94 => ⟨S16x1024, .f32⟩
  | 95 => ⟨S16x1024, .f32⟩
  | 96 => ⟨S16x1024, .f32⟩
  | 97 => ⟨S_, .f32⟩
  | 98 => ⟨S16x1024, .f32⟩
  | 99 => ⟨S16x1024, .f32⟩
  | 100 => ⟨S16x1024, .f32⟩
  | 101 => ⟨S_, .f32⟩
  | 102 => ⟨S16x1024, .f32⟩
  | 103 => ⟨S16x1024, .f32⟩
  | 104 => ⟨S16x1024, .f32⟩
  | 105 => ⟨S_, .f32⟩
  | 106 => ⟨S16x1024, .f32⟩
  | 107 => ⟨S16x1024, .f32⟩
  | _ => ⟨S1408x1024, .f32⟩

abbrev hbmTy (i : Nat) : BufTy := match i / 128 with
  | 0 => hbmTy0_0 i
  | 1 => hbmTy0_1 i
  | _ => ⟨S1408x1024, .f32⟩

abbrev bufTy : (tb : Table) → Fin (tcTables nBuf tb) → BufTy
  | .hbm, ⟨i, _⟩ => hbmTy i
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_cst_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_2 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_cst_5 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_6 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_7 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_9 : Ref sig .tc := ⟨.hbm, 61, rfl⟩
abbrev main_v27 : Ref sig .tc := ⟨.hbm, 62, rfl⟩
abbrev main_cst_10 : Ref sig .tc := ⟨.hbm, 63, rfl⟩
abbrev main_v28 : Ref sig .tc := ⟨.hbm, 64, rfl⟩
abbrev main_v29 : Ref sig .tc := ⟨.hbm, 65, rfl⟩
abbrev main_cst_11 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_12 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_13 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_14 : Ref sig .tc := ⟨.hbm, 78, rfl⟩
abbrev main_v39 : Ref sig .tc := ⟨.hbm, 79, rfl⟩
abbrev main_v40 : Ref sig .tc := ⟨.hbm, 80, rfl⟩
abbrev main_cst_15 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_16 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_17 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_cst_19 : Ref sig .tc := ⟨.hbm, 96, rfl⟩
abbrev main_v52 : Ref sig .tc := ⟨.hbm, 97, rfl⟩
abbrev main_cst_20 : Ref sig .tc := ⟨.hbm, 98, rfl⟩
abbrev main_v53 : Ref sig .tc := ⟨.hbm, 99, rfl⟩
abbrev main_v54 : Ref sig .tc := ⟨.hbm, 100, rfl⟩
abbrev main_cst_21 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_22 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_23 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_24 : Ref sig .tc := ⟨.hbm, 113, rfl⟩
abbrev main_v64 : Ref sig .tc := ⟨.hbm, 114, rfl⟩
abbrev main_v65 : Ref sig .tc := ⟨.hbm, 115, rfl⟩
abbrev main_cst_25 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_26 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_27 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_28 : Ref sig .tc := ⟨.hbm, 128, rfl⟩
abbrev main_v75 : Ref sig .tc := ⟨.hbm, 129, rfl⟩
abbrev main_v76 : Ref sig .tc := ⟨.hbm, 130, rfl⟩
abbrev main_cst_29 : Ref sig .tc := ⟨.hbm, 131, rfl⟩
abbrev main_v77 : Ref sig .tc := ⟨.hbm, 132, rfl⟩
abbrev main_cst_30 : Ref sig .tc := ⟨.hbm, 133, rfl⟩
abbrev main_v78 : Ref sig .tc := ⟨.hbm, 134, rfl⟩
abbrev main_v79 : Ref sig .tc := ⟨.hbm, 135, rfl⟩
abbrev main_cst_31 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_32 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_33 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_34 : Ref sig .tc := ⟨.hbm, 148, rfl⟩
abbrev main_v89 : Ref sig .tc := ⟨.hbm, 149, rfl⟩
abbrev main_v90 : Ref sig .tc := ⟨.hbm, 150, rfl⟩
abbrev main_cst_35 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_36 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_cst_37 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_cst_38 : Ref sig .tc := ⟨.hbm, 163, rfl⟩
abbrev main_v100 : Ref sig .tc := ⟨.hbm, 164, rfl⟩
abbrev main_v101 : Ref sig .tc := ⟨.hbm, 165, rfl⟩
abbrev main_cst_39 : Ref sig .tc := ⟨.hbm, 166, rfl⟩
abbrev main_v102 : Ref sig .tc := ⟨.hbm, 167, rfl⟩
abbrev main_cst_40 : Ref sig .tc := ⟨.hbm, 168, rfl⟩
abbrev main_v103 : Ref sig .tc := ⟨.hbm, 169, rfl⟩
abbrev main_v104 : Ref sig .tc := ⟨.hbm, 170, rfl⟩
abbrev main_cst_41 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_cst_42 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_cst_43 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_44 : Ref sig .tc := ⟨.hbm, 183, rfl⟩
abbrev main_v114 : Ref sig .tc := ⟨.hbm, 184, rfl⟩
abbrev main_v115 : Ref sig .tc := ⟨.hbm, 185, rfl⟩
abbrev main_cst_45 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_cst_46 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_47 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_cst_48 : Ref sig .tc := ⟨.hbm, 198, rfl⟩
abbrev main_v125 : Ref sig .tc := ⟨.hbm, 199, rfl⟩
abbrev main_v126 : Ref sig .tc := ⟨.hbm, 200, rfl⟩
abbrev main_cst_49 : Ref sig .tc := ⟨.hbm, 201, rfl⟩
abbrev main_v127 : Ref sig .tc := ⟨.hbm, 202, rfl⟩
abbrev main_cst_50 : Ref sig .tc := ⟨.hbm, 203, rfl⟩
abbrev main_v128 : Ref sig .tc := ⟨.hbm, 204, rfl⟩
abbrev main_v129 : Ref sig .tc := ⟨.hbm, 205, rfl⟩
abbrev main_cst_51 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_cst_52 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_cst_53 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_cst_54 : Ref sig .tc := ⟨.hbm, 218, rfl⟩
abbrev main_v139 : Ref sig .tc := ⟨.hbm, 219, rfl⟩
abbrev main_v140 : Ref sig .tc := ⟨.hbm, 220, rfl⟩
abbrev main_cst_55 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_56 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_cst_57 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_cst_58 : Ref sig .tc := ⟨.hbm, 233, rfl⟩
abbrev main_v150 : Ref sig .tc := ⟨.hbm, 234, rfl⟩
abbrev main_v151 : Ref sig .tc := ⟨.hbm, 235, rfl⟩

abbrev nD : Nat := 1
abbrev τ : Topo := Topo.v7x

variable {F : FTy → Type} [FloatOps F]
-- ==== Proof.Words.lean ====
/-
  The words the kernel's body computes its loops from, for EVERY word `w` the third column of the saved sums can
  hold: the walked tiles `max (i + 1 − w) 1, …, i − 1` lie among the 33 tiles of the array, so every row offset is a
  multiple of 256 inside it, and the loop after them has no trip.
-/
module

public import proofs.«01_k».proof.KernelIdeal
public import Idealize.ShloMosaic.Lib.LoopRemainder
public import Idealize.ShloMosaic.Lib.WordCmp

@[expose] public section

noncomputable section

namespace Cert.KernelIdeal.Hand

open Cert.KernelIdeal
open Idealize.ShloMosaic Idealize.ShloMosaic.TcCoe

/-- The first tile the loop walks. -/
def lo (i : grid0.Coords) (w : BitVec 32) : ℕ := ((k0_t1_loop i w).lb).toNat

/-- The query tile's number is below 33. -/
theorem tile_lt (i : grid0.Coords) : (i 1).val < 33 := (i 1).isLt

/-- The first tile walked is positive and below the sign bit. -/
theorem lo_range (i : grid0.Coords) (w : BitVec 32) : 1 ≤ lo i w ∧ lo i w < 2 ^ 31 := by
  unfold lo k0_t1_loop
  simp only [Scalar.maxsi, IntOp.maxsi]
  split
  · rename_i h
    simp only [BitVec.slt, decide_eq_true_eq] at h
    rw [show (1#32 : BitVec 32).toInt = 1 from by decide] at h
    rw [BitVec.toInt_eq_toNat_cond] at h
    split at h <;> omega
  · decide

/-- The loop's lower bound as the word of its number. -/
theorem lb_eq (i : grid0.Coords) (w : BitVec 32) : (k0_t1_loop i w).lb = BitVec.ofNat 32 (lo i w) := by
  unfold lo; simp

/-- The lower bound read signed. -/
theorem lb_toInt (i : grid0.Coords) (w : BitVec 32) : ((k0_t1_loop i w).lb).toInt = lo i w := by
  rw [lb_eq]; exact Idealize.ShloMosaic.WordCmp.toInt_ofNat_of_lt (lo_range i w).2

/-- The loop's upper bound is the query tile. -/
theorem ub_eq (i : grid0.Coords) (w : BitVec 32) : (k0_t1_loop i w).ub = BitVec.ofNat 32 (i 1).val := by
  unfold k0_t1_loop
  simp only [Scalar.muli_divsi_one, Scalar.addi, Scalar.subi, IntOp.addi, IntOp.subi]
  generalize Scalar.maxsi _ _ = a
  rw [BitVec.add_comm, BitVec.sub_add_cancel]

/-- The upper bound read signed. -/
theorem ub_toInt (i : grid0.Coords) (w : BitVec 32) : ((k0_t1_loop i w).ub).toInt = (i 1).val := by
  rw [ub_eq]; exact Idealize.ShloMosaic.WordCmp.toInt_ofNat_of_lt (by have := tile_lt i; omega)

/-- The loop's trips: the tiles from the first walked to the one before the query tile. -/
theorem trips_eq (i : grid0.Coords) (w : BitVec 32) : (k0_t1_loop i w).trips = (i 1).val - lo i w := by
  show Scf.trips (k0_t1_loop i w).lb (k0_t1_loop i w).ub 1#32 = _
  unfold Scf.trips
  rw [lb_toInt, ub_toInt, show (1#32 : BitVec 32).toInt = 1 from by decide]
  omega

/-- The tile of trip `k`. -/
def tileOf (i : grid0.Coords) (w : BitVec 32) (k : ℕ) : ℕ := lo i w + k

/-- A trip's tile comes before the query tile. -/
theorem tileOf_lt (i : grid0.Coords) (w : BitVec 32) (k : Fin (k0_t1_loop i w).trips) : tileOf i w k < (i 1).val := by
  have := k.isLt; have e := trips_eq i w; unfold tileOf; omega

/-- The induction variable of trip `k`, times 256, as a number. -/
theorem off1_nat (i : grid0.Coords) (w : BitVec 32) (k : Fin (k0_t1_loop i w).trips) :
    (k0_mult2 i w k).toNat = 256 * tileOf i w k := by
  have h := tileOf_lt i w k
  have hi := tile_lt i
  have e : k0_mult2 i w k = Scalar.muli (Scf.iv (k0_t1_loop i w).lb 1#32 k.val) 256#32 := rfl
  rw [e, lb_eq]
  unfold tileOf at *
  simp only [Scalar.muli, IntOp.muli, Scf.iv, BitVec.mul_one, ← BitVec.ofNat_add]
  rw [BitVec.toNat_mul, BitVec.toNat_ofNat, BitVec.toNat_ofNat]
  omega

/-- The row offset of trip `k`: 256 rows per tile. -/
theorem off1_eq (i : grid0.Coords) (w : BitVec 32) (k : Fin (k0_t1_loop i w).trips) :
    k0_off1 i w k = ![256 * tileOf i w k, 0] := by
  have e : k0_off1 i w k = ![(k0_mult2 i w k).toNat, 0] := by
    unfold k0_off1 k0_mult2; simp only [Scalar.indexCast]
  rw [e, off1_nat]

/-- The row offset of the last step: the query tile's own rows. -/
theorem off3_eq (i : grid0.Coords) : k0_off3 i = ![256 * (i 1).val, 0] := by
  have hi := tile_lt i
  unfold k0_off3
  simp only [Scalar.indexCast, Scalar.muli, IntOp.muli]
  rw [show ((BitVec.ofNat 32 (i 1).val * 256#32 : BitVec 32)).toNat = 256 * (i 1).val from by
    rw [BitVec.toNat_mul, BitVec.toNat_ofNat]; simp; omega]

/-- The second loop has no trip. -/
theorem t2_trips (i : grid0.Coords) (w : BitVec 32) : (k0_t2_loop i w).trips = 0 := Scf.rem_trips _ _

/-- What the body assumes of the word holds of every word. -/
theorem chk (i : grid0.Coords) (w : BitVec 32) : k0_chk1 i w := by
  have hi := tile_lt i
  have hl := lo_range i w
  refine ⟨⟨(by decide : 0 < (1#32 : BitVec 32).toInt), ?_⟩, fun k => ?_, fun k a => ?_, Scf.rem_ok _ _, fun k => ?_, fun k => ?_⟩
  · show ((k0_t1_loop i w).lb).toInt + ((k0_t1_loop i w).trips : ℤ) * (1#32 : BitVec 32).toInt < _
    rw [lb_toInt, trips_eq, show (1#32 : BitVec 32).toInt = 1 from by decide]
    omega
  · rw [off1_nat]; exact ⟨_, rfl⟩
  · have := tileOf_lt i w k
    rw [off1_eq]
    revert a
    exact Fin.forall_fin_two.mpr ⟨by show 256 * tileOf i w k + 256 ≤ 8448; omega, by show 0 + 128 ≤ 128; omega⟩
  · exact (Scf.rem_no_trip _ _ k).elim
  · exact (Scf.rem_no_trip _ _ k).elim

end Cert.KernelIdeal.Hand
-- ==== Proof.Step.lean ====
/-
  What one step of the kernel computes, over any float values: from a query tile (its rows of q, of the cotangent and
  of the saved sums), a key tile (its rows of k and v) and the running sums, the new running sums. The kernel's body
  has three copies of the step (tile 0 and the query's own tile with a mask, the tiles between them without); all
  three are `St.step`.
-/
module

public import proofs.«01_k».proof.Proof.Words
public import proofs.«01_k».proof.Proof.Gen.KernelIdeal.Skeleton
public import Idealize.ShloMosaic.Lib.Pipeline.FrameBody
public import Idealize.ShloMosaic.Lib.WritesUnit
public import Idealize.ShloMosaic.Lib.Pointwise.Index

@[expose] public section

noncomputable section

namespace Cert.KernelIdeal.Hand

open Cert.KernelIdeal Cert.KernelIdeal.Gen
open Idealize.ShloMosaic Idealize.ShloMosaic.TcCoe

variable {F : FTy → Type} [FloatOps F]

/-- A tile of scores: one value per query of the tile and key of the tile. -/
abbrev Sc (F : FTy → Type) := FVec F S256x256 .f32

/-- The two parts of a tile's rows: of each head of the pair its own lanes, the other lanes zero; `v` marks the first
    head's lanes. -/
def parts (v : IVec S1x128 1) (x : FVec F S256x128 .bf16) : Fin 2 → FVec F S256x128 .bf16 :=
  ![select (broadcastTo S256x128 (shapeCast S1x128 v shapeCasts_S1x128_S1x128) broadcasts_S1x128_S256x128) x
      (broadcast S256x128 (Scalar.ofBits .bf16 0x0000#16)),
    select (broadcastTo S256x128 (shapeCast S1x128 v shapeCasts_S1x128_S1x128) broadcasts_S1x128_S256x128)
      (broadcast S256x128 (Scalar.ofBits .bf16 0x0000#16)) x]

/-- The scaled scores. -/
def zs (q k : FVec F S256x128 .bf16) : Sc F :=
  mulf (matmul dot_S256x128_S256x128_S256x256_1_1_0_0_n_n none q k (constant S256x256 .f32 0x00000000#32))
    (broadcast S256x256 (Scalar.ofBits .f32 0x3E000000#32))

/-- The logarithm of one minus the logistic of a score. -/
def lks (z : Sc F) : Sc F :=
  subf (broadcast S256x256 (Scalar.ofBits .f32 0x00000000#32))
    (addf (maximumf z (broadcast S256x256 (Scalar.ofBits .f32 0x00000000#32)))
      (log (addf (broadcast S256x256 (Scalar.ofBits .f32 0x3F800000#32))
        (exp (subf (broadcast S256x256 (Scalar.ofBits .f32 0x00000000#32)) (absf z))))))

/-- The logarithm of the logistic of a score. -/
def lbs (z : Sc F) : Sc F := addf (lks z) z

/-- The values a mask keeps; without a mask all of them. -/
def keep (m : Option (IVec S256x256 1)) (x : Sc F) : Sc F :=
  match m with
  | none => x
  | some v => select v x (broadcast S256x256 (Scalar.ofBits .f32 0x00000000#32))

/-- The sums over the keys a triangle relates to each key, in two halves. -/
def cums (x : Sc F) (tri : FVec F S256x256 .bf16) : Sc F :=
  addf (matmul dot_S256x256_S256x256_S256x256_1_0_0_1_n_n none (truncf .bf16 x bitsLt_bf16_f32) tri
      (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) tri
      (constant S256x256 .f32 0x00000000#32))

/-- A column of per-query values. -/
def colOf (p : FVec F S1x256x1 .f32) : FVec F S256x1 .f32 := shapeCast S256x1 p shapeCasts_S1x256x1_S256x1

/-- A column of per-query values over all keys of the tile. -/
def wide (p : FVec F S1x256x1 .f32) : Sc F := broadcastTo S256x256 (colOf p) broadcasts_S256x1_S256x256

/-- The attention weights of a tile, from the whole sum `tot` and the sum `pc` over the tiles before. -/
def wts (m : Option (IVec S256x256 1)) (z : Sc F) (tot pc : FVec F S1x256x1 .f32) : Sc F :=
  keep m (exp (addf (lbs z) (subf (wide tot) (addf (wide pc) (cums (keep m (lks z)) k0_pay122)))))

/-- The weights times their gradient. -/
def dls (a : Sc F) (o v : FVec F S256x128 .bf16) : Sc F :=
  mulf a (matmul dot_S256x128_S256x128_S256x256_1_1_0_0_n_n none o v (constant S256x256 .f32 0x00000000#32))

/-- The gradient of the scores, from the sum `dc` over the tiles before. -/
def dzs (m : Option (IVec S256x256 1)) (z dl : Sc F) (dc : FVec F S1x256x1 .f32) : Sc F :=
  keep m (mulf (subf (mulf dl (subf (broadcast S256x256 (Scalar.ofBits .f32 0x3F800000#32)) (exp (lbs z))))
    (mulf (addf (wide dc) (cums dl k0_pay123)) (exp (lbs z)))) (broadcast S256x256 (Scalar.ofBits .f32 0x3E000000#32)))

/-- A column of running sums after a tile. -/
def plus (p : FVec F S1x256x1 .f32) (x : Sc F) : FVec F S1x256x1 .f32 :=
  shapeCast S1x256x1 (addf (colOf p)
    (shapeCast S256x1 (multiReduction .add [1] S256 x 0x00000000#32 reduces_S256x256_S256 (.inl rfl) rfl)
      shapeCasts_S256_S256x1)) shapeCasts_S256x1_S1x256x1

/-- Scores times rows of keys. -/
def mulRows (x : Sc F) (k : FVec F S256x128 .bf16) : FVec F S256x128 .f32 :=
  matmul dot_S256x256_S256x128_S256x128_1_0_0_1_n_n none (truncf .bf16 x bitsLt_bf16_f32) k
    (constant S256x128 .f32 0x00000000#32)

/-- Scores, transposed, times rows of queries. -/
def mulRowsT (x : Sc F) (q : FVec F S256x128 .bf16) : FVec F S256x128 .f32 :=
  matmul dot_S256x256_S256x128_S256x128_0_0_1_1_n_n none (truncf .bf16 x bitsLt_bf16_f32) q
    (constant S256x128 .f32 0x00000000#32)

/-- The 256 rows of tile `b`. -/
def rowsOf {α : Type} (X : S8448x128.Idx → α) (b : ℕ) : S256x128.Idx → α := fun x =>
  X (ix2 ⟨(256 * b + (x 0).val) % 8448, Nat.mod_lt _ (by decide)⟩ (x 1))

/-- An array with the 256 rows of tile `b` replaced. -/
def putRows {α : Type} (X : S8448x128.Idx → α) (b : ℕ) (Y : S256x128.Idx → α) : S8448x128.Idx → α := fun y =>
  if (y 0).val / 256 = b then Y (ix2 ⟨(y 0).val % 256, Nat.mod_lt _ (by decide)⟩ (y 1)) else X y

/-- The column of one head. -/
def headOf {α : Type} (p : S2x256x1.Idx → α) (h : Fin 2) : S1x256x1.Idx → α := fun x => p (ix3 h (x 1) (x 2))

/-- The columns of the two heads together. -/
def joinHeads {α : Type} (a b : S1x256x1.Idx → α) : S2x256x1.Idx → α := fun y =>
  if (y 0).val = 0 then a (ix3 0 (y 1) (y 2)) else b (ix3 0 (y 1) (y 2))

/-- One of the three columns saved for a query tile. -/
def totOf {α : Type} (T : S1x256x3.Idx → α) (h : Fin 3) : S1x256x1.Idx → α := fun x => T (ix3 0 (x 1) h)

/-- The arrays the steps update: the gradients of the keys and of the values, and of a query tile the sums of both
    heads over the tiles walked and the gradient of its queries. -/
@[ext] structure St (F : FTy → Type) where
  dk : Vec F S8448x128 .f32
  dv : Vec F S8448x128 .f32
  pc : Vec F S2x256x1 .f32
  dc : Vec F S2x256x1 .f32
  dq : Vec F S256x128 .f32

/-- What a query tile brings to every step: the two heads' rows of q and of the cotangent, the saved sums, the pair's
    rows of k and v, and the mark of the first head's lanes. -/
structure Tile (F : FTy → Type) where
  v : IVec S1x128 1
  q : Fin 2 → FVec F S256x128 .bf16
  o : Fin 2 → FVec F S256x128 .bf16
  T : FVec F S1x256x3 .f32
  K : FVec F S8448x128 .bf16
  V : FVec F S8448x128 .bf16

/-- The cast of a tile's rows to their own shape, which the kernel makes of what it loads. -/
def same {e : EltTy} (x : Vec F S256x128 e) : Vec F S256x128 e := shapeCast S256x128 x shapeCasts_S256x128_S256x128

/-- The scores of head `h` against tile `b` of the keys. -/
def Tile.z (t : Tile F) (b : ℕ) (h : Fin 2) : Sc F := zs (t.q h) (same (F := F) (e := .bf16) (rowsOf t.K b))

/-- The weights of head `h` in tile `b`. -/
def Tile.a (t : Tile F) (m : Option (IVec S256x256 1)) (b : ℕ) (s : St F) (h : Fin 2) : Sc F :=
  wts m (t.z b h) (totOf t.T h.castSucc) (headOf s.pc h)

/-- The weights of head `h` in tile `b` times their gradient. -/
def Tile.dl (t : Tile F) (m : Option (IVec S256x256 1)) (b : ℕ) (s : St F) (h : Fin 2) : Sc F :=
  dls (t.a m b s h) (t.o h) (same (F := F) (e := .bf16) (rowsOf t.V b))

/-- The gradient of the scores of head `h` in tile `b`. -/
def Tile.dz (t : Tile F) (m : Option (IVec S256x256 1)) (b : ℕ) (s : St F) (h : Fin 2) : Sc F :=
  dzs m (t.z b h) (t.dl m b s h) (headOf s.dc h)

/-- One step: query tile `t` against key tile `b`. -/
def Tile.step (t : Tile F) (m : Option (IVec S256x256 1)) (b : ℕ) (s : St F) : St F where
  dk := putRows s.dk b (addf (same (F := F) (e := .f32) (rowsOf s.dk b)) (addf (mulRowsT (t.dz m b s 0) (t.q 0)) (mulRowsT (t.dz m b s 1) (t.q 1))))
  dv := putRows s.dv b (addf (same (F := F) (e := .f32) (rowsOf s.dv b)) (addf (mulRowsT (t.a m b s 0) (t.o 0)) (mulRowsT (t.a m b s 1) (t.o 1))))
  pc := joinHeads (plus (headOf s.pc 0) (keep m (lks (t.z b 0)))) (plus (headOf s.pc 1) (keep m (lks (t.z b 1))))
  dc := joinHeads (plus (headOf s.dc 0) (t.dl m b s 0)) (plus (headOf s.dc 1) (t.dl m b s 1))
  dq := same (F := F) (e := .f32) (addf s.dq (addf (mulRows (t.dz m b s 0) (parts t.v (same (F := F) (e := .bf16) (rowsOf t.K b)) 0))
    (mulRows (t.dz m b s 1) (parts t.v (same (F := F) (e := .bf16) (rowsOf t.K b)) 1))))

/-- The steps without a mask: `n` tiles from tile `l` on. -/
def Tile.mids (t : Tile F) (l : ℕ) : ℕ → St F → St F
  | 0, s => s
  | n + 1, s => t.step none (l + n) (t.mids l n s)

/-! ### Reading and writing the arrays -/

section Arrays

variable {e : EltTy}

/-- Reading the rows of a tile. -/
theorem readAt_rows {m : Memref sig .tc .vmem S8448x128 e} (h : m.IsWhole) (X : Vec F S8448x128 e) {b : ℕ} (hb : b < 33)
    {off : Fin 2 → ℕ} (hoff : off = ![256 * b, 0]) (inb) :
    View.readAt (Elt F) m.view (Rect.unit (s := S8448x128) off S256x128.size inb).toLoadRect (h.unread X) = rowsOf X b := by
  subst hoff
  funext x
  rw [View.readAt_apply, h.read_unread]
  unfold rowsOf
  congr 1
  funext a
  apply Fin.ext
  have hx : (x 0).val < 256 := (x 0).isLt
  match a with
  | 0 =>
    show 256 * b + 1 * (x 0).val = (256 * b + (x 0).val) % 8448
    omega
  | 1 =>
    show 0 + 1 * (x 1).val = (x 1).val
    omega

/-- Writing the rows of a tile. -/
theorem writes_rows {m : Memref sig .tc .vmem S8448x128 e} (h : m.IsWhole) (X : Vec F S8448x128 e) {b : ℕ}
    {off : Fin 2 → ℕ} (hoff : off = ![256 * b, 0]) (inb) (w : Vec F S256x128 e) :
    m.view.writes (Elt F) (h.unread X) [⟨Rect.unit off S256x128.size inb, w⟩] = h.unread (putRows X b w) := by
  apply h.eq_unread
  funext y
  unfold putRows
  split
  · rename_i hy
    refine View.read_writes_cons_unit_of_mem _ _ inb w [] y (ix2 ⟨(y 0).val % 256, Nat.mod_lt _ (by decide)⟩ (y 1)) hoff ?_
    refine Fin.forall_fin_two.mpr ⟨?_, ?_⟩
    · show (y 0).val = 256 * b + (y 0).val % 256
      omega
    · show (y 1).val = 0 + (y 1).val
      omega
  · rename_i hy
    rw [View.read_writes_cons_unit_of_not_mem _ _ inb w [] y hoff 0 (by
      show (y 0).val < 256 * b ∨ 256 * b + 256 ≤ (y 0).val
      omega)]
    exact congrFun (h.read_unread X) y

/-- Writing a whole two-axis array. -/
theorem writes_all {s : Shape} {m : Memref sig .tc .vmem s e} (h : m.IsWhole) (f : m.view.ty.Contents (Elt F))
    {off : Fin s.rank → ℕ} (hoff : off = fun _ => 0) (inb) (w : Vec F s e) :
    m.view.writes (Elt F) f [⟨Rect.unit off s.size inb, w⟩] = h.unread w := by
  apply h.eq_unread
  funext y
  exact View.read_writes_cons_unit_of_mem _ _ inb w [] y y hoff fun a => by simp

/-- Reading a whole array. -/
theorem readAt_all {s : Shape} {m : Memref sig .tc .vmem s e} (h : m.IsWhole) (X : Vec F s e)
    {off : Fin s.rank → ℕ} (hoff : off = fun _ => 0) (inb) :
    View.readAt (Elt F) m.view (Rect.unit off s.size inb).toLoadRect (h.unread X) = X := by
  subst hoff
  funext x
  rw [View.readAt_apply, h.read_unread]
  congr 1
  funext a
  apply Fin.ext
  simp

/-- Reading the column of one head. -/
theorem readAt_head {m : Memref sig .tc .vmem S2x256x1 e} (h : m.IsWhole) (X : Vec F S2x256x1 e) (n : Fin 2)
    {off : Fin 3 → ℕ} (hoff : off = ![n.val, 0, 0]) (inb) :
    View.readAt (Elt F) m.view (Rect.unit (s := S2x256x1) off S1x256x1.size inb).toLoadRect (h.unread X) = headOf X n := by
  subst hoff
  funext x
  rw [View.readAt_apply, h.read_unread]
  unfold headOf
  congr 1
  have hx : (x 0).val < 1 := (x 0).isLt
  funext a
  apply Fin.ext
  match a with
  | 0 =>
    show n.val + 1 * (x 0).val = n.val
    omega
  | 1 =>
    show 0 + 1 * (x 1).val = (x 1).val
    omega
  | 2 =>
    show 0 + 1 * (x 2).val = (x 2).val
    omega

/-- Reading one of the three saved columns. -/
theorem readAt_tot {m : Memref sig .tc .vmem S1x256x3 e} (h : m.IsWhole) (X : Vec F S1x256x3 e) (n : Fin 3)
    {off : Fin 3 → ℕ} (hoff : off = ![0, 0, n.val]) (inb) :
    View.readAt (Elt F) m.view (Rect.unit (s := S1x256x3) off S1x256x1.size inb).toLoadRect (h.unread X) = totOf X n := by
  subst hoff
  funext x
  rw [View.readAt_apply, h.read_unread]
  unfold totOf
  congr 1
  have hx : (x 0).val < 1 := (x 0).isLt
  have hx2 : (x 2).val < 1 := (x 2).isLt
  funext a
  apply Fin.ext
  match a with
  | 0 =>
    show 0 + 1 * (x 0).val = 0
    omega
  | 1 =>
    show 0 + 1 * (x 1).val = (x 1).val
    omega
  | 2 =>
    show n.val + 1 * (x 2).val = n.val
    omega

/-- Writing the columns of both heads, one after the other. -/
theorem writes_heads {m : Memref sig .tc .vmem S2x256x1 e} (h : m.IsWhole) (f : m.view.ty.Contents (Elt F))
    {off off' : Fin 3 → ℕ} (hoff : off = ![1, 0, 0]) (hoff' : off' = ![0, 0, 0]) (inb inb') (a b : Vec F S1x256x1 e) :
    m.view.writes (Elt F) f [⟨Rect.unit off S1x256x1.size inb, b⟩, ⟨Rect.unit off' S1x256x1.size inb', a⟩]
      = h.unread (joinHeads a b) := by
  apply h.eq_unread
  funext y
  have hy : (y 0).val < 2 := (y 0).isLt
  unfold joinHeads
  split
  · rename_i h0
    rw [View.read_writes_cons_unit_of_not_mem _ _ inb b _ y hoff 0 (by
      show (y 0).val < 1 ∨ 1 + 1 ≤ (y 0).val
      omega)]
    refine View.read_writes_cons_unit_of_mem _ _ inb' a [] y (ix3 0 (y 1) (y 2)) hoff' ?_
    intro c
    match c with
    | 0 => show (y 0).val = 0 + 0; omega
    | 1 => show (y 1).val = 0 + (y 1).val; omega
    | 2 => show (y 2).val = 0 + (y 2).val; omega
  · rename_i h0
    refine View.read_writes_cons_unit_of_mem _ _ inb b _ y (ix3 0 (y 1) (y 2)) hoff ?_
    intro c
    match c with
    | 0 => show (y 0).val = 1 + 0; omega
    | 1 => show (y 1).val = 0 + (y 1).val; omega
    | 2 => show (y 2).val = 0 + (y 2).val; omega

end Arrays

end Cert.KernelIdeal.Hand
-- ==== Proof.Trip.lean ====
module

public import proofs.«01_k».proof.Proof.Step
public import Idealize.ShloMosaic.Lib.Pipeline.FrameBody

@[expose] public section

set_option maxRecDepth 8192
set_option maxHeartbeats 400000

/-!
# One trip of the walk

A trip reads the keys and values of one tile and adds the tile's terms to the sums and gradients: from the state `s` to
the step's state, whatever the arrays hold.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The start of a two-axis array. -/
theorem zero2 : (![0, 0] : Fin 2 → ℕ) = fun _ => 0 := by
  funext a; revert a; exact Fin.forall_fin_two.mpr ⟨rfl, rfl⟩

/-- What a step holds: the arrays it reads at their values, the arrays it writes at the state `s`. -/
abbrev Held (c : Dev nD) {arg3 : Memref sig .tc .vmem S8448x128 .bf16} (harg3 : arg3.IsWhole) {arg4 : Memref sig .tc .vmem S8448x128 .bf16} (harg4 : arg4.IsWhole) {arg6 : Memref sig .tc .vmem S1x256x3 .f32} (harg6 : arg6.IsWhole) {arg8 : Memref sig .tc .vmem S8448x128 .f32} (harg8 : arg8.IsWhole) {arg9 : Memref sig .tc .vmem S8448x128 .f32} (harg9 : arg9.IsWhole) {arg10 : Memref sig .tc .vmem S2x256x1 .f32} (harg10 : arg10.IsWhole) {arg11 : Memref sig .tc .vmem S2x256x1 .f32} (harg11 : arg11.IsWhole) {arg12 : Memref sig .tc .vmem S256x128 .f32} (harg12 : arg12.IsWhole) (K V : Vec F S8448x128 .bf16) (T : Vec F S1x256x3 .f32) (s : St F) : sProp 𝕄G :=
  iprop((arg3.view.loc (c : Thread nD τ) ↦[arg3.view.set]{fullShare} harg3.unread K) ∗
    (arg4.view.loc (c : Thread nD τ) ↦[arg4.view.set]{fullShare} harg4.unread V) ∗
    (arg6.view.loc (c : Thread nD τ) ↦[arg6.view.set]{fullShare} harg6.unread T) ∗
    (arg8.view.loc (c : Thread nD τ) ↦[arg8.view.set]{fullShare} harg8.unread s.dk) ∗
    (arg9.view.loc (c : Thread nD τ) ↦[arg9.view.set]{fullShare} harg9.unread s.dv) ∗
    (arg10.view.loc (c : Thread nD τ) ↦[arg10.view.set]{fullShare} harg10.unread s.pc) ∗
    (arg11.view.loc (c : Thread nD τ) ↦[arg11.view.set]{fullShare} harg11.unread s.dc) ∗
    (arg12.view.loc (c : Thread nD τ) ↦[arg12.view.set]{fullShare} harg12.unread s.dq))

/-- The same, with the written arrays' contents named first and their values stated after. -/
abbrev Left (c : Dev nD) {arg3 : Memref sig .tc .vmem S8448x128 .bf16} (harg3 : arg3.IsWhole) {arg4 : Memref sig .tc .vmem S8448x128 .bf16} (harg4 : arg4.IsWhole) {arg6 : Memref sig .tc .vmem S1x256x3 .f32} (harg6 : arg6.IsWhole) {arg8 : Memref sig .tc .vmem S8448x128 .f32} (harg8 : arg8.IsWhole) {arg9 : Memref sig .tc .vmem S8448x128 .f32} (harg9 : arg9.IsWhole) {arg10 : Memref sig .tc .vmem S2x256x1 .f32} (harg10 : arg10.IsWhole) {arg11 : Memref sig .tc .vmem S2x256x1 .f32} (harg11 : arg11.IsWhole) {arg12 : Memref sig .tc .vmem S256x128 .f32} (harg12 : arg12.IsWhole) (K V : Vec F S8448x128 .bf16) (T : Vec F S1x256x3 .f32) (s : St F) : sProp 𝕄G :=
  iprop((arg3.view.loc (c : Thread nD τ) ↦[arg3.view.set]{fullShare} harg3.unread K) ∗
    (arg4.view.loc (c : Thread nD τ) ↦[arg4.view.set]{fullShare} harg4.unread V) ∗
    (arg6.view.loc (c : Thread nD τ) ↦[arg6.view.set]{fullShare} harg6.unread T) ∗
    (∃ f, (arg8.view.loc (c : Thread nD τ) ↦[arg8.view.set]{fullShare} f) ∗ ⌜f = harg8.unread s.dk⌝) ∗
    (∃ f, (arg9.view.loc (c : Thread nD τ) ↦[arg9.view.set]{fullShare} f) ∗ ⌜f = harg9.unread s.dv⌝) ∗
    (∃ f, (arg10.view.loc (c : Thread nD τ) ↦[arg10.view.set]{fullShare} f) ∗ ⌜f = harg10.unread s.pc⌝) ∗
    (∃ f, (arg11.view.loc (c : Thread nD τ) ↦[arg11.view.set]{fullShare} f) ∗ ⌜f = harg11.unread s.dc⌝) ∗
    (∃ f, (arg12.view.loc (c : Thread nD τ) ↦[arg12.view.set]{fullShare} f) ∗ ⌜f = harg12.unread s.dq⌝))

/-- Contents equal to the state's are the state. -/
theorem held_of_left (c : Dev nD) {arg3 : Memref sig .tc .vmem S8448x128 .bf16} (harg3 : arg3.IsWhole) {arg4 : Memref sig .tc .vmem S8448x128 .bf16} (harg4 : arg4.IsWhole) {arg6 : Memref sig .tc .vmem S1x256x3 .f32} (harg6 : arg6.IsWhole) {arg8 : Memref sig .tc .vmem S8448x128 .f32} (harg8 : arg8.IsWhole) {arg9 : Memref sig .tc .vmem S8448x128 .f32} (harg9 : arg9.IsWhole) {arg10 : Memref sig .tc .vmem S2x256x1 .f32} (harg10 : arg10.IsWhole) {arg11 : Memref sig .tc .vmem S2x256x1 .f32} (harg11 : arg11.IsWhole) {arg12 : Memref sig .tc .vmem S256x128 .f32} (harg12 : arg12.IsWhole) (K V : Vec F S8448x128 .bf16) (T : Vec F S1x256x3 .f32) (s : St F) :
    Left (F := F) c harg3 harg4 harg6 harg8 harg9 harg10 harg11 harg12 K V T s ⊢ Held (F := F) c harg3 harg4 harg6 harg8 harg9 harg10 harg11 harg12 K V T s := by
  iintro ⟨H3, H4, H6, ⟨%f8, H8, %e8⟩, ⟨%f9, H9, %e9⟩, ⟨%f10, H10, %e10⟩, ⟨%f11, H11, %e11⟩, ⟨%f12, H12, %e12⟩⟩
  subst e8 e9 e10 e11 e12
  isplitl [H3]; · iexact H3
  isplitl [H4]; · iexact H4
  isplitl [H6]; · iexact H6
  isplitl [H8]; · iexact H8
  isplitl [H9]; · iexact H9
  isplitl [H10]; · iexact H10
  isplitl [H11]; · iexact H11
  iexact H12

/-- One trip of the loop is one step without a mask. -/
theorem trip (𝒱 : Variants) (c : Dev nD) (bd : Option 𝒱.V) (i : grid0.Coords) (arg2 : Memref sig .tc .vmem S256x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x128 .bf16) (harg5 : arg5.IsWhole) (arg6 : Memref sig .tc .vmem S1x256x3 .f32) (harg6 : arg6.IsWhole) (arg7 : Memref sig .tc .vmem S256x128 .bf16) (harg7 : arg7.IsWhole) (arg8 : Memref sig .tc .vmem S8448x128 .f32) (harg8 : arg8.IsWhole) (arg9 : Memref sig .tc .vmem S8448x128 .f32) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S256x128 .f32) (harg12 : arg12.IsWhole) (arg1 : BitVec 32) (v2 : IVec S1x128 1) (v11 : FVec F S256x128 .bf16) (v14 : FVec F S256x128 .bf16) (v20 : FVec F S256x128 .bf16) (v23 : FVec F S256x128 .bf16) (v32 : FVec F S256x128 .f32) (v60 : BitVec 32) (k0_hw1 : k0_chk1 i v60) (v67 : BitVec 32) (k : Fin (k0_t1_loop i v60).trips) (E : Set ℕ)
    (T : Vec F S1x256x3 .f32) (K V : Vec F S8448x128 .bf16) (s : St F) :
    Held (F := F) c harg3 harg4 harg6 harg8 harg9 harg10 harg11 harg12 K V T s
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 v2 v11 v14 v20 v23 v32 v60 k0_hw1 v67 k PUnit.unit)
          (fun _ => Held (F := F) c harg3 harg4 harg6 harg8 harg9 harg10 harg11 harg12 K V T
            ((Tile.mk v2 ![v11, v14] ![v20, v23] T K V).step none (tileOf i v60 k) s)) := by
  have hb : tileOf i v60 k < 33 := (tileOf_lt i v60 k).trans (tile_lt i)
  have inb : ∀ a, k0_off1 i v60 k a + S256x128.size a ≤ S8448x128.size a := k0_hw1.2.2.1 k
  have eK := readAt_rows harg3 K hb (off1_eq i v60 k) inb
  have eV := readAt_rows harg4 V hb (off1_eq i v60 k) inb
  have e8 := readAt_rows harg8 s.dk hb (off1_eq i v60 k) inb
  have e9 := readAt_rows harg9 s.dv hb (off1_eq i v60 k) inb
  have t0 := readAt_tot harg6 T 0 (off := ![0, 0, 0]) rfl inb_S1x256x3_S1x256x1_0_0_0
  have t1 := readAt_tot harg6 T 1 (off := ![0, 0, 1]) rfl inb_S1x256x3_S1x256x1_0_0_1
  have p0 := readAt_head harg10 s.pc 0 (off := ![0, 0, 0]) rfl inb_S2x256x1_S1x256x1_0_0_0
  have p1 := readAt_head harg10 s.pc 1 (off := ![1, 0, 0]) rfl inb_S2x256x1_S1x256x1_1_0_0
  have d0 := readAt_head harg11 s.dc 0 (off := ![0, 0, 0]) rfl inb_S2x256x1_S1x256x1_0_0_0
  have d1 := readAt_head harg11 s.dc 1 (off := ![1, 0, 0]) rfl inb_S2x256x1_S1x256x1_1_0_0
  have e12 := readAt_all harg12 s.dq (zero2) inb_S256x128_S256x128_0_0
  unfold k0_t1_body
  iintro ⟨HR_arg3, HR_arg4, HR_arg6, HW_arg8, HW_arg9, HW_arg10, HW_arg11, HW_arg12⟩
  sl_exec
  sl_step
  iapply (held_of_left c harg3 harg4 harg6 harg8 harg9 harg10 harg11 harg12 K V T _)
  isplitl [HR_arg3]; · iexact HR_arg3
  isplitl [HR_arg4]; · iexact HR_arg4
  isplitl [HR_arg6]; · iexact HR_arg6
  isplitl [HW_arg8]
  · iexists _; isplitl [HW_arg8]; · iexact HW_arg8
    ipureintro
    simp only [Tile.step, Tile.dz, Tile.dl, Tile.a, Tile.z]
    refine (writes_rows harg8 s.dk (off1_eq i v60 k) inb _).trans (congrArg (fun w => harg8.unread (putRows s.dk (tileOf i v60 k) w)) ?_)
    rfl
  isplitl [HW_arg9]
  · iexists _; isplitl [HW_arg9]; · iexact HW_arg9
    ipureintro
    simp only [Tile.step, Tile.dz, Tile.dl, Tile.a, Tile.z]
    refine (writes_rows harg9 s.dv (off1_eq i v60 k) inb _).trans (congrArg (fun w => harg9.unread (putRows s.dv (tileOf i v60 k) w)) ?_)
    rfl
  isplitl [HW_arg10]
  · iexists _; isplitl [HW_arg10]; · iexact HW_arg10
    ipureintro
    simp only [Tile.step, Tile.dz, Tile.dl, Tile.a, Tile.z]
    refine (writes_heads harg10 (harg10.unread s.pc) rfl rfl inb_S2x256x1_S1x256x1_1_0_0 inb_S2x256x1_S1x256x1_0_0_0 _ _).trans (congrArg (fun w => harg10.unread w) ?_)
    rfl
  isplitl [HW_arg11]
  · iexists _; isplitl [HW_arg11]; · iexact HW_arg11
    ipureintro
    simp only [Tile.step, Tile.dz, Tile.dl, Tile.a, Tile.z]
    refine (writes_heads harg11 (harg11.unread s.dc) rfl rfl inb_S2x256x1_S1x256x1_1_0_0 inb_S2x256x1_S1x256x1_0_0_0 _ _).trans (congrArg (fun w => harg11.unread w) ?_)
    rfl
  iexists _; isplitl [HW_arg12]; · iexact HW_arg12
  ipureintro
  simp only [Tile.step, Tile.dz, Tile.dl, Tile.a, Tile.z]
  refine (writes_all harg12 (harg12.unread s.dq) zero2 inb_S256x128_S256x128_0_0 _).trans (congrArg (fun w => harg12.unread w) ?_)
  rfl

end Cert.KernelIdeal.Hand
-- ==== Proof.Body.lean ====
module

public import proofs.«01_k».proof.Proof.Trip
public import Idealize.ShloMosaic.Lib.Pipeline.Value
public import Idealize.ShloMosaic.Lib.Pipeline.FrameBody

@[expose] public section

set_option maxRecDepth 8192
set_option maxHeartbeats 400000

/-!
# The body of the gradient kernel at one grid point

A point handles one tile of 256 queries of one pair of heads. It starts from nothing, may take the tile of key 0 under
its mask, walks the tiles before its own without a mask, and ends with its own tile under the causal mask. `body_run`
states what the body leaves in its windows as the state `s3` after those steps.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The start of a three-axis array. -/
theorem zero3 : (![0, 0, 0] : Fin 3 → ℕ) = fun _ => 0 := by
  funext a; revert a; decide

/-- The word that says that a query tile is a pair's first. -/
abbrev isFirst (i : grid0.Coords) : BitVec 1 :=
  Scalar.cmpi .ne (Scalar.extui (Scalar.cmpi .eq (BitVec.ofNat 32 (i 1).val) 0#32) : BitVec 32) 0#32

/-- The number of walked tiles, as the word the kernel makes of the third column. -/
abbrev walked (T : Vec F S1x256x3 .f32) : BitVec 32 := Scalar.fptosi 32 (k0_pay125 (F := F) (totOf T 2))

/-- The word that says that the walk starts at the tile of key 0 and that this tile is not the queries' own. -/
abbrev fromZero (i : grid0.Coords) (T : Vec F S1x256x3 .f32) : BitVec 1 :=
  Scalar.cmpi .ne (Scalar.extui (Scalar.andi (Scalar.cmpi .eq (Scalar.subi (Scalar.addi (BitVec.ofNat 32 (i 1).val) 1#32) (walked T)) 0#32) (Scalar.cmpi .sgt (BitVec.ofNat 32 (i 1).val) 0#32)) : BitVec 32) 0#32

/-- A query tile's arrays. -/
abbrev tileAt (Q O : Vec F S256x128 .bf16) (T : Vec F S1x256x3 .f32) (K V : Vec F S8448x128 .bf16) : Tile F :=
  Tile.mk k0_pay107 ![k0_pay112 Q, k0_pay113 Q] ![k0_pay116 O, k0_pay117 O] T K V

/-- The state before the first step. -/
def s0 (i : grid0.Coords) (dk dv : Vec F S8448x128 .f32) : St F :=
  { dk := if isFirst i = 1#1 then k0_pay108 else dk
    dv := if isFirst i = 1#1 then k0_pay109 else dv
    pc := k0_pay118, dc := k0_pay119, dq := k0_pay121 k0_pay120 }

/-- The mask of the tile of key 0. -/
abbrev mask0 (i : grid0.Coords) : IVec S256x256 1 := k0_pay7 (k0_pay124 (BitVec.ofNat 32 (i 1).val)) (iota .tc S256x256 32 [1] iota_S256x256_d1_w32)

/-- The state before the loop. -/
def s1 (i : grid0.Coords) (Q O : Vec F S256x128 .bf16) (T : Vec F S1x256x3 .f32) (K V : Vec F S8448x128 .bf16) (dk dv : Vec F S8448x128 .f32) : St F :=
  if fromZero i T = 1#1 then (tileAt Q O T K V).step (some (mask0 i)) 0 (s0 i dk dv) else s0 i dk dv

/-- The mask of the queries' own tile. -/
abbrev maskOwn (i : grid0.Coords) : IVec S256x256 1 :=
  k0_pay142 (k0_pay124 (BitVec.ofNat 32 (i 1).val)) (iota .tc S256x256 32 [1] iota_S256x256_d1_w32) (Scalar.muli (BitVec.ofNat 32 (i 1).val) 256#32)

/-- The state after the loop. -/
def s2 (i : grid0.Coords) (Q O : Vec F S256x128 .bf16) (T : Vec F S1x256x3 .f32) (K V : Vec F S8448x128 .bf16) (dk dv : Vec F S8448x128 .f32) : St F :=
  (tileAt Q O T K V).mids (lo i (walked T)) (k0_t1_loop i (walked T)).trips (s1 i Q O T K V dk dv)

/-- The state after the last step. -/
def s3 (i : grid0.Coords) (Q O : Vec F S256x128 .bf16) (T : Vec F S1x256x3 .f32) (K V : Vec F S8448x128 .bf16) (dk dv : Vec F S8448x128 .f32) : St F :=
  (tileAt Q O T K V).step (some (maskOwn i)) (i 1).val (s2 i Q O T K V dk dv)

/-- The body at a grid point, from what its windows hold to what it leaves. -/
theorem body_run (𝒱 : Variants) (c : Dev nD) (bd : Option 𝒱.V) (E : Set ℕ) (i : grid0.Coords) (arg2 : Memref sig .tc .vmem S256x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x128 .bf16) (harg5 : arg5.IsWhole) (arg6 : Memref sig .tc .vmem S1x256x3 .f32) (harg6 : arg6.IsWhole) (arg7 : Memref sig .tc .vmem S256x128 .bf16) (harg7 : arg7.IsWhole) (arg8 : Memref sig .tc .vmem S8448x128 .f32) (harg8 : arg8.IsWhole) (arg9 : Memref sig .tc .vmem S8448x128 .f32) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S256x128 .f32) (harg12 : arg12.IsWhole)
    (Q O : Vec F S256x128 .bf16) (T : Vec F S1x256x3 .f32) (K V : Vec F S8448x128 .bf16) (dk dv : Vec F S8448x128 .f32)
    (f7 : arg7.view.ty.Contents (Elt F)) (f10 : arg10.view.ty.Contents (Elt F)) (f11 : arg11.view.ty.Contents (Elt F)) (f12 : arg12.view.ty.Contents (Elt F))
    :
    iprop((arg2.view.loc (c : Thread nD τ) ↦[arg2.view.set]{fullShare} harg2.unread Q) ∗
    (arg3.view.loc (c : Thread nD τ) ↦[arg3.view.set]{fullShare} harg3.unread K) ∗
    (arg4.view.loc (c : Thread nD τ) ↦[arg4.view.set]{fullShare} harg4.unread V) ∗
    (arg5.view.loc (c : Thread nD τ) ↦[arg5.view.set]{fullShare} harg5.unread O) ∗
    (arg6.view.loc (c : Thread nD τ) ↦[arg6.view.set]{fullShare} harg6.unread T) ∗
    (arg7.view.loc (c : Thread nD τ) ↦[arg7.view.set]{fullShare} f7) ∗
    (arg8.view.loc (c : Thread nD τ) ↦[arg8.view.set]{fullShare} harg8.unread dk) ∗
    (arg9.view.loc (c : Thread nD τ) ↦[arg9.view.set]{fullShare} harg9.unread dv) ∗
    (arg10.view.loc (c : Thread nD τ) ↦[arg10.view.set]{fullShare} f10) ∗
    (arg11.view.loc (c : Thread nD τ) ↦[arg11.view.set]{fullShare} f11) ∗
    (arg12.view.loc (c : Thread nD τ) ↦[arg12.view.set]{fullShare} f12))
      ⊢ wp frame (wpE (defs₀ (F := F)) 𝒱 (c : Thread nD τ) bd) E (cc0_sb_bwd (F := F) i arg2 harg2 arg3 harg3 arg4 harg4 arg5 harg5 arg6 harg6 arg7 harg7 arg8 harg8 arg9 harg9 arg10 harg10 arg11 harg11 arg12 harg12) (fun _ => iprop((arg2.view.loc (c : Thread nD τ) ↦[arg2.view.set]{fullShare} harg2.unread Q) ∗
        (arg5.view.loc (c : Thread nD τ) ↦[arg5.view.set]{fullShare} harg5.unread O) ∗
        (∃ f, (arg7.view.loc (c : Thread nD τ) ↦[arg7.view.set]{fullShare} f) ∗ ⌜f = harg7.unread (k0_pay1 (s3 i Q O T K V dk dv).dq)⌝) ∗
        Left (F := F) c harg3 harg4 harg6 harg8 harg9 harg10 harg11 harg12 K V T (s3 i Q O T K V dk dv))) := by
  have hb := tile_lt i
  have t0 := readAt_tot harg6 T 0 (off := ![0, 0, 0]) rfl inb_S1x256x3_S1x256x1_0_0_0
  have t1 := readAt_tot harg6 T 1 (off := ![0, 0, 1]) rfl inb_S1x256x3_S1x256x1_0_0_1
  have t2 := readAt_tot harg6 T 2 (off := ![0, 0, 2]) rfl inb_S1x256x3_S1x256x1_0_0_2
  have q0 := readAt_all harg2 Q zero2 inb_S256x128_S256x128_0_0
  have o0 := readAt_all harg5 O zero2 inb_S256x128_S256x128_0_0
  sl_unfold [cc0_sb_bwd]
  iintro ⟨H2, H3, H4, H5, H6, H7, H8, H9, H10, H11, H12⟩
  sl_exec
  ihave HL : (Left (F := F) c harg3 harg4 harg6 harg8 harg9 harg10 harg11 harg12 K V T (s0 i dk dv)) $$ [H3 H4 H6 H8 H9 H10 H11 H12]
  · isplitl [H3]; · iexact H3
    isplitl [H4]; · iexact H4
    isplitl [H6]; · iexact H6
    isplitl [H8]
    · iexists _; isplitl [H8]; · iexact H8
      ipureintro
      by_cases h1 : isFirst i = 1#1
      · refine (dif_pos h1).trans ?_
        exact (writes_all harg8 _ zero2 _ _).trans (by simp only [s0, if_pos h1])
      · exact (dif_neg h1).trans (by simp only [s0, if_neg h1])
    isplitl [H9]
    · iexists _; isplitl [H9]; · iexact H9
      ipureintro
      by_cases h1 : isFirst i = 1#1
      · refine (dif_pos h1).trans ?_
        exact (writes_all harg9 _ zero2 _ _).trans (by simp only [s0, if_pos h1])
      · exact (dif_neg h1).trans (by simp only [s0, if_neg h1])
    isplitl [H10]
    · iexists _; isplitl [H10]; · iexact H10
      ipureintro
      exact writes_all harg10 _ zero3 _ _
    isplitl [H11]
    · iexists _; isplitl [H11]; · iexact H11
      ipureintro
      exact writes_all harg11 _ zero3 _ _
    iexists _; isplitl [H12]; · iexact H12
    ipureintro
    exact writes_all harg12 _ zero2 _ _
  obtain ⟨z0, hz0⟩ : ∃ z, z = s0 i dk dv := ⟨_, rfl⟩
  ihave HH := (held_of_left c harg3 harg4 harg6 harg8 harg9 harg10 harg11 harg12 K V T _) $$ HL
  rw [← hz0]
  icases HH with ⟨H3, H4, H6, H8, H9, H10, H11, H12⟩
  have hchk := chk i
  have eK := readAt_rows harg3 K (by omega) (b := 0) rfl inb_S8448x128_S256x128_0_0
  have eV := readAt_rows harg4 V (by omega) (b := 0) rfl inb_S8448x128_S256x128_0_0
  have e8 := readAt_rows harg8 z0.dk (by omega) (b := 0) rfl inb_S8448x128_S256x128_0_0
  have e9 := readAt_rows harg9 z0.dv (by omega) (b := 0) rfl inb_S8448x128_S256x128_0_0
  have p0 := readAt_head harg10 z0.pc 0 (off := ![0, 0, 0]) rfl inb_S2x256x1_S1x256x1_0_0_0
  have p1 := readAt_head harg10 z0.pc 1 (off := ![1, 0, 0]) rfl inb_S2x256x1_S1x256x1_1_0_0
  have d0 := readAt_head harg11 z0.dc 0 (off := ![0, 0, 0]) rfl inb_S2x256x1_S1x256x1_0_0_0
  have d1 := readAt_head harg11 z0.dc 1 (off := ![1, 0, 0]) rfl inb_S2x256x1_S1x256x1_1_0_0
  have e12 := readAt_all harg12 z0.dq zero2 inb_S256x128_S256x128_0_0
  sl_exec
  ihave HL : (Left (F := F) c harg3 harg4 harg6 harg8 harg9 harg10 harg11 harg12 K V T (s1 i Q O T K V dk dv)) $$ [H3 H4 H6 H8 H9 H10 H11 H12]
  · isplitl [H3]; · iexact H3
    isplitl [H4]; · iexact H4
    isplitl [H6]; · iexact H6
    isplitl [H8]
    · iexists _; isplitl [H8]; · iexact H8
      ipureintro
      by_cases h2 : fromZero i T = 1#1
      · refine (dif_pos h2).trans ?_
        rw [s1, if_pos h2, ← hz0]
        simp only [Tile.step, Tile.dz, Tile.dl, Tile.a, Tile.z]
        refine (writes_rows harg8 z0.dk (b := 0) rfl inb_S8448x128_S256x128_0_0 _).trans (congrArg (fun w => harg8.unread (putRows z0.dk 0 w)) ?_)
        rfl
      · exact (dif_neg h2).trans (by rw [s1, if_neg h2, ← hz0])
    isplitl [H9]
    · iexists _; isplitl [H9]; · iexact H9
      ipureintro
      by_cases h2 : fromZero i T = 1#1
      · refine (dif_pos h2).trans ?_
        rw [s1, if_pos h2, ← hz0]
        simp only [Tile.step, Tile.dz, Tile.dl, Tile.a, Tile.z]
        refine (writes_rows harg9 z0.dv (b := 0) rfl inb_S8448x128_S256x128_0_0 _).trans (congrArg (fun w => harg9.unread (putRows z0.dv 0 w)) ?_)
        rfl
      · exact (dif_neg h2).trans (by rw [s1, if_neg h2, ← hz0])
    isplitl [H10]
    · iexists _; isplitl [H10]; · iexact H10
      ipureintro
      by_cases h2 : fromZero i T = 1#1
      · refine (dif_pos h2).trans ?_
        rw [s1, if_pos h2, ← hz0]
        simp only [Tile.step, Tile.dz, Tile.dl, Tile.a, Tile.z]
        refine (writes_heads harg10 _ rfl rfl inb_S2x256x1_S1x256x1_1_0_0 inb_S2x256x1_S1x256x1_0_0_0 _ _).trans (congrArg (fun w => harg10.unread w) ?_)
        rfl
      · exact (dif_neg h2).trans (by rw [s1, if_neg h2, ← hz0])
    isplitl [H11]
    · iexists _; isplitl [H11]; · iexact H11
      ipureintro
      by_cases h2 : fromZero i T = 1#1
      · refine (dif_pos h2).trans ?_
        rw [s1, if_pos h2, ← hz0]
        simp only [Tile.step, Tile.dz, Tile.dl, Tile.a, Tile.z]
        refine (writes_heads harg11 _ rfl rfl inb_S2x256x1_S1x256x1_1_0_0 inb_S2x256x1_S1x256x1_0_0_0 _ _).trans (congrArg (fun w => harg11.unread w) ?_)
        rfl
      · exact (dif_neg h2).trans (by rw [s1, if_neg h2, ← hz0])
    iexists _; isplitl [H12]; · iexact H12
    ipureintro
    by_cases h2 : fromZero i T = 1#1
    · refine (dif_pos h2).trans ?_
      rw [s1, if_pos h2, ← hz0]
      simp only [Tile.step, Tile.dz, Tile.dl, Tile.a, Tile.z]
      refine (writes_all harg12 _ zero2 inb_S256x128_S256x128_0_0 _).trans (congrArg (fun w => harg12.unread w) ?_)
      rfl
    · exact (dif_neg h2).trans (by rw [s1, if_neg h2, ← hz0])
  clear eK eV e8 e9 p0 p1 d0 d1 e12
  ihave HH := (held_of_left c harg3 harg4 harg6 harg8 harg9 harg10 harg11 harg12 K V T _) $$ HL
  sl_for (fun n (_ : PUnit) => Held (F := F) c harg3 harg4 harg6 harg8 harg9 harg10 harg11 harg12 K V T ((tileAt Q O T K V).mids (lo i (walked T)) n (s1 i Q O T K V dk dv))) $$ [HH]
  case region =>
    intro k a
    exact trip 𝒱 c bd i arg2 harg2 arg3 harg3 arg4 harg4 arg5 harg5 arg6 harg6 arg7 harg7 arg8 harg8 arg9 harg9 arg10 harg10 arg11 harg11 arg12 harg12 _ _ _ _ _ _ _ _ _ _ k E T K V _
  · iexact HH
  iintro %a HH
  sl_for0 (t2_trips i (walked T))
  obtain ⟨z2, hz2⟩ : ∃ z, z = s2 i Q O T K V dk dv := ⟨_, rfl⟩
  rw [s3, ← hz2]
  ihave HH : (Held (F := F) c harg3 harg4 harg6 harg8 harg9 harg10 harg11 harg12 K V T z2) $$ [HH]
  · rw [hz2]; iexact HH
  icases HH with ⟨H3, H4, H6, H8, H9, H10, H11, H12⟩
  have eK := readAt_rows harg3 K (tile_lt i) (off3_eq i) (k0_off3_inb i)
  have eV := readAt_rows harg4 V (tile_lt i) (off3_eq i) (k0_off3_inb i)
  have e8 := readAt_rows harg8 z2.dk (tile_lt i) (off3_eq i) (k0_off3_inb i)
  have e9 := readAt_rows harg9 z2.dv (tile_lt i) (off3_eq i) (k0_off3_inb i)
  have p0 := readAt_head harg10 z2.pc 0 (off := ![0, 0, 0]) rfl inb_S2x256x1_S1x256x1_0_0_0
  have p1 := readAt_head harg10 z2.pc 1 (off := ![1, 0, 0]) rfl inb_S2x256x1_S1x256x1_1_0_0
  have d0 := readAt_head harg11 z2.dc 0 (off := ![0, 0, 0]) rfl inb_S2x256x1_S1x256x1_0_0_0
  have d1 := readAt_head harg11 z2.dc 1 (off := ![1, 0, 0]) rfl inb_S2x256x1_S1x256x1_1_0_0
  have e12 := readAt_all harg12 z2.dq zero2 inb_S256x128_S256x128_0_0
  sl_exec
  sl_step
  isplitl [H2]; · iexact H2
  isplitl [H5]; · iexact H5
  isplitl [H7]
  · iexists _; isplitl [H7]; · iexact H7
    ipureintro
    simp only [Tile.step, Tile.dz, Tile.dl, Tile.a, Tile.z]
    refine (writes_all harg7 _ zero2 inb_S256x128_S256x128_0_0 _).trans ?_
    refine congrArg (fun w => harg7.unread w) (congrArg (fun w => k0_pay1 (F := F) w) ((View.readCov_unit_zero (Val := Elt F) arg12.view zero2 inb_S256x128_S256x128_0_0 _).trans ?_))
    rfl
  isplitl [H3]; · iexact H3
  isplitl [H4]; · iexact H4
  isplitl [H6]; · iexact H6
  isplitl [H8]
  · iexists _; isplitl [H8]; · iexact H8
    ipureintro
    simp only [Tile.step, Tile.dz, Tile.dl, Tile.a, Tile.z]
    refine (writes_rows harg8 z2.dk (off3_eq i) (k0_off3_inb i) _).trans (congrArg (fun w => harg8.unread (putRows z2.dk (i 1).val w)) ?_)
    rfl
  isplitl [H9]
  · iexists _; isplitl [H9]; · iexact H9
    ipureintro
    simp only [Tile.step, Tile.dz, Tile.dl, Tile.a, Tile.z]
    refine (writes_rows harg9 z2.dv (off3_eq i) (k0_off3_inb i) _).trans (congrArg (fun w => harg9.unread (putRows z2.dv (i 1).val w)) ?_)
    rfl
  isplitl [H10]
  · iexists _; isplitl [H10]; · iexact H10
    ipureintro
    simp only [Tile.step, Tile.dz, Tile.dl, Tile.a, Tile.z]
    refine (writes_heads harg10 _ rfl rfl inb_S2x256x1_S1x256x1_1_0_0 inb_S2x256x1_S1x256x1_0_0_0 _ _).trans (congrArg (fun w => harg10.unread w) ?_)
    rfl
  isplitl [H11]
  · iexists _; isplitl [H11]; · iexact H11
    ipureintro
    simp only [Tile.step, Tile.dz, Tile.dl, Tile.a, Tile.z]
    refine (writes_heads harg11 _ rfl rfl inb_S2x256x1_S1x256x1_1_0_0 inb_S2x256x1_S1x256x1_0_0_0 _ _).trans (congrArg (fun w => harg11.unread w) ?_)
    rfl
  iexists _; isplitl [H12]; · iexact H12
  ipureintro
  simp only [Tile.step, Tile.dz, Tile.dl, Tile.a, Tile.z]
  refine (writes_all harg12 _ zero2 inb_S256x128_S256x128_0_0 _).trans (congrArg (fun w => harg12.unread w) ?_)
  rfl

end Cert.KernelIdeal.Hand
-- ==== Proof.Run.lean ====
module

public import proofs.«01_k».proof.Proof.Body
public import proofs.«01_k».proof.Proof.Gen.KernelIdeal.Frame
public import proofs.«01_k».proof.Proof.Gen.KernelIdeal.Points
public import Idealize.ShloMosaic.Lib.Claim

@[expose] public section

set_option maxRecDepth 8192

/-!
# The run of the gradient kernel

The body's values at every point of the grid, and the launch: every execution ends, the arguments are unchanged, every
counter is zero, and each result holds what its last point left.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- A whole memref holding an array's contents is owned at that array. -/
theorem owns_of (c : Dev nD) {sp : Space} {s : Shape} {t : EltTy} {r : Memref sig .tc sp s t} (h : r.IsWhole) (X : Vec F s t) :
    (r.view.loc (c : Thread nD τ) ↦[r.view.set]{fullShare} h.unread X : sProp 𝕄G) ⊢ owns (c : Thread nD τ) r fullShare X := by
  unfold owns
  iintro H
  iexists _
  isplitr; · ipureintro; exact h.read_unread _
  iexact H

/-- The same, of some array. -/
theorem owns_some (c : Dev nD) {sp : Space} {s : Shape} {t : EltTy} {r : Memref sig .tc sp s t} (h : r.IsWhole) (X : Vec F s t) :
    (r.view.loc (c : Thread nD τ) ↦[r.view.set]{fullShare} h.unread X : sProp 𝕄G) ⊢ iprop(∃ d, owns (c : Thread nD τ) r fullShare d) := by
  iintro H
  iexists X
  iapply (owns_of c h X)
  iexact H

/-- And back: a whole memref owned at an array holds that array's contents. -/
theorem owns_open (c : Dev nD) {sp : Space} {s : Shape} {t : EltTy} {r : Memref sig .tc sp s t} (h : r.IsWhole) (X : Vec F s t) :
    (owns (c : Thread nD τ) r fullShare X : sProp 𝕄G) ⊢ (r.view.loc (c : Thread nD τ) ↦[r.view.set]{fullShare} h.unread X) := by
  unfold owns
  iintro ⟨%f, %e, H⟩
  obtain rfl := h.eq_unread e
  iexact H

set_option maxHeartbeats 400000 in
/-- The body on memrefs owned at their values: it ends holding the inputs as they were and the outputs at the last
    state's. -/
theorem body_owns (c : Dev nD) (E : Set ℕ) (i : grid0.Coords) (arg2 : Memref sig .tc .vmem S256x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x128 .bf16) (harg5 : arg5.IsWhole) (arg6 : Memref sig .tc .vmem S1x256x3 .f32) (harg6 : arg6.IsWhole) (arg7 : Memref sig .tc .vmem S256x128 .bf16) (harg7 : arg7.IsWhole) (arg8 : Memref sig .tc .vmem S8448x128 .f32) (harg8 : arg8.IsWhole) (arg9 : Memref sig .tc .vmem S8448x128 .f32) (harg9 : arg9.IsWhole) (arg10 : Memref sig .tc .vmem S2x256x1 .f32) (harg10 : arg10.IsWhole) (arg11 : Memref sig .tc .vmem S2x256x1 .f32) (harg11 : arg11.IsWhole) (arg12 : Memref sig .tc .vmem S256x128 .f32) (harg12 : arg12.IsWhole)
    (Q O : Vec F S256x128 .bf16) (T : Vec F S1x256x3 .f32) (K V : Vec F S8448x128 .bf16) (dk dv : Vec F S8448x128 .f32) (Kt : PUnit → sProp 𝕄G) :
    iprop(owns (c : Thread nD τ) arg2 fullShare Q ∗ owns (c : Thread nD τ) arg3 fullShare K ∗ owns (c : Thread nD τ) arg4 fullShare V
        ∗ owns (c : Thread nD τ) arg5 fullShare O ∗ owns (c : Thread nD τ) arg6 fullShare T ∗ (∃ d, owns (c : Thread nD τ) arg7 fullShare d)
        ∗ owns (c : Thread nD τ) arg8 fullShare dk ∗ owns (c : Thread nD τ) arg9 fullShare dv
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare Q ∗ owns (c : Thread nD τ) arg3 fullShare K ∗ owns (c : Thread nD τ) arg4 fullShare V
            ∗ owns (c : Thread nD τ) arg5 fullShare O ∗ owns (c : Thread nD τ) arg6 fullShare T
            ∗ owns (c : Thread nD τ) arg7 fullShare (k0_pay1 (s3 i Q O T K V dk dv).dq)
            ∗ owns (c : Thread nD τ) arg8 fullShare (s3 i Q O T K V dk dv).dk ∗ owns (c : Thread nD τ) arg9 fullShare (s3 i Q O T K V dk dv).dv
            ∗ (∃ d, owns (c : Thread nD τ) arg10 fullShare d) ∗ (∃ d, owns (c : Thread nD τ) arg11 fullShare d) ∗ (∃ d, owns (c : Thread nD τ) arg12 fullShare d)) -∗ Kt ⟨⟩))
      ⊢ wp frame (wpE (defs₀ (F := F)) Variants.none (c : Thread nD τ) none) E (cc0_sb_bwd (F := F) i arg2 harg2 arg3 harg3 arg4 harg4 arg5 harg5 arg6 harg6 arg7 harg7 arg8 harg8 arg9 harg9 arg10 harg10 arg11 harg11 arg12 harg12) Kt := by
  iintro ⟨H2, H3, H4, H5, H6, ⟨%d7, H7⟩, H8, H9, ⟨%d10, H10⟩, ⟨%d11, H11⟩, ⟨%d12, H12⟩, Hk⟩
  ihave H2 := (owns_open c harg2 _) $$ H2
  ihave H3 := (owns_open c harg3 _) $$ H3
  ihave H4 := (owns_open c harg4 _) $$ H4
  ihave H5 := (owns_open c harg5 _) $$ H5
  ihave H6 := (owns_open c harg6 _) $$ H6
  ihave H7 := (owns_open c harg7 _) $$ H7
  ihave H8 := (owns_open c harg8 _) $$ H8
  ihave H9 := (owns_open c harg9 _) $$ H9
  ihave H10 := (owns_open c harg10 _) $$ H10
  ihave H11 := (owns_open c harg11 _) $$ H11
  ihave H12 := (owns_open c harg12 _) $$ H12
  iapply (wp_wand frame (wpE (defs₀ (F := F)) Variants.none (c : Thread nD τ) none) E) $$ [H2 H3 H4 H5 H6 H7 H8 H9 H10 H11 H12]
  · iapply (body_run Variants.none c none E i arg2 harg2 arg3 harg3 arg4 harg4 arg5 harg5 arg6 harg6 arg7 harg7 arg8 harg8 arg9 harg9 arg10 harg10 arg11 harg11 arg12 harg12 Q O T K V dk dv _ _ _ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %a ⟨H2, H5, ⟨%g7, H7, %e7⟩, H3, H4, H6, ⟨%g8, H8, %e8⟩, ⟨%g9, H9, %e9⟩, ⟨%g10, H10, %e10⟩, ⟨%g11, H11, %e11⟩, ⟨%g12, H12, %e12⟩⟩
  subst e7 e8 e9 e10 e11 e12
  iapply Hk
  isplitl [H2]; · iapply (owns_of c harg2); iexact H2
  isplitl [H3]; · iapply (owns_of c harg3); iexact H3
  isplitl [H4]; · iapply (owns_of c harg4); iexact H4
  isplitl [H5]; · iapply (owns_of c harg5); iexact H5
  isplitl [H6]; · iapply (owns_of c harg6); iexact H6
  isplitl [H7]; · iapply (owns_of c harg7); iexact H7
  isplitl [H8]; · iapply (owns_of c harg8); iexact H8
  isplitl [H9]; · iapply (owns_of c harg9); iexact H9
  isplitl [H10]; · iapply (owns_some c harg10); iexact H10
  isplitl [H11]; · iapply (owns_some c harg11); iexact H11
  iapply (owns_some c harg12); iexact H12

/-- At a pair's first tile the sums start at zero, whatever the arrays held. -/
theorem s3_first {i : grid0.Coords} (h : isFirst i = 1#1) (Q O : Vec F S256x128 .bf16) (T : Vec F S1x256x3 .f32) (K V : Vec F S8448x128 .bf16) (dk dv dk' dv' : Vec F S8448x128 .f32) :
    s3 i Q O T K V dk dv = s3 i Q O T K V dk' dv' := by
  have e : s0 i dk dv = s0 i dk' dv' := by unfold s0; rw [if_pos h, if_pos h, if_pos h, if_pos h]
  unfold s3 s2 s1; rw [e]

/-- A point's query tile is its place in its pair. -/
theorem coords_tile : ∀ t : Fin cfg0.N, (grid0.coords t 1).val = t.val % 33 := by decide

/-- A point is a pair's first exactly at the multiples of 33. -/
theorem isFirst_of (t : Fin cfg0.N) (h : t.val % 33 = 0) : isFirst (grid0.coords t) = 1#1 := by
  have := coords_tile t
  unfold isFirst; rw [this, h]; rfl

/-- The state after the body at a point: the sums of a pair run through its tiles. -/
def state (c : Dev nD) : (n : ℕ) → n < cfg0.N → St F
  | 0, h => s3 (grid0.coords ⟨0, h⟩) (iblk m c 0 ⟨0, h⟩) (iblk m c 3 ⟨0, h⟩) (iblk m c 4 ⟨0, h⟩) (iblk m c 1 ⟨0, h⟩) (iblk m c 2 ⟨0, h⟩) k0_pay108 k0_pay109
  | n + 1, h => s3 (grid0.coords ⟨n + 1, h⟩) (iblk m c 0 ⟨n + 1, h⟩) (iblk m c 3 ⟨n + 1, h⟩) (iblk m c 4 ⟨n + 1, h⟩) (iblk m c 1 ⟨n + 1, h⟩) (iblk m c 2 ⟨n + 1, h⟩)
      (state c n (Nat.lt_of_succ_lt h)).dk (state c n (Nat.lt_of_succ_lt h)).dv

/-- The proof data: the arrays as the launch finds them, the inputs left as they are, the outputs at the state's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (state m c t.val t.isLt).dq
    | ⟨6, _⟩ => (state m c t.val t.isLt).dk
    | ⟨7, _⟩ => (state m c t.val t.isLt).dv
  Φ _ := Pipeline.ΦA spec0 c
  q w := Pipeline.shareOf spec0 w
  owed _ := 0

/-- A window starts from what the host left in its array. -/
theorem A_eq (c : Dev nD) (w : Fin cfg0.W) : (dats m 0 c).A w = V m c (Pipeline.arrRef spec0 w) := by
  dsimp only [dats]
/-- An input's window is unchanged after a point. -/
theorem after0_0 (c : Dev nD) (t : Fin cfg0.N) : (dats m 0 c).after 0 t = iblk m c 0 t := by dsimp only [dats]
/-- An input's window is unchanged after a point. -/
theorem after0_1 (c : Dev nD) (t : Fin cfg0.N) : (dats m 0 c).after 1 t = iblk m c 1 t := by dsimp only [dats]
/-- An input's window is unchanged after a point. -/
theorem after0_2 (c : Dev nD) (t : Fin cfg0.N) : (dats m 0 c).after 2 t = iblk m c 2 t := by dsimp only [dats]
/-- An input's window is unchanged after a point. -/
theorem after0_3 (c : Dev nD) (t : Fin cfg0.N) : (dats m 0 c).after 3 t = iblk m c 3 t := by dsimp only [dats]
/-- An input's window is unchanged after a point. -/
theorem after0_4 (c : Dev nD) (t : Fin cfg0.N) : (dats m 0 c).after 4 t = iblk m c 4 t := by dsimp only [dats]
/-- The first result's window after a point: the gradient of the point's queries. -/
theorem after0_5 (c : Dev nD) (t : Fin cfg0.N) : (dats m 0 c).after 5 t = k0_pay1 (state m c t.val t.isLt).dq := by dsimp only [dats]
/-- The second result's: the gradient of the pair's keys so far. -/
theorem after0_6 (c : Dev nD) (t : Fin cfg0.N) : (dats m 0 c).after 6 t = (state m c t.val t.isLt).dk := by dsimp only [dats]
/-- The third result's: the gradient of the pair's values so far. -/
theorem after0_7 (c : Dev nD) (t : Fin cfg0.N) : (dats m 0 c).after 7 t = (state m c t.val t.isLt).dv := by dsimp only [dats]
/-- An input's window holds its block before a point. -/
theorem before0_0 (c : Dev nD) (t : Fin cfg0.N) (d) : (dats m 0 c).before 0 t d = iblk m c 0 t :=
  before0_0_of m (dats m 0 c) (A_eq m c 0) (after0_0 m c) t d
/-- An input's window holds its block before a point. -/
theorem before0_1 (c : Dev nD) (t : Fin cfg0.N) (d) : (dats m 0 c).before 1 t d = iblk m c 1 t :=
  before0_1_of m (dats m 0 c) (A_eq m c 1) (after0_1 m c) t d
/-- An input's window holds its block before a point. -/
theorem before0_2 (c : Dev nD) (t : Fin cfg0.N) (d) : (dats m 0 c).before 2 t d = iblk m c 2 t :=
  before0_2_of m (dats m 0 c) (A_eq m c 2) (after0_2 m c) t d
/-- An input's window holds its block before a point. -/
theorem before0_3 (c : Dev nD) (t : Fin cfg0.N) (d) : (dats m 0 c).before 3 t d = iblk m c 3 t :=
  before0_3_of m (dats m 0 c) (A_eq m c 3) (after0_3 m c) t d
/-- An input's window holds its block before a point. -/
theorem before0_4 (c : Dev nD) (t : Fin cfg0.N) (d) : (dats m 0 c).before 4 t d = iblk m c 4 t :=
  before0_4_of m (dats m 0 c) (A_eq m c 4) (after0_4 m c) t d

/-- The state at a point from what the two sums' buffers hold before it. -/
theorem state_eq (c : Dev nD) (t : Fin cfg0.N) (d6 d7) :
    s3 (grid0.coords t) (iblk m c 0 t) (iblk m c 3 t) (iblk m c 4 t) (iblk m c 1 t) (iblk m c 2 t) ((dats m 0 c).before 6 t d6) ((dats m 0 c).before 7 t d7)
      = state m c t.val t.isLt := by
  by_cases h : t.val % 33 = 0
  · obtain ⟨n, hn⟩ := t
    cases n with
    | zero => exact s3_first (isFirst_of _ h) ..
    | succ n => exact s3_first (isFirst_of _ h) ..
  · obtain ⟨n, hn⟩ := t
    cases n with
    | zero => exact absurd rfl h
    | succ n =>
      have h' : ¬ n % 33 = 32 := by simp only at h; omega
      rw [(dats m 0 c).before_out_kept 6 rfl ⟨n + 1, hn⟩ (Nat.succ_ne_zero n) (Bool.eq_false_iff.mpr fun e => h' ((flush0_6 _).mp e)) (fun _ => rfl) (fun _ _ => rfl),
        (dats m 0 c).before_out_kept 7 rfl ⟨n + 1, hn⟩ (Nat.succ_ne_zero n) (Bool.eq_false_iff.mpr fun e => h' ((flush0_7 _).mp e)) (fun _ => rfl) (fun _ _ => rfl),
        after0_6, after0_7]
      rfl

/-- What the body is called with at a point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- A scratch buffer held whole is its memref owned at what it reads. -/
theorem scratch_owns (c : Dev nD) (b : Ref sig .tc) (f : Buf (Elt F) ((c : Thread nD τ).loc b)) :
    (((c : Thread nD τ).loc b) ↦{fullShare} f : sProp 𝕄G) ⊢ iprop(∃ d, owns (c : Thread nD τ) (Memref.whole b) fullShare d) := by
  unfold owns
  iintro H
  iexists ((Memref.whole b).view.read (Elt F) f)
  iexists f
  isplitr; · ipureintro; rfl
  rw [show (Memref.whole b).view.set = Finset.univ from View.set_whole _]
  iexact H

/-- And back. -/
theorem owns_scratch (c : Dev nD) (b : Ref sig .tc) :
    iprop(∃ d, owns (c : Thread nD τ) (Memref.whole b) fullShare d) ⊢ (iprop(∃ f : Buf (Elt F) ((c : Thread nD τ).loc b), ((c : Thread nD τ).loc b) ↦{fullShare} f) : sProp 𝕄G) := by
  unfold owns
  iintro ⟨%d, %f, -, H⟩
  iexists f
  rw [show (Memref.whole b).view.set = Finset.univ from View.set_whole _]
  iexact H

set_option maxHeartbeats 400000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  iintro ⟨⟨⟨⟨%g0, S0⟩, ⟨%g1, S1⟩, ⟨%g2, S2⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave S0 := (scratch_owns c cc0_scratch0 g0) $$ S0
  ihave S1 := (scratch_owns c cc0_scratch1 g1) $$ S1
  ihave S2 := (scratch_owns c cc0_scratch2 g2) $$ S2
  iapply (body_owns c Set.univ (grid0.coords t) _ _ _ _ _ _ _ _ _ _ _ _ _ _ _ _ _ _ _ _ _ _ (iblk m c 0 t) (iblk m c 3 t) (iblk m c 4 t) (iblk m c 1 t) (iblk m c 2 t) ((dats m 0 c).before 6 t d6) ((dats m 0 c).before 7 t d7) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [S0]; · iexact S0
  isplitl [S1]; · iexact S1
  isplitl [S2]; · iexact S2
  rw [state_eq]
  iintro ⟨H0, H1, H2, H3, H4, H5, H6, H7, S0, S1, S2⟩
  isplitl [S0 S1 S2 HR]
  · isplitr [HR]
    · isplitl [S0]; · iapply (owns_scratch c cc0_scratch0); iexact S0
      isplitl [S1]; · iapply (owns_scratch c cc0_scratch1); iexact S1
      iapply (owns_scratch c cc0_scratch2); iexact S2
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends, with every array at what the points left and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand
-- ==== Proof.SameBody.lean ====
module

public import proofs.«01_k».proof.Proof.Gen.KernelIdeal
public import proofs.«01_k».proof.Proof.Gen.Kernel
public import proofs.«01_k».proof.Proof.Gen.KernelIdeal.Skeleton
public import proofs.«01_k».proof.Proof.Gen.Kernel.Skeleton

@[expose] public section

set_option maxRecDepth 16384
set_option maxHeartbeats 2000000

/-!
# One text

The two printed programs are one text: what is proved of the one is proved of the other.
-/

noncomputable section

namespace Cert.KernelIdeal.Hand

open Idealize.ShloMosaic Idealize.SL.Sem
variable {F : FTy → Type} [FloatOps F]

/-- The two bodies are one. -/
theorem body_same : @Cert.Kernel.cc0_sb_bwd F _ _ = @Cert.KernelIdeal.cc0_sb_bwd F _ _ := rfl
end Cert.KernelIdeal.Hand

end
-- ==== Proof.Same.lean ====
module

public import proofs.«01_k».proof.Proof.SameBody
public import proofs.«01_k».proof.Proof.Gen.KernelIdeal
public import proofs.«01_k».proof.Proof.Gen.Kernel
public import proofs.«01_k».proof.Proof.Gen.KernelIdeal.Skeleton
public import proofs.«01_k».proof.Proof.Gen.Kernel.Skeleton

@[expose] public section

set_option maxRecDepth 16384
set_option maxHeartbeats 2000000

/-!
# One text

The two printed programs are one text: what is proved of the one is proved of the other.
-/

noncomputable section

namespace Cert.KernelIdeal.Hand

open Idealize.ShloMosaic Idealize.SL.Sem
variable {F : FTy → Type} [FloatOps F]

set_option backward.isDefEq.respectTransparency false in
/-- The two tables of bodies are one. -/
theorem defs₀_same : Cert.Kernel.defs₀ (F := F) = Cert.KernelIdeal.defs₀ (F := F) := by
  unfold Cert.Kernel.defs₀ Cert.KernelIdeal.defs₀
  refine congrArg Defs.onTc ?_
  funext l a
  obtain ⟨l, hl⟩ := l
  cases l with
  | zero =>
    obtain ⟨t, s⟩ := a
    dsimp only
    rw [body_same]
    rfl
  | succ l => exact absurd hl (by simp)

set_option backward.isDefEq.respectTransparency false in
/-- The two programs' tables are one. -/
theorem defs_same : Cert.Kernel.defs (F := F) = Cert.KernelIdeal.defs (F := F) := congrArg (Pipeline.defs Cert.KernelIdeal.pcfgs) defs₀_same

/-- What every run of the one text meets, every run of the other meets. -/
theorem run_same {m ρ Q} (h : θ_run (Cert.KernelIdeal.defs (F := F)) (onTc (τ := Cert.KernelIdeal.τ) (Cert.KernelIdeal.main (F := F))) ⟨m, fun _ => 0, ρ⟩ Q) :
  θ_run (Cert.Kernel.defs (F := F)) (onTc (τ := Cert.Kernel.τ) (Cert.Kernel.main (F := F))) ⟨m, fun _ => 0, ρ⟩ Q := by
  rw [defs_same]
  exact h

end Cert.KernelIdeal.Hand

end
-- ==== Proof.Frames.lean ====
module

public import proofs.«01_k».proof.Defs
public import proofs.«01_k».proof.Proof.Run
public import proofs.«01_k».proof.Proof.Same
public import proofs.«01_k».proof.Proof.Gen.Kernel
public import proofs.«01_k».proof.Proof.Gen.ReferenceIdeal
public import proofs.«01_k».proof.Proof.Gen.ReferenceIdeal.Run
public import Idealize.ShloMosaic.Lib.Claim
public import Idealize.ShloMosaic.Lib.Quiescent

@[expose] public section

/-!
# The frames

The kernel's run, made once for any float values, read at the two float models; the reference's run.
-/

noncomputable section

namespace Cert.KernelIdeal.Hand

open Idealize.ShloMosaic Idealize.SL.Sem Cert.Kernel

/-- The kernel over floats ends with its arguments unchanged and every counter at zero. -/
theorem frame_kernel : Cert.quiescent_Kernel := fun m ρ _ =>
  run_same (frame_run (F := Bits) m ρ)

/-- The same over the extended reals. -/
theorem frame_ideal : Cert.quiescent_KernelIdeal := fun m ρ _ => frame_run (F := Ideal) m ρ

/-- The reference over the extended reals ends with its arguments unchanged and every counter at zero. -/
theorem frame_reference : Cert.quiescent_ReferenceIdeal := fun m ρ _ =>
  (θ_run Cert.ReferenceIdeal.defs _ _).mono (fun r h => ⟨fun c => (h c).2.2.2, sem_eq_zero_of_no_sems rfl r.2⟩)
    (Cert.ReferenceIdeal.Value.run (F := Ideal) m ρ)

end Cert.KernelIdeal.Hand

end
-- ==== Proof.Grad.lean ====
module

public import Idealize.ShloMosaic.Lib.Pointwise
public import Mathlib.Analysis.SpecialFunctions.Log.Basic
public import Mathlib.Analysis.SpecialFunctions.Exp

@[expose] public section

/-!
# The gradient over the reals

What the kernel and the reference both compute, of a pair of heads: rows are the rows of the padded arrays, the first 240
of them padding; a head has 64 of the pair's 128 lanes.
-/

noncomputable section

namespace Cert.Grad

open Finset

/-- A value on its head's lanes, zero on the other head's. -/
def sel (h : Fin 2) (l : Fin 128) (x : ℝ) : ℝ := if l.val / 64 = h.val then x else 0

/-- The softplus. -/
def sp (z : ℝ) : ℝ := max z 0 + Real.log (1 + Real.exp (-|z|))

/-- The softplus is the logarithm of one plus the exponential. -/
theorem sp_eq (z : ℝ) : sp z = Real.log (1 + Real.exp z) := by
  unfold sp
  rcases le_total 0 z with h | h
  · rw [max_eq_left h, abs_of_nonneg h]
    have e : 1 + Real.exp z = Real.exp z * (1 + Real.exp (-z)) := by
      rw [mul_add, mul_one, ← Real.exp_add, add_neg_cancel, Real.exp_zero, add_comm]
    rw [e, Real.log_mul (Real.exp_pos z).ne' (by positivity), Real.log_exp]
  · rw [max_eq_right h, abs_of_nonpos h, neg_neg, zero_add]

/-- One minus the logistic is the logistic of the negative. -/
theorem logistic_neg (z : ℝ) : Real.exp (-z - sp (-z)) = 1 - Real.exp (-sp z + z) := by
  have p : 0 < 1 + Real.exp z := by positivity
  have p' : 0 < 1 + Real.exp (-z) := by positivity
  rw [sp_eq, sp_eq, Real.exp_sub, Real.exp_add, Real.exp_neg (Real.log _), Real.exp_log p, Real.exp_log p', Real.exp_neg z]
  have := (Real.exp_pos z).ne'
  field_simp
  ring

/-- The keys that a query sees: those before it, past the padding. -/
def ok (q k : ℕ) : Prop := 240 ≤ k ∧ k < q

/-- Whether a key is a query's own can be decided. -/
instance (q k : ℕ) : Decidable (ok q k) := by unfold ok; infer_instance

/-- The rows of a pair of heads: of the queries, keys, values and of the cotangent. -/
structure Pair where
  q : ℕ → Fin 128 → ℝ
  k : ℕ → Fin 128 → ℝ
  v : ℕ → Fin 128 → ℝ
  g : ℕ → Fin 128 → ℝ

namespace Pair

variable (p : Pair) (h : Fin 2) (q k : ℕ)

/-- The scaled score. -/
def z : ℝ := (∑ l, sel h l (p.q q l) * p.k k l) * (1 / 8)

/-- The logarithm of one minus the logistic of a score. -/
def lk : ℝ := if ok q k then -sp (p.z h q k) else 0

/-- The logarithm of the logistic of a score. -/
def lb : ℝ := -sp (p.z h q k) + p.z h q k

/-- A row's sum of the logarithms. -/
def tot : ℝ := ∑ k ∈ range 8448, p.lk h q k

/-- The attention weight. -/
def a : ℝ := if ok q k then Real.exp (p.lb h q k + (p.tot h q - ∑ k' ∈ range (k + 1), p.lk h q k')) else 0

/-- The weight times its gradient. -/
def dl : ℝ := p.a h q k * ∑ l, sel h l (p.g q l) * p.v k l

/-- The gradient of the score. -/
def dz : ℝ := if ok q k then (p.dl h q k * (1 - Real.exp (p.lb h q k))
  - (∑ k' ∈ range k, p.dl h q k') * Real.exp (p.lb h q k)) * (1 / 8) else 0

/-- The gradient of a query's lane, over the keys below `n`, -/
def dq (n q : ℕ) (l : Fin 128) : ℝ := ∑ k ∈ range n, ∑ h, p.dz h q k * sel h l (p.k k l)

/-- of a key's, over the queries below `n`, -/
def dk (n k : ℕ) (l : Fin 128) : ℝ := ∑ q ∈ range n, ∑ h, p.dz h q k * sel h l (p.q q l)

/-- and of a value's. -/
def dv (n k : ℕ) (l : Fin 128) : ℝ := ∑ q ∈ range n, ∑ h, p.a h q k * sel h l (p.g q l)

end Pair

/-- A sum over the keys up to one of a tile is the sum before the tile and the sum within it. -/
theorem sum_le (f : ℕ → ℝ) (C : ℕ) (c : Fin 256) :
    ∑ k ∈ range (C + c.val + 1), f k = ∑ k ∈ range C, f k + ∑ c' : Fin 256, if c'.val ≤ c.val then f (C + c'.val) else 0 := by
  have e : ∑ c' : Fin 256, (if c'.val ≤ c.val then f (C + c'.val) else 0) = ∑ j ∈ range 256, if j ≤ c.val then f (C + j) else 0 :=
    (Finset.sum_range (fun j => if j ≤ c.val then f (C + j) else 0)).symm
  rw [e, add_assoc C, Finset.sum_range_add, ← Finset.sum_filter]
  congr 1
  refine Finset.sum_congr ?_ fun _ _ => rfl
  ext j
  have := c.isLt
  simp only [mem_range, mem_filter]
  omega

/-- A sum over the keys before one of a tile. -/
theorem sum_lt (f : ℕ → ℝ) (C : ℕ) (c : Fin 256) :
    ∑ k ∈ range (C + c.val), f k = ∑ k ∈ range C, f k + ∑ c' : Fin 256, if c'.val < c.val then f (C + c'.val) else 0 := by
  have e : ∑ c' : Fin 256, (if c'.val < c.val then f (C + c'.val) else 0) = ∑ j ∈ range 256, if j < c.val then f (C + j) else 0 :=
    (Finset.sum_range (fun j => if j < c.val then f (C + j) else 0)).symm
  rw [e, Finset.sum_range_add, ← Finset.sum_filter]
  congr 1
  refine Finset.sum_congr ?_ fun _ _ => rfl
  ext j
  have := c.isLt
  simp only [mem_range, mem_filter]
  omega

/-- A sum over the keys up to a tile's end. -/
theorem sum_tile (f : ℕ → ℝ) (b : ℕ) :
    ∑ k ∈ range (256 * (b + 1)), f k = ∑ k ∈ range (256 * b), f k + ∑ c : Fin 256, f (256 * b + c.val) := by
  rw [mul_add, mul_one, Finset.sum_range_add, Finset.sum_range (n := 256)]

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Grad

end
-- ==== Proof.Scalars.lean ====
module

public import proofs.«01_k».proof.Proof.Grad
public import Idealize.ShloMosaic.Lib.Pointwise
public import Idealize.ShloMosaic.Lib.WordCmp

@[expose] public section

/-!
# Scalars

The exact operations at real numbers, and comparisons of small words.
-/

noncomputable section

namespace Cert.Grad

open Finset
open Idealize.ShloMosaic

/-- The scale. -/
theorem ofBits_eighth : Ideal.ofBits .f32 0x3E000000#32 = ((1 / 8 : ℝ) : EReal) := by
  simp [Ideal.ofBits, Ideal.ieee, -EReal.coe_mul]; norm_num

/-- The absolute value of a real. -/
theorem absf_coe (x : ℝ) : (FloatOps.absf (F := Ideal) (φ := .f32) (x : EReal) : EReal) = ((|x| : ℝ) : EReal) := by
  rw [abs_eq_max_neg, EReal.coe_strictMono.monotone.map_max]; rfl

/-- The maximum of two reals. -/
theorem max_coe (x y : ℝ) : max (x : EReal) (y : EReal) = ((max x y : ℝ) : EReal) := by
  rw [EReal.coe_strictMono.monotone.map_max]

/-- The exponential and the logarithm of reals. -/
theorem log_coe_pos {x : ℝ} (h : 0 < x) : Ideal.log (x : EReal) = ((Real.log x : ℝ) : EReal) := by
  rw [Ideal.log_coe, if_neg (not_le.mpr h)]

/-- The logarithm of one minus the logistic, of a real. -/
theorem softplus_coe (z : ℝ) :
    max (z : EReal) 0 + Ideal.log (1 + Ideal.exp (0 - FloatOps.absf (F := Ideal) (φ := .f32) (z : EReal))) = ((sp z : ℝ) : EReal) := by
  have p : 0 < 1 + Real.exp (-|z|) := by positivity
  rw [absf_coe, ← EReal.coe_zero, max_coe, ← EReal.coe_sub, zero_sub, Ideal.exp_coe, ← EReal.coe_one, ← EReal.coe_add, log_coe_pos p, ← EReal.coe_add]
  rfl

/-- The words of two small numbers compare as the numbers do. -/
theorem cmp_sle {a b : ℕ} (ha : a < 2 ^ 31) (hb : b < 2 ^ 31) :
    IntOp.cmpi .sle (BitVec.ofNat 32 a) (BitVec.ofNat 32 b) = if a ≤ b then 1#1 else 0#1 := by
  unfold IntOp.cmpi
  simp only [BitVec.sle, WordCmp.toInt_ofNat_of_lt (w := 32) ha, WordCmp.toInt_ofNat_of_lt (w := 32) hb, Nat.cast_le]
  by_cases h : a ≤ b <;> simp [h]

/-- The strict comparison, -/
theorem cmp_slt {a b : ℕ} (ha : a < 2 ^ 31) (hb : b < 2 ^ 31) :
    IntOp.cmpi .slt (BitVec.ofNat 32 a) (BitVec.ofNat 32 b) = if a < b then 1#1 else 0#1 := by
  unfold IntOp.cmpi
  simp only [BitVec.slt, WordCmp.toInt_ofNat_of_lt (w := 32) ha, WordCmp.toInt_ofNat_of_lt (w := 32) hb, Nat.cast_lt]
  by_cases h : a < b <;> simp [h]

/-- the reversed one, -/
theorem cmp_sge {a b : ℕ} (ha : a < 2 ^ 31) (hb : b < 2 ^ 31) :
    IntOp.cmpi .sge (BitVec.ofNat 32 a) (BitVec.ofNat 32 b) = if b ≤ a then 1#1 else 0#1 := by
  unfold IntOp.cmpi
  simp only [BitVec.sle, WordCmp.toInt_ofNat_of_lt (w := 32) ha, WordCmp.toInt_ofNat_of_lt (w := 32) hb, Nat.cast_le]
  by_cases h : b ≤ a <;> simp [h]

/-- and both between the positions of a tile: not after, -/
theorem cmp_le (a b : Fin 256) : IntOp.cmpi .sle (BitVec.ofNat 32 a.val) (BitVec.ofNat 32 b.val) = if a.val ≤ b.val then 1#1 else 0#1 :=
  cmp_sle (by have := a.isLt; omega) (by have := b.isLt; omega)

/-- and before. -/
theorem cmp_lt (a b : Fin 256) : IntOp.cmpi .slt (BitVec.ofNat 32 a.val) (BitVec.ofNat 32 b.val) = if a.val < b.val then 1#1 else 0#1 :=
  cmp_slt (by have := a.isLt; omega) (by have := b.isLt; omega)

/-- The softplus of the negative. -/
theorem sp_neg (z : ℝ) : sp (-z) = sp z - z := by
  have p : 0 < 1 + Real.exp z := by positivity
  have e : 1 + Real.exp (-z) = (1 + Real.exp z) / Real.exp z := by
    rw [Real.exp_neg]; have := (Real.exp_pos z).ne'; field_simp; ring
  rw [sp_eq, sp_eq, e, Real.log_div p.ne' (Real.exp_pos z).ne', Real.log_exp]

/-- The host's softplus of a real: its test for a value that is no number fails. -/
theorem softplus_host (z : ℝ) :
    (if (z : EReal) ≠ (z : EReal) then (z : EReal) else max (z : EReal) 0 + Ideal.log1p (Ideal.exp (-FloatOps.absf (F := Ideal) (φ := .f32) (z : EReal)))) = ((sp z : ℝ) : EReal) := by
  rw [if_neg (not_not.mpr rfl), ← softplus_coe, zero_sub]
  rfl

/-- The pattern of plus infinity. -/
theorem ofBits_top : Ideal.ofBits .f32 0x7F800000#32 = ⊤ := by
  simp [Ideal.ofBits, Ideal.ieee]

/-- The pattern of minus infinity. -/
theorem ofBits_bot : Ideal.ofBits .f32 0xFF800000#32 = ⊥ := by
  simp [Ideal.ofBits, Ideal.ieee]

/-- The zero word as a real. -/
theorem sitofp_zero : (FloatOps.sitofp (F := Ideal) .f32 (0#32) : EReal) = 0 := by
  show (((0#32 : BitVec 32).toInt : ℝ) : EReal) = 0
  simp

/-- A small number's word as a float. -/
theorem sitofp_nat {n : ℕ} (h : n < 2 ^ 31) : (FloatOps.sitofp (F := Ideal) .f32 (BitVec.ofNat 32 n) : EReal) = ((n : ℝ) : EReal) := by
  show (((BitVec.ofNat 32 n).toInt : ℝ) : EReal) = _
  rw [WordCmp.toInt_ofNat_of_lt (w := 32) h]
  rfl

end Cert.Grad

end
-- ==== Proof.Finite.lean ====
module

public import proofs.«01_k».proof.Defs
public import proofs.«01_k».proof.Proof.Scalars

@[expose] public section

/-!
# The precondition

What it says of the inputs: their entries are real numbers.
-/

noncomputable section

namespace Cert.Pre_finite.Hand

open Idealize.ShloMosaic Cert.Pre_finite

/-- The side conditions of the precondition's function. -/
theorem facts : Facts where
  concatenates_S8208x3072_S8208x1024_S8208x4096_d1 := by decide
  bcast_S_S8208x4096 := by decide

/-- The real numbers of an array, read at any row and column. -/
def realOf {R C : ℕ} (x : (⟨2, ![R, C]⟩ : Shape).Idx → EReal) (r c : ℕ) : ℝ :=
  if h : r < R ∧ c < C then (x (ix2 ⟨r, h.1⟩ ⟨c, h.2⟩)).toReal else 0

/-- An entry below plus infinity in size is its real number. -/
theorem realOf_apply {R C : ℕ} {x : (⟨2, ![R, C]⟩ : Shape).Idx → EReal} {r : Fin R} {c : Fin C}
    (h : BitVec.ofBool (decide (FloatOps.absf (F := Ideal) (φ := .f32) (x (ix2 r c)) < Ideal.ofBits .f32 0x7F800000#32)) = 1#1) :
    x (ix2 r c) = ((realOf x r.val c.val : ℝ) : EReal) := by
  have h' : FloatOps.absf (F := Ideal) (φ := .f32) (x (ix2 r c)) < Ideal.ofBits .f32 0x7F800000#32 := by
    by_contra n
    rw [decide_eq_false n] at h
    exact absurd h (by decide)
  rw [Cert.Grad.ofBits_top] at h'
  have e : realOf x r.val c.val = (x (ix2 r c)).toReal := dif_pos ⟨r.isLt, c.isLt⟩
  rw [e]
  generalize x (ix2 r c) = a at h' ⊢
  have h2 : max a (-a) < ⊤ := h'
  refine (EReal.coe_toReal (fun n => ?_) (fun n => ?_)).symm
  · rw [n] at h2
    exact absurd (lt_of_le_of_lt (le_max_left _ _) h2) (lt_irrefl _)
  · rw [n] at h2
    exact absurd (lt_of_le_of_lt (le_max_right _ _) h2) (lt_irrefl _)

variable [Facts] {x0 : FVec Ideal S8208x3072 .f32} {x1 : FVec Ideal S8208x1024 .f32} (h : fn (F := Ideal) x0 x1 = fun _ => 1#1)
include h

/-- The queries, keys and values are real, -/
theorem real0 (r : Fin 8208) (c : Fin 3072) : x0 (ix2 r c) = ((realOf x0 r.val c.val : ℝ) : EReal) := by
  have hc := c.isLt
  have e := congrFun h (ix2 r (⟨c.val, by omega⟩ : Fin 4096))
  pointwise [fn] at e
  exact realOf_apply e

/-- and so is the cotangent. -/
theorem real1 (r : Fin 8208) (c : Fin 1024) : x1 (ix2 r c) = ((realOf x1 r.val c.val : ℝ) : EReal) := by
  have hc := c.isLt
  have e := congrFun h (ix2 r (⟨3072 + c.val, by omega⟩ : Fin 4096))
  pointwise [fn] at e
  exact realOf_apply e

end Cert.Pre_finite.Hand
-- ==== Proof.StepValue.lean ====
module

public import proofs.«01_k».proof.Proof.Step
public import proofs.«01_k».proof.Proof.Scalars

@[expose] public section

set_option maxRecDepth 16384

/-!
# One step over the reals

What a tile's step computes where every array holds real numbers: the step's arrays are those of `Cert.Grad.Pair`.
-/

noncomputable section

namespace Cert.KernelIdeal.Hand

open Cert.KernelIdeal Cert.KernelIdeal.Gen Cert.Grad Finset
open Idealize.ShloMosaic Idealize.ShloMosaic.TcCoe

/-- A tile of a real function of query and key: its rows from `R` on, its columns from `C` on. -/
def toSc (f : ℕ → ℕ → ℝ) (R C : ℕ) : Sc Ideal := fun x => ((f (R + (x 0).val) (C + (x 1).val) : ℝ) : EReal)

/-- An entry of a tile read off a function of two places. -/
theorem toSc_apply (f : ℕ → ℕ → ℝ) (R C : ℕ) (r c : Fin 256) : toSc f R C (ix2 r c) = ((f (R + r.val) (C + c.val) : ℝ) : EReal) := rfl

/-- A tile is the tile of a real function if it is so at every index. -/
theorem eq_toSc {x : Sc Ideal} {f : ℕ → ℕ → ℝ} {R C : ℕ} (h : ∀ r c : Fin 256, x (ix2 r c) = ((f (R + r.val) (C + c.val) : ℝ) : EReal)) :
    x = toSc f R C := by
  funext y
  obtain ⟨r, c, rfl⟩ : ∃ (a : Fin 256) (b : Fin 256), y = ix2 a b := ⟨y 0, y 1, eq_ix2 y⟩
  exact h r c

/-- What a tile's mask must be: the keys that the queries see; without a mask they see all. -/
def Masks (m : Option (IVec S256x256 1)) (R C : ℕ) : Prop :=
  match m with
  | none => ∀ r c : Fin 256, ok (R + r.val) (C + c.val)
  | some v => ∀ r c : Fin 256, v (ix2 r c) = if ok (R + r.val) (C + c.val) then 1#1 else 0#1

/-- What the mask keeps of a tile. -/
theorem keep_toSc {m : Option (IVec S256x256 1)} {R C : ℕ} (hm : Masks m R C) (f : ℕ → ℕ → ℝ) :
    keep m (toSc f R C) = toSc (fun q k => if ok q k then f q k else 0) R C := by
  refine eq_toSc fun r c => ?_
  cases m with
  | none =>
    have := hm r c
    simp only [keep, toSc_apply, if_pos this]
  | some v =>
    have := hm r c
    pointwise [keep]
    rw [this]
    by_cases h : ok (R + r.val) (C + c.val)
    · rw [if_pos h, if_pos h]; rfl
    · rw [if_neg h, if_neg h]; rfl

/-- The scores of real rows. -/
theorem zs_toSc {q k : FVec Ideal S256x128 .bf16} {Q K : ℕ → Fin 128 → ℝ} {R C : ℕ}
    (hq : ∀ (r : Fin 256) l, q (ix2 r l) = ((Q (R + r.val) l : ℝ) : EReal)) (hk : ∀ (r : Fin 256) l, k (ix2 r l) = ((K (C + r.val) l : ℝ) : EReal)) :
    zs q k = toSc (fun a b => (∑ l, Q a l * K b l) * (1 / 8)) R C := by
  refine eq_toSc fun r c => ?_
  pointwise [zs]
  rw [ofBits_eighth]
  simp only [hq, hk]
  rw [EReal.coe_mul, coe_sum]
  simp only [EReal.coe_mul]

/-- The logarithms of one minus the logistic. -/
theorem lks_toSc (f : ℕ → ℕ → ℝ) (R C : ℕ) : lks (toSc f R C) = toSc (fun q k => -sp (f q k)) R C := by
  refine eq_toSc fun r c => ?_
  pointwise [lks]
  rw [toSc_apply, softplus_coe, ← EReal.coe_zero, ← EReal.coe_sub, zero_sub]

/-- The logarithms of the logistic. -/
theorem lbs_toSc (f : ℕ → ℕ → ℝ) (R C : ℕ) : lbs (toSc f R C) = toSc (fun q k => -sp (f q k) + f q k) R C := by
  refine eq_toSc fun r c => ?_
  unfold lbs
  rw [lks_toSc]
  pointwise []
  rw [toSc_apply, toSc_apply, ← EReal.coe_add]

/-- A triangle's element as a real. -/
theorem tri_coe (p : Prop) [Decidable p] (b : BitVec 1) (h : b = if p then 1#1 else 0#1) :
    (FloatOps.sitofp (F := Ideal) .f32 (BitVec.setWidth 32 b) : EReal) = (((if p then 1 else 0 : ℝ)) : EReal) := by
  subst h
  by_cases hp : p
  · simp only [if_pos hp]; show (((BitVec.setWidth 32 1#1).toInt : ℝ) : EReal) = _; norm_num
  · simp only [if_neg hp]; show (((BitVec.setWidth 32 0#1).toInt : ℝ) : EReal) = _; norm_num

/-- A sum of products with a triangle's elements. -/
theorem tri_sum (x : Fin 256 → ℝ) (p : Fin 256 → Prop) [DecidablePred p] (T : Fin 256 → EReal) (hT : ∀ j, T j = (((if p j then 1 else 0 : ℝ)) : EReal)) :
    ∑ j, (x j : EReal) * T j + ∑ j, ((x j : EReal) - (x j : EReal)) * T j = ((∑ j, if p j then x j else 0 : ℝ) : EReal) := by
  simp only [hT, ← EReal.coe_mul, ← EReal.coe_sub, ← coe_sum, ← EReal.coe_add]
  congr 1
  simp

/-- The sums over the keys of a tile up to each, -/
theorem cums_le (f : ℕ → ℕ → ℝ) (R C : ℕ) (r c : Fin 256) :
    cums (toSc f R C) k0_pay122 (ix2 r c) = ((∑ j : Fin 256, if j.val ≤ c.val then f (R + r.val) (C + j.val) else 0 : ℝ) : EReal) := by
  pointwise [cums, k0_pay122]
  exact tri_sum (fun j => f (R + r.val) (C + j.val)) (fun j => j.val ≤ c.val) _ fun j => tri_coe _ _ (cmp_le j c)

/-- and before each. -/
theorem cums_lt (f : ℕ → ℕ → ℝ) (R C : ℕ) (r c : Fin 256) :
    cums (toSc f R C) k0_pay123 (ix2 r c) = ((∑ j : Fin 256, if j.val < c.val then f (R + r.val) (C + j.val) else 0 : ℝ) : EReal) := by
  pointwise [cums, k0_pay123]
  exact tri_sum (fun j => f (R + r.val) (C + j.val)) (fun j => j.val < c.val) _ fun j => tri_coe _ _ (cmp_lt j c)

/-- A column over a tile's keys. -/
theorem wide_apply (p : FVec Ideal S1x256x1 .f32) (r c : Fin 256) : wide p (ix2 r c) = p (ix3 0 r 0) := by
  pointwise [wide, colOf]

/-- A column of sums after a tile. -/
theorem plus_toSc (p : FVec Ideal S1x256x1 .f32) (f : ℕ → ℕ → ℝ) (R C : ℕ) (r : Fin 256) :
    plus p (toSc f R C) (ix3 0 r 0) = p (ix3 0 r 0) + ((∑ c : Fin 256, f (R + r.val) (C + c.val) : ℝ) : EReal) := by
  pointwise [plus, colOf]
  rw [coe_sum]
  rfl

/-- A tile times rows of keys. -/
theorem mulRows_toSc (f : ℕ → ℕ → ℝ) (R C : ℕ) {k : FVec Ideal S256x128 .bf16} {K : ℕ → Fin 128 → ℝ}
    (hk : ∀ (r : Fin 256) l, k (ix2 r l) = ((K (C + r.val) l : ℝ) : EReal)) (r : Fin 256) (l : Fin 128) :
    mulRows (toSc f R C) k (ix2 r l) = ((∑ c : Fin 256, f (R + r.val) (C + c.val) * K (C + c.val) l : ℝ) : EReal) := by
  pointwise [mulRows]
  simp only [hk, toSc_apply, coe_sum, EReal.coe_mul]

/-- A tile, transposed, times rows of queries. -/
theorem mulRowsT_toSc (f : ℕ → ℕ → ℝ) (R C : ℕ) {q : FVec Ideal S256x128 .bf16} {Q : ℕ → Fin 128 → ℝ}
    (hq : ∀ (r : Fin 256) l, q (ix2 r l) = ((Q (R + r.val) l : ℝ) : EReal)) (c : Fin 256) (l : Fin 128) :
    mulRowsT (toSc f R C) q (ix2 c l) = ((∑ r : Fin 256, f (R + r.val) (C + c.val) * Q (R + r.val) l : ℝ) : EReal) := by
  pointwise [mulRowsT]
  simp only [hq, toSc_apply, coe_sum, EReal.coe_mul]

/-- The attention weights of a tile. -/
theorem wts_toSc (P : Pair) (h : Fin 2) {m : Option (IVec S256x256 1)} {R C : ℕ} (hm : Masks m R C) {T p : FVec Ideal S1x256x1 .f32}
    (hT : ∀ r : Fin 256, T (ix3 0 r 0) = ((P.tot h (R + r.val) : ℝ) : EReal))
    (hp : ∀ r : Fin 256, p (ix3 0 r 0) = ((∑ k ∈ range C, P.lk h (R + r.val) k : ℝ) : EReal)) :
    wts m (toSc (P.z h) R C) T p = toSc (P.a h) R C := by
  unfold wts
  rw [lks_toSc, keep_toSc hm, lbs_toSc]
  rw [show exp (addf (toSc (fun q k => -sp (P.z h q k) + P.z h q k) R C) (subf (wide T) (addf (wide p) (cums (toSc (fun q k => if ok q k then -sp (P.z h q k) else 0) R C) k0_pay122))))
      = toSc (fun q k => Real.exp (P.lb h q k + (P.tot h q - ∑ k' ∈ range (k + 1), P.lk h q k'))) R C from eq_toSc fun r c => by
    pointwise []
    rw [wide_apply, wide_apply, cums_le, hT, hp, toSc_apply, ← EReal.coe_add, ← EReal.coe_sub, ← EReal.coe_add, Ideal.exp_coe]
    congr 2
    rw [sum_le (P.lk h (R + r.val)) C c]
    rfl]
  rw [keep_toSc hm]
  rfl

/-- The weights of a tile times their gradients. -/
theorem dls_toSc (P : Pair) (h : Fin 2) {R C : ℕ} {o v : FVec Ideal S256x128 .bf16}
    (ho : ∀ (r : Fin 256) l, o (ix2 r l) = ((sel h l (P.g (R + r.val) l) : ℝ) : EReal))
    (hv : ∀ (r : Fin 256) l, v (ix2 r l) = ((P.v (C + r.val) l : ℝ) : EReal)) :
    dls (toSc (P.a h) R C) o v = toSc (P.dl h) R C := by
  refine eq_toSc fun r c => ?_
  pointwise [dls]
  simp only [ho, hv, toSc_apply, Pair.dl, EReal.coe_mul, coe_sum]

/-- The gradients of the scores of a tile. -/
theorem dzs_toSc (P : Pair) (h : Fin 2) {m : Option (IVec S256x256 1)} {R C : ℕ} (hm : Masks m R C) {p : FVec Ideal S1x256x1 .f32}
    (hp : ∀ r : Fin 256, p (ix3 0 r 0) = ((∑ k ∈ range C, P.dl h (R + r.val) k : ℝ) : EReal)) :
    dzs m (toSc (P.z h) R C) (toSc (P.dl h) R C) p = toSc (P.dz h) R C := by
  unfold dzs
  rw [lbs_toSc]
  refine (congrArg (keep m) (eq_toSc (f := fun q k => (P.dl h q k * (1 - Real.exp (P.lb h q k))
      - (∑ k' ∈ range k, P.dl h q k') * Real.exp (P.lb h q k)) * (1 / 8)) (R := R) (C := C) fun r c => ?_)).trans ?_
  · pointwise []
    rw [wide_apply, cums_lt, hp, toSc_apply, toSc_apply, ofBits_eighth, Ideal.exp_coe, ← EReal.coe_one, ← EReal.coe_sub, ← EReal.coe_mul, ← EReal.coe_add, ← EReal.coe_mul, ← EReal.coe_sub, ← EReal.coe_mul]
    rw [sum_lt (P.dl h (R + r.val)) C c]
    rfl
  rw [keep_toSc hm]
  rfl

/-! ### One step -/

/-- A tile's arrays hold the rows of a pair: query tile `i`. -/
structure Rep (P : Pair) (i : ℕ) (t : Tile Ideal) : Prop where
  q : ∀ h (r : Fin 256) l, t.q h (ix2 r l) = ((sel h l (P.q (256 * i + r.val) l) : ℝ) : EReal)
  o : ∀ h (r : Fin 256) l, t.o h (ix2 r l) = ((sel h l (P.g (256 * i + r.val) l) : ℝ) : EReal)
  k : ∀ (y : Fin 8448) l, t.K (ix2 y l) = ((P.k y.val l : ℝ) : EReal)
  w : ∀ (y : Fin 8448) l, t.V (ix2 y l) = ((P.v y.val l : ℝ) : EReal)
  T : ∀ (h : Fin 2) (r : Fin 256), t.T (ix3 0 r h.castSucc) = ((P.tot h (256 * i + r.val) : ℝ) : EReal)
  v : t.v = k0_pay107

/-- What the arrays hold when query tile `i` has been taken against `n` tiles of keys: `D` and `E` are the keys' and values'
    gradients before it. -/
structure Good (P : Pair) (i n : ℕ) (D E : ℕ → Fin 128 → ℝ) (s : St Ideal) : Prop where
  pc : ∀ (h : Fin 2) (r : Fin 256), s.pc (ix3 h r 0) = ((∑ k ∈ range (256 * n), P.lk h (256 * i + r.val) k : ℝ) : EReal)
  dc : ∀ (h : Fin 2) (r : Fin 256), s.dc (ix3 h r 0) = ((∑ k ∈ range (256 * n), P.dl h (256 * i + r.val) k : ℝ) : EReal)
  dq : ∀ (r : Fin 256) l, s.dq (ix2 r l) = ((P.dq (256 * n) (256 * i + r.val) l : ℝ) : EReal)
  dk : ∀ (y : Fin 8448) l, s.dk (ix2 y l) = ((D y.val l + (if y.val < 256 * n then
    ∑ r : Fin 256, ∑ h, P.dz h (256 * i + r.val) y.val * sel h l (P.q (256 * i + r.val) l) else 0) : ℝ) : EReal)
  dv : ∀ (y : Fin 8448) l, s.dv (ix2 y l) = ((E y.val l + (if y.val < 256 * n then
    ∑ r : Fin 256, ∑ h, P.a h (256 * i + r.val) y.val * sel h l (P.g (256 * i + r.val) l) else 0) : ℝ) : EReal)

/-- A tile's rows are an array's. -/
theorem rowsOf_apply {α : Type} (X : S8448x128.Idx → α) {b : ℕ} (hb : b < 33) (c : Fin 256) (l : Fin 128) :
    rowsOf X b (ix2 c l) = X (ix2 ⟨256 * b + c.val, by have := c.isLt; omega⟩ l) := by
  have hc := c.isLt
  unfold rowsOf
  congr 1
  exact congrArg₂ ix2 (Fin.ext (Nat.mod_eq_of_lt (by show 256 * b + c.val < 8448; omega))) rfl

/-- A cast to the same shape changes nothing. -/
theorem same_eq {e : EltTy} (x : Vec Ideal S256x128 e) : same x = x := by
  funext y
  obtain ⟨r, c, rfl⟩ : ∃ (a : Fin 256) (b : Fin 128), y = ix2 a b := ⟨y 0, y 1, eq_ix2 y⟩
  pointwise [same]

/-- The parts of a tile's rows. -/
theorem parts_apply {x : FVec Ideal S256x128 .bf16} {X : Fin 256 → Fin 128 → ℝ} (hx : ∀ (r : Fin 256) l, x (ix2 r l) = ((X r l : ℝ) : EReal))
    (h : Fin 2) (r : Fin 256) (l : Fin 128) : parts k0_pay107 x h (ix2 r l) = ((sel h l (X r l) : ℝ) : EReal) := by
  have hl := l.isLt
  have e : (k0_pay107 (ix2 0 l) : BitVec 1) = if l.val < 64 then 1#1 else 0#1 := by
    pointwise [k0_pay107]
    exact cmp_slt (b := 64) (by omega) (by omega)
  match h with
  | 0 =>
    pointwise [parts]
    rw [e, hx]
    unfold sel
    by_cases h : l.val < 64
    · rw [if_pos h, if_pos (by show l.val / 64 = 0; omega)]; rfl
    · rw [if_neg h, if_neg (by show ¬ l.val / 64 = 0; omega)]; rfl
  | 1 =>
    pointwise [parts]
    rw [e, hx]
    unfold sel
    by_cases h : l.val < 64
    · rw [if_pos h, if_neg (by show ¬ l.val / 64 = 1; omega)]; rfl
    · rw [if_neg h, if_pos (by show l.val / 64 = 1; omega)]; rfl

section Step

variable {P : Pair} {i n : ℕ} {t : Tile Ideal} {m : Option (IVec S256x256 1)} {D E : ℕ → Fin 128 → ℝ} {s : St Ideal}

/-- The rows of a key tile, entry by entry. -/
theorem Rep.krows (R : Rep P i t) (hn : n < 33) (c : Fin 256) (l : Fin 128) :
    same (F := Ideal) (e := .bf16) (rowsOf t.K n) (ix2 c l) = ((P.k (256 * n + c.val) l : ℝ) : EReal) := by
  rw [same_eq, rowsOf_apply _ hn, R.k]

/-- The rows of a value tile, entry by entry. -/
theorem Rep.vrows (R : Rep P i t) (hn : n < 33) (c : Fin 256) (l : Fin 128) :
    same (F := Ideal) (e := .bf16) (rowsOf t.V n) (ix2 c l) = ((P.v (256 * n + c.val) l : ℝ) : EReal) := by
  rw [same_eq, rowsOf_apply _ hn, R.w]

/-- The step's scores, -/
theorem z_eq (R : Rep P i t) (hn : n < 33) (h : Fin 2) : t.z n h = toSc (P.z h) (256 * i) (256 * n) :=
  zs_toSc (Q := fun a l => sel h l (P.q a l)) (R.q h) (R.krows hn)

/-- weights, -/
theorem a_eq (R : Rep P i t) (hn : n < 33) (hm : Masks m (256 * i) (256 * n)) (G : Good P i n D E s) (h : Fin 2) :
    t.a m n s h = toSc (P.a h) (256 * i) (256 * n) := by
  unfold Tile.a
  rw [z_eq R hn]
  exact wts_toSc P h hm (R.T h) (G.pc h)

/-- weights times gradients, -/
theorem dl_eq (R : Rep P i t) (hn : n < 33) (hm : Masks m (256 * i) (256 * n)) (G : Good P i n D E s) (h : Fin 2) :
    t.dl m n s h = toSc (P.dl h) (256 * i) (256 * n) := by
  unfold Tile.dl
  rw [a_eq R hn hm G]
  exact dls_toSc P h (R.o h) (R.vrows hn)

/-- and gradients of the scores. -/
theorem dz_eq (R : Rep P i t) (hn : n < 33) (hm : Masks m (256 * i) (256 * n)) (G : Good P i n D E s) (h : Fin 2) :
    t.dz m n s h = toSc (P.dz h) (256 * i) (256 * n) := by
  unfold Tile.dz
  rw [z_eq R hn, dl_eq R hn hm G]
  exact dzs_toSc P h hm (G.dc h)

/-- The columns of the two heads, joined. -/
theorem joinHeads_apply {α : Type} (a b : S1x256x1.Idx → α) (h : Fin 2) (r : Fin 256) :
    joinHeads a b (ix3 h r 0) = (![a, b] : Fin 2 → S1x256x1.Idx → α) h (ix3 0 r 0) := by
  match h with
  | 0 => rfl
  | 1 => rfl

/-- A key row lies in the first `n + 1` tiles if in the first `n` or in tile `n`. -/
theorem putRows_apply {X : S8448x128.Idx → EReal} {Y : S256x128.Idx → EReal} (x : ℕ → Fin 128 → ℝ) (C : ℕ → Fin 128 → ℝ) (hn : n < 33)
    (hX : ∀ (y : Fin 8448) l, X (ix2 y l) = ((x y.val l + (if y.val < 256 * n then C y.val l else 0) : ℝ) : EReal))
    (hY : ∀ (c : Fin 256) l, Y (ix2 c l) = X (ix2 ⟨256 * n + c.val, by have := c.isLt; omega⟩ l) + ((C (256 * n + c.val) l : ℝ) : EReal))
    (y : Fin 8448) (l : Fin 128) :
    putRows X n Y (ix2 y l) = ((x y.val l + (if y.val < 256 * (n + 1) then C y.val l else 0) : ℝ) : EReal) := by
  unfold putRows
  by_cases h : y.val / 256 = n
  · have e : 256 * n + y.val % 256 = y.val := by omega
    have w := hY ⟨y.val % 256, Nat.mod_lt _ (by decide)⟩ l
    rw [show (⟨256 * n + y.val % 256, by omega⟩ : Fin 8448) = y from Fin.ext e, show C (256 * n + y.val % 256) l = C y.val l from congrArg (C · l) e] at w
    refine (if_pos h).trans (w.trans ?_)
    rw [hX, if_neg (by omega), if_pos (by omega), add_zero, EReal.coe_add]
  · refine (if_neg h).trans ?_
    show X (ix2 y l) = _
    rw [hX]
    by_cases h' : y.val < 256 * n
    · rw [if_pos h', if_pos (by omega)]
    · rw [if_neg h', if_neg (by omega)]

/-- A step takes query tile `i` from `n` tiles of keys to `n + 1`. -/
theorem step_good (R : Rep P i t) (hn : n < 33) (hm : Masks m (256 * i) (256 * n)) (G : Good P i n D E s) : Good P i (n + 1) D E (t.step m n s) where
  pc h r := by
    show joinHeads _ _ (ix3 h r 0) = _
    rw [joinHeads_apply, sum_tile, EReal.coe_add, ← G.pc h r]
    match h with
    | 0 => simp only [z_eq R hn, lks_toSc, keep_toSc hm]; exact plus_toSc _ (P.lk 0) ..
    | 1 => simp only [z_eq R hn, lks_toSc, keep_toSc hm]; exact plus_toSc _ (P.lk 1) ..
  dc h r := by
    show joinHeads _ _ (ix3 h r 0) = _
    rw [joinHeads_apply, sum_tile, EReal.coe_add, ← G.dc h r]
    match h with
    | 0 => simp only [dl_eq R hn hm G]; exact plus_toSc _ (P.dl 0) ..
    | 1 => simp only [dl_eq R hn hm G]; exact plus_toSc _ (P.dl 1) ..
  dq r l := by
    unfold Tile.step
    dsimp only
    rw [same_eq, dz_eq R hn hm G, dz_eq R hn hm G, R.v]
    refine (congrArg₂ (· + ·) (G.dq r l) (congrArg₂ (· + ·)
      (mulRows_toSc (P.dz 0) (256 * i) (256 * n) (K := fun a l => sel 0 l (P.k a l)) (fun r l => parts_apply (R.krows hn) 0 r l) r l)
      (mulRows_toSc (P.dz 1) (256 * i) (256 * n) (K := fun a l => sel 1 l (P.k a l)) (fun r l => parts_apply (R.krows hn) 1 r l) r l))).trans ?_
    unfold Pair.dq
    rw [sum_tile, ← EReal.coe_add, ← EReal.coe_add, ← Finset.sum_add_distrib]
    simp only [Fin.sum_univ_two]
  dk := by
    refine putRows_apply D (fun y l => ∑ r : Fin 256, ∑ h, P.dz h (256 * i + r.val) y * sel h l (P.q (256 * i + r.val) l)) hn G.dk fun c l => ?_
    rw [same_eq, dz_eq R hn hm G, dz_eq R hn hm G]
    refine congrArg₂ (· + ·) (rowsOf_apply _ hn c l) ?_
    refine (congrArg₂ (· + ·)
      (mulRowsT_toSc (P.dz 0) (256 * i) (256 * n) (Q := fun a l => sel 0 l (P.q a l)) (R.q 0) c l)
      (mulRowsT_toSc (P.dz 1) (256 * i) (256 * n) (Q := fun a l => sel 1 l (P.q a l)) (R.q 1) c l)).trans ?_
    rw [← EReal.coe_add, ← Finset.sum_add_distrib]
    simp only [Fin.sum_univ_two]
  dv := by
    refine putRows_apply E (fun y l => ∑ r : Fin 256, ∑ h, P.a h (256 * i + r.val) y * sel h l (P.g (256 * i + r.val) l)) hn G.dv fun c l => ?_
    rw [same_eq, a_eq R hn hm G, a_eq R hn hm G]
    refine congrArg₂ (· + ·) (rowsOf_apply _ hn c l) ?_
    refine (congrArg₂ (· + ·)
      (mulRowsT_toSc (P.a 0) (256 * i) (256 * n) (Q := fun a l => sel 0 l (P.g a l)) (R.o 0) c l)
      (mulRowsT_toSc (P.a 1) (256 * i) (256 * n) (Q := fun a l => sel 1 l (P.g a l)) (R.o 1) c l)).trans ?_
    rw [← EReal.coe_add, ← Finset.sum_add_distrib]
    simp only [Fin.sum_univ_two]

end Step

end Cert.KernelIdeal.Hand

end
-- ==== Proof.PointValue.lean ====
module

public import proofs.«01_k».proof.Proof.Body
public import proofs.«01_k».proof.Proof.StepValue

@[expose] public section

set_option maxRecDepth 16384

/-!
# One point of the grid over the reals

What the body leaves where its windows hold the rows of a pair of heads.
-/

noncomputable section

namespace Cert.KernelIdeal.Hand

open Cert.KernelIdeal Cert.KernelIdeal.Gen Cert.Grad Finset
open Idealize.ShloMosaic Idealize.ShloMosaic.TcCoe

/-- What a point's windows hold of a pair: query tile `n`. -/
structure Holds (P : Pair) (n : ℕ) (Q O : Vec Ideal S256x128 .bf16) (T : Vec Ideal S1x256x3 .f32) (K V : Vec Ideal S8448x128 .bf16) : Prop where
  q : ∀ (r : Fin 256) l, Q (ix2 r l) = ((P.q (256 * n + r.val) l : ℝ) : EReal)
  o : ∀ (r : Fin 256) l, O (ix2 r l) = ((P.g (256 * n + r.val) l : ℝ) : EReal)
  k : ∀ (y : Fin 8448) l, K (ix2 y l) = ((P.k y.val l : ℝ) : EReal)
  w : ∀ (y : Fin 8448) l, V (ix2 y l) = ((P.v y.val l : ℝ) : EReal)
  t : ∀ (h : Fin 2) (r : Fin 256), T (ix3 0 r h.castSucc) = ((P.tot h (256 * n + r.val) : ℝ) : EReal)
  c : ∀ (r : Fin 256), T (ix3 0 r 2) = (((n + 1 : ℕ) : ℝ) : EReal)

section Point

variable {P : Pair} {Q O : Vec Ideal S256x128 .bf16} {T : Vec Ideal S1x256x3 .f32} {K V : Vec Ideal S8448x128 .bf16} {i : grid0.Coords}

/-- The kernel's parts of a tile of queries are the parts. -/
theorem q_parts (Q : Vec Ideal S256x128 .bf16) (h : Fin 2) :
    (![k0_pay112 Q, k0_pay113 Q] : Fin 2 → FVec Ideal S256x128 .bf16) h = parts k0_pay107 Q h := by
  have e : k0_pay110 Q = Q := same_eq (e := .bf16) Q
  match h with
  | 0 => exact congrArg (fun x => select _ x _) e
  | 1 => exact congrArg (fun x => select _ _ x) e

/-- A head's half of a tile of queries, entry by entry: the head's own lanes, and 0 in the other head's. -/
theorem o_parts (Q : Vec Ideal S256x128 .bf16) (h : Fin 2) :
    (![k0_pay116 Q, k0_pay117 Q] : Fin 2 → FVec Ideal S256x128 .bf16) h = parts k0_pay107 Q h := by
  have e : k0_pay114 Q = Q := same_eq (e := .bf16) Q
  match h with
  | 0 => exact congrArg (fun x => select _ x _) e
  | 1 => exact congrArg (fun x => select _ _ x) e

/-- A point's tile holds the rows of its pair. -/
theorem rep_of (H : Holds P (i 1).val Q O T K V) : Rep P (i 1).val (tileAt Q O T K V) where
  q h r l := (congrFun (q_parts Q h) (ix2 r l)).trans (parts_apply (X := fun r l => P.q (256 * (i 1).val + r.val) l) H.q h r l)
  o h r l := (congrFun (o_parts O h) (ix2 r l)).trans (parts_apply (X := fun r l => P.g (256 * (i 1).val + r.val) l) H.o h r l)
  k := H.k
  w := H.w
  T := H.t
  v := rfl

/-- The maximum of a column that holds one real. -/
theorem fold_max_const {ι : Type*} [Fintype ι] [Nonempty ι] (f : ι → EReal) (x : EReal) (hf : ∀ j, f j = x) (b : EReal) (hb : b ≤ x) :
    Finset.fold max b f Finset.univ = x := by
  apply le_antisymm
  · exact (Finset.fold_max_le x).mpr ⟨hb, fun j _ => (hf j).le⟩
  · exact (Finset.le_fold_max x).mpr (Or.inr ⟨Classical.arbitrary ι, Finset.mem_univ _, (hf _).ge⟩)

/-- All tiles up to the queries' own are walked. -/
theorem walked_eq (H : Holds P (i 1).val Q O T K V) : walked T = Scalar.addi (BitVec.ofNat 32 (i 1).val) 1#32 := by
  have hi := tile_lt i
  have e : k0_pay125 (F := Ideal) (totOf T 2) = ((((i 1).val + 1 : ℕ) : ℝ) : EReal) := by
    pointwise [k0_pay125]
    exact fold_max_const _ _ (fun j => by exact H.c _) _ (by rw [ofBits_bot]; exact bot_le)
  unfold walked
  rw [e]
  show Ideal.fptosi 32 _ = _
  unfold Ideal.fptosi
  rw [Ideal.toIntClamped_coe, if_pos (by positivity), Int.floor_natCast]
  rw [show max (-((2 ^ (32 - 1) : ℕ) : ℤ)) (min (((2 ^ (32 - 1) : ℕ) : ℤ) - 1) (((i 1).val + 1 : ℕ) : ℤ)) = (((i 1).val + 1 : ℕ) : ℤ) by omega]
  rw [BitVec.ofInt_natCast]
  exact BitVec.ofNat_add ..

/-- The loop starts at tile 1. -/
theorem lo_eq (H : Holds P (i 1).val Q O T K V) : lo i (walked T) = 1 := by
  rw [walked_eq H]
  unfold lo k0_t1_loop
  simp only [Scalar.subi, IntOp.subi, BitVec.sub_self]
  rfl

/-- Tile 0 is taken with a mask unless it is the queries' own. -/
theorem fromZero_eq (H : Holds P (i 1).val Q O T K V) : (fromZero i T = 1#1) ↔ 0 < (i 1).val := by
  have hi := tile_lt i
  unfold fromZero
  rw [walked_eq H]
  simp only [Scalar.subi, IntOp.subi, BitVec.sub_self]
  generalize (i 1).val = n at hi
  interval_cases n <;> decide

/-- The mask of a tile whose rows and columns start at given words. -/
theorem mask_word {R C : ℕ} (hR : R < 2 ^ 30) (hC : C < 2 ^ 30) (r c : Fin 256) :
    IntOp.andi (IntOp.cmpi .slt (IntOp.addi (BitVec.ofNat 32 C) (BitVec.ofNat 32 c.val)) (IntOp.addi (BitVec.ofNat 32 R) (BitVec.ofNat 32 r.val)))
      (IntOp.cmpi .sge (IntOp.addi (BitVec.ofNat 32 C) (BitVec.ofNat 32 c.val)) 240#32) = if ok (R + r.val) (C + c.val) then 1#1 else 0#1 := by
  have := r.isLt; have := c.isLt
  simp only [IntOp.addi, ← BitVec.ofNat_add]
  rw [cmp_slt (by omega) (by omega), cmp_sge (b := 240) (by omega) (by omega)]
  unfold ok
  by_cases h1 : C + c.val < R + r.val <;> by_cases h2 : 240 ≤ C + c.val <;> simp [h1, h2] <;> decide

/-- A tile's number times 256, as a word. -/
theorem mul_word (n : ℕ) : Scalar.muli (BitVec.ofNat 32 n) 256#32 = BitVec.ofNat 32 (256 * n) := by
  rw [mul_comm]; exact (BitVec.ofNat_mul ..).symm

/-- The mask of tile 0, -/
theorem mask0_eq (i : grid0.Coords) : Masks (some (mask0 i)) (256 * (i 1).val) (256 * 0) := fun r c => by
  have hi := tile_lt i
  unfold mask0
  pointwise [k0_pay7, k0_pay124]
  rw [mul_word]
  have := mask_word (R := 256 * (i 1).val) (C := 0) (by omega) (by omega) r c
  rwa [zero_add] at this

/-- and of the queries' own tile. -/
theorem maskOwn_eq (i : grid0.Coords) : Masks (some (maskOwn i)) (256 * (i 1).val) (256 * (i 1).val) := fun r c => by
  have hi := tile_lt i
  unfold maskOwn
  pointwise [k0_pay142, k0_pay124]
  rw [mul_word]
  exact mask_word (R := 256 * (i 1).val) (C := 256 * (i 1).val) (by omega) (by omega) r c

/-- The tiles between them need none. -/
theorem mask_mid {n b : ℕ} (hb : 0 < b) (hn : b < n) : Masks none (256 * n) (256 * b) := fun r c => by
  have := c.isLt
  unfold ok
  omega

/-- A point begins with empty sums. -/
theorem s0_good {D E : ℕ → Fin 128 → ℝ} {dk dv : Vec Ideal S8448x128 .f32} (n : ℕ)
    (hD : ∀ (y : Fin 8448) l, (s0 (F := Ideal) i dk dv).dk (ix2 y l) = ((D y.val l : ℝ) : EReal))
    (hE : ∀ (y : Fin 8448) l, (s0 (F := Ideal) i dk dv).dv (ix2 y l) = ((E y.val l : ℝ) : EReal)) : Good P n 0 D E (s0 i dk dv) where
  pc h r := by
    rw [mul_zero, Finset.sum_range_zero]
    show k0_pay118 (F := Ideal) (ix3 h r 0) = _
    pointwise [k0_pay118]
    rfl
  dc h r := by
    rw [mul_zero, Finset.sum_range_zero]
    show k0_pay119 (F := Ideal) (ix3 h r 0) = _
    pointwise [k0_pay119]
    rfl
  dq r l := by
    unfold Pair.dq
    rw [mul_zero, Finset.sum_range_zero]
    show k0_pay121 (F := Ideal) k0_pay120 (ix2 r l) = _
    pointwise [k0_pay121, k0_pay120]
    rfl
  dk y l := by rw [hD, mul_zero, if_neg (Nat.not_lt_zero _), add_zero]
  dv y l := by rw [hE, mul_zero, if_neg (Nat.not_lt_zero _), add_zero]

/-- The tiles without a mask. -/
theorem mids_good {t : Tile Ideal} {n : ℕ} (R : Rep P n t) (hn : n < 33) {D E : ℕ → Fin 128 → ℝ} {s : St Ideal} (G : Good P n 1 D E s) :
    ∀ k, k + 1 ≤ n → Good P n (k + 1) D E (t.mids 1 k s)
  | 0, _ => G
  | k + 1, h => by
    have g := mids_good R hn G k (by omega)
    have := step_good R (n := k + 1) (by omega) (mask_mid (by omega) (by omega)) g
    show Good P n (k + 1 + 1) D E (t.step none (1 + k) (t.mids 1 k s))
    rw [add_comm 1 k]
    exact this

/-- A point's query tile is taken against every tile up to its own. -/
theorem s3_good (H : Holds P (i 1).val Q O T K V) {D E : ℕ → Fin 128 → ℝ} {dk dv : Vec Ideal S8448x128 .f32}
    (hD : ∀ (y : Fin 8448) l, (s0 (F := Ideal) i dk dv).dk (ix2 y l) = ((D y.val l : ℝ) : EReal))
    (hE : ∀ (y : Fin 8448) l, (s0 (F := Ideal) i dk dv).dv (ix2 y l) = ((E y.val l : ℝ) : EReal)) :
    Good P (i 1).val ((i 1).val + 1) D E (s3 i Q O T K V dk dv) := by
  have hi := tile_lt i
  have R := rep_of H
  have G0 := s0_good (P := P) (i 1).val hD hE
  unfold s3
  refine step_good R hi (maskOwn_eq i) ?_
  unfold s2 s1
  rw [lo_eq H, trips_eq, lo_eq H]
  by_cases h : 0 < (i 1).val
  · rw [if_pos ((fromZero_eq H).mpr h)]
    have := mids_good R hi (step_good R (n := 0) (by omega) (mask0_eq i) G0) ((i 1).val - 1) (by omega)
    rwa [show (i 1).val - 1 + 1 = (i 1).val by omega] at this
  · rw [if_neg (fun e => h ((fromZero_eq H).mp e))]
    have e : (i 1).val = 0 := by omega
    rw [e] at G0 ⊢
    exact G0

end Point

end Cert.KernelIdeal.Hand

end
-- ==== Proof.PairValue.lean ====
module

public import proofs.«01_k».proof.Proof.Run
public import proofs.«01_k».proof.Proof.PointValue

@[expose] public section

set_option maxRecDepth 16384

/-!
# A pair of heads over the reals

The points of a pair, tile by tile: what the states hold if the windows of every point hold the pair's rows.
-/

noncomputable section

namespace Cert.KernelIdeal.Hand

open Cert.KernelIdeal Cert.KernelIdeal.Gen Cert.Grad Finset
open Idealize.ShloMosaic Idealize.ShloMosaic.TcCoe

/-- A point that is no pair's first is not taken for one. -/
theorem isFirst_not (t : Fin cfg0.N) (h : t.val % 33 ≠ 0) : isFirst (grid0.coords t) ≠ 1#1 := by
  have e := coords_tile t
  unfold isFirst
  rw [e]
  have : t.val % 33 < 33 := Nat.mod_lt _ (by decide)
  generalize t.val % 33 = n at h this
  revert h
  interval_cases n <;> decide

/-- The sums' arrays start at zero. -/
theorem zero_apply (y : Fin 8448) (l : Fin 128) : (k0_pay108 (F := Ideal)) (ix2 y l) = ((0 : ℝ) : EReal) ∧ (k0_pay109 (F := Ideal)) (ix2 y l) = ((0 : ℝ) : EReal) := by
  refine ⟨?_, ?_⟩
  · pointwise [k0_pay108]; rfl
  · pointwise [k0_pay109]; rfl

/-- A key's gradient grows by a tile of queries: only if the tile is not before the key. -/
theorem dk_succ (P : Pair) (n y : ℕ) (l : Fin 128) : P.dk (256 * n) y l + (if y < 256 * (n + 1) then
    ∑ r : Fin 256, ∑ h, P.dz h (256 * n + r.val) y * sel h l (P.q (256 * n + r.val) l) else 0) = P.dk (256 * (n + 1)) y l := by
  have e : P.dk (256 * (n + 1)) y l = P.dk (256 * n) y l + ∑ r : Fin 256, ∑ h, P.dz h (256 * n + r.val) y * sel h l (P.q (256 * n + r.val) l) := by
    unfold Pair.dk; exact sum_tile _ n
  rw [e]
  congr 1
  split
  · rfl
  · next h =>
    exact (Finset.sum_eq_zero fun r _ => Finset.sum_eq_zero fun h' _ => by
      have := r.isLt
      rw [show P.dz h' (256 * n + r.val) y = 0 from if_neg fun e => by unfold ok at e; omega, zero_mul]).symm

/-- And a value's. -/
theorem dv_succ (P : Pair) (n y : ℕ) (l : Fin 128) : P.dv (256 * n) y l + (if y < 256 * (n + 1) then
    ∑ r : Fin 256, ∑ h, P.a h (256 * n + r.val) y * sel h l (P.g (256 * n + r.val) l) else 0) = P.dv (256 * (n + 1)) y l := by
  have e : P.dv (256 * (n + 1)) y l = P.dv (256 * n) y l + ∑ r : Fin 256, ∑ h, P.a h (256 * n + r.val) y * sel h l (P.g (256 * n + r.val) l) := by
    unfold Pair.dv; exact sum_tile _ n
  rw [e]
  congr 1
  split
  · rfl
  · next h =>
    exact (Finset.sum_eq_zero fun r _ => Finset.sum_eq_zero fun h' _ => by
      have := r.isLt
      rw [show P.a h' (256 * n + r.val) y = 0 from if_neg fun e => by unfold ok at e; omega, zero_mul]).symm

/-- A query's gradient is complete after the keys of its own tile. -/
theorem dq_full (P : Pair) (n : ℕ) (hn : n < 33) (r : Fin 256) (l : Fin 128) :
    P.dq (256 * (n + 1)) (256 * n + r.val) l = P.dq 8448 (256 * n + r.val) l := by
  have hr := r.isLt
  unfold Pair.dq
  refine Finset.sum_subset (Finset.range_subset_range.mpr (by omega)) fun k _ hk => Finset.sum_eq_zero fun h _ => ?_
  rw [Finset.mem_range] at hk
  rw [show P.dz h (256 * n + r.val) k = 0 from if_neg fun e => by unfold ok at e; omega, zero_mul]

/-- What a state holds of a pair after its tile `n`. -/
structure Sums (P : Pair) (n : ℕ) (s : St Ideal) : Prop where
  dq : ∀ (r : Fin 256) l, s.dq (ix2 r l) = ((P.dq 8448 (256 * n + r.val) l : ℝ) : EReal)
  dk : ∀ (y : Fin 8448) l, s.dk (ix2 y l) = ((P.dk (256 * (n + 1)) y.val l : ℝ) : EReal)
  dv : ∀ (y : Fin 8448) l, s.dv (ix2 y l) = ((P.dv (256 * (n + 1)) y.val l : ℝ) : EReal)

/-- A point's body adds its tile. -/
theorem s3_sums {P : Pair} {i : grid0.Coords} {n : ℕ} (hi : (i 1).val = n) {Q O : Vec Ideal S256x128 .bf16} {T : Vec Ideal S1x256x3 .f32} {K V : Vec Ideal S8448x128 .bf16}
    (H : Holds P n Q O T K V) {dk dv : Vec Ideal S8448x128 .f32}
    (hD : ∀ (y : Fin 8448) l, (s0 (F := Ideal) i dk dv).dk (ix2 y l) = ((P.dk (256 * n) y.val l : ℝ) : EReal))
    (hE : ∀ (y : Fin 8448) l, (s0 (F := Ideal) i dk dv).dv (ix2 y l) = ((P.dv (256 * n) y.val l : ℝ) : EReal)) :
    Sums P n (s3 i Q O T K V dk dv) := by
  subst hi
  have G := s3_good H hD hE
  exact ⟨fun r l => (G.dq r l).trans (by rw [dq_full P _ (tile_lt i)]), fun y l => (G.dk y l).trans (by rw [dk_succ]),
    fun y l => (G.dv y l).trans (by rw [dv_succ])⟩

variable (m : (ℓ : Loc nD τ sig) → Buf (Elt Ideal) ℓ) (c : Dev nD) (P : ℕ → Pair)

/-- The windows of every point hold the rows of its pair. -/
def Windows : Prop := ∀ t : Fin cfg0.N, Holds (P (t.val / 33)) (t.val % 33) (iblk m c 0 t) (iblk m c 3 t) (iblk m c 4 t) (iblk m c 1 t) (iblk m c 2 t)

/-- At every point the state holds the sums of its pair. -/
theorem state_sums (W : Windows m c P) : ∀ (n : ℕ) (h : n < cfg0.N), Sums (P (n / 33)) (n % 33) (state m c n h)
  | 0, h => by
    refine s3_sums (coords_tile ⟨0, h⟩) (W ⟨0, h⟩) (fun y l => ?_) (fun y l => ?_)
    · unfold s0
      rw [if_pos (isFirst_of ⟨0, h⟩ rfl)]
      refine (zero_apply y l).1.trans ?_
      show _ = (((P 0).dk 0 y.val l : ℝ) : EReal)
      unfold Pair.dk
      rw [Finset.sum_range_zero]
    · unfold s0
      rw [if_pos (isFirst_of ⟨0, h⟩ rfl), if_pos (isFirst_of ⟨0, h⟩ rfl)]
      refine (zero_apply y l).2.trans ?_
      show _ = (((P 0).dv 0 y.val l : ℝ) : EReal)
      unfold Pair.dv
      rw [Finset.sum_range_zero]
  | n + 1, h => by
    have G := state_sums W n (Nat.lt_of_succ_lt h)
    by_cases hf : (n + 1) % 33 = 0
    · refine s3_sums (coords_tile ⟨n + 1, h⟩) (W ⟨n + 1, h⟩) (fun y l => ?_) (fun y l => ?_)
      · unfold s0
        rw [if_pos (isFirst_of ⟨n + 1, h⟩ hf)]
        refine (zero_apply y l).1.trans ?_
        rw [hf]
        unfold Pair.dk
        rw [mul_zero, Finset.sum_range_zero]
      · unfold s0
        rw [if_pos (isFirst_of ⟨n + 1, h⟩ hf), if_pos (isFirst_of ⟨n + 1, h⟩ hf)]
        refine (zero_apply y l).2.trans ?_
        rw [hf]
        unfold Pair.dv
        rw [mul_zero, Finset.sum_range_zero]
    · have e1 : (n + 1) % 33 = n % 33 + 1 := by omega
      have e2 : (n + 1) / 33 = n / 33 := by omega
      refine s3_sums (coords_tile ⟨n + 1, h⟩) (W ⟨n + 1, h⟩) (fun y l => ?_) (fun y l => ?_)
      · unfold s0
        rw [if_neg (isFirst_not ⟨n + 1, h⟩ hf), e1, e2]
        exact G.dk y l
      · unfold s0
        rw [if_neg (isFirst_not ⟨n + 1, h⟩ hf), if_neg (isFirst_not ⟨n + 1, h⟩ hf), e1, e2]
        exact G.dv y l

end Cert.KernelIdeal.Hand
-- ==== Proof.Heads.lean ====
module

public import proofs.«01_k».proof.Proof.Scalars

@[expose] public section

/-!
# The heads of an input

The pairs of heads that an array of queries, keys and values and a cotangent hold, and their sums, head by head.
-/

noncomputable section

namespace Cert.Grad

open Finset
open Idealize.ShloMosaic

/-- The pair `j` of the inputs' real numbers: `A` holds the queries, keys and values, `B` the cotangent, both without the padding. -/
def pairOf (A B : ℕ → ℕ → ℝ) (j : ℕ) : Pair where
  q n l := if 240 ≤ n then A (n - 240) (128 * j + l.val) else 0
  k n l := if 240 ≤ n then A (n - 240) (1024 + (128 * j + l.val)) else 0
  v n l := if 240 ≤ n then A (n - 240) (2048 + (128 * j + l.val)) else 0
  g n l := if 240 ≤ n then B (n - 240) (128 * j + l.val) else 0

/-- A lane of a head. -/
def lane (h : Fin 2) (d : Fin 64) : Fin 128 := ⟨64 * h.val + d.val, by have := h.isLt; have := d.isLt; omega⟩

/-- A sum over a head's lanes. -/
theorem sum_sel (h : Fin 2) (f g : Fin 128 → ℝ) : ∑ l, sel h l (f l) * g l = ∑ d : Fin 64, f (lane h d) * g (lane h d) := by
  have e : ∑ l, sel h l (f l) * g l = ∑ d : Fin 64, sel h (lane 0 d) (f (lane 0 d)) * g (lane 0 d)
      + ∑ d : Fin 64, sel h (lane 1 d) (f (lane 1 d)) * g (lane 1 d) := by
    exact Fin.sum_univ_add (a := 64) (b := 64) _
  rw [e]
  have on : ∀ (h : Fin 2) (d : Fin 64) (x : ℝ), sel h (lane h d) x = x := fun h d x => by
    have := d.isLt; unfold sel lane; rw [if_pos]; show (64 * h.val + d.val) / 64 = h.val; omega
  have off : ∀ (h h' : Fin 2) (d : Fin 64) (x : ℝ), h ≠ h' → sel h (lane h' d) x = 0 := fun h h' d x hh => by
    have := d.isLt; unfold sel lane; rw [if_neg]; intro q; exact hh (Fin.ext (by have q : (64 * h'.val + d.val) / 64 = h.val := q; omega))
  match h with
  | 0 => simp only [on, off 0 1 _ _ (by decide), zero_mul, Finset.sum_const_zero, add_zero]
  | 1 => simp only [on, off 1 0 _ _ (by decide), zero_mul, Finset.sum_const_zero, zero_add]

/-- The pair of a head, -/
def pr (A B : ℕ → ℕ → ℝ) (H : Fin 16) : Pair := pairOf A B (H.val / 2)

/-- and which of the two it is. -/
def hd (H : Fin 16) : Fin 2 := ⟨H.val % 2, Nat.mod_lt _ (by decide)⟩

/-- The column of a head's lane. -/
theorem col_eq (H : Fin 16) (d : Fin 64) : 128 * (H.val / 2) + (lane (hd H) d).val = H.val * 64 + d.val := by
  show 128 * (H.val / 2) + (64 * (H.val % 2) + d.val) = _
  omega

section Reads

variable {A B : ℕ → ℕ → ℝ} (H : Fin 16) (r : ℕ) (d : Fin 64)

/-- A head's query, as an entry of the first input. -/
theorem pr_q : (pr A B H).q (240 + r) (lane (hd H) d) = A r (H.val * 64 + d.val) := by
  show (if 240 ≤ 240 + r then _ else _) = _
  rw [if_pos (by omega), Nat.add_sub_cancel_left, col_eq]

/-- A head's key, 1024 columns further on. -/
theorem pr_k : (pr A B H).k (240 + r) (lane (hd H) d) = A r (1024 + (H.val * 64 + d.val)) := by
  show (if 240 ≤ 240 + r then _ else _) = _
  rw [if_pos (by omega), Nat.add_sub_cancel_left, col_eq]

/-- A head's value, 2048 columns further on. -/
theorem pr_v : (pr A B H).v (240 + r) (lane (hd H) d) = A r (2048 + (H.val * 64 + d.val)) := by
  show (if 240 ≤ 240 + r then _ else _) = _
  rw [if_pos (by omega), Nat.add_sub_cancel_left, col_eq]

/-- A head's cotangent, as an entry of the second input. -/
theorem pr_g : (pr A B H).g (240 + r) (lane (hd H) d) = B r (H.val * 64 + d.val) := by
  show (if 240 ≤ 240 + r then _ else _) = _
  rw [if_pos (by omega), Nat.add_sub_cancel_left, col_eq]

end Reads

variable {A B : ℕ → ℕ → ℝ} {x0 : Vec Ideal ⟨2, ![8208, 3072]⟩ .f32} {x1 : Vec Ideal ⟨2, ![8208, 1024]⟩ .f32}

/-- The score of a query and a key. -/
theorem score_coe (h0 : ∀ r c, x0 (ix2 r c) = ((A r.val c.val : ℝ) : EReal)) (H : Fin 16) (r s : Fin 8208) (p : ∀ d : Fin 64, H.val * 64 + d.val < 3072)
    (p' : ∀ d : Fin 64, 1024 + (H.val * 64 + d.val) < 3072) :
    (∑ d : Fin 64, x0 (ix2 r ⟨H.val * 64 + d.val, p d⟩) * x0 (ix2 s ⟨1024 + (H.val * 64 + d.val), p' d⟩)) * Ideal.ofBits .f32 0x3E000000#32
      = (((pr A B H).z (hd H) (240 + r.val) (240 + s.val) : ℝ) : EReal) := by
  unfold Pair.z
  rw [sum_sel, ofBits_eighth, EReal.coe_mul, coe_sum]
  simp only [h0, pr_q, pr_k, EReal.coe_mul]

/-- The product of a cotangent's row and a value's. -/
theorem weight_coe (h0 : ∀ r c, x0 (ix2 r c) = ((A r.val c.val : ℝ) : EReal)) (h1 : ∀ r c, x1 (ix2 r c) = ((B r.val c.val : ℝ) : EReal))
    (H : Fin 16) (r s : Fin 8208) (p : ∀ d : Fin 64, H.val * 64 + d.val < 1024) (p' : ∀ d : Fin 64, 2048 + (H.val * 64 + d.val) < 3072) :
    ∑ d : Fin 64, x1 (ix2 r ⟨H.val * 64 + d.val, p d⟩) * x0 (ix2 s ⟨2048 + (H.val * 64 + d.val), p' d⟩)
      = ((∑ l, sel (hd H) l ((pr A B H).g (240 + r.val) l) * (pr A B H).v (240 + s.val) l : ℝ) : EReal) := by
  rw [sum_sel, coe_sum]
  simp only [h0, h1, pr_g, pr_v, EReal.coe_mul]

/-- Which keys a query sees, without the padding. -/
theorem ok_iff (r s : ℕ) : ok (240 + r) (240 + s) ↔ s < r := by unfold ok; omega

/-- No query sees the padding. -/
theorem sum_pad (f : ℕ → ℝ) (h : ∀ k, k < 240 → f k = 0) (n : ℕ) : ∑ k ∈ range (240 + n), f k = ∑ k ∈ range n, f (240 + k) := by
  rw [Finset.sum_range_add, Finset.sum_eq_zero fun k hk => h k (mem_range.mp hk), zero_add]

namespace Pair

variable (p : Pair) (h : Fin 2) (q : ℕ) {k : ℕ}

/-- No query keeps anything at a padding row. -/
theorem lk_pad (hk : k < 240) : p.lk h q k = 0 := if_neg fun e => by unfold ok at e; omega
/-- No query attends to a padding row. -/
theorem a_pad (hk : k < 240) : p.a h q k = 0 := if_neg fun e => by unfold ok at e; omega
/-- A padding row has no gradient of a log weight. -/
theorem dl_pad (hk : k < 240) : p.dl h q k = 0 := by unfold Pair.dl; rw [p.a_pad h q hk, zero_mul]
/-- A padding row has no gradient of a score. -/
theorem dz_pad (hk : k < 240) : p.dz h q k = 0 := if_neg fun e => by unfold ok at e; omega

/-- A row's sum, without the padding. -/
theorem tot_eq : p.tot h q = ∑ k ∈ range 8208, p.lk h q (240 + k) := sum_pad (p.lk h q) (fun _ hk => p.lk_pad h q hk) 8208

/-- A sum over both heads of a value on one of them. -/
theorem _root_.Cert.Grad.sum_heads (h : Fin 2) (d : Fin 64) (f : Fin 2 → ℝ) (x : ℝ) : ∑ h', f h' * sel h' (lane h d) x = f h * x := by
  have hd := d.isLt
  rw [Finset.sum_eq_single h]
  · unfold sel lane; rw [if_pos]; show (64 * h.val + d.val) / 64 = h.val; omega
  · intro h' _ hh
    unfold sel lane
    rw [if_neg, mul_zero]
    intro e
    exact hh (Fin.ext (by have e : (64 * h.val + d.val) / 64 = h'.val := e; omega))
  · intro e; exact absurd (mem_univ _) e

/-- A query of the padding has neither a score's gradient -/
theorem dz_row (hq : q < 240) (k : ℕ) : p.dz h q k = 0 := if_neg fun e => by unfold ok at e; omega
/-- nor a weight. -/
theorem a_row (hq : q < 240) (k : ℕ) : p.a h q k = 0 := if_neg fun e => by unfold ok at e; omega

/-- A query's gradient, over the keys without the padding, -/
theorem dq_eq (d : Fin 64) : p.dq 8448 q (lane h d) = ∑ k ∈ range 8208, p.dz h q (240 + k) * p.k (240 + k) (lane h d) := by
  unfold Pair.dq
  simp only [sum_heads h d]
  exact sum_pad _ (fun k hk => by rw [p.dz_pad h q hk, zero_mul]) 8208

/-- a key's, over the queries, -/
theorem dk_eq (d : Fin 64) (k : ℕ) : p.dk 8448 k (lane h d) = ∑ q ∈ range 8208, p.dz h (240 + q) k * p.q (240 + q) (lane h d) := by
  unfold Pair.dk
  simp only [sum_heads h d]
  exact sum_pad _ (fun q hq => by rw [p.dz_row h q hq, zero_mul]) 8208

/-- and a value's. -/
theorem dv_eq (d : Fin 64) (k : ℕ) : p.dv 8448 k (lane h d) = ∑ q ∈ range 8208, p.a h (240 + q) k * p.g (240 + q) (lane h d) := by
  unfold Pair.dv
  simp only [sum_heads h d]
  exact sum_pad _ (fun q hq => by rw [p.a_row h q hq, zero_mul]) 8208

/-- The padding has no gradient: not as a query, -/
theorem dq_zero {q : ℕ} (hq : q < 240) (n : ℕ) (l : Fin 128) : p.dq n q l = 0 := by
  unfold Pair.dq
  exact Finset.sum_eq_zero fun k _ => Finset.sum_eq_zero fun h _ => by rw [p.dz_row h q hq, zero_mul]

/-- as a key, -/
theorem dk_zero {k : ℕ} (hk : k < 240) (n : ℕ) (l : Fin 128) : p.dk n k l = 0 := by
  unfold Pair.dk
  exact Finset.sum_eq_zero fun q _ => Finset.sum_eq_zero fun h _ => by rw [p.dz_pad h q hk, zero_mul]

/-- or as a value. -/
theorem dv_zero {k : ℕ} (hk : k < 240) (n : ℕ) (l : Fin 128) : p.dv n k l = 0 := by
  unfold Pair.dv
  exact Finset.sum_eq_zero fun q _ => Finset.sum_eq_zero fun h _ => by rw [p.a_pad h q hk, zero_mul]

end Pair

/-- The head of a column, -/
def headAt (l : Fin 1024) : Fin 16 := ⟨l.val / 64, by have := l.isLt; omega⟩

/-- and its lane. -/
def laneAt (l : Fin 1024) : Fin 64 := ⟨l.val % 64, by omega⟩

/-- The gradient arrays: of the queries, -/
def outQ (A B : ℕ → ℕ → ℝ) : (⟨2, ![8448, 1024]⟩ : Shape).Idx → EReal :=
  fun y => (((pr A B (headAt (y 1))).dq 8448 (y 0).val (lane (hd (headAt (y 1))) (laneAt (y 1))) : ℝ) : EReal)

/-- of the keys, -/
def outK (A B : ℕ → ℕ → ℝ) : (⟨2, ![8448, 1024]⟩ : Shape).Idx → EReal :=
  fun y => (((pr A B (headAt (y 1))).dk 8448 (y 0).val (lane (hd (headAt (y 1))) (laneAt (y 1))) : ℝ) : EReal)

/-- and of the values. -/
def outV (A B : ℕ → ℕ → ℝ) : (⟨2, ![8448, 1024]⟩ : Shape).Idx → EReal :=
  fun y => (((pr A B (headAt (y 1))).dv 8448 (y 0).val (lane (hd (headAt (y 1))) (laneAt (y 1))) : ℝ) : EReal)

/-- A query's gradient as a sum over the keys. -/
theorem outQ_in (n : Fin 8448) (l : Fin 1024) (r : Fin 8208) (hr : n.val = 240 + r.val) : outQ A B (ix2 n l) =
    ∑ x : Fin 8208, (((pr A B (headAt l)).dz (hd (headAt l)) (240 + r.val) (240 + x.val) : ℝ) : EReal) *
      (((pr A B (headAt l)).k (240 + x.val) (lane (hd (headAt l)) (laneAt l)) : ℝ) : EReal) := by
  show (((pr A B (headAt l)).dq 8448 n.val (lane (hd (headAt l)) (laneAt l)) : ℝ) : EReal) = _
  rw [hr, Pair.dq_eq, coe_sum, Finset.sum_range]
  exact Finset.sum_congr rfl fun x _ => EReal.coe_mul _ _

/-- None in the padding. -/
theorem outQ_pad (n : Fin 8448) (l : Fin 1024) (hn : n.val < 240) : outQ A B (ix2 n l) = 0 := by
  show (((pr A B (headAt l)).dq 8448 n.val (lane (hd (headAt l)) (laneAt l)) : ℝ) : EReal) = _
  rw [Pair.dq_zero _ hn]; rfl

/-- A key's gradient as a sum over the queries. -/
theorem outK_in (n : Fin 8448) (l : Fin 1024) (r : Fin 8208) (hr : n.val = 240 + r.val) : outK A B (ix2 n l) =
    ∑ x : Fin 8208, (((pr A B (headAt l)).dz (hd (headAt l)) (240 + x.val) (240 + r.val) : ℝ) : EReal) *
      (((pr A B (headAt l)).q (240 + x.val) (lane (hd (headAt l)) (laneAt l)) : ℝ) : EReal) := by
  show (((pr A B (headAt l)).dk 8448 n.val (lane (hd (headAt l)) (laneAt l)) : ℝ) : EReal) = _
  rw [hr, Pair.dk_eq, coe_sum, Finset.sum_range]
  exact Finset.sum_congr rfl fun x _ => EReal.coe_mul _ _

/-- None in the padding. -/
theorem outK_pad (n : Fin 8448) (l : Fin 1024) (hn : n.val < 240) : outK A B (ix2 n l) = 0 := by
  show (((pr A B (headAt l)).dk 8448 n.val (lane (hd (headAt l)) (laneAt l)) : ℝ) : EReal) = _
  rw [Pair.dk_zero _ hn]; rfl

/-- A value's gradient as a sum over the queries. -/
theorem outV_in (n : Fin 8448) (l : Fin 1024) (r : Fin 8208) (hr : n.val = 240 + r.val) : outV A B (ix2 n l) =
    ∑ x : Fin 8208, (((pr A B (headAt l)).g (240 + x.val) (lane (hd (headAt l)) (laneAt l)) : ℝ) : EReal) *
      (((pr A B (headAt l)).a (hd (headAt l)) (240 + x.val) (240 + r.val) : ℝ) : EReal) := by
  show (((pr A B (headAt l)).dv 8448 n.val (lane (hd (headAt l)) (laneAt l)) : ℝ) : EReal) = _
  rw [hr, Pair.dv_eq, coe_sum, Finset.sum_range]
  exact Finset.sum_congr rfl fun x _ => (EReal.coe_mul _ _).trans (mul_comm _ _)

/-- None in the padding. -/
theorem outV_pad (n : Fin 8448) (l : Fin 1024) (hn : n.val < 240) : outV A B (ix2 n l) = 0 := by
  show (((pr A B (headAt l)).dv 8448 n.val (lane (hd (headAt l)) (laneAt l)) : ℝ) : EReal) = _
  rw [Pair.dv_zero _ hn]; rfl

/-- The pair and the lane of a column. -/
theorem pair_column (j : ℕ) (l : Fin 128) (k : Fin 1024) (hk : k.val = 128 * j + l.val) :
    k.val / 64 / 2 = j ∧ lane (hd (headAt k)) (laneAt k) = l := by
  have hl := l.isLt
  refine ⟨by omega, Fin.ext ?_⟩
  show 64 * (k.val / 64 % 2) + k.val % 64 = l.val
  omega

/-- The gradient arrays, pair by pair: a pair's lanes are 128 neighbouring columns; the queries', -/
theorem outQ_pair (n : Fin 8448) (j : ℕ) (l : Fin 128) (k : Fin 1024) (hk : k.val = 128 * j + l.val) :
    outQ A B (ix2 n k) = (((pairOf A B j).dq 8448 n.val l : ℝ) : EReal) := by
  have e := pair_column j l k hk
  show (((pairOf A B (k.val / 64 / 2)).dq 8448 n.val (lane (hd (headAt k)) (laneAt k)) : ℝ) : EReal) = _
  rw [e.1, e.2]

/-- the keys' -/
theorem outK_pair (n : Fin 8448) (j : ℕ) (l : Fin 128) (k : Fin 1024) (hk : k.val = 128 * j + l.val) :
    outK A B (ix2 n k) = (((pairOf A B j).dk 8448 n.val l : ℝ) : EReal) := by
  have e := pair_column j l k hk
  show (((pairOf A B (k.val / 64 / 2)).dk 8448 n.val (lane (hd (headAt k)) (laneAt k)) : ℝ) : EReal) = _
  rw [e.1, e.2]

/-- and the values'. -/
theorem outV_pair (n : Fin 8448) (j : ℕ) (l : Fin 128) (k : Fin 1024) (hk : k.val = 128 * j + l.val) :
    outV A B (ix2 n k) = (((pairOf A B j).dv 8448 n.val l : ℝ) : EReal) := by
  have e := pair_column j l k hk
  show (((pairOf A B (k.val / 64 / 2)).dv 8448 n.val (lane (hd (headAt k)) (laneAt k)) : ℝ) : EReal) = _
  rw [e.1, e.2]

end Cert.Grad
-- ==== Proof.HostValue.lean ====
module

public import proofs.«01_k».proof.Proof.Run
public import proofs.«01_k».proof.Proof.Heads
public import Idealize.ShloMosaic.Lib.StableHlo.RunRead

@[expose] public section

set_option maxRecDepth 16384

/-!
# The arrays that the launch finds

What the operations before the launch leave in the arrays that its windows read: the padded inputs, and the sums of the
rows with the number of tiles that the forward pass walked.
-/

noncomputable section

namespace Cert.KernelIdeal.Hand

open Cert.KernelIdeal Cert.KernelIdeal.Gen Cert.Grad Finset
open Idealize.ShloMosaic Idealize.ShloMosaic.TcCoe

/-- The queries, keys and values with their padding. -/
def padded (x0 : Vec Ideal S8208x3072 .f32) : Vec Ideal S8448x3072 .bf16 :=
  truncf .bf16 (pad S8448x3072 ![240, 0] ![0, 0] ![0, 0] x0 (sitofp .f32 (constantI S_ 32 0#32) : FVec Ideal S_ .f32) pads_S8208x3072_S8448x3072_24000_000 h_S_) bitsLt_bf16_f32

/-- The cotangent with its padding. -/
def paddedG (x1 : Vec Ideal S8208x1024 .f32) : Vec Ideal S8448x1024 .bf16 :=
  truncf .bf16 (pad S8448x1024 ![240, 0] ![0, 0] ![0, 0] x1 (sitofp .f32 (constantI S_ 32 0#32) : FVec Ideal S_ .f32) pads_S8208x1024_S8448x1024_24000_000 h_S_) bitsLt_bf16_f32

/-- The zero of a selection or a maximum. -/
def zeros : FVec Ideal S16x8208x8208 .f32 := broadcastInDim S16x8208x8208 ![] bcast_S_S16x8208x8208 (constant S_ .f32 0x00000000#32)

/-- The scaled scores of every head. -/
def scores (x0 : Vec Ideal S8208x3072 .f32) : FVec Ideal S16x8208x8208 .f32 :=
  mulf (Host.dotGeneral (φ₁ := .f32) (φ₂ := .f32) dot_S8208x16x64_S8208x16x64_S16x8208x8208_2_2_0_0_1_1 none
      (shapeCast S8208x16x64 (extractStridedSlice S8208x1024 ![0, 0] x0 slices_S8208x3072_S8208x1024_0_0) shapeCasts_S8208x1024_S8208x16x64)
      (shapeCast S8208x16x64 (extractStridedSlice S8208x1024 ![0, 1024] x0 slices_S8208x3072_S8208x1024_0_1024) shapeCasts_S8208x1024_S8208x16x64))
    (broadcastInDim S16x8208x8208 ![] bcast_S_S16x8208x8208 (constant S_ .f32 0x3E000000#32))

/-- The softplus of an array. -/
def softplus (y : FVec Ideal S16x8208x8208 .f32) : FVec Ideal S16x8208x8208 .f32 :=
  select (cmpf .une (subf y zeros) (subf y zeros)) (addf y zeros)
    (addf (maximumf y zeros) (Host.log1p (Host.exp (Host.negf (Host.absf (subf y zeros))))))

/-- The keys before each query. -/
def before : IVec S8208x8208 1 :=
  cmpi .slt (broadcastInDim S8208x8208 ![0, 1] bcast_S1x8208_S8208x8208_0_1 (broadcastInDim S1x8208 ![1] bcast_S8208_S1x8208_1 (iotaInDim S8208 32 0)))
    (broadcastInDim S8208x8208 ![0, 1] bcast_S8208x1_S8208x8208_0_1 (broadcastInDim S8208x1 ![0] bcast_S8208_S8208x1_0 (iotaInDim S8208 32 0)))

/-- The logarithms of one minus the logistic, where the query sees the key. -/
def keeps (x0 : Vec Ideal S8208x3072 .f32) : FVec Ideal S16x8208x8208 .f32 :=
  select (broadcastInDim S16x8208x8208 ![1, 2] bcast_S8208x8208_S16x8208x8208_1_2 before)
    (Host.negf (softplus (Host.negf (Host.negf (scores x0)))))
    (broadcastInDim S16x8208x8208 ![] bcast_S_S16x8208x8208 (id (constant S_ .f32 0x00000000#32)))

/-- The row sums. -/
def rowSums (x0 : Vec Ideal S8208x3072 .f32) : FVec Ideal S16x8208 .f32 :=
  Host.reduceAdd (keeps x0) (constant S_ .f32 0x00000000#32) reducesTo_S16x8208x8208_S16x8208_d2 h_S_

/-- The tiles that a query's tile walked: all up to its own. -/
def tilesOf : FVec Ideal S8x33x256 .f32 :=
  addf (sitofp .f32 (iotaInDim S8x33x256 32 1)) (broadcastInDim S8x33x256 ![] bcast_S_S8x33x256 (constant S_ .f32 0x3F800000#32))

/-- The sums of both heads of a pair and the count, side by side. -/
def joined (a : FVec Ideal S8x2x8448 .f32) (b : FVec Ideal S8x1x8448 .f32) : FVec Ideal S8x8448x3 .f32 :=
  transpose S8x8448x3 [0, 2, 1] (concatenate S8x3x8448 1 [⟨S8x2x8448, a⟩, ⟨S8x1x8448, b⟩] concatenates_S8x2x8448_S8x1x8448_S8x3x8448_d1)
    transposes_S8x3x8448_S8x8448x3_0_2_1

/-- What the forward pass saved. -/
def saved (x0 : Vec Ideal S8208x3072 .f32) : FVec Ideal S8x8448x3 .f32 :=
  joined (shapeCast S8x2x8448 (pad S16x8448 ![0, 240] ![0, 0] ![0, 0] (rowSums x0) (sitofp .f32 (constantI S_ 32 0#32) : FVec Ideal S_ .f32)
      pads_S16x8208_S16x8448_000_24000 h_S_) shapeCasts_S16x8448_S8x2x8448)
    (shapeCast S8x1x8448 tilesOf shapeCasts_S8x33x256_S8x1x8448)

variable (m : (ℓ : Loc nD τ sig) → Buf (Elt Ideal) ℓ) (c : Dev nD)

set_option maxHeartbeats 1000000 in
/-- The launch finds the padded inputs, -/
theorem V_v27 : V m c main_v27 = padded (m ((c : Thread nD τ).loc main_arg0)) := by
  after_reads_simp
  rfl

set_option maxHeartbeats 1000000 in
/-- the padded cotangent -/
theorem V_v29 : V m c main_v29 = paddedG (m ((c : Thread nD τ).loc main_arg1)) := by
  after_reads_simp
  rfl

set_option maxHeartbeats 1000000 in
/-- and what the forward pass saved. -/
theorem V_v25 : V m c main_v25 = saved (m ((c : Thread nD τ).loc main_arg0)) := by
  after_reads_simp
  refine congrArg₂ joined ?_ ?_
  · after_reads_simp
    rfl
  · after_reads_simp
    rfl

section Index

variable {A B : ℕ → ℕ → ℝ} {x0 : Vec Ideal S8208x3072 .f32} {x1 : Vec Ideal S8208x1024 .f32}
  (h0 : ∀ (r : Fin 8208) (c : Fin 3072), x0 (ix2 r c) = ((A r.val c.val : ℝ) : EReal))
  (h1 : ∀ (r : Fin 8208) (c : Fin 1024), x1 (ix2 r c) = ((B r.val c.val : ℝ) : EReal))

include h0

/-- The scores. -/
theorem scores_apply (H : Fin 16) (r s : Fin 8208) : scores x0 (ix3 H r s) = (((pr A B H).z (hd H) (240 + r.val) (240 + s.val) : ℝ) : EReal) := by
  pointwise [scores]
  exact score_coe h0 H r s _ _

omit h0 in
/-- The softplus of a real entry. -/
theorem softplus_apply {y : FVec Ideal S16x8208x8208 .f32} {H : Fin 16} {r s : Fin 8208} {z : ℝ} (h : y (ix3 H r s) = (z : EReal)) :
    softplus y (ix3 H r s) = ((sp z : ℝ) : EReal) := by
  pointwise [softplus, zeros]
  rw [h]
  exact softplus_host z

/-- The logarithms. -/
theorem keeps_apply (H : Fin 16) (r s : Fin 8208) : keeps x0 (ix3 H r s) = (((pr A B H).lk (hd H) (240 + r.val) (240 + s.val) : ℝ) : EReal) := by
  have hr := r.isLt
  have hs := s.isLt
  have e : Host.negf (Host.negf (scores x0)) (ix3 H r s) = (((pr A B H).z (hd H) (240 + r.val) (240 + s.val) : ℝ) : EReal) := by
    pointwise []
    rw [scores_apply h0 (B := B), ← EReal.coe_neg, ← EReal.coe_neg, neg_neg]
  pointwise [keeps, before]
  rw [softplus_apply e, cmp_slt (by omega) (by omega), ← EReal.coe_neg]
  unfold Pair.lk
  by_cases h : s.val < r.val
  · rw [if_pos h, if_pos ((ok_iff _ _).mpr h)]; rfl
  · rw [if_neg h, if_neg (fun e => h ((ok_iff _ _).mp e))]
    show constant (F := Ideal) S_ .f32 0x00000000#32 ix0 = _
    pointwise []
    rfl

/-- Their sums. -/
theorem rowSums_apply (H : Fin 16) (r : Fin 8208) : rowSums x0 (ix2 H r) = (((pr A B H).tot (hd H) (240 + r.val) : ℝ) : EReal) := by
  pointwise [rowSums]
  rw [Pair.tot_eq, coe_sum, Finset.sum_range]
  exact Finset.sum_congr rfl fun x _ => keeps_apply h0 H r x

/-- What was saved of a head's rows. -/
theorem saved_sum (j : Fin 8) (n : Fin 8448) (h : Fin 2) : saved x0 (ix3 j n h.castSucc) = (((pairOf A B j.val).tot h n.val : ℝ) : EReal) := by
  have hn := n.isLt
  have hj := j.isLt
  have hh := h.isLt
  pointwise [saved, joined, tilesOf]
  rw [dif_pos (by show h.val < 2; exact hh)]
  split
  · next e =>
    refine (rowSums_apply h0 (B := B) _ _).trans ?_
    have e1 : (j.val * 2 + h.val) / 2 = j.val := by omega
    have e2 : (j.val * 2 + h.val) % 2 = h.val := by omega
    have e3 : 240 + (n.val - 240) = n.val := by omega
    show (((pairOf A B ((j.val * 2 + h.val) / 2)).tot ⟨(j.val * 2 + h.val) % 2, _⟩ (240 + (n.val - 240)) : ℝ) : EReal) = _
    simp only [e1, e2, e3]
  · next e =>
    have hn' : n.val < 240 := by
      by_contra h'
      exact e ⟨by show j.val * 2 + h.val < 16; omega, by omega, by omega⟩
    refine sitofp_zero.trans ?_
    rw [show (pairOf A B j.val).tot h n.val = 0 from Finset.sum_eq_zero fun k _ => if_neg fun e => by unfold ok at e; omega]
    rfl

omit h0 in
/-- The number of tiles walked. -/
theorem saved_count (j : Fin 8) (n : Fin 8448) : saved x0 (ix3 j n 2) = (((n.val / 256 + 1 : ℕ) : ℝ) : EReal) := by
  have hn := n.isLt
  pointwise [saved, joined, tilesOf]
  rw [sitofp_nat (by omega), ← EReal.coe_one, ← EReal.coe_add]
  push_cast
  rfl

/-- The padded queries, keys and values. -/
theorem padded_apply (n : Fin 8448) (l : Fin 3072) : padded x0 (ix2 n l) = ((if 240 ≤ n.val then A (n.val - 240) l.val else 0 : ℝ) : EReal) := by
  have hn := n.isLt
  pointwise [padded]
  by_cases h : 240 ≤ n.val
  · rw [dif_pos ⟨h, by omega⟩, if_pos h]; exact h0 _ _
  · rw [dif_neg (fun e => h e.1), if_neg h]; exact sitofp_zero

omit h0 in
include h1 in
/-- The padded cotangent. -/
theorem paddedG_apply (n : Fin 8448) (l : Fin 1024) : paddedG x1 (ix2 n l) = ((if 240 ≤ n.val then B (n.val - 240) l.val else 0 : ℝ) : EReal) := by
  have hn := n.isLt
  pointwise [paddedG]
  by_cases h : 240 ≤ n.val
  · rw [dif_pos ⟨h, by omega⟩, if_pos h]; exact h1 _ _
  · rw [dif_neg (fun e => h e.1), if_neg h]; exact sitofp_zero

end Index

end Cert.KernelIdeal.Hand
-- ==== Proof.BlockValue.lean ====
module

public import proofs.«01_k».proof.Proof.PairValue
public import proofs.«01_k».proof.Proof.HostValue
public import Idealize.ShloMosaic.Lib.Pipeline.ValueKit

@[expose] public section

set_option maxRecDepth 16384

/-!
# The blocks of the grid

Where each point's blocks lie in the arrays, what the points' windows hold, and what the result arrays hold in the end.
-/

noncomputable section

namespace Cert.KernelIdeal.Hand

open Cert.KernelIdeal Cert.KernelIdeal.Gen Cert.Grad Finset
open Idealize.ShloMosaic Idealize.ShloMosaic.TcCoe

/-- The blocks' places: a point is a pair and a tile of queries. -/
theorem places : ∀ t : Fin cfg0.N, win0_0.index t = ![t.val % 33, t.val / 33] ∧ win0_1.index t = ![0, 8 + t.val / 33]
    ∧ win0_2.index t = ![0, 16 + t.val / 33] ∧ win0_3.index t = ![t.val % 33, t.val / 33]
    ∧ win0_4.index t = ![t.val / 33, t.val % 33, 0] ∧ win0_5.index t = ![t.val % 33, t.val / 33]
    ∧ win0_6.index t = ![0, t.val / 33] ∧ win0_7.index t = ![0, t.val / 33] := by decide +kernel

variable (m : (ℓ : Loc nD τ sig) → Buf (Elt Ideal) ℓ) (c : Dev nD) (t : Fin cfg0.N)

/-- A grid point's pair is one of the eight. -/
theorem point_lt : t.val / 33 < 8 := by
  have := t.isLt
  have : cfg0.N = 264 := rfl
  omega

/-- A point's queries, -/
theorem blk_q (r : Fin 256) (l : Fin 128) : (iblk m c 0 t : Vec Ideal S256x128 .bf16) (ix2 r l)
    = V m c main_v27 (ix2 (⟨256 * (t.val % 33) + r.val, by have := r.isLt; omega⟩ : Fin 8448) (⟨128 * (t.val / 33) + l.val, by have := point_lt t; have := l.isLt; omega⟩ : Fin 3072)) := by
  blk_ext [iblk, places t]

/-- its cotangent's rows, -/
theorem blk_g (r : Fin 256) (l : Fin 128) : (iblk m c 3 t : Vec Ideal S256x128 .bf16) (ix2 r l)
    = V m c main_v29 (ix2 (⟨256 * (t.val % 33) + r.val, by have := r.isLt; omega⟩ : Fin 8448) (⟨128 * (t.val / 33) + l.val, by have := point_lt t; have := l.isLt; omega⟩ : Fin 1024)) := by
  blk_ext [iblk, places t]

/-- its keys, -/
theorem blk_k (y : Fin 8448) (l : Fin 128) : (iblk m c 1 t : Vec Ideal S8448x128 .bf16) (ix2 y l)
    = V m c main_v27 (ix2 y (⟨1024 + (128 * (t.val / 33) + l.val), by have := point_lt t; have := l.isLt; omega⟩ : Fin 3072)) := by
  blk_ext [iblk, places t]

/-- its values -/
theorem blk_v (y : Fin 8448) (l : Fin 128) : (iblk m c 2 t : Vec Ideal S8448x128 .bf16) (ix2 y l)
    = V m c main_v27 (ix2 y (⟨2048 + (128 * (t.val / 33) + l.val), by have := point_lt t; have := l.isLt; omega⟩ : Fin 3072)) := by
  blk_ext [iblk, places t]

/-- and what was saved of its queries. -/
theorem blk_t (r : Fin 256) (h : Fin 3) : (iblk m c 4 t : Vec Ideal S1x256x3 .f32) (ix3 0 r h)
    = V m c main_v25 (ix3 (⟨t.val / 33, point_lt t⟩ : Fin 8) (⟨256 * (t.val % 33) + r.val, by have := r.isLt; omega⟩ : Fin 8448) h) := by
  blk_ext [iblk, places t]

variable {A B : ℕ → ℕ → ℝ}
  (h0 : ∀ (r : Fin 8208) (k : Fin 3072), m ((c : Thread nD τ).loc main_arg0) (ix2 r k) = ((A r.val k.val : ℝ) : EReal))
  (h1 : ∀ (r : Fin 8208) (k : Fin 1024), m ((c : Thread nD τ).loc main_arg1) (ix2 r k) = ((B r.val k.val : ℝ) : EReal))

include h0 h1

/-- Every point's windows hold the rows of its pair. -/
theorem windows : Windows m c (pairOf A B) := fun t => by
  have hp := point_lt t
  refine ⟨fun r l => ?_, fun r l => ?_, fun y l => ?_, fun y l => ?_, fun h r => ?_, fun r => ?_⟩
  · rw [blk_q, V_v27, padded_apply h0]; rfl
  · rw [blk_g, V_v29, paddedG_apply h1]; rfl
  · rw [blk_k, V_v27, padded_apply h0]; rfl
  · rw [blk_v, V_v27, padded_apply h0]; rfl
  · rw [blk_t, V_v25, saved_sum h0 (B := B)]
  · have := r.isLt
    rw [blk_t, V_v25, saved_count]
    congr 2
    show (256 * (t.val % 33) + r.val) / 256 + 1 = t.val % 33 + 1
    omega

omit h0 h1

/-- The place of a block's row and lane among the queries, -/
theorem emb_q (r : Fin 256) (l : Fin 128) : (win0_5.blk t).view.emb (ix2 r l)
    = ix2 (⟨256 * (t.val % 33) + r.val, by have := r.isLt; omega⟩ : Fin 8448) (⟨128 * (t.val / 33) + l.val, by have := point_lt t; have := l.isLt; omega⟩ : Fin 1024) := by
  blk_ext [places t]

/-- the keys -/
theorem emb_k (y : Fin 8448) (l : Fin 128) : (win0_6.blk t).view.emb (ix2 y l)
    = ix2 y (⟨128 * (t.val / 33) + l.val, by have := point_lt t; have := l.isLt; omega⟩ : Fin 1024) := by
  blk_ext [places t]

/-- and the values. -/
theorem emb_v (y : Fin 8448) (l : Fin 128) : (win0_7.blk t).view.emb (ix2 y l)
    = ix2 y (⟨128 * (t.val / 33) + l.val, by have := point_lt t; have := l.isLt; omega⟩ : Fin 1024) := by
  blk_ext [places t]

include h0 h1

/-- The array of the queries' gradients in the end, -/
theorem arr_q : (dats m 0 c).arrAt 5 cfg0.N = outQ A B := by
  have W := windows m c h0 h1
  refine (dats m 0 c).arrAt_eq_of_covers 5 _ (by decide +kernel) fun t hf y => ?_
  have S := state_sums m c _ W t.val t.isLt
  blk_simp
  rw [after0_5]
  obtain ⟨r, l, rfl⟩ : ∃ (r : Fin 256) (l : Fin 128), y = ix2 r l := ⟨y 0, y 1, eq_ix2 y⟩
  rw [emb_q, outQ_pair _ _ l _ rfl]
  exact S.dq r l

/-- of the keys' -/
theorem arr_k : (dats m 0 c).arrAt 6 cfg0.N = outK A B := by
  have W := windows m c h0 h1
  refine (dats m 0 c).arrAt_eq_of_covers 6 _ (by decide +kernel) fun t hf y => ?_
  have S := state_sums m c _ W t.val t.isLt
  have e := (flush0_6 t).mp hf
  blk_simp
  rw [after0_6]
  obtain ⟨r, l, rfl⟩ : ∃ (r : Fin 8448) (l : Fin 128), y = ix2 r l := ⟨y 0, y 1, eq_ix2 y⟩
  rw [emb_k, outK_pair _ _ l _ rfl]
  exact (S.dk r l).trans (by rw [e])

/-- and of the values'. -/
theorem arr_v : (dats m 0 c).arrAt 7 cfg0.N = outV A B := by
  have W := windows m c h0 h1
  refine (dats m 0 c).arrAt_eq_of_covers 7 _ (by decide +kernel) fun t hf y => ?_
  have S := state_sums m c _ W t.val t.isLt
  have e := (flush0_7 t).mp hf
  blk_simp
  rw [after0_7]
  obtain ⟨r, l, rfl⟩ : ∃ (r : Fin 8448) (l : Fin 128), y = ix2 r l := ⟨y 0, y 1, eq_ix2 y⟩
  rw [emb_v, outV_pair _ _ l _ rfl]
  exact (S.dv r l).trans (by rw [e])

end Cert.KernelIdeal.Hand
-- ==== Proof.Windows.lean ====
module

public import proofs.«01_k».proof.Proof.Scalars

@[expose] public section

/-!
# Running sums

The host's window sums along the keys: from a key on, and up to one.
-/

noncomputable section

namespace Cert.Grad

open Finset
open Idealize.ShloMosaic

/-- The sum of a list's values in order. -/
theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A sum over a window along the keys. -/
theorem sum_window {n : ℕ} (f : (⟨3, ![1, 1, n]⟩ : Shape).Idx → EReal) :
    ∑ i, f ((⟨3, ![1, 1, n]⟩ : Shape).rowMajor.symm i) = ∑ d : Fin n, f (ix3 0 0 d) := by
  rw [Equiv.sum_comp]
  refine (Fintype.sum_equiv ⟨fun d => ix3 0 0 d, fun w => w 2, fun _ => rfl, fun w => ?_⟩ _ _ fun _ => rfl).symm
  refine funext fun a => ?_
  match a with
  | ⟨0, _⟩ => exact Subsingleton.elim (α := Fin 1) _ _
  | ⟨1, _⟩ => exact Subsingleton.elim (α := Fin 1) _ _
  | ⟨2, _⟩ => rfl

variable {H R n m : ℕ} {x : FVec Ideal ⟨3, ![H, R, n]⟩ .f32} {init : FVec Ideal ⟨0, ![]⟩ .f32}

/-- The sum of a window of all keys that starts at a key, or ends at one. -/
theorem window_apply (lo hi : ℕ) (w : (⟨3, ![H, R, n]⟩ : Shape).ReduceWindows (![1, 1, n] : Fin 3 → ℕ) ![1, 1, 1] ![0, 0, lo] ![0, 0, hi] ⟨3, ![H, R, n]⟩)
    (hu : 0 < (⟨0, ![]⟩ : Shape).numel) (hi0 : ∀ i, init i = 0) (h : Fin H) (r : Fin R) (s : Fin n) (F : ℕ → ℝ)
    (hx : ∀ k : Fin n, x (ix3 h r k) = ((F k.val : ℝ) : EReal)) :
    Host.reduceWindowAdd ![1, 1, n] ![1, 1, 1] ![0, 0, lo] ![0, 0, hi] x init w hu (ix3 h r s)
      = ((∑ d ∈ range n, if lo ≤ s.val + d ∧ s.val + d - lo < n then F (s.val + d - lo) else 0 : ℝ) : EReal) := by
  show Host.reduceWindow (· + ·) _ _ _ _ x (fun _ : (⟨0, ![]⟩ : Shape).Idx => init (Shape.Idx.first hu)) w hu (ix3 h r s) = _
  unfold Host.reduceWindow
  dsimp only
  rw [hi0]
  refine (foldl_add (fun i => _) _ 0).trans ?_
  rw [zero_add, ← Fin.sum_univ_def]
  have h0 := h.isLt; have h1 := r.isLt
  refine (Finset.sum_congr rfl fun i _ => ?_).trans ((sum_window (n := n) fun v =>
    ((if lo ≤ s.val + (v 2).val ∧ s.val + (v 2).val - lo < n then F (s.val + (v 2).val - lo) else 0 : ℝ) : EReal)).trans ?_)
  · have v0 : ((⟨3, ![1, 1, n]⟩ : Shape).rowMajor.symm i 0).val = 0 := Nat.lt_one_iff.mp ((⟨3, ![1, 1, n]⟩ : Shape).rowMajor.symm i 0).isLt
    have v1 : ((⟨3, ![1, 1, n]⟩ : Shape).rowMajor.symm i 1).val = 0 := Nat.lt_one_iff.mp ((⟨3, ![1, 1, n]⟩ : Shape).rowMajor.symm i 1).isLt
    by_cases c : lo ≤ s.val + ((⟨3, ![1, 1, n]⟩ : Shape).rowMajor.symm i 2).val ∧ s.val + ((⟨3, ![1, 1, n]⟩ : Shape).rowMajor.symm i 2).val - lo < n
    · rw [if_pos c, dif_pos]
      · refine Eq.trans (congrArg x ?_) (hx ⟨s.val + ((⟨3, ![1, 1, n]⟩ : Shape).rowMajor.symm i 2).val - lo, c.2⟩)
        refine funext fun a => Fin.ext ?_
        match a with
        | ⟨0, _⟩ => show h.val * 1 + ((⟨3, ![1, 1, n]⟩ : Shape).rowMajor.symm i 0).val - 0 = h.val; omega
        | ⟨1, _⟩ => show r.val * 1 + ((⟨3, ![1, 1, n]⟩ : Shape).rowMajor.symm i 1).val - 0 = r.val; omega
        | ⟨2, _⟩ => show s.val * 1 + ((⟨3, ![1, 1, n]⟩ : Shape).rowMajor.symm i 2).val - lo = s.val + ((⟨3, ![1, 1, n]⟩ : Shape).rowMajor.symm i 2).val - lo; omega
      · intro a
        match a with
        | ⟨0, _⟩ => show 0 ≤ h.val * 1 + ((⟨3, ![1, 1, n]⟩ : Shape).rowMajor.symm i 0).val ∧ h.val * 1 + ((⟨3, ![1, 1, n]⟩ : Shape).rowMajor.symm i 0).val - 0 < H; omega
        | ⟨1, _⟩ => show 0 ≤ r.val * 1 + ((⟨3, ![1, 1, n]⟩ : Shape).rowMajor.symm i 1).val ∧ r.val * 1 + ((⟨3, ![1, 1, n]⟩ : Shape).rowMajor.symm i 1).val - 0 < R; omega
        | ⟨2, _⟩ => show lo ≤ s.val * 1 + ((⟨3, ![1, 1, n]⟩ : Shape).rowMajor.symm i 2).val ∧ s.val * 1 + ((⟨3, ![1, 1, n]⟩ : Shape).rowMajor.symm i 2).val - lo < n; omega
    · rw [if_neg c, dif_neg]
      · rfl
      · intro hin
        have := hin 2
        apply c
        have q : lo ≤ s.val * 1 + ((⟨3, ![1, 1, n]⟩ : Shape).rowMajor.symm i 2).val ∧ s.val * 1 + ((⟨3, ![1, 1, n]⟩ : Shape).rowMajor.symm i 2).val - lo < n := this
        omega
  · rw [coe_sum, Finset.sum_range]
    rfl

/-- From a key on. -/
theorem window_suffix (w : (⟨3, ![H, R, n]⟩ : Shape).ReduceWindows (![1, 1, n] : Fin 3 → ℕ) ![1, 1, 1] ![0, 0, 0] ![0, 0, m] ⟨3, ![H, R, n]⟩)
    (hu : 0 < (⟨0, ![]⟩ : Shape).numel) (hi0 : ∀ i, init i = 0) (h : Fin H) (r : Fin R) (s : Fin n) (F : ℕ → ℝ)
    (hx : ∀ k : Fin n, x (ix3 h r k) = ((F k.val : ℝ) : EReal)) :
    Host.reduceWindowAdd ![1, 1, n] ![1, 1, 1] ![0, 0, 0] ![0, 0, m] x init w hu (ix3 h r s)
      = ((∑ k ∈ range n, F k - ∑ k ∈ range s.val, F k : ℝ) : EReal) := by
  rw [window_apply 0 m w hu hi0 h r s F hx]
  congr 1
  have hs := s.isLt
  obtain ⟨b, hb⟩ : ∃ b, n = s.val + b := ⟨n - s.val, by omega⟩
  have e : ∑ k ∈ range n, F k = ∑ k ∈ range s.val, F k + ∑ d ∈ range b, F (s.val + d) := by
    conv_lhs => rw [hb]
    exact Finset.sum_range_add ..
  rw [e, add_sub_cancel_left, ← Finset.sum_filter]
  refine Finset.sum_congr (Finset.ext fun d => ?_) fun _ _ => rfl
  simp only [mem_filter, mem_range]
  omega

/-- Up to a key. -/
theorem window_prefix (hm : m + 1 = n) (w : (⟨3, ![H, R, n]⟩ : Shape).ReduceWindows (![1, 1, n] : Fin 3 → ℕ) ![1, 1, 1] ![0, 0, m] ![0, 0, 0] ⟨3, ![H, R, n]⟩)
    (hu : 0 < (⟨0, ![]⟩ : Shape).numel) (hi0 : ∀ i, init i = 0) (h : Fin H) (r : Fin R) (s : Fin n) (F : ℕ → ℝ)
    (hx : ∀ k : Fin n, x (ix3 h r k) = ((F k.val : ℝ) : EReal)) :
    Host.reduceWindowAdd ![1, 1, n] ![1, 1, 1] ![0, 0, m] ![0, 0, 0] x init w hu (ix3 h r s) = ((∑ k ∈ range (s.val + 1), F k : ℝ) : EReal) := by
  rw [window_apply m 0 w hu hi0 h r s F hx]
  congr 1
  have hs := s.isLt
  obtain ⟨b, hb⟩ : ∃ b, m = b + s.val := ⟨m - s.val, by omega⟩
  have e : n = b + (s.val + 1) := by omega
  generalize s.val = j at hs hb e ⊢
  have hr : range n = range (b + (j + 1)) := congrArg range e
  rw [hr, Finset.sum_range_add, Finset.sum_eq_zero, zero_add]
  · refine Finset.sum_congr rfl fun d hd => ?_
    have := mem_range.mp hd
    rw [if_pos (by omega)]
    congr 1
    omega
  · intro d hd
    have := mem_range.mp hd
    exact if_neg (by omega)

end Cert.Grad

end
-- ==== Proof.RefValue.lean ====
module

public import proofs.«01_k».proof.Proof.Heads
public import proofs.«01_k».proof.Proof.Windows
public import proofs.«01_k».proof.Proof.Gen.ReferenceIdeal.Read

@[expose] public section

set_option maxRecDepth 16384

/-!
# What the reference computes

Each of the reference's stages at real inputs, as the value of `Cert.Grad.Pair` that it is.
-/

noncomputable section

namespace Cert.ReferenceIdeal.Hand

open Cert.ReferenceIdeal Cert.ReferenceIdeal.Gen Cert.ReferenceIdeal.Read Cert.Grad Finset
open Idealize.ShloMosaic Idealize.ShloMosaic.TcCoe

/-- The inputs hold real numbers. -/
structure Holds (A B : ℕ → ℕ → ℝ) (x0 : Vec Ideal S8208x3072 .f32) (x1 : Vec Ideal S8208x1024 .f32) : Prop where
  h0 : ∀ r c, x0 (ix2 r c) = ((A r.val c.val : ℝ) : EReal)
  h1 : ∀ r c, x1 (ix2 r c) = ((B r.val c.val : ℝ) : EReal)

variable {A B : ℕ → ℕ → ℝ} {x0 : Vec Ideal S8208x3072 .f32} {x1 : Vec Ideal S8208x1024 .f32} (E : Holds A B x0 x1) (H : Fin 16) (r s : Fin 8208)

/-- The zero of a selection. -/
theorem zero_const : (id (constant (F := Ideal) S_ .f32 0x00000000#32) : FVec Ideal S_ .f32) ix0 = ((0 : ℝ) : EReal) := by
  show constant (F := Ideal) S_ .f32 0x00000000#32 ix0 = _
  pointwise []
  rfl

include E

/-- The scores. -/
theorem score : val_main_v9 (F := Ideal) x0 (ix3 H r s) = (((pr A B H).z (hd H) (240 + r.val) (240 + s.val) : ℝ) : EReal) := by
  pointwise [val_main_v9, val_main_v7, val_main_v8, val_main_v3, val_main_v4, val_main_v0, val_main_v1, val_main_cst]
  exact score_coe E.h0 H r s _ _

/-- The products of the cotangent's rows and the values'. -/
theorem weight : val_main_v29 (F := Ideal) x0 x1 (ix3 H r s)
    = ((∑ l, sel (hd H) l ((pr A B H).g (240 + r.val) l) * (pr A B H).v (240 + s.val) l : ℝ) : EReal) := by
  pointwise [val_main_v29, val_main_v28, val_main_v27, val_main_v5, val_main_v2]
  exact weight_coe E.h0 E.h1 H r s _ _

omit E in
/-- The mask. -/
theorem mask : val_main_v17_1 (F := Ideal) (ix3 H r s) = if ok (240 + r.val) (240 + s.val) then 1#1 else 0#1 := by
  pointwise [val_main_v17_1, val_main_v14, val_main_v13, val_main_v12, val_main_v11, val_main_v10, val_main_v6]
  have := r.isLt; have := s.isLt
  rw [cmp_slt (by omega) (by omega)]
  simp only [ok_iff]

omit E in
/-- The same mask, a second time. -/
theorem mask' : val_main_v23_1 (F := Ideal) (ix3 H r s) = if ok (240 + r.val) (240 + s.val) then 1#1 else 0#1 := mask H r s

/-- The softplus of a score. -/
theorem sp_score : val_main_call0_v1_0 (F := Ideal) x0 (ix3 H r s) = ((sp ((pr A B H).z (hd H) (240 + r.val) (240 + s.val)) : ℝ) : EReal) := by
  pointwise [val_main_call0_v1_0, val_main_call0_call0_v4, val_main_call0_call0_v6, val_main_call0_call0_v11, val_main_call0_call0_v3, val_main_call0_call0_v5,
    val_main_call0_call0_v1, val_main_call0_call0_v10, val_main_call0_call0_v2, val_main_call0_call0_cst, val_main_call0_call0_v0, val_main_call0_call0_v9,
    val_main_call0_call0_v8, val_main_call0_call0_v7, val_main_call0_v0, val_main_v15]
  rw [score E, ← EReal.coe_neg, ← EReal.coe_neg, neg_neg]
  exact softplus_host _

/-- The softplus of its negative. -/
theorem sp_neg_score : val_main_call3_v1_0 (F := Ideal) x0 (ix3 H r s) = ((sp (-(pr A B H).z (hd H) (240 + r.val) (240 + s.val)) : ℝ) : EReal) := by
  pointwise [val_main_call3_v1_0, val_main_call3_call0_v4, val_main_call3_call0_v6, val_main_call3_call0_v11, val_main_call3_call0_v3, val_main_call3_call0_v5,
    val_main_call3_call0_v1, val_main_call3_call0_v10, val_main_call3_call0_v2, val_main_call3_call0_cst, val_main_call3_call0_v0, val_main_call3_call0_v9,
    val_main_call3_call0_v8, val_main_call3_call0_v7, val_main_call3_v0]
  rw [score E, ← EReal.coe_neg]
  exact softplus_host _

/-- The logistic of a score. -/
theorem sig_score : val_main_v16_1 (F := Ideal) x0 (ix3 H r s) = ((Real.exp ((pr A B H).lb (hd H) (240 + r.val) (240 + s.val)) : ℝ) : EReal) := by
  pointwise [val_main_v16_1, val_main_call0_call0_v21, val_main_call0_call0_v16, val_main_call0_call0_v20, val_main_call0_call0_v14, val_main_call0_call0_v13, val_main_call0_call0_v15, val_main_call0_call0_cst_0,
    val_main_call0_call0_cst_1, val_main_call0_call0_v18, val_main_call0_call0_v17, val_main_call0_call0_cst_2, val_main_call0_call0_v19, val_main_call0_call0_cst_3, val_main_call0_v0, val_main_v15]
  rw [score E, sp_score E, ofBits_top, ← EReal.coe_neg, ← EReal.coe_neg, neg_neg, if_neg (EReal.coe_ne_top _), if_neg (EReal.coe_ne_top _), ← EReal.coe_sub, Ideal.exp_coe]
  unfold Pair.lb
  rw [neg_add_eq_sub]

/-- The logistic of its negative. -/
theorem sig_neg_score : val_main_v20_1 (F := Ideal) x0 (ix3 H r s) = ((1 - Real.exp ((pr A B H).lb (hd H) (240 + r.val) (240 + s.val)) : ℝ) : EReal) := by
  pointwise [val_main_v20_1, val_main_call3_call0_v21, val_main_call3_call0_v16, val_main_call3_call0_v20, val_main_call3_call0_v14, val_main_call3_call0_v13, val_main_call3_call0_v15, val_main_call3_call0_cst_0,
    val_main_call3_call0_cst_1, val_main_call3_call0_v18, val_main_call3_call0_v17, val_main_call3_call0_cst_2, val_main_call3_call0_v19, val_main_call3_call0_cst_3, val_main_call3_v0]
  rw [score E, sp_neg_score E, ofBits_top, ← EReal.coe_neg, if_neg (EReal.coe_ne_top _), if_neg (EReal.coe_ne_top _), ← EReal.coe_sub, Ideal.exp_coe]
  unfold Pair.lb
  rw [logistic_neg]

/-- The logarithm of one minus the logistic, where the query sees the key. -/
theorem log_keep : val_main_v17_0 (F := Ideal) x0 (ix3 H r s) = (((pr A B H).lk (hd H) (240 + r.val) (240 + s.val) : ℝ) : EReal) := by
  pointwise [val_main_v17_0, val_main_v16_0, val_main_call1_v2, val_main_call1_v0, val_main_cst_0]
  rw [mask, sp_score E, ← EReal.coe_neg, zero_const]
  unfold Pair.lk
  by_cases h : ok (240 + r.val) (240 + s.val)
  · rw [if_pos h, if_pos h]; rfl
  · rw [if_neg h, if_neg h]; rfl

/-- Its sum over the later keys. -/
theorem later : val_main_v19 (F := Ideal) x0 (ix3 H r s)
    = (((pr A B H).tot (hd H) (240 + r.val) - ∑ k ∈ range (240 + s.val + 1), (pr A B H).lk (hd H) (240 + r.val) k : ℝ) : EReal) := by
  have e := window_suffix (x := val_main_v17_0 (F := Ideal) x0) (init := val_main_call2_v0 (F := Ideal))
    reduceWindows_S16x8208x8208_S16x8208x8208_w1s1p0_0_w1s1p0_0_w8208s1p0_8207 h_S_ (fun i => by pointwise [val_main_call2_v0, val_main_call2_cst]) H r s
    (fun k => (pr A B H).lk (hd H) (240 + r.val) (240 + k)) (fun k => log_keep E H r k)
  pointwise [val_main_v19]
  unfold val_main_v18
  rw [e, log_keep E, ← EReal.coe_sub, Pair.tot_eq, add_assoc, sum_pad _ (fun _ hk => Pair.lk_pad _ _ _ hk), Finset.sum_range_succ _ s.val, sub_sub]

/-- The exponential that is an attention weight where the query sees the key. -/
theorem exp_later : val_main_v22 (F := Ideal) x0 (ix3 H r s)
    = ((Real.exp ((pr A B H).lb (hd H) (240 + r.val) (240 + s.val) + ((pr A B H).tot (hd H) (240 + r.val)
      - ∑ k ∈ range (240 + s.val + 1), (pr A B H).lk (hd H) (240 + r.val) k)) : ℝ) : EReal) := by
  pointwise [val_main_v22, val_main_v21, val_main_v20_0]
  rw [later E, sp_neg_score E, ← EReal.coe_neg, ← EReal.coe_add, Ideal.exp_coe, sp_neg]
  unfold Pair.lb
  rw [neg_sub, neg_add_eq_sub]

/-- The attention weights. -/
theorem attn : val_main_v23_0 (F := Ideal) x0 (ix3 H r s) = (((pr A B H).a (hd H) (240 + r.val) (240 + s.val) : ℝ) : EReal) := by
  pointwise [val_main_v23_0, val_main_call4_v2, val_main_call4_v0, val_main_cst_1]
  rw [mask', exp_later E, zero_const]
  unfold Pair.a
  by_cases h : ok (240 + r.val) (240 + s.val)
  · rw [if_pos h, if_pos h]; rfl
  · rw [if_neg h, if_neg h]; rfl

/-- The weights times their gradients. -/
theorem dattn : val_main_v33 (F := Ideal) x0 x1 (ix3 H r s) = (((pr A B H).dl (hd H) (240 + r.val) (240 + s.val) : ℝ) : EReal) := by
  pointwise [val_main_v33, val_main_v32, val_main_call5_v0, val_main_call5_cst]
  rw [mask', exp_later E, weight E]
  unfold Pair.dl Pair.a
  by_cases h : ok (240 + r.val) (240 + s.val)
  · rw [if_pos h, if_pos h, mul_comm, EReal.coe_mul]; rfl
  · rw [if_neg h, if_neg h, zero_mul]; rfl

/-- The gradients of the scores. -/
theorem dscore : val_main_v43 (F := Ideal) x0 x1 (ix3 H r s) = (((pr A B H).dz (hd H) (240 + r.val) (240 + s.val) : ℝ) : EReal) := by
  have e := window_prefix (m := 8207) rfl (x := val_main_v33 (F := Ideal) x0 x1) (init := val_main_call7_v0 (F := Ideal))
    reduceWindows_S16x8208x8208_S16x8208x8208_w1s1p0_0_w1s1p0_0_w8208s1p8207_0 h_S_ (fun i => by pointwise [val_main_call7_v0, val_main_call7_cst]) H r s
    (fun k => (pr A B H).dl (hd H) (240 + r.val) (240 + k)) (fun k => dattn E H r k)
  pointwise [val_main_v43, val_main_v42, val_main_cst_2, val_main_v41, val_main_v40, val_main_v39, val_main_call9_v1, val_main_call9_v0, val_main_v38, val_main_v37, val_main_v35,
    val_main_call8_v0, val_main_call8_cst, val_main_v34, val_main_call6_v1, val_main_call6_v0]
  unfold val_main_v36
  rw [e, mask, dattn E, sig_score E, sig_neg_score E, ofBits_eighth, Finset.sum_range_succ _ s.val]
  have p : ∑ k ∈ range (240 + s.val), (pr A B H).dl (hd H) (240 + r.val) k = ∑ k ∈ range s.val, (pr A B H).dl (hd H) (240 + r.val) (240 + k) :=
    sum_pad _ (fun _ hk => Pair.dl_pad _ _ _ hk) _
  unfold Pair.dz
  rw [p]
  by_cases h : ok (240 + r.val) (240 + s.val)
  · rw [if_pos h, if_pos h]
    generalize (pr A B H).dl (hd H) (240 + r.val) (240 + s.val) = x, ∑ k ∈ range s.val, (pr A B H).dl (hd H) (240 + r.val) (240 + k) = y,
      Real.exp ((pr A B H).lb (hd H) (240 + r.val) (240 + s.val)) = g
    rw [show ∀ u v : EReal, Scalar.select (1#1) u v = u from fun _ _ => rfl]
    simp only [← EReal.coe_neg, ← EReal.coe_mul, ← EReal.coe_add]
    refine congrArg Real.toEReal ?_
    ring
  · rw [if_neg h, if_neg h]
    have z : (pr A B H).dl (hd H) (240 + r.val) (240 + s.val) = 0 := by unfold Pair.dl Pair.a; rw [if_neg h, zero_mul]
    rw [z, show ∀ u v : EReal, Scalar.select (0#1) u v = v from fun _ _ => rfl]
    generalize Real.exp ((pr A B H).lb (hd H) (240 + r.val) (240 + s.val)) = g
    rw [← EReal.coe_zero]
    simp only [← EReal.coe_neg, ← EReal.coe_mul, ← EReal.coe_add]
    refine congrArg Real.toEReal ?_
    ring

/-- A key's column among the arguments' columns. -/
theorem x0_k (x : Fin 8208) (l : Fin 1024) (y : Fin 3072) (hy : y.val = 1024 + l.val) :
    x0 (ix2 x y) = (((pr A B (headAt l)).k (240 + x.val) (lane (hd (headAt l)) (laneAt l)) : ℝ) : EReal) := by
  rw [E.h0, pr_k]
  congr 3
  show y.val = 1024 + (l.val / 64 * 64 + l.val % 64)
  omega

/-- A query's, -/
theorem x0_q (x : Fin 8208) (l : Fin 1024) (y : Fin 3072) (hy : y.val = l.val) :
    x0 (ix2 x y) = (((pr A B (headAt l)).q (240 + x.val) (lane (hd (headAt l)) (laneAt l)) : ℝ) : EReal) := by
  rw [E.h0, pr_q]
  congr 2
  show y.val = l.val / 64 * 64 + l.val % 64
  omega

/-- and a cotangent's. -/
theorem x1_g (x : Fin 8208) (l : Fin 1024) :
    x1 (ix2 x l) = (((pr A B (headAt l)).g (240 + x.val) (lane (hd (headAt l)) (laneAt l)) : ℝ) : EReal) := by
  rw [E.h1, pr_g]
  congr 2
  show l.val = l.val / 64 * 64 + l.val % 64
  omega

/-- The gradient of the queries. -/
theorem dq_out (n : Fin 8448) (l : Fin 1024) : val_main_v54 (F := Ideal) x0 x1 (ix2 n l) = outQ A B (ix2 n l) := by
  have hn := n.isLt
  pointwise [val_main_v54, val_main_v51, val_main_v50, val_main_v47, val_main_v46, val_main_call10_v0, val_main_c, val_main_v4, val_main_v1]
  split
  · next h =>
    refine Eq.trans ?_ (outQ_in n l ⟨n.val - 240, h.2⟩ (by show n.val = 240 + (n.val - 240); omega)).symm
    refine Finset.sum_congr rfl fun x _ => ?_
    exact congrArg₂ (· * ·) (dscore E (headAt l) _ x) (x0_k E x l _ (by rfl))
  · next h =>
    rw [outQ_pad n l (by omega)]
    exact sitofp_zero

/-- The gradient of the keys. -/
theorem dk_out (n : Fin 8448) (l : Fin 1024) : val_main_v52 (F := Ideal) x0 x1 (ix2 n l) = outK A B (ix2 n l) := by
  have hn := n.isLt
  pointwise [val_main_v52, val_main_v49, val_main_v45, val_main_v44, val_main_call11_v0, val_main_c_3, val_main_v3, val_main_v0]
  split
  · next h =>
    refine Eq.trans ?_ (outK_in n l ⟨n.val - 240, h.2⟩ (by show n.val = 240 + (n.val - 240); omega)).symm
    refine Finset.sum_congr rfl fun x _ => ?_
    exact congrArg₂ (· * ·) (dscore E (headAt l) x _) (x0_q E x l _ rfl)
  · next h =>
    rw [outK_pad n l (by omega)]
    exact sitofp_zero

/-- The gradient of the values. -/
theorem dv_out (n : Fin 8448) (l : Fin 1024) : val_main_v53 (F := Ideal) x0 x1 (ix2 n l) = outV A B (ix2 n l) := by
  have hn := n.isLt
  pointwise [val_main_v53, val_main_v48, val_main_v31, val_main_v30, val_main_v28, val_main_v27, val_main_call12_v0, val_main_c_4]
  split
  · next h =>
    refine Eq.trans ?_ (outV_in n l ⟨n.val - 240, h.2⟩ (by show n.val = 240 + (n.val - 240); omega)).symm
    refine Finset.sum_congr rfl fun x _ => ?_
    exact congrArg₂ (· * ·) (x1_g E x l) (attn E (headAt l) x _)
  · next h =>
    rw [outV_pad n l (by omega)]
    exact sitofp_zero

end Cert.ReferenceIdeal.Hand
-- ==== Proof.Algebraic.lean ====
module

public import proofs.«01_k».proof.Proof.Frames
public import proofs.«01_k».proof.Proof.Finite
public import proofs.«01_k».proof.Proof.BlockValue
public import proofs.«01_k».proof.Proof.RefValue

@[expose] public section

set_option maxRecDepth 16384

/-!
# The equation

The kernel's and the reference's runs end with the same three arrays: the gradients of the queries, of the keys and of
the values.
-/

noncomputable section

open Idealize.ShloMosaic Idealize.ShloMosaic.TcCoe Idealize.SL.Sem Cert.Grad Cert.Pre_finite.Hand

namespace Cert.KernelIdeal.Hand

open Cert.KernelIdeal Cert.KernelIdeal.Gen

variable (m : (ℓ : Loc nD τ sig) → Buf (Elt Ideal) ℓ) (ρ : Dev nD → PrngReg) (A B : Dev nD → ℕ → ℕ → ℝ)

/-- The kernel ends with the gradients in its results. -/
theorem run_kernel
    (h0 : ∀ (c : Dev nD) (r : Fin 8208) (k : Fin 3072), m ((c.tc : Thread nD τ).loc main_arg0) (ix2 r k) = ((A c r.val k.val : ℝ) : EReal))
    (h1 : ∀ (c : Dev nD) (r : Fin 8208) (k : Fin 1024), m ((c.tc : Thread nD τ).loc main_arg1) (ix2 r k) = ((B c r.val k.val : ℝ) : EReal)) :
    θ_run defs (onTc (τ := τ) (main (F := Ideal))) ⟨m, fun _ => 0, ρ⟩ fun r => ∀ c : Dev nD,
      r.2.mem ((c.tc : Thread nD τ).loc main_v30_0) = outQ (A c) (B c)
      ∧ r.2.mem ((c.tc : Thread nD τ).loc main_v30_1) = outK (A c) (B c)
      ∧ r.2.mem ((c.tc : Thread nD τ).loc main_v30_2) = outV (A c) (B c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1.1 c).1 5).trans (arr_q m c (h0 c) (h1 c)), ((h.1.1 c).1 6).trans (arr_k m c (h0 c) (h1 c)),
      ((h.1.1 c).1 7).trans (arr_v m c (h0 c) (h1 c)), h.2.1 c⟩)
    (θ_run_and (run_main m ρ) (frame_run m ρ))

end Cert.KernelIdeal.Hand

namespace Cert.ReferenceIdeal.Hand

open Cert.ReferenceIdeal Cert.ReferenceIdeal.Gen

variable (m : (ℓ : Loc nD τ sig) → Buf (Elt Ideal) ℓ) (ρ : Dev nD → PrngReg) (A B : Dev nD → ℕ → ℕ → ℝ)

/-- So does the reference. -/
theorem run_reference (E : ∀ c : Dev nD, Holds (A c) (B c) (m ((c.tc : Thread nD τ).loc main_arg0)) (m ((c.tc : Thread nD τ).loc main_arg1))) :
    θ_run defs (onTc (τ := τ) (main (F := Ideal))) ⟨m, fun _ => 0, ρ⟩ fun r => ∀ c : Dev nD,
      r.2.mem ((c.tc : Thread nD τ).loc main_v54) = outQ (A c) (B c)
      ∧ r.2.mem ((c.tc : Thread nD τ).loc main_v52) = outK (A c) (B c)
      ∧ r.2.mem ((c.tc : Thread nD τ).loc main_v53) = outV (A c) (B c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨e1, e2, e3, e4⟩ := h c
      refine ⟨(e1.trans (Read.val_main_v54_eq (StableHlo.launchContents m c))).trans ?_, (e2.trans (Read.val_main_v52_eq (StableHlo.launchContents m c))).trans ?_,
        (e3.trans (Read.val_main_v53_eq (StableHlo.launchContents m c))).trans ?_, e4⟩
      · funext y
        obtain ⟨n, l, rfl⟩ : ∃ (n : Fin 8448) (l : Fin 1024), y = ix2 n l := ⟨y 0, y 1, eq_ix2 y⟩
        exact Cert.ReferenceIdeal.Hand.dq_out (E c) n l
      · funext y
        obtain ⟨n, l, rfl⟩ : ∃ (n : Fin 8448) (l : Fin 1024), y = ix2 n l := ⟨y 0, y 1, eq_ix2 y⟩
        exact Cert.ReferenceIdeal.Hand.dk_out (E c) n l
      · funext y
        obtain ⟨n, l, rfl⟩ : ∃ (n : Fin 8448) (l : Fin 1024), y = ix2 n l := ⟨y 0, y 1, eq_ix2 y⟩
        exact Cert.ReferenceIdeal.Hand.dv_out (E c) n l)
    (Cert.ReferenceIdeal.Value.run (F := Ideal) m ρ)

end Cert.ReferenceIdeal.Hand

namespace Cert.KernelIdeal.Hand

/-- The frames again, of the inputs that the equation is stated of. -/
theorem frame_ideal_finite : Cert.quiescent_KernelIdeal_pre_finite (hPre_finite := facts) := fun m ρ _ => frame_run (F := Ideal) m ρ

/-- The reference's too. -/
theorem frame_reference_finite : Cert.quiescent_ReferenceIdeal_pre_finite (hPre_finite := facts) := fun m ρ _ => frame_reference m ρ trivial

/-- On inputs of real numbers the kernel and the reference end with the same gradients. -/
theorem equation : Cert.algebraic_KernelIdeal_ReferenceIdeal_pre_finite (hPre_finite := facts) := fun m g m' g' hp e => by
  letI := facts
  have h0 := fun c => real0 (hp c)
  have h1 := fun c => real1 (hp c)
  refine ⟨fun c => outQ _ _, fun c => outK _ _, fun c => outV _ _, run_kernel m g (fun c => realOf _) (fun c => realOf _) h0 h1,
    Cert.ReferenceIdeal.Hand.run_reference m' g' (fun c => realOf _) (fun c => realOf _) fun c => ⟨?_, ?_⟩⟩
  · rw [(e c).1]; exact h0 c
  · rw [(e c).2]; exact h1 c

end Cert.KernelIdeal.Hand

end
-- ==== Proof.Dense.Run.lean ====
module

public import proofs.«01_k».proof.Proof.Gen.Kernel2Ideal.Frame

@[expose] public section

set_option maxRecDepth 16384

/-!
# The run of the seven calls

The host's four operations, then seven calls one after the other. In the end every array holds what the last boundary's
contents say of it, and every counter is at zero; the arguments are as they were.
-/

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F] (m : (ℓ : Loc nD τ sig) → Buf (Elt F) ℓ) (ρ : Dev nD → PrngReg)

/-- The assertions of the launch. -/
abbrev Res (F : FTy → Type) [FloatOps F] := MT nD τ sig Unit (Elt F) ℕ (UR sig nD τ) ℕ

/-- Owning nothing on each device is owning nothing. -/
theorem none_each : (BI.emp : sProp (Res F)) ⊢ bigSep Finset.univ (fun _ : Dev nD => (BI.emp : sProp (Res F))) := by
  rw [BI.bigSep_emp_const]

/-- The tokens the calls' buffers start from, as the launch has them. -/
theorem tokens : (ownU (initOf (Pipeline.cells cfgs cellOf_inj) (Pipeline.launchToks cfgs cellOf_inj)) : sProp (Res F))
    ⊢ BI.own (emb₁ (initOf (Pipeline.cells cfgs cellOf_inj) (Pipeline.launchToks cfgs cellOf_inj))) := .rfl

set_option backward.isDefEq.respectTransparency.types false in
/-- Every run ends, with the last boundary's contents in every array and every counter at zero. -/
theorem run_end : θ_run defs (onTc (τ := τ) (main (F := F))) ⟨m, fun _ => 0, ρ⟩ fun r =>
    (∀ c : Dev nD, ∀ b ∈ Pipeline.ucRefs τ sig, r.2.mem (((c : Thread nD τ)).1, b) = W8 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (tokens (F := F))
        iexact Hu
      iapply (none_each (F := F))
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h hz => ⟨h, funext fun g => hz g (.inr (no_unscoped g.2))⟩)

/-- The arguments are as they were. -/
theorem args_end {s : (ℓ : Loc nD τ sig) → Buf (Elt F) ℓ} (h : ∀ c : Dev nD, ∀ b ∈ Pipeline.ucRefs τ sig, s (((c : Thread nD τ)).1, b) = W8 m ρ c b)
    (c : Dev nD) : s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5) :=
  ⟨(h c _ (mem_uc main_arg0 (by decide))).trans (W8_main_arg0 m ρ c), (h c _ (mem_uc main_arg1 (by decide))).trans (W8_main_arg1 m ρ c),
    (h c _ (mem_uc main_arg2 (by decide))).trans (W8_main_arg2 m ρ c), (h c _ (mem_uc main_arg3 (by decide))).trans (W8_main_arg3 m ρ c),
    (h c _ (mem_uc main_arg4 (by decide))).trans (W8_main_arg4 m ρ c), (h c _ (mem_uc main_arg5 (by decide))).trans (W8_main_arg5 m ρ c)⟩

end Cert.Kernel2Ideal.Hand

end
-- ==== Proof.Dense.Math.lean ====
module

public import proofs.«01_k».proof.Proof.Grad

@[expose] public section

/-!
# The dense layer over the reals

One dense layer of the network, forwards and backwards, as functions of row and column numbers: the rows are normalised by
their root mean square and scaled by a gain, go through the gated product `act = silu(b·Wg) * (b·Wu)`, and `act·Wd` is added
to them. `ct` is the gradient of the result.
-/

noncomputable section

namespace Cert.Dense

open Finset Idealize.ShloMosaic

/-- An array's entries are the real numbers `f`. -/
def Is {R C : ℕ} (X : (⟨2, ![R, C]⟩ : Shape).Idx → EReal) (f : ℕ → ℕ → ℝ) : Prop :=
  ∀ (r : Fin R) (c : Fin C), X (ix2 r c) = ((f r.val c.val : ℝ) : EReal)

/-- The array of the real numbers `f`. -/
def arr {R C : ℕ} (f : ℕ → ℕ → ℝ) : (⟨2, ![R, C]⟩ : Shape).Idx → EReal := fun i => ((f (i 0).val (i 1).val : ℝ) : EReal)

/-- An array that is the array of `f` has its entries. -/
theorem is_of_eq {R C : ℕ} {X : (⟨2, ![R, C]⟩ : Shape).Idx → EReal} {f : ℕ → ℕ → ℝ} (h : X = arr f) : Is X f :=
  fun r c => (congrFun h (ix2 r c)).trans rfl

/-- The number added to the mean square. -/
def eps : ℝ := 8796093 / 8796093022208

theorem eps_pos : 0 < eps := by norm_num [eps]

/-- The logistic function. -/
def sg (t : ℝ) : ℝ := (1 + Real.exp (-t))⁻¹

/-- A layer's rows, gain, three weights, and the gradient of its result. -/
structure Layer where
  x : ℕ → ℕ → ℝ
  n : ℕ → ℝ
  wg : ℕ → ℕ → ℝ
  wu : ℕ → ℕ → ℝ
  wd : ℕ → ℕ → ℝ
  ct : ℕ → ℕ → ℝ

namespace Layer

variable (L : Layer)

/-- A row's mean square, with the small number. -/
def ms (r : ℕ) : ℝ := (∑ k : Fin 1024, L.x r k.val * L.x r k.val) / 1024 + eps

/-- What the row is multiplied by, -/
def rs (r : ℕ) : ℝ := (√(L.ms r))⁻¹

/-- the normalised row, -/
def y (r d : ℕ) : ℝ := L.x r d * L.rs r

/-- and with the gain. -/
def b (r d : ℕ) : ℝ := L.y r d * L.n d

/-- The gate's product, -/
def G (r j : ℕ) : ℝ := ∑ k : Fin 1024, L.b r k.val * L.wg k.val j

/-- the other product, -/
def U (r j : ℕ) : ℝ := ∑ k : Fin 1024, L.b r k.val * L.wu k.val j

/-- the gated product, -/
def act (r j : ℕ) : ℝ := L.G r j * sg (L.G r j) * L.U r j

/-- and the layer's result. -/
def out (r d : ℕ) : ℝ := ∑ j : Fin 2816, L.act r j.val * L.wd j.val d + L.x r d

/-- The gradient of the gated product, -/
def dact (r j : ℕ) : ℝ := ∑ d : Fin 1024, L.ct r d.val * L.wd j d.val

/-- of the gate's product, -/
def dg (r j : ℕ) : ℝ := L.dact r j * L.U r j * (sg (L.G r j) * (1 + L.G r j * (1 - sg (L.G r j))))

/-- of the other product, -/
def du (r j : ℕ) : ℝ := L.dact r j * (L.G r j * sg (L.G r j))

/-- of the three weights, -/
def dwd (j d : ℕ) : ℝ := ∑ r : Fin 8448, L.act r.val j * L.ct r.val d

@[inherit_doc dwd] def dwg (d j : ℕ) : ℝ := ∑ r : Fin 8448, L.b r.val d * L.dg r.val j

@[inherit_doc dwd] def dwu (d j : ℕ) : ℝ := ∑ r : Fin 8448, L.b r.val d * L.du r.val j

/-- of the normalised row with the gain, -/
def da (r d : ℕ) : ℝ := ∑ j : Fin 2816, L.dg r j.val * L.wg d j.val + ∑ j : Fin 2816, L.du r j.val * L.wu d j.val

/-- of the normalised row, -/
def dy (r d : ℕ) : ℝ := L.da r d * L.n d

/-- of the row, -/
def dx (r d : ℕ) : ℝ := L.rs r * (L.dy r d - L.y r d * ((∑ k : Fin 1024, L.dy r k.val * L.y r k.val) / 1024)) + L.ct r d

/-- and of the gain. -/
def dn (d : ℕ) : ℝ := ∑ r : Fin 8448, L.da r.val d * L.y r.val d

/-- The mean square with the small number is positive. -/
theorem ms_pos (r : ℕ) : 0 < L.ms r :=
  add_pos_of_nonneg_of_pos (div_nonneg (sum_nonneg fun _ _ => mul_self_nonneg _) (by norm_num)) eps_pos

/-- The other form of the gradient of the row: the factor's own derivative is `-½·rs/ms` times the square's. -/
theorem dx_eq (r d : ℕ) : L.dx r d = L.ct r d + L.dy r d * L.rs r
      + L.x r d * ((∑ k : Fin 1024, L.x r k.val * L.dy r k.val) * (-(1 / 2) * (L.rs r / L.ms r)) / 1024)
      + (∑ k : Fin 1024, L.x r k.val * L.dy r k.val) * (-(1 / 2) * (L.rs r / L.ms r)) / 1024 * L.x r d := by
  have h : ∑ k : Fin 1024, L.dy r k.val * L.y r k.val = (∑ k : Fin 1024, L.x r k.val * L.dy r k.val) * L.rs r := by
    rw [sum_mul]
    exact sum_congr rfl fun k _ => by unfold y; ring
  have e : L.rs r / L.ms r = L.rs r * (L.rs r * L.rs r) := by
    have : L.rs r * L.rs r = (L.ms r)⁻¹ := by
      unfold rs
      rw [← mul_inv, Real.mul_self_sqrt (L.ms_pos r).le]
    rw [this, div_eq_mul_inv]
  unfold dx
  rw [h, e]
  unfold y
  ring

/-- The other form of the gate's derivative. -/
theorem dg_eq (r j : ℕ) : L.dg r j = L.dact r j * L.U r j * sg (L.G r j)
      + L.G r j * (L.dact r j * L.U r j) * (sg (L.G r j) * (1 - sg (L.G r j))) := by
  unfold dg
  ring

end Layer

/-! ## The operations over the reals -/

theorem ofBits_eps : Ideal.ofBits .f32 0x358637BD#32 = ((eps : ℝ) : EReal) := by
  simp [Ideal.ofBits, Ideal.ieee, eps, -EReal.coe_mul]; norm_num

theorem ofBits_kilo : Ideal.ofBits .f32 0x44800000#32 = ((1024 : ℝ) : EReal) := by
  simp [Ideal.ofBits, Ideal.ieee, -EReal.coe_mul]; norm_num

theorem ofBits_unit : Ideal.ofBits .f32 0x3F800000#32 = ((1 : ℝ) : EReal) := by
  simp [Ideal.ofBits, Ideal.ieee, -EReal.coe_mul]; norm_num

theorem ofBits_half : Ideal.ofBits .f32 0xBF000000#32 = ((-(1 / 2) : ℝ) : EReal) := by
  simp [Ideal.ofBits, Ideal.ieee, -EReal.coe_mul]; norm_num

theorem ofBits_nil : Ideal.ofBits .f32 0x00000000#32 = ((0 : ℝ) : EReal) := by
  simp [Ideal.ofBits, Ideal.ieee]

/-- A quotient of reals. -/
theorem div_real {x y : ℝ} (h : y ≠ 0) : Ideal.div (x : EReal) (y : EReal) = ((x / y : ℝ) : EReal) := by
  rw [Ideal.div_coe h, ← EReal.coe_mul, mul_one_div]

/-- One over the root of a positive number. -/
theorem rsqrt_real {x : ℝ} (h : 0 < x) : Ideal.rsqrt (x : EReal) = (((√x)⁻¹ : ℝ) : EReal) := by
  rw [Ideal.rsqrt_coe, if_neg h.not_gt, if_neg h.ne']

/-- A sum of products of reals. -/
theorem sum_real {ι : Type*} [Fintype ι] {f : ι → EReal} {g : ι → ℝ} (h : ∀ i, f i = ((g i : ℝ) : EReal)) :
    ∑ i, f i = ((∑ i, g i : ℝ) : EReal) := by
  rw [Cert.Grad.coe_sum]
  exact sum_congr rfl fun i _ => h i

/-- Rows counted a tile at a time: `R * n` rows and `R` more are `R * (n + 1)` rows. -/
theorem sum_tile (R n : ℕ) (f : ℕ → ℝ) :
    ∑ r ∈ range (R * n), f r + ∑ k : Fin R, f (R * n + k.val) = ∑ r ∈ range (R * (n + 1)), f r := by
  rw [Nat.mul_succ, sum_range_add, sum_range (fun x => f (R * n + x))]

/-- The first tile's rows. -/
theorem sum_first (R : ℕ) (f : ℕ → ℝ) : 0 + ∑ k : Fin R, f (R * 0 + k.val) = ∑ r ∈ range (R * (0 + 1)), f r := by
  rw [← sum_tile, Nat.mul_zero, Finset.range_zero, Finset.sum_empty]

end Cert.Dense
-- ==== Proof.Dense.Finite.lean ====
module

public import proofs.«01_k».proof.Proof.Finite
public import proofs.«01_k».proof.Proof.Dense.Math

@[expose] public section

/-!
# The second precondition

What it says of the layer's arrays: their entries are real numbers.
-/

noncomputable section

namespace Cert.Pre_ffn_finite.Hand

open Idealize.ShloMosaic Cert.Pre_ffn_finite Cert.Pre_finite.Hand Cert.Dense

/-- The side conditions of the precondition's function. -/
theorem facts : Facts where
  bcast_S1024_S1x1024_1 := by decide
  transposes_S1024x2816_S2816x1024_1_0 := by decide
  concatenates_S8448x1024_S1x1024_S2816x1024_S2816x1024_S2816x1024_S8448x1024_S25345x1024_d0 := by decide
  bcast_S_S25345x1024 := by decide

/-- The layer of six arrays. -/
def layer (x0 : FVec Ideal S8448x1024 .f32) (x1 : FVec Ideal S1024 .f32) (x2 x3 : FVec Ideal S1024x2816 .f32)
    (x4 : FVec Ideal S2816x1024 .f32) (x5 : FVec Ideal S8448x1024 .f32) : Layer where
  x := realOf x0
  n d := realOf (fun i : S1x1024.Idx => x1 (ix1 (i 1))) 0 d
  wg := realOf x2
  wu := realOf x3
  wd := realOf x4
  ct := realOf x5

variable [Facts] {x0 : FVec Ideal S8448x1024 .f32} {x1 : FVec Ideal S1024 .f32} {x2 x3 : FVec Ideal S1024x2816 .f32}
  {x4 : FVec Ideal S2816x1024 .f32} {x5 : FVec Ideal S8448x1024 .f32}
  (h : fn (F := Ideal) x0 x1 x2 x3 x4 x5 = fun _ => 1#1)
include h

/-- The rows are real, -/
theorem real0 : Is (R := 8448) (C := 1024) x0 (realOf x0) := fun r c => by
  have hr := r.isLt
  have e := congrFun h (ix2 (⟨r.val, by omega⟩ : Fin 25345) c)
  pointwise [fn] at e
  exact realOf_apply e

/-- the gain, -/
theorem real1 (c : Fin 1024) : x1 (ix1 c) = ((realOf (fun i : S1x1024.Idx => x1 (ix1 (i 1))) 0 c.val : ℝ) : EReal) := by
  have e := congrFun h (ix2 (⟨8448, by omega⟩ : Fin 25345) c)
  pointwise [fn] at e
  exact realOf_apply (x := fun i : S1x1024.Idx => x1 (ix1 (i 1))) (r := 0) e

/-- the gate's weight, -/
theorem real2 : Is (R := 1024) (C := 2816) x2 (realOf x2) := fun r c => by
  have hr := c.isLt
  have e := congrFun h (ix2 (⟨8449 + c.val, by omega⟩ : Fin 25345) r)
  pointwise [fn] at e
  rw [dif_neg (show ¬ 8449 + c.val < 8448 by omega),
    dif_neg (show ¬ 8449 + c.val - 8448 < 1 by omega),
    dif_pos (show 8449 + c.val - 8448 - 1 < 2816 by omega)] at e
  simp only [show 8449 + c.val - 8448 - 1 = c.val by omega] at e
  exact realOf_apply e

/-- the other weight, -/
theorem real3 : Is (R := 1024) (C := 2816) x3 (realOf x3) := fun r c => by
  have hr := c.isLt
  have e := congrFun h (ix2 (⟨11265 + c.val, by omega⟩ : Fin 25345) r)
  pointwise [fn] at e
  rw [dif_neg (show ¬ 11265 + c.val < 8448 by omega),
    dif_neg (show ¬ 11265 + c.val - 8448 < 1 by omega),
    dif_neg (show ¬ 11265 + c.val - 8448 - 1 < 2816 by omega),
    dif_pos (show 11265 + c.val - 8448 - 1 - 2816 < 2816 by omega)] at e
  simp only [show 11265 + c.val - 8448 - 1 - 2816 = c.val by omega] at e
  exact realOf_apply e

/-- the weight back to the rows -/
theorem real4 : Is (R := 2816) (C := 1024) x4 (realOf x4) := fun r c => by
  have hr := r.isLt
  have e := congrFun h (ix2 (⟨14081 + r.val, by omega⟩ : Fin 25345) c)
  pointwise [fn] at e
  rw [dif_neg (show ¬ 14081 + r.val < 8448 by omega),
    dif_neg (show ¬ 14081 + r.val - 8448 < 1 by omega),
    dif_neg (show ¬ 14081 + r.val - 8448 - 1 < 2816 by omega),
    dif_neg (show ¬ 14081 + r.val - 8448 - 1 - 2816 < 2816 by omega),
    dif_pos (show 14081 + r.val - 8448 - 1 - 2816 - 2816 < 2816 by omega)] at e
  simp only [show 14081 + r.val - 8448 - 1 - 2816 - 2816 = r.val by omega] at e
  exact realOf_apply e

/-- and the incoming gradient. -/
theorem real5 : Is (R := 8448) (C := 1024) x5 (realOf x5) := fun r c => by
  have hr := r.isLt
  have e := congrFun h (ix2 (⟨16897 + r.val, by omega⟩ : Fin 25345) c)
  pointwise [fn] at e
  rw [dif_neg (show ¬ 16897 + r.val < 8448 by omega),
    dif_neg (show ¬ 16897 + r.val - 8448 < 1 by omega),
    dif_neg (show ¬ 16897 + r.val - 8448 - 1 < 2816 by omega),
    dif_neg (show ¬ 16897 + r.val - 8448 - 1 - 2816 < 2816 by omega),
    dif_neg (show ¬ 16897 + r.val - 8448 - 1 - 2816 - 2816 < 2816 by omega)] at e
  simp only [show 16897 + r.val - 8448 - 1 - 2816 - 2816 - 2816 = r.val by omega] at e
  exact realOf_apply e

end Cert.Pre_ffn_finite.Hand

end
-- ==== Proof.Dense.Frames.lean ====
module

public import proofs.«01_k».proof.Defs
public import proofs.«01_k».proof.Proof.Dense.Run
public import proofs.«01_k».proof.Proof.Dense.Finite
public import proofs.«01_k».proof.Proof.Gen.Kernel2.Frame
public import proofs.«01_k».proof.Proof.Gen.Reference2Ideal.Run
public import Idealize.ShloMosaic.Lib.Claim
public import Idealize.ShloMosaic.Lib.Quiescent

@[expose] public section

/-!
# The second program's frames

Over floats and over the extended reals the seven calls run one after the other and leave the arguments alone; so does
the reference.
-/

noncomputable section

namespace Cert.Kernel2Ideal.Hand

open Idealize.ShloMosaic Idealize.ShloMosaic.TcCoe Idealize.SL.Sem Cert.Pre_ffn_finite.Hand

/-- The seven calls over floats end with the arguments unchanged and every counter at zero. -/
theorem frame_calls : Cert.quiescent_Kernel2 := fun m ρ _ => Cert.Kernel2.Gen.frame m ρ

/-- The same over the extended reals. -/
theorem frame_calls_ideal : Cert.quiescent_Kernel2Ideal := fun m ρ _ =>
  (θ_run Cert.Kernel2Ideal.defs _ _).mono (fun _ h => ⟨args_end m ρ h.1, h.2⟩) (run_end (F := Ideal) m ρ)

/-- The reference over the extended reals ends with its arguments unchanged and every counter at zero. -/
theorem frame_layer : Cert.quiescent_Reference2Ideal := fun m ρ _ =>
  (θ_run Cert.Reference2Ideal.defs _ _).mono (fun r h => ⟨fun c => (h c).2.2.2.2.2.2, sem_eq_zero_of_no_sems rfl r.2⟩)
    (Cert.Reference2Ideal.Value.run (F := Ideal) m ρ)

/-- The frames again, of the arrays that the equation is stated of. -/
theorem frame_calls_finite : Cert.quiescent_Kernel2Ideal_pre_ffn_finite (hPre_ffn_finite := facts) := fun m ρ _ =>
  frame_calls_ideal m ρ trivial

/-- The reference's too. -/
theorem frame_layer_finite : Cert.quiescent_Reference2Ideal_pre_ffn_finite (hPre_ffn_finite := facts) := fun m ρ _ =>
  frame_layer m ρ trivial

end Cert.Kernel2Ideal.Hand

end
-- ==== Proof.Dense.Tile.lean ====
module

public import proofs.«01_k».proof.Proof.Dense.Math
public import proofs.«01_k».proof.Proof.Gen.Kernel2Ideal.Skeleton

@[expose] public section

set_option maxRecDepth 16384

/-!
# The dense layer's steps over the reals

What each call computes of one of its tiles: where the tile holds the rows from `R` on, the results are these rows' values.
-/

noncomputable section

namespace Cert.Kernel2Ideal.Hand

open Cert.Kernel2Ideal Cert.Kernel2Ideal.Gen Cert.Dense Finset
open Idealize.ShloMosaic Idealize.ShloMosaic.TcCoe

variable {L : Layer} {R : ℕ}

section Up

variable {X : Vec Ideal S384x1024 .f32} {N : Vec Ideal S1x1024 .f32} {A B : Vec Ideal S1024x2816 .bf16}

/-- The factor of a row. -/
theorem rs_tile (hX : Is X fun r d => L.x (R + r) d) (r : Fin 384) : k6_pay4 X (ix2 r 0) = ((L.rs (R + r.val) : ℝ) : EReal) := by
  pointwise [k6_pay4]
  simp only [hX _ _, ofBits_eps, ofBits_kilo, ← EReal.coe_mul]
  rw [← Cert.Grad.coe_sum, div_real (by norm_num), ← EReal.coe_add]
  exact rsqrt_real (L.ms_pos _)

/-- The normalised rows with the gain. -/
theorem b_tile (hX : Is X fun r d => L.x (R + r) d) (hN : Is N fun _ d => L.n d) : Is (k0_pay1 X N) fun r d => L.b (R + r) d := by
  intro r c
  have h := rs_tile hX r
  pointwise [k6_pay4] at h
  pointwise [k0_pay1]
  rw [h, hX, hN, ← EReal.coe_mul, ← EReal.coe_mul]
  rfl

/-- The gate's product, -/
theorem g_tile (hX : Is X fun r d => L.x (R + r) d) (hN : Is N fun _ d => L.n d) (hA : Is A L.wg) :
    Is (k0_pay2 X N A) fun r j => L.G (R + r) j := by
  intro r c
  pointwise [k0_pay2]
  exact sum_real fun k => by rw [b_tile hX hN, hA, ← EReal.coe_mul]

/-- the other product, -/
theorem u_tile (hX : Is X fun r d => L.x (R + r) d) (hN : Is N fun _ d => L.n d) (hB : Is B L.wu) :
    Is (k0_pay3 X N B) fun r j => L.U (R + r) j := by
  intro r c
  pointwise [k0_pay3]
  exact sum_real fun k => by rw [b_tile hX hN, hB, ← EReal.coe_mul]

/-- and as they are kept, -/
theorem g_kept (hX : Is X fun r d => L.x (R + r) d) (hN : Is N fun _ d => L.n d) (hA : Is A L.wg) :
    Is (k0_pay4 X N A) fun r j => L.G (R + r) j := g_tile hX hN hA

@[inherit_doc g_kept] theorem u_kept (hX : Is X fun r d => L.x (R + r) d) (hN : Is N fun _ d => L.n d) (hB : Is B L.wu) :
    Is (k0_pay5 X N B) fun r j => L.U (R + r) j := u_tile hX hN hB

/-- with the gated product. -/
theorem act_tile (hX : Is X fun r d => L.x (R + r) d) (hN : Is N fun _ d => L.n d) (hA : Is A L.wg) (hB : Is B L.wu) :
    Is (k0_pay6 X N A B) fun r j => L.act (R + r) j := by
  intro r c
  pointwise [k0_pay6]
  rw [g_tile hX hN hA, u_tile hX hN hB]
  simp only [Ideal.logistic_coe, ← EReal.coe_one, ← EReal.coe_sub, ← EReal.coe_add, ← EReal.coe_mul]
  rfl

end Up

/-- The layer's result. -/
theorem out_tile {A : Vec Ideal S768x2816 .bf16} {W : Vec Ideal S2816x1024 .bf16} {X : Vec Ideal S768x1024 .f32}
    (hA : Is A fun r j => L.act (R + r) j) (hW : Is W L.wd) (hX : Is X fun r d => L.x (R + r) d) :
    Is (k1_pay1 A W X) fun r d => L.out (R + r) d := by
  intro r c
  pointwise [k1_pay1]
  rw [sum_real fun k => show _ = ((L.act (R + r.val) k.val * L.wd k.val c.val : ℝ) : EReal) by rw [hA, hW, ← EReal.coe_mul], hX, ← EReal.coe_add]
  rfl

section Dact

variable {C : Vec Ideal S384x1024 .f32} {W : Vec Ideal S2816x1024 .bf16} {G U : Vec Ideal S384x2816 .bf16}

/-- The gradient of the gated product, -/
theorem dact_tile (hC : Is C fun r d => L.ct (R + r) d) (hW : Is W L.wd) : Is (k2_pay1 C W) fun r j => L.dact (R + r) j := by
  intro r c
  pointwise [k2_pay1]
  exact sum_real fun k => by rw [hC, hW, ← EReal.coe_mul]

/-- of the gate's product, -/
theorem dg_tile (hC : Is C fun r d => L.ct (R + r) d) (hW : Is W L.wd) (hG : Is G fun r j => L.G (R + r) j)
    (hU : Is U fun r j => L.U (R + r) j) : Is (k2_pay4 C W G U) fun r j => L.dg (R + r) j := by
  intro r c
  pointwise [k2_pay4, k2_pay3, k2_pay2]
  rw [dact_tile hC hW, hG, hU]
  simp only [Ideal.logistic_coe, ← EReal.coe_one, ← EReal.coe_sub, ← EReal.coe_add, ← EReal.coe_mul]
  rfl

/-- and of the other product. -/
theorem du_tile (hC : Is C fun r d => L.ct (R + r) d) (hW : Is W L.wd) (hG : Is G fun r j => L.G (R + r) j) :
    Is (k2_pay5 C W G) fun r j => L.du (R + r) j := by
  intro r c
  pointwise [k2_pay5, k2_pay3, k2_pay2]
  rw [dact_tile hC hW, hG]
  simp only [Ideal.logistic_coe, ← EReal.coe_one, ← EReal.coe_sub, ← EReal.coe_add, ← EReal.coe_mul]
  rfl

end Dact

/-! ## The weights' gradients: a tile's rows are added to what was summed before -/

variable {f a b : ℕ → ℕ → ℝ}

/-- Each of the three starts from zero, -/
theorem zero3 : Is (k3_pay1 (F := Ideal)) fun _ _ => 0 := by
  intro r c
  pointwise [k3_pay1]
  exact EReal.coe_zero.symm

@[inherit_doc zero3] theorem zero4 : Is (k4_pay1 (F := Ideal)) fun _ _ => 0 := by
  intro r c
  pointwise [k4_pay1]
  exact EReal.coe_zero.symm

@[inherit_doc zero3] theorem zero5 : Is (k5_pay1 (F := Ideal)) fun _ _ => 0 := by
  intro r c
  pointwise [k5_pay1]
  exact EReal.coe_zero.symm

/-- and adds a tile's rows. -/
theorem add3 {P : Vec Ideal S1408x1024 .f32} {A : Vec Ideal S768x1408 .bf16} {B : Vec Ideal S768x1024 .f32} (hP : Is P f) (hA : Is A a) (hB : Is B b) :
    Is (k3_pay2 P A B) fun i j => f i j + ∑ k : Fin 768, a k.val i * b k.val j := by
  intro r c
  pointwise [k3_pay2]
  rw [sum_real fun k => show _ = ((a k.val r.val * b k.val c.val : ℝ) : EReal) by rw [hA, hB, ← EReal.coe_mul], hP, ← EReal.coe_add]

@[inherit_doc add3] theorem add4 {P : Vec Ideal S1024x1408 .f32} {A : Vec Ideal S768x1024 .bf16} {B : Vec Ideal S768x1408 .bf16} (hP : Is P f) (hA : Is A a) (hB : Is B b) :
    Is (k4_pay2 P A B) fun i j => f i j + ∑ k : Fin 768, a k.val i * b k.val j := by
  intro r c
  pointwise [k4_pay2]
  rw [sum_real fun k => show _ = ((a k.val r.val * b k.val c.val : ℝ) : EReal) by rw [hA, hB, ← EReal.coe_mul], hP, ← EReal.coe_add]

@[inherit_doc add3] theorem add5 {P : Vec Ideal S1024x1408 .f32} {A : Vec Ideal S768x1024 .bf16} {B : Vec Ideal S768x1408 .bf16} (hP : Is P f) (hA : Is A a) (hB : Is B b) :
    Is (k5_pay2 P A B) fun i j => f i j + ∑ k : Fin 768, a k.val i * b k.val j := by
  intro r c
  pointwise [k5_pay2]
  rw [sum_real fun k => show _ = ((a k.val r.val * b k.val c.val : ℝ) : EReal) by rw [hA, hB, ← EReal.coe_mul], hP, ← EReal.coe_add]

/-! ## The gradient of the rows and of the gain -/

section Down

variable {X C : Vec Ideal S384x1024 .f32} {N P : Vec Ideal S1x1024 .f32} {A B : Vec Ideal S1024x2816 .bf16} {DG DU : Vec Ideal S384x2816 .bf16}

/-- The gradient of the normalised rows with the gain, -/
theorem da_tile (hG : Is DG fun r j => L.dg (R + r) j) (hA : Is A L.wg) (hU : Is DU fun r j => L.du (R + r) j) (hB : Is B L.wu) :
    Is (k6_pay3 DG A DU B) fun r d => L.da (R + r) d := by
  intro r c
  pointwise [k6_pay3]
  rw [sum_real fun k => show _ = ((L.dg (R + r.val) k.val * L.wg c.val k.val : ℝ) : EReal) by rw [hG, hA, ← EReal.coe_mul],
    sum_real fun k => show _ = ((L.du (R + r.val) k.val * L.wu c.val k.val : ℝ) : EReal) by rw [hU, hB, ← EReal.coe_mul], ← EReal.coe_add]
  rfl

/-- the normalised rows, -/
theorem y_tile (hX : Is X fun r d => L.x (R + r) d) : Is (k6_pay5 X) fun r d => L.y (R + r) d := by
  intro r c
  pointwise [k6_pay5]
  rw [rs_tile hX, hX, ← EReal.coe_mul]
  rfl

/-- the gradient of the rows, -/
theorem dx_tile (hG : Is DG fun r j => L.dg (R + r) j) (hA : Is A L.wg) (hU : Is DU fun r j => L.du (R + r) j) (hB : Is B L.wu)
    (hX : Is X fun r d => L.x (R + r) d) (hN : Is N fun _ d => L.n d) (hC : Is C fun r d => L.ct (R + r) d) :
    Is (k6_pay6 DG A DU B X N C) fun r d => L.dx (R + r) d := by
  intro r c
  pointwise [k6_pay6]
  rw [sum_real fun k => show _ = ((L.dy (R + r.val) k.val * L.y (R + r.val) k.val : ℝ) : EReal) by
      rw [da_tile hG hA hU hB, hN, y_tile hX, ← EReal.coe_mul, ← EReal.coe_mul]; rfl,
    da_tile hG hA hU hB, hN, y_tile hX, rs_tile hX, hC, ofBits_kilo, div_real (by norm_num)]
  exact rfl

/-- and of the gain: the sum starts from zero, -/
theorem zero6 : Is (k6_pay1 (F := Ideal)) fun _ _ => 0 := by
  intro r c
  pointwise [k6_pay1]
  exact EReal.coe_zero.symm

/-- and adds a tile's rows. -/
theorem dn_tile {D Y : Vec Ideal S384x1024 .f32} (hD : Is D a) (hY : Is Y b) (hP : Is P f) :
    Is (k6_pay2 D Y P) fun i d => f i d + ∑ k : Fin 384, a k.val d * b k.val d := by
  intro r c
  obtain rfl : r = 0 := Subsingleton.elim _ _
  pointwise [k6_pay2]
  rw [sum_real fun k => show _ = ((a k.val c.val * b k.val c.val : ℝ) : EReal) by rw [hD, hY, ← EReal.coe_mul], hP, ← EReal.coe_add]
  rfl

end Down

end Cert.Kernel2Ideal.Hand
-- ==== Proof.Dense.Up.lean ====
module

public import proofs.«01_k».proof.Proof.Dense.Tile
public import proofs.«01_k».proof.Proof.Gen.Kernel2Ideal.Frame.Region0
public import Idealize.ShloMosaic.Lib.Pipeline.ValueKit

@[expose] public section

set_option maxRecDepth 16384

/-!
# The first call: the gate's product, the other product, the gated product and the normalised rows

Each of the 22 points has 384 rows.
-/

noncomputable section

namespace Cert.Kernel2Ideal.Hand

open Cert.Kernel2Ideal Cert.Kernel2Ideal.Gen Cert.Dense Finset
open Idealize.ShloMosaic Idealize.ShloMosaic.TcCoe

/-- Where the points' blocks lie. -/
theorem places0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] := by decide +kernel

theorem lt0 (t : Fin cfg0.N) : t.val < 22 := t.isLt

variable {V : (c : Dev nD) → (b : Ref sig .tc) → Buf (Elt Ideal) ((c : Thread nD τ).loc b)} {c : Dev nD} {L : Layer}
  (hx : Is (R := 8448) (C := 1024) (V c main_arg0) L.x) (hn : Is (R := 1) (C := 1024) (V c main_v0) fun _ d => L.n d)
  (hg : Is (R := 1024) (C := 2816) (V c main_v1) L.wg) (hu : Is (R := 1024) (C := 2816) (V c main_v2) L.wu) (t : Fin cfg0.N)

include hx in
/-- A point's rows, -/
theorem x0 : Is (R := 384) (C := 1024) (iblk0 V c 0 t) fun r d => L.x (384 * t.val + r) d := fun r l =>
  Eq.trans (b := V c main_arg0 (ix2 (⟨384 * t.val + r.val, by have := lt0 t; omega⟩ : Fin 8448) l)) (by blk_ext [iblk0, places0 t]) (hx _ _)

include hn in
/-- the gain, -/
theorem n0 : Is (R := 1) (C := 1024) (iblk0 V c 1 t) fun _ d => L.n d := fun r l =>
  Eq.trans (b := V c main_v0 (ix2 r l)) (by blk_ext [iblk0, places0 t]) (hn _ _)

include hg in
/-- and the two weights. -/
theorem g0 : Is (R := 1024) (C := 2816) (iblk0 V c 2 t) L.wg := fun r l =>
  Eq.trans (b := V c main_v1 (ix2 r l)) (by blk_ext [iblk0, places0 t]) (hg _ _)

include hu in
@[inherit_doc g0] theorem u0 : Is (R := 1024) (C := 2816) (iblk0 V c 3 t) L.wu := fun r l =>
  Eq.trans (b := V c main_v2 (ix2 r l)) (by blk_ext [iblk0, places0 t]) (hu _ _)

include hx hn hg in
/-- The array of the gate's product in the end, -/
theorem arr_g : (dat0 V c).arrAt 4 cfg0.N = arr L.G := by
  refine (dat0 V c).arrAt_eq_of_covers 4 _ (by decide +kernel) fun t hf y => ?_
  blk_simp
  rw [after0_4]
  obtain ⟨r, l, rfl⟩ : ∃ (r : Fin 384) (l : Fin 2816), y = ix2 r l := ⟨y 0, y 1, eq_ix2 y⟩
  rw [show (win0_4.blk t).view.emb (ix2 r l) = ix2 (⟨384 * t.val + r.val, by have := lt0 t; omega⟩ : Fin 8448) l by blk_ext [places0 t]]
  frame_out
  exact g_kept (x0 hx t) (n0 hn t) (g0 hg t) r l

include hx hn hu in
/-- of the other product, -/
theorem arr_u : (dat0 V c).arrAt 5 cfg0.N = arr L.U := by
  refine (dat0 V c).arrAt_eq_of_covers 5 _ (by decide +kernel) fun t hf y => ?_
  blk_simp
  rw [after0_5]
  obtain ⟨r, l, rfl⟩ : ∃ (r : Fin 384) (l : Fin 2816), y = ix2 r l := ⟨y 0, y 1, eq_ix2 y⟩
  rw [show (win0_5.blk t).view.emb (ix2 r l) = ix2 (⟨384 * t.val + r.val, by have := lt0 t; omega⟩ : Fin 8448) l by blk_ext [places0 t]]
  frame_out
  exact u_kept (x0 hx t) (n0 hn t) (u0 hu t) r l

include hx hn hg hu in
/-- of the gated product, -/
theorem arr_act : (dat0 V c).arrAt 6 cfg0.N = arr L.act := by
  refine (dat0 V c).arrAt_eq_of_covers 6 _ (by decide +kernel) fun t hf y => ?_
  blk_simp
  rw [after0_6]
  obtain ⟨r, l, rfl⟩ : ∃ (r : Fin 384) (l : Fin 2816), y = ix2 r l := ⟨y 0, y 1, eq_ix2 y⟩
  rw [show (win0_6.blk t).view.emb (ix2 r l) = ix2 (⟨384 * t.val + r.val, by have := lt0 t; omega⟩ : Fin 8448) l by blk_ext [places0 t]]
  frame_out
  exact act_tile (x0 hx t) (n0 hn t) (g0 hg t) (u0 hu t) r l

include hx hn in
/-- and of the normalised rows with the gain. -/
theorem arr_b : (dat0 V c).arrAt 7 cfg0.N = arr L.b := by
  refine (dat0 V c).arrAt_eq_of_covers 7 _ (by decide +kernel) fun t hf y => ?_
  blk_simp
  rw [after0_7]
  obtain ⟨r, l, rfl⟩ : ∃ (r : Fin 384) (l : Fin 1024), y = ix2 r l := ⟨y 0, y 1, eq_ix2 y⟩
  rw [show (win0_7.blk t).view.emb (ix2 r l) = ix2 (⟨384 * t.val + r.val, by have := lt0 t; omega⟩ : Fin 8448) l by blk_ext [places0 t]]
  frame_out
  exact b_tile (x0 hx t) (n0 hn t) r l

end Cert.Kernel2Ideal.Hand
-- ==== Proof.Dense.Down.lean ====
module

public import proofs.«01_k».proof.Proof.Dense.Tile
public import proofs.«01_k».proof.Proof.Gen.Kernel2Ideal.Frame.Region1
public import Idealize.ShloMosaic.Lib.Pipeline.ValueKit

@[expose] public section

set_option maxRecDepth 16384

/-!
# The second call: the layer's result

Each of the 11 points has 768 rows.
-/

noncomputable section

namespace Cert.Kernel2Ideal.Hand

open Cert.Kernel2Ideal Cert.Kernel2Ideal.Gen Cert.Dense Finset
open Idealize.ShloMosaic Idealize.ShloMosaic.TcCoe

/-- Where the points' blocks lie. -/
theorem places1 : ∀ t : Fin cfg1.N, win1_0.index t = ![t.val, 0] ∧ win1_1.index t = ![0, 0] ∧ win1_2.index t = ![t.val, 0]
    ∧ win1_3.index t = ![t.val, 0] := by decide +kernel

theorem lt1 (t : Fin cfg1.N) : t.val < 11 := t.isLt

variable {V : (c : Dev nD) → (b : Ref sig .tc) → Buf (Elt Ideal) ((c : Thread nD τ).loc b)} {c : Dev nD} {L : Layer}
  (ha : Is (R := 8448) (C := 2816) (V c main_v4_2) L.act) (hw : Is (R := 2816) (C := 1024) (V c main_v3) L.wd)
  (hx : Is (R := 8448) (C := 1024) (V c main_arg0) L.x) (t : Fin cfg1.N)

include ha in
/-- A point's rows of the gated product, -/
theorem act1 : Is (R := 768) (C := 2816) (iblk1 V c 0 t) fun r j => L.act (768 * t.val + r) j := fun r l =>
  Eq.trans (b := V c main_v4_2 (ix2 (⟨768 * t.val + r.val, by have := lt1 t; omega⟩ : Fin 8448) l)) (by blk_ext [iblk1, places1 t]) (ha _ _)

include hw in
/-- the weight, -/
theorem w1 : Is (R := 2816) (C := 1024) (iblk1 V c 1 t) L.wd := fun r l =>
  Eq.trans (b := V c main_v3 (ix2 r l)) (by blk_ext [iblk1, places1 t]) (hw _ _)

include hx in
/-- and the rows. -/
theorem x1 : Is (R := 768) (C := 1024) (iblk1 V c 2 t) fun r d => L.x (768 * t.val + r) d := fun r l =>
  Eq.trans (b := V c main_arg0 (ix2 (⟨768 * t.val + r.val, by have := lt1 t; omega⟩ : Fin 8448) l)) (by blk_ext [iblk1, places1 t]) (hx _ _)

include ha hw hx in
/-- The array of the layer's result in the end. -/
theorem arr_out : (dat1 V c).arrAt 3 cfg1.N = arr L.out := by
  refine (dat1 V c).arrAt_eq_of_covers 3 _ (by decide +kernel) fun t hf y => ?_
  blk_simp
  rw [after1_3]
  obtain ⟨r, l, rfl⟩ : ∃ (r : Fin 768) (l : Fin 1024), y = ix2 r l := ⟨y 0, y 1, eq_ix2 y⟩
  rw [show (win1_3.blk t).view.emb (ix2 r l) = ix2 (⟨768 * t.val + r.val, by have := lt1 t; omega⟩ : Fin 8448) l by blk_ext [places1 t]]
  frame_out
  exact out_tile (act1 ha t) (w1 hw t) (x1 hx t) r l

end Cert.Kernel2Ideal.Hand
-- ==== Proof.Dense.Back.lean ====
module

public import proofs.«01_k».proof.Proof.Dense.Tile
public import proofs.«01_k».proof.Proof.Gen.Kernel2Ideal.Frame.Region2
public import Idealize.ShloMosaic.Lib.Pipeline.ValueKit

@[expose] public section

set_option maxRecDepth 16384

/-!
# The third call: the gradients of the two products

Each of the 22 points has 384 rows.
-/

noncomputable section

namespace Cert.Kernel2Ideal.Hand

open Cert.Kernel2Ideal Cert.Kernel2Ideal.Gen Cert.Dense Finset
open Idealize.ShloMosaic Idealize.ShloMosaic.TcCoe

/-- Where the points' blocks lie. -/
theorem places2 : ∀ t : Fin cfg2.N, win2_0.index t = ![t.val, 0] ∧ win2_1.index t = ![0, 0] ∧ win2_2.index t = ![t.val, 0]
    ∧ win2_3.index t = ![t.val, 0] ∧ win2_4.index t = ![t.val, 0] ∧ win2_5.index t = ![t.val, 0] := by decide +kernel

theorem lt2 (t : Fin cfg2.N) : t.val < 22 := t.isLt

variable {V : (c : Dev nD) → (b : Ref sig .tc) → Buf (Elt Ideal) ((c : Thread nD τ).loc b)} {c : Dev nD} {L : Layer}
  (hc : Is (R := 8448) (C := 1024) (V c main_arg5) L.ct) (hw : Is (R := 2816) (C := 1024) (V c main_v3) L.wd)
  (hg : Is (R := 8448) (C := 2816) (V c main_v4_0) L.G) (hu : Is (R := 8448) (C := 2816) (V c main_v4_1) L.U) (t : Fin cfg2.N)

include hc in
/-- A point's rows of the gradient of the result, -/
theorem c2 : Is (R := 384) (C := 1024) (iblk2 V c 0 t) fun r d => L.ct (384 * t.val + r) d := fun r l =>
  Eq.trans (b := V c main_arg5 (ix2 (⟨384 * t.val + r.val, by have := lt2 t; omega⟩ : Fin 8448) l)) (by blk_ext [iblk2, places2 t]) (hc _ _)

include hw in
/-- the weight, -/
theorem w2 : Is (R := 2816) (C := 1024) (iblk2 V c 1 t) L.wd := fun r l =>
  Eq.trans (b := V c main_v3 (ix2 r l)) (by blk_ext [iblk2, places2 t]) (hw _ _)

include hg in
/-- and the rows of the two products. -/
theorem g2 : Is (R := 384) (C := 2816) (iblk2 V c 2 t) fun r j => L.G (384 * t.val + r) j := fun r l =>
  Eq.trans (b := V c main_v4_0 (ix2 (⟨384 * t.val + r.val, by have := lt2 t; omega⟩ : Fin 8448) l)) (by blk_ext [iblk2, places2 t]) (hg _ _)

include hu in
@[inherit_doc g2] theorem u2 : Is (R := 384) (C := 2816) (iblk2 V c 3 t) fun r j => L.U (384 * t.val + r) j := fun r l =>
  Eq.trans (b := V c main_v4_1 (ix2 (⟨384 * t.val + r.val, by have := lt2 t; omega⟩ : Fin 8448) l)) (by blk_ext [iblk2, places2 t]) (hu _ _)

include hc hw hg hu in
/-- The array of the gate's gradient in the end, -/
theorem arr_dg : (dat2 V c).arrAt 4 cfg2.N = arr L.dg := by
  refine (dat2 V c).arrAt_eq_of_covers 4 _ (by decide +kernel) fun t hf y => ?_
  blk_simp
  rw [after2_4]
  obtain ⟨r, l, rfl⟩ : ∃ (r : Fin 384) (l : Fin 2816), y = ix2 r l := ⟨y 0, y 1, eq_ix2 y⟩
  rw [show (win2_4.blk t).view.emb (ix2 r l) = ix2 (⟨384 * t.val + r.val, by have := lt2 t; omega⟩ : Fin 8448) l by blk_ext [places2 t]]
  frame_out
  exact dg_tile (c2 hc t) (w2 hw t) (g2 hg t) (u2 hu t) r l

include hc hw hg in
/-- and of the other product's. -/
theorem arr_du : (dat2 V c).arrAt 5 cfg2.N = arr L.du := by
  refine (dat2 V c).arrAt_eq_of_covers 5 _ (by decide +kernel) fun t hf y => ?_
  blk_simp
  rw [after2_5]
  obtain ⟨r, l, rfl⟩ : ∃ (r : Fin 384) (l : Fin 2816), y = ix2 r l := ⟨y 0, y 1, eq_ix2 y⟩
  rw [show (win2_5.blk t).view.emb (ix2 r l) = ix2 (⟨384 * t.val + r.val, by have := lt2 t; omega⟩ : Fin 8448) l by blk_ext [places2 t]]
  frame_out
  exact du_tile (c2 hc t) (w2 hw t) (g2 hg t) r l

end Cert.Kernel2Ideal.Hand
-- ==== Proof.Dense.Dwd.lean ====
module

public import proofs.«01_k».proof.Proof.Dense.Tile
public import proofs.«01_k».proof.Proof.Gen.Kernel2Ideal.Frame.Region3
public import Idealize.ShloMosaic.Lib.Pipeline.ValueKit

@[expose] public section

set_option maxRecDepth 16384

/-!
# The fourth call: the gradient of the last weight

Eleven points in turn have 768 rows each, and add what these give to the half of the gradient kept between them.
-/

noncomputable section

namespace Cert.Kernel2Ideal.Hand

open Cert.Kernel2Ideal Cert.Kernel2Ideal.Gen Cert.Dense Finset
open Idealize.ShloMosaic Idealize.ShloMosaic.TcCoe

/-- Where the points' blocks lie. -/
theorem places3 : ∀ t : Fin cfg3.N, win3_0.index t = ![t.val % 11, t.val / 11] ∧ win3_1.index t = ![t.val % 11, 0]
    ∧ win3_2.index t = ![t.val / 11, 0] := by decide +kernel

theorem lt3 (t : Fin cfg3.N) : t.val < 22 := t.isLt

variable {V : (c : Dev nD) → (b : Ref sig .tc) → Buf (Elt Ideal) ((c : Thread nD τ).loc b)} {c : Dev nD} {L : Layer}
  (ha : Is (R := 8448) (C := 2816) (V c main_v4_2) L.act) (hb : Is (R := 8448) (C := 1024) (V c main_arg5) L.ct) (t : Fin cfg3.N)

include ha in
/-- A point's rows of the left factor, -/
theorem left3 : Is (R := 768) (C := 1408) (iblk3 V c 0 t) fun r j => L.act (768 * (t.val % 11) + r) (1408 * (t.val / 11) + j) := fun r l =>
  Eq.trans (b := V c main_v4_2 (ix2 (⟨768 * (t.val % 11) + r.val, by omega⟩ : Fin 8448) (⟨1408 * (t.val / 11) + l.val, by have := lt3 t; omega⟩ : Fin 2816))) (by blk_ext [iblk3, places3 t]) (ha _ _)

include hb in
/-- and of the right one. -/
theorem right3 : Is (R := 768) (C := 1024) (iblk3 V c 1 t) fun r j => L.ct (768 * (t.val % 11) + r) (j) := fun r l =>
  Eq.trans (b := V c main_arg5 (ix2 (⟨768 * (t.val % 11) + r.val, by omega⟩ : Fin 8448) l)) (by blk_ext [iblk3, places3 t]) (hb _ _)

include ha hb in
/-- After a point the half kept is the sum over the rows so far. -/
theorem sums3 (n : ℕ) (hn : n < cfg3.N) : Is (R := 1408) (C := 1024) (outsAt3 V c n hn) fun i j =>
    ∑ r ∈ range (768 * (n % 11 + 1)), L.act r (1408 * (n / 11) + i) * L.ct r (j) := by
  induction n with
  | zero =>
    have e := outsAt3_A V c ⟨0, hn⟩ rfl
    refine fun r l => (congrFun e _).trans ?_
    frame_out
    refine (add3 zero3 (left3 ha ⟨0, hn⟩) (right3 hb ⟨0, hn⟩) r l).trans ?_
    simp only [Nat.zero_mod]
    rw [← sum_first]
  | succ n ih =>
    by_cases h : (n + 1) % 11 = 0
    · have e := outsAt3_A V c ⟨n + 1, hn⟩ h
      refine fun r l => (congrFun e _).trans ?_
      frame_out
      refine (add3 zero3 (left3 ha ⟨n + 1, hn⟩) (right3 hb ⟨n + 1, hn⟩) r l).trans ?_
      simp only [h]
      rw [← sum_first]
    · have e := outsAt3_B V c ⟨n + 1, hn⟩ h
      refine fun r l => (congrFun e _).trans ?_
      frame_out
      refine (add3 (ih (Nat.lt_of_succ_lt hn)) (left3 ha ⟨n + 1, hn⟩) (right3 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dwd : (dat3 V c).arrAt 2 cfg3.N = arr L.dwd := by
  refine (dat3 V c).arrAt_eq_of_covers 2 _ (by decide +kernel) fun t hf y => ?_
  have e := (flush3_2 t).mp hf
  blk_simp
  rw [after3_2]
  obtain ⟨r, l, rfl⟩ : ∃ (r : Fin 1408) (l : Fin 1024), y = ix2 r l := ⟨y 0, y 1, eq_ix2 y⟩
  rw [show (win3_2.blk t).view.emb (ix2 r l) = ix2 (⟨1408 * (t.val / 11) + r.val, by have := lt3 t; omega⟩ : Fin 2816) l by blk_ext [places3 t]]
  refine (sums3 ha hb t.val t.isLt r l).trans ?_
  simp only [e]
  rw [Finset.sum_range]
  rfl

end Cert.Kernel2Ideal.Hand
-- ==== Proof.Dense.Dwg.lean ====
module

public import proofs.«01_k».proof.Proof.Dense.Tile
public import proofs.«01_k».proof.Proof.Gen.Kernel2Ideal.Frame.Region4
public import Idealize.ShloMosaic.Lib.Pipeline.ValueKit

@[expose] public section

set_option maxRecDepth 16384

/-!
# The fifth call: the gradient of the gate's weight

Eleven points in turn have 768 rows each, and add what these give to the half of the gradient kept between them.
-/

noncomputable section

namespace Cert.Kernel2Ideal.Hand

open Cert.Kernel2Ideal Cert.Kernel2Ideal.Gen Cert.Dense Finset
open Idealize.ShloMosaic Idealize.ShloMosaic.TcCoe

/-- Where the points' blocks lie. -/
theorem places4 : ∀ t : Fin cfg4.N, win4_0.index t = ![t.val % 11, 0] ∧ win4_1.index t = ![t.val % 11, t.val / 11]
    ∧ win4_2.index t = ![0, t.val / 11] := by decide +kernel

theorem lt4 (t : Fin cfg4.N) : t.val < 22 := t.isLt

variable {V : (c : Dev nD) → (b : Ref sig .tc) → Buf (Elt Ideal) ((c : Thread nD τ).loc b)} {c : Dev nD} {L : Layer}
  (ha : Is (R := 8448) (C := 1024) (V c main_v4_3) L.b) (hb : Is (R := 8448) (C := 2816) (V c main_v6_0) L.dg) (t : Fin cfg4.N)

include ha in
/-- A point's rows of the left factor, -/
theorem left4 : Is (R := 768) (C := 1024) (iblk4 V c 0 t) fun r j => L.b (768 * (t.val % 11) + r) (j) := fun r l =>
  Eq.trans (b := V c main_v4_3 (ix2 (⟨768 * (t.val % 11) + r.val, by omega⟩ : Fin 8448) l)) (by blk_ext [iblk4, places4 t]) (ha _ _)

include hb in
/-- and of the right one. -/
theorem right4 : Is (R := 768) (C := 1408) (iblk4 V c 1 t) fun r j => L.dg (768 * (t.val % 11) + r) (1408 * (t.val / 11) + j) := fun r l =>
  Eq.trans (b := V c main_v6_0 (ix2 (⟨768 * (t.val % 11) + r.val, by omega⟩ : Fin 8448) (⟨1408 * (t.val / 11) + l.val, by have := lt4 t; omega⟩ : Fin 2816))) (by blk_ext [iblk4, places4 t]) (hb _ _)

include ha hb in
/-- After a point the half kept is the sum over the rows so far. -/
theorem sums4 (n : ℕ) (hn : n < cfg4.N) : Is (R := 1024) (C := 1408) (outsAt4 V c n hn) fun i j =>
    ∑ r ∈ range (768 * (n % 11 + 1)), L.b r (i) * L.dg r (1408 * (n / 11) + j) := by
  induction n with
  | zero =>
    have e := outsAt4_A V c ⟨0, hn⟩ rfl
    refine fun r l => (congrFun e _).trans ?_
    frame_out
    refine (add4 zero4 (left4 ha ⟨0, hn⟩) (right4 hb ⟨0, hn⟩) r l).trans ?_
    simp only [Nat.zero_mod]
    rw [← sum_first]
  | succ n ih =>
    by_cases h : (n + 1) % 11 = 0
    · have e := outsAt4_A V c ⟨n + 1, hn⟩ h
      refine fun r l => (congrFun e _).trans ?_
      frame_out
      refine (add4 zero4 (left4 ha ⟨n + 1, hn⟩) (right4 hb ⟨n + 1, hn⟩) r l).trans ?_
      simp only [h]
      rw [← sum_first]
    · have e := outsAt4_B V c ⟨n + 1, hn⟩ h
      refine fun r l => (congrFun e _).trans ?_
      frame_out
      refine (add4 (ih (Nat.lt_of_succ_lt hn)) (left4 ha ⟨n + 1, hn⟩) (right4 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dwg : (dat4 V c).arrAt 2 cfg4.N = arr L.dwg := by
  refine (dat4 V c).arrAt_eq_of_covers 2 _ (by decide +kernel) fun t hf y => ?_
  have e := (flush4_2 t).mp hf
  blk_simp
  rw [after4_2]
  obtain ⟨r, l, rfl⟩ : ∃ (r : Fin 1024) (l : Fin 1408), y = ix2 r l := ⟨y 0, y 1, eq_ix2 y⟩
  rw [show (win4_2.blk t).view.emb (ix2 r l) = ix2 r (⟨1408 * (t.val / 11) + l.val, by have := lt4 t; omega⟩ : Fin 2816) by blk_ext [places4 t]]
  refine (sums4 ha hb t.val t.isLt r l).trans ?_
  simp only [e]
  rw [Finset.sum_range]
  rfl

end Cert.Kernel2Ideal.Hand
-- ==== Proof.Dense.Dwu.lean ====
module

public import proofs.«01_k».proof.Proof.Dense.Tile
public import proofs.«01_k».proof.Proof.Gen.Kernel2Ideal.Frame.Region5
public import Idealize.ShloMosaic.Lib.Pipeline.ValueKit

@[expose] public section

set_option maxRecDepth 16384

/-!
# The sixth call: the gradient of the other weight

Eleven points in turn have 768 rows each, and add what these give to the half of the gradient kept between them.
-/

noncomputable section

namespace Cert.Kernel2Ideal.Hand

open Cert.Kernel2Ideal Cert.Kernel2Ideal.Gen Cert.Dense Finset
open Idealize.ShloMosaic Idealize.ShloMosaic.TcCoe

/-- Where the points' blocks lie. -/
theorem places5 : ∀ t : Fin cfg5.N, win5_0.index t = ![t.val % 11, 0] ∧ win5_1.index t = ![t.val % 11, t.val / 11]
    ∧ win5_2.index t = ![0, t.val / 11] := by decide +kernel

theorem lt5 (t : Fin cfg5.N) : t.val < 22 := t.isLt

variable {V : (c : Dev nD) → (b : Ref sig .tc) → Buf (Elt Ideal) ((c : Thread nD τ).loc b)} {c : Dev nD} {L : Layer}
  (ha : Is (R := 8448) (C := 1024) (V c main_v4_3) L.b) (hb : Is (R := 8448) (C := 2816) (V c main_v6_1) L.du) (t : Fin cfg5.N)

include ha in
/-- A point's rows of the left factor, -/
theorem left5 : Is (R := 768) (C := 1024) (iblk5 V c 0 t) fun r j => L.b (768 * (t.val % 11) + r) (j) := fun r l =>
  Eq.trans (b := V c main_v4_3 (ix2 (⟨768 * (t.val % 11) + r.val, by omega⟩ : Fin 8448) l)) (by blk_ext [iblk5, places5 t]) (ha _ _)

include hb in
/-- and of the right one. -/
theorem right5 : Is (R := 768) (C := 1408) (iblk5 V c 1 t) fun r j => L.du (768 * (t.val % 11) + r) (1408 * (t.val / 11) + j) := fun r l =>
  Eq.trans (b := V c main_v6_1 (ix2 (⟨768 * (t.val % 11) + r.val, by omega⟩ : Fin 8448) (⟨1408 * (t.val / 11) + l.val, by have := lt5 t; omega⟩ : Fin 2816))) (by blk_ext [iblk5, places5 t]) (hb _ _)

include ha hb in
/-- After a point the half kept is the sum over the rows so far. -/
theorem sums5 (n : ℕ) (hn : n < cfg5.N) : Is (R := 1024) (C := 1408) (outsAt5 V c n hn) fun i j =>
    ∑ r ∈ range (768 * (n % 11 + 1)), L.b r (i) * L.du r (1408 * (n / 11) + j) := by
  induction n with
  | zero =>
    have e := outsAt5_A V c ⟨0, hn⟩ rfl
    refine fun r l => (congrFun e _).trans ?_
    frame_out
    refine (add5 zero5 (left5 ha ⟨0, hn⟩) (right5 hb ⟨0, hn⟩) r l).trans ?_
    simp only [Nat.zero_mod]
    rw [← sum_first]
  | succ n ih =>
    by_cases h : (n + 1) % 11 = 0
    · have e := outsAt5_A V c ⟨n + 1, hn⟩ h
      refine fun r l => (congrFun e _).trans ?_
      frame_out
      refine (add5 zero5 (left5 ha ⟨n + 1, hn⟩) (right5 hb ⟨n + 1, hn⟩) r l).trans ?_
      simp only [h]
      rw [← sum_first]
    · have e := outsAt5_B V c ⟨n + 1, hn⟩ h
      refine fun r l => (congrFun e _).trans ?_
      frame_out
      refine (add5 (ih (Nat.lt_of_succ_lt hn)) (left5 ha ⟨n + 1, hn⟩) (right5 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dwu : (dat5 V c).arrAt 2 cfg5.N = arr L.dwu := by
  refine (dat5 V c).arrAt_eq_of_covers 2 _ (by decide +kernel) fun t hf y => ?_
  have e := (flush5_2 t).mp hf
  blk_simp
  rw [after5_2]
  obtain ⟨r, l, rfl⟩ : ∃ (r : Fin 1024) (l : Fin 1408), y = ix2 r l := ⟨y 0, y 1, eq_ix2 y⟩
  rw [show (win5_2.blk t).view.emb (ix2 r l) = ix2 r (⟨1408 * (t.val / 11) + l.val, by have := lt5 t; omega⟩ : Fin 2816) by blk_ext [places5 t]]
  refine (sums5 ha hb t.val t.isLt r l).trans ?_
  simp only [e]
  rw [Finset.sum_range]
  rfl

end Cert.Kernel2Ideal.Hand
-- ==== Proof.Dense.Rows.lean ====
module

public import proofs.«01_k».proof.Proof.Dense.Tile
public import proofs.«01_k».proof.Proof.Gen.Kernel2Ideal.Frame.Region6
public import Idealize.ShloMosaic.Lib.Pipeline.ValueKit

@[expose] public section

set_option maxRecDepth 16384

/-!
# The last call: the gradients of the rows and of the gain

Each of the 22 points has 384 rows; the gain's gradient is kept between them, and each adds its rows to it.
-/

noncomputable section

namespace Cert.Kernel2Ideal.Hand

open Cert.Kernel2Ideal Cert.Kernel2Ideal.Gen Cert.Dense Finset
open Idealize.ShloMosaic Idealize.ShloMosaic.TcCoe

/-- Where the points' blocks lie. -/
theorem places6 : ∀ t : Fin cfg6.N, win6_0.index t = ![t.val, 0] ∧ win6_1.index t = ![0, 0] ∧ win6_2.index t = ![t.val, 0]
    ∧ win6_3.index t = ![0, 0] ∧ win6_4.index t = ![t.val, 0] ∧ win6_5.index t = ![0, 0] ∧ win6_6.index t = ![t.val, 0]
    ∧ win6_7.index t = ![t.val, 0] ∧ win6_8.index t = ![0, 0] := by decide +kernel

theorem lt6 (t : Fin cfg6.N) : t.val < 22 := t.isLt

variable {V : (c : Dev nD) → (b : Ref sig .tc) → Buf (Elt Ideal) ((c : Thread nD τ).loc b)} {c : Dev nD} {L : Layer}
  (hg : Is (R := 8448) (C := 2816) (V c main_v6_0) L.dg) (ha : Is (R := 1024) (C := 2816) (V c main_v1) L.wg)
  (hu : Is (R := 8448) (C := 2816) (V c main_v6_1) L.du) (hb : Is (R := 1024) (C := 2816) (V c main_v2) L.wu)
  (hx : Is (R := 8448) (C := 1024) (V c main_arg0) L.x) (hn : Is (R := 1) (C := 1024) (V c main_v0) fun _ d => L.n d)
  (hc : Is (R := 8448) (C := 1024) (V c main_arg5) L.ct) (t : Fin cfg6.N)

include hg in
/-- A point's rows of the two products' gradients, -/
theorem g6 : Is (R := 384) (C := 2816) (iblk6 V c 0 t) fun r j => L.dg (384 * t.val + r) j := fun r l =>
  Eq.trans (b := V c main_v6_0 (ix2 (⟨384 * t.val + r.val, by have := lt6 t; omega⟩ : Fin 8448) l)) (by blk_ext [iblk6, places6 t]) (hg _ _)

include hu in
@[inherit_doc g6] theorem u6 : Is (R := 384) (C := 2816) (iblk6 V c 2 t) fun r j => L.du (384 * t.val + r) j := fun r l =>
  Eq.trans (b := V c main_v6_1 (ix2 (⟨384 * t.val + r.val, by have := lt6 t; omega⟩ : Fin 8448) l)) (by blk_ext [iblk6, places6 t]) (hu _ _)

include ha in
/-- the two weights, -/
theorem a6 : Is (R := 1024) (C := 2816) (iblk6 V c 1 t) L.wg := fun r l =>
  Eq.trans (b := V c main_v1 (ix2 r l)) (by blk_ext [iblk6, places6 t]) (ha _ _)

include hb in
@[inherit_doc a6] theorem b6 : Is (R := 1024) (C := 2816) (iblk6 V c 3 t) L.wu := fun r l =>
  Eq.trans (b := V c main_v2 (ix2 r l)) (by blk_ext [iblk6, places6 t]) (hb _ _)

include hx in
/-- its rows, -/
theorem x6 : Is (R := 384) (C := 1024) (iblk6 V c 4 t) fun r d => L.x (384 * t.val + r) d := fun r l =>
  Eq.trans (b := V c main_arg0 (ix2 (⟨384 * t.val + r.val, by have := lt6 t; omega⟩ : Fin 8448) l)) (by blk_ext [iblk6, places6 t]) (hx _ _)

include hn in
/-- the gain, -/
theorem n6 : Is (R := 1) (C := 1024) (iblk6 V c 5 t) fun _ d => L.n d := fun r l =>
  Eq.trans (b := V c main_v0 (ix2 r l)) (by blk_ext [iblk6, places6 t]) (hn _ _)

include hc in
/-- and its rows of the gradient of the result. -/
theorem c6 : Is (R := 384) (C := 1024) (iblk6 V c 6 t) fun r d => L.ct (384 * t.val + r) d := fun r l =>
  Eq.trans (b := V c main_arg5 (ix2 (⟨384 * t.val + r.val, by have := lt6 t; omega⟩ : Fin 8448) l)) (by blk_ext [iblk6, places6 t]) (hc _ _)

include hg ha hu hb hx in
/-- After a point the gain's gradient is the sum over the rows so far. -/
theorem sums6 (n : ℕ) (hn : n < cfg6.N) : Is (R := 1) (C := 1024) (outsAt6 V c n hn).2 fun _ d =>
    ∑ r ∈ range (384 * (n + 1)), L.da r d * L.y r d := by
  induction n with
  | zero =>
    have e := congrArg Prod.snd (outsAt6_A V c ⟨0, hn⟩ rfl)
    refine fun r l => (congrFun e _).trans ?_
    frame_out
    refine (dn_tile (da_tile (g6 hg ⟨0, hn⟩) (a6 ha ⟨0, hn⟩) (u6 hu ⟨0, hn⟩) (b6 hb ⟨0, hn⟩)) (y_tile (x6 hx ⟨0, hn⟩)) zero6 r l).trans ?_
    rw [← sum_first]
  | succ n ih =>
    have h : ¬(n + 1) % 22 = 0 := by have : n + 1 < 22 := hn; omega
    have e := congrArg Prod.snd (outsAt6_B V c ⟨n + 1, hn⟩ h)
    refine fun r l => (congrFun e _).trans ?_
    frame_out
    refine (dn_tile (da_tile (g6 hg ⟨n + 1, hn⟩) (a6 ha ⟨n + 1, hn⟩) (u6 hu ⟨n + 1, hn⟩) (b6 hb ⟨n + 1, hn⟩)) (y_tile (x6 hx ⟨n + 1, hn⟩))
      (ih (Nat.lt_of_succ_lt hn)) r l).trans ?_
    rw [← sum_tile 384 (n + 1)]

include hg ha hu hb hx hn hc in
/-- A point leaves its rows' gradient. -/
theorem rows6 : Is (R := 384) (C := 1024) (outsAt6 V c t.val t.isLt).1 fun r d => L.dx (384 * t.val + r) d := by
  by_cases h : t.val % 22 = 0
  · have e := congrArg Prod.fst (outsAt6_A V c t h)
    refine fun r l => (congrFun e _).trans ?_
    frame_out
    exact dx_tile (g6 hg t) (a6 ha t) (u6 hu t) (b6 hb t) (x6 hx t) (n6 hn t) (c6 hc t) r l
  · have e := congrArg Prod.fst (outsAt6_B V c t h)
    refine fun r l => (congrFun e _).trans ?_
    frame_out
    exact dx_tile (g6 hg t) (a6 ha t) (u6 hu t) (b6 hb t) (x6 hx t) (n6 hn t) (c6 hc t) r l

include hg ha hu hb hx hn hc in
/-- The array of the rows' gradient in the end, -/
theorem arr_dx : (dat6 V c).arrAt 7 cfg6.N = arr L.dx := by
  refine (dat6 V c).arrAt_eq_of_covers 7 _ (by decide +kernel) fun t hf y => ?_
  blk_simp
  rw [after6_7]
  obtain ⟨r, l, rfl⟩ : ∃ (r : Fin 384) (l : Fin 1024), y = ix2 r l := ⟨y 0, y 1, eq_ix2 y⟩
  rw [show (win6_7.blk t).view.emb (ix2 r l) = ix2 (⟨384 * t.val + r.val, by have := lt6 t; omega⟩ : Fin 8448) l by blk_ext [places6 t]]
  exact rows6 hg ha hu hb hx hn hc t r l

include hg ha hu hb hx in
/-- and of the gain's. -/
theorem arr_dn : (dat6 V c).arrAt 8 cfg6.N = arr fun _ d => L.dn d := by
  refine (dat6 V c).arrAt_eq_of_covers 8 _ (by decide +kernel) fun t hf y => ?_
  have e := (flush6_8 t).mp hf
  have e' : t.val = 21 := by have := lt6 t; omega
  blk_simp
  rw [after6_8]
  obtain ⟨r, l, rfl⟩ : ∃ (r : Fin 1) (l : Fin 1024), y = ix2 r l := ⟨y 0, y 1, eq_ix2 y⟩
  rw [show (win6_8.blk t).view.emb (ix2 r l) = ix2 r l by blk_ext [places6 t]]
  refine (sums6 hg ha hu hb hx t.val t.isLt r l).trans ?_
  simp only [e']
  rw [Finset.sum_range]
  rfl

end Cert.Kernel2Ideal.Hand
-- ==== Proof.Dense.Trace.lean ====
module

public import proofs.«01_k».proof.Proof.Dense.Up
public import proofs.«01_k».proof.Proof.Dense.Down
public import proofs.«01_k».proof.Proof.Dense.Back
public import proofs.«01_k».proof.Proof.Dense.Dwd
public import proofs.«01_k».proof.Proof.Dense.Dwg
public import proofs.«01_k».proof.Proof.Dense.Dwu
public import proofs.«01_k».proof.Proof.Dense.Rows
public import proofs.«01_k».proof.Proof.Gen.Kernel2Ideal.Frame
public import Idealize.ShloMosaic.Lib.StableHlo.RunRead
public import Idealize.ShloMosaic.Lib.Pointwise

@[expose] public section

set_option maxRecDepth 16384

/-!
# From call to call

What each call finds in its operands, and what the results hold after the last call. `at3_act`, say, is what the
gated product's array holds when the call at boundary 3 begins.
-/

noncomputable section

namespace Cert.Kernel2Ideal.Hand

open Cert.Kernel2Ideal Cert.Kernel2Ideal.Gen Cert.Dense
open Idealize.ShloMosaic Idealize.ShloMosaic.TcCoe

/-- The arguments hold a layer's real numbers. -/
structure Holds (m : (ℓ : Loc nD τ sig) → Buf (Elt Ideal) ℓ) (c : Dev nD) (L : Layer) : Prop where
  x : Is (R := 8448) (C := 1024) (m ((c : Thread nD τ).loc main_arg0)) L.x
  n : ∀ d : Fin 1024, (m ((c : Thread nD τ).loc main_arg1) : S1024.Idx → EReal) (ix1 d) = ((L.n d.val : ℝ) : EReal)
  g : Is (R := 1024) (C := 2816) (m ((c : Thread nD τ).loc main_arg2)) L.wg
  u : Is (R := 1024) (C := 2816) (m ((c : Thread nD τ).loc main_arg3)) L.wu
  d : Is (R := 2816) (C := 1024) (m ((c : Thread nD τ).loc main_arg4)) L.wd
  ct : Is (R := 8448) (C := 1024) (m ((c : Thread nD τ).loc main_arg5)) L.ct

variable {m : (ℓ : Loc nD τ sig) → Buf (Elt Ideal) ℓ} {c : Dev nD} {L : Layer} (ρ : Dev nD → PrngReg) (h : Holds m c L)

/-! ## Before the first call -/

/-- The host's gain row, -/
theorem read_n : V1 m ρ c main_v0 = broadcastInDim S1x1024 ![1] bcast_S1024_S1x1024_1 (m ((c : Thread nD τ).loc main_arg1)) := by
  after_reads_simp

/-- and its three casts. -/
theorem read_g : V1 m ρ c main_v1 = (truncf (F := Ideal) .bf16 (m ((c : Thread nD τ).loc main_arg2) : FVec Ideal S1024x2816 .f32) bitsLt_bf16_f32 : FVec Ideal S1024x2816 .bf16) := by
  after_reads_simp

@[inherit_doc read_g]
theorem read_u : V1 m ρ c main_v2 = (truncf (F := Ideal) .bf16 (m ((c : Thread nD τ).loc main_arg3) : FVec Ideal S1024x2816 .f32) bitsLt_bf16_f32 : FVec Ideal S1024x2816 .bf16) := by
  after_reads_simp

@[inherit_doc read_g]
theorem read_d : V1 m ρ c main_v3 = (truncf (F := Ideal) .bf16 (m ((c : Thread nD τ).loc main_arg4) : FVec Ideal S2816x1024 .f32) bitsLt_bf16_f32 : FVec Ideal S2816x1024 .bf16) := by
  after_reads_simp

include h

/-- The first call finds the rows, -/
theorem at1_x : Is (R := 8448) (C := 1024) (V1 m ρ c main_arg0) L.x := fun r d =>
  (congrFun (W1_args m ρ c main_arg0 (by decide)) (ix2 r d)).trans (h.x r d)

/-- the gain, -/
theorem at1_n : Is (R := 1) (C := 1024) (V1 m ρ c main_v0) fun _ d => L.n d := fun r d => by
  rw [read_n ρ]
  pointwise
  exact h.n d

/-- and the weights. -/
theorem at1_g : Is (R := 1024) (C := 2816) (V1 m ρ c main_v1) L.wg := fun r d =>
  (congrFun (read_g ρ) (ix2 r d)).trans (h.g r d)

@[inherit_doc at1_g]
theorem at1_u : Is (R := 1024) (C := 2816) (V1 m ρ c main_v2) L.wu := fun r d =>
  (congrFun (read_u ρ) (ix2 r d)).trans (h.u r d)

@[inherit_doc at1_g]
theorem at1_d : Is (R := 2816) (C := 1024) (V1 m ρ c main_v3) L.wd := fun r d =>
  (congrFun (read_d ρ) (ix2 r d)).trans (h.d r d)

/-! ## The forward pass -/

/-- After the first call: the gate's product, -/
theorem at2_g : W2 m ρ c (Proc.devRef .tc main_v4_0) = arr L.G :=
  (W2_arr m ρ c 4).trans (arr_g (at1_x ρ h) (at1_n ρ h) (at1_g ρ h))

/-- the other product, -/
theorem at2_u : W2 m ρ c (Proc.devRef .tc main_v4_1) = arr L.U :=
  (W2_arr m ρ c 5).trans (arr_u (at1_x ρ h) (at1_n ρ h) (at1_u ρ h))

/-- the gated product -/
theorem at2_act : W2 m ρ c (Proc.devRef .tc main_v4_2) = arr L.act :=
  (W2_arr m ρ c 6).trans (arr_act (at1_x ρ h) (at1_n ρ h) (at1_g ρ h) (at1_u ρ h))

/-- and the normalised rows. -/
theorem at2_b : W2 m ρ c (Proc.devRef .tc main_v4_3) = arr L.b :=
  (W2_arr m ρ c 7).trans (arr_b (at1_x ρ h) (at1_n ρ h))

/-- The weight of the second call is still the host's, -/
theorem at2_d : Is (R := 2816) (C := 1024) (V2 m ρ c main_v3) L.wd := fun r d =>
  (congrFun (W2_of m ρ c main_v3 (by decide)) (ix2 r d)).trans (at1_d ρ h r d)

/-- and so are the rows. -/
theorem at2_x : Is (R := 8448) (C := 1024) (V2 m ρ c main_arg0) L.x := fun r d =>
  (congrFun (W2_args m ρ c main_arg0 (by decide)) (ix2 r d)).trans (h.x r d)

/-- After the second call: the layer's result. -/
theorem at3_out : W3 m ρ c (Proc.devRef .tc main_v5) = arr L.out :=
  (W3_arr m ρ c 3).trans (arr_out (is_of_eq (at2_act ρ h)) (at2_d ρ h) (at2_x ρ h))

/-! ## The gradients of the products -/

/-- The third call finds the incoming gradient, -/
theorem at3_ct : Is (R := 8448) (C := 1024) (V3 m ρ c main_arg5) L.ct := fun r d =>
  (congrFun (W3_args m ρ c main_arg5 (by decide)) (ix2 r d)).trans (h.ct r d)

/-- the weight -/
theorem at3_d : Is (R := 2816) (C := 1024) (V3 m ρ c main_v3) L.wd := fun r d =>
  (congrFun (W3_of m ρ c main_v3 (by decide)) (ix2 r d)).trans (at2_d ρ h r d)

/-- and what the first call saved. -/
theorem at3_g : W3 m ρ c (Proc.devRef .tc main_v4_0) = arr L.G := (W3_of m ρ c main_v4_0 (by decide)).trans (at2_g ρ h)

@[inherit_doc at3_g]
theorem at3_u : W3 m ρ c (Proc.devRef .tc main_v4_1) = arr L.U := (W3_of m ρ c main_v4_1 (by decide)).trans (at2_u ρ h)

/-- After the third call: the gradient of the gate's product -/
theorem at4_dg : W4 m ρ c (Proc.devRef .tc main_v6_0) = arr L.dg :=
  (W4_arr m ρ c 4).trans (arr_dg (at3_ct ρ h) (at3_d ρ h) (is_of_eq (at3_g ρ h)) (is_of_eq (at3_u ρ h)))

/-- and of the other product. -/
theorem at4_du : W4 m ρ c (Proc.devRef .tc main_v6_1) = arr L.du :=
  (W4_arr m ρ c 5).trans (arr_du (at3_ct ρ h) (at3_d ρ h) (is_of_eq (at3_g ρ h)))

/-! ## The gradients of the weights -/

/-- The fourth call finds the gated product -/
theorem at4_act : W4 m ρ c (Proc.devRef .tc main_v4_2) = arr L.act :=
  (W4_of m ρ c main_v4_2 (by decide)).trans ((W3_of m ρ c main_v4_2 (by decide)).trans (at2_act ρ h))

/-- and the incoming gradient. -/
theorem at4_ct : Is (R := 8448) (C := 1024) (V4 m ρ c main_arg5) L.ct := fun r d =>
  (congrFun (W4_args m ρ c main_arg5 (by decide)) (ix2 r d)).trans (h.ct r d)

/-- After the fourth call: the gradient of the weight back to the rows. -/
theorem at5_dwd : W5 m ρ c (Proc.devRef .tc main_v7) = arr L.dwd :=
  (W5_arr m ρ c 2).trans (arr_dwd (is_of_eq (at4_act ρ h)) (at4_ct ρ h))

/-- The fifth call finds the normalised rows -/
theorem at5_b : W5 m ρ c (Proc.devRef .tc main_v4_3) = arr L.b :=
  (W5_of m ρ c main_v4_3 (by decide)).trans ((W4_of m ρ c main_v4_3 (by decide)).trans
    ((W3_of m ρ c main_v4_3 (by decide)).trans (at2_b ρ h)))

/-- and the two gradients. -/
theorem at5_dg : W5 m ρ c (Proc.devRef .tc main_v6_0) = arr L.dg := (W5_of m ρ c main_v6_0 (by decide)).trans (at4_dg ρ h)

@[inherit_doc at5_dg]
theorem at5_du : W5 m ρ c (Proc.devRef .tc main_v6_1) = arr L.du := (W5_of m ρ c main_v6_1 (by decide)).trans (at4_du ρ h)

/-- After the fifth call: the gradient of the gate's weight. -/
theorem at6_dwg : W6 m ρ c (Proc.devRef .tc main_v8) = arr L.dwg :=
  (W6_arr m ρ c 2).trans (arr_dwg (is_of_eq (at5_b ρ h)) (is_of_eq (at5_dg ρ h)))

/-- The sixth call finds the normalised rows, -/
theorem at6_b : W6 m ρ c (Proc.devRef .tc main_v4_3) = arr L.b := (W6_of m ρ c main_v4_3 (by decide)).trans (at5_b ρ h)

/-- and the two gradients. -/
theorem at6_dg : W6 m ρ c (Proc.devRef .tc main_v6_0) = arr L.dg := (W6_of m ρ c main_v6_0 (by decide)).trans (at5_dg ρ h)

@[inherit_doc at6_dg]
theorem at6_du : W6 m ρ c (Proc.devRef .tc main_v6_1) = arr L.du := (W6_of m ρ c main_v6_1 (by decide)).trans (at5_du ρ h)

/-- After the sixth call: the gradient of the other weight. -/
theorem at7_dwu : W7 m ρ c (Proc.devRef .tc main_v9) = arr L.dwu :=
  (W7_arr m ρ c 2).trans (arr_dwu (is_of_eq (at6_b ρ h)) (is_of_eq (at6_du ρ h)))

/-! ## The gradients of the rows and of the gain -/

/-- The last call finds the two gradients, -/
theorem at7_dg : W7 m ρ c (Proc.devRef .tc main_v6_0) = arr L.dg := (W7_of m ρ c main_v6_0 (by decide)).trans (at6_dg ρ h)

@[inherit_doc at7_dg]
theorem at7_du : W7 m ρ c (Proc.devRef .tc main_v6_1) = arr L.du := (W7_of m ρ c main_v6_1 (by decide)).trans (at6_du ρ h)

/-- the weights, -/
theorem at7_wg : Is (R := 1024) (C := 2816) (V7 m ρ c main_v1) L.wg := fun r d =>
  (congrFun ((W7_of m ρ c main_v1 (by decide)).trans ((W6_of m ρ c main_v1 (by decide)).trans
    ((W5_of m ρ c main_v1 (by decide)).trans ((W4_of m ρ c main_v1 (by decide)).trans
      ((W3_of m ρ c main_v1 (by decide)).trans (W2_of m ρ c main_v1 (by decide))))))) (ix2 r d)).trans (at1_g ρ h r d)

@[inherit_doc at7_wg]
theorem at7_wu : Is (R := 1024) (C := 2816) (V7 m ρ c main_v2) L.wu := fun r d =>
  (congrFun ((W7_of m ρ c main_v2 (by decide)).trans ((W6_of m ρ c main_v2 (by decide)).trans
    ((W5_of m ρ c main_v2 (by decide)).trans ((W4_of m ρ c main_v2 (by decide)).trans
      ((W3_of m ρ c main_v2 (by decide)).trans (W2_of m ρ c main_v2 (by decide))))))) (ix2 r d)).trans (at1_u ρ h r d)

/-- the gain, -/
theorem at7_n : Is (R := 1) (C := 1024) (V7 m ρ c main_v0) fun _ d => L.n d := fun r d =>
  (congrFun ((W7_of m ρ c main_v0 (by decide)).trans ((W6_of m ρ c main_v0 (by decide)).trans
    ((W5_of m ρ c main_v0 (by decide)).trans ((W4_of m ρ c main_v0 (by decide)).trans
      ((W3_of m ρ c main_v0 (by decide)).trans (W2_of m ρ c main_v0 (by decide))))))) (ix2 r d)).trans (at1_n ρ h r d)

/-- the rows -/
theorem at7_x : Is (R := 8448) (C := 1024) (V7 m ρ c main_arg0) L.x := fun r d =>
  (congrFun (W7_args m ρ c main_arg0 (by decide)) (ix2 r d)).trans (h.x r d)

/-- and the incoming gradient. -/
theorem at7_ct : Is (R := 8448) (C := 1024) (V7 m ρ c main_arg5) L.ct := fun r d =>
  (congrFun (W7_args m ρ c main_arg5 (by decide)) (ix2 r d)).trans (h.ct r d)

/-! ## After the last call -/

/-- The layer's result, -/
theorem end_out : W8 m ρ c (Proc.devRef .tc main_v5) = arr L.out :=
  (W8_of m ρ c main_v5 (by decide)).trans ((W7_of m ρ c main_v5 (by decide)).trans ((W6_of m ρ c main_v5 (by decide)).trans
    ((W5_of m ρ c main_v5 (by decide)).trans ((W4_of m ρ c main_v5 (by decide)).trans (at3_out ρ h)))))

/-- the gradient of the rows, -/
theorem end_dx : W8 m ρ c (Proc.devRef .tc main_v10_0) = arr L.dx :=
  (W8_arr m ρ c 7).trans (arr_dx (is_of_eq (at7_dg ρ h)) (at7_wg ρ h) (is_of_eq (at7_du ρ h)) (at7_wu ρ h)
    (at7_x ρ h) (at7_n ρ h) (at7_ct ρ h))

/-- of the gain, -/
theorem end_dn : W8 m ρ c (Proc.devRef .tc main_v10_1) = arr fun _ d => L.dn d :=
  (W8_arr m ρ c 8).trans (arr_dn (is_of_eq (at7_dg ρ h)) (at7_wg ρ h) (is_of_eq (at7_du ρ h)) (at7_wu ρ h) (at7_x ρ h))

/-- and of the three weights. -/
theorem end_dwg : W8 m ρ c (Proc.devRef .tc main_v8) = arr L.dwg :=
  (W8_of m ρ c main_v8 (by decide)).trans ((W7_of m ρ c main_v8 (by decide)).trans (at6_dwg ρ h))

@[inherit_doc end_dwg]
theorem end_dwu : W8 m ρ c (Proc.devRef .tc main_v9) = arr L.dwu :=
  (W8_of m ρ c main_v9 (by decide)).trans (at7_dwu ρ h)

@[inherit_doc end_dwg]
theorem end_dwd : W8 m ρ c (Proc.devRef .tc main_v7) = arr L.dwd :=
  (W8_of m ρ c main_v7 (by decide)).trans ((W7_of m ρ c main_v7 (by decide)).trans ((W6_of m ρ c main_v7 (by decide)).trans (at5_dwd ρ h)))

end Cert.Kernel2Ideal.Hand

end
-- ==== Proof.Dense.Ref.lean ====
module

public import proofs.«01_k».proof.Proof.Dense.Math
public import proofs.«01_k».proof.Proof.Gen.Reference2Ideal.Read
public import Idealize.ShloMosaic.Lib.Pointwise

@[expose] public section

set_option maxRecDepth 16384

/-!
# What the second reference computes

Each of its stages at real inputs, as the value of `Cert.Dense.Layer` that it is.
-/

noncomputable section

namespace Cert.Reference2Ideal.Hand

open Cert.Reference2Ideal Cert.Reference2Ideal.Gen Cert.Reference2Ideal.Read Cert.Dense Finset
open Idealize.ShloMosaic Idealize.ShloMosaic.TcCoe

/-- The arguments hold a layer's real numbers. -/
structure Holds (L : Layer) (x0 : Vec Ideal S8448x1024 .f32) (x1 : Vec Ideal S1024 .f32) (x2 x3 : Vec Ideal S1024x2816 .f32)
    (x4 : Vec Ideal S2816x1024 .f32) (x5 : Vec Ideal S8448x1024 .f32) : Prop where
  x : Is (R := 8448) (C := 1024) x0 L.x
  n : ∀ d : Fin 1024, x1 (ix1 d) = ((L.n d.val : ℝ) : EReal)
  g : Is (R := 1024) (C := 2816) x2 L.wg
  u : Is (R := 1024) (C := 2816) x3 L.wu
  d : Is (R := 2816) (C := 1024) x4 L.wd
  ct : Is (R := 8448) (C := 1024) x5 L.ct

variable {L : Layer} {x0 : Vec Ideal S8448x1024 .f32} {x1 : Vec Ideal S1024 .f32} {x2 x3 : Vec Ideal S1024x2816 .f32}
    {x4 : Vec Ideal S2816x1024 .f32} {x5 : Vec Ideal S8448x1024 .f32} (h : Holds L x0 x1 x2 x3 x4 x5)
include h

/-- The mean square, with the small number. -/
theorem r_ms (r : Fin 8448) (l : Fin 1) : val_main_v6 (F := Ideal) x0 (ix2 r l) = ((L.ms r.val : ℝ) : EReal) := by
  pointwise [val_main_v6, val_main_v5, val_main_v4, val_main_v3, val_main_v2, val_main_v1, val_main_v0, val_main_cst, val_main_cst_0, val_main_cst_1]
  simp only [h.x _ _, ofBits_eps, ofBits_kilo, ← EReal.coe_mul]
  rw [← Cert.Grad.coe_sum, div_real (by norm_num), ← EReal.coe_add]
  rfl

/-- What a row is multiplied by, -/
theorem r_rs (r : Fin 8448) (l : Fin 1) : val_main_v7 (F := Ideal) x0 (ix2 r l) = ((L.rs r.val : ℝ) : EReal) := by
  pointwise [val_main_v7]
  rw [r_ms h]
  exact rsqrt_real (L.ms_pos _)

/-- and the factor's own derivative. -/
theorem r_drs (r : Fin 8448) (l : Fin 1) : val_main_v10 (F := Ideal) x0 (ix2 r l) = ((-(1 / 2) * (L.rs r.val / L.ms r.val) : ℝ) : EReal) := by
  pointwise [val_main_v10, val_main_v9, val_main_v8, val_main_cst_2]
  rw [r_ms h, r_rs h, ofBits_half, div_real (L.ms_pos _).ne', ← EReal.coe_mul]

/-- The normalised row, -/
theorem r_y : Is (R := 8448) (C := 1024) (val_main_v12 (F := Ideal) x0) L.y := fun r d => by
  pointwise [val_main_v12, val_main_v11]
  rw [r_rs h, h.x, ← EReal.coe_mul]
  rfl

/-- and with the gain. -/
theorem r_b : Is (R := 8448) (C := 1024) (val_main_v15 (F := Ideal) x0 x1) L.b := fun r d => by
  pointwise [val_main_v15, val_main_v14, val_main_v13]
  rw [r_y h, h.n, ← EReal.coe_mul]
  rfl

/-- The gate's product, -/
theorem r_G : Is (R := 8448) (C := 2816) (val_main_v16 (F := Ideal) x0 x1 x2) L.G := fun r j => by
  pointwise [val_main_v16]
  exact sum_real fun k => by rw [r_b h, h.g, ← EReal.coe_mul]

/-- its logistic, -/
theorem r_s : Is (R := 8448) (C := 2816) (val_main_v17_2 (F := Ideal) x0 x1 x2) fun r j => sg (L.G r j) := fun r j => by
  pointwise [val_main_v17_2, val_main_call0_v4, val_main_call0_v3, val_main_call0_v2, val_main_call0_v1, val_main_call0_v0, val_main_call0_cst, val_main_call0_cst_0]
  have hp : 0 < 1 + Real.exp (-L.G r.val j.val) := by positivity
  rw [r_G h, ← EReal.coe_neg, Ideal.exp_coe, ← EReal.coe_one, ← EReal.coe_add, div_real hp.ne', one_div]
  rfl

/-- the logistic's derivative, -/
theorem r_ds : Is (R := 8448) (C := 2816) (val_main_v17_1 (F := Ideal) x0 x1 x2) fun r j => sg (L.G r j) * (1 - sg (L.G r j)) := fun r j => by
  pointwise [val_main_v17_1, val_main_call0_v7, val_main_call0_v6, val_main_call0_cst_1]
  rw [r_s h, ← EReal.coe_one, ← EReal.coe_sub, ← EReal.coe_mul]

/-- and the gate. -/
theorem r_gate : Is (R := 8448) (C := 2816) (val_main_v17_0 (F := Ideal) x0 x1 x2) fun r j => L.G r j * sg (L.G r j) := fun r j => by
  pointwise [val_main_v17_0]
  rw [r_s h, r_G h, ← EReal.coe_mul]

/-- The other product, -/
theorem r_U : Is (R := 8448) (C := 2816) (val_main_v18 (F := Ideal) x0 x1 x3) L.U := fun r j => by
  pointwise [val_main_v18]
  exact sum_real fun k => by rw [r_b h, h.u, ← EReal.coe_mul]

/-- the gated product, -/
theorem r_act : Is (R := 8448) (C := 2816) (val_main_v19 (F := Ideal) x0 x1 x2 x3) L.act := fun r j => by
  pointwise [val_main_v19]
  rw [r_gate h, r_U h, ← EReal.coe_mul]
  rfl

/-- and the layer's result. -/
theorem r_out : Is (R := 8448) (C := 1024) (val_main_v21 (F := Ideal) x0 x1 x2 x3 x4) L.out := fun r d => by
  pointwise [val_main_v21, val_main_v20]
  rw [sum_real (g := fun j : Fin 2816 => L.act r.val j.val * L.wd j.val d.val) (fun j => by rw [r_act h, h.d, ← EReal.coe_mul]), h.x, ← EReal.coe_add, add_comm]
  rfl

/-- The incoming gradient, -/
theorem r_ct : Is (R := 8448) (C := 1024) (val_main_v22 (F := Ideal) x5) L.ct := fun r d => by
  pointwise [val_main_v22]
  exact h.ct r d

/-- the gradient of the weight back to the rows, -/
theorem r_dwd : Is (R := 2816) (C := 1024) (val_main_v24 (F := Ideal) x0 x1 x2 x3 x5) L.dwd := fun j d => by
  pointwise [val_main_v24, val_main_v23]
  exact sum_real fun r => by rw [r_ct h, r_act h, ← EReal.coe_mul, mul_comm]

/-- of the gated product, -/
theorem r_dact : Is (R := 8448) (C := 2816) (val_main_v25 (F := Ideal) x4 x5) L.dact := fun r j => by
  pointwise [val_main_v25]
  exact sum_real fun d => by rw [r_ct h, h.d, ← EReal.coe_mul]

/-- of the other product, -/
theorem r_du : Is (R := 8448) (C := 2816) (val_main_v26 (F := Ideal) x0 x1 x2 x4 x5) L.du := fun r j => by
  pointwise [val_main_v26]
  rw [r_gate h, r_dact h, ← EReal.coe_mul, mul_comm]
  rfl

/-- of its weight, -/
theorem r_dwu : Is (R := 1024) (C := 2816) (val_main_v29 (F := Ideal) x0 x1 x2 x4 x5) L.dwu := fun d j => by
  pointwise [val_main_v29, val_main_v28]
  exact sum_real fun r => by rw [r_du h, r_b h, ← EReal.coe_mul, mul_comm]

/-- of the gate's product -/
theorem r_dg : Is (R := 8448) (C := 2816) (val_main_v31 (F := Ideal) x0 x1 x2 x3 x4 x5) L.dg := fun r j => by
  pointwise [val_main_v31, val_main_call1_v1, val_main_call1_v2, val_main_call1_v0, val_main_v27]
  rw [r_dact h, r_U h, r_s h, r_ds h, r_G h]
  simp only [← EReal.coe_mul, ← EReal.coe_add]
  rw [L.dg_eq]

/-- and of its weight. -/
theorem r_dwg : Is (R := 1024) (C := 2816) (val_main_v33 (F := Ideal) x0 x1 x2 x3 x4 x5) L.dwg := fun d j => by
  pointwise [val_main_v33, val_main_v32]
  exact sum_real fun r => by rw [r_dg h, r_b h, ← EReal.coe_mul, mul_comm]

/-- The gradient of the normalised row with the gain, -/
theorem r_da : Is (R := 8448) (C := 1024) (val_main_v35 (F := Ideal) x0 x1 x2 x3 x4 x5) L.da := fun r d => by
  pointwise [val_main_v35, val_main_v34, val_main_v30]
  rw [sum_real (g := fun j : Fin 2816 => L.du r.val j.val * L.wu d.val j.val) (fun j => by rw [r_du h, h.u, ← EReal.coe_mul]),
    sum_real (g := fun j : Fin 2816 => L.dg r.val j.val * L.wg d.val j.val) (fun j => by rw [r_dg h, h.g, ← EReal.coe_mul]), ← EReal.coe_add, add_comm]
  rfl

/-- of the gain, -/
theorem r_dn : Is (R := 1) (C := 1024) (val_main_v57 (F := Ideal) x0 x1 x2 x3 x4 x5) fun _ d => L.dn d := fun l d => by
  pointwise [val_main_v57, val_main_v41, val_main_v38, val_main_v37, val_main_v36, val_main_cst_3, val_main_cst_4]
  rw [Fin.sum_univ_one]
  exact sum_real fun r => by rw [r_y h, r_da h, ← EReal.coe_mul, mul_comm]

/-- of the normalised row, -/
theorem r_dy : Is (R := 8448) (C := 1024) (val_main_v40 (F := Ideal) x0 x1 x2 x3 x4 x5) L.dy := fun r d => by
  pointwise [val_main_v40, val_main_v39, val_main_v13]
  rw [r_da h, h.n, ← EReal.coe_mul]
  rfl

/-- of the square's own share, -/
theorem r_sq (r : Fin 8448) (d : Fin 1024) : val_main_v52 (F := Ideal) x0 x1 x2 x3 x4 x5 (ix2 r d)
    = (((∑ k : Fin 1024, L.x r.val k.val * L.dy r.val k.val) * (-(1 / 2) * (L.rs r.val / L.ms r.val)) / 1024 : ℝ) : EReal) := by
  pointwise [val_main_v52, val_main_v51, val_main_v50, val_main_v49, val_main_v48, val_main_v44, val_main_v43, val_main_v42, val_main_cst_5, val_main_cst_6, val_main_cst_7]
  rw [Fin.sum_univ_one, sum_real (g := fun k : Fin 1024 => L.x r.val k.val * L.dy r.val k.val) (fun k => by rw [r_dy h, h.x, ← EReal.coe_mul]),
    r_drs h, ofBits_kilo, ← EReal.coe_mul, div_real (by norm_num)]

/-- and of the row. -/
theorem r_dx : Is (R := 8448) (C := 1024) (val_main_v56 (F := Ideal) x0 x1 x2 x3 x4 x5) L.dx := fun r d => by
  pointwise [val_main_v56, val_main_v55, val_main_v54, val_main_v53, val_main_v47, val_main_v46, val_main_v45]
  rw [r_sq h, r_dy h, r_rs h, h.x, h.ct]
  simp only [← EReal.coe_mul, ← EReal.coe_add]
  rw [L.dx_eq]

end Cert.Reference2Ideal.Hand

end
-- ==== Proof.Dense.Algebraic.lean ====
module

public import proofs.«01_k».proof.Proof.Dense.Frames
public import proofs.«01_k».proof.Proof.Dense.Trace
public import proofs.«01_k».proof.Proof.Dense.Ref

@[expose] public section

set_option maxRecDepth 16384

/-!
# The second equation

The seven calls' and the reference's runs end with the same six arrays: the layer's result and the gradients of its
rows, of its gain and of its three weights.
-/

noncomputable section

open Idealize.ShloMosaic Idealize.ShloMosaic.TcCoe Idealize.SL.Sem Cert.Dense Cert.Pre_ffn_finite.Hand

namespace Cert.Kernel2Ideal.Hand

open Cert.Kernel2Ideal Cert.Kernel2Ideal.Gen

variable (m : (ℓ : Loc nD τ sig) → Buf (Elt Ideal) ℓ) (ρ : Dev nD → PrngReg) (L : Dev nD → Layer)

/-- The calls end with the layer's result and gradients. -/
theorem run_calls (H : ∀ c : Dev nD, Holds m c (L c)) :
    θ_run defs (onTc (τ := τ) (main (F := Ideal))) ⟨m, fun _ => 0, ρ⟩ fun r => ∀ c : Dev nD,
      r.2.mem ((c.tc : Thread nD τ).loc main_v5) = arr (L c).out
      ∧ r.2.mem ((c.tc : Thread nD τ).loc main_v10_0) = arr (L c).dx
      ∧ r.2.mem ((c.tc : Thread nD τ).loc main_v10_1) = arr (fun _ d => (L c).dn d)
      ∧ r.2.mem ((c.tc : Thread nD τ).loc main_v8) = arr (L c).dwg
      ∧ r.2.mem ((c.tc : Thread nD τ).loc main_v9) = arr (L c).dwu
      ∧ r.2.mem ((c.tc : Thread nD τ).loc main_v7) = arr (L c).dwd
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h.1 c _ (mem_uc main_v5 (by decide))).trans (end_out ρ (H c)), (h.1 c _ (mem_uc main_v10_0 (by decide))).trans (end_dx ρ (H c)),
        (h.1 c _ (mem_uc main_v10_1 (by decide))).trans (end_dn ρ (H c)), (h.1 c _ (mem_uc main_v8 (by decide))).trans (end_dwg ρ (H c)),
        (h.1 c _ (mem_uc main_v9 (by decide))).trans (end_dwu ρ (H c)), (h.1 c _ (mem_uc main_v7 (by decide))).trans (end_dwd ρ (H c)),
        args_end m ρ h.1 c⟩)
    (run_end m ρ)

end Cert.Kernel2Ideal.Hand

namespace Cert.Reference2Ideal.Hand

open Cert.Reference2Ideal Cert.Reference2Ideal.Gen

/-- An array with the entries `f` is the array of `f`. -/
theorem eq_of_is {R C : ℕ} {X : (⟨2, ![R, C]⟩ : Shape).Idx → EReal} {f : ℕ → ℕ → ℝ} (h : Is X f) : X = arr f :=
  funext fun y => by
    rw [eq_ix2 y]
    exact h _ _

variable (m : (ℓ : Loc nD τ sig) → Buf (Elt Ideal) ℓ) (ρ : Dev nD → PrngReg) (L : Dev nD → Layer)

/-- So does the reference. -/
theorem run_layer (H : ∀ c : Dev nD, Holds (L c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) :
    θ_run defs (onTc (τ := τ) (main (F := Ideal))) ⟨m, fun _ => 0, ρ⟩ fun r => ∀ c : Dev nD,
      r.2.mem ((c.tc : Thread nD τ).loc main_v21) = arr (L c).out
      ∧ r.2.mem ((c.tc : Thread nD τ).loc main_v56) = arr (L c).dx
      ∧ r.2.mem ((c.tc : Thread nD τ).loc main_v57) = arr (fun _ d => (L c).dn d)
      ∧ r.2.mem ((c.tc : Thread nD τ).loc main_v33) = arr (L c).dwg
      ∧ r.2.mem ((c.tc : Thread nD τ).loc main_v29) = arr (L c).dwu
      ∧ r.2.mem ((c.tc : Thread nD τ).loc main_v24) = arr (L c).dwd
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨e1, e2, e3, e4, e5, e6, e7⟩ := h c
      exact ⟨(e1.trans (Read.val_main_v21_eq _ _ _ _ _)).trans (eq_of_is (r_out (H c))),
        (e2.trans (Read.val_main_v56_eq m c)).trans (eq_of_is (r_dx (H c))),
        (e3.trans (Read.val_main_v57_eq m c)).trans (eq_of_is (r_dn (H c))),
        (e4.trans (Read.val_main_v33_eq m c)).trans (eq_of_is (r_dwg (H c))),
        (e5.trans (Read.val_main_v29_eq _ _ _ _ _)).trans (eq_of_is (r_dwu (H c))),
        (e6.trans (Read.val_main_v24_eq _ _ _ _ _)).trans (eq_of_is (r_dwd (H c))), e7⟩)
    (Cert.Reference2Ideal.Value.run (F := Ideal) m ρ)

end Cert.Reference2Ideal.Hand

namespace Cert.Kernel2Ideal.Hand

/-- On arrays of real numbers the calls and the reference end with the same result and gradients. -/
theorem equation_layer : Cert.algebraic_Kernel2Ideal_Reference2Ideal_pre_ffn_finite (hPre_ffn_finite := facts) := fun m g m' g' hp e => by
  letI := facts
  have H := fun c => Holds.mk (L := layer _ _ _ _ _ _) (real0 (hp c)) (real1 (hp c)) (real2 (hp c)) (real3 (hp c)) (real4 (hp c)) (real5 (hp c))
  refine ⟨_, _, _, _, _, _, run_calls m g (fun c => layer _ _ _ _ _ _) H,
    Cert.Reference2Ideal.Hand.run_layer m' g' (fun c => layer _ _ _ _ _ _) fun c => ?_⟩
  obtain ⟨e0, e1, e2, e3, e4, e5⟩ := e c
  rw [e0, e1, e2, e3, e4, e5]
  exact ⟨(H c).x, (H c).n, (H c).g, (H c).u, (H c).d, (H c).ct⟩

end Cert.Kernel2Ideal.Hand

end
-- ==== Proof.Sb.Run.lean ====
module

public import proofs.«01_k».proof.Proof.Gen.Kernel3Ideal.Frame

@[expose] public section

set_option maxRecDepth 16384

/-!
# The run of the six calls around mixer B's attention

The host's operations, then six calls one after the other. In the end every array holds what the last boundary's
contents say of it, and every counter is at zero; the arguments are as they were.
-/

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F] (m : (ℓ : Loc nD τ sig) → Buf (Elt F) ℓ) (ρ : Dev nD → PrngReg)

/-- The assertions of the launch. -/
abbrev Res (F : FTy → Type) [FloatOps F] := MT nD τ sig Unit (Elt F) ℕ (UR sig nD τ) ℕ

/-- Owning nothing on each device is owning nothing. -/
theorem none_each : (BI.emp : sProp (Res F)) ⊢ bigSep Finset.univ (fun _ : Dev nD => (BI.emp : sProp (Res F))) := by
  rw [BI.bigSep_emp_const]

/-- The tokens the calls' buffers start from, as the launch has them. -/
theorem tokens : (ownU (initOf (Pipeline.cells cfgs cellOf_inj) (Pipeline.launchToks cfgs cellOf_inj)) : sProp (Res F))
    ⊢ BI.own (emb₁ (initOf (Pipeline.cells cfgs cellOf_inj) (Pipeline.launchToks cfgs cellOf_inj))) := .rfl

set_option backward.isDefEq.respectTransparency.types false in
/-- Every run ends, with the last boundary's contents in every array and every counter at zero. -/
theorem run_end : θ_run defs (onTc (τ := τ) (main (F := F))) ⟨m, fun _ => 0, ρ⟩ fun r =>
    (∀ c : Dev nD, ∀ b ∈ Pipeline.ucRefs τ sig, r.2.mem (((c : Thread nD τ)).1, b) = W7 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (tokens (F := F))
        iexact Hu
      iapply (none_each (F := F))
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h hz => ⟨h, funext fun g => hz g (.inr (no_unscoped g.2))⟩)

/-- The arguments are as they were. -/
theorem args_end {s : (ℓ : Loc nD τ sig) → Buf (Elt F) ℓ} (h : ∀ c : Dev nD, ∀ b ∈ Pipeline.ucRefs τ sig, s (((c : Thread nD τ)).1, b) = W7 m ρ c b)
    (c : Dev nD) : s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6) :=
  ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c)⟩

end Cert.Kernel3Ideal.Hand

end
-- ==== Proof.Sb.Frames.lean ====
module

public import proofs.«01_k».proof.Defs
public import proofs.«01_k».proof.Proof.Sb.Run
public import proofs.«01_k».proof.Proof.Gen.Kernel3.Frame
public import proofs.«01_k».proof.Proof.Gen.Reference3Ideal.Run
public import Idealize.ShloMosaic.Lib.Claim
public import Idealize.ShloMosaic.Lib.Quiescent

@[expose] public section

/-!
# The frames around mixer B's attention

Over floats and over the extended reals the six calls run one after the other and leave the arguments alone; so does
the reference.
-/

noncomputable section

namespace Cert.Kernel3Ideal.Hand

open Idealize.ShloMosaic Idealize.ShloMosaic.TcCoe Idealize.SL.Sem

/-- The calls over floats end with the arguments unchanged and every counter at zero. -/
theorem frame_sides : Cert.quiescent_Kernel3 := fun m ρ _ => Cert.Kernel3.Gen.frame m ρ

/-- The same over the extended reals. -/
theorem frame_sides_ideal : Cert.quiescent_Kernel3Ideal := fun m ρ _ =>
  (θ_run Cert.Kernel3Ideal.defs _ _).mono (fun _ h => ⟨args_end m ρ h.1, h.2⟩) (run_end (F := Ideal) m ρ)

/-- The reference over the extended reals ends with its arguments unchanged and every counter at zero. -/
theorem frame_sides_reference : Cert.quiescent_Reference3Ideal := fun m ρ _ =>
  (θ_run Cert.Reference3Ideal.defs _ _).mono (fun r h => ⟨fun c => (h c).2.2.2.2.2.2.2, sem_eq_zero_of_no_sems rfl r.2⟩)
    (Cert.Reference3Ideal.Value.run (F := Ideal) m ρ)

end Cert.Kernel3Ideal.Hand

end
-- ==== Proof.Sides.Math.lean ====
module

public import proofs.«01_k».proof.Proof.Dense.Math

@[expose] public section

/-!
# The two sides of an attention over the extended reals

What stands before and after a mixer's attention, as functions of row and column numbers: the rows are normalised by their
root mean square, scaled by a gain and multiplied by the weight `w`, whose columns are the attention's inputs; the
attention's result `o` is multiplied by the weight `wo` and added to the rows. `dp` is the gradient of the inputs and `ct`
that of the sum. Entries may be infinite.
-/

noncomputable section

namespace Cert.Sides

open Finset Idealize.ShloMosaic

/-- An array's entries are the numbers `f`. -/
def Is {R C : ℕ} (X : (⟨2, ![R, C]⟩ : Shape).Idx → EReal) (f : ℕ → ℕ → EReal) : Prop :=
  ∀ (r : Fin R) (c : Fin C), X (ix2 r c) = f r.val c.val

/-- The array of the numbers `f`. -/
def arr {R C : ℕ} (f : ℕ → ℕ → EReal) : (⟨2, ![R, C]⟩ : Shape).Idx → EReal := fun i => f (i 0).val (i 1).val

/-- An array that is the array of `f` has its entries. -/
theorem is_of_eq {R C : ℕ} {X : (⟨2, ![R, C]⟩ : Shape).Idx → EReal} {f : ℕ → ℕ → EReal} (h : X = arr f) : Is X f :=
  fun r c => (congrFun h (ix2 r c)).trans rfl

/-- An array with the entries `f` is the array of `f`. -/
theorem eq_of_is {R C : ℕ} {X : (⟨2, ![R, C]⟩ : Shape).Idx → EReal} {f : ℕ → ℕ → EReal} (h : Is X f) : X = arr f :=
  funext fun y => by
    rw [eq_ix2 y]
    exact h _ _

/-- An array's entries as numbers of a row and a column, zero outside the array. -/
def entries {R C : ℕ} (X : (⟨2, ![R, C]⟩ : Shape).Idx → EReal) (r c : ℕ) : EReal :=
  if h : r < R ∧ c < C then X (ix2 (⟨r, h.1⟩ : Fin R) (⟨c, h.2⟩ : Fin C)) else 0

/-- They are the array's. -/
theorem is_entries {R C : ℕ} (X : (⟨2, ![R, C]⟩ : Shape).Idx → EReal) : Is X (entries X) := fun r c => by
  rw [entries, dif_pos ⟨r.isLt, c.isLt⟩]

/-- Right of the array they are zero. -/
theorem entries_right {R C : ℕ} (X : (⟨2, ![R, C]⟩ : Shape).Idx → EReal) (r c : ℕ) (h : C ≤ c) : entries X r c = 0 :=
  dif_neg fun e => by omega

/-- A row's entries. -/
def entries1 {C : ℕ} (X : (⟨1, ![C]⟩ : Shape).Idx → EReal) (c : ℕ) : EReal :=
  if h : c < C then X (ix1 (⟨c, h⟩ : Fin C)) else 0

/-- They are the row's. -/
theorem is_entries1 {C : ℕ} (X : (⟨1, ![C]⟩ : Shape).Idx → EReal) (c : Fin C) : X (ix1 c) = entries1 X c.val := by
  rw [entries1, dif_pos c.isLt]

/-- A mixer's rows, gain, two weights, the attention's result, and the two gradients; `W` is the number of columns of `w`. -/
structure Sides (W : ℕ) where
  x : ℕ → ℕ → EReal
  n : ℕ → EReal
  w : ℕ → ℕ → EReal
  o : ℕ → ℕ → EReal
  wo : ℕ → ℕ → EReal
  dp : ℕ → ℕ → EReal
  ct : ℕ → ℕ → EReal

namespace Sides

variable {W : ℕ} (L : Sides W)

/-- A row's mean square, with the small number. -/
def ms (r : ℕ) : EReal := Ideal.div (∑ k : Fin 1024, L.x r k.val * L.x r k.val) ((1024 : ℝ) : EReal) + ((Dense.eps : ℝ) : EReal)

/-- What the row is multiplied by, -/
def rs (r : ℕ) : EReal := Ideal.rsqrt (L.ms r)

/-- the normalised row, -/
def y (r d : ℕ) : EReal := L.x r d * L.rs r

/-- and with the gain. -/
def b (r d : ℕ) : EReal := L.y r d * L.n d

/-- The attention's inputs, -/
def p (r j : ℕ) : EReal := ∑ k : Fin 1024, L.b r k.val * L.w k.val j

/-- and the rows with the attention's result. -/
def out (r d : ℕ) : EReal := ∑ k : Fin 1024, L.o r k.val * L.wo k.val d + L.x r d

/-- The gradient of the attention's result, -/
def do' (r k : ℕ) : EReal := ∑ d : Fin 1024, L.ct r d.val * L.wo k d.val

/-- of the two weights, -/
def dwo (k d : ℕ) : EReal := ∑ r : Fin 8448, L.o r.val k * L.ct r.val d

@[inherit_doc dwo] def dw (k j : ℕ) : EReal := ∑ r : Fin 8448, L.b r.val k * L.dp r.val j

/-- of the normalised row with the gain, -/
def da (r d : ℕ) : EReal := ∑ j : Fin W, L.dp r j.val * L.w d j.val

/-- of the normalised row, -/
def dy (r d : ℕ) : EReal := L.da r d * L.n d

/-- of the row, -/
def dx (r d : ℕ) : EReal := L.rs r * (L.dy r d - L.y r d * Ideal.div (∑ k : Fin 1024, L.dy r k.val * L.y r k.val) ((1024 : ℝ) : EReal)) + L.ct r d

/-- and of the gain. -/
def dn (d : ℕ) : EReal := ∑ r : Fin 8448, L.da r.val d * L.y r.val d

/-- The other form of the gradient of the row's square. -/
def sq (r : ℕ) : EReal := Ideal.div ((∑ k : Fin 1024, L.x r k.val * L.dy r k.val) * (((-(1 / 2) : ℝ) : EReal) * Ideal.div (L.rs r) (L.ms r))) ((1024 : ℝ) : EReal)

/-- A square is not negative. -/
theorem sq_nonneg (a : EReal) : 0 ≤ a * a := by
  rcases le_total 0 a with h | h
  · exact mul_nonneg h h
  · exact EReal.mul_nonneg_iff.mpr (.inr ⟨h, h⟩)

/-- A positive factor goes into a sum. -/
theorem mul_sum_pos {ι : Type*} (s : ℝ) (hs : 0 ≤ s) (t : Finset ι) (f : ι → EReal) : (s : EReal) * ∑ i ∈ t, f i = ∑ i ∈ t, (s : EReal) * f i := by
  classical
  induction t using Finset.induction_on with
  | empty => simp
  | insert a t h ih =>
    rw [sum_insert h, sum_insert h, EReal.left_distrib_of_nonneg_of_ne_top (by exact_mod_cast hs) (EReal.coe_ne_top s), ih]

/-- Twice a number. -/
theorem twice (a : EReal) : a + a = ((2 : ℝ) : EReal) * a := by
  induction a with
  | bot => rw [EReal.coe_mul_bot_of_pos (by norm_num)]; rfl
  | coe a => rw [← EReal.coe_add, ← EReal.coe_mul, two_mul]
  | top => rw [EReal.coe_mul_top_of_pos (by norm_num)]; rfl

/-- A row of real numbers has a real mean square, -/
theorem ms_real (r : ℕ) (ξ : ℕ → ℝ) (h : ∀ k : Fin 1024, L.x r k.val = ((ξ k.val : ℝ) : EReal)) :
    ∃ m : ℝ, 0 < m ∧ L.ms r = (m : EReal) := by
  refine ⟨(∑ k : Fin 1024, ξ k.val * ξ k.val) / 1024 + Dense.eps,
    add_pos_of_nonneg_of_pos (div_nonneg (sum_nonneg fun _ _ => mul_self_nonneg _) (by norm_num)) Dense.eps_pos, ?_⟩
  rw [ms, Dense.sum_real (g := fun k : Fin 1024 => ξ k.val * ξ k.val) fun k => by rw [h k, ← EReal.coe_mul], Dense.div_real (by norm_num),
    ← EReal.coe_add]

/-- and the mean square of any other row is infinite. -/
theorem ms_top (r : ℕ) (k : Fin 1024) (h : L.x r k.val = ⊤ ∨ L.x r k.val = ⊥) : L.ms r = ⊤ := by
  have e : L.x r k.val * L.x r k.val = ⊤ := by
    rcases h with h | h <;> rw [h] <;> rfl
  have s : ∑ k : Fin 1024, L.x r k.val * L.x r k.val = ⊤ :=
    top_unique (e ▸ single_le_sum (f := fun k : Fin 1024 => L.x r k.val * L.x r k.val) (fun _ _ => sq_nonneg _) (mem_univ k))
  rw [ms, s, Ideal.div_coe (by norm_num), EReal.top_mul_coe_of_pos (by norm_num), EReal.top_add_coe]

/-- The other form of the gradient of the row: the factor's own derivative is `-½·rs/ms` times the square's. -/
theorem dx_eq (r d : ℕ) (hd : d < 1024) : L.dx r d = L.ct r d + L.dy r d * L.rs r + L.x r d * L.sq r + L.sq r * L.x r d := by
  by_cases h : ∃ k : Fin 1024, L.x r k.val = ⊤ ∨ L.x r k.val = ⊥
  · obtain ⟨k, hk⟩ := h
    have hm := L.ms_top r k hk
    have hr : L.rs r = 0 := by rw [rs, hm]; rfl
    have hq : L.sq r = 0 := by
      rw [sq, hr, hm]
      simp [Ideal.div]
    rw [dx, hr, hq]
    simp
  · push Not at h
    have hx : ∀ k : Fin 1024, L.x r k.val = (((L.x r k.val).toReal : ℝ) : EReal) := fun k => (EReal.coe_toReal (h k).1 (h k).2).symm
    obtain ⟨m, hm0, hm⟩ := L.ms_real r (fun k => (L.x r k).toReal) hx
    have hr : L.rs r = (((√m)⁻¹ : ℝ) : EReal) := by rw [rs, hm]; exact Dense.rsqrt_real hm0
    have hs0 : 0 < (√m)⁻¹ := inv_pos.mpr (Real.sqrt_pos.mpr hm0)
    have hss : (√m)⁻¹ / m = (√m)⁻¹ * ((√m)⁻¹ * (√m)⁻¹) := by rw [← mul_inv (√m), Real.mul_self_sqrt hm0.le, div_eq_mul_inv]
    generalize (√m)⁻¹ = s at hr hs0 hss
    have hS : ∑ k : Fin 1024, L.dy r k.val * L.y r k.val = (s : EReal) * ∑ k : Fin 1024, L.x r k.val * L.dy r k.val := by
      rw [mul_sum_pos s hs0.le]
      refine sum_congr rfl fun k _ => ?_
      rw [y, hr]
      ac_rfl
    obtain ⟨ξ, hξ⟩ : ∃ ξ : ℝ, L.x r d = (ξ : EReal) := ⟨_, hx ⟨d, hd⟩⟩
    have hq : L.sq r = ((-(1 / 2) * (s * (s * s)) * (1 / 1024) : ℝ) : EReal) * ∑ k : Fin 1024, L.x r k.val * L.dy r k.val := by
      rw [sq, hr, hm, Dense.div_real hm0.ne', hss, Ideal.div_coe (by norm_num), ← EReal.coe_mul, mul_assoc, ← EReal.coe_mul, mul_comm]
    rw [dx, hS, hq, y, hr, hξ, Ideal.div_coe (by norm_num)]
    generalize ∑ k : Fin 1024, L.x r k.val * L.dy r k.val = T
    have e1 : ((-(1 / 2) * (s * (s * s)) * (1 / 1024) : ℝ) : EReal) * T * (ξ : EReal) = (ξ : EReal) * (((-(1 / 2) * (s * (s * s)) * (1 / 1024) : ℝ) : EReal) * T) :=
      mul_comm _ _
    rw [e1, add_assoc (L.ct r d + L.dy r d * s), twice, sub_eq_add_neg,
      EReal.left_distrib_of_nonneg_of_ne_top (by exact_mod_cast hs0.le) (EReal.coe_ne_top s), add_comm, ← add_assoc, mul_comm (s : EReal) (L.dy r d)]
    congr 1
    have e2 : -((ξ : EReal) * s * (s * T * ((1 / 1024 : ℝ) : EReal))) = ((-(ξ * s * s * (1 / 1024)) : ℝ) : EReal) * T := by
      rw [EReal.coe_neg, EReal.neg_mul]
      congr 1
      simp only [EReal.coe_mul]
      ac_rfl
    rw [e2, ← mul_assoc, ← mul_assoc, ← mul_assoc, ← EReal.coe_mul, ← EReal.coe_mul, ← EReal.coe_mul]
    congr 2
    ring

end Sides

/-- Rows counted a tile at a time: `R * n` rows and `R` more are `R * (n + 1)` rows. -/
theorem sum_tile (R n : ℕ) (f : ℕ → EReal) :
    ∑ r ∈ range (R * n), f r + ∑ k : Fin R, f (R * n + k.val) = ∑ r ∈ range (R * (n + 1)), f r := by
  rw [Nat.mul_succ, sum_range_add, sum_range (fun x => f (R * n + x))]

/-- The first tile's rows. -/
theorem sum_first (R : ℕ) (f : ℕ → EReal) : 0 + ∑ k : Fin R, f (R * 0 + k.val) = ∑ r ∈ range (R * (0 + 1)), f r := by
  rw [← sum_tile, Nat.mul_zero, Finset.range_zero, Finset.sum_empty]

/-- A sum whose terms are zero from `n` on. -/
theorem sum_short (n N : ℕ) (h : n ≤ N) (f : ℕ → EReal) (h0 : ∀ k, n ≤ k → f k = 0) : ∑ k : Fin N, f k.val = ∑ k : Fin n, f k.val := by
  rw [← sum_range f, ← sum_range f]
  exact (sum_subset (range_mono h) fun k _ hk => h0 k (by simpa using hk)).symm

end Cert.Sides

end
-- ==== Proof.Sb.Tile.lean ====
module

public import proofs.«01_k».proof.Proof.Sides.Math
public import proofs.«01_k».proof.Proof.Gen.Kernel3Ideal.Skeleton

@[expose] public section

set_option maxRecDepth 16384

/-!
# The calls around mixer B's attention, tile by tile

What each call computes of one of its tiles: where the tile holds the rows from `R` on, the results are these rows' values.
-/

noncomputable section

namespace Cert.Kernel3Ideal.Hand

open Cert.Kernel3Ideal Cert.Kernel3Ideal.Gen Cert.Sides Finset
open Idealize.ShloMosaic Idealize.ShloMosaic.TcCoe

variable {L : Sides 3072} {R : ℕ}

section Norm

variable {X C : Vec Ideal S384x1024 .f32} {N : Vec Ideal S1x1024 .f32} {A : Vec Ideal S1024x3072 .bf16}

/-- The factor of a row. -/
theorem rs_tile (hX : Is X fun r d => L.x (R + r) d) (r : Fin 384) : k5_pay3 X (ix2 r 0) = L.rs (R + r.val) := by
  pointwise [k5_pay3]
  simp only [hX _ _, Dense.ofBits_eps, Dense.ofBits_kilo]
  rfl

/-- The normalised rows with the gain. -/
theorem b_tile (hX : Is X fun r d => L.x (R + r) d) (hN : Is N fun _ d => L.n d) : Is (k0_pay1 X N) fun r d => L.b (R + r) d := by
  intro r c
  have h := rs_tile hX r
  pointwise [k5_pay3] at h
  pointwise [k0_pay1]
  rw [h, hX, hN]
  rfl

/-- The attention's inputs. -/
theorem p_tile (hX : Is X fun r d => L.x (R + r) d) (hN : Is N fun _ d => L.n d) (hA : Is A L.w) :
    Is (k0_pay2 X N A) fun r j => L.p (R + r) j := by
  intro r c
  pointwise [k0_pay2]
  exact sum_congr rfl fun k _ => by rw [b_tile hX hN, hA]

end Norm

/-- The rows with the attention's result. -/
theorem out_tile {A : Vec Ideal S768x1024 .bf16} {W : Vec Ideal S1024x1024 .bf16} {X : Vec Ideal S768x1024 .f32}
    (hA : Is A fun r j => L.o (R + r) j) (hW : Is W L.wo) (hX : Is X fun r d => L.x (R + r) d) :
    Is (k1_pay1 A W X) fun r d => L.out (R + r) d := by
  intro r c
  pointwise [k1_pay1]
  rw [hX]
  exact congrArg (· + _) (sum_congr rfl fun k _ => by rw [hA, hW])

/-- The gradient of the attention's result. -/
theorem do_tile {C : Vec Ideal S768x1024 .f32} {W : Vec Ideal S1024x1024 .bf16} (hC : Is C fun r d => L.ct (R + r) d) (hW : Is W L.wo) :
    Is (k2_pay1 C W) fun r k => L.do' (R + r) k := by
  intro r c
  pointwise [k2_pay1]
  exact sum_congr rfl fun k _ => by rw [hC, hW]

/-! ## The weights' gradients: a tile's rows are added to what was summed before -/

variable {f a b : ℕ → ℕ → EReal}

/-- Both start from zero, -/
theorem zero3 : Is (k3_pay1 (F := Ideal)) fun _ _ => 0 := by
  intro r c
  pointwise [k3_pay1]

@[inherit_doc zero3] theorem zero4 : Is (k4_pay1 (F := Ideal)) fun _ _ => 0 := by
  intro r c
  pointwise [k4_pay1]

/-- and add a tile's rows. -/
theorem add3 {P : Vec Ideal S1024x1024 .f32} {A : Vec Ideal S768x1024 .bf16} {B : Vec Ideal S768x1024 .f32} (hP : Is P f) (hA : Is A a) (hB : Is B b) :
    Is (k3_pay2 P A B) fun i j => f i j + ∑ k : Fin 768, a k.val i * b k.val j := by
  intro r c
  pointwise [k3_pay2]
  rw [hP]
  exact congrArg (_ + ·) (sum_congr rfl fun k _ => by rw [hA, hB])

@[inherit_doc add3] theorem add4 {P : Vec Ideal S1024x1024 .f32} {A : Vec Ideal S768x1024 .bf16} {B : Vec Ideal S768x1024 .bf16} (hP : Is P f) (hA : Is A a) (hB : Is B b) :
    Is (k4_pay2 P A B) fun i j => f i j + ∑ k : Fin 768, a k.val i * b k.val j := by
  intro r c
  pointwise [k4_pay2]
  rw [hP]
  exact congrArg (_ + ·) (sum_congr rfl fun k _ => by rw [hA, hB])

/-! ## The gradient of the rows and of the gain -/

section Rows

variable {X C : Vec Ideal S384x1024 .f32} {N P : Vec Ideal S1x1024 .f32} {A : Vec Ideal S1024x3072 .bf16} {D : Vec Ideal S384x3072 .bf16}

/-- The gradient of the normalised rows with the gain, -/
theorem da_tile (hD : Is D fun r j => L.dp (R + r) j) (hA : Is A L.w) : Is (k5_pay2 D A) fun r d => L.da (R + r) d := by
  intro r c
  pointwise [k5_pay2]
  exact sum_congr rfl fun k _ => by rw [hD, hA]

/-- the normalised rows, -/
theorem y_tile (hX : Is X fun r d => L.x (R + r) d) : Is (k5_pay4 X) fun r d => L.y (R + r) d := by
  intro r c
  pointwise [k5_pay4]
  rw [rs_tile hX, hX]
  rfl

/-- the gradient of the rows, -/
theorem dx_tile (hD : Is D fun r j => L.dp (R + r) j) (hA : Is A L.w) (hX : Is X fun r d => L.x (R + r) d)
    (hN : Is N fun _ d => L.n d) (hC : Is C fun r d => L.ct (R + r) d) : Is (k5_pay5 D A X N C) fun r d => L.dx (R + r) d := by
  intro r c
  pointwise [k5_pay5]
  rw [sum_congr rfl fun k _ => show _ = L.dy (R + r.val) k.val * L.y (R + r.val) k.val by rw [da_tile hD hA, hN, y_tile hX]; rfl,
    da_tile hD hA, hN, y_tile hX, rs_tile hX, hC, Dense.ofBits_kilo]
  rfl

/-- and of the gain: the sum starts from zero, -/
theorem zero5 : Is (k5_pay6 (F := Ideal)) fun _ _ => 0 := by
  intro r c
  pointwise [k5_pay6]

/-- and adds a tile's rows. -/
theorem dn_tile {D Y : Vec Ideal S384x1024 .f32} (hD : Is D a) (hY : Is Y b) (hP : Is P f) :
    Is (k5_pay1 D Y P) fun i d => f i d + ∑ k : Fin 384, a k.val d * b k.val d := by
  intro r c
  obtain rfl : r = 0 := Subsingleton.elim _ _
  pointwise [k5_pay1]
  rw [hP]
  exact congrArg (_ + ·) (sum_congr rfl fun k _ => by rw [hD, hY])

end Rows

end Cert.Kernel3Ideal.Hand

end
-- ==== Proof.Sb.In.lean ====
module

public import proofs.«01_k».proof.Proof.Sb.Tile
public import proofs.«01_k».proof.Proof.Gen.Kernel3Ideal.Frame
public import Idealize.ShloMosaic.Lib.Pipeline.ValueKit

@[expose] public section

set_option maxRecDepth 16384

/-!
# The first call: the attention's inputs and the normalised rows

Each of the 22 points has 384 rows.
-/

noncomputable section

namespace Cert.Kernel3Ideal.Hand

open Cert.Kernel3Ideal Cert.Kernel3Ideal.Gen Cert.Sides Finset
open Idealize.ShloMosaic Idealize.ShloMosaic.TcCoe

/-- Where the points' blocks lie. -/
theorem places0 : ∀ t : Fin cfg0.N, win0_0.index t = ![t.val, 0]
    ∧ win0_1.index t = ![0, 0]
    ∧ win0_2.index t = ![0, 0]
    ∧ win0_3.index t = ![t.val, 0]
    ∧ win0_4.index t = ![t.val, 0] := by decide +kernel

theorem lt0 (t : Fin cfg0.N) : t.val < 22 := t.isLt

variable {V : (c : Dev nD) → (b : Ref sig .tc) → Buf (Elt Ideal) ((c : Thread nD τ).loc b)} {c : Dev nD} {L : Sides 3072}
  (hx : Is (R := 8448) (C := 1024) (V c main_arg0) L.x)
  (hn : Is (R := 1) (C := 1024) (V c main_v0) fun _ d => L.n d)
  (hw : Is (R := 1024) (C := 3072) (V c main_v1) L.w) (t : Fin cfg0.N)

include hx in
/-- A point's rows, -/
theorem x0 : Is (R := 384) (C := 1024) (iblk0 V c 0 t) fun r d => L.x (384 * t.val + r) d := fun r l =>
  Eq.trans (b := V c main_arg0 (ix2 (⟨384 * t.val + r.val, by have := lt0 t; omega⟩ : Fin 8448) l)) (by blk_ext [iblk0, places0 t]) (hx _ _)

include hn in
/-- the gain, -/
theorem n0 : Is (R := 1) (C := 1024) (iblk0 V c 1 t) fun _ d => L.n d := fun r l =>
  Eq.trans (b := V c main_v0 (ix2 r l)) (by blk_ext [iblk0, places0 t]) (hn _ _)

include hw in
/-- and the weight. -/
theorem w0 : Is (R := 1024) (C := 3072) (iblk0 V c 2 t) L.w := fun r l =>
  Eq.trans (b := V c main_v1 (ix2 r l)) (by blk_ext [iblk0, places0 t]) (hw _ _)

include hx hn hw in
/-- The array of the attention's inputs in the end, -/
theorem arr_p : (dat0 V c).arrAt 3 cfg0.N = arr L.p := by
  refine (dat0 V c).arrAt_eq_of_covers 3 _ (by decide +kernel) fun t hf y => ?_
  blk_simp
  rw [after0_3]
  obtain ⟨r, l, rfl⟩ : ∃ (r : Fin 384) (l : Fin 3072), y = ix2 r l := ⟨y 0, y 1, eq_ix2 y⟩
  rw [show (win0_3.blk t).view.emb (ix2 r l) = ix2 (⟨384 * t.val + r.val, by have := lt0 t; omega⟩ : Fin 8448) l by blk_ext [places0 t]]
  frame_out
  exact p_tile (x0 hx t) (n0 hn t) (w0 hw t) r l

include hx hn in
/-- and that of the normalised rows with the gain. -/
theorem arr_b : (dat0 V c).arrAt 4 cfg0.N = arr L.b := by
  refine (dat0 V c).arrAt_eq_of_covers 4 _ (by decide +kernel) fun t hf y => ?_
  blk_simp
  rw [after0_4]
  obtain ⟨r, l, rfl⟩ : ∃ (r : Fin 384) (l : Fin 1024), y = ix2 r l := ⟨y 0, y 1, eq_ix2 y⟩
  rw [show (win0_4.blk t).view.emb (ix2 r l) = ix2 (⟨384 * t.val + r.val, by have := lt0 t; omega⟩ : Fin 8448) l by blk_ext [places0 t]]
  frame_out
  exact b_tile (x0 hx t) (n0 hn t) r l

end Cert.Kernel3Ideal.Hand

end
-- ==== Proof.Sb.Out.lean ====
module

public import proofs.«01_k».proof.Proof.Sb.Tile
public import proofs.«01_k».proof.Proof.Gen.Kernel3Ideal.Frame
public import Idealize.ShloMosaic.Lib.Pipeline.ValueKit

@[expose] public section

set_option maxRecDepth 16384

/-!
# The calls with one weight

Each point has 768 rows: the rows with the attention's result, and the gradient of that result.
-/

noncomputable section

namespace Cert.Kernel3Ideal.Hand

open Cert.Kernel3Ideal Cert.Kernel3Ideal.Gen Cert.Sides Finset
open Idealize.ShloMosaic Idealize.ShloMosaic.TcCoe

section Out

/-- Where the points' blocks lie. -/
theorem places1 : ∀ t : Fin cfg1.N, win1_0.index t = ![t.val, 0]
    ∧ win1_1.index t = ![0, 0]
    ∧ win1_2.index t = ![t.val, 0]
    ∧ win1_3.index t = ![t.val, 0] := by decide +kernel

theorem lt1 (t : Fin cfg1.N) : t.val < 11 := t.isLt

variable {V : (c : Dev nD) → (b : Ref sig .tc) → Buf (Elt Ideal) ((c : Thread nD τ).loc b)} {c : Dev nD} {L : Sides 3072}
  (ho : Is (R := 8448) (C := 1024) (V c main_v3) L.o)
  (hw : Is (R := 1024) (C := 1024) (V c main_v2) L.wo)
  (hx : Is (R := 8448) (C := 1024) (V c main_arg0) L.x) (t : Fin cfg1.N)

include ho in
/-- A point's rows of the attention's result, -/
theorem o1 : Is (R := 768) (C := 1024) (iblk1 V c 0 t) fun r j => L.o (768 * t.val + r) j := fun r l =>
  Eq.trans (b := V c main_v3 (ix2 (⟨768 * t.val + r.val, by have := lt1 t; omega⟩ : Fin 8448) l)) (by blk_ext [iblk1, places1 t]) (ho _ _)

include hw in
/-- the weight, -/
theorem w1 : Is (R := 1024) (C := 1024) (iblk1 V c 1 t) L.wo := fun r l =>
  Eq.trans (b := V c main_v2 (ix2 r l)) (by blk_ext [iblk1, places1 t]) (hw _ _)

include hx in
/-- and the rows. -/
theorem x1 : Is (R := 768) (C := 1024) (iblk1 V c 2 t) fun r d => L.x (768 * t.val + r) d := fun r l =>
  Eq.trans (b := V c main_arg0 (ix2 (⟨768 * t.val + r.val, by have := lt1 t; omega⟩ : Fin 8448) l)) (by blk_ext [iblk1, places1 t]) (hx _ _)

include ho hw hx in
/-- The array of the sum in the end. -/
theorem arr_out : (dat1 V c).arrAt 3 cfg1.N = arr L.out := by
  refine (dat1 V c).arrAt_eq_of_covers 3 _ (by decide +kernel) fun t hf y => ?_
  blk_simp
  rw [after1_3]
  obtain ⟨r, l, rfl⟩ : ∃ (r : Fin 768) (l : Fin 1024), y = ix2 r l := ⟨y 0, y 1, eq_ix2 y⟩
  rw [show (win1_3.blk t).view.emb (ix2 r l) = ix2 (⟨768 * t.val + r.val, by have := lt1 t; omega⟩ : Fin 8448) l by blk_ext [places1 t]]
  frame_out
  exact out_tile (o1 ho t) (w1 hw t) (x1 hx t) r l

end Out

section Back

/-- Where the points' blocks lie. -/
theorem places2 : ∀ t : Fin cfg2.N, win2_0.index t = ![t.val, 0]
    ∧ win2_1.index t = ![0, 0]
    ∧ win2_2.index t = ![t.val, 0] := by decide +kernel

theorem lt2 (t : Fin cfg2.N) : t.val < 11 := t.isLt

variable {V : (c : Dev nD) → (b : Ref sig .tc) → Buf (Elt Ideal) ((c : Thread nD τ).loc b)} {c : Dev nD} {L : Sides 3072}
  (hc : Is (R := 8448) (C := 1024) (V c main_arg6) L.ct)
  (hw : Is (R := 1024) (C := 1024) (V c main_v2) L.wo) (t : Fin cfg2.N)

include hc in
/-- A point's rows of the gradient of the sum, -/
theorem c2 : Is (R := 768) (C := 1024) (iblk2 V c 0 t) fun r d => L.ct (768 * t.val + r) d := fun r l =>
  Eq.trans (b := V c main_arg6 (ix2 (⟨768 * t.val + r.val, by have := lt2 t; omega⟩ : Fin 8448) l)) (by blk_ext [iblk2, places2 t]) (hc _ _)

include hw in
/-- and the weight. -/
theorem w2 : Is (R := 1024) (C := 1024) (iblk2 V c 1 t) L.wo := fun r l =>
  Eq.trans (b := V c main_v2 (ix2 r l)) (by blk_ext [iblk2, places2 t]) (hw _ _)

include hc hw in
/-- The array of the gradient in the end. -/
theorem arr_do : (dat2 V c).arrAt 2 cfg2.N = arr L.do' := by
  refine (dat2 V c).arrAt_eq_of_covers 2 _ (by decide +kernel) fun t hf y => ?_
  blk_simp
  rw [after2_2]
  obtain ⟨r, l, rfl⟩ : ∃ (r : Fin 768) (l : Fin 1024), y = ix2 r l := ⟨y 0, y 1, eq_ix2 y⟩
  rw [show (win2_2.blk t).view.emb (ix2 r l) = ix2 (⟨768 * t.val + r.val, by have := lt2 t; omega⟩ : Fin 8448) l by blk_ext [places2 t]]
  frame_out
  exact do_tile (c2 hc t) (w2 hw t) r l

end Back

end Cert.Kernel3Ideal.Hand

end
-- ==== Proof.Sb.Weights.lean ====
module

public import proofs.«01_k».proof.Proof.Sb.Tile
public import proofs.«01_k».proof.Proof.Gen.Kernel3Ideal.Frame
public import Idealize.ShloMosaic.Lib.Pipeline.ValueKit

@[expose] public section

set_option maxRecDepth 16384

/-!
# The weights' gradients

Each point adds 768 rows to the part of the gradient that it keeps; eleven points pass all rows.
-/

noncomputable section

namespace Cert.Kernel3Ideal.Hand

open Cert.Kernel3Ideal Cert.Kernel3Ideal.Gen Cert.Sides Finset
open Idealize.ShloMosaic Idealize.ShloMosaic.TcCoe

section O

/-- Where the points' blocks lie. -/
theorem places3 : ∀ t : Fin cfg3.N, win3_0.index t = ![t.val % 11, 0]
    ∧ win3_1.index t = ![t.val % 11, 0]
    ∧ win3_2.index t = ![0, 0] := by decide +kernel

theorem lt3 (t : Fin cfg3.N) : t.val < 11 := t.isLt

variable {V : (c : Dev nD) → (b : Ref sig .tc) → Buf (Elt Ideal) ((c : Thread nD τ).loc b)} {c : Dev nD} {L : Sides 3072}
  (ha : Is (R := 8448) (C := 1024) (V c main_v3) L.o)
  (hb : Is (R := 8448) (C := 1024) (V c main_arg6) L.ct) (t : Fin cfg3.N)

include ha in
/-- A point's rows of the left factor, -/
theorem left3 : Is (R := 768) (C := 1024) (iblk3 V c 0 t) fun r j => L.o (768 * (t.val % 11) + r) j := fun r l =>
  Eq.trans (b := V c main_v3 (ix2 (⟨768 * (t.val % 11) + r.val, by have := lt3 t; omega⟩ : Fin 8448) l)) (by blk_ext [iblk3, places3 t]) (ha _ _)

include hb in
/-- and of the right one. -/
theorem right3 : Is (R := 768) (C := 1024) (iblk3 V c 1 t) fun r j => L.ct (768 * (t.val % 11) + r) j := fun r l =>
  Eq.trans (b := V c main_arg6 (ix2 (⟨768 * (t.val % 11) + r.val, by have := lt3 t; omega⟩ : Fin 8448) l)) (by blk_ext [iblk3, places3 t]) (hb _ _)

include ha hb in
/-- After a point the part kept is the sum over the rows so far. -/
theorem sums3 (n : ℕ) (hn : n < cfg3.N) : Is (R := 1024) (C := 1024) (outsAt3 V c n hn) fun i j =>
    ∑ r ∈ range (768 * (n % 11 + 1)), L.o r i * L.ct r j := by
  induction n with
  | zero =>
    have e := outsAt3_A V c ⟨0, hn⟩ rfl
    refine fun r l => (congrFun e _).trans ?_
    frame_out
    refine (add3 zero3 (left3 ha ⟨0, hn⟩) (right3 hb ⟨0, hn⟩) r l).trans ?_
    simp only [Nat.zero_mod]
    rw [← sum_first]
  | succ n ih =>
    by_cases h : (n + 1) % 11 = 0
    · have e := outsAt3_A V c ⟨n + 1, hn⟩ h
      refine fun r l => (congrFun e _).trans ?_
      frame_out
      refine (add3 zero3 (left3 ha ⟨n + 1, hn⟩) (right3 hb ⟨n + 1, hn⟩) r l).trans ?_
      simp only [h]
      rw [← sum_first]
    · have e := outsAt3_B V c ⟨n + 1, hn⟩ h
      refine fun r l => (congrFun e _).trans ?_
      frame_out
      refine (add3 (ih (Nat.lt_of_succ_lt hn)) (left3 ha ⟨n + 1, hn⟩) (right3 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dwo : (dat3 V c).arrAt 2 cfg3.N = arr L.dwo := by
  refine (dat3 V c).arrAt_eq_of_covers 2 _ (by decide +kernel) fun t hf y => ?_
  have e := (flush3_2 t).mp hf
  blk_simp
  rw [after3_2]
  obtain ⟨r, l, rfl⟩ : ∃ (r : Fin 1024) (l : Fin 1024), y = ix2 r l := ⟨y 0, y 1, eq_ix2 y⟩
  rw [show (win3_2.blk t).view.emb (ix2 r l) = ix2 r l by blk_ext [places3 t]]
  refine (sums3 ha hb t.val t.isLt r l).trans ?_
  simp only [e]
  rw [Finset.sum_range]
  rfl

end O

section P

/-- Where the points' blocks lie. -/
theorem places4 : ∀ t : Fin cfg4.N, win4_0.index t = ![t.val % 11, 0]
    ∧ win4_1.index t = ![t.val % 11, t.val / 11]
    ∧ win4_2.index t = ![0, t.val / 11] := by decide +kernel

theorem lt4 (t : Fin cfg4.N) : t.val < 33 := t.isLt

variable {V : (c : Dev nD) → (b : Ref sig .tc) → Buf (Elt Ideal) ((c : Thread nD τ).loc b)} {c : Dev nD} {L : Sides 3072}
  (ha : Is (R := 8448) (C := 1024) (V c main_v5_1) L.b)
  (hb : Is (R := 8448) (C := 3072) (V c main_v4) L.dp) (t : Fin cfg4.N)

include ha in
/-- A point's rows of the left factor, -/
theorem left4 : Is (R := 768) (C := 1024) (iblk4 V c 0 t) fun r j => L.b (768 * (t.val % 11) + r) j := fun r l =>
  Eq.trans (b := V c main_v5_1 (ix2 (⟨768 * (t.val % 11) + r.val, by have := lt4 t; omega⟩ : Fin 8448) l)) (by blk_ext [iblk4, places4 t]) (ha _ _)

include hb in
/-- and of the right one. -/
theorem right4 : Is (R := 768) (C := 1024) (iblk4 V c 1 t) fun r j => L.dp (768 * (t.val % 11) + r) (1024 * (t.val / 11) + j) := fun r l =>
  Eq.trans (b := V c main_v4 (ix2 (⟨768 * (t.val % 11) + r.val, by have := lt4 t; omega⟩ : Fin 8448) (⟨1024 * (t.val / 11) + l.val, by have := lt4 t; omega⟩ : Fin 3072))) (by blk_ext [iblk4, places4 t]) (hb _ _)

include ha hb in
/-- After a point the part kept is the sum over the rows so far. -/
theorem sums4 (n : ℕ) (hn : n < cfg4.N) : Is (R := 1024) (C := 1024) (outsAt4 V c n hn) fun i j =>
    ∑ r ∈ range (768 * (n % 11 + 1)), L.b r i * L.dp r (1024 * (n / 11) + j) := by
  induction n with
  | zero =>
    have e := outsAt4_A V c ⟨0, hn⟩ rfl
    refine fun r l => (congrFun e _).trans ?_
    frame_out
    refine (add4 zero4 (left4 ha ⟨0, hn⟩) (right4 hb ⟨0, hn⟩) r l).trans ?_
    simp only [Nat.zero_mod]
    rw [← sum_first]
  | succ n ih =>
    by_cases h : (n + 1) % 11 = 0
    · have e := outsAt4_A V c ⟨n + 1, hn⟩ h
      refine fun r l => (congrFun e _).trans ?_
      frame_out
      refine (add4 zero4 (left4 ha ⟨n + 1, hn⟩) (right4 hb ⟨n + 1, hn⟩) r l).trans ?_
      simp only [h]
      rw [← sum_first]
    · have e := outsAt4_B V c ⟨n + 1, hn⟩ h
      refine fun r l => (congrFun e _).trans ?_
      frame_out
      refine (add4 (ih (Nat.lt_of_succ_lt hn)) (left4 ha ⟨n + 1, hn⟩) (right4 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dw : (dat4 V c).arrAt 2 cfg4.N = arr L.dw := by
  refine (dat4 V c).arrAt_eq_of_covers 2 _ (by decide +kernel) fun t hf y => ?_
  have e := (flush4_2 t).mp hf
  blk_simp
  rw [after4_2]
  obtain ⟨r, l, rfl⟩ : ∃ (r : Fin 1024) (l : Fin 1024), y = ix2 r l := ⟨y 0, y 1, eq_ix2 y⟩
  rw [show (win4_2.blk t).view.emb (ix2 r l) = ix2 r (⟨1024 * (t.val / 11) + l.val, by have := lt4 t; omega⟩ : Fin 3072) by blk_ext [places4 t]]
  refine (sums4 ha hb t.val t.isLt r l).trans ?_
  simp only [e]
  rw [Finset.sum_range]
  rfl

end P

end Cert.Kernel3Ideal.Hand

end
-- ==== Proof.Sb.Rows.lean ====
module

public import proofs.«01_k».proof.Proof.Sb.Tile
public import proofs.«01_k».proof.Proof.Gen.Kernel3Ideal.Frame
public import Idealize.ShloMosaic.Lib.Pipeline.ValueKit

@[expose] public section

set_option maxRecDepth 16384

/-!
# The last call: the gradients of the rows and of the gain

Each of the 22 points has 384 rows; the gain's gradient is kept between them, and each adds its rows to it.
-/

noncomputable section

namespace Cert.Kernel3Ideal.Hand

open Cert.Kernel3Ideal Cert.Kernel3Ideal.Gen Cert.Sides Finset
open Idealize.ShloMosaic Idealize.ShloMosaic.TcCoe

/-- Where the points' blocks lie. -/
theorem places5 : ∀ t : Fin cfg5.N, win5_0.index t = ![t.val, 0]
    ∧ win5_1.index t = ![0, 0]
    ∧ win5_2.index t = ![t.val, 0]
    ∧ win5_3.index t = ![0, 0]
    ∧ win5_4.index t = ![t.val, 0]
    ∧ win5_5.index t = ![t.val, 0]
    ∧ win5_6.index t = ![0, 0] := by decide +kernel

theorem lt5 (t : Fin cfg5.N) : t.val < 22 := t.isLt

variable {V : (c : Dev nD) → (b : Ref sig .tc) → Buf (Elt Ideal) ((c : Thread nD τ).loc b)} {c : Dev nD} {L : Sides 3072}
  (hd : Is (R := 8448) (C := 3072) (V c main_v4) L.dp)
  (ha : Is (R := 1024) (C := 3072) (V c main_v1) L.w)
  (hx : Is (R := 8448) (C := 1024) (V c main_arg0) L.x)
  (hn : Is (R := 1) (C := 1024) (V c main_v0) fun _ d => L.n d)
  (hc : Is (R := 8448) (C := 1024) (V c main_arg6) L.ct) (t : Fin cfg5.N)

include hd in
/-- A point's rows of the gradient of the attention's inputs, -/
theorem d5 : Is (R := 384) (C := 3072) (iblk5 V c 0 t) fun r j => L.dp (384 * t.val + r) j := fun r l =>
  Eq.trans (b := V c main_v4 (ix2 (⟨384 * t.val + r.val, by have := lt5 t; omega⟩ : Fin 8448) l)) (by blk_ext [iblk5, places5 t]) (hd _ _)

include ha in
/-- the weight, -/
theorem a5 : Is (R := 1024) (C := 3072) (iblk5 V c 1 t) L.w := fun r l =>
  Eq.trans (b := V c main_v1 (ix2 r l)) (by blk_ext [iblk5, places5 t]) (ha _ _)

include hx in
/-- its rows, -/
theorem x5 : Is (R := 384) (C := 1024) (iblk5 V c 2 t) fun r d => L.x (384 * t.val + r) d := fun r l =>
  Eq.trans (b := V c main_arg0 (ix2 (⟨384 * t.val + r.val, by have := lt5 t; omega⟩ : Fin 8448) l)) (by blk_ext [iblk5, places5 t]) (hx _ _)

include hn in
/-- the gain, -/
theorem n5 : Is (R := 1) (C := 1024) (iblk5 V c 3 t) fun _ d => L.n d := fun r l =>
  Eq.trans (b := V c main_v0 (ix2 r l)) (by blk_ext [iblk5, places5 t]) (hn _ _)

include hc in
/-- and its rows of the gradient of the sum. -/
theorem c5 : Is (R := 384) (C := 1024) (iblk5 V c 4 t) fun r d => L.ct (384 * t.val + r) d := fun r l =>
  Eq.trans (b := V c main_arg6 (ix2 (⟨384 * t.val + r.val, by have := lt5 t; omega⟩ : Fin 8448) l)) (by blk_ext [iblk5, places5 t]) (hc _ _)

include hd ha hx in
/-- After a point the gain's gradient is the sum over the rows so far. -/
theorem sums5 (n : ℕ) (hn : n < cfg5.N) : Is (R := 1) (C := 1024) (outsAt5 V c n hn).2 fun _ d =>
    ∑ r ∈ range (384 * (n + 1)), L.da r d * L.y r d := by
  induction n with
  | zero =>
    have e := congrArg Prod.snd (outsAt5_A V c ⟨0, hn⟩ rfl)
    refine fun r l => (congrFun e _).trans ?_
    frame_out
    refine (dn_tile (da_tile (d5 hd ⟨0, hn⟩) (a5 ha ⟨0, hn⟩)) (y_tile (x5 hx ⟨0, hn⟩)) zero5 r l).trans ?_
    rw [← sum_first]
  | succ n ih =>
    have h : ¬(n + 1) % 22 = 0 := by have : n + 1 < 22 := hn; omega
    have e := congrArg Prod.snd (outsAt5_B V c ⟨n + 1, hn⟩ h)
    refine fun r l => (congrFun e _).trans ?_
    frame_out
    refine (dn_tile (da_tile (d5 hd ⟨n + 1, hn⟩) (a5 ha ⟨n + 1, hn⟩)) (y_tile (x5 hx ⟨n + 1, hn⟩))
      (ih (Nat.lt_of_succ_lt hn)) r l).trans ?_
    rw [← sum_tile 384 (n + 1)]

include hd ha hx hn hc in
/-- A point leaves its rows' gradient. -/
theorem rows5 : Is (R := 384) (C := 1024) (outsAt5 V c t.val t.isLt).1 fun r d => L.dx (384 * t.val + r) d := by
  by_cases h : t.val % 22 = 0
  · have e := congrArg Prod.fst (outsAt5_A V c t h)
    refine fun r l => (congrFun e _).trans ?_
    frame_out
    exact dx_tile (d5 hd t) (a5 ha t) (x5 hx t) (n5 hn t) (c5 hc t) r l
  · have e := congrArg Prod.fst (outsAt5_B V c t h)
    refine fun r l => (congrFun e _).trans ?_
    frame_out
    exact dx_tile (d5 hd t) (a5 ha t) (x5 hx t) (n5 hn t) (c5 hc t) r l

include hd ha hx hn hc in
/-- The array of the rows' gradient in the end, -/
theorem arr_dx : (dat5 V c).arrAt 5 cfg5.N = arr L.dx := by
  refine (dat5 V c).arrAt_eq_of_covers 5 _ (by decide +kernel) fun t hf y => ?_
  blk_simp
  rw [after5_5]
  obtain ⟨r, l, rfl⟩ : ∃ (r : Fin 384) (l : Fin 1024), y = ix2 r l := ⟨y 0, y 1, eq_ix2 y⟩
  rw [show (win5_5.blk t).view.emb (ix2 r l) = ix2 (⟨384 * t.val + r.val, by have := lt5 t; omega⟩ : Fin 8448) l by blk_ext [places5 t]]
  exact rows5 hd ha hx hn hc t r l

include hd ha hx in
/-- and of the gain's. -/
theorem arr_dn : (dat5 V c).arrAt 6 cfg5.N = arr fun _ d => L.dn d := by
  refine (dat5 V c).arrAt_eq_of_covers 6 _ (by decide +kernel) fun t hf y => ?_
  have e := (flush5_6 t).mp hf
  have e' : t.val = 21 := by have := lt5 t; omega
  blk_simp
  rw [after5_6]
  obtain ⟨r, l, rfl⟩ : ∃ (r : Fin 1) (l : Fin 1024), y = ix2 r l := ⟨y 0, y 1, eq_ix2 y⟩
  rw [show (win5_6.blk t).view.emb (ix2 r l) = ix2 r l by blk_ext [places5 t]]
  refine (sums5 hd ha hx t.val t.isLt r l).trans ?_
  simp only [e']
  rw [Finset.sum_range]
  rfl

end Cert.Kernel3Ideal.Hand

end
-- ==== Proof.Sb.Trace.lean ====
module

public import proofs.«01_k».proof.Proof.Sb.In
public import proofs.«01_k».proof.Proof.Sb.Out
public import proofs.«01_k».proof.Proof.Sb.Weights
public import proofs.«01_k».proof.Proof.Sb.Rows
public import proofs.«01_k».proof.Proof.Gen.Kernel3Ideal.Frame
public import Idealize.ShloMosaic.Lib.StableHlo.RunRead
public import Idealize.ShloMosaic.Lib.Pointwise

@[expose] public section

set_option maxRecDepth 16384

/-!
# From call to call, around mixer B's attention

What each call finds in its operands, and what the results hold after the last call. `at5_wo`, say, is what the weight
back to the rows is when the call at boundary 5 begins.
-/

noncomputable section

namespace Cert.Kernel3Ideal.Hand

open Cert.Kernel3Ideal Cert.Kernel3Ideal.Gen Cert.Sides
open Idealize.ShloMosaic Idealize.ShloMosaic.TcCoe

/-- The arguments hold a mixer's numbers. -/
structure Holds (m : (ℓ : Loc nD τ sig) → Buf (Elt Ideal) ℓ) (c : Dev nD) (L : Sides 3072) : Prop where
  x : Is (R := 8448) (C := 1024) (m ((c : Thread nD τ).loc main_arg0)) L.x
  n : ∀ d : Fin 1024, (m ((c : Thread nD τ).loc main_arg1) : S1024.Idx → EReal) (ix1 d) = L.n d.val
  w : Is (R := 1024) (C := 3072) (m ((c : Thread nD τ).loc main_arg2)) L.w
  o : Is (R := 8448) (C := 1024) (m ((c : Thread nD τ).loc main_arg3)) L.o
  wo : Is (R := 1024) (C := 1024) (m ((c : Thread nD τ).loc main_arg4)) L.wo
  dp : Is (R := 8448) (C := 3072) (m ((c : Thread nD τ).loc main_arg5)) L.dp
  ct : Is (R := 8448) (C := 1024) (m ((c : Thread nD τ).loc main_arg6)) L.ct

variable {m : (ℓ : Loc nD τ sig) → Buf (Elt Ideal) ℓ} {c : Dev nD} {L : Sides 3072} (ρ : Dev nD → PrngReg) (h : Holds m c L)

/-! ## Before the first call -/

/-- The host's gain row, -/
theorem read_n : V1 m ρ c main_v0 = broadcastInDim S1x1024 ![1] bcast_S1024_S1x1024_1 (m ((c : Thread nD τ).loc main_arg1)) := by
  after_reads_simp

/-- and its casts. -/
theorem read_w : V1 m ρ c main_v1 = (truncf (F := Ideal) .bf16 (m ((c : Thread nD τ).loc main_arg2) : FVec Ideal S1024x3072 .f32) bitsLt_bf16_f32 : FVec Ideal S1024x3072 .bf16) := by
  after_reads_simp

@[inherit_doc read_w]
theorem read_wo : V1 m ρ c main_v2 = (truncf (F := Ideal) .bf16 (m ((c : Thread nD τ).loc main_arg4) : FVec Ideal S1024x1024 .f32) bitsLt_bf16_f32 : FVec Ideal S1024x1024 .bf16) := by
  after_reads_simp

@[inherit_doc read_w]
theorem read_o : V1 m ρ c main_v3 = (truncf (F := Ideal) .bf16 (m ((c : Thread nD τ).loc main_arg3) : FVec Ideal S8448x1024 .f32) bitsLt_bf16_f32 : FVec Ideal S8448x1024 .bf16) := by
  after_reads_simp

@[inherit_doc read_w]
theorem read_dp : V1 m ρ c main_v4 = (truncf (F := Ideal) .bf16 (m ((c : Thread nD τ).loc main_arg5) : FVec Ideal S8448x3072 .f32) bitsLt_bf16_f32 : FVec Ideal S8448x3072 .bf16) := by
  after_reads_simp

include h

/-- The gain, -/
theorem at1_n : Is (R := 1) (C := 1024) (V1 m ρ c main_v0) fun _ d => L.n d := fun r d => by
  rw [read_n ρ]
  pointwise
  exact h.n d

/-- the weight to the attention's inputs, -/
theorem at1_w : Is (R := 1024) (C := 3072) (V1 m ρ c main_v1) L.w := fun r d =>
  (congrFun (read_w ρ) (ix2 r d)).trans (h.w r d)

/-- the weight back to the rows, -/
theorem at1_wo : Is (R := 1024) (C := 1024) (V1 m ρ c main_v2) L.wo := fun r d =>
  (congrFun (read_wo ρ) (ix2 r d)).trans (h.wo r d)

/-- the attention's result -/
theorem at1_o : Is (R := 8448) (C := 1024) (V1 m ρ c main_v3) L.o := fun r d =>
  (congrFun (read_o ρ) (ix2 r d)).trans (h.o r d)

/-- and the gradient of its inputs. -/
theorem at1_dp : Is (R := 8448) (C := 3072) (V1 m ρ c main_v4) L.dp := fun r d =>
  (congrFun (read_dp ρ) (ix2 r d)).trans (h.dp r d)

/-! ## The attention's inputs -/

/-- The first call finds the rows. -/
theorem at1_x : Is (R := 8448) (C := 1024) (V1 m ρ c main_arg0) L.x := fun r d =>
  (congrFun (W1_args m ρ c main_arg0 (by decide)) (ix2 r d)).trans (h.x r d)

/-- After the first call: the attention's inputs -/
theorem at2_p : W2 m ρ c (Proc.devRef .tc main_v5_0) = arr L.p :=
  (W2_arr m ρ c 3).trans (arr_p (at1_x ρ h) (at1_n ρ h) (at1_w ρ h))

/-- and the normalised rows. -/
theorem at2_b' : W2 m ρ c (Proc.devRef .tc main_v5_1) = arr L.b :=
  (W2_arr m ρ c 4).trans (arr_b (at1_x ρ h) (at1_n ρ h))

/-! ## The rows with the attention's result -/

/-- The next call finds the attention's result, -/
theorem at2_o : Is (R := 8448) (C := 1024) (V2 m ρ c main_v3) L.o := fun r d =>
  (congrFun (W2_of m ρ c main_v3 (by decide)) (ix2 r d)).trans (at1_o ρ h r d)

/-- the weight -/
theorem at2_wo : Is (R := 1024) (C := 1024) (V2 m ρ c main_v2) L.wo := fun r d =>
  (congrFun (W2_of m ρ c main_v2 (by decide)) (ix2 r d)).trans (at1_wo ρ h r d)

/-- and the rows. -/
theorem at2_x : Is (R := 8448) (C := 1024) (V2 m ρ c main_arg0) L.x := fun r d =>
  (congrFun (W2_args m ρ c main_arg0 (by decide)) (ix2 r d)).trans (h.x r d)

/-- After it: the rows with the attention's result. -/
theorem at3_out : W3 m ρ c (Proc.devRef .tc main_v6) = arr L.out :=
  (W3_arr m ρ c 3).trans (arr_out (at2_o ρ h) (at2_wo ρ h) (at2_x ρ h))

/-! ## The gradients -/

/-- The next call finds the incoming gradient -/
theorem at3_ct : Is (R := 8448) (C := 1024) (V3 m ρ c main_arg6) L.ct := fun r d =>
  (congrFun (W3_args m ρ c main_arg6 (by decide)) (ix2 r d)).trans (h.ct r d)

/-- and the weight. -/
theorem at3_wo : Is (R := 1024) (C := 1024) (V3 m ρ c main_v2) L.wo := fun r d =>
  (congrFun ((W3_of m ρ c main_v2 (by decide)).trans (W2_of m ρ c main_v2 (by decide))) (ix2 r d)).trans (at1_wo ρ h r d)

/-- After it: the gradient of the attention's result. -/
theorem at4_do : W4 m ρ c (Proc.devRef .tc main_v7) = arr L.do' :=
  (W4_arr m ρ c 2).trans (arr_do (at3_ct ρ h) (at3_wo ρ h))

/-- The next call finds the attention's result -/
theorem at4_o : Is (R := 8448) (C := 1024) (V4 m ρ c main_v3) L.o := fun r d =>
  (congrFun ((W4_of m ρ c main_v3 (by decide)).trans ((W3_of m ρ c main_v3 (by decide)).trans (W2_of m ρ c main_v3 (by decide)))) (ix2 r d)).trans (at1_o ρ h r d)

/-- and the incoming gradient. -/
theorem at4_ct : Is (R := 8448) (C := 1024) (V4 m ρ c main_arg6) L.ct := fun r d =>
  (congrFun (W4_args m ρ c main_arg6 (by decide)) (ix2 r d)).trans (h.ct r d)

/-- After it: the gradient of the weight back to the rows. -/
theorem at5_dwo : W5 m ρ c (Proc.devRef .tc main_v8) = arr L.dwo :=
  (W5_arr m ρ c 2).trans (arr_dwo (at4_o ρ h) (at4_ct ρ h))

/-- The next call finds the normalised rows -/
theorem at5_b : Is (R := 8448) (C := 1024) (V5 m ρ c main_v5_1) L.b :=
  is_of_eq (((W5_of m ρ c main_v5_1 (by decide)).trans ((W4_of m ρ c main_v5_1 (by decide)).trans (W3_of m ρ c main_v5_1 (by decide)))).trans (at2_b' ρ h))

/-- and the gradient of the attention's inputs. -/
theorem at5_dp : Is (R := 8448) (C := 3072) (V5 m ρ c main_v4) L.dp := fun r d =>
  (congrFun ((W5_of m ρ c main_v4 (by decide)).trans ((W4_of m ρ c main_v4 (by decide)).trans ((W3_of m ρ c main_v4 (by decide)).trans (W2_of m ρ c main_v4 (by decide))))) (ix2 r d)).trans (at1_dp ρ h r d)

/-- After it: the gradient of the weight to the attention's inputs. -/
theorem at6_dw : W6 m ρ c (Proc.devRef .tc main_v9) = arr L.dw :=
  (W6_arr m ρ c 2).trans (arr_dw (at5_b ρ h) (at5_dp ρ h))

/-- The last call finds the gradient of the attention's inputs, -/
theorem at6_dp : Is (R := 8448) (C := 3072) (V6 m ρ c main_v4) L.dp := fun r d =>
  (congrFun ((W6_of m ρ c main_v4 (by decide)).trans ((W5_of m ρ c main_v4 (by decide)).trans ((W4_of m ρ c main_v4 (by decide)).trans ((W3_of m ρ c main_v4 (by decide)).trans (W2_of m ρ c main_v4 (by decide)))))) (ix2 r d)).trans (at1_dp ρ h r d)

/-- the weight, -/
theorem at6_w : Is (R := 1024) (C := 3072) (V6 m ρ c main_v1) L.w := fun r d =>
  (congrFun ((W6_of m ρ c main_v1 (by decide)).trans ((W5_of m ρ c main_v1 (by decide)).trans ((W4_of m ρ c main_v1 (by decide)).trans ((W3_of m ρ c main_v1 (by decide)).trans (W2_of m ρ c main_v1 (by decide)))))) (ix2 r d)).trans (at1_w ρ h r d)

/-- the rows, -/
theorem at6_x : Is (R := 8448) (C := 1024) (V6 m ρ c main_arg0) L.x := fun r d =>
  (congrFun (W6_args m ρ c main_arg0 (by decide)) (ix2 r d)).trans (h.x r d)

/-- the gain -/
theorem at6_n : Is (R := 1) (C := 1024) (V6 m ρ c main_v0) fun _ d => L.n d := fun r d =>
  (congrFun ((W6_of m ρ c main_v0 (by decide)).trans ((W5_of m ρ c main_v0 (by decide)).trans ((W4_of m ρ c main_v0 (by decide)).trans ((W3_of m ρ c main_v0 (by decide)).trans (W2_of m ρ c main_v0 (by decide)))))) (ix2 r d)).trans (at1_n ρ h r d)

/-- and the incoming gradient. -/
theorem at6_ct : Is (R := 8448) (C := 1024) (V6 m ρ c main_arg6) L.ct := fun r d =>
  (congrFun (W6_args m ρ c main_arg6 (by decide)) (ix2 r d)).trans (h.ct r d)

/-- After it: the gradient of the rows -/
theorem at7_dx : W7 m ρ c (Proc.devRef .tc main_v10_0) = arr L.dx :=
  (W7_arr m ρ c 5).trans (arr_dx (at6_dp ρ h) (at6_w ρ h) (at6_x ρ h) (at6_n ρ h) (at6_ct ρ h))

/-- and of the gain. -/
theorem at7_dn : W7 m ρ c (Proc.devRef .tc main_v10_1) = arr fun _ d => L.dn d :=
  (W7_arr m ρ c 6).trans (arr_dn (at6_dp ρ h) (at6_w ρ h) (at6_x ρ h))

/-! ## After the last call -/

/-- The results as the run leaves them. -/
theorem end_p : W7 m ρ c (Proc.devRef .tc main_v5_0) = arr L.p :=
  ((W7_of m ρ c main_v5_0 (by decide)).trans ((W6_of m ρ c main_v5_0 (by decide)).trans ((W5_of m ρ c main_v5_0 (by decide)).trans ((W4_of m ρ c main_v5_0 (by decide)).trans (W3_of m ρ c main_v5_0 (by decide)))))).trans (at2_p ρ h)

@[inherit_doc end_p]
theorem end_out : W7 m ρ c (Proc.devRef .tc main_v6) = arr L.out :=
  ((W7_of m ρ c main_v6 (by decide)).trans ((W6_of m ρ c main_v6 (by decide)).trans ((W5_of m ρ c main_v6 (by decide)).trans (W4_of m ρ c main_v6 (by decide))))).trans (at3_out ρ h)

@[inherit_doc end_p]
theorem end_do : W7 m ρ c (Proc.devRef .tc main_v7) = arr L.do' :=
  ((W7_of m ρ c main_v7 (by decide)).trans ((W6_of m ρ c main_v7 (by decide)).trans (W5_of m ρ c main_v7 (by decide)))).trans (at4_do ρ h)

@[inherit_doc end_p]
theorem end_dwo : W7 m ρ c (Proc.devRef .tc main_v8) = arr L.dwo :=
  ((W7_of m ρ c main_v8 (by decide)).trans (W6_of m ρ c main_v8 (by decide))).trans (at5_dwo ρ h)

@[inherit_doc end_p]
theorem end_dw : W7 m ρ c (Proc.devRef .tc main_v9) = arr L.dw :=
  (W7_of m ρ c main_v9 (by decide)).trans (at6_dw ρ h)

@[inherit_doc end_p]
theorem end_dx : W7 m ρ c (Proc.devRef .tc main_v10_0) = arr L.dx :=
  at7_dx ρ h

@[inherit_doc end_p]
theorem end_dn : W7 m ρ c (Proc.devRef .tc main_v10_1) = arr fun _ d => L.dn d :=
  at7_dn ρ h

end Cert.Kernel3Ideal.Hand

end
-- ==== Proof.Sb.Ref.lean ====
module

public import proofs.«01_k».proof.Proof.Sides.Math
public import proofs.«01_k».proof.Proof.Gen.Reference3Ideal.Read
public import Idealize.ShloMosaic.Lib.Pointwise

@[expose] public section

set_option maxRecDepth 16384

/-!
# What the reference around mixer B's attention computes

Each of its stages, as the value of `Cert.Sides.Sides` that it is.
-/

noncomputable section

namespace Cert.Reference3Ideal.Hand

open Cert.Reference3Ideal Cert.Reference3Ideal.Gen Cert.Reference3Ideal.Read Cert.Sides Finset
open Idealize.ShloMosaic Idealize.ShloMosaic.TcCoe

/-- The arguments hold a mixer's numbers. -/
structure Holds (L : Sides 3072) (x0 : Vec Ideal S8448x1024 .f32) (x1 : Vec Ideal S1024 .f32) (x2 : Vec Ideal S1024x3072 .f32)
    (x3 : Vec Ideal S8448x1024 .f32) (x4 : Vec Ideal S1024x1024 .f32) (x5 : Vec Ideal S8448x3072 .f32) (x6 : Vec Ideal S8448x1024 .f32) : Prop where
  x : Is (R := 8448) (C := 1024) x0 L.x
  n : ∀ d : Fin 1024, x1 (ix1 d) = L.n d.val
  w : Is (R := 1024) (C := 3072) x2 L.w
  o : Is (R := 8448) (C := 1024) x3 L.o
  wo : Is (R := 1024) (C := 1024) x4 L.wo
  dp : Is (R := 8448) (C := 3072) x5 L.dp
  ct : Is (R := 8448) (C := 1024) x6 L.ct

variable {L : Sides 3072} {x0 : Vec Ideal S8448x1024 .f32} {x1 : Vec Ideal S1024 .f32} {x2 : Vec Ideal S1024x3072 .f32}
    {x3 : Vec Ideal S8448x1024 .f32} {x4 : Vec Ideal S1024x1024 .f32} {x5 : Vec Ideal S8448x3072 .f32} {x6 : Vec Ideal S8448x1024 .f32}
    (h : Holds L x0 x1 x2 x3 x4 x5 x6)
include h

/-- The mean square, with the small number. -/
theorem r_ms (r : Fin 8448) (l : Fin 1) : val_main_v6 (F := Ideal) x0 (ix2 r l) = L.ms r.val := by
  pointwise [val_main_v6, val_main_v5, val_main_v4, val_main_v3, val_main_v2, val_main_v1, val_main_v0, val_main_cst, val_main_cst_0, val_main_cst_1]
  simp only [h.x _ _, Dense.ofBits_eps, Dense.ofBits_kilo]
  rfl

/-- What a row is multiplied by, -/
theorem r_rs (r : Fin 8448) (l : Fin 1) : val_main_v7 (F := Ideal) x0 (ix2 r l) = L.rs r.val := by
  pointwise [val_main_v7]
  rw [r_ms h]
  rfl

/-- and the factor's own derivative. -/
theorem r_drs (r : Fin 8448) (l : Fin 1) : val_main_v10 (F := Ideal) x0 (ix2 r l) = ((-(1 / 2) : ℝ) : EReal) * Ideal.div (L.rs r.val) (L.ms r.val) := by
  pointwise [val_main_v10, val_main_v9, val_main_v8, val_main_cst_2]
  rw [r_ms h, r_rs h, Dense.ofBits_half]

/-- The normalised row, -/
theorem r_y : Is (R := 8448) (C := 1024) (val_main_v12 (F := Ideal) x0) L.y := fun r d => by
  pointwise [val_main_v12, val_main_v11]
  rw [r_rs h, h.x]
  rfl

/-- and with the gain. -/
theorem r_b : Is (R := 8448) (C := 1024) (val_main_v15 (F := Ideal) x0 x1) L.b := fun r d => by
  pointwise [val_main_v15, val_main_v14, val_main_v13]
  rw [r_y h, h.n]
  rfl

/-- The attention's inputs, -/
theorem r_p : Is (R := 8448) (C := 3072) (val_main_v16 (F := Ideal) x0 x1 x2) L.p := fun r j => by
  pointwise [val_main_v16]
  exact sum_congr rfl fun k _ => by rw [r_b h, h.w]

/-- and the rows with the attention's result. -/
theorem r_out : Is (R := 8448) (C := 1024) (val_main_v18 (F := Ideal) x0 x3 x4) L.out := fun r d => by
  pointwise [val_main_v18, val_main_v17]
  rw [h.x, add_comm]
  exact congrArg (· + _) (sum_congr rfl fun k _ => by rw [h.o, h.wo])

/-- The incoming gradient, -/
theorem r_ct : Is (R := 8448) (C := 1024) (val_main_v19 (F := Ideal) x6) L.ct := fun r d => by
  pointwise [val_main_v19]
  exact h.ct r d

/-- the gradient of the weight back to the rows, -/
theorem r_dwo : Is (R := 1024) (C := 1024) (val_main_v21 (F := Ideal) x3 x6) L.dwo := fun k d => by
  pointwise [val_main_v21, val_main_v20]
  exact sum_congr rfl fun r _ => by rw [r_ct h, h.o, mul_comm]

/-- of the attention's result, -/
theorem r_do : Is (R := 8448) (C := 1024) (val_main_v22 (F := Ideal) x4 x6) L.do' := fun r k => by
  pointwise [val_main_v22]
  exact sum_congr rfl fun d _ => by rw [r_ct h, h.wo]

/-- of the weight to the attention's inputs, -/
theorem r_dw : Is (R := 1024) (C := 3072) (val_main_v24 (F := Ideal) x0 x1 x5) L.dw := fun k j => by
  pointwise [val_main_v24, val_main_v23]
  exact sum_congr rfl fun r _ => by rw [r_b h, h.dp, mul_comm]

/-- of the normalised row with the gain, -/
theorem r_da : Is (R := 8448) (C := 1024) (val_main_v25 (F := Ideal) x2 x5) L.da := fun r d => by
  pointwise [val_main_v25]
  exact sum_congr rfl fun j _ => by rw [h.dp, h.w]

/-- of the gain, -/
theorem r_dn : Is (R := 1) (C := 1024) (val_main_v49 (F := Ideal) x0 x2 x5) fun _ d => L.dn d := fun l d => by
  pointwise [val_main_v49, val_main_v31, val_main_v28, val_main_v27, val_main_v26, val_main_cst_3, val_main_cst_4]
  rw [Fin.sum_univ_one]
  exact sum_congr rfl fun r _ => by rw [r_y h, r_da h, mul_comm]

/-- of the normalised row, -/
theorem r_dy : Is (R := 8448) (C := 1024) (val_main_v30 (F := Ideal) x1 x2 x5) L.dy := fun r d => by
  pointwise [val_main_v30, val_main_v29, val_main_v13]
  rw [r_da h, h.n]
  rfl

/-- of the square's own share, -/
theorem r_sq (r : Fin 8448) (d : Fin 1024) : val_main_v42 (F := Ideal) x0 x1 x2 x5 (ix2 r d) = L.sq r.val := by
  pointwise [val_main_v42, val_main_v41, val_main_v40, val_main_v39, val_main_v38, val_main_v34, val_main_v33, val_main_v32, val_main_cst_5, val_main_cst_6, val_main_cst_7]
  rw [Fin.sum_univ_one, sum_congr rfl fun k _ => show _ = L.x r.val k.val * L.dy r.val k.val by rw [r_dy h, h.x], r_drs h, Dense.ofBits_kilo]
  rfl

/-- and of the row. -/
theorem r_dx : Is (R := 8448) (C := 1024) (val_main_v46 (F := Ideal) x0 x1 x2 x5 x6) L.dx := fun r d => by
  pointwise [val_main_v46, val_main_v45, val_main_v44, val_main_v43, val_main_v37, val_main_v36, val_main_v35]
  rw [r_sq h, r_dy h, r_rs h, h.x, h.ct, L.dx_eq r.val d.val d.isLt]

/-- The attention's inputs as they are returned, -/
theorem r_p' : Is (R := 8448) (C := 3072) (val_main_v47 (F := Ideal) x0 x1 x2) L.p := fun r j => by
  pointwise [val_main_v47]
  exact r_p h r j

/-- and the gradient of the attention's result. -/
theorem r_do' : Is (R := 8448) (C := 1024) (val_main_v48 (F := Ideal) x4 x6) L.do' := fun r k => by
  pointwise [val_main_v48]
  exact r_do h r k

end Cert.Reference3Ideal.Hand

end
-- ==== Proof.Sb.Algebraic.lean ====
module

public import proofs.«01_k».proof.Proof.Sb.Frames
public import proofs.«01_k».proof.Proof.Sb.Trace
public import proofs.«01_k».proof.Proof.Sb.Ref

@[expose] public section

set_option maxRecDepth 16384

/-!
# The equation around mixer B's attention

The calls' and the reference's runs end with the same arrays: the attention's inputs, the rows with its result, and the
gradients of the result, of the two weights, of the rows and of the gain.
-/

noncomputable section

open Idealize.ShloMosaic Idealize.ShloMosaic.TcCoe Idealize.SL.Sem Cert.Sides

namespace Cert.Kernel3Ideal.Hand

open Cert.Kernel3Ideal Cert.Kernel3Ideal.Gen

variable (m : (ℓ : Loc nD τ sig) → Buf (Elt Ideal) ℓ) (ρ : Dev nD → PrngReg)

/-- The numbers that a device's arguments hold. -/
def sides (c : Dev nD) : Sides 3072 :=
  ⟨entries (R := 8448) (C := 1024) (m ((c : Thread nD τ).loc main_arg0)), entries1 (C := 1024) (m ((c : Thread nD τ).loc main_arg1)),
    entries (R := 1024) (C := 3072) (m ((c : Thread nD τ).loc main_arg2)), entries (R := 8448) (C := 1024) (m ((c : Thread nD τ).loc main_arg3)),
    entries (R := 1024) (C := 1024) (m ((c : Thread nD τ).loc main_arg4)), entries (R := 8448) (C := 3072) (m ((c : Thread nD τ).loc main_arg5)),
    entries (R := 8448) (C := 1024) (m ((c : Thread nD τ).loc main_arg6))⟩

/-- They do hold them. -/
theorem holds (c : Dev nD) : Holds m c (sides m c) :=
  ⟨is_entries _, is_entries1 _, is_entries _, is_entries _, is_entries _, is_entries _, is_entries _⟩

variable (L : Dev nD → Sides 3072)

/-- The calls end with the numbers the mixer's arrays should hold. -/
theorem run_sides (H : ∀ c : Dev nD, Holds m c (L c)) :
    θ_run defs (onTc (τ := τ) (main (F := Ideal))) ⟨m, fun _ => 0, ρ⟩ fun r => ∀ c : Dev nD,
      r.2.mem ((c.tc : Thread nD τ).loc main_v5_0) = arr (L c).p
      ∧ r.2.mem ((c.tc : Thread nD τ).loc main_v6) = arr (L c).out
      ∧ r.2.mem ((c.tc : Thread nD τ).loc main_v7) = arr (L c).do'
      ∧ r.2.mem ((c.tc : Thread nD τ).loc main_v8) = arr (L c).dwo
      ∧ r.2.mem ((c.tc : Thread nD τ).loc main_v9) = arr (L c).dw
      ∧ r.2.mem ((c.tc : Thread nD τ).loc main_v10_0) = arr (L c).dx
      ∧ r.2.mem ((c.tc : Thread nD τ).loc main_v10_1) = arr (fun _ d => (L c).dn d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h.1 c _ (mem_uc main_v5_0 (by decide))).trans (end_p ρ (H c)),
        (h.1 c _ (mem_uc main_v6 (by decide))).trans (end_out ρ (H c)),
        (h.1 c _ (mem_uc main_v7 (by decide))).trans (end_do ρ (H c)),
        (h.1 c _ (mem_uc main_v8 (by decide))).trans (end_dwo ρ (H c)),
        (h.1 c _ (mem_uc main_v9 (by decide))).trans (end_dw ρ (H c)),
        (h.1 c _ (mem_uc main_v10_0 (by decide))).trans (end_dx ρ (H c)),
        (h.1 c _ (mem_uc main_v10_1 (by decide))).trans (end_dn ρ (H c)),
        args_end m ρ h.1 c⟩)
    (run_end m ρ)

end Cert.Kernel3Ideal.Hand

namespace Cert.Reference3Ideal.Hand

open Cert.Reference3Ideal Cert.Reference3Ideal.Gen

variable (m : (ℓ : Loc nD τ sig) → Buf (Elt Ideal) ℓ) (ρ : Dev nD → PrngReg) (L : Dev nD → Sides 3072)

/-- So does the reference. -/
theorem run_reference (H : ∀ c : Dev nD, Holds (L c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    θ_run defs (onTc (τ := τ) (main (F := Ideal))) ⟨m, fun _ => 0, ρ⟩ fun r => ∀ c : Dev nD,
      r.2.mem ((c.tc : Thread nD τ).loc main_v47) = arr (L c).p
      ∧ r.2.mem ((c.tc : Thread nD τ).loc main_v18) = arr (L c).out
      ∧ r.2.mem ((c.tc : Thread nD τ).loc main_v48) = arr (L c).do'
      ∧ r.2.mem ((c.tc : Thread nD τ).loc main_v21) = arr (L c).dwo
      ∧ r.2.mem ((c.tc : Thread nD τ).loc main_v24) = arr (L c).dw
      ∧ r.2.mem ((c.tc : Thread nD τ).loc main_v46) = arr (L c).dx
      ∧ r.2.mem ((c.tc : Thread nD τ).loc main_v49) = arr (fun _ d => (L c).dn d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨e1, e2, e3, e4, e5, e6, e7, e8⟩ := h c
      exact ⟨(e1.trans (Read.val_main_v47_eq _ _ _)).trans (eq_of_is (r_p' (H c))),
        (e2.trans (Read.val_main_v18_eq _ _ _)).trans (eq_of_is (r_out (H c))),
        (e3.trans (Read.val_main_v48_eq _ _)).trans (eq_of_is (r_do' (H c))),
        (e4.trans (Read.val_main_v21_eq _ _)).trans (eq_of_is (r_dwo (H c))),
        (e5.trans (Read.val_main_v24_eq _ _ _)).trans (eq_of_is (r_dw (H c))),
        (e6.trans (Read.val_main_v46_eq m c)).trans (eq_of_is (r_dx (H c))),
        (e7.trans (Read.val_main_v49_eq _ _ _)).trans (eq_of_is (r_dn (H c))),
        e8⟩)
    (Cert.Reference3Ideal.Value.run (F := Ideal) m ρ)

end Cert.Reference3Ideal.Hand

namespace Cert.Kernel3Ideal.Hand

/-- The calls and the reference end with the same arrays. -/
theorem equation_sides : Cert.algebraic_Kernel3Ideal_Reference3Ideal := fun m g m' g' _ e => by
  refine ⟨_, _, _, _, _, _, _, run_sides m g (sides m) (holds m), Cert.Reference3Ideal.Hand.run_reference m' g' (sides m) fun c => ?_⟩
  obtain ⟨e0, e1, e2, e3, e4, e5, e6⟩ := e c
  rw [e0, e1, e2, e3, e4, e5, e6]
  have H := holds m c
  exact ⟨H.x, H.n, H.w, H.o, H.wo, H.dp, H.ct⟩

end Cert.Kernel3Ideal.Hand

end
-- ==== Proof.Fox.Run.lean ====
module

public import proofs.«01_k».proof.Proof.Gen.Kernel4Ideal.Frame

@[expose] public section

set_option maxRecDepth 16384

/-!
# The run of the seven calls around mixer D's attention

The host's preparation, then seven calls one after the other and two slices. In the end every array holds what the last boundary's
contents say of it, and every counter is at zero; the arguments are as they were.
-/

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F] (m : (ℓ : Loc nD τ sig) → Buf (Elt F) ℓ) (ρ : Dev nD → PrngReg)

/-- The assertions of the launch. -/
abbrev Res (F : FTy → Type) [FloatOps F] := MT nD τ sig Unit (Elt F) ℕ (UR sig nD τ) ℕ

/-- Owning nothing on each device is owning nothing. -/
theorem none_each : (BI.emp : sProp (Res F)) ⊢ bigSep Finset.univ (fun _ : Dev nD => (BI.emp : sProp (Res F))) := by
  rw [BI.bigSep_emp_const]

/-- The tokens the calls' buffers start from, as the launch has them. -/
theorem tokens : (ownU (initOf (Pipeline.cells cfgs cellOf_inj) (Pipeline.launchToks cfgs cellOf_inj)) : sProp (Res F))
    ⊢ BI.own (emb₁ (initOf (Pipeline.cells cfgs cellOf_inj) (Pipeline.launchToks cfgs cellOf_inj))) := .rfl

set_option backward.isDefEq.respectTransparency.types false in
/-- Every run ends, with the last boundary's contents in every array and every counter at zero. -/
theorem run_end : θ_run defs (onTc (τ := τ) (main (F := F))) ⟨m, fun _ => 0, ρ⟩ fun r =>
    (∀ c : Dev nD, ∀ b ∈ Pipeline.ucRefs τ sig, r.2.mem (((c : Thread nD τ)).1, b) = W13 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (tokens (F := F))
        iexact Hu
      iapply (none_each (F := F))
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Ha, Hb, Ho⟩
      isplitl [Ha Hb]
      · isplitl [Ha]; · iexact Ha
        iexact Hb
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h hz => ⟨h, funext fun g => hz g (.inr (no_unscoped g.2))⟩)

/-- The arguments are as they were. -/
theorem args_end {s : (ℓ : Loc nD τ sig) → Buf (Elt F) ℓ} (h : ∀ c : Dev nD, ∀ b ∈ Pipeline.ucRefs τ sig, s (((c : Thread nD τ)).1, b) = W13 m ρ c b)
    (c : Dev nD) : s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6) :=
  ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c)⟩

end Cert.Kernel4Ideal.Hand

end
-- ==== Proof.Fox.Frames.lean ====
module

public import proofs.«01_k».proof.Defs
public import proofs.«01_k».proof.Proof.Fox.Run
public import proofs.«01_k».proof.Proof.Gen.Kernel4.Frame
public import proofs.«01_k».proof.Proof.Gen.Reference4Ideal.Run
public import Idealize.ShloMosaic.Lib.Claim
public import Idealize.ShloMosaic.Lib.Quiescent

@[expose] public section

/-!
# The frames around mixer D's attention

Over floats and over the extended reals the seven calls run one after the other and leave the arguments alone; so does
the reference.
-/

noncomputable section

namespace Cert.Kernel4Ideal.Hand

open Idealize.ShloMosaic Idealize.ShloMosaic.TcCoe Idealize.SL.Sem

/-- The calls over floats end with the arguments unchanged and every counter at zero. -/
theorem frame_sides : Cert.quiescent_Kernel4 := fun m ρ _ => Cert.Kernel4.Gen.frame m ρ

/-- The same over the extended reals. -/
theorem frame_sides_ideal : Cert.quiescent_Kernel4Ideal := fun m ρ _ =>
  (θ_run Cert.Kernel4Ideal.defs _ _).mono (fun _ h => ⟨args_end m ρ h.1, h.2⟩) (run_end (F := Ideal) m ρ)

/-- The reference over the extended reals ends with its arguments unchanged and every counter at zero. -/
theorem frame_sides_reference : Cert.quiescent_Reference4Ideal := fun m ρ _ =>
  (θ_run Cert.Reference4Ideal.defs _ _).mono (fun r h => ⟨fun c => (h c).2.2.2.2.2.2.2.2.2.2, sem_eq_zero_of_no_sems rfl r.2⟩)
    (Cert.Reference4Ideal.Value.run (F := Ideal) m ρ)

end Cert.Kernel4Ideal.Hand

end
-- ==== Proof.Fox.Tile.lean ====
module

public import proofs.«01_k».proof.Proof.Sides.Math
public import proofs.«01_k».proof.Proof.Gen.Kernel4Ideal.Skeleton

@[expose] public section

set_option maxRecDepth 16384

/-!
# The calls around mixer D's attention, tile by tile

What each call computes of one of its tiles: where the tile holds the rows from `R` on, the results are these rows' values.
-/

noncomputable section

namespace Cert.Kernel4Ideal.Hand

open Cert.Kernel4Ideal Cert.Kernel4Ideal.Gen Cert.Sides Finset
open Idealize.ShloMosaic Idealize.ShloMosaic.TcCoe

variable {L : Sides 3200} {R : ℕ}

section Norm

variable {X C : Vec Ideal S384x1024 .f32} {N : Vec Ideal S1x1024 .f32} {A : Vec Ideal S1024x3072 .bf16}

/-- The factor of a row. -/
theorem rs_tile (hX : Is X fun r d => L.x (R + r) d) (r : Fin 384) : k6_pay3 X (ix2 r 0) = L.rs (R + r.val) := by
  pointwise [k6_pay3]
  simp only [hX _ _, Dense.ofBits_eps, Dense.ofBits_kilo]
  rfl

/-- The normalised rows with the gain. -/
theorem b_tile (hX : Is X fun r d => L.x (R + r) d) (hN : Is N fun _ d => L.n d) : Is (k0_pay1 X N) fun r d => L.b (R + r) d := by
  intro r c
  have h := rs_tile hX r
  pointwise [k6_pay3] at h
  pointwise [k0_pay1]
  rw [h, hX, hN]
  rfl

/-- The attention's inputs. -/
theorem p_tile (hX : Is X fun r d => L.x (R + r) d) (hN : Is N fun _ d => L.n d) (hA : Is A L.w) :
    Is (k0_pay2 X N A) fun r j => L.p (R + r) j := by
  intro r c
  pointwise [k0_pay2]
  exact sum_congr rfl fun k _ => by rw [b_tile hX hN, hA]

/-- The same as they are kept, -/
theorem p_kept (hX : Is X fun r d => L.x (R + r) d) (hN : Is N fun _ d => L.n d) (hA : Is A L.w) :
    Is (k0_pay3 X N A) fun r j => L.p (R + r) j := p_tile hX hN hA

/-- and with rows and columns exchanged. -/
theorem pt_tile (hX : Is X fun r d => L.x (R + r) d) (hN : Is N fun _ d => L.n d) (hA : Is A L.w) :
    Is (k0_pay4 X N A) fun j r => L.p (R + r) j := by
  intro r c
  pointwise [k0_pay4]
  exact p_tile hX hN hA c r

end Norm

/-- The forget gates' inputs: the last columns of the weight. -/
theorem f_tile {B : Vec Ideal S768x1024 .bf16} {F : Vec Ideal S1024x128 .bf16}
    (hB : Is B fun r j => L.b (R + r) j) (hF : Is F fun k j => L.w k (3072 + j)) : Is (k1_pay1 B F) fun r j => L.p (R + r) (3072 + j) := by
  intro r c
  pointwise [k1_pay1]
  exact sum_congr rfl fun k _ => by rw [hB, hF]

/-- The rows with the attention's result. -/
theorem out_tile {A : Vec Ideal S768x1024 .bf16} {W : Vec Ideal S1024x1024 .bf16} {X : Vec Ideal S768x1024 .f32}
    (hA : Is A fun r j => L.o (R + r) j) (hW : Is W L.wo) (hX : Is X fun r d => L.x (R + r) d) :
    Is (k2_pay1 A W X) fun r d => L.out (R + r) d := by
  intro r c
  pointwise [k2_pay1]
  rw [hX]
  exact congrArg (· + _) (sum_congr rfl fun k _ => by rw [hA, hW])

/-- The gradient of the attention's result. -/
theorem do_tile {C : Vec Ideal S768x1024 .f32} {W : Vec Ideal S1024x1024 .bf16} (hC : Is C fun r d => L.ct (R + r) d) (hW : Is W L.wo) :
    Is (k3_pay1 C W) fun r k => L.do' (R + r) k := by
  intro r c
  pointwise [k3_pay1]
  exact sum_congr rfl fun k _ => by rw [hC, hW]

/-- The same as it is kept, -/
theorem do_kept {C : Vec Ideal S768x1024 .f32} {W : Vec Ideal S1024x1024 .bf16} (hC : Is C fun r d => L.ct (R + r) d) (hW : Is W L.wo) :
    Is (k3_pay2 C W) fun r k => L.do' (R + r) k := do_tile hC hW

/-- and with rows and columns exchanged. -/
theorem dot_tile {C : Vec Ideal S768x1024 .f32} {W : Vec Ideal S1024x1024 .bf16} (hC : Is C fun r d => L.ct (R + r) d) (hW : Is W L.wo) :
    Is (k3_pay3 C W) fun k r => L.do' (R + r) k := by
  intro r c
  pointwise [k3_pay3]
  exact do_tile hC hW c r

/-! ## The weights' gradients: a tile's rows are added to what was summed before -/

variable {f a b : ℕ → ℕ → EReal}

/-- Both start from zero, -/
theorem zero4 : Is (k4_pay1 (F := Ideal)) fun _ _ => 0 := by
  intro r c
  pointwise [k4_pay1]

@[inherit_doc zero4] theorem zero5 : Is (k5_pay1 (F := Ideal)) fun _ _ => 0 := by
  intro r c
  pointwise [k5_pay1]

/-- and add a tile's rows. -/
theorem add4 {P : Vec Ideal S1024x1024 .f32} {A : Vec Ideal S768x1024 .bf16} {B : Vec Ideal S768x1024 .f32} (hP : Is P f) (hA : Is A a) (hB : Is B b) :
    Is (k4_pay2 P A B) fun i j => f i j + ∑ k : Fin 768, a k.val i * b k.val j := by
  intro r c
  pointwise [k4_pay2]
  rw [hP]
  exact congrArg (_ + ·) (sum_congr rfl fun k _ => by rw [hA, hB])

@[inherit_doc add4] theorem add5 {P : Vec Ideal S1024x640 .f32} {A : Vec Ideal S768x1024 .bf16} {B : Vec Ideal S768x640 .bf16} (hP : Is P f) (hA : Is A a) (hB : Is B b) :
    Is (k5_pay2 P A B) fun i j => f i j + ∑ k : Fin 768, a k.val i * b k.val j := by
  intro r c
  pointwise [k5_pay2]
  rw [hP]
  exact congrArg (_ + ·) (sum_congr rfl fun k _ => by rw [hA, hB])

/-! ## The gradient of the rows and of the gain -/

section Rows

variable {X C : Vec Ideal S384x1024 .f32} {N P : Vec Ideal S1x1024 .f32} {A : Vec Ideal S1024x3200 .bf16} {D : Vec Ideal S384x3200 .bf16}

/-- The gradient of the normalised rows with the gain, -/
theorem da_tile (hD : Is D fun r j => L.dp (R + r) j) (hA : Is A L.w) : Is (k6_pay2 D A) fun r d => L.da (R + r) d := by
  intro r c
  pointwise [k6_pay2]
  exact sum_congr rfl fun k _ => by rw [hD, hA]

/-- the normalised rows, -/
theorem y_tile (hX : Is X fun r d => L.x (R + r) d) : Is (k6_pay4 X) fun r d => L.y (R + r) d := by
  intro r c
  pointwise [k6_pay4]
  rw [rs_tile hX, hX]
  rfl

/-- the gradient of the rows, -/
theorem dx_tile (hD : Is D fun r j => L.dp (R + r) j) (hA : Is A L.w) (hX : Is X fun r d => L.x (R + r) d)
    (hN : Is N fun _ d => L.n d) (hC : Is C fun r d => L.ct (R + r) d) : Is (k6_pay5 D A X N C) fun r d => L.dx (R + r) d := by
  intro r c
  pointwise [k6_pay5]
  rw [sum_congr rfl fun k _ => show _ = L.dy (R + r.val) k.val * L.y (R + r.val) k.val by rw [da_tile hD hA, hN, y_tile hX]; rfl,
    da_tile hD hA, hN, y_tile hX, rs_tile hX, hC, Dense.ofBits_kilo]
  rfl

/-- and of the gain: the sum starts from zero, -/
theorem zero6 : Is (k6_pay6 (F := Ideal)) fun _ _ => 0 := by
  intro r c
  pointwise [k6_pay6]

/-- and adds a tile's rows. -/
theorem dn_tile {D Y : Vec Ideal S384x1024 .f32} (hD : Is D a) (hY : Is Y b) (hP : Is P f) :
    Is (k6_pay1 D Y P) fun i d => f i d + ∑ k : Fin 384, a k.val d * b k.val d := by
  intro r c
  obtain rfl : r = 0 := Subsingleton.elim _ _
  pointwise [k6_pay1]
  rw [hP]
  exact congrArg (_ + ·) (sum_congr rfl fun k _ => by rw [hD, hY])

end Rows

end Cert.Kernel4Ideal.Hand

end
-- ==== Proof.Fox.In.lean ====
module

public import proofs.«01_k».proof.Proof.Fox.Tile
public import proofs.«01_k».proof.Proof.Gen.Kernel4Ideal.Frame
public import Idealize.ShloMosaic.Lib.Pipeline.ValueKit

@[expose] public section

set_option maxRecDepth 16384

/-!
# The first call: the attention's inputs and the normalised rows

Each of the 22 points has 384 rows.
-/

noncomputable section

namespace Cert.Kernel4Ideal.Hand

open Cert.Kernel4Ideal Cert.Kernel4Ideal.Gen Cert.Sides Finset
open Idealize.ShloMosaic Idealize.ShloMosaic.TcCoe

/-- Where the points' blocks lie. -/
theorem places0 : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![0, t.val] := by decide +kernel

theorem lt0 (t : Fin cfg0.N) : t.val < 22 := t.isLt

variable {V : (c : Dev nD) → (b : Ref sig .tc) → Buf (Elt Ideal) ((c : Thread nD τ).loc b)} {c : Dev nD} {L : Sides 3200}
  (hx : Is (R := 8448) (C := 1024) (V c main_arg0) L.x)
  (hn : Is (R := 1) (C := 1024) (V c main_v0) fun _ d => L.n d)
  (hw : Is (R := 1024) (C := 3072) (V c main_v2) L.w) (t : Fin cfg0.N)

include hx in
/-- A point's rows, -/
theorem x0 : Is (R := 384) (C := 1024) (iblk0 V c 0 t) fun r d => L.x (384 * t.val + r) d := fun r l =>
  Eq.trans (b := V c main_arg0 (ix2 (⟨384 * t.val + r.val, by have := lt0 t; omega⟩ : Fin 8448) l)) (by blk_ext [iblk0, places0 t]) (hx _ _)

include hn in
/-- the gain, -/
theorem n0 : Is (R := 1) (C := 1024) (iblk0 V c 1 t) fun _ d => L.n d := fun r l =>
  Eq.trans (b := V c main_v0 (ix2 r l)) (by blk_ext [iblk0, places0 t]) (hn _ _)

include hw in
/-- and the weight. -/
theorem w0 : Is (R := 1024) (C := 3072) (iblk0 V c 2 t) L.w := fun r l =>
  Eq.trans (b := V c main_v2 (ix2 r l)) (by blk_ext [iblk0, places0 t]) (hw _ _)

include hx hn hw in
/-- The array of the attention's inputs in the end, -/
theorem arr_p : (dat0 V c).arrAt 3 cfg0.N = arr L.p := by
  refine (dat0 V c).arrAt_eq_of_covers 3 _ (by decide +kernel) fun t hf y => ?_
  blk_simp
  rw [after0_3]
  obtain ⟨r, l, rfl⟩ : ∃ (r : Fin 384) (l : Fin 3072), y = ix2 r l := ⟨y 0, y 1, eq_ix2 y⟩
  rw [show (win0_3.blk t).view.emb (ix2 r l) = ix2 (⟨384 * t.val + r.val, by have := lt0 t; omega⟩ : Fin 8448) l by blk_ext [places0 t]]
  frame_out
  exact p_kept (x0 hx t) (n0 hn t) (w0 hw t) r l

include hx hn in
/-- and that of the normalised rows with the gain, -/
theorem arr_b : (dat0 V c).arrAt 4 cfg0.N = arr L.b := by
  refine (dat0 V c).arrAt_eq_of_covers 4 _ (by decide +kernel) fun t hf y => ?_
  blk_simp
  rw [after0_4]
  obtain ⟨r, l, rfl⟩ : ∃ (r : Fin 384) (l : Fin 1024), y = ix2 r l := ⟨y 0, y 1, eq_ix2 y⟩
  rw [show (win0_4.blk t).view.emb (ix2 r l) = ix2 (⟨384 * t.val + r.val, by have := lt0 t; omega⟩ : Fin 8448) l by blk_ext [places0 t]]
  frame_out
  exact b_tile (x0 hx t) (n0 hn t) r l

include hx hn hw in
/-- and that of the inputs with rows and columns exchanged. -/
theorem arr_pt : (dat0 V c).arrAt 5 cfg0.N = arr fun j r => L.p r j := by
  refine (dat0 V c).arrAt_eq_of_covers 5 _ (by decide +kernel) fun t hf y => ?_
  blk_simp
  rw [after0_5]
  obtain ⟨r, l, rfl⟩ : ∃ (r : Fin 3072) (l : Fin 384), y = ix2 r l := ⟨y 0, y 1, eq_ix2 y⟩
  rw [show (win0_5.blk t).view.emb (ix2 r l) = ix2 r (⟨384 * t.val + l.val, by have := lt0 t; omega⟩ : Fin 8448) by blk_ext [places0 t]]
  frame_out
  exact pt_tile (x0 hx t) (n0 hn t) (w0 hw t) r l

end Cert.Kernel4Ideal.Hand

end
-- ==== Proof.Fox.Out.lean ====
module

public import proofs.«01_k».proof.Proof.Fox.Tile
public import proofs.«01_k».proof.Proof.Gen.Kernel4Ideal.Frame
public import Idealize.ShloMosaic.Lib.Pipeline.ValueKit

@[expose] public section

set_option maxRecDepth 16384

/-!
# The calls with one weight

Each point has 768 rows: the forget gates' inputs, the rows with the attention's result, and the gradient of that result.
-/

noncomputable section

namespace Cert.Kernel4Ideal.Hand

open Cert.Kernel4Ideal Cert.Kernel4Ideal.Gen Cert.Sides Finset
open Idealize.ShloMosaic Idealize.ShloMosaic.TcCoe

section Gates

/-- Where the points' blocks lie. -/
theorem places1 : ∀ t : Fin cfg1.N, win1_0.index t = ![t.val, 0]
    ∧ win1_1.index t = ![0, 0]
    ∧ win1_2.index t = ![t.val, 0] := by decide +kernel

theorem lt1 (t : Fin cfg1.N) : t.val < 11 := t.isLt

variable {V : (c : Dev nD) → (b : Ref sig .tc) → Buf (Elt Ideal) ((c : Thread nD τ).loc b)} {c : Dev nD} {L : Sides 3200}
  (hb : Is (R := 8448) (C := 1024) (V c main_v11_1) L.b)
  (hg : Is (R := 1024) (C := 128) (V c main_v5) fun k j => L.w k (3072 + j)) (t : Fin cfg1.N)

include hb in
/-- A point's normalised rows, -/
theorem b1 : Is (R := 768) (C := 1024) (iblk1 V c 0 t) fun r j => L.b (768 * t.val + r) j := fun r l =>
  Eq.trans (b := V c main_v11_1 (ix2 (⟨768 * t.val + r.val, by have := lt1 t; omega⟩ : Fin 8448) l)) (by blk_ext [iblk1, places1 t]) (hb _ _)

include hg in
/-- and the last columns of the weight. -/
theorem f1 : Is (R := 1024) (C := 128) (iblk1 V c 1 t) fun k j => L.w k (3072 + j) := fun r l =>
  Eq.trans (b := V c main_v5 (ix2 r l)) (by blk_ext [iblk1, places1 t]) (hg _ _)

include hb hg in
/-- The array of the gates' inputs in the end. -/
theorem arr_f : (dat1 V c).arrAt 2 cfg1.N = arr fun r j => L.p r (3072 + j) := by
  refine (dat1 V c).arrAt_eq_of_covers 2 _ (by decide +kernel) fun t hf y => ?_
  blk_simp
  rw [after1_2]
  obtain ⟨r, l, rfl⟩ : ∃ (r : Fin 768) (l : Fin 128), y = ix2 r l := ⟨y 0, y 1, eq_ix2 y⟩
  rw [show (win1_2.blk t).view.emb (ix2 r l) = ix2 (⟨768 * t.val + r.val, by have := lt1 t; omega⟩ : Fin 8448) l by blk_ext [places1 t]]
  frame_out
  exact f_tile (b1 hb t) (f1 hg t) r l

end Gates

section Out

/-- Where the points' blocks lie. -/
theorem places2 : ∀ t : Fin cfg2.N, win2_0.index t = ![t.val, 0]
    ∧ win2_1.index t = ![0, 0]
    ∧ win2_2.index t = ![t.val, 0]
    ∧ win2_3.index t = ![t.val, 0] := by decide +kernel

theorem lt2 (t : Fin cfg2.N) : t.val < 11 := t.isLt

variable {V : (c : Dev nD) → (b : Ref sig .tc) → Buf (Elt Ideal) ((c : Thread nD τ).loc b)} {c : Dev nD} {L : Sides 3200}
  (ho : Is (R := 8448) (C := 1024) (V c main_v8) L.o)
  (hw : Is (R := 1024) (C := 1024) (V c main_v7) L.wo)
  (hx : Is (R := 8448) (C := 1024) (V c main_arg0) L.x) (t : Fin cfg2.N)

include ho in
/-- A point's rows of the attention's result, -/
theorem o2 : Is (R := 768) (C := 1024) (iblk2 V c 0 t) fun r j => L.o (768 * t.val + r) j := fun r l =>
  Eq.trans (b := V c main_v8 (ix2 (⟨768 * t.val + r.val, by have := lt2 t; omega⟩ : Fin 8448) l)) (by blk_ext [iblk2, places2 t]) (ho _ _)

include hw in
/-- the weight, -/
theorem w2 : Is (R := 1024) (C := 1024) (iblk2 V c 1 t) L.wo := fun r l =>
  Eq.trans (b := V c main_v7 (ix2 r l)) (by blk_ext [iblk2, places2 t]) (hw _ _)

include hx in
/-- and the rows. -/
theorem x2 : Is (R := 768) (C := 1024) (iblk2 V c 2 t) fun r d => L.x (768 * t.val + r) d := fun r l =>
  Eq.trans (b := V c main_arg0 (ix2 (⟨768 * t.val + r.val, by have := lt2 t; omega⟩ : Fin 8448) l)) (by blk_ext [iblk2, places2 t]) (hx _ _)

include ho hw hx in
/-- The array of the sum in the end. -/
theorem arr_out : (dat2 V c).arrAt 3 cfg2.N = arr L.out := by
  refine (dat2 V c).arrAt_eq_of_covers 3 _ (by decide +kernel) fun t hf y => ?_
  blk_simp
  rw [after2_3]
  obtain ⟨r, l, rfl⟩ : ∃ (r : Fin 768) (l : Fin 1024), y = ix2 r l := ⟨y 0, y 1, eq_ix2 y⟩
  rw [show (win2_3.blk t).view.emb (ix2 r l) = ix2 (⟨768 * t.val + r.val, by have := lt2 t; omega⟩ : Fin 8448) l by blk_ext [places2 t]]
  frame_out
  exact out_tile (o2 ho t) (w2 hw t) (x2 hx t) r l

end Out

section Back

/-- Where the points' blocks lie. -/
theorem places3 : ∀ t : Fin cfg3.N, win3_0.index t = ![t.val, 0]
    ∧ win3_1.index t = ![0, 0]
    ∧ win3_2.index t = ![t.val, 0]
    ∧ win3_3.index t = ![0, t.val] := by decide +kernel

theorem lt3 (t : Fin cfg3.N) : t.val < 11 := t.isLt

variable {V : (c : Dev nD) → (b : Ref sig .tc) → Buf (Elt Ideal) ((c : Thread nD τ).loc b)} {c : Dev nD} {L : Sides 3200}
  (hc : Is (R := 8448) (C := 1024) (V c main_arg6) L.ct)
  (hw : Is (R := 1024) (C := 1024) (V c main_v7) L.wo) (t : Fin cfg3.N)

include hc in
/-- A point's rows of the gradient of the sum, -/
theorem c3 : Is (R := 768) (C := 1024) (iblk3 V c 0 t) fun r d => L.ct (768 * t.val + r) d := fun r l =>
  Eq.trans (b := V c main_arg6 (ix2 (⟨768 * t.val + r.val, by have := lt3 t; omega⟩ : Fin 8448) l)) (by blk_ext [iblk3, places3 t]) (hc _ _)

include hw in
/-- and the weight. -/
theorem w3 : Is (R := 1024) (C := 1024) (iblk3 V c 1 t) L.wo := fun r l =>
  Eq.trans (b := V c main_v7 (ix2 r l)) (by blk_ext [iblk3, places3 t]) (hw _ _)

include hc hw in
/-- The array of the gradient in the end, -/
theorem arr_do : (dat3 V c).arrAt 2 cfg3.N = arr L.do' := by
  refine (dat3 V c).arrAt_eq_of_covers 2 _ (by decide +kernel) fun t hf y => ?_
  blk_simp
  rw [after3_2]
  obtain ⟨r, l, rfl⟩ : ∃ (r : Fin 768) (l : Fin 1024), y = ix2 r l := ⟨y 0, y 1, eq_ix2 y⟩
  rw [show (win3_2.blk t).view.emb (ix2 r l) = ix2 (⟨768 * t.val + r.val, by have := lt3 t; omega⟩ : Fin 8448) l by blk_ext [places3 t]]
  frame_out
  exact do_kept (c3 hc t) (w3 hw t) r l

include hc hw in
/-- and that with rows and columns exchanged. -/
theorem arr_dot : (dat3 V c).arrAt 3 cfg3.N = arr fun k r => L.do' r k := by
  refine (dat3 V c).arrAt_eq_of_covers 3 _ (by decide +kernel) fun t hf y => ?_
  blk_simp
  rw [after3_3]
  obtain ⟨r, l, rfl⟩ : ∃ (r : Fin 1024) (l : Fin 768), y = ix2 r l := ⟨y 0, y 1, eq_ix2 y⟩
  rw [show (win3_3.blk t).view.emb (ix2 r l) = ix2 r (⟨768 * t.val + l.val, by have := lt3 t; omega⟩ : Fin 8448) by blk_ext [places3 t]]
  frame_out
  exact dot_tile (c3 hc t) (w3 hw t) r l

end Back

end Cert.Kernel4Ideal.Hand

end
-- ==== Proof.Fox.Weights.lean ====
module

public import proofs.«01_k».proof.Proof.Fox.Tile
public import proofs.«01_k».proof.Proof.Gen.Kernel4Ideal.Frame
public import Idealize.ShloMosaic.Lib.Pipeline.ValueKit

@[expose] public section

set_option maxRecDepth 16384

/-!
# The weights' gradients

Each point adds 768 rows to the part of the gradient that it keeps; eleven points pass all rows.
-/

noncomputable section

namespace Cert.Kernel4Ideal.Hand

open Cert.Kernel4Ideal Cert.Kernel4Ideal.Gen Cert.Sides Finset
open Idealize.ShloMosaic Idealize.ShloMosaic.TcCoe

section O

/-- Where the points' blocks lie. -/
theorem places4 : ∀ t : Fin cfg4.N, win4_0.index t = ![t.val % 11, 0]
    ∧ win4_1.index t = ![t.val % 11, 0]
    ∧ win4_2.index t = ![0, 0] := by decide +kernel

theorem lt4 (t : Fin cfg4.N) : t.val < 11 := t.isLt

variable {V : (c : Dev nD) → (b : Ref sig .tc) → Buf (Elt Ideal) ((c : Thread nD τ).loc b)} {c : Dev nD} {L : Sides 3200}
  (ha : Is (R := 8448) (C := 1024) (V c main_v8) L.o)
  (hb : Is (R := 8448) (C := 1024) (V c main_arg6) L.ct) (t : Fin cfg4.N)

include ha in
/-- A point's rows of the left factor, -/
theorem left4 : Is (R := 768) (C := 1024) (iblk4 V c 0 t) fun r j => L.o (768 * (t.val % 11) + r) j := fun r l =>
  Eq.trans (b := V c main_v8 (ix2 (⟨768 * (t.val % 11) + r.val, by have := lt4 t; omega⟩ : Fin 8448) l)) (by blk_ext [iblk4, places4 t]) (ha _ _)

include hb in
/-- and of the right one. -/
theorem right4 : Is (R := 768) (C := 1024) (iblk4 V c 1 t) fun r j => L.ct (768 * (t.val % 11) + r) j := fun r l =>
  Eq.trans (b := V c main_arg6 (ix2 (⟨768 * (t.val % 11) + r.val, by have := lt4 t; omega⟩ : Fin 8448) l)) (by blk_ext [iblk4, places4 t]) (hb _ _)

include ha hb in
/-- After a point the part kept is the sum over the rows so far. -/
theorem sums4 (n : ℕ) (hn : n < cfg4.N) : Is (R := 1024) (C := 1024) (outsAt4 V c n hn) fun i j =>
    ∑ r ∈ range (768 * (n % 11 + 1)), L.o r i * L.ct r j := by
  induction n with
  | zero =>
    have e := outsAt4_A V c ⟨0, hn⟩ rfl
    refine fun r l => (congrFun e _).trans ?_
    frame_out
    refine (add4 zero4 (left4 ha ⟨0, hn⟩) (right4 hb ⟨0, hn⟩) r l).trans ?_
    simp only [Nat.zero_mod]
    rw [← sum_first]
  | succ n ih =>
    by_cases h : (n + 1) % 11 = 0
    · have e := outsAt4_A V c ⟨n + 1, hn⟩ h
      refine fun r l => (congrFun e _).trans ?_
      frame_out
      refine (add4 zero4 (left4 ha ⟨n + 1, hn⟩) (right4 hb ⟨n + 1, hn⟩) r l).trans ?_
      simp only [h]
      rw [← sum_first]
    · have e := outsAt4_B V c ⟨n + 1, hn⟩ h
      refine fun r l => (congrFun e _).trans ?_
      frame_out
      refine (add4 (ih (Nat.lt_of_succ_lt hn)) (left4 ha ⟨n + 1, hn⟩) (right4 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dwo : (dat4 V c).arrAt 2 cfg4.N = arr L.dwo := by
  refine (dat4 V c).arrAt_eq_of_covers 2 _ (by decide +kernel) fun t hf y => ?_
  have e := (flush4_2 t).mp hf
  blk_simp
  rw [after4_2]
  obtain ⟨r, l, rfl⟩ : ∃ (r : Fin 1024) (l : Fin 1024), y = ix2 r l := ⟨y 0, y 1, eq_ix2 y⟩
  rw [show (win4_2.blk t).view.emb (ix2 r l) = ix2 r l by blk_ext [places4 t]]
  refine (sums4 ha hb t.val t.isLt r l).trans ?_
  simp only [e]
  rw [Finset.sum_range]
  rfl

end O

section P

/-- Where the points' blocks lie. -/
theorem places5 : ∀ t : Fin cfg5.N, win5_0.index t = ![t.val % 11, 0]
    ∧ win5_1.index t = ![t.val % 11, t.val / 11]
    ∧ win5_2.index t = ![0, t.val / 11] := by decide +kernel

theorem lt5 (t : Fin cfg5.N) : t.val < 55 := t.isLt

variable {V : (c : Dev nD) → (b : Ref sig .tc) → Buf (Elt Ideal) ((c : Thread nD τ).loc b)} {c : Dev nD} {L : Sides 3200}
  (ha : Is (R := 8448) (C := 1024) (V c main_v11_1) L.b)
  (hb : Is (R := 8448) (C := 3200) (V c main_v10) L.dp) (t : Fin cfg5.N)

include ha in
/-- A point's rows of the left factor, -/
theorem left5 : Is (R := 768) (C := 1024) (iblk5 V c 0 t) fun r j => L.b (768 * (t.val % 11) + r) j := fun r l =>
  Eq.trans (b := V c main_v11_1 (ix2 (⟨768 * (t.val % 11) + r.val, by have := lt5 t; omega⟩ : Fin 8448) l)) (by blk_ext [iblk5, places5 t]) (ha _ _)

include hb in
/-- and of the right one. -/
theorem right5 : Is (R := 768) (C := 640) (iblk5 V c 1 t) fun r j => L.dp (768 * (t.val % 11) + r) (640 * (t.val / 11) + j) := fun r l =>
  Eq.trans (b := V c main_v10 (ix2 (⟨768 * (t.val % 11) + r.val, by have := lt5 t; omega⟩ : Fin 8448) (⟨640 * (t.val / 11) + l.val, by have := lt5 t; omega⟩ : Fin 3200))) (by blk_ext [iblk5, places5 t]) (hb _ _)

include ha hb in
/-- After a point the part kept is the sum over the rows so far. -/
theorem sums5 (n : ℕ) (hn : n < cfg5.N) : Is (R := 1024) (C := 640) (outsAt5 V c n hn) fun i j =>
    ∑ r ∈ range (768 * (n % 11 + 1)), L.b r i * L.dp r (640 * (n / 11) + j) := by
  induction n with
  | zero =>
    have e := outsAt5_A V c ⟨0, hn⟩ rfl
    refine fun r l => (congrFun e _).trans ?_
    frame_out
    refine (add5 zero5 (left5 ha ⟨0, hn⟩) (right5 hb ⟨0, hn⟩) r l).trans ?_
    simp only [Nat.zero_mod]
    rw [← sum_first]
  | succ n ih =>
    by_cases h : (n + 1) % 11 = 0
    · have e := outsAt5_A V c ⟨n + 1, hn⟩ h
      refine fun r l => (congrFun e _).trans ?_
      frame_out
      refine (add5 zero5 (left5 ha ⟨n + 1, hn⟩) (right5 hb ⟨n + 1, hn⟩) r l).trans ?_
      simp only [h]
      rw [← sum_first]
    · have e := outsAt5_B V c ⟨n + 1, hn⟩ h
      refine fun r l => (congrFun e _).trans ?_
      frame_out
      refine (add5 (ih (Nat.lt_of_succ_lt hn)) (left5 ha ⟨n + 1, hn⟩) (right5 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dw : (dat5 V c).arrAt 2 cfg5.N = arr L.dw := by
  refine (dat5 V c).arrAt_eq_of_covers 2 _ (by decide +kernel) fun t hf y => ?_
  have e := (flush5_2 t).mp hf
  blk_simp
  rw [after5_2]
  obtain ⟨r, l, rfl⟩ : ∃ (r : Fin 1024) (l : Fin 640), y = ix2 r l := ⟨y 0, y 1, eq_ix2 y⟩
  rw [show (win5_2.blk t).view.emb (ix2 r l) = ix2 r (⟨640 * (t.val / 11) + l.val, by have := lt5 t; omega⟩ : Fin 3200) by blk_ext [places5 t]]
  refine (sums5 ha hb t.val t.isLt r l).trans ?_
  simp only [e]
  rw [Finset.sum_range]
  rfl

end P

end Cert.Kernel4Ideal.Hand

end
-- ==== Proof.Fox.Rows.lean ====
module

public import proofs.«01_k».proof.Proof.Fox.Tile
public import proofs.«01_k».proof.Proof.Gen.Kernel4Ideal.Frame
public import Idealize.ShloMosaic.Lib.Pipeline.ValueKit

@[expose] public section

set_option maxRecDepth 16384

/-!
# The last call: the gradients of the rows and of the gain

Each of the 22 points has 384 rows; the gain's gradient is kept between them, and each adds its rows to it.
-/

noncomputable section

namespace Cert.Kernel4Ideal.Hand

open Cert.Kernel4Ideal Cert.Kernel4Ideal.Gen Cert.Sides Finset
open Idealize.ShloMosaic Idealize.ShloMosaic.TcCoe

/-- Where the points' blocks lie. -/
theorem places6 : ∀ t : Fin cfg6.N, win6_0.index t = ![t.val, 0]
    ∧ win6_1.index t = ![0, 0]
    ∧ win6_2.index t = ![t.val, 0]
    ∧ win6_3.index t = ![0, 0]
    ∧ win6_4.index t = ![t.val, 0]
    ∧ win6_5.index t = ![t.val, 0]
    ∧ win6_6.index t = ![0, 0] := by decide +kernel

theorem lt6 (t : Fin cfg6.N) : t.val < 22 := t.isLt

variable {V : (c : Dev nD) → (b : Ref sig .tc) → Buf (Elt Ideal) ((c : Thread nD τ).loc b)} {c : Dev nD} {L : Sides 3200}
  (hd : Is (R := 8448) (C := 3200) (V c main_v10) L.dp)
  (ha : Is (R := 1024) (C := 3200) (V c main_v6) L.w)
  (hx : Is (R := 8448) (C := 1024) (V c main_arg0) L.x)
  (hn : Is (R := 1) (C := 1024) (V c main_v0) fun _ d => L.n d)
  (hc : Is (R := 8448) (C := 1024) (V c main_arg6) L.ct) (t : Fin cfg6.N)

include hd in
/-- A point's rows of the gradient of the attention's inputs, -/
theorem d6 : Is (R := 384) (C := 3200) (iblk6 V c 0 t) fun r j => L.dp (384 * t.val + r) j := fun r l =>
  Eq.trans (b := V c main_v10 (ix2 (⟨384 * t.val + r.val, by have := lt6 t; omega⟩ : Fin 8448) l)) (by blk_ext [iblk6, places6 t]) (hd _ _)

include ha in
/-- the weight, -/
theorem a6 : Is (R := 1024) (C := 3200) (iblk6 V c 1 t) L.w := fun r l =>
  Eq.trans (b := V c main_v6 (ix2 r l)) (by blk_ext [iblk6, places6 t]) (ha _ _)

include hx in
/-- its rows, -/
theorem x6 : Is (R := 384) (C := 1024) (iblk6 V c 2 t) fun r d => L.x (384 * t.val + r) d := fun r l =>
  Eq.trans (b := V c main_arg0 (ix2 (⟨384 * t.val + r.val, by have := lt6 t; omega⟩ : Fin 8448) l)) (by blk_ext [iblk6, places6 t]) (hx _ _)

include hn in
/-- the gain, -/
theorem n6 : Is (R := 1) (C := 1024) (iblk6 V c 3 t) fun _ d => L.n d := fun r l =>
  Eq.trans (b := V c main_v0 (ix2 r l)) (by blk_ext [iblk6, places6 t]) (hn _ _)

include hc in
/-- and its rows of the gradient of the sum. -/
theorem c6 : Is (R := 384) (C := 1024) (iblk6 V c 4 t) fun r d => L.ct (384 * t.val + r) d := fun r l =>
  Eq.trans (b := V c main_arg6 (ix2 (⟨384 * t.val + r.val, by have := lt6 t; omega⟩ : Fin 8448) l)) (by blk_ext [iblk6, places6 t]) (hc _ _)

include hd ha hx in
/-- After a point the gain's gradient is the sum over the rows so far. -/
theorem sums6 (n : ℕ) (hn : n < cfg6.N) : Is (R := 1) (C := 1024) (outsAt6 V c n hn).2 fun _ d =>
    ∑ r ∈ range (384 * (n + 1)), L.da r d * L.y r d := by
  induction n with
  | zero =>
    have e := congrArg Prod.snd (outsAt6_A V c ⟨0, hn⟩ rfl)
    refine fun r l => (congrFun e _).trans ?_
    frame_out
    refine (dn_tile (da_tile (d6 hd ⟨0, hn⟩) (a6 ha ⟨0, hn⟩)) (y_tile (x6 hx ⟨0, hn⟩)) zero6 r l).trans ?_
    rw [← sum_first]
  | succ n ih =>
    have h : ¬(n + 1) % 22 = 0 := by have : n + 1 < 22 := hn; omega
    have e := congrArg Prod.snd (outsAt6_B V c ⟨n + 1, hn⟩ h)
    refine fun r l => (congrFun e _).trans ?_
    frame_out
    refine (dn_tile (da_tile (d6 hd ⟨n + 1, hn⟩) (a6 ha ⟨n + 1, hn⟩)) (y_tile (x6 hx ⟨n + 1, hn⟩))
      (ih (Nat.lt_of_succ_lt hn)) r l).trans ?_
    rw [← sum_tile 384 (n + 1)]

include hd ha hx hn hc in
/-- A point leaves its rows' gradient. -/
theorem rows6 : Is (R := 384) (C := 1024) (outsAt6 V c t.val t.isLt).1 fun r d => L.dx (384 * t.val + r) d := by
  by_cases h : t.val % 22 = 0
  · have e := congrArg Prod.fst (outsAt6_A V c t h)
    refine fun r l => (congrFun e _).trans ?_
    frame_out
    exact dx_tile (d6 hd t) (a6 ha t) (x6 hx t) (n6 hn t) (c6 hc t) r l
  · have e := congrArg Prod.fst (outsAt6_B V c t h)
    refine fun r l => (congrFun e _).trans ?_
    frame_out
    exact dx_tile (d6 hd t) (a6 ha t) (x6 hx t) (n6 hn t) (c6 hc t) r l

include hd ha hx hn hc in
/-- The array of the rows' gradient in the end, -/
theorem arr_dx : (dat6 V c).arrAt 5 cfg6.N = arr L.dx := by
  refine (dat6 V c).arrAt_eq_of_covers 5 _ (by decide +kernel) fun t hf y => ?_
  blk_simp
  rw [after6_5]
  obtain ⟨r, l, rfl⟩ : ∃ (r : Fin 384) (l : Fin 1024), y = ix2 r l := ⟨y 0, y 1, eq_ix2 y⟩
  rw [show (win6_5.blk t).view.emb (ix2 r l) = ix2 (⟨384 * t.val + r.val, by have := lt6 t; omega⟩ : Fin 8448) l by blk_ext [places6 t]]
  exact rows6 hd ha hx hn hc t r l

include hd ha hx in
/-- and of the gain's. -/
theorem arr_dn : (dat6 V c).arrAt 6 cfg6.N = arr fun _ d => L.dn d := by
  refine (dat6 V c).arrAt_eq_of_covers 6 _ (by decide +kernel) fun t hf y => ?_
  have e := (flush6_6 t).mp hf
  have e' : t.val = 21 := by have := lt6 t; omega
  blk_simp
  rw [after6_6]
  obtain ⟨r, l, rfl⟩ : ∃ (r : Fin 1) (l : Fin 1024), y = ix2 r l := ⟨y 0, y 1, eq_ix2 y⟩
  rw [show (win6_6.blk t).view.emb (ix2 r l) = ix2 r l by blk_ext [places6 t]]
  refine (sums6 hd ha hx t.val t.isLt r l).trans ?_
  simp only [e']
  rw [Finset.sum_range]
  rfl

end Cert.Kernel4Ideal.Hand

end
-- ==== Proof.Fox.Trace.lean ====
module

public import proofs.«01_k».proof.Proof.Fox.In
public import proofs.«01_k».proof.Proof.Fox.Out
public import proofs.«01_k».proof.Proof.Fox.Weights
public import proofs.«01_k».proof.Proof.Fox.Rows
public import proofs.«01_k».proof.Proof.Gen.Kernel4Ideal.Frame
public import Idealize.ShloMosaic.Lib.StableHlo.RunRead
public import Idealize.ShloMosaic.Lib.Pointwise

@[expose] public section

set_option maxRecDepth 16384

/-!
# From call to call, around mixer D's attention

What each call finds in its operands, and what the results hold after the last call. `at5_wo`, say, is what the weight
back to the rows is when the call at boundary 5 begins.
-/

noncomputable section

namespace Cert.Kernel4Ideal.Hand

open Cert.Kernel4Ideal Cert.Kernel4Ideal.Gen Cert.Sides
open Idealize.ShloMosaic Idealize.ShloMosaic.TcCoe

/-- The arguments hold a mixer's numbers. -/
structure Holds (m : (ℓ : Loc nD τ sig) → Buf (Elt Ideal) ℓ) (c : Dev nD) (L : Sides 3200) : Prop where
  x : Is (R := 8448) (C := 1024) (m ((c : Thread nD τ).loc main_arg0)) L.x
  n : ∀ d : Fin 1024, (m ((c : Thread nD τ).loc main_arg1) : S1024.Idx → EReal) (ix1 d) = L.n d.val
  w : Is (R := 1024) (C := 3088) (m ((c : Thread nD τ).loc main_arg2)) L.w
  o : Is (R := 8448) (C := 1024) (m ((c : Thread nD τ).loc main_arg3)) L.o
  wo : Is (R := 1024) (C := 1024) (m ((c : Thread nD τ).loc main_arg4)) L.wo
  dp : Is (R := 8448) (C := 3088) (m ((c : Thread nD τ).loc main_arg5)) L.dp
  w0 : ∀ k j, 3088 ≤ j → L.w k j = 0
  dp0 : ∀ r j, 3088 ≤ j → L.dp r j = 0
  ct : Is (R := 8448) (C := 1024) (m ((c : Thread nD τ).loc main_arg6)) L.ct

variable {m : (ℓ : Loc nD τ sig) → Buf (Elt Ideal) ℓ} {c : Dev nD} {L : Sides 3200} (ρ : Dev nD → PrngReg) (h : Holds m c L)

/-! ## Before the first call -/

/-- The whole number zero as a real number. -/
theorem fill : (FloatOps.sitofp (F := Ideal) FTy.f32 0#32 : EReal) = 0 := by
  show ((((0#32 : BitVec 32).toInt : ℤ) : ℝ) : EReal) = 0
  simp

/-- The gates' columns in a wider array: zero to the right of them. -/
theorem wide_g (X : FVec Ideal S1024x3088 .f32) (r : Fin 1024) (d : Fin 128) : (pad S1024x128 ![0, 0] ![0, 112] ![0, 0]
    (extractStridedSlice S1024x16 ![0, 3072] X slices_S1024x3088_S1024x16_0_3072 : FVec Ideal S1024x16 .f32)
    (sitofp (F := Ideal) .f32 (constantI S_ 32 0#32 : (⟨S_, .i32⟩ : BufTy).Contents (Elt Ideal)))
    pads_S1024x16_S1024x128_000_01120 h_S_ : FVec Ideal S1024x128 .f32) (ix2 r d)
      = if h : d.val < 16 then X (ix2 r (⟨3072 + d.val, by omega⟩ : Fin 3088)) else 0 := by
  pointwise
  split
  · rfl
  · exact fill

/-- An array of 3088 columns in a wider one: zero to the right of them. -/
theorem wide_dp (X : FVec Ideal S8448x3088 .f32) (r : Fin 8448) (d : Fin 3200) : (truncf (F := Ideal) .bf16 (pad S8448x3200 ![0, 0] ![0, 112] ![0, 0]
    X (sitofp (F := Ideal) .f32 (constantI S_ 32 0#32 : (⟨S_, .i32⟩ : BufTy).Contents (Elt Ideal)))
    pads_S8448x3088_S8448x3200_000_01120 h_S_ : FVec Ideal S8448x3200 .f32) bitsLt_bf16_f32 : FVec Ideal S8448x3200 .bf16) (ix2 r d)
      = if h : d.val < 3088 then X (ix2 r (⟨d.val, h⟩ : Fin 3088)) else 0 := by
  pointwise
  split
  · rfl
  · exact fill

/-- The host's gain row, -/
theorem read_n : W1 m ρ c (Proc.devRef .tc main_v0) = broadcastInDim S1x1024 ![1] bcast_S1024_S1x1024_1 (m ((c : Thread nD τ).loc main_arg1)) := by
  after_reads_simp

/-- the weight of the queries, keys and values, -/
theorem read_wq : W1 m ρ c (Proc.devRef .tc main_v2) = (truncf (F := Ideal) .bf16 (extractStridedSlice S1024x3072 ![0, 0]
    (m ((c : Thread nD τ).loc main_arg2) : FVec Ideal S1024x3088 .f32) slices_S1024x3088_S1024x3072_0_0) bitsLt_bf16_f32 : FVec Ideal S1024x3072 .bf16) := by
  after_reads_simp

/-- the gates' columns, -/
theorem read_g : W1 m ρ c (Proc.devRef .tc main_v3) = (extractStridedSlice S1024x16 ![0, 3072]
    (m ((c : Thread nD τ).loc main_arg2) : FVec Ideal S1024x3088 .f32) slices_S1024x3088_S1024x16_0_3072 : FVec Ideal S1024x16 .f32) := by
  after_reads_simp

/-- the number that fills a wider array, -/
theorem read_c : W1 m ρ c (Proc.devRef .tc main_c) = (constantI S_ 32 0#32 : (⟨S_, .i32⟩ : BufTy).Contents (Elt Ideal)) := by
  after_reads_simp

/-- the gates' columns in a wider array, -/
theorem read_gp : W2 m ρ c (Proc.devRef .tc main_v4) = (pad S1024x128 ![0, 0] ![0, 112] ![0, 0]
    (W1 m ρ c (Proc.devRef .tc main_v3) : FVec Ideal S1024x16 .f32) (sitofp (F := Ideal) .f32 (W1 m ρ c (Proc.devRef .tc main_c) : (⟨S_, .i32⟩ : BufTy).Contents (Elt Ideal)))
    pads_S1024x16_S1024x128_000_01120 h_S_ : FVec Ideal S1024x128 .f32) := by
  after_reads_simp
  rfl

/-- cast, -/
theorem read_wf : W3 m ρ c (Proc.devRef .tc main_v5) = (truncf (F := Ideal) .bf16 (W2 m ρ c (Proc.devRef .tc main_v4) : FVec Ideal S1024x128 .f32) bitsLt_bf16_f32
    : FVec Ideal S1024x128 .bf16) := by
  after_reads_simp

/-- beside the weight's other columns; -/
theorem read_w : W3 m ρ c (Proc.devRef .tc main_v6) = (concatenate S1024x3200 1 [⟨S1024x3072, (W2 m ρ c (Proc.devRef .tc main_v2) : FVec Ideal S1024x3072 .bf16)⟩,
    ⟨S1024x128, (truncf (F := Ideal) .bf16 (W2 m ρ c (Proc.devRef .tc main_v4) : FVec Ideal S1024x128 .f32) bitsLt_bf16_f32 : FVec Ideal S1024x128 .bf16)⟩]
    concatenates_S1024x3072_S1024x128_S1024x3200_d1 : FVec Ideal S1024x3200 .bf16) := by
  have e : StableHlo.upto hostOps0_2 (W2 m ρ c) 1 (Proc.tc.devRef main_v2) = W2 m ρ c (Proc.devRef .tc main_v2) := by after_reads_simp
  have e' : StableHlo.upto hostOps0_2 (W2 m ρ c) 1 (Proc.tc.devRef main_v5)
      = truncf (F := Ideal) .bf16 (W2 m ρ c (Proc.devRef .tc main_v4) : FVec Ideal S1024x128 .f32) bitsLt_bf16_f32 := by after_reads_simp
  after_reads_simp
  rw [e, e']

/-- the two casts, -/
theorem read_wo : W3 m ρ c (Proc.devRef .tc main_v7) = (truncf (F := Ideal) .bf16 (W2 m ρ c (Proc.devRef .tc main_arg4) : FVec Ideal S1024x1024 .f32) bitsLt_bf16_f32
    : FVec Ideal S1024x1024 .bf16) := by
  after_reads_simp

@[inherit_doc read_wo]
theorem read_o : W3 m ρ c (Proc.devRef .tc main_v8) = (truncf (F := Ideal) .bf16 (W2 m ρ c (Proc.devRef .tc main_arg3) : FVec Ideal S8448x1024 .f32) bitsLt_bf16_f32
    : FVec Ideal S8448x1024 .bf16) := by
  after_reads_simp

/-- the number that fills again, -/
theorem read_c0 : W3 m ρ c (Proc.devRef .tc main_c_0) = (constantI S_ 32 0#32 : (⟨S_, .i32⟩ : BufTy).Contents (Elt Ideal)) := by
  after_reads_simp

/-- the gradient of the attention's inputs in a wider array, -/
theorem read_dpp : W4 m ρ c (Proc.devRef .tc main_v9) = (pad S8448x3200 ![0, 0] ![0, 112] ![0, 0]
    (W3 m ρ c (Proc.devRef .tc main_arg5) : FVec Ideal S8448x3088 .f32) (sitofp (F := Ideal) .f32 (W3 m ρ c (Proc.devRef .tc main_c_0) : (⟨S_, .i32⟩ : BufTy).Contents (Elt Ideal)))
    pads_S8448x3088_S8448x3200_000_01120 h_S_ : FVec Ideal S8448x3200 .f32) := by
  after_reads_simp
  rfl

/-- and its cast. -/
theorem read_dp : W5 m ρ c (Proc.devRef .tc main_v10) = (truncf (F := Ideal) .bf16 (W4 m ρ c (Proc.devRef .tc main_v9) : FVec Ideal S8448x3200 .f32) bitsLt_bf16_f32
    : FVec Ideal S8448x3200 .bf16) := by
  after_reads_simp

include h

/-- The gain, -/
theorem at5_n : Is (R := 1) (C := 1024) (V5 m ρ c main_v0) fun _ d => L.n d := fun r d => by
  rw [show V5 m ρ c main_v0 = _ from ((W5_of m ρ c main_v0 (by decide)).trans ((W4_of m ρ c main_v0 (by decide)).trans ((W3_of m ρ c main_v0 (by decide)).trans (W2_of m ρ c main_v0 (by decide))))).trans (read_n ρ)]
  pointwise
  exact h.n d

/-- the weight of the queries, keys and values, -/
theorem at1_wq : Is (R := 1024) (C := 3072) (W1 m ρ c (Proc.devRef .tc main_v2)) L.w := fun r d => by
  rw [read_wq ρ]
  pointwise
  exact h.w r ⟨d.val, by omega⟩

@[inherit_doc at1_wq]
theorem at5_wq : Is (R := 1024) (C := 3072) (V5 m ρ c main_v2) L.w := fun r d =>
  (congrFun ((W5_of m ρ c main_v2 (by decide)).trans ((W4_of m ρ c main_v2 (by decide)).trans ((W3_of m ρ c main_v2 (by decide)).trans (W2_of m ρ c main_v2 (by decide))))) (ix2 r d)).trans (at1_wq ρ h r d)

/-- the gates' columns and zeros after them, -/
theorem at2_gp : Is (R := 1024) (C := 128) (W2 m ρ c (Proc.devRef .tc main_v4)) fun k j => L.w k (3072 + j) := fun r d => by
  rw [read_gp ρ, read_g ρ, read_c ρ]
  refine (wide_g _ r d).trans ?_
  split
  · exact h.w r ⟨3072 + d.val, by omega⟩
  · exact (h.w0 _ _ (by omega)).symm

@[inherit_doc at2_gp]
theorem at5_wf : Is (R := 1024) (C := 128) (V5 m ρ c main_v5) fun k j => L.w k (3072 + j) := fun r d =>
  (congrFun (((W5_of m ρ c main_v5 (by decide)).trans (W4_of m ρ c main_v5 (by decide))).trans (read_wf ρ)) (ix2 r d)).trans (at2_gp ρ h r d)

/-- the whole weight, -/
theorem at5_w : Is (R := 1024) (C := 3200) (V5 m ρ c main_v6) L.w := fun r d => by
  rw [show V5 m ρ c main_v6 = _ from ((W5_of m ρ c main_v6 (by decide)).trans (W4_of m ρ c main_v6 (by decide))).trans (read_w ρ)]
  have e := fun d => (congrFun (W2_of m ρ c main_v2 (by decide)) (ix2 r d)).trans (at1_wq ρ h r d)
  pointwise
  split
  · exact e ⟨d.val, by omega⟩
  · exact (at2_gp ρ h r ⟨d.val - 3072, by omega⟩).trans (congrArg (L.w r.val) (by dsimp only; omega))

/-- the weight back to the rows, -/
theorem at5_wo : Is (R := 1024) (C := 1024) (V5 m ρ c main_v7) L.wo := fun r d =>
  (congrFun (((W5_of m ρ c main_v7 (by decide)).trans (W4_of m ρ c main_v7 (by decide))).trans (read_wo ρ)) (ix2 r d)).trans
    ((congrFun (W2_args m ρ c main_arg4 (by decide)) (ix2 r d)).trans (h.wo r d))

/-- the attention's result -/
theorem at5_o : Is (R := 8448) (C := 1024) (V5 m ρ c main_v8) L.o := fun r d =>
  (congrFun (((W5_of m ρ c main_v8 (by decide)).trans (W4_of m ρ c main_v8 (by decide))).trans (read_o ρ)) (ix2 r d)).trans
    ((congrFun (W2_args m ρ c main_arg3 (by decide)) (ix2 r d)).trans (h.o r d))

/-- and the gradient of its inputs, with zeros after it. -/
theorem at5_dp : Is (R := 8448) (C := 3200) (V5 m ρ c main_v10) L.dp := fun r d => by
  rw [show V5 m ρ c main_v10 = _ from read_dp ρ, read_dpp ρ, read_c0 ρ]
  have e := fun d => (congrFun (W3_args m ρ c main_arg5 (by decide)) (ix2 r d)).trans (h.dp r d)
  refine (wide_dp _ r d).trans ?_
  split
  · exact e ⟨d.val, by omega⟩
  · exact (h.dp0 _ _ (by omega)).symm

/-! ## The attention's inputs -/

/-- The first call finds the rows. -/
theorem at5_x : Is (R := 8448) (C := 1024) (V5 m ρ c main_arg0) L.x := fun r d =>
  (congrFun (W5_args m ρ c main_arg0 (by decide)) (ix2 r d)).trans (h.x r d)

/-- After the first call: the attention's inputs -/
theorem at6_p : W6 m ρ c (Proc.devRef .tc main_v11_0) = arr L.p :=
  (W6_arr m ρ c 3).trans (arr_p (at5_x ρ h) (at5_n ρ h) (at5_wq ρ h))

/-- and the normalised rows, -/
theorem at6_b' : W6 m ρ c (Proc.devRef .tc main_v11_1) = arr L.b :=
  (W6_arr m ρ c 4).trans (arr_b (at5_x ρ h) (at5_n ρ h))

/-- and the inputs with rows and columns exchanged. -/
theorem at6_pt : W6 m ρ c (Proc.devRef .tc main_v11_2) = arr fun j r => L.p r j :=
  (W6_arr m ρ c 5).trans (arr_pt (at5_x ρ h) (at5_n ρ h) (at5_wq ρ h))

/-- The gates' call finds their weight. -/
theorem at6_wf : Is (R := 1024) (C := 128) (V6 m ρ c main_v5) fun k j => L.w k (3072 + j) := fun r d =>
  (congrFun (W6_of m ρ c main_v5 (by decide)) (ix2 r d)).trans (at5_wf ρ h r d)

/-- After it: the gates' inputs. -/
theorem at7_f : W7 m ρ c (Proc.devRef .tc main_v12) = arr fun r j => L.p r (3072 + j) :=
  (W7_arr m ρ c 2).trans (arr_f (is_of_eq (at6_b' ρ h)) (at6_wf ρ h))

/-! ## The rows with the attention's result -/

/-- The next call finds the attention's result, -/
theorem at7_o : Is (R := 8448) (C := 1024) (V7 m ρ c main_v8) L.o := fun r d =>
  (congrFun ((W7_of m ρ c main_v8 (by decide)).trans (W6_of m ρ c main_v8 (by decide))) (ix2 r d)).trans (at5_o ρ h r d)

/-- the weight -/
theorem at7_wo : Is (R := 1024) (C := 1024) (V7 m ρ c main_v7) L.wo := fun r d =>
  (congrFun ((W7_of m ρ c main_v7 (by decide)).trans (W6_of m ρ c main_v7 (by decide))) (ix2 r d)).trans (at5_wo ρ h r d)

/-- and the rows. -/
theorem at7_x : Is (R := 8448) (C := 1024) (V7 m ρ c main_arg0) L.x := fun r d =>
  (congrFun (W7_args m ρ c main_arg0 (by decide)) (ix2 r d)).trans (h.x r d)

/-- After it: the rows with the attention's result. -/
theorem at8_out : W8 m ρ c (Proc.devRef .tc main_v13) = arr L.out :=
  (W8_arr m ρ c 3).trans (arr_out (at7_o ρ h) (at7_wo ρ h) (at7_x ρ h))

/-! ## The gradients -/

/-- The next call finds the incoming gradient -/
theorem at8_ct : Is (R := 8448) (C := 1024) (V8 m ρ c main_arg6) L.ct := fun r d =>
  (congrFun (W8_args m ρ c main_arg6 (by decide)) (ix2 r d)).trans (h.ct r d)

/-- and the weight. -/
theorem at8_wo : Is (R := 1024) (C := 1024) (V8 m ρ c main_v7) L.wo := fun r d =>
  (congrFun ((W8_of m ρ c main_v7 (by decide)).trans ((W7_of m ρ c main_v7 (by decide)).trans (W6_of m ρ c main_v7 (by decide)))) (ix2 r d)).trans (at5_wo ρ h r d)

/-- After it: the gradient of the attention's result, -/
theorem at9_do : W9 m ρ c (Proc.devRef .tc main_v14_0) = arr L.do' :=
  (W9_arr m ρ c 2).trans (arr_do (at8_ct ρ h) (at8_wo ρ h))

/-- also with rows and columns exchanged. -/
theorem at9_dot : W9 m ρ c (Proc.devRef .tc main_v14_1) = arr fun k r => L.do' r k :=
  (W9_arr m ρ c 3).trans (arr_dot (at8_ct ρ h) (at8_wo ρ h))

/-- The next call finds the attention's result -/
theorem at9_o : Is (R := 8448) (C := 1024) (V9 m ρ c main_v8) L.o := fun r d =>
  (congrFun ((W9_of m ρ c main_v8 (by decide)).trans ((W8_of m ρ c main_v8 (by decide)).trans ((W7_of m ρ c main_v8 (by decide)).trans (W6_of m ρ c main_v8 (by decide))))) (ix2 r d)).trans (at5_o ρ h r d)

/-- and the incoming gradient. -/
theorem at9_ct : Is (R := 8448) (C := 1024) (V9 m ρ c main_arg6) L.ct := fun r d =>
  (congrFun (W9_args m ρ c main_arg6 (by decide)) (ix2 r d)).trans (h.ct r d)

/-- After it: the gradient of the weight back to the rows. -/
theorem at10_dwo : W10 m ρ c (Proc.devRef .tc main_v15) = arr L.dwo :=
  (W10_arr m ρ c 2).trans (arr_dwo (at9_o ρ h) (at9_ct ρ h))

/-- The next call finds the normalised rows -/
theorem at10_b : Is (R := 8448) (C := 1024) (V10 m ρ c main_v11_1) L.b :=
  is_of_eq (((W10_of m ρ c main_v11_1 (by decide)).trans ((W9_of m ρ c main_v11_1 (by decide)).trans ((W8_of m ρ c main_v11_1 (by decide)).trans (W7_of m ρ c main_v11_1 (by decide))))).trans (at6_b' ρ h))

/-- and the gradient of the attention's inputs. -/
theorem at10_dp : Is (R := 8448) (C := 3200) (V10 m ρ c main_v10) L.dp := fun r d =>
  (congrFun ((W10_of m ρ c main_v10 (by decide)).trans ((W9_of m ρ c main_v10 (by decide)).trans ((W8_of m ρ c main_v10 (by decide)).trans ((W7_of m ρ c main_v10 (by decide)).trans (W6_of m ρ c main_v10 (by decide)))))) (ix2 r d)).trans (at5_dp ρ h r d)

/-- After it: the gradient of the weight to the attention's inputs. -/
theorem at11_dw : W11 m ρ c (Proc.devRef .tc main_v16) = arr L.dw :=
  (W11_arr m ρ c 2).trans (arr_dw (at10_b ρ h) (at10_dp ρ h))

/-- The last call finds the gradient of the attention's inputs, -/
theorem at11_dp : Is (R := 8448) (C := 3200) (V11 m ρ c main_v10) L.dp := fun r d =>
  (congrFun ((W11_of m ρ c main_v10 (by decide)).trans ((W10_of m ρ c main_v10 (by decide)).trans ((W9_of m ρ c main_v10 (by decide)).trans ((W8_of m ρ c main_v10 (by decide)).trans ((W7_of m ρ c main_v10 (by decide)).trans (W6_of m ρ c main_v10 (by decide))))))) (ix2 r d)).trans (at5_dp ρ h r d)

/-- the weight, -/
theorem at11_w : Is (R := 1024) (C := 3200) (V11 m ρ c main_v6) L.w := fun r d =>
  (congrFun ((W11_of m ρ c main_v6 (by decide)).trans ((W10_of m ρ c main_v6 (by decide)).trans ((W9_of m ρ c main_v6 (by decide)).trans ((W8_of m ρ c main_v6 (by decide)).trans ((W7_of m ρ c main_v6 (by decide)).trans (W6_of m ρ c main_v6 (by decide))))))) (ix2 r d)).trans (at5_w ρ h r d)

/-- the rows, -/
theorem at11_x : Is (R := 8448) (C := 1024) (V11 m ρ c main_arg0) L.x := fun r d =>
  (congrFun (W11_args m ρ c main_arg0 (by decide)) (ix2 r d)).trans (h.x r d)

/-- the gain -/
theorem at11_n : Is (R := 1) (C := 1024) (V11 m ρ c main_v0) fun _ d => L.n d := fun r d =>
  (congrFun ((W11_of m ρ c main_v0 (by decide)).trans ((W10_of m ρ c main_v0 (by decide)).trans ((W9_of m ρ c main_v0 (by decide)).trans ((W8_of m ρ c main_v0 (by decide)).trans ((W7_of m ρ c main_v0 (by decide)).trans (W6_of m ρ c main_v0 (by decide))))))) (ix2 r d)).trans (at5_n ρ h r d)

/-- and the incoming gradient. -/
theorem at11_ct : Is (R := 8448) (C := 1024) (V11 m ρ c main_arg6) L.ct := fun r d =>
  (congrFun (W11_args m ρ c main_arg6 (by decide)) (ix2 r d)).trans (h.ct r d)

/-- After it: the gradient of the rows -/
theorem at12_dx : W12 m ρ c (Proc.devRef .tc main_v17_0) = arr L.dx :=
  (W12_arr m ρ c 5).trans (arr_dx (at11_dp ρ h) (at11_w ρ h) (at11_x ρ h) (at11_n ρ h) (at11_ct ρ h))

/-- and of the gain. -/
theorem at12_dn : W12 m ρ c (Proc.devRef .tc main_v17_1) = arr fun _ d => L.dn d :=
  (W12_arr m ρ c 6).trans (arr_dn (at11_dp ρ h) (at11_w ρ h) (at11_x ρ h))

/-! ## After the last call -/

/-- The results as the run leaves them. -/
theorem end_p : W13 m ρ c (Proc.devRef .tc main_v11_0) = arr L.p :=
  ((W13_of m ρ c main_v11_0 (by decide)).trans ((W12_of m ρ c main_v11_0 (by decide)).trans ((W11_of m ρ c main_v11_0 (by decide)).trans ((W10_of m ρ c main_v11_0 (by decide)).trans ((W9_of m ρ c main_v11_0 (by decide)).trans ((W8_of m ρ c main_v11_0 (by decide)).trans (W7_of m ρ c main_v11_0 (by decide)))))))).trans (at6_p ρ h)

@[inherit_doc end_p]
theorem end_pt : W13 m ρ c (Proc.devRef .tc main_v11_2) = arr fun j r => L.p r j :=
  ((W13_of m ρ c main_v11_2 (by decide)).trans ((W12_of m ρ c main_v11_2 (by decide)).trans ((W11_of m ρ c main_v11_2 (by decide)).trans ((W10_of m ρ c main_v11_2 (by decide)).trans ((W9_of m ρ c main_v11_2 (by decide)).trans ((W8_of m ρ c main_v11_2 (by decide)).trans (W7_of m ρ c main_v11_2 (by decide)))))))).trans (at6_pt ρ h)

@[inherit_doc end_p]
theorem end_out : W13 m ρ c (Proc.devRef .tc main_v13) = arr L.out :=
  ((W13_of m ρ c main_v13 (by decide)).trans ((W12_of m ρ c main_v13 (by decide)).trans ((W11_of m ρ c main_v13 (by decide)).trans ((W10_of m ρ c main_v13 (by decide)).trans (W9_of m ρ c main_v13 (by decide)))))).trans (at8_out ρ h)

@[inherit_doc end_p]
theorem end_do : W13 m ρ c (Proc.devRef .tc main_v14_0) = arr L.do' :=
  ((W13_of m ρ c main_v14_0 (by decide)).trans ((W12_of m ρ c main_v14_0 (by decide)).trans ((W11_of m ρ c main_v14_0 (by decide)).trans (W10_of m ρ c main_v14_0 (by decide))))).trans (at9_do ρ h)

@[inherit_doc end_p]
theorem end_dot : W13 m ρ c (Proc.devRef .tc main_v14_1) = arr fun k r => L.do' r k :=
  ((W13_of m ρ c main_v14_1 (by decide)).trans ((W12_of m ρ c main_v14_1 (by decide)).trans ((W11_of m ρ c main_v14_1 (by decide)).trans (W10_of m ρ c main_v14_1 (by decide))))).trans (at9_dot ρ h)

@[inherit_doc end_p]
theorem end_dwo : W13 m ρ c (Proc.devRef .tc main_v15) = arr L.dwo :=
  ((W13_of m ρ c main_v15 (by decide)).trans ((W12_of m ρ c main_v15 (by decide)).trans (W11_of m ρ c main_v15 (by decide)))).trans (at10_dwo ρ h)

@[inherit_doc end_p]
theorem end_dx : W13 m ρ c (Proc.devRef .tc main_v17_0) = arr L.dx :=
  (W13_of m ρ c main_v17_0 (by decide)).trans (at12_dx ρ h)

@[inherit_doc end_p]
theorem end_dn : W13 m ρ c (Proc.devRef .tc main_v17_1) = arr fun _ d => L.dn d :=
  (W13_of m ρ c main_v17_1 (by decide)).trans (at12_dn ρ h)

omit h in
/-- Of the gates' inputs the host keeps the first sixteen columns, -/
theorem read_f : W13 m ρ c (Proc.devRef .tc main_v18) = (extractStridedSlice S8448x16 ![0, 0]
    (W12 m ρ c (Proc.devRef .tc main_v12) : FVec Ideal S8448x128 .f32) slices_S8448x128_S8448x16_0_0 : FVec Ideal S8448x16 .f32) := by
  after_reads_simp

omit h in
/-- and of the weight's gradient the columns the weight has. -/
theorem read_dw : W13 m ρ c (Proc.devRef .tc main_v19) = (extractStridedSlice S1024x3088 ![0, 0]
    (W12 m ρ c (Proc.devRef .tc main_v16) : FVec Ideal S1024x3200 .f32) slices_S1024x3200_S1024x3088_0_0 : FVec Ideal S1024x3088 .f32) := by
  after_reads_simp

@[inherit_doc read_f]
theorem end_f : W13 m ρ c (Proc.devRef .tc main_v18) = arr fun r j => L.p r (3072 + j) := eq_of_is (R := 8448) (C := 16) fun r d => by
  rw [read_f ρ, show W12 m ρ c (Proc.devRef .tc main_v12) = _ from ((W12_of m ρ c main_v12 (by decide)).trans ((W11_of m ρ c main_v12 (by decide)).trans ((W10_of m ρ c main_v12 (by decide)).trans ((W9_of m ρ c main_v12 (by decide)).trans (W8_of m ρ c main_v12 (by decide)))))).trans (at7_f ρ h)]
  pointwise
  rfl

@[inherit_doc read_dw]
theorem end_dw : W13 m ρ c (Proc.devRef .tc main_v19) = arr L.dw := eq_of_is (R := 1024) (C := 3088) fun r d => by
  rw [read_dw ρ, show W12 m ρ c (Proc.devRef .tc main_v16) = _ from (W12_of m ρ c main_v16 (by decide)).trans (at11_dw ρ h)]
  pointwise
  rfl

end Cert.Kernel4Ideal.Hand

end
-- ==== Proof.Fox.Ref.lean ====
module

public import proofs.«01_k».proof.Proof.Sides.Math
public import proofs.«01_k».proof.Proof.Gen.Reference4Ideal.Read
public import Idealize.ShloMosaic.Lib.Pointwise

@[expose] public section

set_option maxRecDepth 16384

/-!
# What the reference around mixer D's attention computes

Each of its stages, as the value of `Cert.Sides.Sides` that it is.
-/

noncomputable section

namespace Cert.Reference4Ideal.Hand

open Cert.Reference4Ideal Cert.Reference4Ideal.Gen Cert.Reference4Ideal.Read Cert.Sides Finset
open Idealize.ShloMosaic Idealize.ShloMosaic.TcCoe

/-- The arguments hold a mixer's numbers. -/
structure Holds (L : Sides 3200) (x0 : Vec Ideal S8448x1024 .f32) (x1 : Vec Ideal S1024 .f32) (x2 : Vec Ideal S1024x3088 .f32)
    (x3 : Vec Ideal S8448x1024 .f32) (x4 : Vec Ideal S1024x1024 .f32) (x5 : Vec Ideal S8448x3088 .f32) (x6 : Vec Ideal S8448x1024 .f32) : Prop where
  x : Is (R := 8448) (C := 1024) x0 L.x
  n : ∀ d : Fin 1024, x1 (ix1 d) = L.n d.val
  w : Is (R := 1024) (C := 3088) x2 L.w
  o : Is (R := 8448) (C := 1024) x3 L.o
  wo : Is (R := 1024) (C := 1024) x4 L.wo
  dp : Is (R := 8448) (C := 3088) x5 L.dp
  dp0 : ∀ r j, 3088 ≤ j → L.dp r j = 0
  ct : Is (R := 8448) (C := 1024) x6 L.ct

variable {L : Sides 3200} {x0 : Vec Ideal S8448x1024 .f32} {x1 : Vec Ideal S1024 .f32} {x2 : Vec Ideal S1024x3088 .f32}
    {x3 : Vec Ideal S8448x1024 .f32} {x4 : Vec Ideal S1024x1024 .f32} {x5 : Vec Ideal S8448x3088 .f32} {x6 : Vec Ideal S8448x1024 .f32}
    (h : Holds L x0 x1 x2 x3 x4 x5 x6)
include h

/-- The mean square, with the small number. -/
theorem r_ms (r : Fin 8448) (l : Fin 1) : val_main_v6 (F := Ideal) x0 (ix2 r l) = L.ms r.val := by
  pointwise [val_main_v6, val_main_v5, val_main_v4, val_main_v3, val_main_v2, val_main_v1, val_main_v0, val_main_cst, val_main_cst_0, val_main_cst_1]
  simp only [h.x _ _, Dense.ofBits_eps, Dense.ofBits_kilo]
  rfl

/-- What a row is multiplied by, -/
theorem r_rs (r : Fin 8448) (l : Fin 1) : val_main_v7 (F := Ideal) x0 (ix2 r l) = L.rs r.val := by
  pointwise [val_main_v7]
  rw [r_ms h]
  rfl

/-- and the factor's own derivative. -/
theorem r_drs (r : Fin 8448) (l : Fin 1) : val_main_v10 (F := Ideal) x0 (ix2 r l) = ((-(1 / 2) : ℝ) : EReal) * Ideal.div (L.rs r.val) (L.ms r.val) := by
  pointwise [val_main_v10, val_main_v9, val_main_v8, val_main_cst_2]
  rw [r_ms h, r_rs h, Dense.ofBits_half]

/-- The normalised row, -/
theorem r_y : Is (R := 8448) (C := 1024) (val_main_v12 (F := Ideal) x0) L.y := fun r d => by
  pointwise [val_main_v12, val_main_v11]
  rw [r_rs h, h.x]
  rfl

/-- and with the gain. -/
theorem r_b : Is (R := 8448) (C := 1024) (val_main_v15 (F := Ideal) x0 x1) L.b := fun r d => by
  pointwise [val_main_v15, val_main_v14, val_main_v13]
  rw [r_y h, h.n]
  rfl

/-- The attention's inputs, -/
theorem r_p : Is (R := 8448) (C := 3088) (val_main_v16 (F := Ideal) x0 x1 x2) L.p := fun r j => by
  pointwise [val_main_v16]
  exact sum_congr rfl fun k _ => by rw [r_b h, h.w]

/-- and the rows with the attention's result. -/
theorem r_out : Is (R := 8448) (C := 1024) (val_main_v18 (F := Ideal) x0 x3 x4) L.out := fun r d => by
  pointwise [val_main_v18, val_main_v17]
  rw [h.x, add_comm]
  exact congrArg (· + _) (sum_congr rfl fun k _ => by rw [h.o, h.wo])

/-- The incoming gradient, -/
theorem r_ct : Is (R := 8448) (C := 1024) (val_main_v19 (F := Ideal) x6) L.ct := fun r d => by
  pointwise [val_main_v19]
  exact h.ct r d

/-- the gradient of the weight back to the rows, -/
theorem r_dwo : Is (R := 1024) (C := 1024) (val_main_v21 (F := Ideal) x3 x6) L.dwo := fun k d => by
  pointwise [val_main_v21, val_main_v20]
  exact sum_congr rfl fun r _ => by rw [r_ct h, h.o, mul_comm]

/-- of the attention's result, -/
theorem r_do : Is (R := 8448) (C := 1024) (val_main_v22 (F := Ideal) x4 x6) L.do' := fun r k => by
  pointwise [val_main_v22]
  exact sum_congr rfl fun d _ => by rw [r_ct h, h.wo]

/-- of the weight to the attention's inputs, -/
theorem r_dw : Is (R := 1024) (C := 3088) (val_main_v24 (F := Ideal) x0 x1 x5) L.dw := fun k j => by
  pointwise [val_main_v24, val_main_v23]
  exact sum_congr rfl fun r _ => by rw [r_b h, h.dp, mul_comm]

/-- of the normalised row with the gain, -/
theorem r_da : Is (R := 8448) (C := 1024) (val_main_v25 (F := Ideal) x2 x5) L.da := fun r d => by
  pointwise [val_main_v25]
  rw [Sides.da, sum_short 3088 3200 (by norm_num) (fun j => L.dp r.val j * L.w d.val j) fun j hj => by rw [h.dp0 _ j hj, zero_mul]]
  exact sum_congr rfl fun j _ => by rw [h.dp, h.w]

/-- of the gain, -/
theorem r_dn : Is (R := 1) (C := 1024) (val_main_v53 (F := Ideal) x0 x2 x5) fun _ d => L.dn d := fun l d => by
  pointwise [val_main_v53, val_main_v31, val_main_v28, val_main_v27, val_main_v26, val_main_cst_3, val_main_cst_4]
  rw [Fin.sum_univ_one]
  exact sum_congr rfl fun r _ => by rw [r_y h, r_da h, mul_comm]

/-- of the normalised row, -/
theorem r_dy : Is (R := 8448) (C := 1024) (val_main_v30 (F := Ideal) x1 x2 x5) L.dy := fun r d => by
  pointwise [val_main_v30, val_main_v29, val_main_v13]
  rw [r_da h, h.n]
  rfl

/-- of the square's own share, -/
theorem r_sq (r : Fin 8448) (d : Fin 1024) : val_main_v42 (F := Ideal) x0 x1 x2 x5 (ix2 r d) = L.sq r.val := by
  pointwise [val_main_v42, val_main_v41, val_main_v40, val_main_v39, val_main_v38, val_main_v34, val_main_v33, val_main_v32, val_main_cst_5, val_main_cst_6, val_main_cst_7]
  rw [Fin.sum_univ_one, sum_congr rfl fun k _ => show _ = L.x r.val k.val * L.dy r.val k.val by rw [r_dy h, h.x], r_drs h, Dense.ofBits_kilo]
  rfl

/-- and of the row. -/
theorem r_dx : Is (R := 8448) (C := 1024) (val_main_v46 (F := Ideal) x0 x1 x2 x5 x6) L.dx := fun r d => by
  pointwise [val_main_v46, val_main_v45, val_main_v44, val_main_v43, val_main_v37, val_main_v36, val_main_v35]
  rw [r_sq h, r_dy h, r_rs h, h.x, h.ct, L.dx_eq r.val d.val d.isLt]

/-- The queries, keys and values as they are returned, -/
theorem r_p' : Is (R := 8448) (C := 3072) (val_main_v48 (F := Ideal) x0 x1 x2) L.p := fun r j => by
  pointwise [val_main_v48, val_main_v47]
  exact r_p h r ⟨j.val, by omega⟩

/-- with rows and columns exchanged, -/
theorem r_pt : Is (R := 3072) (C := 8448) (val_main_v50 (F := Ideal) x0 x1 x2) fun j r => L.p r j := fun j r => by
  pointwise [val_main_v50]
  exact r_p' h r j

/-- the gates' inputs, -/
theorem r_f : Is (R := 8448) (C := 16) (val_main_v51 (F := Ideal) x0 x1 x2) fun r j => L.p r (3072 + j) := fun r j => by
  pointwise [val_main_v51]
  exact r_p h r ⟨3072 + j.val, by omega⟩

/-- and the gradient of the attention's result, -/
theorem r_do' : Is (R := 8448) (C := 1024) (val_main_v49 (F := Ideal) x4 x6) L.do' := fun r k => by
  pointwise [val_main_v49]
  exact r_do h r k

/-- also with rows and columns exchanged. -/
theorem r_dot : Is (R := 1024) (C := 8448) (val_main_v52 (F := Ideal) x4 x6) fun k r => L.do' r k := fun k r => by
  pointwise [val_main_v52]
  exact r_do' h r k

end Cert.Reference4Ideal.Hand

end
-- ==== Proof.Fox.Algebraic.lean ====
module

public import proofs.«01_k».proof.Proof.Fox.Frames
public import proofs.«01_k».proof.Proof.Fox.Trace
public import proofs.«01_k».proof.Proof.Fox.Ref

@[expose] public section

set_option maxRecDepth 16384

/-!
# The equation around mixer D's attention

The calls' and the reference's runs end with the same arrays: the attention's inputs, the rows with its result, and the
gradients of the result, of the two weights, of the rows and of the gain.
-/

noncomputable section

open Idealize.ShloMosaic Idealize.ShloMosaic.TcCoe Idealize.SL.Sem Cert.Sides

namespace Cert.Kernel4Ideal.Hand

open Cert.Kernel4Ideal Cert.Kernel4Ideal.Gen

variable (m : (ℓ : Loc nD τ sig) → Buf (Elt Ideal) ℓ) (ρ : Dev nD → PrngReg)

/-- The numbers that a device's arguments hold. -/
def sides (c : Dev nD) : Sides 3200 :=
  ⟨entries (R := 8448) (C := 1024) (m ((c : Thread nD τ).loc main_arg0)), entries1 (C := 1024) (m ((c : Thread nD τ).loc main_arg1)),
    entries (R := 1024) (C := 3088) (m ((c : Thread nD τ).loc main_arg2)), entries (R := 8448) (C := 1024) (m ((c : Thread nD τ).loc main_arg3)),
    entries (R := 1024) (C := 1024) (m ((c : Thread nD τ).loc main_arg4)), entries (R := 8448) (C := 3088) (m ((c : Thread nD τ).loc main_arg5)),
    entries (R := 8448) (C := 1024) (m ((c : Thread nD τ).loc main_arg6))⟩

/-- They do hold them. -/
theorem holds (c : Dev nD) : Holds m c (sides m c) :=
  ⟨is_entries _, is_entries1 _, is_entries _, is_entries _, is_entries _, is_entries _, fun k j e => entries_right _ k j e, fun r j e => entries_right _ r j e, is_entries _⟩

variable (L : Dev nD → Sides 3200)

/-- The calls end with the numbers the mixer's arrays should hold. -/
theorem run_sides (H : ∀ c : Dev nD, Holds m c (L c)) :
    θ_run defs (onTc (τ := τ) (main (F := Ideal))) ⟨m, fun _ => 0, ρ⟩ fun r => ∀ c : Dev nD,
      r.2.mem ((c.tc : Thread nD τ).loc main_v11_0) = arr (L c).p
      ∧ r.2.mem ((c.tc : Thread nD τ).loc main_v11_2) = arr (fun j r => (L c).p r j)
      ∧ r.2.mem ((c.tc : Thread nD τ).loc main_v18) = arr (fun r j => (L c).p r (3072 + j))
      ∧ r.2.mem ((c.tc : Thread nD τ).loc main_v13) = arr (L c).out
      ∧ r.2.mem ((c.tc : Thread nD τ).loc main_v14_0) = arr (L c).do'
      ∧ r.2.mem ((c.tc : Thread nD τ).loc main_v14_1) = arr (fun k r => (L c).do' r k)
      ∧ r.2.mem ((c.tc : Thread nD τ).loc main_v15) = arr (L c).dwo
      ∧ r.2.mem ((c.tc : Thread nD τ).loc main_v19) = arr (L c).dw
      ∧ r.2.mem ((c.tc : Thread nD τ).loc main_v17_0) = arr (L c).dx
      ∧ r.2.mem ((c.tc : Thread nD τ).loc main_v17_1) = arr (fun _ d => (L c).dn d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h.1 c _ (mem_uc main_v11_0 (by decide))).trans (end_p ρ (H c)),
        (h.1 c _ (mem_uc main_v11_2 (by decide))).trans (end_pt ρ (H c)),
        (h.1 c _ (mem_uc main_v18 (by decide))).trans (end_f ρ (H c)),
        (h.1 c _ (mem_uc main_v13 (by decide))).trans (end_out ρ (H c)),
        (h.1 c _ (mem_uc main_v14_0 (by decide))).trans (end_do ρ (H c)),
        (h.1 c _ (mem_uc main_v14_1 (by decide))).trans (end_dot ρ (H c)),
        (h.1 c _ (mem_uc main_v15 (by decide))).trans (end_dwo ρ (H c)),
        (h.1 c _ (mem_uc main_v19 (by decide))).trans (end_dw ρ (H c)),
        (h.1 c _ (mem_uc main_v17_0 (by decide))).trans (end_dx ρ (H c)),
        (h.1 c _ (mem_uc main_v17_1 (by decide))).trans (end_dn ρ (H c)),
        args_end m ρ h.1 c⟩)
    (run_end m ρ)

end Cert.Kernel4Ideal.Hand

namespace Cert.Reference4Ideal.Hand

open Cert.Reference4Ideal Cert.Reference4Ideal.Gen

variable (m : (ℓ : Loc nD τ sig) → Buf (Elt Ideal) ℓ) (ρ : Dev nD → PrngReg) (L : Dev nD → Sides 3200)

/-- So does the reference. -/
theorem run_reference (H : ∀ c : Dev nD, Holds (L c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    θ_run defs (onTc (τ := τ) (main (F := Ideal))) ⟨m, fun _ => 0, ρ⟩ fun r => ∀ c : Dev nD,
      r.2.mem ((c.tc : Thread nD τ).loc main_v48) = arr (L c).p
      ∧ r.2.mem ((c.tc : Thread nD τ).loc main_v50) = arr (fun j r => (L c).p r j)
      ∧ r.2.mem ((c.tc : Thread nD τ).loc main_v51) = arr (fun r j => (L c).p r (3072 + j))
      ∧ r.2.mem ((c.tc : Thread nD τ).loc main_v18) = arr (L c).out
      ∧ r.2.mem ((c.tc : Thread nD τ).loc main_v49) = arr (L c).do'
      ∧ r.2.mem ((c.tc : Thread nD τ).loc main_v52) = arr (fun k r => (L c).do' r k)
      ∧ r.2.mem ((c.tc : Thread nD τ).loc main_v21) = arr (L c).dwo
      ∧ r.2.mem ((c.tc : Thread nD τ).loc main_v24) = arr (L c).dw
      ∧ r.2.mem ((c.tc : Thread nD τ).loc main_v46) = arr (L c).dx
      ∧ r.2.mem ((c.tc : Thread nD τ).loc main_v53) = arr (fun _ d => (L c).dn d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨e1, e2, e3, e4, e5, e6, e7, e8, e9, e10, e11⟩ := h c
      exact ⟨(e1.trans (Read.val_main_v48_eq _ _ _)).trans (eq_of_is (r_p' (H c))),
        (e2.trans (Read.val_main_v50_eq _ _ _)).trans (eq_of_is (r_pt (H c))),
        (e3.trans (Read.val_main_v51_eq _ _ _)).trans (eq_of_is (r_f (H c))),
        (e4.trans (Read.val_main_v18_eq _ _ _)).trans (eq_of_is (r_out (H c))),
        (e5.trans (Read.val_main_v49_eq _ _)).trans (eq_of_is (r_do' (H c))),
        (e6.trans (Read.val_main_v52_eq _ _)).trans (eq_of_is (r_dot (H c))),
        (e7.trans (Read.val_main_v21_eq _ _)).trans (eq_of_is (r_dwo (H c))),
        (e8.trans (Read.val_main_v24_eq _ _ _)).trans (eq_of_is (r_dw (H c))),
        (e9.trans (Read.val_main_v46_eq m c)).trans (eq_of_is (r_dx (H c))),
        (e10.trans (Read.val_main_v53_eq _ _ _)).trans (eq_of_is (r_dn (H c))),
        e11⟩)
    (Cert.Reference4Ideal.Value.run (F := Ideal) m ρ)

end Cert.Reference4Ideal.Hand

namespace Cert.Kernel4Ideal.Hand

/-- The calls and the reference end with the same arrays. -/
theorem equation_sides : Cert.algebraic_Kernel4Ideal_Reference4Ideal := fun m g m' g' _ e => by
  refine ⟨_, _, _, _, _, _, _, _, _, _, run_sides m g (sides m) (holds m), Cert.Reference4Ideal.Hand.run_reference m' g' (sides m) fun c => ?_⟩
  obtain ⟨e0, e1, e2, e3, e4, e5, e6⟩ := e c
  rw [e0, e1, e2, e3, e4, e5, e6]
  have H := holds m c
  exact ⟨H.x, H.n, H.w, H.o, H.wo, H.dp, H.dp0, H.ct⟩

end Cert.Kernel4Ideal.Hand

end
-- ==== Proof.Mla.Run.lean ====
module

public import proofs.«01_k».proof.Proof.Gen.Kernel5Ideal.Frame

@[expose] public section

set_option maxRecDepth 16384

/-!
# The run of the twelve calls of mixer C's projections

The host's operations and twelve calls, one after the other. In the end every array holds what the last boundary's
contents say of it, and every counter is at zero; the arguments are as they were.
-/

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F] (m : (ℓ : Loc nD τ sig) → Buf (Elt F) ℓ) (ρ : Dev nD → PrngReg)

/-- The assertions of the launch. -/
abbrev Res (F : FTy → Type) [FloatOps F] := MT nD τ sig Unit (Elt F) ℕ (UR sig nD τ) ℕ

/-- Owning nothing on each device is owning nothing. -/
theorem none_each : (BI.emp : sProp (Res F)) ⊢ bigSep Finset.univ (fun _ : Dev nD => (BI.emp : sProp (Res F))) := by
  rw [BI.bigSep_emp_const]

/-- The tokens the calls' buffers start from, as the launch has them. -/
theorem tokens : (ownU (initOf (Pipeline.cells cfgs cellOf_inj) (Pipeline.launchToks cfgs cellOf_inj)) : sProp (Res F))
    ⊢ BI.own (emb₁ (initOf (Pipeline.cells cfgs cellOf_inj) (Pipeline.launchToks cfgs cellOf_inj))) := .rfl

set_option backward.isDefEq.respectTransparency.types false in
/-- Every run ends, with the last boundary's contents in every array and every counter at zero. -/
theorem run_end : θ_run defs (onTc (τ := τ) (main (F := F))) ⟨m, fun _ => 0, ρ⟩ fun r =>
    (∀ c : Dev nD, ∀ b ∈ Pipeline.ucRefs τ sig, r.2.mem (((c : Thread nD τ)).1, b) = W15 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (tokens (F := F))
        iexact Hu
      iapply (none_each (F := F))
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun _ h hz => ⟨h, funext fun g => hz g (.inr (no_unscoped g.2))⟩)

/-- The arguments are as they were. -/
theorem args_end {s : (ℓ : Loc nD τ sig) → Buf (Elt F) ℓ} (h : ∀ c : Dev nD, ∀ b ∈ Pipeline.ucRefs τ sig, s (((c : Thread nD τ)).1, b) = W15 m ρ c b)
    (c : Dev nD) : s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12) :=
  ⟨(h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c),
    (h c _ (mem_uc main_arg6 (by decide))).trans (W15_main_arg6 m ρ c),
    (h c _ (mem_uc main_arg7 (by decide))).trans (W15_main_arg7 m ρ c),
    (h c _ (mem_uc main_arg8 (by decide))).trans (W15_main_arg8 m ρ c),
    (h c _ (mem_uc main_arg9 (by decide))).trans (W15_main_arg9 m ρ c),
    (h c _ (mem_uc main_arg10 (by decide))).trans (W15_main_arg10 m ρ c),
    (h c _ (mem_uc main_arg11 (by decide))).trans (W15_main_arg11 m ρ c),
    (h c _ (mem_uc main_arg12 (by decide))).trans (W15_main_arg12 m ρ c)⟩

end Cert.Kernel5Ideal.Hand

end
-- ==== Proof.Mla.Frames.lean ====
module

public import proofs.«01_k».proof.Defs
public import proofs.«01_k».proof.Proof.Mla.Run
public import proofs.«01_k».proof.Proof.Gen.Kernel5.Frame
public import proofs.«01_k».proof.Proof.Gen.Reference5Ideal.Run
public import Idealize.ShloMosaic.Lib.Claim
public import Idealize.ShloMosaic.Lib.Quiescent

@[expose] public section

/-!
# The frames of mixer C's projections

Over floats and over the extended reals the twelve calls run one after the other and leave the arguments alone; so does
the reference.
-/

noncomputable section

namespace Cert.Kernel5Ideal.Hand

open Idealize.ShloMosaic Idealize.ShloMosaic.TcCoe Idealize.SL.Sem

/-- The calls over floats end with the arguments unchanged and every counter at zero. -/
theorem frame_sides : Cert.quiescent_Kernel5 := fun m ρ _ => Cert.Kernel5.Gen.frame m ρ

/-- The same over the extended reals. -/
theorem frame_sides_ideal : Cert.quiescent_Kernel5Ideal := fun m ρ _ =>
  (θ_run Cert.Kernel5Ideal.defs _ _).mono (fun _ h => ⟨args_end m ρ h.1, h.2⟩) (run_end (F := Ideal) m ρ)

/-- The reference over the extended reals ends with its arguments unchanged and every counter at zero. -/
theorem frame_sides_reference : Cert.quiescent_Reference5Ideal := fun m ρ _ =>
  (θ_run Cert.Reference5Ideal.defs _ _).mono (fun r h => ⟨fun c => (h c).2.2.2.2.2.2.2.2.2.2.2.2.2, sem_eq_zero_of_no_sems rfl r.2⟩)
    (Cert.Reference5Ideal.Value.run (F := Ideal) m ρ)

end Cert.Kernel5Ideal.Hand

end
-- ==== Proof.Mla.Math.lean ====
module

public import proofs.«01_k».proof.Proof.Sides.Math

@[expose] public section

/-!
# Mixer C's projections over the extended reals

Rows of `K` numbers are normalised by their root mean square, scaled by a gain and multiplied by a weight (`Norm`). Mixer C
does so with its rows, and again with two ranges of the result's columns; its third range is handed on (`Mla`). Entries may
be infinite.
-/

noncomputable section

namespace Cert.Sides

open Finset Idealize.ShloMosaic

/-- 384 as it is printed, -/
theorem ofBits_384 : Ideal.ofBits .f32 0x43C00000#32 = (((384 : ℕ) : ℝ) : EReal) := by
  simp [Ideal.ofBits, Ideal.ieee, -EReal.coe_mul]; norm_num

/-- and 256. -/
theorem ofBits_256 : Ideal.ofBits .f32 0x43800000#32 = (((256 : ℕ) : ℝ) : EReal) := by
  simp [Ideal.ofBits, Ideal.ieee, -EReal.coe_mul]; norm_num

/-- Rows of `K` numbers, a gain, a weight of `W` columns, and the gradient of the product. -/
structure Norm (K W : ℕ) where
  x : ℕ → ℕ → EReal
  n : ℕ → EReal
  w : ℕ → ℕ → EReal
  dp : ℕ → ℕ → EReal

namespace Norm

variable {K W : ℕ} (L : Norm K W)

/-- A row's mean square, with the small number. -/
def ms (r : ℕ) : EReal := Ideal.div (∑ k : Fin K, L.x r k.val * L.x r k.val) ((K : ℝ) : EReal) + ((Dense.eps : ℝ) : EReal)

/-- What the row is multiplied by, -/
def rs (r : ℕ) : EReal := Ideal.rsqrt (L.ms r)

/-- the normalised row, -/
def y (r d : ℕ) : EReal := L.x r d * L.rs r

/-- with the gain, -/
def b (r d : ℕ) : EReal := L.y r d * L.n d

/-- and the product. -/
def p (r j : ℕ) : EReal := ∑ k : Fin K, L.b r k.val * L.w k.val j

/-- The gradient of the weight, -/
def dw (k j : ℕ) : EReal := ∑ r : Fin 8448, L.b r.val k * L.dp r.val j

/-- of the normalised row with the gain, -/
def da (r d : ℕ) : EReal := ∑ j : Fin W, L.dp r j.val * L.w d j.val

/-- of the normalised row, -/
def dy (r d : ℕ) : EReal := L.da r d * L.n d

/-- of the row, -/
def dx (r d : ℕ) : EReal := L.rs r * (L.dy r d - L.y r d * Ideal.div (∑ k : Fin K, L.dy r k.val * L.y r k.val) ((K : ℝ) : EReal))

/-- and of the gain. -/
def dn (d : ℕ) : EReal := ∑ r : Fin 8448, L.da r.val d * L.y r.val d

/-- The other form of the gradient of the row's square. -/
def sq (r : ℕ) : EReal := Ideal.div ((∑ k : Fin K, L.x r k.val * L.dy r k.val) * (((-(1 / 2) : ℝ) : EReal) * Ideal.div (L.rs r) (L.ms r))) ((K : ℝ) : EReal)

/-- A row of real numbers has a real mean square, -/
theorem ms_real (hK : 0 < (K : ℝ)) (r : ℕ) (ξ : ℕ → ℝ) (h : ∀ k : Fin K, L.x r k.val = ((ξ k.val : ℝ) : EReal)) :
    ∃ m : ℝ, 0 < m ∧ L.ms r = (m : EReal) := by
  refine ⟨(∑ k : Fin K, ξ k.val * ξ k.val) / K + Dense.eps,
    add_pos_of_nonneg_of_pos (div_nonneg (sum_nonneg fun _ _ => mul_self_nonneg _) hK.le) Dense.eps_pos, ?_⟩
  rw [ms, Dense.sum_real (g := fun k : Fin K => ξ k.val * ξ k.val) fun k => by rw [h k, ← EReal.coe_mul], Dense.div_real hK.ne',
    ← EReal.coe_add]

/-- and the mean square of any other row is infinite. -/
theorem ms_top (hK : 0 < (K : ℝ)) (r : ℕ) (k : Fin K) (h : L.x r k.val = ⊤ ∨ L.x r k.val = ⊥) : L.ms r = ⊤ := by
  have e : L.x r k.val * L.x r k.val = ⊤ := by
    rcases h with h | h <;> rw [h] <;> rfl
  have s : ∑ k : Fin K, L.x r k.val * L.x r k.val = ⊤ :=
    top_unique (e ▸ single_le_sum (f := fun k : Fin K => L.x r k.val * L.x r k.val) (fun _ _ => Sides.sq_nonneg _) (mem_univ k))
  rw [ms, s, Ideal.div_coe hK.ne', EReal.top_mul_coe_of_pos (by positivity), EReal.top_add_coe]

/-- The other form of the gradient of the row: the factor's own derivative is `-½·rs/ms` times the square's. -/
theorem dx_eq (r d : ℕ) (hd : d < K) : L.dx r d = L.dy r d * L.rs r + L.x r d * L.sq r + L.sq r * L.x r d := by
  have hK : 0 < (K : ℝ) := by exact_mod_cast (Nat.zero_le d).trans_lt hd
  by_cases h : ∃ k : Fin K, L.x r k.val = ⊤ ∨ L.x r k.val = ⊥
  · obtain ⟨k, hk⟩ := h
    have hm := L.ms_top hK r k hk
    have hr : L.rs r = 0 := by rw [rs, hm]; rfl
    have hq : L.sq r = 0 := by
      rw [sq, hr, hm, Ideal.div_coe hK.ne']
      simp [Ideal.div]
    rw [dx, hr, hq]
    simp
  · push Not at h
    have hx : ∀ k : Fin K, L.x r k.val = (((L.x r k.val).toReal : ℝ) : EReal) := fun k => (EReal.coe_toReal (h k).1 (h k).2).symm
    obtain ⟨m, hm0, hm⟩ := L.ms_real hK r (fun k => (L.x r k).toReal) hx
    have hr : L.rs r = (((√m)⁻¹ : ℝ) : EReal) := by rw [rs, hm]; exact Dense.rsqrt_real hm0
    have hs0 : 0 < (√m)⁻¹ := inv_pos.mpr (Real.sqrt_pos.mpr hm0)
    have hss : (√m)⁻¹ / m = (√m)⁻¹ * ((√m)⁻¹ * (√m)⁻¹) := by rw [← mul_inv (√m), Real.mul_self_sqrt hm0.le, div_eq_mul_inv]
    generalize (√m)⁻¹ = s at hr hs0 hss
    have hS : ∑ k : Fin K, L.dy r k.val * L.y r k.val = (s : EReal) * ∑ k : Fin K, L.x r k.val * L.dy r k.val := by
      rw [Sides.mul_sum_pos s hs0.le]
      refine sum_congr rfl fun k _ => ?_
      rw [y, hr]
      ac_rfl
    obtain ⟨ξ, hξ⟩ : ∃ ξ : ℝ, L.x r d = (ξ : EReal) := ⟨_, hx ⟨d, hd⟩⟩
    have hq : L.sq r = ((-(1 / 2) * (s * (s * s)) * (1 / K) : ℝ) : EReal) * ∑ k : Fin K, L.x r k.val * L.dy r k.val := by
      rw [sq, hr, hm, Dense.div_real hm0.ne', hss, Ideal.div_coe hK.ne', ← EReal.coe_mul, mul_assoc, ← EReal.coe_mul, mul_comm]
    rw [dx, hS, hq, y, hr, hξ, Ideal.div_coe hK.ne']
    generalize ∑ k : Fin K, L.x r k.val * L.dy r k.val = T
    have e1 : ((-(1 / 2) * (s * (s * s)) * (1 / K) : ℝ) : EReal) * T * (ξ : EReal) = (ξ : EReal) * (((-(1 / 2) * (s * (s * s)) * (1 / K) : ℝ) : EReal) * T) :=
      mul_comm _ _
    rw [e1, add_assoc (L.dy r d * s), Sides.twice, sub_eq_add_neg,
      EReal.left_distrib_of_nonneg_of_ne_top (by exact_mod_cast hs0.le) (EReal.coe_ne_top s), mul_comm (s : EReal) (L.dy r d)]
    congr 1
    have e2 : -((ξ : EReal) * s * (s * T * ((1 / K : ℝ) : EReal))) = ((-(ξ * s * s * (1 / K)) : ℝ) : EReal) * T := by
      rw [EReal.coe_neg, EReal.neg_mul]
      congr 1
      simp only [EReal.coe_mul]
      ac_rfl
    rw [e2, ← mul_assoc, ← mul_assoc, ← mul_assoc, ← EReal.coe_mul, ← EReal.coe_mul, ← EReal.coe_mul]
    congr 2
    ring

end Norm

/-- Mixer C's rows, gains, weights and attention's result, and the gradients of the queries' and of the keys' and values'
products, of the shared part of the keys, and of the sum. -/
structure Mla where
  x : ℕ → ℕ → EReal
  n : ℕ → EReal
  w : ℕ → ℕ → EReal
  qn : ℕ → EReal
  kn : ℕ → EReal
  wq : ℕ → ℕ → EReal
  wk : ℕ → ℕ → EReal
  o : ℕ → ℕ → EReal
  wo : ℕ → ℕ → EReal
  dq : ℕ → ℕ → EReal
  dk : ℕ → ℕ → EReal
  dr : ℕ → ℕ → EReal
  ct : ℕ → ℕ → EReal

namespace Mla

variable (L : Mla)

/-- The product down: 384 columns of the queries, 256 of the keys and values, and 32 that the keys share. -/
def down (r j : ℕ) : EReal := Sides.p (⟨L.x, L.n, L.w, L.o, L.wo, fun _ _ => 0, L.ct⟩ : Sides 672) r j

/-- The queries' columns, normalised and multiplied by their weight. -/
def q : Norm 384 2048 := ⟨L.down, L.qn, L.wq, L.dq⟩

/-- The keys' and values' columns, normalised and multiplied by theirs. -/
def k : Norm 256 2048 := ⟨fun r d => L.down r (384 + d), L.kn, L.wk, L.dk⟩

/-- The gradient of the product down: side by side, those of its three parts. -/
def dd (r j : ℕ) : EReal := if j < 384 then L.q.dx r j else if j < 640 then L.k.dx r (j - 384) else L.dr r (j - 640)

/-- The rows, the product down and the product back to the rows. -/
def s : Sides 672 := ⟨L.x, L.n, L.w, L.o, L.wo, L.dd, L.ct⟩

/-- Its product is the product down. -/
theorem s_p : L.s.p = L.down := rfl

end Mla

end Cert.Sides

end
-- ==== Proof.Mla.Tile.lean ====
module

public import proofs.«01_k».proof.Proof.Mla.Math
public import proofs.«01_k».proof.Proof.Gen.Kernel5Ideal.Skeleton

@[expose] public section

set_option maxRecDepth 16384

/-!
# Mixer C's projections, tile by tile

What each call computes of one of its tiles: where the tile holds the rows from `R` on, the results are these rows' values.
-/

noncomputable section

namespace Cert.Kernel5Ideal.Hand

open Cert.Kernel5Ideal Cert.Kernel5Ideal.Gen Cert.Sides Finset
open Idealize.ShloMosaic Idealize.ShloMosaic.TcCoe

variable {L : Sides 672} {R : ℕ}

section Outer

variable {X C : Vec Ideal S384x1024 .f32} {N : Vec Ideal S1x1024 .f32} {A : Vec Ideal S1024x672 .bf16} {D : Vec Ideal S384x672 .bf16}

/-- The factor of a row. -/
theorem rs_tile (hX : Is X fun r d => L.x (R + r) d) (r : Fin 384) : k11_pay3 X (ix2 r 0) = L.rs (R + r.val) := by
  pointwise [k11_pay3]
  simp only [hX _ _, Dense.ofBits_eps, Dense.ofBits_kilo]
  rfl

/-- The normalised rows with the gain. -/
theorem b_tile (hX : Is X fun r d => L.x (R + r) d) (hN : Is N fun _ d => L.n d) : Is (k0_pay1 X N) fun r d => L.b (R + r) d := by
  intro r c
  have h := rs_tile hX r
  pointwise [k11_pay3] at h
  pointwise [k0_pay1]
  rw [h, hX, hN]
  rfl

/-- The product down. -/
theorem p_tile (hX : Is X fun r d => L.x (R + r) d) (hN : Is N fun _ d => L.n d) (hA : Is A L.w) :
    Is (k0_pay2 X N A) fun r j => L.p (R + r) j := by
  intro r c
  pointwise [k0_pay2]
  exact sum_congr rfl fun k _ => by rw [b_tile hX hN, hA]

/-- The gradient of the normalised rows with the gain, -/
theorem da_tile (hD : Is D fun r j => L.dp (R + r) j) (hA : Is A L.w) : Is (k11_pay2 D A) fun r d => L.da (R + r) d := by
  intro r c
  pointwise [k11_pay2]
  exact sum_congr rfl fun k _ => by rw [hD, hA]

/-- the normalised rows, -/
theorem y_tile (hX : Is X fun r d => L.x (R + r) d) : Is (k11_pay4 X) fun r d => L.y (R + r) d := by
  intro r c
  pointwise [k11_pay4]
  rw [rs_tile hX, hX]
  rfl

/-- and the gradient of the rows. -/
theorem dx_tile (hD : Is D fun r j => L.dp (R + r) j) (hA : Is A L.w) (hX : Is X fun r d => L.x (R + r) d)
    (hN : Is N fun _ d => L.n d) (hC : Is C fun r d => L.ct (R + r) d) : Is (k11_pay5 D A X N C) fun r d => L.dx (R + r) d := by
  intro r c
  pointwise [k11_pay5]
  rw [sum_congr rfl fun k _ => show _ = L.dy (R + r.val) k.val * L.y (R + r.val) k.val by rw [da_tile hD hA, hN, y_tile hX]; rfl,
    da_tile hD hA, hN, y_tile hX, rs_tile hX, hC, Dense.ofBits_kilo]
  rfl

end Outer

/-- The rows with the attention's result. -/
theorem out_tile {A : Vec Ideal S768x1024 .bf16} {W : Vec Ideal S1024x1024 .bf16} {X : Vec Ideal S768x1024 .f32}
    (hA : Is A fun r j => L.o (R + r) j) (hW : Is W L.wo) (hX : Is X fun r d => L.x (R + r) d) :
    Is (k3_pay1 A W X) fun r d => L.out (R + r) d := by
  intro r c
  pointwise [k3_pay1]
  rw [hX]
  exact congrArg (· + _) (sum_congr rfl fun k _ => by rw [hA, hW])

/-- The gradient of the attention's result. -/
theorem do_tile {C : Vec Ideal S768x1024 .f32} {W : Vec Ideal S1024x1024 .bf16} (hC : Is C fun r d => L.ct (R + r) d) (hW : Is W L.wo) :
    Is (k4_pay1 C W) fun r k => L.do' (R + r) k := by
  intro r c
  pointwise [k4_pay1]
  exact sum_congr rfl fun k _ => by rw [hC, hW]

/-! ## The products up, of the queries and of the keys and values -/

section Queries

variable {P : Norm 384 2048} {X : Vec Ideal S384x384 .f32} {N : Vec Ideal S1x384 .f32} {A : Vec Ideal S384x2048 .bf16} {D : Vec Ideal S384x2048 .bf16}

/-- The factor of a row, -/
theorem q_rs_tile (hX : Is X fun r d => P.x (R + r) d) (r : Fin 384) : k8_pay4 X (ix2 r 0) = P.rs (R + r.val) := by
  pointwise [k8_pay4, k8_pay3]
  simp only [hX _ _, Dense.ofBits_eps, ofBits_384]
  rfl

/-- the normalised rows with the gain, -/
theorem q_b_tile (hX : Is X fun r d => P.x (R + r) d) (hN : Is N fun _ d => P.n d) : Is (k1_pay1 X N) fun r d => P.b (R + r) d := by
  intro r c
  have h := q_rs_tile hX r
  pointwise [k8_pay4, k8_pay3] at h
  pointwise [k1_pay1]
  rw [h, hX, hN]
  rfl

/-- the product, -/
theorem q_p_tile (hX : Is X fun r d => P.x (R + r) d) (hN : Is N fun _ d => P.n d) (hA : Is A P.w) :
    Is (k1_pay2 X N A) fun r j => P.p (R + r) j := by
  intro r c
  pointwise [k1_pay2]
  exact sum_congr rfl fun k _ => by rw [q_b_tile hX hN, hA]

/-- the gradient of the normalised rows with the gain, -/
theorem q_da_tile (hD : Is D fun r j => P.dp (R + r) j) (hA : Is A P.w) : Is (k8_pay2 D A) fun r d => P.da (R + r) d := by
  intro r c
  pointwise [k8_pay2]
  exact sum_congr rfl fun k _ => by rw [hD, hA]

/-- the normalised rows, -/
theorem q_y_tile (hX : Is X fun r d => P.x (R + r) d) : Is (k8_pay5 X) fun r d => P.y (R + r) d := by
  intro r c
  pointwise [k8_pay5, k8_pay3]
  rw [q_rs_tile hX, hX]
  rfl

/-- and the gradient of the rows. -/
theorem q_dx_tile (hD : Is D fun r j => P.dp (R + r) j) (hA : Is A P.w) (hX : Is X fun r d => P.x (R + r) d)
    (hN : Is N fun _ d => P.n d) : Is (k8_pay6 D A X N) fun r d => P.dx (R + r) d := by
  intro r c
  pointwise [k8_pay6]
  rw [sum_congr rfl fun k _ => show _ = P.dy (R + r.val) k.val * P.y (R + r.val) k.val by rw [q_da_tile hD hA, hN, q_y_tile hX]; rfl,
    q_da_tile hD hA, hN, q_y_tile hX, q_rs_tile hX, ofBits_384]
  rfl

end Queries

section Keys

variable {P : Norm 256 2048} {X : Vec Ideal S384x256 .f32} {N : Vec Ideal S1x256 .f32} {A : Vec Ideal S256x2048 .bf16} {D : Vec Ideal S384x2048 .bf16}

/-- The factor of a row, -/
theorem k_rs_tile (hX : Is X fun r d => P.x (R + r) d) (r : Fin 384) : k9_pay4 X (ix2 r 0) = P.rs (R + r.val) := by
  pointwise [k9_pay4, k9_pay3]
  simp only [hX _ _, Dense.ofBits_eps, ofBits_256]
  rfl

/-- the normalised rows with the gain, -/
theorem k_b_tile (hX : Is X fun r d => P.x (R + r) d) (hN : Is N fun _ d => P.n d) : Is (k2_pay1 X N) fun r d => P.b (R + r) d := by
  intro r c
  have h := k_rs_tile hX r
  pointwise [k9_pay4, k9_pay3] at h
  pointwise [k2_pay1]
  rw [h, hX, hN]
  rfl

/-- the product, -/
theorem k_p_tile (hX : Is X fun r d => P.x (R + r) d) (hN : Is N fun _ d => P.n d) (hA : Is A P.w) :
    Is (k2_pay2 X N A) fun r j => P.p (R + r) j := by
  intro r c
  pointwise [k2_pay2]
  exact sum_congr rfl fun k _ => by rw [k_b_tile hX hN, hA]

/-- the gradient of the normalised rows with the gain, -/
theorem k_da_tile (hD : Is D fun r j => P.dp (R + r) j) (hA : Is A P.w) : Is (k9_pay2 D A) fun r d => P.da (R + r) d := by
  intro r c
  pointwise [k9_pay2]
  exact sum_congr rfl fun k _ => by rw [hD, hA]

/-- the normalised rows, -/
theorem k_y_tile (hX : Is X fun r d => P.x (R + r) d) : Is (k9_pay5 X) fun r d => P.y (R + r) d := by
  intro r c
  pointwise [k9_pay5, k9_pay3]
  rw [k_rs_tile hX, hX]
  rfl

/-- and the gradient of the rows. -/
theorem k_dx_tile (hD : Is D fun r j => P.dp (R + r) j) (hA : Is A P.w) (hX : Is X fun r d => P.x (R + r) d)
    (hN : Is N fun _ d => P.n d) : Is (k9_pay6 D A X N) fun r d => P.dx (R + r) d := by
  intro r c
  pointwise [k9_pay6]
  rw [sum_congr rfl fun k _ => show _ = P.dy (R + r.val) k.val * P.y (R + r.val) k.val by rw [k_da_tile hD hA, hN, k_y_tile hX]; rfl,
    k_da_tile hD hA, hN, k_y_tile hX, k_rs_tile hX, ofBits_256]
  rfl

end Keys

/-! ## The sums over all rows: they start from zero, and a tile's rows are added to what was summed before -/

variable {f a b : ℕ → ℕ → EReal}

/-- The weight back to the rows, -/
theorem zero5 : Is (k5_pay1 (F := Ideal)) fun _ _ => 0 := by
  intro r c
  pointwise [k5_pay1]

@[inherit_doc zero5] theorem add5 {P : Vec Ideal S1024x1024 .f32} {A : Vec Ideal S768x1024 .bf16} {B : Vec Ideal S768x1024 .f32} (hP : Is P f) (hA : Is A a) (hB : Is B b) :
    Is (k5_pay2 P A B) fun i j => f i j + ∑ k : Fin 768, a k.val i * b k.val j := by
  intro r c
  pointwise [k5_pay2]
  rw [hP]
  exact congrArg (_ + ·) (sum_congr rfl fun k _ => by rw [hA, hB])

/-- the queries' weight, -/
theorem zero6 : Is (k6_pay1 (F := Ideal)) fun _ _ => 0 := by
  intro r c
  pointwise [k6_pay1]

@[inherit_doc zero6] theorem add6 {P : Vec Ideal S384x1024 .f32} {A : Vec Ideal S768x384 .bf16} {B : Vec Ideal S768x1024 .bf16} (hP : Is P f) (hA : Is A a) (hB : Is B b) :
    Is (k6_pay2 P A B) fun i j => f i j + ∑ k : Fin 768, a k.val i * b k.val j := by
  intro r c
  pointwise [k6_pay2]
  rw [hP]
  exact congrArg (_ + ·) (sum_congr rfl fun k _ => by rw [hA, hB])

/-- the keys' and values' weight, -/
theorem zero7 : Is (k7_pay1 (F := Ideal)) fun _ _ => 0 := by
  intro r c
  pointwise [k7_pay1]

@[inherit_doc zero7] theorem add7 {P : Vec Ideal S256x1024 .f32} {A : Vec Ideal S768x256 .bf16} {B : Vec Ideal S768x1024 .bf16} (hP : Is P f) (hA : Is A a) (hB : Is B b) :
    Is (k7_pay2 P A B) fun i j => f i j + ∑ k : Fin 768, a k.val i * b k.val j := by
  intro r c
  pointwise [k7_pay2]
  rw [hP]
  exact congrArg (_ + ·) (sum_congr rfl fun k _ => by rw [hA, hB])

/-- and the weight down. -/
theorem zero10 : Is (k10_pay1 (F := Ideal)) fun _ _ => 0 := by
  intro r c
  pointwise [k10_pay1]

@[inherit_doc zero10] theorem add10 {P : Vec Ideal S1024x672 .f32} {A : Vec Ideal S768x1024 .bf16} {B : Vec Ideal S768x672 .bf16} (hP : Is P f) (hA : Is A a) (hB : Is B b) :
    Is (k10_pay2 P A B) fun i j => f i j + ∑ k : Fin 768, a k.val i * b k.val j := by
  intro r c
  pointwise [k10_pay2]
  rw [hP]
  exact congrArg (_ + ·) (sum_congr rfl fun k _ => by rw [hA, hB])

/-- The queries' gain, -/
theorem zero8 : Is (k8_pay7 (F := Ideal)) fun _ _ => 0 := by
  intro r c
  pointwise [k8_pay7]

@[inherit_doc zero8] theorem dn8 {D Y : Vec Ideal S384x384 .f32} {P : Vec Ideal S1x384 .f32} (hD : Is D a) (hY : Is Y b) (hP : Is P f) :
    Is (k8_pay1 D Y (k8_pay8 P)) fun i d => f i d + ∑ k : Fin 384, a k.val d * b k.val d := by
  intro r c
  obtain rfl : r = 0 := Subsingleton.elim _ _
  pointwise [k8_pay1, k8_pay8]
  rw [hP]
  exact congrArg (_ + ·) (sum_congr rfl fun k _ => by rw [hD, hY])

/-- the keys' and values' gain, -/
theorem zero9 : Is (k9_pay7 (F := Ideal)) fun _ _ => 0 := by
  intro r c
  pointwise [k9_pay7]

@[inherit_doc zero9] theorem dn9 {D Y : Vec Ideal S384x256 .f32} {P : Vec Ideal S1x256 .f32} (hD : Is D a) (hY : Is Y b) (hP : Is P f) :
    Is (k9_pay1 D Y (k9_pay8 P)) fun i d => f i d + ∑ k : Fin 384, a k.val d * b k.val d := by
  intro r c
  obtain rfl : r = 0 := Subsingleton.elim _ _
  pointwise [k9_pay1, k9_pay8]
  rw [hP]
  exact congrArg (_ + ·) (sum_congr rfl fun k _ => by rw [hD, hY])

/-- and the rows' gain. -/
theorem zero11 : Is (k11_pay6 (F := Ideal)) fun _ _ => 0 := by
  intro r c
  pointwise [k11_pay6]

@[inherit_doc zero11] theorem dn11 {D Y : Vec Ideal S384x1024 .f32} {P : Vec Ideal S1x1024 .f32} (hD : Is D a) (hY : Is Y b) (hP : Is P f) :
    Is (k11_pay1 D Y P) fun i d => f i d + ∑ k : Fin 384, a k.val d * b k.val d := by
  intro r c
  obtain rfl : r = 0 := Subsingleton.elim _ _
  pointwise [k11_pay1]
  rw [hP]
  exact congrArg (_ + ·) (sum_congr rfl fun k _ => by rw [hD, hY])

end Cert.Kernel5Ideal.Hand

end
-- ==== Proof.Mla.In.lean ====
module

public import proofs.«01_k».proof.Proof.Mla.Tile
public import proofs.«01_k».proof.Proof.Gen.Kernel5Ideal.Frame
public import Idealize.ShloMosaic.Lib.Pipeline.ValueKit

@[expose] public section

set_option maxRecDepth 16384

/-!
# The products down and up, with the normalised rows

Each of the 22 points has 384 rows.
-/

noncomputable section

namespace Cert.Kernel5Ideal.Hand

open Cert.Kernel5Ideal Cert.Kernel5Ideal.Gen Cert.Sides Finset
open Idealize.ShloMosaic Idealize.ShloMosaic.TcCoe

section Outer

/-- Where the points' blocks lie. -/
theorem places0 : ∀ t : Fin cfg0.N, win0_0.index t = ![t.val, 0]
    ∧ win0_1.index t = ![0, 0]
    ∧ win0_2.index t = ![0, 0]
    ∧ win0_3.index t = ![t.val, 0]
    ∧ win0_4.index t = ![t.val, 0] := by decide +kernel

theorem lt0 (t : Fin cfg0.N) : t.val < 22 := t.isLt

variable {V : (c : Dev nD) → (b : Ref sig .tc) → Buf (Elt Ideal) ((c : Thread nD τ).loc b)} {c : Dev nD} {L : Sides 672}
  (hx : Is (R := 8448) (C := 1024) (V c main_arg0) L.x)
  (hn : Is (R := 1) (C := 1024) (V c main_v0) fun _ d => L.n d)
  (hw : Is (R := 1024) (C := 672) (V c main_v3) L.w) (t : Fin cfg0.N)

include hx in
/-- A point's rows, -/
theorem x0 : Is (R := 384) (C := 1024) (iblk0 V c 0 t) fun r d => L.x (384 * t.val + r) d := fun r l =>
  Eq.trans (b := V c main_arg0 (ix2 (⟨384 * t.val + r.val, by have := lt0 t; omega⟩ : Fin 8448) l)) (by blk_ext [iblk0, places0 t]) (hx _ _)

include hn in
/-- the gain, -/
theorem n0 : Is (R := 1) (C := 1024) (iblk0 V c 1 t) fun _ d => L.n d := fun r l =>
  Eq.trans (b := V c main_v0 (ix2 r l)) (by blk_ext [iblk0, places0 t]) (hn _ _)

include hw in
/-- and the weight. -/
theorem w0 : Is (R := 1024) (C := 672) (iblk0 V c 2 t) L.w := fun r l =>
  Eq.trans (b := V c main_v3 (ix2 r l)) (by blk_ext [iblk0, places0 t]) (hw _ _)

include hx hn hw in
/-- The array of the product down in the end, -/
theorem arr_p : (dat0 V c).arrAt 3 cfg0.N = arr L.p := by
  refine (dat0 V c).arrAt_eq_of_covers 3 _ (by decide +kernel) fun t hf y => ?_
  blk_simp
  rw [after0_3]
  obtain ⟨r, l, rfl⟩ : ∃ (r : Fin 384) (l : Fin 672), y = ix2 r l := ⟨y 0, y 1, eq_ix2 y⟩
  rw [show (win0_3.blk t).view.emb (ix2 r l) = ix2 (⟨384 * t.val + r.val, by have := lt0 t; omega⟩ : Fin 8448) l by blk_ext [places0 t]]
  frame_out
  exact p_tile (x0 hx t) (n0 hn t) (w0 hw t) r l

include hx hn in
/-- and that of the normalised rows with the gain. -/
theorem arr_b : (dat0 V c).arrAt 4 cfg0.N = arr L.b := by
  refine (dat0 V c).arrAt_eq_of_covers 4 _ (by decide +kernel) fun t hf y => ?_
  blk_simp
  rw [after0_4]
  obtain ⟨r, l, rfl⟩ : ∃ (r : Fin 384) (l : Fin 1024), y = ix2 r l := ⟨y 0, y 1, eq_ix2 y⟩
  rw [show (win0_4.blk t).view.emb (ix2 r l) = ix2 (⟨384 * t.val + r.val, by have := lt0 t; omega⟩ : Fin 8448) l by blk_ext [places0 t]]
  frame_out
  exact b_tile (x0 hx t) (n0 hn t) r l

end Outer

section Queries

/-- Where the points' blocks lie. -/
theorem places1 : ∀ t : Fin cfg1.N, win1_0.index t = ![t.val, 0]
    ∧ win1_1.index t = ![0, 0]
    ∧ win1_2.index t = ![0, 0]
    ∧ win1_3.index t = ![t.val, 0]
    ∧ win1_4.index t = ![t.val, 0] := by decide +kernel

theorem lt1 (t : Fin cfg1.N) : t.val < 22 := t.isLt

variable {V : (c : Dev nD) → (b : Ref sig .tc) → Buf (Elt Ideal) ((c : Thread nD τ).loc b)} {c : Dev nD} {L : Norm 384 2048}
  (hx : Is (R := 8448) (C := 384) (V c main_v11) L.x)
  (hn : Is (R := 1) (C := 384) (V c main_v1) fun _ d => L.n d)
  (hw : Is (R := 384) (C := 2048) (V c main_v4) L.w) (t : Fin cfg1.N)

include hx in
/-- A point's queries' columns, -/
theorem x1 : Is (R := 384) (C := 384) (iblk1 V c 0 t) fun r d => L.x (384 * t.val + r) d := fun r l =>
  Eq.trans (b := V c main_v11 (ix2 (⟨384 * t.val + r.val, by have := lt1 t; omega⟩ : Fin 8448) l)) (by blk_ext [iblk1, places1 t]) (hx _ _)

include hn in
/-- the gain, -/
theorem n1 : Is (R := 1) (C := 384) (iblk1 V c 1 t) fun _ d => L.n d := fun r l =>
  Eq.trans (b := V c main_v1 (ix2 r l)) (by blk_ext [iblk1, places1 t]) (hn _ _)

include hw in
/-- and the weight. -/
theorem w1 : Is (R := 384) (C := 2048) (iblk1 V c 2 t) L.w := fun r l =>
  Eq.trans (b := V c main_v4 (ix2 r l)) (by blk_ext [iblk1, places1 t]) (hw _ _)

include hx hn hw in
/-- The array of the queries' product in the end, -/
theorem arr_q_p : (dat1 V c).arrAt 3 cfg1.N = arr L.p := by
  refine (dat1 V c).arrAt_eq_of_covers 3 _ (by decide +kernel) fun t hf y => ?_
  blk_simp
  rw [after1_3]
  obtain ⟨r, l, rfl⟩ : ∃ (r : Fin 384) (l : Fin 2048), y = ix2 r l := ⟨y 0, y 1, eq_ix2 y⟩
  rw [show (win1_3.blk t).view.emb (ix2 r l) = ix2 (⟨384 * t.val + r.val, by have := lt1 t; omega⟩ : Fin 8448) l by blk_ext [places1 t]]
  frame_out
  exact q_p_tile (x1 hx t) (n1 hn t) (w1 hw t) r l

include hx hn in
/-- and that of the normalised rows with the gain. -/
theorem arr_q_b : (dat1 V c).arrAt 4 cfg1.N = arr L.b := by
  refine (dat1 V c).arrAt_eq_of_covers 4 _ (by decide +kernel) fun t hf y => ?_
  blk_simp
  rw [after1_4]
  obtain ⟨r, l, rfl⟩ : ∃ (r : Fin 384) (l : Fin 384), y = ix2 r l := ⟨y 0, y 1, eq_ix2 y⟩
  rw [show (win1_4.blk t).view.emb (ix2 r l) = ix2 (⟨384 * t.val + r.val, by have := lt1 t; omega⟩ : Fin 8448) l by blk_ext [places1 t]]
  frame_out
  exact q_b_tile (x1 hx t) (n1 hn t) r l

end Queries

section Keys

/-- Where the points' blocks lie. -/
theorem places2 : ∀ t : Fin cfg2.N, win2_0.index t = ![t.val, 0]
    ∧ win2_1.index t = ![0, 0]
    ∧ win2_2.index t = ![0, 0]
    ∧ win2_3.index t = ![t.val, 0]
    ∧ win2_4.index t = ![t.val, 0] := by decide +kernel

theorem lt2 (t : Fin cfg2.N) : t.val < 22 := t.isLt

variable {V : (c : Dev nD) → (b : Ref sig .tc) → Buf (Elt Ideal) ((c : Thread nD τ).loc b)} {c : Dev nD} {L : Norm 256 2048}
  (hx : Is (R := 8448) (C := 256) (V c main_v12) L.x)
  (hn : Is (R := 1) (C := 256) (V c main_v2) fun _ d => L.n d)
  (hw : Is (R := 256) (C := 2048) (V c main_v5) L.w) (t : Fin cfg2.N)

include hx in
/-- A point's keys' and values' columns, -/
theorem x2 : Is (R := 384) (C := 256) (iblk2 V c 0 t) fun r d => L.x (384 * t.val + r) d := fun r l =>
  Eq.trans (b := V c main_v12 (ix2 (⟨384 * t.val + r.val, by have := lt2 t; omega⟩ : Fin 8448) l)) (by blk_ext [iblk2, places2 t]) (hx _ _)

include hn in
/-- the gain, -/
theorem n2 : Is (R := 1) (C := 256) (iblk2 V c 1 t) fun _ d => L.n d := fun r l =>
  Eq.trans (b := V c main_v2 (ix2 r l)) (by blk_ext [iblk2, places2 t]) (hn _ _)

include hw in
/-- and the weight. -/
theorem w2 : Is (R := 256) (C := 2048) (iblk2 V c 2 t) L.w := fun r l =>
  Eq.trans (b := V c main_v5 (ix2 r l)) (by blk_ext [iblk2, places2 t]) (hw _ _)

include hx hn hw in
/-- The array of the keys' and values' product in the end, -/
theorem arr_k_p : (dat2 V c).arrAt 3 cfg2.N = arr L.p := by
  refine (dat2 V c).arrAt_eq_of_covers 3 _ (by decide +kernel) fun t hf y => ?_
  blk_simp
  rw [after2_3]
  obtain ⟨r, l, rfl⟩ : ∃ (r : Fin 384) (l : Fin 2048), y = ix2 r l := ⟨y 0, y 1, eq_ix2 y⟩
  rw [show (win2_3.blk t).view.emb (ix2 r l) = ix2 (⟨384 * t.val + r.val, by have := lt2 t; omega⟩ : Fin 8448) l by blk_ext [places2 t]]
  frame_out
  exact k_p_tile (x2 hx t) (n2 hn t) (w2 hw t) r l

include hx hn in
/-- and that of the normalised rows with the gain. -/
theorem arr_k_b : (dat2 V c).arrAt 4 cfg2.N = arr L.b := by
  refine (dat2 V c).arrAt_eq_of_covers 4 _ (by decide +kernel) fun t hf y => ?_
  blk_simp
  rw [after2_4]
  obtain ⟨r, l, rfl⟩ : ∃ (r : Fin 384) (l : Fin 256), y = ix2 r l := ⟨y 0, y 1, eq_ix2 y⟩
  rw [show (win2_4.blk t).view.emb (ix2 r l) = ix2 (⟨384 * t.val + r.val, by have := lt2 t; omega⟩ : Fin 8448) l by blk_ext [places2 t]]
  frame_out
  exact k_b_tile (x2 hx t) (n2 hn t) r l

end Keys

end Cert.Kernel5Ideal.Hand

end
-- ==== Proof.Mla.Out.lean ====
module

public import proofs.«01_k».proof.Proof.Mla.Tile
public import proofs.«01_k».proof.Proof.Gen.Kernel5Ideal.Frame
public import Idealize.ShloMosaic.Lib.Pipeline.ValueKit

@[expose] public section

set_option maxRecDepth 16384

/-!
# The calls with the weight back to the rows

Each point has 768 rows: the rows with the attention's result, and the gradient of that result.
-/

noncomputable section

namespace Cert.Kernel5Ideal.Hand

open Cert.Kernel5Ideal Cert.Kernel5Ideal.Gen Cert.Sides Finset
open Idealize.ShloMosaic Idealize.ShloMosaic.TcCoe

section Out

/-- Where the points' blocks lie. -/
theorem places3 : ∀ t : Fin cfg3.N, win3_0.index t = ![t.val, 0]
    ∧ win3_1.index t = ![0, 0]
    ∧ win3_2.index t = ![t.val, 0]
    ∧ win3_3.index t = ![t.val, 0] := by decide +kernel

theorem lt3 (t : Fin cfg3.N) : t.val < 11 := t.isLt

variable {V : (c : Dev nD) → (b : Ref sig .tc) → Buf (Elt Ideal) ((c : Thread nD τ).loc b)} {c : Dev nD} {L : Sides 672}
  (ho : Is (R := 8448) (C := 1024) (V c main_v7) L.o)
  (hw : Is (R := 1024) (C := 1024) (V c main_v6) L.wo)
  (hx : Is (R := 8448) (C := 1024) (V c main_arg0) L.x) (t : Fin cfg3.N)

include ho in
/-- A point's rows of the attention's result, -/
theorem o3 : Is (R := 768) (C := 1024) (iblk3 V c 0 t) fun r j => L.o (768 * t.val + r) j := fun r l =>
  Eq.trans (b := V c main_v7 (ix2 (⟨768 * t.val + r.val, by have := lt3 t; omega⟩ : Fin 8448) l)) (by blk_ext [iblk3, places3 t]) (ho _ _)

include hw in
/-- the weight, -/
theorem w3 : Is (R := 1024) (C := 1024) (iblk3 V c 1 t) L.wo := fun r l =>
  Eq.trans (b := V c main_v6 (ix2 r l)) (by blk_ext [iblk3, places3 t]) (hw _ _)

include hx in
/-- and the rows. -/
theorem x3 : Is (R := 768) (C := 1024) (iblk3 V c 2 t) fun r d => L.x (768 * t.val + r) d := fun r l =>
  Eq.trans (b := V c main_arg0 (ix2 (⟨768 * t.val + r.val, by have := lt3 t; omega⟩ : Fin 8448) l)) (by blk_ext [iblk3, places3 t]) (hx _ _)

include ho hw hx in
/-- The array of the sum in the end. -/
theorem arr_out : (dat3 V c).arrAt 3 cfg3.N = arr L.out := by
  refine (dat3 V c).arrAt_eq_of_covers 3 _ (by decide +kernel) fun t hf y => ?_
  blk_simp
  rw [after3_3]
  obtain ⟨r, l, rfl⟩ : ∃ (r : Fin 768) (l : Fin 1024), y = ix2 r l := ⟨y 0, y 1, eq_ix2 y⟩
  rw [show (win3_3.blk t).view.emb (ix2 r l) = ix2 (⟨768 * t.val + r.val, by have := lt3 t; omega⟩ : Fin 8448) l by blk_ext [places3 t]]
  frame_out
  exact out_tile (o3 ho t) (w3 hw t) (x3 hx t) r l

end Out

section Back

/-- Where the points' blocks lie. -/
theorem places4 : ∀ t : Fin cfg4.N, win4_0.index t = ![t.val, 0]
    ∧ win4_1.index t = ![0, 0]
    ∧ win4_2.index t = ![t.val, 0] := by decide +kernel

theorem lt4 (t : Fin cfg4.N) : t.val < 11 := t.isLt

variable {V : (c : Dev nD) → (b : Ref sig .tc) → Buf (Elt Ideal) ((c : Thread nD τ).loc b)} {c : Dev nD} {L : Sides 672}
  (hc : Is (R := 8448) (C := 1024) (V c main_arg12) L.ct)
  (hw : Is (R := 1024) (C := 1024) (V c main_v6) L.wo) (t : Fin cfg4.N)

include hc in
/-- A point's rows of the gradient of the sum, -/
theorem c4 : Is (R := 768) (C := 1024) (iblk4 V c 0 t) fun r d => L.ct (768 * t.val + r) d := fun r l =>
  Eq.trans (b := V c main_arg12 (ix2 (⟨768 * t.val + r.val, by have := lt4 t; omega⟩ : Fin 8448) l)) (by blk_ext [iblk4, places4 t]) (hc _ _)

include hw in
/-- and the weight. -/
theorem w4 : Is (R := 1024) (C := 1024) (iblk4 V c 1 t) L.wo := fun r l =>
  Eq.trans (b := V c main_v6 (ix2 r l)) (by blk_ext [iblk4, places4 t]) (hw _ _)

include hc hw in
/-- The array of the gradient in the end. -/
theorem arr_do : (dat4 V c).arrAt 2 cfg4.N = arr L.do' := by
  refine (dat4 V c).arrAt_eq_of_covers 2 _ (by decide +kernel) fun t hf y => ?_
  blk_simp
  rw [after4_2]
  obtain ⟨r, l, rfl⟩ : ∃ (r : Fin 768) (l : Fin 1024), y = ix2 r l := ⟨y 0, y 1, eq_ix2 y⟩
  rw [show (win4_2.blk t).view.emb (ix2 r l) = ix2 (⟨768 * t.val + r.val, by have := lt4 t; omega⟩ : Fin 8448) l by blk_ext [places4 t]]
  frame_out
  exact do_tile (c4 hc t) (w4 hw t) r l

end Back

end Cert.Kernel5Ideal.Hand

end
-- ==== Proof.Mla.Weights.lean ====
module

public import proofs.«01_k».proof.Proof.Mla.Tile
public import proofs.«01_k».proof.Proof.Gen.Kernel5Ideal.Frame
public import Idealize.ShloMosaic.Lib.Pipeline.ValueKit

@[expose] public section

set_option maxRecDepth 16384

/-!
# The weights' gradients

Each point adds 768 rows to the part of the gradient that it keeps; eleven points pass all rows.
-/

noncomputable section

namespace Cert.Kernel5Ideal.Hand

open Cert.Kernel5Ideal Cert.Kernel5Ideal.Gen Cert.Sides Finset
open Idealize.ShloMosaic Idealize.ShloMosaic.TcCoe

section O

/-- Where the points' blocks lie. -/
theorem places5 : ∀ t : Fin cfg5.N, win5_0.index t = ![t.val % 11, 0]
    ∧ win5_1.index t = ![t.val % 11, 0]
    ∧ win5_2.index t = ![0, 0] := by decide +kernel

theorem lt5 (t : Fin cfg5.N) : t.val < 11 := t.isLt

variable {V : (c : Dev nD) → (b : Ref sig .tc) → Buf (Elt Ideal) ((c : Thread nD τ).loc b)} {c : Dev nD} {L : Sides 672}
  (ha : Is (R := 8448) (C := 1024) (V c main_v7) L.o)
  (hb : Is (R := 8448) (C := 1024) (V c main_arg12) L.ct) (t : Fin cfg5.N)

include ha in
/-- A point's rows of the left factor, -/
theorem left5 : Is (R := 768) (C := 1024) (iblk5 V c 0 t) fun r j => L.o (768 * (t.val % 11) + r) j := fun r l =>
  Eq.trans (b := V c main_v7 (ix2 (⟨768 * (t.val % 11) + r.val, by have := lt5 t; omega⟩ : Fin 8448) l)) (by blk_ext [iblk5, places5 t]) (ha _ _)

include hb in
/-- and of the right one. -/
theorem right5 : Is (R := 768) (C := 1024) (iblk5 V c 1 t) fun r j => L.ct (768 * (t.val % 11) + r) j := fun r l =>
  Eq.trans (b := V c main_arg12 (ix2 (⟨768 * (t.val % 11) + r.val, by have := lt5 t; omega⟩ : Fin 8448) l)) (by blk_ext [iblk5, places5 t]) (hb _ _)

include ha hb in
/-- After a point the part kept is the sum over the rows so far. -/
theorem sums5 (n : ℕ) (hn : n < cfg5.N) : Is (R := 1024) (C := 1024) (outsAt5 V c n hn) fun i j =>
    ∑ r ∈ range (768 * (n % 11 + 1)), L.o r i * L.ct r j := by
  induction n with
  | zero =>
    have e := outsAt5_A V c ⟨0, hn⟩ rfl
    refine fun r l => (congrFun e _).trans ?_
    frame_out
    refine (add5 zero5 (left5 ha ⟨0, hn⟩) (right5 hb ⟨0, hn⟩) r l).trans ?_
    simp only [Nat.zero_mod]
    rw [← sum_first]
  | succ n ih =>
    by_cases h : (n + 1) % 11 = 0
    · have e := outsAt5_A V c ⟨n + 1, hn⟩ h
      refine fun r l => (congrFun e _).trans ?_
      frame_out
      refine (add5 zero5 (left5 ha ⟨n + 1, hn⟩) (right5 hb ⟨n + 1, hn⟩) r l).trans ?_
      simp only [h]
      rw [← sum_first]
    · have e := outsAt5_B V c ⟨n + 1, hn⟩ h
      refine fun r l => (congrFun e _).trans ?_
      frame_out
      refine (add5 (ih (Nat.lt_of_succ_lt hn)) (left5 ha ⟨n + 1, hn⟩) (right5 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dwo : (dat5 V c).arrAt 2 cfg5.N = arr L.dwo := by
  refine (dat5 V c).arrAt_eq_of_covers 2 _ (by decide +kernel) fun t hf y => ?_
  have e := (flush5_2 t).mp hf
  blk_simp
  rw [after5_2]
  obtain ⟨r, l, rfl⟩ : ∃ (r : Fin 1024) (l : Fin 1024), y = ix2 r l := ⟨y 0, y 1, eq_ix2 y⟩
  rw [show (win5_2.blk t).view.emb (ix2 r l) = ix2 r l by blk_ext [places5 t]]
  refine (sums5 ha hb t.val t.isLt r l).trans ?_
  simp only [e]
  rw [Finset.sum_range]
  rfl

end O

section Queries

/-- Where the points' blocks lie. -/
theorem places6 : ∀ t : Fin cfg6.N, win6_0.index t = ![t.val % 11, 0]
    ∧ win6_1.index t = ![t.val % 11, t.val / 11]
    ∧ win6_2.index t = ![0, t.val / 11] := by decide +kernel

theorem lt6 (t : Fin cfg6.N) : t.val < 22 := t.isLt

variable {V : (c : Dev nD) → (b : Ref sig .tc) → Buf (Elt Ideal) ((c : Thread nD τ).loc b)} {c : Dev nD} {L : Norm 384 2048}
  (ha : Is (R := 8448) (C := 384) (V c main_v14_1) L.b)
  (hb : Is (R := 8448) (C := 2048) (V c main_v8) L.dp) (t : Fin cfg6.N)

include ha in
/-- A point's rows of the left factor, -/
theorem left6 : Is (R := 768) (C := 384) (iblk6 V c 0 t) fun r j => L.b (768 * (t.val % 11) + r) j := fun r l =>
  Eq.trans (b := V c main_v14_1 (ix2 (⟨768 * (t.val % 11) + r.val, by have := lt6 t; omega⟩ : Fin 8448) l)) (by blk_ext [iblk6, places6 t]) (ha _ _)

include hb in
/-- and of the right one. -/
theorem right6 : Is (R := 768) (C := 1024) (iblk6 V c 1 t) fun r j => L.dp (768 * (t.val % 11) + r) (1024 * (t.val / 11) + j) := fun r l =>
  Eq.trans (b := V c main_v8 (ix2 (⟨768 * (t.val % 11) + r.val, by have := lt6 t; omega⟩ : Fin 8448) (⟨1024 * (t.val / 11) + l.val, by have := lt6 t; omega⟩ : Fin 2048))) (by blk_ext [iblk6, places6 t]) (hb _ _)

include ha hb in
/-- After a point the part kept is the sum over the rows so far. -/
theorem sums6 (n : ℕ) (hn : n < cfg6.N) : Is (R := 384) (C := 1024) (outsAt6 V c n hn) fun i j =>
    ∑ r ∈ range (768 * (n % 11 + 1)), L.b r i * L.dp r (1024 * (n / 11) + j) := by
  induction n with
  | zero =>
    have e := outsAt6_A V c ⟨0, hn⟩ rfl
    refine fun r l => (congrFun e _).trans ?_
    frame_out
    refine (add6 zero6 (left6 ha ⟨0, hn⟩) (right6 hb ⟨0, hn⟩) r l).trans ?_
    simp only [Nat.zero_mod]
    rw [← sum_first]
  | succ n ih =>
    by_cases h : (n + 1) % 11 = 0
    · have e := outsAt6_A V c ⟨n + 1, hn⟩ h
      refine fun r l => (congrFun e _).trans ?_
      frame_out
      refine (add6 zero6 (left6 ha ⟨n + 1, hn⟩) (right6 hb ⟨n + 1, hn⟩) r l).trans ?_
      simp only [h]
      rw [← sum_first]
    · have e := outsAt6_B V c ⟨n + 1, hn⟩ h
      refine fun r l => (congrFun e _).trans ?_
      frame_out
      refine (add6 (ih (Nat.lt_of_succ_lt hn)) (left6 ha ⟨n + 1, hn⟩) (right6 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_q_dw : (dat6 V c).arrAt 2 cfg6.N = arr L.dw := by
  refine (dat6 V c).arrAt_eq_of_covers 2 _ (by decide +kernel) fun t hf y => ?_
  have e := (flush6_2 t).mp hf
  blk_simp
  rw [after6_2]
  obtain ⟨r, l, rfl⟩ : ∃ (r : Fin 384) (l : Fin 1024), y = ix2 r l := ⟨y 0, y 1, eq_ix2 y⟩
  rw [show (win6_2.blk t).view.emb (ix2 r l) = ix2 r (⟨1024 * (t.val / 11) + l.val, by have := lt6 t; omega⟩ : Fin 2048) by blk_ext [places6 t]]
  refine (sums6 ha hb t.val t.isLt r l).trans ?_
  simp only [e]
  rw [Finset.sum_range]
  rfl

end Queries

section Keys

/-- Where the points' blocks lie. -/
theorem places7 : ∀ t : Fin cfg7.N, win7_0.index t = ![t.val % 11, 0]
    ∧ win7_1.index t = ![t.val % 11, t.val / 11]
    ∧ win7_2.index t = ![0, t.val / 11] := by decide +kernel

theorem lt7 (t : Fin cfg7.N) : t.val < 22 := t.isLt

variable {V : (c : Dev nD) → (b : Ref sig .tc) → Buf (Elt Ideal) ((c : Thread nD τ).loc b)} {c : Dev nD} {L : Norm 256 2048}
  (ha : Is (R := 8448) (C := 256) (V c main_v15_1) L.b)
  (hb : Is (R := 8448) (C := 2048) (V c main_v9) L.dp) (t : Fin cfg7.N)

include ha in
/-- A point's rows of the left factor, -/
theorem left7 : Is (R := 768) (C := 256) (iblk7 V c 0 t) fun r j => L.b (768 * (t.val % 11) + r) j := fun r l =>
  Eq.trans (b := V c main_v15_1 (ix2 (⟨768 * (t.val % 11) + r.val, by have := lt7 t; omega⟩ : Fin 8448) l)) (by blk_ext [iblk7, places7 t]) (ha _ _)

include hb in
/-- and of the right one. -/
theorem right7 : Is (R := 768) (C := 1024) (iblk7 V c 1 t) fun r j => L.dp (768 * (t.val % 11) + r) (1024 * (t.val / 11) + j) := fun r l =>
  Eq.trans (b := V c main_v9 (ix2 (⟨768 * (t.val % 11) + r.val, by have := lt7 t; omega⟩ : Fin 8448) (⟨1024 * (t.val / 11) + l.val, by have := lt7 t; omega⟩ : Fin 2048))) (by blk_ext [iblk7, places7 t]) (hb _ _)

include ha hb in
/-- After a point the part kept is the sum over the rows so far. -/
theorem sums7 (n : ℕ) (hn : n < cfg7.N) : Is (R := 256) (C := 1024) (outsAt7 V c n hn) fun i j =>
    ∑ r ∈ range (768 * (n % 11 + 1)), L.b r i * L.dp r (1024 * (n / 11) + j) := by
  induction n with
  | zero =>
    have e := outsAt7_A V c ⟨0, hn⟩ rfl
    refine fun r l => (congrFun e _).trans ?_
    frame_out
    refine (add7 zero7 (left7 ha ⟨0, hn⟩) (right7 hb ⟨0, hn⟩) r l).trans ?_
    simp only [Nat.zero_mod]
    rw [← sum_first]
  | succ n ih =>
    by_cases h : (n + 1) % 11 = 0
    · have e := outsAt7_A V c ⟨n + 1, hn⟩ h
      refine fun r l => (congrFun e _).trans ?_
      frame_out
      refine (add7 zero7 (left7 ha ⟨n + 1, hn⟩) (right7 hb ⟨n + 1, hn⟩) r l).trans ?_
      simp only [h]
      rw [← sum_first]
    · have e := outsAt7_B V c ⟨n + 1, hn⟩ h
      refine fun r l => (congrFun e _).trans ?_
      frame_out
      refine (add7 (ih (Nat.lt_of_succ_lt hn)) (left7 ha ⟨n + 1, hn⟩) (right7 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_k_dw : (dat7 V c).arrAt 2 cfg7.N = arr L.dw := by
  refine (dat7 V c).arrAt_eq_of_covers 2 _ (by decide +kernel) fun t hf y => ?_
  have e := (flush7_2 t).mp hf
  blk_simp
  rw [after7_2]
  obtain ⟨r, l, rfl⟩ : ∃ (r : Fin 256) (l : Fin 1024), y = ix2 r l := ⟨y 0, y 1, eq_ix2 y⟩
  rw [show (win7_2.blk t).view.emb (ix2 r l) = ix2 r (⟨1024 * (t.val / 11) + l.val, by have := lt7 t; omega⟩ : Fin 2048) by blk_ext [places7 t]]
  refine (sums7 ha hb t.val t.isLt r l).trans ?_
  simp only [e]
  rw [Finset.sum_range]
  rfl

end Keys

section Down

/-- Where the points' blocks lie. -/
theorem places10 : ∀ t : Fin cfg10.N, win10_0.index t = ![t.val % 11, 0]
    ∧ win10_1.index t = ![t.val % 11, 0]
    ∧ win10_2.index t = ![0, 0] := by decide +kernel

theorem lt10 (t : Fin cfg10.N) : t.val < 11 := t.isLt

variable {V : (c : Dev nD) → (b : Ref sig .tc) → Buf (Elt Ideal) ((c : Thread nD τ).loc b)} {c : Dev nD} {L : Sides 672}
  (ha : Is (R := 8448) (C := 1024) (V c main_v10_1) L.b)
  (hb : Is (R := 8448) (C := 672) (V c main_v24) L.dp) (t : Fin cfg10.N)

include ha in
/-- A point's rows of the left factor, -/
theorem left10 : Is (R := 768) (C := 1024) (iblk10 V c 0 t) fun r j => L.b (768 * (t.val % 11) + r) j := fun r l =>
  Eq.trans (b := V c main_v10_1 (ix2 (⟨768 * (t.val % 11) + r.val, by have := lt10 t; omega⟩ : Fin 8448) l)) (by blk_ext [iblk10, places10 t]) (ha _ _)

include hb in
/-- and of the right one. -/
theorem right10 : Is (R := 768) (C := 672) (iblk10 V c 1 t) fun r j => L.dp (768 * (t.val % 11) + r) j := fun r l =>
  Eq.trans (b := V c main_v24 (ix2 (⟨768 * (t.val % 11) + r.val, by have := lt10 t; omega⟩ : Fin 8448) l)) (by blk_ext [iblk10, places10 t]) (hb _ _)

include ha hb in
/-- After a point the part kept is the sum over the rows so far. -/
theorem sums10 (n : ℕ) (hn : n < cfg10.N) : Is (R := 1024) (C := 672) (outsAt10 V c n hn) fun i j =>
    ∑ r ∈ range (768 * (n % 11 + 1)), L.b r i * L.dp r j := by
  induction n with
  | zero =>
    have e := outsAt10_A V c ⟨0, hn⟩ rfl
    refine fun r l => (congrFun e _).trans ?_
    frame_out
    refine (add10 zero10 (left10 ha ⟨0, hn⟩) (right10 hb ⟨0, hn⟩) r l).trans ?_
    simp only [Nat.zero_mod]
    rw [← sum_first]
  | succ n ih =>
    by_cases h : (n + 1) % 11 = 0
    · have e := outsAt10_A V c ⟨n + 1, hn⟩ h
      refine fun r l => (congrFun e _).trans ?_
      frame_out
      refine (add10 zero10 (left10 ha ⟨n + 1, hn⟩) (right10 hb ⟨n + 1, hn⟩) r l).trans ?_
      simp only [h]
      rw [← sum_first]
    · have e := outsAt10_B V c ⟨n + 1, hn⟩ h
      refine fun r l => (congrFun e _).trans ?_
      frame_out
      refine (add10 (ih (Nat.lt_of_succ_lt hn)) (left10 ha ⟨n + 1, hn⟩) (right10 hb ⟨n + 1, hn⟩) r l).trans ?_
      have e1 : (n + 1) % 11 = n % 11 + 1 := by omega
      have e2 : (n + 1) / 11 = n / 11 := by omega
      simp only [e1, e2]
      rw [← sum_tile 768 (n % 11 + 1)]

include ha hb in
/-- The array of the gradient in the end. -/
theorem arr_dw : (dat10 V c).arrAt 2 cfg10.N = arr L.dw := by
  refine (dat10 V c).arrAt_eq_of_covers 2 _ (by decide +kernel) fun t hf y => ?_
  have e := (flush10_2 t).mp hf
  blk_simp
  rw [after10_2]
  obtain ⟨r, l, rfl⟩ : ∃ (r : Fin 1024) (l : Fin 672), y = ix2 r l := ⟨y 0, y 1, eq_ix2 y⟩
  rw [show (win10_2.blk t).view.emb (ix2 r l) = ix2 r l by blk_ext [places10 t]]
  refine (sums10 ha hb t.val t.isLt r l).trans ?_
  simp only [e]
  rw [Finset.sum_range]
  rfl

end Down

end Cert.Kernel5Ideal.Hand

end
-- ==== Proof.Mla.Rows.lean ====
module

public import proofs.«01_k».proof.Proof.Mla.Tile
public import proofs.«01_k».proof.Proof.Gen.Kernel5Ideal.Frame
public import Idealize.ShloMosaic.Lib.Pipeline.ValueKit

@[expose] public section

set_option maxRecDepth 16384

/-!
# The gradients of the rows and of the gains

Each of the 22 points has 384 rows; the gain's gradient is kept between them, and each adds its rows to it.
-/

noncomputable section

namespace Cert.Kernel5Ideal.Hand

open Cert.Kernel5Ideal Cert.Kernel5Ideal.Gen Cert.Sides Finset
open Idealize.ShloMosaic Idealize.ShloMosaic.TcCoe

section Queries

/-- Where the points' blocks lie. -/
theorem places8 : ∀ t : Fin cfg8.N, win8_0.index t = ![t.val, 0]
    ∧ win8_1.index t = ![0, 0]
    ∧ win8_2.index t = ![t.val, 0]
    ∧ win8_3.index t = ![0, 0]
    ∧ win8_4.index t = ![t.val, 0]
    ∧ win8_5.index t = ![0, 0] := by decide +kernel

theorem lt8 (t : Fin cfg8.N) : t.val < 22 := t.isLt

variable {V : (c : Dev nD) → (b : Ref sig .tc) → Buf (Elt Ideal) ((c : Thread nD τ).loc b)} {c : Dev nD} {L : Norm 384 2048}
  (hd : Is (R := 8448) (C := 2048) (V c main_v8) L.dp)
  (ha : Is (R := 384) (C := 2048) (V c main_v4) L.w)
  (hx : Is (R := 8448) (C := 384) (V c main_v11) L.x)
  (hn : Is (R := 1) (C := 384) (V c main_v1) fun _ d => L.n d) (t : Fin cfg8.N)

include hd in
/-- A point's rows of the product's gradient, -/
theorem d8 : Is (R := 384) (C := 2048) (iblk8 V c 0 t) fun r j => L.dp (384 * t.val + r) j := fun r l =>
  Eq.trans (b := V c main_v8 (ix2 (⟨384 * t.val + r.val, by have := lt8 t; omega⟩ : Fin 8448) l)) (by blk_ext [iblk8, places8 t]) (hd _ _)

include ha in
/-- the weight, -/
theorem a8 : Is (R := 384) (C := 2048) (iblk8 V c 1 t) L.w := fun r l =>
  Eq.trans (b := V c main_v4 (ix2 r l)) (by blk_ext [iblk8, places8 t]) (ha _ _)

include hx in
/-- its rows -/
theorem x8 : Is (R := 384) (C := 384) (iblk8 V c 2 t) fun r d => L.x (384 * t.val + r) d := fun r l =>
  Eq.trans (b := V c main_v11 (ix2 (⟨384 * t.val + r.val, by have := lt8 t; omega⟩ : Fin 8448) l)) (by blk_ext [iblk8, places8 t]) (hx _ _)

include hn in
/-- and the gain. -/
theorem n8 : Is (R := 1) (C := 384) (iblk8 V c 3 t) fun _ d => L.n d := fun r l =>
  Eq.trans (b := V c main_v1 (ix2 r l)) (by blk_ext [iblk8, places8 t]) (hn _ _)

include hd ha hx in
/-- After a point the gain's gradient is the sum over the rows so far. -/
theorem sums8 (n : ℕ) (hn : n < cfg8.N) : Is (R := 1) (C := 384) (outsAt8 V c n hn).2 fun _ d =>
    ∑ r ∈ range (384 * (n + 1)), L.da r d * L.y r d := by
  induction n with
  | zero =>
    have e := congrArg Prod.snd (outsAt8_A V c ⟨0, hn⟩ rfl)
    refine fun r l => (congrFun e _).trans ?_
    frame_out
    refine (dn8 (q_da_tile (d8 hd ⟨0, hn⟩) (a8 ha ⟨0, hn⟩)) (q_y_tile (x8 hx ⟨0, hn⟩)) zero8 r l).trans ?_
    rw [← sum_first]
  | succ n ih =>
    have h : ¬(n + 1) % 22 = 0 := by have : n + 1 < 22 := hn; omega
    have e := congrArg Prod.snd (outsAt8_B V c ⟨n + 1, hn⟩ h)
    refine fun r l => (congrFun e _).trans ?_
    frame_out
    refine (dn8 (q_da_tile (d8 hd ⟨n + 1, hn⟩) (a8 ha ⟨n + 1, hn⟩)) (q_y_tile (x8 hx ⟨n + 1, hn⟩))
      (ih (Nat.lt_of_succ_lt hn)) r l).trans ?_
    rw [← sum_tile 384 (n + 1)]

include hd ha hx hn in
/-- A point leaves its rows' gradient. -/
theorem rows8 : Is (R := 384) (C := 384) (outsAt8 V c t.val t.isLt).1 fun r d => L.dx (384 * t.val + r) d := by
  by_cases h : t.val % 22 = 0
  · have e := congrArg Prod.fst (outsAt8_A V c t h)
    refine fun r l => (congrFun e _).trans ?_
    frame_out
    exact q_dx_tile (d8 hd t) (a8 ha t) (x8 hx t) (n8 hn t) r l
  · have e := congrArg Prod.fst (outsAt8_B V c t h)
    refine fun r l => (congrFun e _).trans ?_
    frame_out
    exact q_dx_tile (d8 hd t) (a8 ha t) (x8 hx t) (n8 hn t) r l

include hd ha hx hn in
/-- The array of the rows' gradient in the end, -/
theorem arr_q_dx : (dat8 V c).arrAt 4 cfg8.N = arr L.dx := by
  refine (dat8 V c).arrAt_eq_of_covers 4 _ (by decide +kernel) fun t hf y => ?_
  blk_simp
  rw [after8_4]
  obtain ⟨r, l, rfl⟩ : ∃ (r : Fin 384) (l : Fin 384), y = ix2 r l := ⟨y 0, y 1, eq_ix2 y⟩
  rw [show (win8_4.blk t).view.emb (ix2 r l) = ix2 (⟨384 * t.val + r.val, by have := lt8 t; omega⟩ : Fin 8448) l by blk_ext [places8 t]]
  exact rows8 hd ha hx hn t r l

include hd ha hx in
/-- and of the gain's. -/
theorem arr_q_dn : (dat8 V c).arrAt 5 cfg8.N = arr fun _ d => L.dn d := by
  refine (dat8 V c).arrAt_eq_of_covers 5 _ (by decide +kernel) fun t hf y => ?_
  have e := (flush8_5 t).mp hf
  have e' : t.val = 21 := by have := lt8 t; omega
  blk_simp
  rw [after8_5]
  obtain ⟨r, l, rfl⟩ : ∃ (r : Fin 1) (l : Fin 384), y = ix2 r l := ⟨y 0, y 1, eq_ix2 y⟩
  rw [show (win8_5.blk t).view.emb (ix2 r l) = ix2 r l by blk_ext [places8 t]]
  refine (sums8 hd ha hx t.val t.isLt r l).trans ?_
  simp only [e']
  rw [Finset.sum_range]
  rfl

end Queries

section Keys

/-- Where the points' blocks lie. -/
theorem places9 : ∀ t : Fin cfg9.N, win9_0.index t = ![t.val, 0]
    ∧ win9_1.index t = ![0, 0]
    ∧ win9_2.index t = ![t.val, 0]
    ∧ win9_3.index t = ![0, 0]
    ∧ win9_4.index t = ![t.val, 0]
    ∧ win9_5.index t = ![0, 0] := by decide +kernel

theorem lt9 (t : Fin cfg9.N) : t.val < 22 := t.isLt

variable {V : (c : Dev nD) → (b : Ref sig .tc) → Buf (Elt Ideal) ((c : Thread nD τ).loc b)} {c : Dev nD} {L : Norm 256 2048}
  (hd : Is (R := 8448) (C := 2048) (V c main_v9) L.dp)
  (ha : Is (R := 256) (C := 2048) (V c main_v5) L.w)
  (hx : Is (R := 8448) (C := 256) (V c main_v12) L.x)
  (hn : Is (R := 1) (C := 256) (V c main_v2) fun _ d => L.n d) (t : Fin cfg9.N)

include hd in
/-- A point's rows of the product's gradient, -/
theorem d9 : Is (R := 384) (C := 2048) (iblk9 V c 0 t) fun r j => L.dp (384 * t.val + r) j := fun r l =>
  Eq.trans (b := V c main_v9 (ix2 (⟨384 * t.val + r.val, by have := lt9 t; omega⟩ : Fin 8448) l)) (by blk_ext [iblk9, places9 t]) (hd _ _)

include ha in
/-- the weight, -/
theorem a9 : Is (R := 256) (C := 2048) (iblk9 V c 1 t) L.w := fun r l =>
  Eq.trans (b := V c main_v5 (ix2 r l)) (by blk_ext [iblk9, places9 t]) (ha _ _)

include hx in
/-- its rows -/
theorem x9 : Is (R := 384) (C := 256) (iblk9 V c 2 t) fun r d => L.x (384 * t.val + r) d := fun r l =>
  Eq.trans (b := V c main_v12 (ix2 (⟨384 * t.val + r.val, by have := lt9 t; omega⟩ : Fin 8448) l)) (by blk_ext [iblk9, places9 t]) (hx _ _)

include hn in
/-- and the gain. -/
theorem n9 : Is (R := 1) (C := 256) (iblk9 V c 3 t) fun _ d => L.n d := fun r l =>
  Eq.trans (b := V c main_v2 (ix2 r l)) (by blk_ext [iblk9, places9 t]) (hn _ _)

include hd ha hx in
/-- After a point the gain's gradient is the sum over the rows so far. -/
theorem sums9 (n : ℕ) (hn : n < cfg9.N) : Is (R := 1) (C := 256) (outsAt9 V c n hn).2 fun _ d =>
    ∑ r ∈ range (384 * (n + 1)), L.da r d * L.y r d := by
  induction n with
  | zero =>
    have e := congrArg Prod.snd (outsAt9_A V c ⟨0, hn⟩ rfl)
    refine fun r l => (congrFun e _).trans ?_
    frame_out
    refine (dn9 (k_da_tile (d9 hd ⟨0, hn⟩) (a9 ha ⟨0, hn⟩)) (k_y_tile (x9 hx ⟨0, hn⟩)) zero9 r l).trans ?_
    rw [← sum_first]
  | succ n ih =>
    have h : ¬(n + 1) % 22 = 0 := by have : n + 1 < 22 := hn; omega
    have e := congrArg Prod.snd (outsAt9_B V c ⟨n + 1, hn⟩ h)
    refine fun r l => (congrFun e _).trans ?_
    frame_out
    refine (dn9 (k_da_tile (d9 hd ⟨n + 1, hn⟩) (a9 ha ⟨n + 1, hn⟩)) (k_y_tile (x9 hx ⟨n + 1, hn⟩))
      (ih (Nat.lt_of_succ_lt hn)) r l).trans ?_
    rw [← sum_tile 384 (n + 1)]

include hd ha hx hn in
/-- A point leaves its rows' gradient. -/
theorem rows9 : Is (R := 384) (C := 256) (outsAt9 V c t.val t.isLt).1 fun r d => L.dx (384 * t.val + r) d := by
  by_cases h : t.val % 22 = 0
  · have e := congrArg Prod.fst (outsAt9_A V c t h)
    refine fun r l => (congrFun e _).trans ?_
    frame_out
    exact k_dx_tile (d9 hd t) (a9 ha t) (x9 hx t) (n9 hn t) r l
  · have e := congrArg Prod.fst (outsAt9_B V c t h)
    refine fun r l => (congrFun e _).trans ?_
    frame_out
    exact k_dx_tile (d9 hd t) (a9 ha t) (x9 hx t) (n9 hn t) r l

include hd ha hx hn in
/-- The array of the rows' gradient in the end, -/
theorem arr_k_dx : (dat9 V c).arrAt 4 cfg9.N = arr L.dx := by
  refine (dat9 V c).arrAt_eq_of_covers 4 _ (by decide +kernel) fun t hf y => ?_
  blk_simp
  rw [after9_4]
  obtain ⟨r, l, rfl⟩ : ∃ (r : Fin 384) (l : Fin 256), y = ix2 r l := ⟨y 0, y 1, eq_ix2 y⟩
  rw [show (win9_4.blk t).view.emb (ix2 r l) = ix2 (⟨384 * t.val + r.val, by have := lt9 t; omega⟩ : Fin 8448) l by blk_ext [places9 t]]
  exact rows9 hd ha hx hn t r l

include hd ha hx in
/-- and of the gain's. -/
theorem arr_k_dn : (dat9 V c).arrAt 5 cfg9.N = arr fun _ d => L.dn d := by
  refine (dat9 V c).arrAt_eq_of_covers 5 _ (by decide +kernel) fun t hf y => ?_
  have e := (flush9_5 t).mp hf
  have e' : t.val = 21 := by have := lt9 t; omega
  blk_simp
  rw [after9_5]
  obtain ⟨r, l, rfl⟩ : ∃ (r : Fin 1) (l : Fin 256), y = ix2 r l := ⟨y 0, y 1, eq_ix2 y⟩
  rw [show (win9_5.blk t).view.emb (ix2 r l) = ix2 r l by blk_ext [places9 t]]
  refine (sums9 hd ha hx t.val t.isLt r l).trans ?_
  simp only [e']
  rw [Finset.sum_range]
  rfl

end Keys

section Outer

/-- Where the points' blocks lie. -/
theorem places11 : ∀ t : Fin cfg11.N, win11_0.index t = ![t.val, 0]
    ∧ win11_1.index t = ![0, 0]
    ∧ win11_2.index t = ![t.val, 0]
    ∧ win11_3.index t = ![0, 0]
    ∧ win11_4.index t = ![t.val, 0]
    ∧ win11_5.index t = ![t.val, 0]
    ∧ win11_6.index t = ![0, 0] := by decide +kernel

theorem lt11 (t : Fin cfg11.N) : t.val < 22 := t.isLt

variable {V : (c : Dev nD) → (b : Ref sig .tc) → Buf (Elt Ideal) ((c : Thread nD τ).loc b)} {c : Dev nD} {L : Sides 672}
  (hd : Is (R := 8448) (C := 672) (V c main_v24) L.dp)
  (ha : Is (R := 1024) (C := 672) (V c main_v3) L.w)
  (hx : Is (R := 8448) (C := 1024) (V c main_arg0) L.x)
  (hn : Is (R := 1) (C := 1024) (V c main_v0) fun _ d => L.n d)
  (hc : Is (R := 8448) (C := 1024) (V c main_arg12) L.ct) (t : Fin cfg11.N)

include hd in
/-- A point's rows of the product's gradient, -/
theorem d11 : Is (R := 384) (C := 672) (iblk11 V c 0 t) fun r j => L.dp (384 * t.val + r) j := fun r l =>
  Eq.trans (b := V c main_v24 (ix2 (⟨384 * t.val + r.val, by have := lt11 t; omega⟩ : Fin 8448) l)) (by blk_ext [iblk11, places11 t]) (hd _ _)

include ha in
/-- the weight, -/
theorem a11 : Is (R := 1024) (C := 672) (iblk11 V c 1 t) L.w := fun r l =>
  Eq.trans (b := V c main_v3 (ix2 r l)) (by blk_ext [iblk11, places11 t]) (ha _ _)

include hx in
/-- its rows, -/
theorem x11 : Is (R := 384) (C := 1024) (iblk11 V c 2 t) fun r d => L.x (384 * t.val + r) d := fun r l =>
  Eq.trans (b := V c main_arg0 (ix2 (⟨384 * t.val + r.val, by have := lt11 t; omega⟩ : Fin 8448) l)) (by blk_ext [iblk11, places11 t]) (hx _ _)

include hn in
/-- the gain, -/
theorem n11 : Is (R := 1) (C := 1024) (iblk11 V c 3 t) fun _ d => L.n d := fun r l =>
  Eq.trans (b := V c main_v0 (ix2 r l)) (by blk_ext [iblk11, places11 t]) (hn _ _)

include hc in
/-- and its rows of the gradient of the sum. -/
theorem c11 : Is (R := 384) (C := 1024) (iblk11 V c 4 t) fun r d => L.ct (384 * t.val + r) d := fun r l =>
  Eq.trans (b := V c main_arg12 (ix2 (⟨384 * t.val + r.val, by have := lt11 t; omega⟩ : Fin 8448) l)) (by blk_ext [iblk11, places11 t]) (hc _ _)

include hd ha hx in
/-- After a point the gain's gradient is the sum over the rows so far. -/
theorem sums11 (n : ℕ) (hn : n < cfg11.N) : Is (R := 1) (C := 1024) (outsAt11 V c n hn).2 fun _ d =>
    ∑ r ∈ range (384 * (n + 1)), L.da r d * L.y r d := by
  induction n with
  | zero =>
    have e := congrArg Prod.snd (outsAt11_A V c ⟨0, hn⟩ rfl)
    refine fun r l => (congrFun e _).trans ?_
    frame_out
    refine (dn11 (da_tile (d11 hd ⟨0, hn⟩) (a11 ha ⟨0, hn⟩)) (y_tile (x11 hx ⟨0, hn⟩)) zero11 r l).trans ?_
    rw [← sum_first]
  | succ n ih =>
    have h : ¬(n + 1) % 22 = 0 := by have : n + 1 < 22 := hn; omega
    have e := congrArg Prod.snd (outsAt11_B V c ⟨n + 1, hn⟩ h)
    refine fun r l => (congrFun e _).trans ?_
    frame_out
    refine (dn11 (da_tile (d11 hd ⟨n + 1, hn⟩) (a11 ha ⟨n + 1, hn⟩)) (y_tile (x11 hx ⟨n + 1, hn⟩))
      (ih (Nat.lt_of_succ_lt hn)) r l).trans ?_
    rw [← sum_tile 384 (n + 1)]

include hd ha hx hn hc in
/-- A point leaves its rows' gradient. -/
theorem rows11 : Is (R := 384) (C := 1024) (outsAt11 V c t.val t.isLt).1 fun r d => L.dx (384 * t.val + r) d := by
  by_cases h : t.val % 22 = 0
  · have e := congrArg Prod.fst (outsAt11_A V c t h)
    refine fun r l => (congrFun e _).trans ?_
    frame_out
    exact dx_tile (d11 hd t) (a11 ha t) (x11 hx t) (n11 hn t) (c11 hc t) r l
  · have e := congrArg Prod.fst (outsAt11_B V c t h)
    refine fun r l => (congrFun e _).trans ?_
    frame_out
    exact dx_tile (d11 hd t) (a11 ha t) (x11 hx t) (n11 hn t) (c11 hc t) r l

include hd ha hx hn hc in
/-- The array of the rows' gradient in the end, -/
theorem arr_dx : (dat11 V c).arrAt 5 cfg11.N = arr L.dx := by
  refine (dat11 V c).arrAt_eq_of_covers 5 _ (by decide +kernel) fun t hf y => ?_
  blk_simp
  rw [after11_5]
  obtain ⟨r, l, rfl⟩ : ∃ (r : Fin 384) (l : Fin 1024), y = ix2 r l := ⟨y 0, y 1, eq_ix2 y⟩
  rw [show (win11_5.blk t).view.emb (ix2 r l) = ix2 (⟨384 * t.val + r.val, by have := lt11 t; omega⟩ : Fin 8448) l by blk_ext [places11 t]]
  exact rows11 hd ha hx hn hc t r l

include hd ha hx in
/-- and of the gain's. -/
theorem arr_dn : (dat11 V c).arrAt 6 cfg11.N = arr fun _ d => L.dn d := by
  refine (dat11 V c).arrAt_eq_of_covers 6 _ (by decide +kernel) fun t hf y => ?_
  have e := (flush11_6 t).mp hf
  have e' : t.val = 21 := by have := lt11 t; omega
  blk_simp
  rw [after11_6]
  obtain ⟨r, l, rfl⟩ : ∃ (r : Fin 1) (l : Fin 1024), y = ix2 r l := ⟨y 0, y 1, eq_ix2 y⟩
  rw [show (win11_6.blk t).view.emb (ix2 r l) = ix2 r l by blk_ext [places11 t]]
  refine (sums11 hd ha hx t.val t.isLt r l).trans ?_
  simp only [e']
  rw [Finset.sum_range]
  rfl

end Outer

end Cert.Kernel5Ideal.Hand

end
-- ==== Proof.Mla.Trace.lean ====
module

public import proofs.«01_k».proof.Proof.Mla.In
public import proofs.«01_k».proof.Proof.Mla.Out
public import proofs.«01_k».proof.Proof.Mla.Weights
public import proofs.«01_k».proof.Proof.Mla.Rows
public import proofs.«01_k».proof.Proof.Gen.Kernel5Ideal.Frame
public import Idealize.ShloMosaic.Lib.StableHlo.RunRead
public import Idealize.ShloMosaic.Lib.Pointwise

@[expose] public section

set_option maxRecDepth 16384

/-!
# From call to call, in mixer C's projections

What each call finds in its operands, and what the results hold after the last call. `at5_wo`, say, is what the weight
back to the rows is when the call at boundary 5 begins.
-/

noncomputable section

namespace Cert.Kernel5Ideal.Hand

open Cert.Kernel5Ideal Cert.Kernel5Ideal.Gen Cert.Sides
open Idealize.ShloMosaic Idealize.ShloMosaic.TcCoe

/-- The arguments hold the mixer's numbers. -/
structure Holds (m : (ℓ : Loc nD τ sig) → Buf (Elt Ideal) ℓ) (c : Dev nD) (L : Mla) : Prop where
  x : Is (R := 8448) (C := 1024) (m ((c : Thread nD τ).loc main_arg0)) L.x
  n : ∀ d : Fin 1024, (m ((c : Thread nD τ).loc main_arg1) : S1024.Idx → EReal) (ix1 d) = L.n d.val
  w : Is (R := 1024) (C := 672) (m ((c : Thread nD τ).loc main_arg2)) L.w
  qn : ∀ d : Fin 384, (m ((c : Thread nD τ).loc main_arg3) : S384.Idx → EReal) (ix1 d) = L.qn d.val
  kn : ∀ d : Fin 256, (m ((c : Thread nD τ).loc main_arg4) : S256.Idx → EReal) (ix1 d) = L.kn d.val
  wq : Is (R := 384) (C := 2048) (m ((c : Thread nD τ).loc main_arg5)) L.wq
  wk : Is (R := 256) (C := 2048) (m ((c : Thread nD τ).loc main_arg6)) L.wk
  o : Is (R := 8448) (C := 1024) (m ((c : Thread nD τ).loc main_arg7)) L.o
  wo : Is (R := 1024) (C := 1024) (m ((c : Thread nD τ).loc main_arg8)) L.wo
  dq : Is (R := 8448) (C := 2048) (m ((c : Thread nD τ).loc main_arg9)) L.dq
  dk : Is (R := 8448) (C := 2048) (m ((c : Thread nD τ).loc main_arg10)) L.dk
  dr : Is (R := 8448) (C := 32) (m ((c : Thread nD τ).loc main_arg11)) L.dr
  ct : Is (R := 8448) (C := 1024) (m ((c : Thread nD τ).loc main_arg12)) L.ct

variable {m : (ℓ : Loc nD τ sig) → Buf (Elt Ideal) ℓ} {c : Dev nD} {L : Mla} (ρ : Dev nD → PrngReg) (h : Holds m c L)

/-! ## Before the first call -/

/-- The host's gain rows, -/
theorem read_n : V1 m ρ c main_v0 = broadcastInDim S1x1024 ![1] bcast_S1024_S1x1024_1 (m ((c : Thread nD τ).loc main_arg1)) := by
  after_reads_simp

@[inherit_doc read_n]
theorem read_qn : V1 m ρ c main_v1 = broadcastInDim S1x384 ![1] bcast_S384_S1x384_1 (m ((c : Thread nD τ).loc main_arg3)) := by
  after_reads_simp

@[inherit_doc read_n]
theorem read_kn : V1 m ρ c main_v2 = broadcastInDim S1x256 ![1] bcast_S256_S1x256_1 (m ((c : Thread nD τ).loc main_arg4)) := by
  after_reads_simp

/-- and its casts. -/
theorem read_w : V1 m ρ c main_v3 = (truncf (F := Ideal) .bf16 (m ((c : Thread nD τ).loc main_arg2) : FVec Ideal S1024x672 .f32) bitsLt_bf16_f32 : FVec Ideal S1024x672 .bf16) := by
  after_reads_simp

@[inherit_doc read_w]
theorem read_wq : V1 m ρ c main_v4 = (truncf (F := Ideal) .bf16 (m ((c : Thread nD τ).loc main_arg5) : FVec Ideal S384x2048 .f32) bitsLt_bf16_f32 : FVec Ideal S384x2048 .bf16) := by
  after_reads_simp

@[inherit_doc read_w]
theorem read_wk : V1 m ρ c main_v5 = (truncf (F := Ideal) .bf16 (m ((c : Thread nD τ).loc main_arg6) : FVec Ideal S256x2048 .f32) bitsLt_bf16_f32 : FVec Ideal S256x2048 .bf16) := by
  after_reads_simp

@[inherit_doc read_w]
theorem read_wo : V1 m ρ c main_v6 = (truncf (F := Ideal) .bf16 (m ((c : Thread nD τ).loc main_arg8) : FVec Ideal S1024x1024 .f32) bitsLt_bf16_f32 : FVec Ideal S1024x1024 .bf16) := by
  after_reads_simp

@[inherit_doc read_w]
theorem read_o : V1 m ρ c main_v7 = (truncf (F := Ideal) .bf16 (m ((c : Thread nD τ).loc main_arg7) : FVec Ideal S8448x1024 .f32) bitsLt_bf16_f32 : FVec Ideal S8448x1024 .bf16) := by
  after_reads_simp

@[inherit_doc read_w]
theorem read_dq : V1 m ρ c main_v8 = (truncf (F := Ideal) .bf16 (m ((c : Thread nD τ).loc main_arg9) : FVec Ideal S8448x2048 .f32) bitsLt_bf16_f32 : FVec Ideal S8448x2048 .bf16) := by
  after_reads_simp

@[inherit_doc read_w]
theorem read_dk : V1 m ρ c main_v9 = (truncf (F := Ideal) .bf16 (m ((c : Thread nD τ).loc main_arg10) : FVec Ideal S8448x2048 .f32) bitsLt_bf16_f32 : FVec Ideal S8448x2048 .bf16) := by
  after_reads_simp

/-- Between the first and the second call: the three parts of the product down. -/
theorem read_qx : W3 m ρ c (Proc.devRef .tc main_v11) = (extractStridedSlice S8448x384 ![0, 0]
    (W2 m ρ c (Proc.devRef .tc main_v10_0) : FVec Ideal S8448x672 .f32) slices_S8448x672_S8448x384_0_0 : FVec Ideal S8448x384 .f32) := by
  after_reads_simp

@[inherit_doc read_qx]
theorem read_kx : W3 m ρ c (Proc.devRef .tc main_v12) = (extractStridedSlice S8448x256 ![0, 384]
    (W2 m ρ c (Proc.devRef .tc main_v10_0) : FVec Ideal S8448x672 .f32) slices_S8448x672_S8448x256_0_384 : FVec Ideal S8448x256 .f32) := by
  after_reads_simp

@[inherit_doc read_qx]
theorem read_kr : W3 m ρ c (Proc.devRef .tc main_v13) = (extractStridedSlice S8448x32 ![0, 640]
    (W2 m ρ c (Proc.devRef .tc main_v10_0) : FVec Ideal S8448x672 .f32) slices_S8448x672_S8448x32_0_640 : FVec Ideal S8448x32 .f32) := by
  after_reads_simp

/-- Before the last two calls: the three parts of the product down's gradient, side by side. -/
theorem read_dd : W13 m ρ c (Proc.devRef .tc main_v24) = (truncf (F := Ideal) .bf16 (concatenate S8448x672 1 [⟨S8448x384, (W12 m ρ c (Proc.devRef .tc main_v21_0) : FVec Ideal S8448x384 .f32)⟩,
    ⟨S8448x256, (W12 m ρ c (Proc.devRef .tc main_v22_0) : FVec Ideal S8448x256 .f32)⟩, ⟨S8448x32, (W12 m ρ c (Proc.devRef .tc main_arg11) : FVec Ideal S8448x32 .f32)⟩]
    concatenates_S8448x384_S8448x256_S8448x32_S8448x672_d1 : FVec Ideal S8448x672 .f32) bitsLt_bf16_f32 : FVec Ideal S8448x672 .bf16) := by
  after_reads_simp
  rfl

/-- Three arrays side by side. -/
theorem wide_dd {f g e : ℕ → ℕ → EReal} (X : FVec Ideal S8448x384 .f32) (Y : FVec Ideal S8448x256 .f32) (Z : FVec Ideal S8448x32 .f32)
    (hX : Is (R := 8448) (C := 384) X f) (hY : Is (R := 8448) (C := 256) Y g) (hZ : Is (R := 8448) (C := 32) Z e) :
    Is (R := 8448) (C := 672) (truncf (F := Ideal) .bf16 (concatenate S8448x672 1 [⟨S8448x384, X⟩, ⟨S8448x256, Y⟩, ⟨S8448x32, Z⟩]
      concatenates_S8448x384_S8448x256_S8448x32_S8448x672_d1 : FVec Ideal S8448x672 .f32) bitsLt_bf16_f32 : FVec Ideal S8448x672 .bf16)
      fun r j => if j < 384 then f r j else if j < 640 then g r (j - 384) else e r (j - 640) := fun r j => by
  have hj := j.isLt
  pointwise
  by_cases c1 : j.val < 384
  · rw [dif_pos c1, if_pos c1]
    exact hX r ⟨j.val, c1⟩
  · by_cases c2 : j.val < 640
    · have c3 : j.val - 384 < 256 := by omega
      rw [dif_neg c1, dif_pos c3, if_neg c1, if_pos c2]
      exact hY r ⟨j.val - 384, c3⟩
    · have c3 : ¬j.val - 384 < 256 := by omega
      have c4 : j.val - 640 < 32 := by omega
      rw [dif_neg c1, dif_neg c3, if_neg c1, if_neg c2]
      exact (hZ r ⟨j.val - 384 - 256, by omega⟩).trans (congrArg (e r.val) (by dsimp only; omega))

include h

/-- The gains, -/
theorem at1_n : Is (R := 1) (C := 1024) (V1 m ρ c main_v0) (fun _ d => L.n d) := fun r d => by
  rw [read_n ρ]
  pointwise
  exact h.n d

@[inherit_doc at1_n]
theorem at1_qn : Is (R := 1) (C := 384) (V1 m ρ c main_v1) (fun _ d => L.qn d) := fun r d => by
  rw [read_qn ρ]
  pointwise
  exact h.qn d

@[inherit_doc at1_n]
theorem at1_kn : Is (R := 1) (C := 256) (V1 m ρ c main_v2) (fun _ d => L.kn d) := fun r d => by
  rw [read_kn ρ]
  pointwise
  exact h.kn d

/-- the weights, the attention's result and the gradients of the products up. -/
theorem at1_w : Is (R := 1024) (C := 672) (V1 m ρ c main_v3) L.w := fun r d =>
  (congrFun (read_w ρ) (ix2 r d)).trans (h.w r d)

@[inherit_doc at1_w]
theorem at1_wq : Is (R := 384) (C := 2048) (V1 m ρ c main_v4) L.wq := fun r d =>
  (congrFun (read_wq ρ) (ix2 r d)).trans (h.wq r d)

@[inherit_doc at1_w]
theorem at1_wk : Is (R := 256) (C := 2048) (V1 m ρ c main_v5) L.wk := fun r d =>
  (congrFun (read_wk ρ) (ix2 r d)).trans (h.wk r d)

@[inherit_doc at1_w]
theorem at1_wo : Is (R := 1024) (C := 1024) (V1 m ρ c main_v6) L.wo := fun r d =>
  (congrFun (read_wo ρ) (ix2 r d)).trans (h.wo r d)

@[inherit_doc at1_w]
theorem at1_o : Is (R := 8448) (C := 1024) (V1 m ρ c main_v7) L.o := fun r d =>
  (congrFun (read_o ρ) (ix2 r d)).trans (h.o r d)

@[inherit_doc at1_w]
theorem at1_dq : Is (R := 8448) (C := 2048) (V1 m ρ c main_v8) L.dq := fun r d =>
  (congrFun (read_dq ρ) (ix2 r d)).trans (h.dq r d)

@[inherit_doc at1_w]
theorem at1_dk : Is (R := 8448) (C := 2048) (V1 m ρ c main_v9) L.dk := fun r d =>
  (congrFun (read_dk ρ) (ix2 r d)).trans (h.dk r d)

/-! ## The products -/

/-- The first call finds the rows. -/
theorem at1_x : Is (R := 8448) (C := 1024) (V1 m ρ c main_arg0) L.x := fun r d =>
  (congrFun (W1_args m ρ c main_arg0 (by decide)) (ix2 r d)).trans (h.x r d)

/-- After it: the product down -/
theorem end2_p : W2 m ρ c (Proc.devRef .tc main_v10_0) = arr L.down :=
  (W2_arr m ρ c 3).trans (arr_p (L := L.s) (at1_x ρ h) (at1_n ρ h) (at1_w ρ h))

/-- and the normalised rows. -/
theorem end2_b : W2 m ρ c (Proc.devRef .tc main_v10_1) = arr L.s.b :=
  (W2_arr m ρ c 4).trans (arr_b (L := L.s) (at1_x ρ h) (at1_n ρ h))

/-- The queries columns. -/
theorem at3_qx : Is (R := 8448) (C := 384) (V3 m ρ c main_v11) L.q.x := fun r d => by
  rw [show V3 m ρ c main_v11 = _ from read_qx ρ, end2_p ρ h]
  pointwise
  rfl

/-- The keys' and values' columns. -/
theorem at3_kx : Is (R := 8448) (C := 256) (V3 m ρ c main_v12) L.k.x := fun r d => by
  rw [show V3 m ρ c main_v12 = _ from read_kx ρ, end2_p ρ h]
  pointwise
  rfl

/-- The keys' shared part. -/
theorem end3_kr : W3 m ρ c (Proc.devRef .tc main_v13) = arr (fun r j => L.down r (640 + j)) := eq_of_is (R := 8448) (C := 32) fun r d => by
  rw [read_kr ρ, end2_p ρ h]
  pointwise
  rfl

/-- The second call finds the gain -/
theorem at3_qn : Is (R := 1) (C := 384) (V3 m ρ c main_v1) (fun _ d => L.qn d) := fun r d =>
  (congrFun ((W3_of m ρ c main_v1 (by decide)).trans (W2_of m ρ c main_v1 (by decide))) (ix2 r d)).trans (at1_qn ρ h r d)

/-- and the weight. -/
theorem at3_wq : Is (R := 384) (C := 2048) (V3 m ρ c main_v4) L.wq := fun r d =>
  (congrFun ((W3_of m ρ c main_v4 (by decide)).trans (W2_of m ρ c main_v4 (by decide))) (ix2 r d)).trans (at1_wq ρ h r d)

/-- After it: the queries' product -/
theorem end4_qp : W4 m ρ c (Proc.devRef .tc main_v14_0) = arr L.q.p :=
  (W4_arr m ρ c 3).trans (arr_q_p (L := L.q) (at3_qx ρ h) (at3_qn ρ h) (at3_wq ρ h))

/-- and normalised columns. -/
theorem end4_qb : W4 m ρ c (Proc.devRef .tc main_v14_1) = arr L.q.b :=
  (W4_arr m ρ c 4).trans (arr_q_b (L := L.q) (at3_qx ρ h) (at3_qn ρ h))

/-- The third call finds the columns, -/
theorem at4_kx : Is (R := 8448) (C := 256) (V4 m ρ c main_v12) L.k.x := fun r d =>
  (congrFun (W4_of m ρ c main_v12 (by decide)) (ix2 r d)).trans (at3_kx ρ h r d)

/-- the gain -/
theorem at4_kn : Is (R := 1) (C := 256) (V4 m ρ c main_v2) (fun _ d => L.kn d) := fun r d =>
  (congrFun ((W4_of m ρ c main_v2 (by decide)).trans ((W3_of m ρ c main_v2 (by decide)).trans (W2_of m ρ c main_v2 (by decide)))) (ix2 r d)).trans (at1_kn ρ h r d)

/-- and the weight. -/
theorem at4_wk : Is (R := 256) (C := 2048) (V4 m ρ c main_v5) L.wk := fun r d =>
  (congrFun ((W4_of m ρ c main_v5 (by decide)).trans ((W3_of m ρ c main_v5 (by decide)).trans (W2_of m ρ c main_v5 (by decide)))) (ix2 r d)).trans (at1_wk ρ h r d)

/-- After it: the keys' and values' product -/
theorem end5_kp : W5 m ρ c (Proc.devRef .tc main_v15_0) = arr L.k.p :=
  (W5_arr m ρ c 3).trans (arr_k_p (L := L.k) (at4_kx ρ h) (at4_kn ρ h) (at4_wk ρ h))

/-- and normalised columns. -/
theorem end5_kb : W5 m ρ c (Proc.devRef .tc main_v15_1) = arr L.k.b :=
  (W5_arr m ρ c 4).trans (arr_k_b (L := L.k) (at4_kx ρ h) (at4_kn ρ h))

/-- The next call finds the attention's result, -/
theorem at5_o : Is (R := 8448) (C := 1024) (V5 m ρ c main_v7) L.o := fun r d =>
  (congrFun ((W5_of m ρ c main_v7 (by decide)).trans ((W4_of m ρ c main_v7 (by decide)).trans ((W3_of m ρ c main_v7 (by decide)).trans (W2_of m ρ c main_v7 (by decide))))) (ix2 r d)).trans (at1_o ρ h r d)

/-- the weight -/
theorem at5_wo : Is (R := 1024) (C := 1024) (V5 m ρ c main_v6) L.wo := fun r d =>
  (congrFun ((W5_of m ρ c main_v6 (by decide)).trans ((W4_of m ρ c main_v6 (by decide)).trans ((W3_of m ρ c main_v6 (by decide)).trans (W2_of m ρ c main_v6 (by decide))))) (ix2 r d)).trans (at1_wo ρ h r d)

/-- and the rows. -/
theorem at5_x : Is (R := 8448) (C := 1024) (V5 m ρ c main_arg0) L.x := fun r d =>
  (congrFun (W5_args m ρ c main_arg0 (by decide)) (ix2 r d)).trans (h.x r d)

/-- After it: the rows with the attention's result. -/
theorem end6_out : W6 m ρ c (Proc.devRef .tc main_v16) = arr L.s.out :=
  (W6_arr m ρ c 3).trans (arr_out (L := L.s) (at5_o ρ h) (at5_wo ρ h) (at5_x ρ h))

/-! ## The gradients -/

/-- The next call finds the incoming gradient -/
theorem at6_ct : Is (R := 8448) (C := 1024) (V6 m ρ c main_arg12) L.ct := fun r d =>
  (congrFun (W6_args m ρ c main_arg12 (by decide)) (ix2 r d)).trans (h.ct r d)

/-- and the weight. -/
theorem at6_wo : Is (R := 1024) (C := 1024) (V6 m ρ c main_v6) L.wo := fun r d =>
  (congrFun ((W6_of m ρ c main_v6 (by decide)).trans ((W5_of m ρ c main_v6 (by decide)).trans ((W4_of m ρ c main_v6 (by decide)).trans ((W3_of m ρ c main_v6 (by decide)).trans (W2_of m ρ c main_v6 (by decide)))))) (ix2 r d)).trans (at1_wo ρ h r d)

/-- After it: the gradient of the attention's result. -/
theorem end7_do : W7 m ρ c (Proc.devRef .tc main_v17) = arr L.s.do' :=
  (W7_arr m ρ c 2).trans (arr_do (L := L.s) (at6_ct ρ h) (at6_wo ρ h))

/-- The next call finds the attention's result -/
theorem at7_o : Is (R := 8448) (C := 1024) (V7 m ρ c main_v7) L.o := fun r d =>
  (congrFun ((W7_of m ρ c main_v7 (by decide)).trans ((W6_of m ρ c main_v7 (by decide)).trans ((W5_of m ρ c main_v7 (by decide)).trans ((W4_of m ρ c main_v7 (by decide)).trans ((W3_of m ρ c main_v7 (by decide)).trans (W2_of m ρ c main_v7 (by decide))))))) (ix2 r d)).trans (at1_o ρ h r d)

/-- and the incoming gradient. -/
theorem at7_ct : Is (R := 8448) (C := 1024) (V7 m ρ c main_arg12) L.ct := fun r d =>
  (congrFun (W7_args m ρ c main_arg12 (by decide)) (ix2 r d)).trans (h.ct r d)

/-- After it: the gradient of the weight back to the rows. -/
theorem end8_dwo : W8 m ρ c (Proc.devRef .tc main_v18) = arr L.s.dwo :=
  (W8_arr m ρ c 2).trans (arr_dwo (L := L.s) (at7_o ρ h) (at7_ct ρ h))

/-- The next call finds the queries' normalised columns -/
theorem at8_qb : Is (R := 8448) (C := 384) (V8 m ρ c main_v14_1) L.q.b :=
  is_of_eq (((W8_of m ρ c main_v14_1 (by decide)).trans ((W7_of m ρ c main_v14_1 (by decide)).trans ((W6_of m ρ c main_v14_1 (by decide)).trans (W5_of m ρ c main_v14_1 (by decide))))).trans (end4_qb ρ h))

/-- and their product's gradient. -/
theorem at8_dq : Is (R := 8448) (C := 2048) (V8 m ρ c main_v8) L.dq := fun r d =>
  (congrFun ((W8_of m ρ c main_v8 (by decide)).trans ((W7_of m ρ c main_v8 (by decide)).trans ((W6_of m ρ c main_v8 (by decide)).trans ((W5_of m ρ c main_v8 (by decide)).trans ((W4_of m ρ c main_v8 (by decide)).trans ((W3_of m ρ c main_v8 (by decide)).trans (W2_of m ρ c main_v8 (by decide)))))))) (ix2 r d)).trans (at1_dq ρ h r d)

/-- After it: the gradient of the queries' weight. -/
theorem end9_qdw : W9 m ρ c (Proc.devRef .tc main_v19) = arr L.q.dw :=
  (W9_arr m ρ c 2).trans (arr_q_dw (L := L.q) (at8_qb ρ h) (at8_dq ρ h))

/-- The next call finds the keys' and values' normalised columns -/
theorem at9_kb : Is (R := 8448) (C := 256) (V9 m ρ c main_v15_1) L.k.b :=
  is_of_eq (((W9_of m ρ c main_v15_1 (by decide)).trans ((W8_of m ρ c main_v15_1 (by decide)).trans ((W7_of m ρ c main_v15_1 (by decide)).trans (W6_of m ρ c main_v15_1 (by decide))))).trans (end5_kb ρ h))

/-- and their product's gradient. -/
theorem at9_dk : Is (R := 8448) (C := 2048) (V9 m ρ c main_v9) L.dk := fun r d =>
  (congrFun ((W9_of m ρ c main_v9 (by decide)).trans ((W8_of m ρ c main_v9 (by decide)).trans ((W7_of m ρ c main_v9 (by decide)).trans ((W6_of m ρ c main_v9 (by decide)).trans ((W5_of m ρ c main_v9 (by decide)).trans ((W4_of m ρ c main_v9 (by decide)).trans ((W3_of m ρ c main_v9 (by decide)).trans (W2_of m ρ c main_v9 (by decide))))))))) (ix2 r d)).trans (at1_dk ρ h r d)

/-- After it: the gradient of the keys' and values' weight. -/
theorem end10_kdw : W10 m ρ c (Proc.devRef .tc main_v20) = arr L.k.dw :=
  (W10_arr m ρ c 2).trans (arr_k_dw (L := L.k) (at9_kb ρ h) (at9_dk ρ h))

/-- The next call finds the gradient of the queries' product, -/
theorem at10_dq : Is (R := 8448) (C := 2048) (V10 m ρ c main_v8) L.dq := fun r d =>
  (congrFun ((W10_of m ρ c main_v8 (by decide)).trans ((W9_of m ρ c main_v8 (by decide)).trans ((W8_of m ρ c main_v8 (by decide)).trans ((W7_of m ρ c main_v8 (by decide)).trans ((W6_of m ρ c main_v8 (by decide)).trans ((W5_of m ρ c main_v8 (by decide)).trans ((W4_of m ρ c main_v8 (by decide)).trans ((W3_of m ρ c main_v8 (by decide)).trans (W2_of m ρ c main_v8 (by decide)))))))))) (ix2 r d)).trans (at1_dq ρ h r d)

/-- the weight, -/
theorem at10_wq : Is (R := 384) (C := 2048) (V10 m ρ c main_v4) L.wq := fun r d =>
  (congrFun ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans (W2_of m ρ c main_v4 (by decide)))))))))) (ix2 r d)).trans (at1_wq ρ h r d)

/-- the columns -/
theorem at10_qx : Is (R := 8448) (C := 384) (V10 m ρ c main_v11) L.q.x := fun r d =>
  (congrFun ((W10_of m ρ c main_v11 (by decide)).trans ((W9_of m ρ c main_v11 (by decide)).trans ((W8_of m ρ c main_v11 (by decide)).trans ((W7_of m ρ c main_v11 (by decide)).trans ((W6_of m ρ c main_v11 (by decide)).trans ((W5_of m ρ c main_v11 (by decide)).trans (W4_of m ρ c main_v11 (by decide)))))))) (ix2 r d)).trans (at3_qx ρ h r d)

/-- and the gain. -/
theorem at10_qn : Is (R := 1) (C := 384) (V10 m ρ c main_v1) (fun _ d => L.qn d) := fun r d =>
  (congrFun ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide)))))))))) (ix2 r d)).trans (at1_qn ρ h r d)

/-- After it: the gradient of the queries' columns -/
theorem end11_qdx : W11 m ρ c (Proc.devRef .tc main_v21_0) = arr L.q.dx :=
  (W11_arr m ρ c 4).trans (arr_q_dx (L := L.q) (at10_dq ρ h) (at10_wq ρ h) (at10_qx ρ h) (at10_qn ρ h))

/-- and of their gain. -/
theorem end11_qdn : W11 m ρ c (Proc.devRef .tc main_v21_1) = arr (fun _ d => L.q.dn d) :=
  (W11_arr m ρ c 5).trans (arr_q_dn (L := L.q) (at10_dq ρ h) (at10_wq ρ h) (at10_qx ρ h))

/-- The next call finds the gradient of the keys' and values' product, -/
theorem at11_dk : Is (R := 8448) (C := 2048) (V11 m ρ c main_v9) L.dk := fun r d =>
  (congrFun ((W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans ((W5_of m ρ c main_v9 (by decide)).trans ((W4_of m ρ c main_v9 (by decide)).trans ((W3_of m ρ c main_v9 (by decide)).trans (W2_of m ρ c main_v9 (by decide))))))))))) (ix2 r d)).trans (at1_dk ρ h r d)

/-- the weight, -/
theorem at11_wk : Is (R := 256) (C := 2048) (V11 m ρ c main_v5) L.wk := fun r d =>
  (congrFun ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide))))))))))) (ix2 r d)).trans (at1_wk ρ h r d)

/-- the columns -/
theorem at11_kx : Is (R := 8448) (C := 256) (V11 m ρ c main_v12) L.k.x := fun r d =>
  (congrFun ((W11_of m ρ c main_v12 (by decide)).trans ((W10_of m ρ c main_v12 (by decide)).trans ((W9_of m ρ c main_v12 (by decide)).trans ((W8_of m ρ c main_v12 (by decide)).trans ((W7_of m ρ c main_v12 (by decide)).trans ((W6_of m ρ c main_v12 (by decide)).trans ((W5_of m ρ c main_v12 (by decide)).trans (W4_of m ρ c main_v12 (by decide))))))))) (ix2 r d)).trans (at3_kx ρ h r d)

/-- and the gain. -/
theorem at11_kn : Is (R := 1) (C := 256) (V11 m ρ c main_v2) (fun _ d => L.kn d) := fun r d =>
  (congrFun ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide))))))))))) (ix2 r d)).trans (at1_kn ρ h r d)

/-- After it: the gradient of the keys' and values' columns -/
theorem end12_kdx : W12 m ρ c (Proc.devRef .tc main_v22_0) = arr L.k.dx :=
  (W12_arr m ρ c 4).trans (arr_k_dx (L := L.k) (at11_dk ρ h) (at11_wk ρ h) (at11_kx ρ h) (at11_kn ρ h))

/-- and of their gain. -/
theorem end12_kdn : W12 m ρ c (Proc.devRef .tc main_v22_1) = arr (fun _ d => L.k.dn d) :=
  (W12_arr m ρ c 5).trans (arr_k_dn (L := L.k) (at11_dk ρ h) (at11_wk ρ h) (at11_kx ρ h))

/-- The gradient of the product down. -/
theorem at13_dd : Is (R := 8448) (C := 672) (V13 m ρ c main_v24) L.dd := by
  rw [show V13 m ρ c main_v24 = _ from read_dd ρ]
  exact wide_dd _ _ _ (is_of_eq ((W12_of m ρ c main_v21_0 (by decide)).trans (end11_qdx ρ h))) (is_of_eq (end12_kdx ρ h))
    fun r d => (congrFun (W12_args m ρ c main_arg11 (by decide)) (ix2 r d)).trans (h.dr r d)

/-- The last call but one finds the normalised rows. -/
theorem at13_b : Is (R := 8448) (C := 1024) (V13 m ρ c main_v10_1) L.s.b :=
  is_of_eq (((W13_of m ρ c main_v10_1 (by decide)).trans ((W12_of m ρ c main_v10_1 (by decide)).trans ((W11_of m ρ c main_v10_1 (by decide)).trans ((W10_of m ρ c main_v10_1 (by decide)).trans ((W9_of m ρ c main_v10_1 (by decide)).trans ((W8_of m ρ c main_v10_1 (by decide)).trans ((W7_of m ρ c main_v10_1 (by decide)).trans ((W6_of m ρ c main_v10_1 (by decide)).trans ((W5_of m ρ c main_v10_1 (by decide)).trans ((W4_of m ρ c main_v10_1 (by decide)).trans (W3_of m ρ c main_v10_1 (by decide)))))))))))).trans (end2_b ρ h))

/-- After it: the gradient of the weight down. -/
theorem end14_dw : W14 m ρ c (Proc.devRef .tc main_v25) = arr L.s.dw :=
  (W14_arr m ρ c 2).trans (arr_dw (L := L.s) (at13_b ρ h) (at13_dd ρ h))

/-- The last call finds the gradient of the product down, -/
theorem at14_dd : Is (R := 8448) (C := 672) (V14 m ρ c main_v24) L.dd := fun r d =>
  (congrFun (W14_of m ρ c main_v24 (by decide)) (ix2 r d)).trans (at13_dd ρ h r d)

/-- the weight, -/
theorem at14_w : Is (R := 1024) (C := 672) (V14 m ρ c main_v3) L.w := fun r d =>
  (congrFun ((W14_of m ρ c main_v3 (by decide)).trans ((W13_of m ρ c main_v3 (by decide)).trans ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)).trans (W2_of m ρ c main_v3 (by decide)))))))))))))) (ix2 r d)).trans (at1_w ρ h r d)

/-- the rows, -/
theorem at14_x : Is (R := 8448) (C := 1024) (V14 m ρ c main_arg0) L.x := fun r d =>
  (congrFun (W14_args m ρ c main_arg0 (by decide)) (ix2 r d)).trans (h.x r d)

/-- the gain -/
theorem at14_n : Is (R := 1) (C := 1024) (V14 m ρ c main_v0) (fun _ d => L.n d) := fun r d =>
  (congrFun ((W14_of m ρ c main_v0 (by decide)).trans ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide)))))))))))))) (ix2 r d)).trans (at1_n ρ h r d)

/-- and the incoming gradient. -/
theorem at14_ct : Is (R := 8448) (C := 1024) (V14 m ρ c main_arg12) L.ct := fun r d =>
  (congrFun (W14_args m ρ c main_arg12 (by decide)) (ix2 r d)).trans (h.ct r d)

/-- After it: the gradient of the rows -/
theorem end15_dx : W15 m ρ c (Proc.devRef .tc main_v26_0) = arr L.s.dx :=
  (W15_arr m ρ c 5).trans (arr_dx (L := L.s) (at14_dd ρ h) (at14_w ρ h) (at14_x ρ h) (at14_n ρ h) (at14_ct ρ h))

/-- and of their gain. -/
theorem end15_dn : W15 m ρ c (Proc.devRef .tc main_v26_1) = arr (fun _ d => L.s.dn d) :=
  (W15_arr m ρ c 6).trans (arr_dn (L := L.s) (at14_dd ρ h) (at14_w ρ h) (at14_x ρ h))

/-! ## After the last call -/

/-- The results as the run leaves them. -/
theorem end15_qp : W15 m ρ c (Proc.devRef .tc main_v14_0) = arr L.q.p :=
  ((W15_of m ρ c main_v14_0 (by decide)).trans ((W14_of m ρ c main_v14_0 (by decide)).trans ((W13_of m ρ c main_v14_0 (by decide)).trans ((W12_of m ρ c main_v14_0 (by decide)).trans ((W11_of m ρ c main_v14_0 (by decide)).trans ((W10_of m ρ c main_v14_0 (by decide)).trans ((W9_of m ρ c main_v14_0 (by decide)).trans ((W8_of m ρ c main_v14_0 (by decide)).trans ((W7_of m ρ c main_v14_0 (by decide)).trans ((W6_of m ρ c main_v14_0 (by decide)).trans (W5_of m ρ c main_v14_0 (by decide)))))))))))).trans (end4_qp ρ h)

@[inherit_doc end15_qp]
theorem end15_kp : W15 m ρ c (Proc.devRef .tc main_v15_0) = arr L.k.p :=
  ((W15_of m ρ c main_v15_0 (by decide)).trans ((W14_of m ρ c main_v15_0 (by decide)).trans ((W13_of m ρ c main_v15_0 (by decide)).trans ((W12_of m ρ c main_v15_0 (by decide)).trans ((W11_of m ρ c main_v15_0 (by decide)).trans ((W10_of m ρ c main_v15_0 (by decide)).trans ((W9_of m ρ c main_v15_0 (by decide)).trans ((W8_of m ρ c main_v15_0 (by decide)).trans ((W7_of m ρ c main_v15_0 (by decide)).trans (W6_of m ρ c main_v15_0 (by decide))))))))))).trans (end5_kp ρ h)

@[inherit_doc end15_qp]
theorem end15_kr : W15 m ρ c (Proc.devRef .tc main_v13) = arr (fun r j => L.down r (640 + j)) :=
  ((W15_of m ρ c main_v13 (by decide)).trans ((W14_of m ρ c main_v13 (by decide)).trans ((W13_of m ρ c main_v13 (by decide)).trans ((W12_of m ρ c main_v13 (by decide)).trans ((W11_of m ρ c main_v13 (by decide)).trans ((W10_of m ρ c main_v13 (by decide)).trans ((W9_of m ρ c main_v13 (by decide)).trans ((W8_of m ρ c main_v13 (by decide)).trans ((W7_of m ρ c main_v13 (by decide)).trans ((W6_of m ρ c main_v13 (by decide)).trans ((W5_of m ρ c main_v13 (by decide)).trans (W4_of m ρ c main_v13 (by decide))))))))))))).trans (end3_kr ρ h)

@[inherit_doc end15_qp]
theorem end15_out : W15 m ρ c (Proc.devRef .tc main_v16) = arr L.s.out :=
  ((W15_of m ρ c main_v16 (by decide)).trans ((W14_of m ρ c main_v16 (by decide)).trans ((W13_of m ρ c main_v16 (by decide)).trans ((W12_of m ρ c main_v16 (by decide)).trans ((W11_of m ρ c main_v16 (by decide)).trans ((W10_of m ρ c main_v16 (by decide)).trans ((W9_of m ρ c main_v16 (by decide)).trans ((W8_of m ρ c main_v16 (by decide)).trans (W7_of m ρ c main_v16 (by decide)))))))))).trans (end6_out ρ h)

@[inherit_doc end15_qp]
theorem end15_do : W15 m ρ c (Proc.devRef .tc main_v17) = arr L.s.do' :=
  ((W15_of m ρ c main_v17 (by decide)).trans ((W14_of m ρ c main_v17 (by decide)).trans ((W13_of m ρ c main_v17 (by decide)).trans ((W12_of m ρ c main_v17 (by decide)).trans ((W11_of m ρ c main_v17 (by decide)).trans ((W10_of m ρ c main_v17 (by decide)).trans ((W9_of m ρ c main_v17 (by decide)).trans (W8_of m ρ c main_v17 (by decide))))))))).trans (end7_do ρ h)

@[inherit_doc end15_qp]
theorem end15_dwo : W15 m ρ c (Proc.devRef .tc main_v18) = arr L.s.dwo :=
  ((W15_of m ρ c main_v18 (by decide)).trans ((W14_of m ρ c main_v18 (by decide)).trans ((W13_of m ρ c main_v18 (by decide)).trans ((W12_of m ρ c main_v18 (by decide)).trans ((W11_of m ρ c main_v18 (by decide)).trans ((W10_of m ρ c main_v18 (by decide)).trans (W9_of m ρ c main_v18 (by decide)))))))).trans (end8_dwo ρ h)

@[inherit_doc end15_qp]
theorem end15_qdw : W15 m ρ c (Proc.devRef .tc main_v19) = arr L.q.dw :=
  ((W15_of m ρ c main_v19 (by decide)).trans ((W14_of m ρ c main_v19 (by decide)).trans ((W13_of m ρ c main_v19 (by decide)).trans ((W12_of m ρ c main_v19 (by decide)).trans ((W11_of m ρ c main_v19 (by decide)).trans (W10_of m ρ c main_v19 (by decide))))))).trans (end9_qdw ρ h)

@[inherit_doc end15_qp]
theorem end15_kdw : W15 m ρ c (Proc.devRef .tc main_v20) = arr L.k.dw :=
  ((W15_of m ρ c main_v20 (by decide)).trans ((W14_of m ρ c main_v20 (by decide)).trans ((W13_of m ρ c main_v20 (by decide)).trans ((W12_of m ρ c main_v20 (by decide)).trans (W11_of m ρ c main_v20 (by decide)))))).trans (end10_kdw ρ h)

@[inherit_doc end15_qp]
theorem end15_qdn : W15 m ρ c (Proc.devRef .tc main_v21_1) = arr (fun _ d => L.q.dn d) :=
  ((W15_of m ρ c main_v21_1 (by decide)).trans ((W14_of m ρ c main_v21_1 (by decide)).trans ((W13_of m ρ c main_v21_1 (by decide)).trans (W12_of m ρ c main_v21_1 (by decide))))).trans (end11_qdn ρ h)

@[inherit_doc end15_qp]
theorem end15_kdn : W15 m ρ c (Proc.devRef .tc main_v22_1) = arr (fun _ d => L.k.dn d) :=
  ((W15_of m ρ c main_v22_1 (by decide)).trans ((W14_of m ρ c main_v22_1 (by decide)).trans (W13_of m ρ c main_v22_1 (by decide)))).trans (end12_kdn ρ h)

@[inherit_doc end15_qp]
theorem end15_dw : W15 m ρ c (Proc.devRef .tc main_v25) = arr L.s.dw :=
  (W15_of m ρ c main_v25 (by decide)).trans (end14_dw ρ h)

end Cert.Kernel5Ideal.Hand

end
-- ==== Proof.Mla.Ref.lean ====
module

public import proofs.«01_k».proof.Proof.Mla.Math
public import proofs.«01_k».proof.Proof.Gen.Reference5Ideal.Read
public import Idealize.ShloMosaic.Lib.Pointwise

@[expose] public section

set_option maxRecDepth 16384

/-!
# What the reference of mixer C's projections computes

Each of its stages, as the value of `Cert.Sides.Mla` that it is.
-/

noncomputable section

namespace Cert.Reference5Ideal.Hand

open Cert.Reference5Ideal Cert.Reference5Ideal.Gen Cert.Reference5Ideal.Read Cert.Sides Finset
open Idealize.ShloMosaic Idealize.ShloMosaic.TcCoe

/-- The arguments hold the mixer's numbers. -/
structure Holds (L : Mla) (x0 : Vec Ideal S8448x1024 .f32) (x1 : Vec Ideal S1024 .f32) (x2 : Vec Ideal S1024x672 .f32) (x3 : Vec Ideal S384 .f32) (x4 : Vec Ideal S256 .f32) (x5 : Vec Ideal S384x2048 .f32) (x6 : Vec Ideal S256x2048 .f32) (x7 : Vec Ideal S8448x1024 .f32) (x8 : Vec Ideal S1024x1024 .f32) (x9 : Vec Ideal S8448x2048 .f32) (x10 : Vec Ideal S8448x2048 .f32) (x11 : Vec Ideal S8448x32 .f32) (x12 : Vec Ideal S8448x1024 .f32) : Prop where
  x : Is (R := 8448) (C := 1024) x0 L.x
  n : ∀ d : Fin 1024, x1 (ix1 d) = L.n d.val
  w : Is (R := 1024) (C := 672) x2 L.w
  qn : ∀ d : Fin 384, x3 (ix1 d) = L.qn d.val
  kn : ∀ d : Fin 256, x4 (ix1 d) = L.kn d.val
  wq : Is (R := 384) (C := 2048) x5 L.wq
  wk : Is (R := 256) (C := 2048) x6 L.wk
  o : Is (R := 8448) (C := 1024) x7 L.o
  wo : Is (R := 1024) (C := 1024) x8 L.wo
  dq : Is (R := 8448) (C := 2048) x9 L.dq
  dk : Is (R := 8448) (C := 2048) x10 L.dk
  dr : Is (R := 8448) (C := 32) x11 L.dr
  ct : Is (R := 8448) (C := 1024) x12 L.ct

variable {L : Mla} {x0 : Vec Ideal S8448x1024 .f32} {x1 : Vec Ideal S1024 .f32} {x2 : Vec Ideal S1024x672 .f32} {x3 : Vec Ideal S384 .f32} {x4 : Vec Ideal S256 .f32} {x5 : Vec Ideal S384x2048 .f32} {x6 : Vec Ideal S256x2048 .f32} {x7 : Vec Ideal S8448x1024 .f32} {x8 : Vec Ideal S1024x1024 .f32} {x9 : Vec Ideal S8448x2048 .f32} {x10 : Vec Ideal S8448x2048 .f32} {x11 : Vec Ideal S8448x32 .f32} {x12 : Vec Ideal S8448x1024 .f32}
    (h : Holds L x0 x1 x2 x3 x4 x5 x6 x7 x8 x9 x10 x11 x12)
include h

/-- The rows: the mean square, with the small number, -/
theorem r_ms (r : Fin 8448) (l : Fin 1) : (val_main_v6 (F := Ideal) x0) (ix2 r l) = L.s.ms r.val := by
  pointwise [val_main_v6, val_main_v5, val_main_v4, val_main_v3, val_main_v2, val_main_v1, val_main_v0, val_main_cst, val_main_cst_0, val_main_cst_1]
  simp only [h.x _ _, Dense.ofBits_eps, Dense.ofBits_kilo]
  rfl

/-- what a row is multiplied by, -/
theorem r_rs (r : Fin 8448) (l : Fin 1) : (val_main_v7 (F := Ideal) x0) (ix2 r l) = L.s.rs r.val := by
  pointwise [val_main_v7]
  rw [r_ms h]
  rfl

/-- the factor's own derivative, -/
theorem r_drs (r : Fin 8448) (l : Fin 1) : (val_main_v10 (F := Ideal) x0) (ix2 r l) = ((-(1 / 2) : ℝ) : EReal) * Ideal.div (L.s.rs r.val) (L.s.ms r.val) := by
  pointwise [val_main_v10, val_main_v9, val_main_v8, val_main_cst_2]
  rw [r_ms h, r_rs h, Dense.ofBits_half]

/-- the normalised row, -/
theorem r_y : Is (R := 8448) (C := 1024) (val_main_v12 (F := Ideal) x0) L.s.y := fun r d => by
  pointwise [val_main_v12, val_main_v11]
  rw [r_rs h, h.x]
  rfl

/-- with the gain, -/
theorem r_b : Is (R := 8448) (C := 1024) (val_main_v15 (F := Ideal) x0 x1) L.s.b := fun r d => by
  pointwise [val_main_v15, val_main_v14, val_main_v13]
  rw [r_y h, h.n]
  rfl

/-- and the product. -/
theorem r_p : Is (R := 8448) (C := 672) (val_main_v16 (F := Ideal) x0 x1 x2) L.s.p := fun r j => by
  pointwise [val_main_v16]
  exact sum_congr rfl fun k _ => by rw [r_b h, h.w]; rfl

/-- The queries' columns of the product down, -/
theorem q_x : Is (R := 8448) (C := 384) (val_main_v17 (F := Ideal) x0 x1 x2) L.q.x := fun r d => by
  pointwise [val_main_v17]
  exact r_p h r ⟨d.val, by omega⟩

/-- the keys' and values' columns, -/
theorem k_x : Is (R := 8448) (C := 256) (val_main_v34 (F := Ideal) x0 x1 x2) L.k.x := fun r d => by
  pointwise [val_main_v34]
  exact r_p h r ⟨384 + d.val, by omega⟩

/-- and the shared part of the keys. -/
theorem r_kr : Is (R := 8448) (C := 32) (val_main_v53 (F := Ideal) x0 x1 x2) fun r j => L.down r (640 + j) := fun r d => by
  pointwise [val_main_v53]
  exact r_p h r ⟨640 + d.val, by omega⟩

/-- The queries: the mean square, with the small number, -/
theorem q_ms (r : Fin 8448) (l : Fin 1) : (val_main_v24 (F := Ideal) x0 x1 x2) (ix2 r l) = L.q.ms r.val := by
  pointwise [val_main_v24, val_main_v23, val_main_v22, val_main_v21, val_main_v20, val_main_v19, val_main_v18, val_main_cst_3, val_main_cst_4, val_main_cst_5]
  simp only [q_x h _ _, Dense.ofBits_eps, ofBits_384]
  rfl

/-- what a row is multiplied by, -/
theorem q_rs (r : Fin 8448) (l : Fin 1) : (val_main_v25 (F := Ideal) x0 x1 x2) (ix2 r l) = L.q.rs r.val := by
  pointwise [val_main_v25]
  rw [q_ms h]
  rfl

/-- the factor's own derivative, -/
theorem q_drs (r : Fin 8448) (l : Fin 1) : (val_main_v28 (F := Ideal) x0 x1 x2) (ix2 r l) = ((-(1 / 2) : ℝ) : EReal) * Ideal.div (L.q.rs r.val) (L.q.ms r.val) := by
  pointwise [val_main_v28, val_main_v27, val_main_v26, val_main_cst_6]
  rw [q_ms h, q_rs h, Dense.ofBits_half]

/-- the normalised row, -/
theorem q_y : Is (R := 8448) (C := 384) (val_main_v30 (F := Ideal) x0 x1 x2) L.q.y := fun r d => by
  pointwise [val_main_v30, val_main_v29]
  rw [q_rs h, q_x h]
  rfl

/-- with the gain, -/
theorem q_b : Is (R := 8448) (C := 384) (val_main_v33 (F := Ideal) x0 x1 x2 x3) L.q.b := fun r d => by
  pointwise [val_main_v33, val_main_v32, val_main_v31]
  rw [q_y h, h.qn]
  rfl

/-- and the product. -/
theorem q_p : Is (R := 8448) (C := 2048) (val_main_v51 (F := Ideal) x0 x1 x2 x3 x5) L.q.p := fun r j => by
  pointwise [val_main_v51]
  exact sum_congr rfl fun k _ => by rw [q_b h, h.wq]; rfl

/-- The keys and values: the mean square, with the small number, -/
theorem k_ms (r : Fin 8448) (l : Fin 1) : (val_main_v41 (F := Ideal) x0 x1 x2) (ix2 r l) = L.k.ms r.val := by
  pointwise [val_main_v41, val_main_v40, val_main_v39, val_main_v38, val_main_v37, val_main_v36, val_main_v35, val_main_cst_7, val_main_cst_8, val_main_cst_9]
  simp only [k_x h _ _, Dense.ofBits_eps, ofBits_256]
  rfl

/-- what a row is multiplied by, -/
theorem k_rs (r : Fin 8448) (l : Fin 1) : (val_main_v42 (F := Ideal) x0 x1 x2) (ix2 r l) = L.k.rs r.val := by
  pointwise [val_main_v42]
  rw [k_ms h]
  rfl

/-- the factor's own derivative, -/
theorem k_drs (r : Fin 8448) (l : Fin 1) : (val_main_v45 (F := Ideal) x0 x1 x2) (ix2 r l) = ((-(1 / 2) : ℝ) : EReal) * Ideal.div (L.k.rs r.val) (L.k.ms r.val) := by
  pointwise [val_main_v45, val_main_v44, val_main_v43, val_main_cst_10]
  rw [k_ms h, k_rs h, Dense.ofBits_half]

/-- the normalised row, -/
theorem k_y : Is (R := 8448) (C := 256) (val_main_v47 (F := Ideal) x0 x1 x2) L.k.y := fun r d => by
  pointwise [val_main_v47, val_main_v46]
  rw [k_rs h, k_x h]
  rfl

/-- with the gain, -/
theorem k_b : Is (R := 8448) (C := 256) (val_main_v50 (F := Ideal) x0 x1 x2 x4) L.k.b := fun r d => by
  pointwise [val_main_v50, val_main_v49, val_main_v48]
  rw [k_y h, h.kn]
  rfl

/-- and the product. -/
theorem k_p : Is (R := 8448) (C := 2048) (val_main_v52 (F := Ideal) x0 x1 x2 x4 x6) L.k.p := fun r j => by
  pointwise [val_main_v52]
  exact sum_congr rfl fun k _ => by rw [k_b h, h.wk]; rfl

/-- The keys' and values' product as it is returned. -/
theorem k_p' : Is (R := 8448) (C := 2048) (val_main_v135 (F := Ideal) x0 x1 x2 x4 x6) L.k.p := fun r j => by
  pointwise [val_main_v135]
  exact k_p h r j

/-- The rows with the attention's result. -/
theorem r_out : Is (R := 8448) (C := 1024) (val_main_v55 (F := Ideal) x0 x7 x8) L.s.out := fun r d => by
  pointwise [val_main_v55, val_main_v54]
  rw [h.x, add_comm]
  exact congrArg (· + _) (sum_congr rfl fun k _ => by rw [h.o, h.wo]; rfl)

/-- The incoming gradient, -/
theorem r_ct : Is (R := 8448) (C := 1024) (val_main_v56 (F := Ideal) x12) L.ct := fun r d => by
  pointwise [val_main_v56]
  exact h.ct r d

/-- the gradient of the weight back to the rows, -/
theorem r_dwo : Is (R := 1024) (C := 1024) (val_main_v58 (F := Ideal) x7 x12) L.s.dwo := fun k d => by
  pointwise [val_main_v58, val_main_v57]
  exact sum_congr rfl fun r _ => by rw [r_ct h, h.o, mul_comm]; rfl

/-- of the attention's result, -/
theorem r_do : Is (R := 8448) (C := 1024) (val_main_v59 (F := Ideal) x8 x12) L.s.do' := fun r k => by
  pointwise [val_main_v59]
  exact sum_congr rfl fun d _ => by rw [r_ct h, h.wo]; rfl

/-- and the same as it is returned. -/
theorem r_do' : Is (R := 8448) (C := 1024) (val_main_v136 (F := Ideal) x8 x12) L.s.do' := fun r k => by
  pointwise [val_main_v136]
  exact r_do h r k

/-- The queries: the gradient of the weight, -/
theorem q_dw : Is (R := 384) (C := 2048) (val_main_v65 (F := Ideal) x0 x1 x2 x3 x9) L.q.dw := fun k j => by
  pointwise [val_main_v65, val_main_v64]
  exact sum_congr rfl fun r _ => by rw [q_b h, h.dq, mul_comm]; rfl

/-- of the normalised row with the gain, -/
theorem q_da : Is (R := 8448) (C := 384) (val_main_v66 (F := Ideal) x5 x9) L.q.da := fun r d => by
  pointwise [val_main_v66]
  exact sum_congr rfl fun j _ => by rw [h.dq, h.wq]; rfl

/-- of the gain, -/
theorem q_dn : Is (R := 1) (C := 384) (val_main_v137 (F := Ideal) x0 x1 x2 x5 x9) fun _ d => L.q.dn d := fun l d => by
  pointwise [val_main_v137, val_main_v94, val_main_v91, val_main_v90, val_main_v89, val_main_cst_18, val_main_cst_19]
  rw [Fin.sum_univ_one]
  exact sum_congr rfl fun r _ => by rw [q_y h, q_da h, mul_comm]

/-- of the normalised row, -/
theorem q_dy : Is (R := 8448) (C := 384) (val_main_v93 (F := Ideal) x3 x5 x9) L.q.dy := fun r d => by
  pointwise [val_main_v93, val_main_v92, val_main_v31]
  rw [q_da h, h.qn]
  rfl

/-- of the square's own share, -/
theorem q_sq (r : Fin 8448) (d : Fin 384) : (val_main_v104 (F := Ideal) x0 x1 x2 x3 x5 x9) (ix2 r d) = L.q.sq r.val := by
  pointwise [val_main_v104, val_main_v103, val_main_v102, val_main_v101, val_main_v100, val_main_v97, val_main_v96, val_main_v95, val_main_cst_20, val_main_cst_21, val_main_cst_22]
  rw [Fin.sum_univ_one, sum_congr rfl fun k _ => show _ = L.q.x r.val k.val * L.q.dy r.val k.val by rw [q_dy h, q_x h], q_drs h, ofBits_384]
  rfl

/-- and of the row. -/
theorem q_dx : Is (R := 8448) (C := 384) (val_main_v108 (F := Ideal) x0 x1 x2 x3 x5 x9) L.q.dx := fun r d => by
  pointwise [val_main_v108, val_main_v107, val_main_v106, val_main_v105, val_main_v99, val_main_v98]
  rw [q_sq h, q_dy h, q_rs h, q_x h, L.q.dx_eq r.val d.val d.isLt]

/-- The keys and values: the gradient of the weight, -/
theorem k_dw : Is (R := 256) (C := 2048) (val_main_v62 (F := Ideal) x0 x1 x2 x4 x10) L.k.dw := fun k j => by
  pointwise [val_main_v62, val_main_v61]
  exact sum_congr rfl fun r _ => by rw [k_b h, h.dk, mul_comm]; rfl

/-- of the normalised row with the gain, -/
theorem k_da : Is (R := 8448) (C := 256) (val_main_v63 (F := Ideal) x6 x10) L.k.da := fun r d => by
  pointwise [val_main_v63]
  exact sum_congr rfl fun j _ => by rw [h.dk, h.wk]; rfl

/-- of the gain, -/
theorem k_dn : Is (R := 1) (C := 256) (val_main_v138 (F := Ideal) x0 x1 x2 x6 x10) fun _ d => L.k.dn d := fun l d => by
  pointwise [val_main_v138, val_main_v72, val_main_v69, val_main_v68, val_main_v67, val_main_cst_12, val_main_cst_13]
  rw [Fin.sum_univ_one]
  exact sum_congr rfl fun r _ => by rw [k_y h, k_da h, mul_comm]

/-- of the normalised row, -/
theorem k_dy : Is (R := 8448) (C := 256) (val_main_v71 (F := Ideal) x4 x6 x10) L.k.dy := fun r d => by
  pointwise [val_main_v71, val_main_v70, val_main_v48]
  rw [k_da h, h.kn]
  rfl

/-- of the square's own share, -/
theorem k_sq (r : Fin 8448) (d : Fin 256) : (val_main_v82 (F := Ideal) x0 x1 x2 x4 x6 x10) (ix2 r d) = L.k.sq r.val := by
  pointwise [val_main_v82, val_main_v81, val_main_v80, val_main_v79, val_main_v78, val_main_v75, val_main_v74, val_main_v73, val_main_cst_14, val_main_cst_15, val_main_cst_16]
  rw [Fin.sum_univ_one, sum_congr rfl fun k _ => show _ = L.k.x r.val k.val * L.k.dy r.val k.val by rw [k_dy h, k_x h], k_drs h, ofBits_256]
  rfl

/-- and of the row. -/
theorem k_dx : Is (R := 8448) (C := 256) (val_main_v86 (F := Ideal) x0 x1 x2 x4 x6 x10) L.k.dx := fun r d => by
  pointwise [val_main_v86, val_main_v85, val_main_v84, val_main_v83, val_main_v77, val_main_v76]
  rw [k_sq h, k_dy h, k_rs h, k_x h, L.k.dx_eq r.val d.val d.isLt]

/-- The product down's gradient: its three parts, each with zeros in the others' columns, are added. -/
theorem r_dd : Is (R := 8448) (C := 672) (val_main_v110 (F := Ideal) x0 x1 x2 x3 x4 x5 x6 x9 x10 x11) L.dd := fun r j => by
  have eq := fun d : Fin 384 => q_dx h r d
  have ek := fun d : Fin 256 => k_dx h r d
  have er := fun d : Fin 32 => h.dr r d
  have hj := j.isLt
  pointwise [val_main_v110, val_main_v109, val_main_v88, val_main_v87, val_main_v60, val_main_cst_11, val_main_cst_17, val_main_cst_23]
  rw [Mla.dd]
  by_cases c1 : j.val < 384
  · have a1 : ¬(640 ≤ j.val ∧ j.val - 640 < 32) := by omega
    have a2 : ¬(384 ≤ j.val ∧ j.val - 384 < 256) := by omega
    rw [dif_neg a1, dif_neg a2, dif_pos c1, if_pos c1, zero_add, zero_add]
    exact eq ⟨j.val, c1⟩
  · by_cases c2 : j.val < 640
    · have a1 : ¬(640 ≤ j.val ∧ j.val - 640 < 32) := by omega
      have a2 : 384 ≤ j.val ∧ j.val - 384 < 256 := by omega
      rw [dif_neg a1, dif_pos a2, dif_neg c1, if_neg c1, if_pos c2, zero_add, add_zero]
      exact ek ⟨j.val - 384, a2.2⟩
    · have a1 : 640 ≤ j.val ∧ j.val - 640 < 32 := by omega
      have a2 : ¬(384 ≤ j.val ∧ j.val - 384 < 256) := by omega
      rw [dif_pos a1, dif_neg a2, dif_neg c1, if_neg c1, if_neg c2, add_zero, add_zero]
      exact er ⟨j.val - 640, a1.2⟩

/-- The rows: the gradient of the weight, -/
theorem r_dw : Is (R := 1024) (C := 672) (val_main_v112 (F := Ideal) x0 x1 x2 x3 x4 x5 x6 x9 x10 x11) L.s.dw := fun k j => by
  pointwise [val_main_v112, val_main_v111]
  exact sum_congr rfl fun r _ => by rw [r_b h, r_dd h, mul_comm]; rfl

/-- of the normalised row with the gain, -/
theorem r_da : Is (R := 8448) (C := 1024) (val_main_v113 (F := Ideal) x0 x1 x2 x3 x4 x5 x6 x9 x10 x11) L.s.da := fun r d => by
  pointwise [val_main_v113]
  exact sum_congr rfl fun j _ => by rw [r_dd h, h.w]; rfl

/-- of the gain, -/
theorem r_dn : Is (R := 1) (C := 1024) (val_main_v139 (F := Ideal) x0 x1 x2 x3 x4 x5 x6 x9 x10 x11) fun _ d => L.s.dn d := fun l d => by
  pointwise [val_main_v139, val_main_v119, val_main_v116, val_main_v115, val_main_v114, val_main_cst_24, val_main_cst_25]
  rw [Fin.sum_univ_one]
  exact sum_congr rfl fun r _ => by rw [r_y h, r_da h, mul_comm]

/-- of the normalised row, -/
theorem r_dy : Is (R := 8448) (C := 1024) (val_main_v118 (F := Ideal) x0 x1 x2 x3 x4 x5 x6 x9 x10 x11) L.s.dy := fun r d => by
  pointwise [val_main_v118, val_main_v117, val_main_v13]
  rw [r_da h, h.n]
  rfl

/-- of the square's own share, -/
theorem r_sq (r : Fin 8448) (d : Fin 1024) : (val_main_v130 (F := Ideal) x0 x1 x2 x3 x4 x5 x6 x9 x10 x11) (ix2 r d) = L.s.sq r.val := by
  pointwise [val_main_v130, val_main_v129, val_main_v128, val_main_v127, val_main_v126, val_main_v122, val_main_v121, val_main_v120, val_main_cst_26, val_main_cst_27, val_main_cst_28]
  rw [Fin.sum_univ_one, sum_congr rfl fun k _ => show _ = L.s.x r.val k.val * L.s.dy r.val k.val by rw [r_dy h, h.x]; rfl, r_drs h, Dense.ofBits_kilo]
  rfl

/-- and of the row. -/
theorem r_dx : Is (R := 8448) (C := 1024) (val_main_v134 (F := Ideal) x0 x1 x2 x3 x4 x5 x6 x9 x10 x11 x12) L.s.dx := fun r d => by
  pointwise [val_main_v134, val_main_v133, val_main_v132, val_main_v131, val_main_v125, val_main_v124, val_main_v123]
  rw [r_sq h, r_dy h, r_rs h, h.x, h.ct, L.s.dx_eq r.val d.val d.isLt]
  rfl

end Cert.Reference5Ideal.Hand

end
-- ==== Proof.Mla.Algebraic.lean ====
module

public import proofs.«01_k».proof.Proof.Mla.Frames
public import proofs.«01_k».proof.Proof.Mla.Trace
public import proofs.«01_k».proof.Proof.Mla.Ref

@[expose] public section

set_option maxRecDepth 16384

/-!
# The equation of mixer C's projections

The calls' and the reference's runs end with the same arrays: the products up, the shared part of the keys, the rows with
the attention's result, and the gradients of the result, of the four weights, of the rows and of the three gains.
-/

noncomputable section

open Idealize.ShloMosaic Idealize.ShloMosaic.TcCoe Idealize.SL.Sem Cert.Sides

namespace Cert.Kernel5Ideal.Hand

open Cert.Kernel5Ideal Cert.Kernel5Ideal.Gen

variable (m : (ℓ : Loc nD τ sig) → Buf (Elt Ideal) ℓ) (ρ : Dev nD → PrngReg)

/-- The numbers that a device's arguments hold. -/
def sides (c : Dev nD) : Mla :=
  ⟨entries (R := 8448) (C := 1024) (m ((c : Thread nD τ).loc main_arg0)),
    entries1 (C := 1024) (m ((c : Thread nD τ).loc main_arg1)),
    entries (R := 1024) (C := 672) (m ((c : Thread nD τ).loc main_arg2)),
    entries1 (C := 384) (m ((c : Thread nD τ).loc main_arg3)),
    entries1 (C := 256) (m ((c : Thread nD τ).loc main_arg4)),
    entries (R := 384) (C := 2048) (m ((c : Thread nD τ).loc main_arg5)),
    entries (R := 256) (C := 2048) (m ((c : Thread nD τ).loc main_arg6)),
    entries (R := 8448) (C := 1024) (m ((c : Thread nD τ).loc main_arg7)),
    entries (R := 1024) (C := 1024) (m ((c : Thread nD τ).loc main_arg8)),
    entries (R := 8448) (C := 2048) (m ((c : Thread nD τ).loc main_arg9)),
    entries (R := 8448) (C := 2048) (m ((c : Thread nD τ).loc main_arg10)),
    entries (R := 8448) (C := 32) (m ((c : Thread nD τ).loc main_arg11)),
    entries (R := 8448) (C := 1024) (m ((c : Thread nD τ).loc main_arg12))⟩

/-- They do hold them. -/
theorem holds (c : Dev nD) : Holds m c (sides m c) :=
  ⟨is_entries _, is_entries1 _, is_entries _, is_entries1 _, is_entries1 _, is_entries _, is_entries _, is_entries _, is_entries _, is_entries _, is_entries _, is_entries _, is_entries _⟩

variable (L : Dev nD → Mla)

/-- The calls end with the numbers the mixer's arrays should hold. -/
theorem run_sides (H : ∀ c : Dev nD, Holds m c (L c)) :
    θ_run defs (onTc (τ := τ) (main (F := Ideal))) ⟨m, fun _ => 0, ρ⟩ fun r => ∀ c : Dev nD,
      r.2.mem ((c.tc : Thread nD τ).loc main_v14_0) = arr (L c).q.p
      ∧ r.2.mem ((c.tc : Thread nD τ).loc main_v15_0) = arr (L c).k.p
      ∧ r.2.mem ((c.tc : Thread nD τ).loc main_v13) = arr (fun r j => (L c).down r (640 + j))
      ∧ r.2.mem ((c.tc : Thread nD τ).loc main_v16) = arr (L c).s.out
      ∧ r.2.mem ((c.tc : Thread nD τ).loc main_v17) = arr (L c).s.do'
      ∧ r.2.mem ((c.tc : Thread nD τ).loc main_v18) = arr (L c).s.dwo
      ∧ r.2.mem ((c.tc : Thread nD τ).loc main_v19) = arr (L c).q.dw
      ∧ r.2.mem ((c.tc : Thread nD τ).loc main_v20) = arr (L c).k.dw
      ∧ r.2.mem ((c.tc : Thread nD τ).loc main_v21_1) = arr (fun _ d => (L c).q.dn d)
      ∧ r.2.mem ((c.tc : Thread nD τ).loc main_v22_1) = arr (fun _ d => (L c).k.dn d)
      ∧ r.2.mem ((c.tc : Thread nD τ).loc main_v25) = arr (L c).s.dw
      ∧ r.2.mem ((c.tc : Thread nD τ).loc main_v26_0) = arr (L c).s.dx
      ∧ r.2.mem ((c.tc : Thread nD τ).loc main_v26_1) = arr (fun _ d => (L c).s.dn d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h.1 c _ (mem_uc main_v14_0 (by decide))).trans (end15_qp ρ (H c)),
        (h.1 c _ (mem_uc main_v15_0 (by decide))).trans (end15_kp ρ (H c)),
        (h.1 c _ (mem_uc main_v13 (by decide))).trans (end15_kr ρ (H c)),
        (h.1 c _ (mem_uc main_v16 (by decide))).trans (end15_out ρ (H c)),
        (h.1 c _ (mem_uc main_v17 (by decide))).trans (end15_do ρ (H c)),
        (h.1 c _ (mem_uc main_v18 (by decide))).trans (end15_dwo ρ (H c)),
        (h.1 c _ (mem_uc main_v19 (by decide))).trans (end15_qdw ρ (H c)),
        (h.1 c _ (mem_uc main_v20 (by decide))).trans (end15_kdw ρ (H c)),
        (h.1 c _ (mem_uc main_v21_1 (by decide))).trans (end15_qdn ρ (H c)),
        (h.1 c _ (mem_uc main_v22_1 (by decide))).trans (end15_kdn ρ (H c)),
        (h.1 c _ (mem_uc main_v25 (by decide))).trans (end15_dw ρ (H c)),
        (h.1 c _ (mem_uc main_v26_0 (by decide))).trans (end15_dx ρ (H c)),
        (h.1 c _ (mem_uc main_v26_1 (by decide))).trans (end15_dn ρ (H c)),
        args_end m ρ h.1 c⟩)
    (run_end m ρ)

end Cert.Kernel5Ideal.Hand

namespace Cert.Reference5Ideal.Hand

open Cert.Reference5Ideal Cert.Reference5Ideal.Gen

variable (m : (ℓ : Loc nD τ sig) → Buf (Elt Ideal) ℓ) (ρ : Dev nD → PrngReg) (L : Dev nD → Mla)

/-- So does the reference. -/
theorem run_reference (H : ∀ c : Dev nD, Holds (L c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) :
    θ_run defs (onTc (τ := τ) (main (F := Ideal))) ⟨m, fun _ => 0, ρ⟩ fun r => ∀ c : Dev nD,
      r.2.mem ((c.tc : Thread nD τ).loc main_v51) = arr (L c).q.p
      ∧ r.2.mem ((c.tc : Thread nD τ).loc main_v135) = arr (L c).k.p
      ∧ r.2.mem ((c.tc : Thread nD τ).loc main_v53) = arr (fun r j => (L c).down r (640 + j))
      ∧ r.2.mem ((c.tc : Thread nD τ).loc main_v55) = arr (L c).s.out
      ∧ r.2.mem ((c.tc : Thread nD τ).loc main_v136) = arr (L c).s.do'
      ∧ r.2.mem ((c.tc : Thread nD τ).loc main_v58) = arr (L c).s.dwo
      ∧ r.2.mem ((c.tc : Thread nD τ).loc main_v65) = arr (L c).q.dw
      ∧ r.2.mem ((c.tc : Thread nD τ).loc main_v62) = arr (L c).k.dw
      ∧ r.2.mem ((c.tc : Thread nD τ).loc main_v137) = arr (fun _ d => (L c).q.dn d)
      ∧ r.2.mem ((c.tc : Thread nD τ).loc main_v138) = arr (fun _ d => (L c).k.dn d)
      ∧ r.2.mem ((c.tc : Thread nD τ).loc main_v112) = arr (L c).s.dw
      ∧ r.2.mem ((c.tc : Thread nD τ).loc main_v134) = arr (L c).s.dx
      ∧ r.2.mem ((c.tc : Thread nD τ).loc main_v139) = arr (fun _ d => (L c).s.dn d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨e1, e2, e3, e4, e5, e6, e7, e8, e9, e10, e11, e12, e13, e14⟩ := h c
      exact ⟨(e1.trans (Read.val_main_v51_eq (StableHlo.launchContents m c))).trans (eq_of_is (q_p (H c))),
        (e2.trans (Read.val_main_v135_eq (StableHlo.launchContents m c))).trans (eq_of_is (k_p' (H c))),
        (e3.trans (Read.val_main_v53_eq (StableHlo.launchContents m c))).trans (eq_of_is (r_kr (H c))),
        (e4.trans (Read.val_main_v55_eq (StableHlo.launchContents m c))).trans (eq_of_is (r_out (H c))),
        (e5.trans (Read.val_main_v136_eq (StableHlo.launchContents m c))).trans (eq_of_is (r_do' (H c))),
        (e6.trans (Read.val_main_v58_eq (StableHlo.launchContents m c))).trans (eq_of_is (r_dwo (H c))),
        (e7.trans (Read.val_main_v65_eq (StableHlo.launchContents m c))).trans (eq_of_is (q_dw (H c))),
        (e8.trans (Read.val_main_v62_eq (StableHlo.launchContents m c))).trans (eq_of_is (k_dw (H c))),
        (e9.trans (Read.val_main_v137_eq (StableHlo.launchContents m c))).trans (eq_of_is (q_dn (H c))),
        (e10.trans (Read.val_main_v138_eq (StableHlo.launchContents m c))).trans (eq_of_is (k_dn (H c))),
        (e11.trans (Read.val_main_v112_eq (StableHlo.launchContents m c))).trans (eq_of_is (r_dw (H c))),
        (e12.trans (Read.val_main_v134_eq (StableHlo.launchContents m c))).trans (eq_of_is (r_dx (H c))),
        (e13.trans (Read.val_main_v139_eq (StableHlo.launchContents m c))).trans (eq_of_is (r_dn (H c))),
        e14⟩)
    (Cert.Reference5Ideal.Value.run (F := Ideal) m ρ)

end Cert.Reference5Ideal.Hand

namespace Cert.Kernel5Ideal.Hand

/-- The calls and the reference end with the same arrays. -/
theorem equation_sides : Cert.algebraic_Kernel5Ideal_Reference5Ideal := fun m g m' g' _ e => by
  refine ⟨_, _, _, _, _, _, _, _, _, _, _, _, _, run_sides m g (sides m) (holds m), Cert.Reference5Ideal.Hand.run_reference m' g' (sides m) fun c => ?_⟩
  obtain ⟨e0, e1, e2, e3, e4, e5, e6, e7, e8, e9, e10, e11, e12⟩ := e c
  rw [e0, e1, e2, e3, e4, e5, e6, e7, e8, e9, e10, e11, e12]
  have H := holds m c
  exact ⟨H.x, H.n, H.w, H.qn, H.kn, H.wq, H.wk, H.o, H.wo, H.dq, H.dk, H.dr, H.ct⟩

end Cert.Kernel5Ideal.Hand

end
-- ==== Proof.Adam.Run.lean ====
module

public import proofs.«01_k».proof.Proof.Gen.Kernel6Ideal.Frame

@[expose] public section

set_option maxRecDepth 16384

/-!
# The run of seven calls of AdamW

Seven calls, one after the other. In the end every array holds what the last boundary's
contents say of it, and every counter is at zero.
-/

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F] (m : (ℓ : Loc nD τ sig) → Buf (Elt F) ℓ) (ρ : Dev nD → PrngReg)

/-- The assertions of the launch. -/
abbrev Res (F : FTy → Type) [FloatOps F] := MT nD τ sig Unit (Elt F) ℕ (UR sig nD τ) ℕ

/-- Owning nothing on each device is owning nothing. -/
theorem none_each : (BI.emp : sProp (Res F)) ⊢ bigSep Finset.univ (fun _ : Dev nD => (BI.emp : sProp (Res F))) := by
  rw [BI.bigSep_emp_const]

/-- The tokens the calls' buffers start from, as the launch has them. -/
theorem tokens : (ownU (initOf (Pipeline.cells cfgs cellOf_inj) (Pipeline.launchToks cfgs cellOf_inj)) : sProp (Res F))
    ⊢ BI.own (emb₁ (initOf (Pipeline.cells cfgs cellOf_inj) (Pipeline.launchToks cfgs cellOf_inj))) := .rfl

set_option backward.isDefEq.respectTransparency.types false in
/-- Every run ends, with the last boundary's contents in every array and every counter at zero. -/
theorem run_end : θ_run defs (onTc (τ := τ) (main (F := F))) ⟨m, fun _ => 0, ρ⟩ fun r =>
    (∀ c : Dev nD, ∀ b ∈ Pipeline.ucRefs τ sig, r.2.mem (((c : Thread nD τ)).1, b) = W7 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (tokens (F := F))
        iexact Hu
      iapply (none_each (F := F))
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h hz => ⟨h, funext fun g => hz g (.inr (no_unscoped g.2))⟩)

end Cert.Kernel6Ideal.Hand

end
-- ==== Proof.Adam.Frames.lean ====
module

public import proofs.«01_k».proof.Defs
public import proofs.«01_k».proof.Proof.Adam.Run
public import proofs.«01_k».proof.Proof.Gen.Kernel6.Frame
public import proofs.«01_k».proof.Proof.Gen.Reference6Ideal.Run
public import Idealize.ShloMosaic.Lib.Claim
public import Idealize.ShloMosaic.Lib.Quiescent

@[expose] public section

set_option maxRecDepth 16384

/-!
# The frames of AdamW

Over floats and over the extended reals the seven calls run one after the other and leave the arguments alone; so does
the reference.
-/

noncomputable section

namespace Cert.Kernel6Ideal.Hand

open Idealize.SL.Sem
open Idealize.ShloMosaic Idealize.ShloMosaic.TcCoe

/-- The calls over floats end with the arguments unchanged and every counter at zero. -/
theorem frame_adam : Cert.quiescent_Kernel6 := fun m ρ _ => Cert.Kernel6.Gen.frame m ρ

/-- The same over the extended reals. -/
theorem frame_adam_ideal : Cert.quiescent_Kernel6Ideal := fun m ρ _ =>
  (θ_run Cert.Kernel6Ideal.defs _ _).mono (fun _ h => ⟨fun c => by
      and_intros <;> exact (h.1 c _ (Gen.mem_uc _ (by decide))).trans (Gen.W7_args m ρ c _ (by decide)), h.2⟩)
    (run_end (F := Ideal) m ρ)

/-- The reference over the extended reals ends with its arguments unchanged and every counter at zero. -/
theorem frame_adam_reference : Cert.quiescent_Reference6Ideal := fun m ρ _ =>
  (θ_run Cert.Reference6Ideal.defs _ _).mono (fun r h => ⟨fun c => (h c).2.2.2.2.2.2.2.2.2.2.2.2.2.2.2.2.2.2.2.2.2.2.2.2.2.2.2.2, sem_eq_zero_of_no_sems rfl r.2⟩)
    (Cert.Reference6Ideal.Value.run (F := Ideal) m ρ)

end Cert.Kernel6Ideal.Hand

end
-- ==== Proof.Adam.Math.lean ====
module

public import Idealize.ShloMosaic.PureOps.Ideal.Laws
public import Idealize.ShloMosaic.Lib.Pipeline.ValueKit

@[expose] public section

/-!
# One entry's AdamW step over the extended reals

The constants are the float32 literals nearest to 0.9, 0.1, 0.999, 0.001, the two bias corrections, the small number,
the decay and minus the learning rate.
-/

noncomputable section

namespace Cert.Adam

open Idealize.ShloMosaic

/-- The number a float32 literal stands for. -/
abbrev lit (b : BitVec 32) : EReal := Ideal.ofBits .f32 b

/-- The new mean of the gradients, from the old one and the gradient. -/
def newMean (a g : EReal) : EReal := lit 0x3F666666#32 * a + lit 0x3DCCCCCD#32 * g

/-- The new mean of the squares. -/
def newSquare (a g : EReal) : EReal := lit 0x3F7FBE77#32 * a + lit 0x3A83126F#32 * (g * g)

/-- What is added to the weight. -/
def delta (w a b g : EReal) : EReal :=
  lit 0xBA83126F#32 * (Ideal.div (Ideal.div (newMean a g) (lit 0x3F26BD02#32))
    (Ideal.sqrt (Ideal.div (newSquare b g) (lit 0x3C231ACC#32)) + lit 0x322BCC77#32) + lit 0x3C23D70A#32 * w)

/-! ## Whole arrays: a weight `W`, the parts `P` of its gradient, and the old means `A` and `B` -/

variable {n R C : ℕ} (P : (⟨3, ![n, R, C]⟩ : Shape).Idx → EReal) (W A B : (⟨2, ![R, C]⟩ : Shape).Idx → EReal)

/-- The gradient is the sum of its parts. -/
def grad : (⟨2, ![R, C]⟩ : Shape).Idx → EReal := fun y => ∑ k : Fin n, P (ix3 k (y 0) (y 1))

/-- The new means of the gradients, -/
def means : (⟨2, ![R, C]⟩ : Shape).Idx → EReal := fun y => newMean (A y) (grad P y)

/-- the new means of the squares, -/
def squares : (⟨2, ![R, C]⟩ : Shape).Idx → EReal := fun y => newSquare (B y) (grad P y)

/-- and what is added to the weights. -/
def deltas : (⟨2, ![R, C]⟩ : Shape).Idx → EReal := fun y => delta (W y) (A y) (B y) (grad P y)

/-- One weight's results: the gradient `g`, the change `d`, and the new means `m` and `v`. -/
structure Results (g d m v : (⟨2, ![R, C]⟩ : Shape).Idx → EReal) : Prop where
  g : g = grad P
  d : d = deltas P W A B
  m : m = means P A
  v : v = squares P B

variable {P W A B} {g d m v g' d' m' v' : (⟨2, ![R, C]⟩ : Shape).Idx → EReal} {P' : (⟨3, ![n, R, C]⟩ : Shape).Idx → EReal}
  {W' A' B' : (⟨2, ![R, C]⟩ : Shape).Idx → EReal}

/-- They are the same for the same arrays. -/
theorem Results.cast (h : Results P W A B g d m v) (hP : P = P') (hW : W = W') (hA : A = A') (hB : B = B')
    (hg : g' = g) (hd : d' = d) (hm : m' = m) (hv : v' = v) : Results P' W' A' B' g' d' m' v' := by
  subst hP hW hA hB hg hd hm hv
  exact h

/-- A sum of four parts, -/
theorem grad_four (P : (⟨3, ![4, R, C]⟩ : Shape).Idx → EReal) (r : Fin R) (l : Fin C) :
    grad P (ix2 r l) = P (ix3 0 r l) + P (ix3 1 r l) + P (ix3 2 r l) + P (ix3 3 r l) := Fin.sum_univ_four _

/-- and of eight. -/
theorem grad_eight (P : (⟨3, ![8, R, C]⟩ : Shape).Idx → EReal) (r : Fin R) (l : Fin C) :
    grad P (ix2 r l) = P (ix3 0 r l) + P (ix3 1 r l) + P (ix3 2 r l) + P (ix3 3 r l) + P (ix3 4 r l) + P (ix3 5 r l)
      + P (ix3 6 r l) + P (ix3 7 r l) := Fin.sum_univ_eight _

end Cert.Adam

end
-- ==== Proof.Adam.Qkv.lean ====
module

public import proofs.«01_k».proof.Proof.Adam.Math
public import proofs.«01_k».proof.Proof.Gen.Kernel6Ideal.Frame
public import Idealize.ShloMosaic.Lib.Pipeline.ValueKit
public import Idealize.ShloMosaic.Lib.Pointwise

@[expose] public section

set_option maxRecDepth 16384

/-!
# AdamW's calls: the q, k, v weight of mixer B, the q, k, v, f weight of mixer D

A point of a call takes some rows of a weight, of its means and of the parts of its gradient, and writes those rows of the
four results.
-/

noncomputable section

namespace Cert.Kernel6Ideal.Hand

open Cert.Kernel6Ideal Cert.Kernel6Ideal.Gen Cert.Adam Finset
open Idealize.ShloMosaic Idealize.ShloMosaic.TcCoe

variable {V : (c : Dev nD) → (b : Ref sig .tc) → Buf (Elt Ideal) ((c : Thread nD τ).loc b)} {c : Dev nD}

/-! ## Call 0: the q, k, v weight of mixer B -/

section Call0

/-- Where the points' blocks lie. -/
theorem places0 : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

variable (r : Fin 512) (l : Fin 384) (t : Fin cfg0.N)

/-- A point's row in the arrays. -/
abbrev row0 : Fin 1024 := ⟨512 * t.val + r.val, by have : t.val < 2 := t.isLt; omega⟩

/-- What a point's blocks hold. -/
theorem blocks0 : iblk0 V c 0 t (ix2 r l) = V c main_arg0 (ix2 (row0 r t) l) ∧ iblk0 V c 2 t (ix2 r l) = V c main_arg2 (ix2 (row0 r t) l)
    ∧ iblk0 V c 3 t (ix2 r l) = V c main_arg3 (ix2 (row0 r t) l) ∧ ∀ k : Fin 4, iblk0 V c 1 t (ix3 k r l) = V c main_arg1 (ix3 k (row0 r t) l) := by
  and_intros <;> intros <;> blk_ext [iblk0, places0 t]

set_option maxHeartbeats 3200000 in
/-- The arrays in the end. -/
theorem arr0 : Results (n := 4) (R := 1024) (C := 384) (V c main_arg1) (V c main_arg0) (V c main_arg2) (V c main_arg3)
    ((dat0 V c).arrAt 4 cfg0.N) ((dat0 V c).arrAt 5 cfg0.N) ((dat0 V c).arrAt 6 cfg0.N) ((dat0 V c).arrAt 7 cfg0.N) := by
  constructor <;> refine (dat0 V c).arrAt_eq_of_covers _ _ (by decide +kernel) fun t _ y => ?_ <;>
  (obtain ⟨r, l, rfl⟩ : ∃ (r : Fin 512) (l : Fin 384), y = ix2 r l := ⟨y 0, y 1, eq_ix2 y⟩
   blk_simp
   obtain ⟨hw, ha, hb, hp⟩ := blocks0 (V := V) (c := c) r l t)
  · rw [after0_4, show (win0_4.blk t).view.emb (ix2 r l) = ix2 (row0 r t) l by blk_ext [places0 t], grad_four, ← hp, ← hp, ← hp, ← hp]
    frame_out
    pointwise [k0_pay2, r0_0, r0_1, r0_2, r0_3]
  · rw [after0_5, show (win0_5.blk t).view.emb (ix2 r l) = ix2 (row0 r t) l by blk_ext [places0 t], deltas, grad_four, ← hw, ← ha, ← hb, ← hp, ← hp, ← hp, ← hp]
    frame_out
    pointwise [k0_pay1, k0_pay5, k0_pay6, k0_pay2, k0_pay3, k0_pay4, r0_0, r0_1, r0_2, r0_3]
    rfl
  · rw [after0_6, show (win0_6.blk t).view.emb (ix2 r l) = ix2 (row0 r t) l by blk_ext [places0 t], means, grad_four, ← ha, ← hp, ← hp, ← hp, ← hp]
    frame_out
    pointwise [k0_pay3, k0_pay2, r0_0, r0_1, r0_2, r0_3]
    rfl
  · rw [after0_7, show (win0_7.blk t).view.emb (ix2 r l) = ix2 (row0 r t) l by blk_ext [places0 t], squares, grad_four, ← hb, ← hp, ← hp, ← hp, ← hp]
    frame_out
    pointwise [k0_pay4, k0_pay2, r0_0, r0_1, r0_2, r0_3]
    rfl

end Call0

/-! ## Call 5: the q, k, v, f weight of mixer D -/

section Call5

/-- Where the points' blocks lie. -/
theorem places5 : ∀ t : Fin cfg5.N, win5_0.index t = ![t.val, 0] ∧ win5_1.index t = ![0, t.val, 0] ∧ win5_2.index t = ![t.val, 0] ∧ win5_3.index t = ![t.val, 0] ∧ win5_4.index t = ![t.val, 0] ∧ win5_5.index t = ![t.val, 0] ∧ win5_6.index t = ![t.val, 0] ∧ win5_7.index t = ![t.val, 0] := by
  decide +kernel

variable (r : Fin 256) (l : Fin 386) (t : Fin cfg5.N)

/-- A point's row in the arrays. -/
abbrev row5 : Fin 1024 := ⟨256 * t.val + r.val, by have : t.val < 4 := t.isLt; omega⟩

/-- What a point's blocks hold. -/
theorem blocks5 : iblk5 V c 0 t (ix2 r l) = V c main_arg20 (ix2 (row5 r t) l) ∧ iblk5 V c 2 t (ix2 r l) = V c main_arg22 (ix2 (row5 r t) l)
    ∧ iblk5 V c 3 t (ix2 r l) = V c main_arg23 (ix2 (row5 r t) l) ∧ ∀ k : Fin 4, iblk5 V c 1 t (ix3 k r l) = V c main_arg21 (ix3 k (row5 r t) l) := by
  and_intros <;> intros <;> blk_ext [iblk5, places5 t]

set_option maxHeartbeats 3200000 in
/-- The arrays in the end. -/
theorem arr5 : Results (n := 4) (R := 1024) (C := 386) (V c main_arg21) (V c main_arg20) (V c main_arg22) (V c main_arg23)
    ((dat5 V c).arrAt 4 cfg5.N) ((dat5 V c).arrAt 5 cfg5.N) ((dat5 V c).arrAt 6 cfg5.N) ((dat5 V c).arrAt 7 cfg5.N) := by
  constructor <;> refine (dat5 V c).arrAt_eq_of_covers _ _ (by decide +kernel) fun t _ y => ?_ <;>
  (obtain ⟨r, l, rfl⟩ : ∃ (r : Fin 256) (l : Fin 386), y = ix2 r l := ⟨y 0, y 1, eq_ix2 y⟩
   blk_simp
   obtain ⟨hw, ha, hb, hp⟩ := blocks5 (V := V) (c := c) r l t)
  · rw [after5_4, show (win5_4.blk t).view.emb (ix2 r l) = ix2 (row5 r t) l by blk_ext [places5 t], grad_four, ← hp, ← hp, ← hp, ← hp]
    frame_out
    pointwise [k5_pay2, r5_0, r5_1, r5_2, r5_3]
  · rw [after5_5, show (win5_5.blk t).view.emb (ix2 r l) = ix2 (row5 r t) l by blk_ext [places5 t], deltas, grad_four, ← hw, ← ha, ← hb, ← hp, ← hp, ← hp, ← hp]
    frame_out
    pointwise [k5_pay1, k5_pay5, k5_pay6, k5_pay2, k5_pay3, k5_pay4, r5_0, r5_1, r5_2, r5_3]
    rfl
  · rw [after5_6, show (win5_6.blk t).view.emb (ix2 r l) = ix2 (row5 r t) l by blk_ext [places5 t], means, grad_four, ← ha, ← hp, ← hp, ← hp, ← hp]
    frame_out
    pointwise [k5_pay3, k5_pay2, r5_0, r5_1, r5_2, r5_3]
    rfl
  · rw [after5_7, show (win5_7.blk t).view.emb (ix2 r l) = ix2 (row5 r t) l by blk_ext [places5 t], squares, grad_four, ← hb, ← hp, ← hp, ← hp, ← hp]
    frame_out
    pointwise [k5_pay4, k5_pay2, r5_0, r5_1, r5_2, r5_3]
    rfl

end Call5

end Cert.Kernel6Ideal.Hand

end
-- ==== Proof.Adam.Out.lean ====
module

public import proofs.«01_k».proof.Proof.Adam.Math
public import proofs.«01_k».proof.Proof.Gen.Kernel6Ideal.Frame
public import Idealize.ShloMosaic.Lib.Pipeline.ValueKit
public import Idealize.ShloMosaic.Lib.Pointwise

@[expose] public section

set_option maxRecDepth 16384

/-!
# AdamW's calls: an output weight, the weight down of mixer C

A point of a call takes some rows of a weight, of its means and of the parts of its gradient, and writes those rows of the
four results.
-/

noncomputable section

namespace Cert.Kernel6Ideal.Hand

open Cert.Kernel6Ideal Cert.Kernel6Ideal.Gen Cert.Adam Finset
open Idealize.ShloMosaic Idealize.ShloMosaic.TcCoe

variable {V : (c : Dev nD) → (b : Ref sig .tc) → Buf (Elt Ideal) ((c : Thread nD τ).loc b)} {c : Dev nD}

/-! ## Call 1: an output weight -/

section Call1

/-- Where the points' blocks lie. -/
theorem places1 : ∀ t : Fin cfg1.N, win1_0.index t = ![t.val, 0] ∧ win1_1.index t = ![0, t.val, 0] ∧ win1_2.index t = ![t.val, 0] ∧ win1_3.index t = ![t.val, 0] ∧ win1_4.index t = ![t.val, 0] ∧ win1_5.index t = ![t.val, 0] ∧ win1_6.index t = ![t.val, 0] ∧ win1_7.index t = ![t.val, 0] := by
  decide +kernel

variable (r : Fin 64) (l : Fin 1024) (t : Fin cfg1.N)

/-- A point's row in the arrays. -/
abbrev row1 : Fin 128 := ⟨64 * t.val + r.val, by have : t.val < 2 := t.isLt; omega⟩

/-- What a point's blocks hold. -/
theorem blocks1 : iblk1 V c 0 t (ix2 r l) = V c main_arg4 (ix2 (row1 r t) l) ∧ iblk1 V c 2 t (ix2 r l) = V c main_arg6 (ix2 (row1 r t) l)
    ∧ iblk1 V c 3 t (ix2 r l) = V c main_arg7 (ix2 (row1 r t) l) ∧ ∀ k : Fin 4, iblk1 V c 1 t (ix3 k r l) = V c main_arg5 (ix3 k (row1 r t) l) := by
  and_intros <;> intros <;> blk_ext [iblk1, places1 t]

set_option maxHeartbeats 3200000 in
/-- The arrays in the end. -/
theorem arr1 : Results (n := 4) (R := 128) (C := 1024) (V c main_arg5) (V c main_arg4) (V c main_arg6) (V c main_arg7)
    ((dat1 V c).arrAt 4 cfg1.N) ((dat1 V c).arrAt 5 cfg1.N) ((dat1 V c).arrAt 6 cfg1.N) ((dat1 V c).arrAt 7 cfg1.N) := by
  constructor <;> refine (dat1 V c).arrAt_eq_of_covers _ _ (by decide +kernel) fun t _ y => ?_ <;>
  (obtain ⟨r, l, rfl⟩ : ∃ (r : Fin 64) (l : Fin 1024), y = ix2 r l := ⟨y 0, y 1, eq_ix2 y⟩
   blk_simp
   obtain ⟨hw, ha, hb, hp⟩ := blocks1 (V := V) (c := c) r l t)
  · rw [after1_4, show (win1_4.blk t).view.emb (ix2 r l) = ix2 (row1 r t) l by blk_ext [places1 t], grad_four, ← hp, ← hp, ← hp, ← hp]
    frame_out
    pointwise [k1_pay2, r1_0, r1_1, r1_2, r1_3]
  · rw [after1_5, show (win1_5.blk t).view.emb (ix2 r l) = ix2 (row1 r t) l by blk_ext [places1 t], deltas, grad_four, ← hw, ← ha, ← hb, ← hp, ← hp, ← hp, ← hp]
    frame_out
    pointwise [k1_pay1, k1_pay5, k1_pay6, k1_pay2, k1_pay3, k1_pay4, r1_0, r1_1, r1_2, r1_3]
    rfl
  · rw [after1_6, show (win1_6.blk t).view.emb (ix2 r l) = ix2 (row1 r t) l by blk_ext [places1 t], means, grad_four, ← ha, ← hp, ← hp, ← hp, ← hp]
    frame_out
    pointwise [k1_pay3, k1_pay2, r1_0, r1_1, r1_2, r1_3]
    rfl
  · rw [after1_7, show (win1_7.blk t).view.emb (ix2 r l) = ix2 (row1 r t) l by blk_ext [places1 t], squares, grad_four, ← hb, ← hp, ← hp, ← hp, ← hp]
    frame_out
    pointwise [k1_pay4, k1_pay2, r1_0, r1_1, r1_2, r1_3]
    rfl

end Call1

/-! ## Call 2: the weight down of mixer C -/

section Call2

/-- Where the points' blocks lie. -/
theorem places2 : ∀ t : Fin cfg2.N, win2_0.index t = ![t.val, 0] ∧ win2_1.index t = ![0, t.val, 0] ∧ win2_2.index t = ![t.val, 0] ∧ win2_3.index t = ![t.val, 0] ∧ win2_4.index t = ![t.val, 0] ∧ win2_5.index t = ![t.val, 0] ∧ win2_6.index t = ![t.val, 0] ∧ win2_7.index t = ![t.val, 0] := by
  decide +kernel

variable (r : Fin 64) (l : Fin 672) (t : Fin cfg2.N)

/-- A point's row in the arrays. -/
abbrev row2 : Fin 128 := ⟨64 * t.val + r.val, by have : t.val < 2 := t.isLt; omega⟩

/-- What a point's blocks hold. -/
theorem blocks2 : iblk2 V c 0 t (ix2 r l) = V c main_arg8 (ix2 (row2 r t) l) ∧ iblk2 V c 2 t (ix2 r l) = V c main_arg10 (ix2 (row2 r t) l)
    ∧ iblk2 V c 3 t (ix2 r l) = V c main_arg11 (ix2 (row2 r t) l) ∧ ∀ k : Fin 4, iblk2 V c 1 t (ix3 k r l) = V c main_arg9 (ix3 k (row2 r t) l) := by
  and_intros <;> intros <;> blk_ext [iblk2, places2 t]

set_option maxHeartbeats 3200000 in
/-- The arrays in the end. -/
theorem arr2 : Results (n := 4) (R := 128) (C := 672) (V c main_arg9) (V c main_arg8) (V c main_arg10) (V c main_arg11)
    ((dat2 V c).arrAt 4 cfg2.N) ((dat2 V c).arrAt 5 cfg2.N) ((dat2 V c).arrAt 6 cfg2.N) ((dat2 V c).arrAt 7 cfg2.N) := by
  constructor <;> refine (dat2 V c).arrAt_eq_of_covers _ _ (by decide +kernel) fun t _ y => ?_ <;>
  (obtain ⟨r, l, rfl⟩ : ∃ (r : Fin 64) (l : Fin 672), y = ix2 r l := ⟨y 0, y 1, eq_ix2 y⟩
   blk_simp
   obtain ⟨hw, ha, hb, hp⟩ := blocks2 (V := V) (c := c) r l t)
  · rw [after2_4, show (win2_4.blk t).view.emb (ix2 r l) = ix2 (row2 r t) l by blk_ext [places2 t], grad_four, ← hp, ← hp, ← hp, ← hp]
    frame_out
    pointwise [k2_pay2, r2_0, r2_1, r2_2, r2_3]
  · rw [after2_5, show (win2_5.blk t).view.emb (ix2 r l) = ix2 (row2 r t) l by blk_ext [places2 t], deltas, grad_four, ← hw, ← ha, ← hb, ← hp, ← hp, ← hp, ← hp]
    frame_out
    pointwise [k2_pay1, k2_pay5, k2_pay6, k2_pay2, k2_pay3, k2_pay4, r2_0, r2_1, r2_2, r2_3]
    rfl
  · rw [after2_6, show (win2_6.blk t).view.emb (ix2 r l) = ix2 (row2 r t) l by blk_ext [places2 t], means, grad_four, ← ha, ← hp, ← hp, ← hp, ← hp]
    frame_out
    pointwise [k2_pay3, k2_pay2, r2_0, r2_1, r2_2, r2_3]
    rfl
  · rw [after2_7, show (win2_7.blk t).view.emb (ix2 r l) = ix2 (row2 r t) l by blk_ext [places2 t], squares, grad_four, ← hb, ← hp, ← hp, ← hp, ← hp]
    frame_out
    pointwise [k2_pay4, k2_pay2, r2_0, r2_1, r2_2, r2_3]
    rfl

end Call2

end Cert.Kernel6Ideal.Hand

end
-- ==== Proof.Adam.Up.lean ====
module

public import proofs.«01_k».proof.Proof.Adam.Math
public import proofs.«01_k».proof.Proof.Gen.Kernel6Ideal.Frame
public import Idealize.ShloMosaic.Lib.Pipeline.ValueKit
public import Idealize.ShloMosaic.Lib.Pointwise

@[expose] public section

set_option maxRecDepth 16384

/-!
# AdamW's calls: the query weight of mixer C, the key and value weight of mixer C

A point of a call takes some rows of a weight, of its means and of the parts of its gradient, and writes those rows of the
four results.
-/

noncomputable section

namespace Cert.Kernel6Ideal.Hand

open Cert.Kernel6Ideal Cert.Kernel6Ideal.Gen Cert.Adam Finset
open Idealize.ShloMosaic Idealize.ShloMosaic.TcCoe

variable {V : (c : Dev nD) → (b : Ref sig .tc) → Buf (Elt Ideal) ((c : Thread nD τ).loc b)} {c : Dev nD}

/-! ## Call 3: the query weight of mixer C -/

section Call3

/-- Where the points' blocks lie. -/
theorem places3 : ∀ t : Fin cfg3.N, win3_0.index t = ![t.val, 0] ∧ win3_1.index t = ![0, t.val, 0] ∧ win3_2.index t = ![t.val, 0] ∧ win3_3.index t = ![t.val, 0] ∧ win3_4.index t = ![t.val, 0] ∧ win3_5.index t = ![t.val, 0] ∧ win3_6.index t = ![t.val, 0] ∧ win3_7.index t = ![t.val, 0] := by
  decide +kernel

variable (r : Fin 192) (l : Fin 192) (t : Fin cfg3.N)

/-- A point's row in the arrays. -/
abbrev row3 : Fin 384 := ⟨192 * t.val + r.val, by have : t.val < 2 := t.isLt; omega⟩

/-- What a point's blocks hold. -/
theorem blocks3 : iblk3 V c 0 t (ix2 r l) = V c main_arg12 (ix2 (row3 r t) l) ∧ iblk3 V c 2 t (ix2 r l) = V c main_arg14 (ix2 (row3 r t) l)
    ∧ iblk3 V c 3 t (ix2 r l) = V c main_arg15 (ix2 (row3 r t) l) ∧ ∀ k : Fin 4, iblk3 V c 1 t (ix3 k r l) = V c main_arg13 (ix3 k (row3 r t) l) := by
  and_intros <;> intros <;> blk_ext [iblk3, places3 t]

set_option maxHeartbeats 3200000 in
/-- The arrays in the end. -/
theorem arr3 : Results (n := 4) (R := 384) (C := 192) (V c main_arg13) (V c main_arg12) (V c main_arg14) (V c main_arg15)
    ((dat3 V c).arrAt 4 cfg3.N) ((dat3 V c).arrAt 5 cfg3.N) ((dat3 V c).arrAt 6 cfg3.N) ((dat3 V c).arrAt 7 cfg3.N) := by
  constructor <;> refine (dat3 V c).arrAt_eq_of_covers _ _ (by decide +kernel) fun t _ y => ?_ <;>
  (obtain ⟨r, l, rfl⟩ : ∃ (r : Fin 192) (l : Fin 192), y = ix2 r l := ⟨y 0, y 1, eq_ix2 y⟩
   blk_simp
   obtain ⟨hw, ha, hb, hp⟩ := blocks3 (V := V) (c := c) r l t)
  · rw [after3_4, show (win3_4.blk t).view.emb (ix2 r l) = ix2 (row3 r t) l by blk_ext [places3 t], grad_four, ← hp, ← hp, ← hp, ← hp]
    frame_out
    pointwise [k3_pay2, r3_0, r3_1, r3_2, r3_3]
  · rw [after3_5, show (win3_5.blk t).view.emb (ix2 r l) = ix2 (row3 r t) l by blk_ext [places3 t], deltas, grad_four, ← hw, ← ha, ← hb, ← hp, ← hp, ← hp, ← hp]
    frame_out
    pointwise [k3_pay1, k3_pay5, k3_pay6, k3_pay2, k3_pay3, k3_pay4, r3_0, r3_1, r3_2, r3_3]
    rfl
  · rw [after3_6, show (win3_6.blk t).view.emb (ix2 r l) = ix2 (row3 r t) l by blk_ext [places3 t], means, grad_four, ← ha, ← hp, ← hp, ← hp, ← hp]
    frame_out
    pointwise [k3_pay3, k3_pay2, r3_0, r3_1, r3_2, r3_3]
    rfl
  · rw [after3_7, show (win3_7.blk t).view.emb (ix2 r l) = ix2 (row3 r t) l by blk_ext [places3 t], squares, grad_four, ← hb, ← hp, ← hp, ← hp, ← hp]
    frame_out
    pointwise [k3_pay4, k3_pay2, r3_0, r3_1, r3_2, r3_3]
    rfl

end Call3

/-! ## Call 4: the key and value weight of mixer C -/

section Call4

/-- Where the points' blocks lie. -/
theorem places4 : ∀ t : Fin cfg4.N, win4_0.index t = ![t.val, 0] ∧ win4_1.index t = ![0, t.val, 0] ∧ win4_2.index t = ![t.val, 0] ∧ win4_3.index t = ![t.val, 0] ∧ win4_4.index t = ![t.val, 0] ∧ win4_5.index t = ![t.val, 0] ∧ win4_6.index t = ![t.val, 0] ∧ win4_7.index t = ![t.val, 0] := by
  decide +kernel

variable (r : Fin 128) (l : Fin 256) (t : Fin cfg4.N)

/-- A point's row in the arrays. -/
abbrev row4 : Fin 256 := ⟨128 * t.val + r.val, by have : t.val < 2 := t.isLt; omega⟩

/-- What a point's blocks hold. -/
theorem blocks4 : iblk4 V c 0 t (ix2 r l) = V c main_arg16 (ix2 (row4 r t) l) ∧ iblk4 V c 2 t (ix2 r l) = V c main_arg18 (ix2 (row4 r t) l)
    ∧ iblk4 V c 3 t (ix2 r l) = V c main_arg19 (ix2 (row4 r t) l) ∧ ∀ k : Fin 4, iblk4 V c 1 t (ix3 k r l) = V c main_arg17 (ix3 k (row4 r t) l) := by
  and_intros <;> intros <;> blk_ext [iblk4, places4 t]

set_option maxHeartbeats 3200000 in
/-- The arrays in the end. -/
theorem arr4 : Results (n := 4) (R := 256) (C := 256) (V c main_arg17) (V c main_arg16) (V c main_arg18) (V c main_arg19)
    ((dat4 V c).arrAt 4 cfg4.N) ((dat4 V c).arrAt 5 cfg4.N) ((dat4 V c).arrAt 6 cfg4.N) ((dat4 V c).arrAt 7 cfg4.N) := by
  constructor <;> refine (dat4 V c).arrAt_eq_of_covers _ _ (by decide +kernel) fun t _ y => ?_ <;>
  (obtain ⟨r, l, rfl⟩ : ∃ (r : Fin 128) (l : Fin 256), y = ix2 r l := ⟨y 0, y 1, eq_ix2 y⟩
   blk_simp
   obtain ⟨hw, ha, hb, hp⟩ := blocks4 (V := V) (c := c) r l t)
  · rw [after4_4, show (win4_4.blk t).view.emb (ix2 r l) = ix2 (row4 r t) l by blk_ext [places4 t], grad_four, ← hp, ← hp, ← hp, ← hp]
    frame_out
    pointwise [k4_pay2, r4_0, r4_1, r4_2, r4_3]
  · rw [after4_5, show (win4_5.blk t).view.emb (ix2 r l) = ix2 (row4 r t) l by blk_ext [places4 t], deltas, grad_four, ← hw, ← ha, ← hb, ← hp, ← hp, ← hp, ← hp]
    frame_out
    pointwise [k4_pay1, k4_pay5, k4_pay6, k4_pay2, k4_pay3, k4_pay4, r4_0, r4_1, r4_2, r4_3]
    rfl
  · rw [after4_6, show (win4_6.blk t).view.emb (ix2 r l) = ix2 (row4 r t) l by blk_ext [places4 t], means, grad_four, ← ha, ← hp, ← hp, ← hp, ← hp]
    frame_out
    pointwise [k4_pay3, k4_pay2, r4_0, r4_1, r4_2, r4_3]
    rfl
  · rw [after4_7, show (win4_7.blk t).view.emb (ix2 r l) = ix2 (row4 r t) l by blk_ext [places4 t], squares, grad_four, ← hb, ← hp, ← hp, ← hp, ← hp]
    frame_out
    pointwise [k4_pay4, k4_pay2, r4_0, r4_1, r4_2, r4_3]
    rfl

end Call4

end Cert.Kernel6Ideal.Hand

end
-- ==== Proof.Adam.Gate.lean ====
module

public import proofs.«01_k».proof.Proof.Adam.Math
public import proofs.«01_k».proof.Proof.Gen.Kernel6Ideal.Frame
public import Idealize.ShloMosaic.Lib.Pipeline.ValueKit
public import Idealize.ShloMosaic.Lib.Pointwise

@[expose] public section

set_option maxRecDepth 16384

/-!
# AdamW's calls: a gate or up weight

A point of a call takes some rows of a weight, of its means and of the parts of its gradient, and writes those rows of the
four results.
-/

noncomputable section

namespace Cert.Kernel6Ideal.Hand

open Cert.Kernel6Ideal Cert.Kernel6Ideal.Gen Cert.Adam Finset
open Idealize.ShloMosaic Idealize.ShloMosaic.TcCoe

variable {V : (c : Dev nD) → (b : Ref sig .tc) → Buf (Elt Ideal) ((c : Thread nD τ).loc b)} {c : Dev nD}

/-! ## Call 6: a gate or up weight -/

section Call6

/-- Where the points' blocks lie. -/
theorem places6 : ∀ t : Fin cfg6.N, win6_0.index t = ![t.val, 0] ∧ win6_1.index t = ![0, t.val, 0] ∧ win6_2.index t = ![t.val, 0] ∧ win6_3.index t = ![t.val, 0] ∧ win6_4.index t = ![t.val, 0] ∧ win6_5.index t = ![t.val, 0] ∧ win6_6.index t = ![t.val, 0] ∧ win6_7.index t = ![t.val, 0] := by
  decide +kernel

variable (r : Fin 512) (l : Fin 352) (t : Fin cfg6.N)

/-- A point's row in the arrays. -/
abbrev row6 : Fin 4096 := ⟨512 * t.val + r.val, by have : t.val < 8 := t.isLt; omega⟩

/-- What a point's blocks hold. -/
theorem blocks6 : iblk6 V c 0 t (ix2 r l) = V c main_arg24 (ix2 (row6 r t) l) ∧ iblk6 V c 2 t (ix2 r l) = V c main_arg26 (ix2 (row6 r t) l)
    ∧ iblk6 V c 3 t (ix2 r l) = V c main_arg27 (ix2 (row6 r t) l) ∧ ∀ k : Fin 4, iblk6 V c 1 t (ix3 k r l) = V c main_arg25 (ix3 k (row6 r t) l) := by
  and_intros <;> intros <;> blk_ext [iblk6, places6 t]

set_option maxHeartbeats 3200000 in
/-- The arrays in the end. -/
theorem arr6 : Results (n := 4) (R := 4096) (C := 352) (V c main_arg25) (V c main_arg24) (V c main_arg26) (V c main_arg27)
    ((dat6 V c).arrAt 4 cfg6.N) ((dat6 V c).arrAt 5 cfg6.N) ((dat6 V c).arrAt 6 cfg6.N) ((dat6 V c).arrAt 7 cfg6.N) := by
  constructor <;> refine (dat6 V c).arrAt_eq_of_covers _ _ (by decide +kernel) fun t _ y => ?_ <;>
  (obtain ⟨r, l, rfl⟩ : ∃ (r : Fin 512) (l : Fin 352), y = ix2 r l := ⟨y 0, y 1, eq_ix2 y⟩
   blk_simp
   obtain ⟨hw, ha, hb, hp⟩ := blocks6 (V := V) (c := c) r l t)
  · rw [after6_4, show (win6_4.blk t).view.emb (ix2 r l) = ix2 (row6 r t) l by blk_ext [places6 t], grad_four, ← hp, ← hp, ← hp, ← hp]
    frame_out
    pointwise [k6_pay2, r6_0, r6_1, r6_2, r6_3]
  · rw [after6_5, show (win6_5.blk t).view.emb (ix2 r l) = ix2 (row6 r t) l by blk_ext [places6 t], deltas, grad_four, ← hw, ← ha, ← hb, ← hp, ← hp, ← hp, ← hp]
    frame_out
    pointwise [k6_pay1, k6_pay5, k6_pay6, k6_pay2, k6_pay3, k6_pay4, r6_0, r6_1, r6_2, r6_3]
    rfl
  · rw [after6_6, show (win6_6.blk t).view.emb (ix2 r l) = ix2 (row6 r t) l by blk_ext [places6 t], means, grad_four, ← ha, ← hp, ← hp, ← hp, ← hp]
    frame_out
    pointwise [k6_pay3, k6_pay2, r6_0, r6_1, r6_2, r6_3]
    rfl
  · rw [after6_7, show (win6_7.blk t).view.emb (ix2 r l) = ix2 (row6 r t) l by blk_ext [places6 t], squares, grad_four, ← hb, ← hp, ← hp, ← hp, ← hp]
    frame_out
    pointwise [k6_pay4, k6_pay2, r6_0, r6_1, r6_2, r6_3]
    rfl

end Call6

end Cert.Kernel6Ideal.Hand

end
-- ==== Proof.Adam.Ends.lean ====
module

public import proofs.«01_k».proof.Proof.Adam.Qkv
public import proofs.«01_k».proof.Proof.Adam.Out
public import proofs.«01_k».proof.Proof.Adam.Up
public import proofs.«01_k».proof.Proof.Adam.Gate
public import proofs.«01_k».proof.Proof.Adam.Run

@[expose] public section

set_option maxRecDepth 16384

/-!
# What AdamW's calls leave

A call's results stay as they are while the later calls run.
-/

noncomputable section

namespace Cert.Kernel6Ideal.Hand

open Cert.Kernel6Ideal Cert.Kernel6Ideal.Gen Cert.Adam
open Idealize.ShloMosaic Idealize.ShloMosaic.TcCoe

variable (m : (ℓ : Loc nD τ sig) → Buf (Elt Ideal) ℓ) (ρ : Dev nD → PrngReg) (c : Dev nD)

/-- What an array holds in the beginning, -/
abbrev first (b : Ref sig .tc) := m ((c : Thread nD τ).loc b)

/-- and in the end. -/
abbrev last (b : Ref sig .tc) := W7 m ρ c (Proc.devRef .tc b)

/-- The calls from 6 on don't write this array. -/
abbrev Spared6 (r : Ref sig .tc) : Prop := (∀ w : Fin cfg6.W, Pipeline.arrRef spec6 w = r → (cfg6.win w).isOut = false)

/-- Then it ends as call 6 finds it. -/
theorem spared6 (r : Ref sig .tc) (h : Spared6 r) : W7 m ρ c (Proc.devRef .tc r) = W6 m ρ c (Proc.devRef .tc r) :=
  W7_of m ρ c r h

/-- The calls from 5 on don't write this array. -/
abbrev Spared5 (r : Ref sig .tc) : Prop := (∀ w : Fin cfg5.W, Pipeline.arrRef spec5 w = r → (cfg5.win w).isOut = false) ∧ Spared6 r

/-- Then it ends as call 5 finds it. -/
theorem spared5 (r : Ref sig .tc) (h : Spared5 r) : W7 m ρ c (Proc.devRef .tc r) = W5 m ρ c (Proc.devRef .tc r) :=
  (spared6 m ρ c r h.2).trans (W6_of m ρ c r h.1)

/-- The calls from 4 on don't write this array. -/
abbrev Spared4 (r : Ref sig .tc) : Prop := (∀ w : Fin cfg4.W, Pipeline.arrRef spec4 w = r → (cfg4.win w).isOut = false) ∧ Spared5 r

/-- Then it ends as call 4 finds it. -/
theorem spared4 (r : Ref sig .tc) (h : Spared4 r) : W7 m ρ c (Proc.devRef .tc r) = W4 m ρ c (Proc.devRef .tc r) :=
  (spared5 m ρ c r h.2).trans (W5_of m ρ c r h.1)

/-- The calls from 3 on don't write this array. -/
abbrev Spared3 (r : Ref sig .tc) : Prop := (∀ w : Fin cfg3.W, Pipeline.arrRef spec3 w = r → (cfg3.win w).isOut = false) ∧ Spared4 r

/-- Then it ends as call 3 finds it. -/
theorem spared3 (r : Ref sig .tc) (h : Spared3 r) : W7 m ρ c (Proc.devRef .tc r) = W3 m ρ c (Proc.devRef .tc r) :=
  (spared4 m ρ c r h.2).trans (W4_of m ρ c r h.1)

/-- The calls from 2 on don't write this array. -/
abbrev Spared2 (r : Ref sig .tc) : Prop := (∀ w : Fin cfg2.W, Pipeline.arrRef spec2 w = r → (cfg2.win w).isOut = false) ∧ Spared3 r

/-- Then it ends as call 2 finds it. -/
theorem spared2 (r : Ref sig .tc) (h : Spared2 r) : W7 m ρ c (Proc.devRef .tc r) = W2 m ρ c (Proc.devRef .tc r) :=
  (spared3 m ρ c r h.2).trans (W3_of m ρ c r h.1)

/-- The calls from 1 on don't write this array. -/
abbrev Spared1 (r : Ref sig .tc) : Prop := (∀ w : Fin cfg1.W, Pipeline.arrRef spec1 w = r → (cfg1.win w).isOut = false) ∧ Spared2 r

/-- Then it ends as call 1 finds it. -/
theorem spared1 (r : Ref sig .tc) (h : Spared1 r) : W7 m ρ c (Proc.devRef .tc r) = W1 m ρ c (Proc.devRef .tc r) :=
  (spared2 m ρ c r h.2).trans (W2_of m ρ c r h.1)

/-- What call 0 leaves: the q, k, v weight of mixer B. -/
theorem end0 : Results (n := 4) (R := 1024) (C := 384) (first m c main_arg1) (first m c main_arg0) (first m c main_arg2) (first m c main_arg3)
    (last m ρ c main_v0_0) (last m ρ c main_v0_1) (last m ρ c main_v0_2) (last m ρ c main_v0_3) :=
  (arr0 (V := V0 m ρ) (c := c)).cast (W0_args m ρ c main_arg1 (by decide)) (W0_args m ρ c main_arg0 (by decide))
    (W0_args m ρ c main_arg2 (by decide)) (W0_args m ρ c main_arg3 (by decide))
    ((spared1 m ρ c main_v0_0 (by decide)).trans (W1_arr m ρ c 4))
    ((spared1 m ρ c main_v0_1 (by decide)).trans (W1_arr m ρ c 5))
    ((spared1 m ρ c main_v0_2 (by decide)).trans (W1_arr m ρ c 6))
    ((spared1 m ρ c main_v0_3 (by decide)).trans (W1_arr m ρ c 7))

/-- What call 1 leaves: an output weight. -/
theorem end1 : Results (n := 4) (R := 128) (C := 1024) (first m c main_arg5) (first m c main_arg4) (first m c main_arg6) (first m c main_arg7)
    (last m ρ c main_v1_0) (last m ρ c main_v1_1) (last m ρ c main_v1_2) (last m ρ c main_v1_3) :=
  (arr1 (V := V1 m ρ) (c := c)).cast (W1_args m ρ c main_arg5 (by decide)) (W1_args m ρ c main_arg4 (by decide))
    (W1_args m ρ c main_arg6 (by decide)) (W1_args m ρ c main_arg7 (by decide))
    ((spared2 m ρ c main_v1_0 (by decide)).trans (W2_arr m ρ c 4))
    ((spared2 m ρ c main_v1_1 (by decide)).trans (W2_arr m ρ c 5))
    ((spared2 m ρ c main_v1_2 (by decide)).trans (W2_arr m ρ c 6))
    ((spared2 m ρ c main_v1_3 (by decide)).trans (W2_arr m ρ c 7))

/-- What call 2 leaves: the weight down of mixer C. -/
theorem end2 : Results (n := 4) (R := 128) (C := 672) (first m c main_arg9) (first m c main_arg8) (first m c main_arg10) (first m c main_arg11)
    (last m ρ c main_v2_0) (last m ρ c main_v2_1) (last m ρ c main_v2_2) (last m ρ c main_v2_3) :=
  (arr2 (V := V2 m ρ) (c := c)).cast (W2_args m ρ c main_arg9 (by decide)) (W2_args m ρ c main_arg8 (by decide))
    (W2_args m ρ c main_arg10 (by decide)) (W2_args m ρ c main_arg11 (by decide))
    ((spared3 m ρ c main_v2_0 (by decide)).trans (W3_arr m ρ c 4))
    ((spared3 m ρ c main_v2_1 (by decide)).trans (W3_arr m ρ c 5))
    ((spared3 m ρ c main_v2_2 (by decide)).trans (W3_arr m ρ c 6))
    ((spared3 m ρ c main_v2_3 (by decide)).trans (W3_arr m ρ c 7))

/-- What call 3 leaves: the query weight of mixer C. -/
theorem end3 : Results (n := 4) (R := 384) (C := 192) (first m c main_arg13) (first m c main_arg12) (first m c main_arg14) (first m c main_arg15)
    (last m ρ c main_v3_0) (last m ρ c main_v3_1) (last m ρ c main_v3_2) (last m ρ c main_v3_3) :=
  (arr3 (V := V3 m ρ) (c := c)).cast (W3_args m ρ c main_arg13 (by decide)) (W3_args m ρ c main_arg12 (by decide))
    (W3_args m ρ c main_arg14 (by decide)) (W3_args m ρ c main_arg15 (by decide))
    ((spared4 m ρ c main_v3_0 (by decide)).trans (W4_arr m ρ c 4))
    ((spared4 m ρ c main_v3_1 (by decide)).trans (W4_arr m ρ c 5))
    ((spared4 m ρ c main_v3_2 (by decide)).trans (W4_arr m ρ c 6))
    ((spared4 m ρ c main_v3_3 (by decide)).trans (W4_arr m ρ c 7))

/-- What call 4 leaves: the key and value weight of mixer C. -/
theorem end4 : Results (n := 4) (R := 256) (C := 256) (first m c main_arg17) (first m c main_arg16) (first m c main_arg18) (first m c main_arg19)
    (last m ρ c main_v4_0) (last m ρ c main_v4_1) (last m ρ c main_v4_2) (last m ρ c main_v4_3) :=
  (arr4 (V := V4 m ρ) (c := c)).cast (W4_args m ρ c main_arg17 (by decide)) (W4_args m ρ c main_arg16 (by decide))
    (W4_args m ρ c main_arg18 (by decide)) (W4_args m ρ c main_arg19 (by decide))
    ((spared5 m ρ c main_v4_0 (by decide)).trans (W5_arr m ρ c 4))
    ((spared5 m ρ c main_v4_1 (by decide)).trans (W5_arr m ρ c 5))
    ((spared5 m ρ c main_v4_2 (by decide)).trans (W5_arr m ρ c 6))
    ((spared5 m ρ c main_v4_3 (by decide)).trans (W5_arr m ρ c 7))

/-- What call 5 leaves: the q, k, v, f weight of mixer D. -/
theorem end5 : Results (n := 4) (R := 1024) (C := 386) (first m c main_arg21) (first m c main_arg20) (first m c main_arg22) (first m c main_arg23)
    (last m ρ c main_v5_0) (last m ρ c main_v5_1) (last m ρ c main_v5_2) (last m ρ c main_v5_3) :=
  (arr5 (V := V5 m ρ) (c := c)).cast (W5_args m ρ c main_arg21 (by decide)) (W5_args m ρ c main_arg20 (by decide))
    (W5_args m ρ c main_arg22 (by decide)) (W5_args m ρ c main_arg23 (by decide))
    ((spared6 m ρ c main_v5_0 (by decide)).trans (W6_arr m ρ c 4))
    ((spared6 m ρ c main_v5_1 (by decide)).trans (W6_arr m ρ c 5))
    ((spared6 m ρ c main_v5_2 (by decide)).trans (W6_arr m ρ c 6))
    ((spared6 m ρ c main_v5_3 (by decide)).trans (W6_arr m ρ c 7))

/-- What call 6 leaves: a gate or up weight. -/
theorem end6 : Results (n := 4) (R := 4096) (C := 352) (first m c main_arg25) (first m c main_arg24) (first m c main_arg26) (first m c main_arg27)
    (last m ρ c main_v6_0) (last m ρ c main_v6_1) (last m ρ c main_v6_2) (last m ρ c main_v6_3) :=
  (arr6 (V := V6 m ρ) (c := c)).cast (W6_args m ρ c main_arg25 (by decide)) (W6_args m ρ c main_arg24 (by decide))
    (W6_args m ρ c main_arg26 (by decide)) (W6_args m ρ c main_arg27 (by decide))
    (W7_arr m ρ c 4)
    (W7_arr m ρ c 5)
    (W7_arr m ρ c 6)
    (W7_arr m ρ c 7)

end Cert.Kernel6Ideal.Hand

end
-- ==== Proof.Adam.Ref.lean ====
module

public import proofs.«01_k».proof.Proof.Adam.Math
public import proofs.«01_k».proof.Proof.Gen.Reference6Ideal.Read
public import Idealize.ShloMosaic.Lib.Pointwise

@[expose] public section

set_option maxRecDepth 16384

/-!
# What the reference of AdamW computes

Each weight's results are the sum of the parts and the three functions of it.
-/

noncomputable section

namespace Cert.Reference6Ideal.Hand

open Cert.Reference6Ideal Cert.Reference6Ideal.Gen Cert.Reference6Ideal.Read Cert.Adam Finset
open Idealize.ShloMosaic Idealize.ShloMosaic.TcCoe

/-- The results of the q, k, v weight of mixer B. -/
theorem ref0 (x0 x2 x3 : Vec Ideal S1024x384 .f32) (x1 : Vec Ideal S4x1024x384 .bf16) : Results (n := 4) (R := 1024) (C := 384) x1 x0 x2 x3
    (val_main_v1 x1) (val_main_v25 x0 x1 x2 x3) (val_main_v6 x1 x2) (val_main_v12 x1 x3) := by
  have g : val_main_v1 (F := Ideal) x1 = grad (n := 4) (R := 1024) (C := 384) x1 := funext fun y => by
    rw [eq_ix2 y]
    pointwise [val_main_v1, val_main_v0, val_main_cst]
    rfl
  have m : val_main_v6 (F := Ideal) x1 x2 = means x1 x2 := funext fun y => by
    rw [eq_ix2 y]
    pointwise [val_main_v2, val_main_v3, val_main_v4, val_main_v5, val_main_v6, val_main_cst_0, val_main_cst_1]
    rw [g]
    rfl
  have s : val_main_v12 (F := Ideal) x1 x3 = squares x1 x3 := funext fun y => by
    rw [eq_ix2 y]
    pointwise [val_main_v7, val_main_v8, val_main_v9, val_main_v10, val_main_v11, val_main_v12, val_main_cst_2, val_main_cst_3]
    rw [g]
    rfl
  refine ⟨g, funext fun y => ?_, m, s⟩
  rw [eq_ix2 y]
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  rw [m, s]
  rfl

/-- The results of an output weight. -/
theorem ref1 (x0 x2 x3 : Vec Ideal S128x1024 .f32) (x1 : Vec Ideal S4x128x1024 .bf16) : Results (n := 4) (R := 128) (C := 1024) x1 x0 x2 x3
    (val_main_v27 x1) (val_main_v51 x0 x1 x2 x3) (val_main_v32 x1 x2) (val_main_v38 x1 x3) := by
  have g : val_main_v27 (F := Ideal) x1 = grad (n := 4) (R := 128) (C := 1024) x1 := funext fun y => by
    rw [eq_ix2 y]
    pointwise [val_main_v27, val_main_v26, val_main_cst_9]
    rfl
  have m : val_main_v32 (F := Ideal) x1 x2 = means x1 x2 := funext fun y => by
    rw [eq_ix2 y]
    pointwise [val_main_v28, val_main_v29, val_main_v30, val_main_v31, val_main_v32, val_main_cst_10, val_main_cst_11]
    rw [g]
    rfl
  have s : val_main_v38 (F := Ideal) x1 x3 = squares x1 x3 := funext fun y => by
    rw [eq_ix2 y]
    pointwise [val_main_v33, val_main_v34, val_main_v35, val_main_v36, val_main_v37, val_main_v38, val_main_cst_12, val_main_cst_13]
    rw [g]
    rfl
  refine ⟨g, funext fun y => ?_, m, s⟩
  rw [eq_ix2 y]
  pointwise [val_main_v39, val_main_v40, val_main_v41, val_main_v42, val_main_v43, val_main_v44, val_main_v45, val_main_v46, val_main_v47, val_main_v48, val_main_v49, val_main_v50, val_main_v51, val_main_cst_14, val_main_cst_15, val_main_cst_16, val_main_cst_17, val_main_cst_18]
  rw [m, s]
  rfl

/-- The results of the weight down of mixer C. -/
theorem ref2 (x0 x2 x3 : Vec Ideal S128x672 .f32) (x1 : Vec Ideal S4x128x672 .bf16) : Results (n := 4) (R := 128) (C := 672) x1 x0 x2 x3
    (val_main_v53 x1) (val_main_v77 x0 x1 x2 x3) (val_main_v58 x1 x2) (val_main_v64 x1 x3) := by
  have g : val_main_v53 (F := Ideal) x1 = grad (n := 4) (R := 128) (C := 672) x1 := funext fun y => by
    rw [eq_ix2 y]
    pointwise [val_main_v53, val_main_v52, val_main_cst_19]
    rfl
  have m : val_main_v58 (F := Ideal) x1 x2 = means x1 x2 := funext fun y => by
    rw [eq_ix2 y]
    pointwise [val_main_v54, val_main_v55, val_main_v56, val_main_v57, val_main_v58, val_main_cst_20, val_main_cst_21]
    rw [g]
    rfl
  have s : val_main_v64 (F := Ideal) x1 x3 = squares x1 x3 := funext fun y => by
    rw [eq_ix2 y]
    pointwise [val_main_v59, val_main_v60, val_main_v61, val_main_v62, val_main_v63, val_main_v64, val_main_cst_22, val_main_cst_23]
    rw [g]
    rfl
  refine ⟨g, funext fun y => ?_, m, s⟩
  rw [eq_ix2 y]
  pointwise [val_main_v65, val_main_v66, val_main_v67, val_main_v68, val_main_v69, val_main_v70, val_main_v71, val_main_v72, val_main_v73, val_main_v74, val_main_v75, val_main_v76, val_main_v77, val_main_cst_24, val_main_cst_25, val_main_cst_26, val_main_cst_27, val_main_cst_28]
  rw [m, s]
  rfl

/-- The results of the query weight of mixer C. -/
theorem ref3 (x0 x2 x3 : Vec Ideal S384x192 .f32) (x1 : Vec Ideal S4x384x192 .bf16) : Results (n := 4) (R := 384) (C := 192) x1 x0 x2 x3
    (val_main_v79 x1) (val_main_v103 x0 x1 x2 x3) (val_main_v84 x1 x2) (val_main_v90 x1 x3) := by
  have g : val_main_v79 (F := Ideal) x1 = grad (n := 4) (R := 384) (C := 192) x1 := funext fun y => by
    rw [eq_ix2 y]
    pointwise [val_main_v79, val_main_v78, val_main_cst_29]
    rfl
  have m : val_main_v84 (F := Ideal) x1 x2 = means x1 x2 := funext fun y => by
    rw [eq_ix2 y]
    pointwise [val_main_v80, val_main_v81, val_main_v82, val_main_v83, val_main_v84, val_main_cst_30, val_main_cst_31]
    rw [g]
    rfl
  have s : val_main_v90 (F := Ideal) x1 x3 = squares x1 x3 := funext fun y => by
    rw [eq_ix2 y]
    pointwise [val_main_v85, val_main_v86, val_main_v87, val_main_v88, val_main_v89, val_main_v90, val_main_cst_32, val_main_cst_33]
    rw [g]
    rfl
  refine ⟨g, funext fun y => ?_, m, s⟩
  rw [eq_ix2 y]
  pointwise [val_main_v91, val_main_v92, val_main_v93, val_main_v94, val_main_v95, val_main_v96, val_main_v97, val_main_v98, val_main_v99, val_main_v100, val_main_v101, val_main_v102, val_main_v103, val_main_cst_34, val_main_cst_35, val_main_cst_36, val_main_cst_37, val_main_cst_38]
  rw [m, s]
  rfl

/-- The results of the key and value weight of mixer C. -/
theorem ref4 (x0 x2 x3 : Vec Ideal S256x256 .f32) (x1 : Vec Ideal S4x256x256 .bf16) : Results (n := 4) (R := 256) (C := 256) x1 x0 x2 x3
    (val_main_v105 x1) (val_main_v129 x0 x1 x2 x3) (val_main_v110 x1 x2) (val_main_v116 x1 x3) := by
  have g : val_main_v105 (F := Ideal) x1 = grad (n := 4) (R := 256) (C := 256) x1 := funext fun y => by
    rw [eq_ix2 y]
    pointwise [val_main_v105, val_main_v104, val_main_cst_39]
    rfl
  have m : val_main_v110 (F := Ideal) x1 x2 = means x1 x2 := funext fun y => by
    rw [eq_ix2 y]
    pointwise [val_main_v106, val_main_v107, val_main_v108, val_main_v109, val_main_v110, val_main_cst_40, val_main_cst_41]
    rw [g]
    rfl
  have s : val_main_v116 (F := Ideal) x1 x3 = squares x1 x3 := funext fun y => by
    rw [eq_ix2 y]
    pointwise [val_main_v111, val_main_v112, val_main_v113, val_main_v114, val_main_v115, val_main_v116, val_main_cst_42, val_main_cst_43]
    rw [g]
    rfl
  refine ⟨g, funext fun y => ?_, m, s⟩
  rw [eq_ix2 y]
  pointwise [val_main_v117, val_main_v118, val_main_v119, val_main_v120, val_main_v121, val_main_v122, val_main_v123, val_main_v124, val_main_v125, val_main_v126, val_main_v127, val_main_v128, val_main_v129, val_main_cst_44, val_main_cst_45, val_main_cst_46, val_main_cst_47, val_main_cst_48]
  rw [m, s]
  rfl

/-- The results of the q, k, v, f weight of mixer D. -/
theorem ref5 (x0 x2 x3 : Vec Ideal S1024x386 .f32) (x1 : Vec Ideal S4x1024x386 .bf16) : Results (n := 4) (R := 1024) (C := 386) x1 x0 x2 x3
    (val_main_v131 x1) (val_main_v155 x0 x1 x2 x3) (val_main_v136 x1 x2) (val_main_v142 x1 x3) := by
  have g : val_main_v131 (F := Ideal) x1 = grad (n := 4) (R := 1024) (C := 386) x1 := funext fun y => by
    rw [eq_ix2 y]
    pointwise [val_main_v131, val_main_v130, val_main_cst_49]
    rfl
  have m : val_main_v136 (F := Ideal) x1 x2 = means x1 x2 := funext fun y => by
    rw [eq_ix2 y]
    pointwise [val_main_v132, val_main_v133, val_main_v134, val_main_v135, val_main_v136, val_main_cst_50, val_main_cst_51]
    rw [g]
    rfl
  have s : val_main_v142 (F := Ideal) x1 x3 = squares x1 x3 := funext fun y => by
    rw [eq_ix2 y]
    pointwise [val_main_v137, val_main_v138, val_main_v139, val_main_v140, val_main_v141, val_main_v142, val_main_cst_52, val_main_cst_53]
    rw [g]
    rfl
  refine ⟨g, funext fun y => ?_, m, s⟩
  rw [eq_ix2 y]
  pointwise [val_main_v143, val_main_v144, val_main_v145, val_main_v146, val_main_v147, val_main_v148, val_main_v149, val_main_v150, val_main_v151, val_main_v152, val_main_v153, val_main_v154, val_main_v155, val_main_cst_54, val_main_cst_55, val_main_cst_56, val_main_cst_57, val_main_cst_58]
  rw [m, s]
  rfl

/-- The results of a gate or up weight. -/
theorem ref6 (x0 x2 x3 : Vec Ideal S4096x352 .f32) (x1 : Vec Ideal S4x4096x352 .bf16) : Results (n := 4) (R := 4096) (C := 352) x1 x0 x2 x3
    (val_main_v157 x1) (val_main_v181 x0 x1 x2 x3) (val_main_v162 x1 x2) (val_main_v168 x1 x3) := by
  have g : val_main_v157 (F := Ideal) x1 = grad (n := 4) (R := 4096) (C := 352) x1 := funext fun y => by
    rw [eq_ix2 y]
    pointwise [val_main_v157, val_main_v156, val_main_cst_59]
    rfl
  have m : val_main_v162 (F := Ideal) x1 x2 = means x1 x2 := funext fun y => by
    rw [eq_ix2 y]
    pointwise [val_main_v158, val_main_v159, val_main_v160, val_main_v161, val_main_v162, val_main_cst_60, val_main_cst_61]
    rw [g]
    rfl
  have s : val_main_v168 (F := Ideal) x1 x3 = squares x1 x3 := funext fun y => by
    rw [eq_ix2 y]
    pointwise [val_main_v163, val_main_v164, val_main_v165, val_main_v166, val_main_v167, val_main_v168, val_main_cst_62, val_main_cst_63]
    rw [g]
    rfl
  refine ⟨g, funext fun y => ?_, m, s⟩
  rw [eq_ix2 y]
  pointwise [val_main_v169, val_main_v170, val_main_v171, val_main_v172, val_main_v173, val_main_v174, val_main_v175, val_main_v176, val_main_v177, val_main_v178, val_main_v179, val_main_v180, val_main_v181, val_main_cst_64, val_main_cst_65, val_main_cst_66, val_main_cst_67, val_main_cst_68]
  rw [m, s]
  rfl

end Cert.Reference6Ideal.Hand

end
-- ==== Proof.Adam.Algebraic.lean ====
module

public import proofs.«01_k».proof.Proof.Adam.Frames
public import proofs.«01_k».proof.Proof.Adam.Ends
public import proofs.«01_k».proof.Proof.Adam.Ref

@[expose] public section

set_option maxRecDepth 16384

/-!
# The equation of AdamW

The calls' and the reference's runs end with the same arrays: for each weight the gradient, what is added to the weight,
and the new means.
-/

noncomputable section

namespace Cert.Kernel6Ideal.Hand

open Idealize.SL.Sem Cert.Kernel6Ideal Cert.Kernel6Ideal.Gen Cert.Adam
open Idealize.ShloMosaic Idealize.ShloMosaic.TcCoe

open Cert.Reference6Ideal.Read in
set_option maxHeartbeats 3200000 in
/-- The calls and the reference end with the same arrays. -/
theorem equation_adam : Cert.algebraic_Kernel6Ideal_Reference6Ideal := fun m g m' g' _ e => by
  refine ⟨fun c => grad (n := 4) (R := 1024) (C := 384) (first m c main_arg1), fun c => deltas (n := 4) (R := 1024) (C := 384) (first m c main_arg1) (first m c main_arg0) (first m c main_arg2) (first m c main_arg3),
    fun c => means (n := 4) (R := 1024) (C := 384) (first m c main_arg1) (first m c main_arg2), fun c => squares (n := 4) (R := 1024) (C := 384) (first m c main_arg1) (first m c main_arg3),
    fun c => grad (n := 4) (R := 128) (C := 1024) (first m c main_arg5), fun c => deltas (n := 4) (R := 128) (C := 1024) (first m c main_arg5) (first m c main_arg4) (first m c main_arg6) (first m c main_arg7),
    fun c => means (n := 4) (R := 128) (C := 1024) (first m c main_arg5) (first m c main_arg6), fun c => squares (n := 4) (R := 128) (C := 1024) (first m c main_arg5) (first m c main_arg7),
    fun c => grad (n := 4) (R := 128) (C := 672) (first m c main_arg9), fun c => deltas (n := 4) (R := 128) (C := 672) (first m c main_arg9) (first m c main_arg8) (first m c main_arg10) (first m c main_arg11),
    fun c => means (n := 4) (R := 128) (C := 672) (first m c main_arg9) (first m c main_arg10), fun c => squares (n := 4) (R := 128) (C := 672) (first m c main_arg9) (first m c main_arg11),
    fun c => grad (n := 4) (R := 384) (C := 192) (first m c main_arg13), fun c => deltas (n := 4) (R := 384) (C := 192) (first m c main_arg13) (first m c main_arg12) (first m c main_arg14) (first m c main_arg15),
    fun c => means (n := 4) (R := 384) (C := 192) (first m c main_arg13) (first m c main_arg14), fun c => squares (n := 4) (R := 384) (C := 192) (first m c main_arg13) (first m c main_arg15),
    fun c => grad (n := 4) (R := 256) (C := 256) (first m c main_arg17), fun c => deltas (n := 4) (R := 256) (C := 256) (first m c main_arg17) (first m c main_arg16) (first m c main_arg18) (first m c main_arg19),
    fun c => means (n := 4) (R := 256) (C := 256) (first m c main_arg17) (first m c main_arg18), fun c => squares (n := 4) (R := 256) (C := 256) (first m c main_arg17) (first m c main_arg19),
    fun c => grad (n := 4) (R := 1024) (C := 386) (first m c main_arg21), fun c => deltas (n := 4) (R := 1024) (C := 386) (first m c main_arg21) (first m c main_arg20) (first m c main_arg22) (first m c main_arg23),
    fun c => means (n := 4) (R := 1024) (C := 386) (first m c main_arg21) (first m c main_arg22), fun c => squares (n := 4) (R := 1024) (C := 386) (first m c main_arg21) (first m c main_arg23),
    fun c => grad (n := 4) (R := 4096) (C := 352) (first m c main_arg25), fun c => deltas (n := 4) (R := 4096) (C := 352) (first m c main_arg25) (first m c main_arg24) (first m c main_arg26) (first m c main_arg27),
    fun c => means (n := 4) (R := 4096) (C := 352) (first m c main_arg25) (first m c main_arg26), fun c => squares (n := 4) (R := 4096) (C := 352) (first m c main_arg25) (first m c main_arg27),
    (θ_run defs _ _).mono (fun _ h c => ?_) (run_end (F := Ideal) m g),
    (θ_run Cert.Reference6Ideal.defs _ _).mono (fun _ h c => ?_) (Cert.Reference6Ideal.Value.run (F := Ideal) m' g')⟩
  · exact ⟨(h.1 c _ (mem_uc main_v0_0 (by decide))).trans (end0 m g c).g, (h.1 c _ (mem_uc main_v0_1 (by decide))).trans (end0 m g c).d, (h.1 c _ (mem_uc main_v0_2 (by decide))).trans (end0 m g c).m, (h.1 c _ (mem_uc main_v0_3 (by decide))).trans (end0 m g c).v,
      (h.1 c _ (mem_uc main_v1_0 (by decide))).trans (end1 m g c).g, (h.1 c _ (mem_uc main_v1_1 (by decide))).trans (end1 m g c).d, (h.1 c _ (mem_uc main_v1_2 (by decide))).trans (end1 m g c).m, (h.1 c _ (mem_uc main_v1_3 (by decide))).trans (end1 m g c).v,
      (h.1 c _ (mem_uc main_v2_0 (by decide))).trans (end2 m g c).g, (h.1 c _ (mem_uc main_v2_1 (by decide))).trans (end2 m g c).d, (h.1 c _ (mem_uc main_v2_2 (by decide))).trans (end2 m g c).m, (h.1 c _ (mem_uc main_v2_3 (by decide))).trans (end2 m g c).v,
      (h.1 c _ (mem_uc main_v3_0 (by decide))).trans (end3 m g c).g, (h.1 c _ (mem_uc main_v3_1 (by decide))).trans (end3 m g c).d, (h.1 c _ (mem_uc main_v3_2 (by decide))).trans (end3 m g c).m, (h.1 c _ (mem_uc main_v3_3 (by decide))).trans (end3 m g c).v,
      (h.1 c _ (mem_uc main_v4_0 (by decide))).trans (end4 m g c).g, (h.1 c _ (mem_uc main_v4_1 (by decide))).trans (end4 m g c).d, (h.1 c _ (mem_uc main_v4_2 (by decide))).trans (end4 m g c).m, (h.1 c _ (mem_uc main_v4_3 (by decide))).trans (end4 m g c).v,
      (h.1 c _ (mem_uc main_v5_0 (by decide))).trans (end5 m g c).g, (h.1 c _ (mem_uc main_v5_1 (by decide))).trans (end5 m g c).d, (h.1 c _ (mem_uc main_v5_2 (by decide))).trans (end5 m g c).m, (h.1 c _ (mem_uc main_v5_3 (by decide))).trans (end5 m g c).v,
      (h.1 c _ (mem_uc main_v6_0 (by decide))).trans (end6 m g c).g, (h.1 c _ (mem_uc main_v6_1 (by decide))).trans (end6 m g c).d, (h.1 c _ (mem_uc main_v6_2 (by decide))).trans (end6 m g c).m, (h.1 c _ (mem_uc main_v6_3 (by decide))).trans (end6 m g c).v,
      by and_intros <;> exact (h.1 c _ (mem_uc _ (by decide))).trans (W7_args m g c _ (by decide))⟩
  · obtain ⟨A0, A1, A2, A3, A4, A5, A6, A7, A8, A9, A10, A11, A12, A13, A14, A15, A16, A17, A18, A19, A20, A21, A22, A23, A24, A25, A26, A27⟩ := e c
    obtain ⟨E0, E1, E2, E3, E4, E5, E6, E7, E8, E9, E10, E11, E12, E13, E14, E15, E16, E17, E18, E19, E20, E21, E22, E23, E24, E25, E26, E27, E⟩ := h c
    let L := StableHlo.launchContents m' c
    have R0 := (Cert.Reference6Ideal.Hand.ref0 _ _ _ _).cast A1 A0 A2 A3 (E0.trans (val_main_v1_eq L)) (E1.trans (val_main_v25_eq L)) (E2.trans (val_main_v6_eq L)) (E3.trans (val_main_v12_eq L))
    have R1 := (Cert.Reference6Ideal.Hand.ref1 _ _ _ _).cast A5 A4 A6 A7 (E4.trans (val_main_v27_eq L)) (E5.trans (val_main_v51_eq L)) (E6.trans (val_main_v32_eq L)) (E7.trans (val_main_v38_eq L))
    have R2 := (Cert.Reference6Ideal.Hand.ref2 _ _ _ _).cast A9 A8 A10 A11 (E8.trans (val_main_v53_eq L)) (E9.trans (val_main_v77_eq L)) (E10.trans (val_main_v58_eq L)) (E11.trans (val_main_v64_eq L))
    have R3 := (Cert.Reference6Ideal.Hand.ref3 _ _ _ _).cast A13 A12 A14 A15 (E12.trans (val_main_v79_eq L)) (E13.trans (val_main_v103_eq L)) (E14.trans (val_main_v84_eq L)) (E15.trans (val_main_v90_eq L))
    have R4 := (Cert.Reference6Ideal.Hand.ref4 _ _ _ _).cast A17 A16 A18 A19 (E16.trans (val_main_v105_eq L)) (E17.trans (val_main_v129_eq L)) (E18.trans (val_main_v110_eq L)) (E19.trans (val_main_v116_eq L))
    have R5 := (Cert.Reference6Ideal.Hand.ref5 _ _ _ _).cast A21 A20 A22 A23 (E20.trans (val_main_v131_eq L)) (E21.trans (val_main_v155_eq L)) (E22.trans (val_main_v136_eq L)) (E23.trans (val_main_v142_eq L))
    have R6 := (Cert.Reference6Ideal.Hand.ref6 _ _ _ _).cast A25 A24 A26 A27 (E24.trans (val_main_v157_eq L)) (E25.trans (val_main_v181_eq L)) (E26.trans (val_main_v162_eq L)) (E27.trans (val_main_v168_eq L))
    exact ⟨R0.g, R0.d, R0.m, R0.v, R1.g, R1.d, R1.m, R1.v, R2.g, R2.d, R2.m, R2.v, R3.g, R3.d, R3.m, R3.v, R4.g, R4.d, R4.m, R4.v, R5.g, R5.d, R5.m, R5.v, R6.g, R6.d, R6.m, R6.v, E⟩

end Cert.Kernel6Ideal.Hand

end
-- ==== Proof.Adam.More.Run.lean ====
module

public import proofs.«01_k».proof.Proof.Gen.Kernel7Ideal.Frame

@[expose] public section

set_option maxRecDepth 16384

/-!
# The run of six calls of AdamW

Six calls, one after the other. In the end every array holds what the last boundary's
contents say of it, and every counter is at zero.
-/

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F] (m : (ℓ : Loc nD τ sig) → Buf (Elt F) ℓ) (ρ : Dev nD → PrngReg)

/-- The assertions of the launch. -/
abbrev Res (F : FTy → Type) [FloatOps F] := MT nD τ sig Unit (Elt F) ℕ (UR sig nD τ) ℕ

/-- Owning nothing on each device is owning nothing. -/
theorem none_each : (BI.emp : sProp (Res F)) ⊢ bigSep Finset.univ (fun _ : Dev nD => (BI.emp : sProp (Res F))) := by
  rw [BI.bigSep_emp_const]

/-- The tokens the calls' buffers start from, as the launch has them. -/
theorem tokens : (ownU (initOf (Pipeline.cells cfgs cellOf_inj) (Pipeline.launchToks cfgs cellOf_inj)) : sProp (Res F))
    ⊢ BI.own (emb₁ (initOf (Pipeline.cells cfgs cellOf_inj) (Pipeline.launchToks cfgs cellOf_inj))) := .rfl

set_option backward.isDefEq.respectTransparency.types false in
/-- Every run ends, with the last boundary's contents in every array and every counter at zero. -/
theorem run_end : θ_run defs (onTc (τ := τ) (main (F := F))) ⟨m, fun _ => 0, ρ⟩ fun r =>
    (∀ c : Dev nD, ∀ b ∈ Pipeline.ucRefs τ sig, r.2.mem (((c : Thread nD τ)).1, b) = W6 m ρ c b) ∧ r.2.sem = fun _ => 0 :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (tokens (F := F))
        iexact Hu
      iapply (none_each (F := F))
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h hz => ⟨h, funext fun g => hz g (.inr (no_unscoped g.2))⟩)

end Cert.Kernel7Ideal.Hand

end
-- ==== Proof.Adam.More.Frames.lean ====
module

public import proofs.«01_k».proof.Defs
public import proofs.«01_k».proof.Proof.Adam.More.Run
public import proofs.«01_k».proof.Proof.Gen.Kernel7.Frame
public import proofs.«01_k».proof.Proof.Gen.Reference7Ideal.Run
public import Idealize.ShloMosaic.Lib.Claim
public import Idealize.ShloMosaic.Lib.Quiescent

@[expose] public section

set_option maxRecDepth 16384

/-!
# The frames of AdamW

Over floats and over the extended reals the six calls run one after the other and leave the arguments alone; so does
the reference.
-/

noncomputable section

namespace Cert.Kernel7Ideal.Hand

open Idealize.SL.Sem
open Idealize.ShloMosaic Idealize.ShloMosaic.TcCoe

/-- The calls over floats end with the arguments unchanged and every counter at zero. -/
theorem frame_adam_more : Cert.quiescent_Kernel7 := fun m ρ _ => Cert.Kernel7.Gen.frame m ρ

/-- The same over the extended reals. -/
theorem frame_adam_more_ideal : Cert.quiescent_Kernel7Ideal := fun m ρ _ =>
  (θ_run Cert.Kernel7Ideal.defs _ _).mono (fun _ h => ⟨fun c => by
      and_intros <;> exact (h.1 c _ (Gen.mem_uc _ (by decide))).trans (Gen.W6_args m ρ c _ (by decide)), h.2⟩)
    (run_end (F := Ideal) m ρ)

/-- The reference over the extended reals ends with its arguments unchanged and every counter at zero. -/
theorem frame_adam_more_reference : Cert.quiescent_Reference7Ideal := fun m ρ _ =>
  (θ_run Cert.Reference7Ideal.defs _ _).mono (fun r h => ⟨fun c => (h c).2.2.2.2.2.2.2.2.2.2.2.2.2.2.2.2.2.2.2.2.2.2.2.2, sem_eq_zero_of_no_sems rfl r.2⟩)
    (Cert.Reference7Ideal.Value.run (F := Ideal) m ρ)

end Cert.Kernel7Ideal.Hand

end
-- ==== Proof.Adam.More.Down.lean ====
module

public import proofs.«01_k».proof.Proof.Adam.Math
public import proofs.«01_k».proof.Proof.Gen.Kernel7Ideal.Frame
public import Idealize.ShloMosaic.Lib.Pipeline.ValueKit
public import Idealize.ShloMosaic.Lib.Pointwise

@[expose] public section

set_option maxRecDepth 16384

/-!
# AdamW's calls: the weight down of the dense layer

A point of a call takes some rows of a weight, of its means and of the parts of its gradient, and writes those rows of the
four results.
-/

noncomputable section

namespace Cert.Kernel7Ideal.Hand

open Cert.Kernel7Ideal Cert.Kernel7Ideal.Gen Cert.Adam Finset
open Idealize.ShloMosaic Idealize.ShloMosaic.TcCoe

variable {V : (c : Dev nD) → (b : Ref sig .tc) → Buf (Elt Ideal) ((c : Thread nD τ).loc b)} {c : Dev nD}

/-! ## Call 0: the weight down of the dense layer -/

section Call0

/-- Where the points' blocks lie. -/
theorem places0 : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

variable (r : Fin 176) (l : Fin 1024) (t : Fin cfg0.N)

/-- A point's row in the arrays. -/
abbrev row0 : Fin 1408 := ⟨176 * t.val + r.val, by have : t.val < 8 := t.isLt; omega⟩

/-- What a point's blocks hold. -/
theorem blocks0 : iblk0 V c 0 t (ix2 r l) = V c main_arg0 (ix2 (row0 r t) l) ∧ iblk0 V c 2 t (ix2 r l) = V c main_arg2 (ix2 (row0 r t) l)
    ∧ iblk0 V c 3 t (ix2 r l) = V c main_arg3 (ix2 (row0 r t) l) ∧ ∀ k : Fin 4, iblk0 V c 1 t (ix3 k r l) = V c main_arg1 (ix3 k (row0 r t) l) := by
  and_intros <;> intros <;> blk_ext [iblk0, places0 t]

set_option maxHeartbeats 3200000 in
/-- The arrays in the end. -/
theorem arr0 : Results (n := 4) (R := 1408) (C := 1024) (V c main_arg1) (V c main_arg0) (V c main_arg2) (V c main_arg3)
    ((dat0 V c).arrAt 4 cfg0.N) ((dat0 V c).arrAt 5 cfg0.N) ((dat0 V c).arrAt 6 cfg0.N) ((dat0 V c).arrAt 7 cfg0.N) := by
  constructor <;> refine (dat0 V c).arrAt_eq_of_covers _ _ (by decide +kernel) fun t _ y => ?_ <;>
  (obtain ⟨r, l, rfl⟩ : ∃ (r : Fin 176) (l : Fin 1024), y = ix2 r l := ⟨y 0, y 1, eq_ix2 y⟩
   blk_simp
   obtain ⟨hw, ha, hb, hp⟩ := blocks0 (V := V) (c := c) r l t)
  · rw [after0_4, show (win0_4.blk t).view.emb (ix2 r l) = ix2 (row0 r t) l by blk_ext [places0 t], grad_four, ← hp, ← hp, ← hp, ← hp]
    frame_out
    pointwise [k0_pay2, r0_0, r0_1, r0_2, r0_3]
  · rw [after0_5, show (win0_5.blk t).view.emb (ix2 r l) = ix2 (row0 r t) l by blk_ext [places0 t], deltas, grad_four, ← hw, ← ha, ← hb, ← hp, ← hp, ← hp, ← hp]
    frame_out
    pointwise [k0_pay1, k0_pay5, k0_pay6, k0_pay2, k0_pay3, k0_pay4, r0_0, r0_1, r0_2, r0_3]
    rfl
  · rw [after0_6, show (win0_6.blk t).view.emb (ix2 r l) = ix2 (row0 r t) l by blk_ext [places0 t], means, grad_four, ← ha, ← hp, ← hp, ← hp, ← hp]
    frame_out
    pointwise [k0_pay3, k0_pay2, r0_0, r0_1, r0_2, r0_3]
    rfl
  · rw [after0_7, show (win0_7.blk t).view.emb (ix2 r l) = ix2 (row0 r t) l by blk_ext [places0 t], squares, grad_four, ← hb, ← hp, ← hp, ← hp, ← hp]
    frame_out
    pointwise [k0_pay4, k0_pay2, r0_0, r0_1, r0_2, r0_3]
    rfl

end Call0

end Cert.Kernel7Ideal.Hand

end
-- ==== Proof.Adam.More.Pool.lean ====
module

public import proofs.«01_k».proof.Proof.Adam.Math
public import proofs.«01_k».proof.Proof.Gen.Kernel7Ideal.Frame
public import Idealize.ShloMosaic.Lib.Pipeline.ValueKit
public import Idealize.ShloMosaic.Lib.Pointwise

@[expose] public section

set_option maxRecDepth 16384

/-!
# AdamW's calls: the pooling weight, the meta rows

A point of a call takes some rows of a weight, of its means and of the parts of its gradient, and writes those rows of the
four results.
-/

noncomputable section

namespace Cert.Kernel7Ideal.Hand

open Cert.Kernel7Ideal Cert.Kernel7Ideal.Gen Cert.Adam Finset
open Idealize.ShloMosaic Idealize.ShloMosaic.TcCoe

variable {V : (c : Dev nD) → (b : Ref sig .tc) → Buf (Elt Ideal) ((c : Thread nD τ).loc b)} {c : Dev nD}

/-! ## Call 1: the pooling weight -/

section Call1

/-- Where the points' blocks lie. -/
theorem places1 : ∀ t : Fin cfg1.N, win1_0.index t = ![t.val, 0] ∧ win1_1.index t = ![0, t.val, 0] ∧ win1_2.index t = ![t.val, 0] ∧ win1_3.index t = ![t.val, 0] ∧ win1_4.index t = ![t.val, 0] ∧ win1_5.index t = ![t.val, 0] ∧ win1_6.index t = ![t.val, 0] ∧ win1_7.index t = ![t.val, 0] := by
  decide +kernel

variable (r : Fin 64) (l : Fin 256) (t : Fin cfg1.N)

/-- A point's row in the arrays. -/
abbrev row1 : Fin 128 := ⟨64 * t.val + r.val, by have : t.val < 2 := t.isLt; omega⟩

/-- What a point's blocks hold. -/
theorem blocks1 : iblk1 V c 0 t (ix2 r l) = V c main_arg4 (ix2 (row1 r t) l) ∧ iblk1 V c 2 t (ix2 r l) = V c main_arg6 (ix2 (row1 r t) l)
    ∧ iblk1 V c 3 t (ix2 r l) = V c main_arg7 (ix2 (row1 r t) l) ∧ ∀ k : Fin 4, iblk1 V c 1 t (ix3 k r l) = V c main_arg5 (ix3 k (row1 r t) l) := by
  and_intros <;> intros <;> blk_ext [iblk1, places1 t]

set_option maxHeartbeats 3200000 in
/-- The arrays in the end. -/
theorem arr1 : Results (n := 4) (R := 128) (C := 256) (V c main_arg5) (V c main_arg4) (V c main_arg6) (V c main_arg7)
    ((dat1 V c).arrAt 4 cfg1.N) ((dat1 V c).arrAt 5 cfg1.N) ((dat1 V c).arrAt 6 cfg1.N) ((dat1 V c).arrAt 7 cfg1.N) := by
  constructor <;> refine (dat1 V c).arrAt_eq_of_covers _ _ (by decide +kernel) fun t _ y => ?_ <;>
  (obtain ⟨r, l, rfl⟩ : ∃ (r : Fin 64) (l : Fin 256), y = ix2 r l := ⟨y 0, y 1, eq_ix2 y⟩
   blk_simp
   obtain ⟨hw, ha, hb, hp⟩ := blocks1 (V := V) (c := c) r l t)
  · rw [after1_4, show (win1_4.blk t).view.emb (ix2 r l) = ix2 (row1 r t) l by blk_ext [places1 t], grad_four, ← hp, ← hp, ← hp, ← hp]
    frame_out
    pointwise [k1_pay2, r1_0, r1_1, r1_2, r1_3]
  · rw [after1_5, show (win1_5.blk t).view.emb (ix2 r l) = ix2 (row1 r t) l by blk_ext [places1 t], deltas, grad_four, ← hw, ← ha, ← hb, ← hp, ← hp, ← hp, ← hp]
    frame_out
    pointwise [k1_pay1, k1_pay5, k1_pay6, k1_pay2, k1_pay3, k1_pay4, r1_0, r1_1, r1_2, r1_3]
    rfl
  · rw [after1_6, show (win1_6.blk t).view.emb (ix2 r l) = ix2 (row1 r t) l by blk_ext [places1 t], means, grad_four, ← ha, ← hp, ← hp, ← hp, ← hp]
    frame_out
    pointwise [k1_pay3, k1_pay2, r1_0, r1_1, r1_2, r1_3]
    rfl
  · rw [after1_7, show (win1_7.blk t).view.emb (ix2 r l) = ix2 (row1 r t) l by blk_ext [places1 t], squares, grad_four, ← hb, ← hp, ← hp, ← hp, ← hp]
    frame_out
    pointwise [k1_pay4, k1_pay2, r1_0, r1_1, r1_2, r1_3]
    rfl

end Call1

/-! ## Call 2: the meta rows -/

section Call2

/-- Where the points' blocks lie. -/
theorem places2 : ∀ t : Fin cfg2.N, win2_0.index t = ![t.val, 0] ∧ win2_1.index t = ![0, t.val, 0] ∧ win2_2.index t = ![t.val, 0] ∧ win2_3.index t = ![t.val, 0] ∧ win2_4.index t = ![t.val, 0] ∧ win2_5.index t = ![t.val, 0] ∧ win2_6.index t = ![t.val, 0] ∧ win2_7.index t = ![t.val, 0] := by
  decide +kernel

variable (r : Fin 8) (l : Fin 128) (t : Fin cfg2.N)

/-- A point's row in the arrays. -/
abbrev row2 : Fin 16 := ⟨8 * t.val + r.val, by have : t.val < 2 := t.isLt; omega⟩

/-- What a point's blocks hold. -/
theorem blocks2 : iblk2 V c 0 t (ix2 r l) = V c main_arg8 (ix2 (row2 r t) l) ∧ iblk2 V c 2 t (ix2 r l) = V c main_arg10 (ix2 (row2 r t) l)
    ∧ iblk2 V c 3 t (ix2 r l) = V c main_arg11 (ix2 (row2 r t) l) ∧ ∀ k : Fin 4, iblk2 V c 1 t (ix3 k r l) = V c main_arg9 (ix3 k (row2 r t) l) := by
  and_intros <;> intros <;> blk_ext [iblk2, places2 t]

set_option maxHeartbeats 3200000 in
/-- The arrays in the end. -/
theorem arr2 : Results (n := 4) (R := 16) (C := 128) (V c main_arg9) (V c main_arg8) (V c main_arg10) (V c main_arg11)
    ((dat2 V c).arrAt 4 cfg2.N) ((dat2 V c).arrAt 5 cfg2.N) ((dat2 V c).arrAt 6 cfg2.N) ((dat2 V c).arrAt 7 cfg2.N) := by
  constructor <;> refine (dat2 V c).arrAt_eq_of_covers _ _ (by decide +kernel) fun t _ y => ?_ <;>
  (obtain ⟨r, l, rfl⟩ : ∃ (r : Fin 8) (l : Fin 128), y = ix2 r l := ⟨y 0, y 1, eq_ix2 y⟩
   blk_simp
   obtain ⟨hw, ha, hb, hp⟩ := blocks2 (V := V) (c := c) r l t)
  · rw [after2_4, show (win2_4.blk t).view.emb (ix2 r l) = ix2 (row2 r t) l by blk_ext [places2 t], grad_four, ← hp, ← hp, ← hp, ← hp]
    frame_out
    pointwise [k2_pay2, r2_0, r2_1, r2_2, r2_3]
  · rw [after2_5, show (win2_5.blk t).view.emb (ix2 r l) = ix2 (row2 r t) l by blk_ext [places2 t], deltas, grad_four, ← hw, ← ha, ← hb, ← hp, ← hp, ← hp, ← hp]
    frame_out
    pointwise [k2_pay1, k2_pay5, k2_pay2, k2_pay3, k2_pay4, r2_0, r2_1, r2_2, r2_3]
    rfl
  · rw [after2_6, show (win2_6.blk t).view.emb (ix2 r l) = ix2 (row2 r t) l by blk_ext [places2 t], means, grad_four, ← ha, ← hp, ← hp, ← hp, ← hp]
    frame_out
    pointwise [k2_pay3, k2_pay2, r2_0, r2_1, r2_2, r2_3]
    rfl
  · rw [after2_7, show (win2_7.blk t).view.emb (ix2 r l) = ix2 (row2 r t) l by blk_ext [places2 t], squares, grad_four, ← hb, ← hp, ← hp, ← hp, ← hp]
    frame_out
    pointwise [k2_pay4, k2_pay2, r2_0, r2_1, r2_2, r2_3]
    rfl

end Call2

end Cert.Kernel7Ideal.Hand

end
-- ==== Proof.Adam.More.Gains.lean ====
module

public import proofs.«01_k».proof.Proof.Adam.Math
public import proofs.«01_k».proof.Proof.Gen.Kernel7Ideal.Frame
public import Idealize.ShloMosaic.Lib.Pipeline.ValueKit
public import Idealize.ShloMosaic.Lib.Pointwise

@[expose] public section

set_option maxRecDepth 16384

/-!
# AdamW's calls: a gain of 48 numbers, a gain of 32 numbers

A point of a call takes some rows of a weight, of its means and of the parts of its gradient, and writes those rows of the
four results.
-/

noncomputable section

namespace Cert.Kernel7Ideal.Hand

open Cert.Kernel7Ideal Cert.Kernel7Ideal.Gen Cert.Adam Finset
open Idealize.ShloMosaic Idealize.ShloMosaic.TcCoe

variable {V : (c : Dev nD) → (b : Ref sig .tc) → Buf (Elt Ideal) ((c : Thread nD τ).loc b)} {c : Dev nD}

/-! ## Call 3: a gain of 48 numbers -/

section Call3

/-- Where the points' blocks lie. -/
theorem places3 : ∀ t : Fin cfg3.N, win3_0.index t = ![t.val, 0] ∧ win3_1.index t = ![0, t.val, 0] ∧ win3_2.index t = ![t.val, 0] ∧ win3_3.index t = ![t.val, 0] ∧ win3_4.index t = ![t.val, 0] ∧ win3_5.index t = ![t.val, 0] ∧ win3_6.index t = ![t.val, 0] ∧ win3_7.index t = ![t.val, 0] := by
  decide +kernel

variable (r : Fin 1) (l : Fin 48) (t : Fin cfg3.N)

/-- A point's row in the arrays. -/
abbrev row3 : Fin 1 := ⟨1 * t.val + r.val, by have : t.val < 1 := t.isLt; omega⟩

/-- What a point's blocks hold. -/
theorem blocks3 : iblk3 V c 0 t (ix2 r l) = V c main_arg12 (ix2 (row3 r t) l) ∧ iblk3 V c 2 t (ix2 r l) = V c main_arg14 (ix2 (row3 r t) l)
    ∧ iblk3 V c 3 t (ix2 r l) = V c main_arg15 (ix2 (row3 r t) l) ∧ ∀ k : Fin 4, iblk3 V c 1 t (ix3 k r l) = V c main_arg13 (ix3 k (row3 r t) l) := by
  and_intros <;> intros <;> blk_ext [iblk3, places3 t]

set_option maxHeartbeats 3200000 in
/-- The arrays in the end. -/
theorem arr3 : Results (n := 4) (R := 1) (C := 48) (V c main_arg13) (V c main_arg12) (V c main_arg14) (V c main_arg15)
    ((dat3 V c).arrAt 4 cfg3.N) ((dat3 V c).arrAt 5 cfg3.N) ((dat3 V c).arrAt 6 cfg3.N) ((dat3 V c).arrAt 7 cfg3.N) := by
  constructor <;> refine (dat3 V c).arrAt_eq_of_covers _ _ (by decide +kernel) fun t _ y => ?_ <;>
  (obtain ⟨r, l, rfl⟩ : ∃ (r : Fin 1) (l : Fin 48), y = ix2 r l := ⟨y 0, y 1, eq_ix2 y⟩
   blk_simp
   obtain ⟨hw, ha, hb, hp⟩ := blocks3 (V := V) (c := c) r l t)
  · rw [after3_4, show (win3_4.blk t).view.emb (ix2 r l) = ix2 (row3 r t) l by blk_ext [places3 t], grad_four, ← hp, ← hp, ← hp, ← hp, Subsingleton.elim r 0]
    frame_out
    pointwise [k3_pay2, r3_0, r3_1, r3_2, r3_3]
  · rw [after3_5, show (win3_5.blk t).view.emb (ix2 r l) = ix2 (row3 r t) l by blk_ext [places3 t], deltas, grad_four, ← hw, ← ha, ← hb, ← hp, ← hp, ← hp, ← hp, Subsingleton.elim r 0]
    frame_out
    pointwise [k3_pay1, k3_pay5, k3_pay2, k3_pay3, k3_pay4, r3_0, r3_1, r3_2, r3_3]
    rfl
  · rw [after3_6, show (win3_6.blk t).view.emb (ix2 r l) = ix2 (row3 r t) l by blk_ext [places3 t], means, grad_four, ← ha, ← hp, ← hp, ← hp, ← hp, Subsingleton.elim r 0]
    frame_out
    pointwise [k3_pay3, k3_pay2, r3_0, r3_1, r3_2, r3_3]
    rfl
  · rw [after3_7, show (win3_7.blk t).view.emb (ix2 r l) = ix2 (row3 r t) l by blk_ext [places3 t], squares, grad_four, ← hb, ← hp, ← hp, ← hp, ← hp, Subsingleton.elim r 0]
    frame_out
    pointwise [k3_pay4, k3_pay2, r3_0, r3_1, r3_2, r3_3]
    rfl

end Call3

/-! ## Call 4: a gain of 32 numbers -/

section Call4

/-- Where the points' blocks lie. -/
theorem places4 : ∀ t : Fin cfg4.N, win4_0.index t = ![t.val, 0] ∧ win4_1.index t = ![0, t.val, 0] ∧ win4_2.index t = ![t.val, 0] ∧ win4_3.index t = ![t.val, 0] ∧ win4_4.index t = ![t.val, 0] ∧ win4_5.index t = ![t.val, 0] ∧ win4_6.index t = ![t.val, 0] ∧ win4_7.index t = ![t.val, 0] := by
  decide +kernel

variable (r : Fin 1) (l : Fin 32) (t : Fin cfg4.N)

/-- A point's row in the arrays. -/
abbrev row4 : Fin 1 := ⟨1 * t.val + r.val, by have : t.val < 1 := t.isLt; omega⟩

/-- What a point's blocks hold. -/
theorem blocks4 : iblk4 V c 0 t (ix2 r l) = V c main_arg16 (ix2 (row4 r t) l) ∧ iblk4 V c 2 t (ix2 r l) = V c main_arg18 (ix2 (row4 r t) l)
    ∧ iblk4 V c 3 t (ix2 r l) = V c main_arg19 (ix2 (row4 r t) l) ∧ ∀ k : Fin 4, iblk4 V c 1 t (ix3 k r l) = V c main_arg17 (ix3 k (row4 r t) l) := by
  and_intros <;> intros <;> blk_ext [iblk4, places4 t]

set_option maxHeartbeats 3200000 in
/-- The arrays in the end. -/
theorem arr4 : Results (n := 4) (R := 1) (C := 32) (V c main_arg17) (V c main_arg16) (V c main_arg18) (V c main_arg19)
    ((dat4 V c).arrAt 4 cfg4.N) ((dat4 V c).arrAt 5 cfg4.N) ((dat4 V c).arrAt 6 cfg4.N) ((dat4 V c).arrAt 7 cfg4.N) := by
  constructor <;> refine (dat4 V c).arrAt_eq_of_covers _ _ (by decide +kernel) fun t _ y => ?_ <;>
  (obtain ⟨r, l, rfl⟩ : ∃ (r : Fin 1) (l : Fin 32), y = ix2 r l := ⟨y 0, y 1, eq_ix2 y⟩
   blk_simp
   obtain ⟨hw, ha, hb, hp⟩ := blocks4 (V := V) (c := c) r l t)
  · rw [after4_4, show (win4_4.blk t).view.emb (ix2 r l) = ix2 (row4 r t) l by blk_ext [places4 t], grad_four, ← hp, ← hp, ← hp, ← hp, Subsingleton.elim r 0]
    frame_out
    pointwise [k4_pay2, r4_0, r4_1, r4_2, r4_3]
  · rw [after4_5, show (win4_5.blk t).view.emb (ix2 r l) = ix2 (row4 r t) l by blk_ext [places4 t], deltas, grad_four, ← hw, ← ha, ← hb, ← hp, ← hp, ← hp, ← hp, Subsingleton.elim r 0]
    frame_out
    pointwise [k4_pay1, k4_pay5, k4_pay2, k4_pay3, k4_pay4, r4_0, r4_1, r4_2, r4_3]
    rfl
  · rw [after4_6, show (win4_6.blk t).view.emb (ix2 r l) = ix2 (row4 r t) l by blk_ext [places4 t], means, grad_four, ← ha, ← hp, ← hp, ← hp, ← hp, Subsingleton.elim r 0]
    frame_out
    pointwise [k4_pay3, k4_pay2, r4_0, r4_1, r4_2, r4_3]
    rfl
  · rw [after4_7, show (win4_7.blk t).view.emb (ix2 r l) = ix2 (row4 r t) l by blk_ext [places4 t], squares, grad_four, ← hb, ← hp, ← hp, ← hp, ← hp, Subsingleton.elim r 0]
    frame_out
    pointwise [k4_pay4, k4_pay2, r4_0, r4_1, r4_2, r4_3]
    rfl

end Call4

end Cert.Kernel7Ideal.Hand

end
-- ==== Proof.Adam.More.Packed.lean ====
module

public import proofs.«01_k».proof.Proof.Adam.Math
public import proofs.«01_k».proof.Proof.Gen.Kernel7Ideal.Frame
public import Idealize.ShloMosaic.Lib.Pipeline.ValueKit
public import Idealize.ShloMosaic.Lib.Pointwise

@[expose] public section

set_option maxRecDepth 16384

/-!
# AdamW's calls: the packed replicated arrays

A point of a call takes some rows of a weight, of its means and of the parts of its gradient, and writes those rows of the
four results.
-/

noncomputable section

namespace Cert.Kernel7Ideal.Hand

open Cert.Kernel7Ideal Cert.Kernel7Ideal.Gen Cert.Adam Finset
open Idealize.ShloMosaic Idealize.ShloMosaic.TcCoe

/-! ## Call 5: the packed replicated arrays -/

section Call5

variable (W M S : Vec Ideal S8x1024 .f32) (A B C D E G H K : Vec Ideal S1x8x1024 .f32) (X : Vec Ideal S8x8x1024 .f32) (r : Fin 8) (l : Fin 1024)

/-- The sum of the parts, -/
theorem g5 : k5_pay3 A B C D E G H K (ix2 r l) = A (ix3 0 r l) + B (ix3 0 r l) + C (ix3 0 r l) + D (ix3 0 r l) + E (ix3 0 r l) + G (ix3 0 r l) + H (ix3 0 r l) + K (ix3 0 r l) := by pointwise [k5_pay3]

/-- read from a block, -/
theorem sum5 : k5_pay3 (View.ld X r5_0) (View.ld X r5_1) (View.ld X r5_2) (View.ld X r5_3) (View.ld X r5_4) (View.ld X r5_5) (View.ld X r5_6) (View.ld X r5_7) (ix2 r l) = ∑ k : Fin 8, X (ix3 k r l) := by
  rw [g5, Fin.sum_univ_eight]
  pointwise [r5_0, r5_1, r5_2, r5_3, r5_4, r5_5, r5_6, r5_7]

/-- the new mean, -/
theorem m5 : k5_pay4 A B C D E G H K M (ix2 r l) = newMean (M (ix2 r l)) (k5_pay3 A B C D E G H K (ix2 r l)) := by
  pointwise [k5_pay4]
  rfl

/-- a block read whole, -/
theorem whole5 : View.ld W r5_8 (ix2 r l) = W (ix2 r l) := by pointwise [r5_8]

/-- the new mean of the squares, from the gradient, -/
theorem s5 (Y : Vec Ideal S8x1024 .f32) : k5_pay1 Y S (ix2 r l) = newSquare (S (ix2 r l)) (Y (ix2 r l)) := by
  pointwise [k5_pay1]
  rfl

/-- and the weight's change, from the gradient and the new mean. -/
theorem d5 (Y Z : Vec Ideal S8x1024 .f32) (hZ : Z (ix2 r l) = newMean (M (ix2 r l)) (Y (ix2 r l))) : k5_pay2 Y Z S W (ix2 r l)
    = delta (W (ix2 r l)) (M (ix2 r l)) (S (ix2 r l)) (Y (ix2 r l)) := by
  pointwise [k5_pay2]
  rw [hZ]
  rfl

/-- Where the points' blocks lie. -/
theorem places5 : ∀ t : Fin cfg5.N, win5_0.index t = ![t.val, 0] ∧ win5_1.index t = ![0, t.val, 0] ∧ win5_2.index t = ![t.val, 0] ∧ win5_3.index t = ![t.val, 0] ∧ win5_4.index t = ![t.val, 0] ∧ win5_5.index t = ![t.val, 0] ∧ win5_6.index t = ![t.val, 0] ∧ win5_7.index t = ![t.val, 0] := by
  decide +kernel

/-- There are 2 points. -/
theorem lt5 (t : Fin cfg5.N) : t.val < 2 := t.isLt

variable {V : (c : Dev nD) → (b : Ref sig .tc) → Buf (Elt Ideal) ((c : Thread nD τ).loc b)} {c : Dev nD} (t : Fin cfg5.N)

/-- A point's row in the arrays. -/
abbrev row5 : Fin 16 := ⟨8 * t.val + r.val, by have := lt5 t; omega⟩

/-- What a point's blocks hold. -/
theorem blocks5 : iblk5 V c 0 t (ix2 r l) = V c main_arg20 (ix2 (row5 r t) l) ∧ iblk5 V c 2 t (ix2 r l) = V c main_arg22 (ix2 (row5 r t) l)
    ∧ iblk5 V c 3 t (ix2 r l) = V c main_arg23 (ix2 (row5 r t) l) ∧ ∀ k : Fin 8, iblk5 V c 1 t (ix3 k r l) = V c main_arg21 (ix3 k (row5 r t) l) :=
  ⟨by blk_ext [iblk5, places5 t], by blk_ext [iblk5, places5 t], by blk_ext [iblk5, places5 t], fun k => by blk_ext [iblk5, places5 t]⟩

set_option maxHeartbeats 1600000 in
/-- The arrays in the end. -/
theorem arr5 : Results (n := 8) (R := 16) (C := 1024) (V c main_arg21) (V c main_arg20) (V c main_arg22) (V c main_arg23)
    ((dat5 V c).arrAt 4 cfg5.N) ((dat5 V c).arrAt 5 cfg5.N) ((dat5 V c).arrAt 6 cfg5.N) ((dat5 V c).arrAt 7 cfg5.N) := by
  refine ⟨(dat5 V c).arrAt_eq_of_covers 4 _ (by decide +kernel) fun t _ y => ?_, (dat5 V c).arrAt_eq_of_covers 5 _ (by decide +kernel) fun t _ y => ?_,
    (dat5 V c).arrAt_eq_of_covers 6 _ (by decide +kernel) fun t _ y => ?_, (dat5 V c).arrAt_eq_of_covers 7 _ (by decide +kernel) fun t _ y => ?_⟩ <;>
  (obtain ⟨r, l, rfl⟩ : ∃ (r : Fin 8) (l : Fin 1024), y = ix2 r l := ⟨y 0, y 1, eq_ix2 y⟩
   blk_simp
   obtain ⟨hw, ha, hb, hp⟩ := blocks5 (V := V) (c := c) r l t
   have hs := (sum5 (iblk5 V c 1 t) r l).trans (Finset.sum_congr rfl fun k _ => hp k))
  · rw [after5_4, show (win5_4.blk t).view.emb (ix2 r l) = ix2 (row5 r t) l by blk_ext [places5 t]]
    frame_out
    rw [k5_pay5]
    exact hs
  · rw [after5_5, show (win5_5.blk t).view.emb (ix2 r l) = ix2 (row5 r t) l by blk_ext [places5 t]]
    frame_out
    refine (d5 _ (iblk5 V c 2 t) _ r l _ _ (by rw [k5_pay6, m5, whole5, k5_pay5])).trans ?_
    rw [k5_pay5, hs]
    simp only [whole5, hw, ha, hb]
    rfl
  · rw [after5_6, show (win5_6.blk t).view.emb (ix2 r l) = ix2 (row5 r t) l by blk_ext [places5 t]]
    frame_out
    rw [k5_pay6, m5, whole5, hs, ha]
    rfl
  · rw [after5_7, show (win5_7.blk t).view.emb (ix2 r l) = ix2 (row5 r t) l by blk_ext [places5 t]]
    frame_out
    rw [s5, k5_pay5, hs]
    simp only [whole5, hb]
    rfl

end Call5

end Cert.Kernel7Ideal.Hand

end
-- ==== Proof.Adam.More.Ends.lean ====
module

public import proofs.«01_k».proof.Proof.Adam.More.Down
public import proofs.«01_k».proof.Proof.Adam.More.Pool
public import proofs.«01_k».proof.Proof.Adam.More.Gains
public import proofs.«01_k».proof.Proof.Adam.More.Packed
public import proofs.«01_k».proof.Proof.Adam.More.Run

@[expose] public section

set_option maxRecDepth 16384

/-!
# What AdamW's calls leave

A call's results stay as they are while the later calls run.
-/

noncomputable section

namespace Cert.Kernel7Ideal.Hand

open Cert.Kernel7Ideal Cert.Kernel7Ideal.Gen Cert.Adam
open Idealize.ShloMosaic Idealize.ShloMosaic.TcCoe

variable (m : (ℓ : Loc nD τ sig) → Buf (Elt Ideal) ℓ) (ρ : Dev nD → PrngReg) (c : Dev nD)

/-- What an array holds in the beginning, -/
abbrev first (b : Ref sig .tc) := m ((c : Thread nD τ).loc b)

/-- and in the end. -/
abbrev last (b : Ref sig .tc) := W6 m ρ c (Proc.devRef .tc b)

/-- The calls from 5 on don't write this array. -/
abbrev Spared5 (r : Ref sig .tc) : Prop := (∀ w : Fin cfg5.W, Pipeline.arrRef spec5 w = r → (cfg5.win w).isOut = false)

/-- Then it ends as call 5 finds it. -/
theorem spared5 (r : Ref sig .tc) (h : Spared5 r) : W6 m ρ c (Proc.devRef .tc r) = W5 m ρ c (Proc.devRef .tc r) :=
  W6_of m ρ c r h

/-- The calls from 4 on don't write this array. -/
abbrev Spared4 (r : Ref sig .tc) : Prop := (∀ w : Fin cfg4.W, Pipeline.arrRef spec4 w = r → (cfg4.win w).isOut = false) ∧ Spared5 r

/-- Then it ends as call 4 finds it. -/
theorem spared4 (r : Ref sig .tc) (h : Spared4 r) : W6 m ρ c (Proc.devRef .tc r) = W4 m ρ c (Proc.devRef .tc r) :=
  (spared5 m ρ c r h.2).trans (W5_of m ρ c r h.1)

/-- The calls from 3 on don't write this array. -/
abbrev Spared3 (r : Ref sig .tc) : Prop := (∀ w : Fin cfg3.W, Pipeline.arrRef spec3 w = r → (cfg3.win w).isOut = false) ∧ Spared4 r

/-- Then it ends as call 3 finds it. -/
theorem spared3 (r : Ref sig .tc) (h : Spared3 r) : W6 m ρ c (Proc.devRef .tc r) = W3 m ρ c (Proc.devRef .tc r) :=
  (spared4 m ρ c r h.2).trans (W4_of m ρ c r h.1)

/-- The calls from 2 on don't write this array. -/
abbrev Spared2 (r : Ref sig .tc) : Prop := (∀ w : Fin cfg2.W, Pipeline.arrRef spec2 w = r → (cfg2.win w).isOut = false) ∧ Spared3 r

/-- Then it ends as call 2 finds it. -/
theorem spared2 (r : Ref sig .tc) (h : Spared2 r) : W6 m ρ c (Proc.devRef .tc r) = W2 m ρ c (Proc.devRef .tc r) :=
  (spared3 m ρ c r h.2).trans (W3_of m ρ c r h.1)

/-- The calls from 1 on don't write this array. -/
abbrev Spared1 (r : Ref sig .tc) : Prop := (∀ w : Fin cfg1.W, Pipeline.arrRef spec1 w = r → (cfg1.win w).isOut = false) ∧ Spared2 r

/-- Then it ends as call 1 finds it. -/
theorem spared1 (r : Ref sig .tc) (h : Spared1 r) : W6 m ρ c (Proc.devRef .tc r) = W1 m ρ c (Proc.devRef .tc r) :=
  (spared2 m ρ c r h.2).trans (W2_of m ρ c r h.1)

/-- What call 0 leaves: the weight down of the dense layer. -/
theorem end0 : Results (n := 4) (R := 1408) (C := 1024) (first m c main_arg1) (first m c main_arg0) (first m c main_arg2) (first m c main_arg3)
    (last m ρ c main_v0_0) (last m ρ c main_v0_1) (last m ρ c main_v0_2) (last m ρ c main_v0_3) :=
  (arr0 (V := V0 m ρ) (c := c)).cast (W0_args m ρ c main_arg1 (by decide)) (W0_args m ρ c main_arg0 (by decide))
    (W0_args m ρ c main_arg2 (by decide)) (W0_args m ρ c main_arg3 (by decide))
    ((spared1 m ρ c main_v0_0 (by decide)).trans (W1_arr m ρ c 4))
    ((spared1 m ρ c main_v0_1 (by decide)).trans (W1_arr m ρ c 5))
    ((spared1 m ρ c main_v0_2 (by decide)).trans (W1_arr m ρ c 6))
    ((spared1 m ρ c main_v0_3 (by decide)).trans (W1_arr m ρ c 7))

/-- What call 1 leaves: the pooling weight. -/
theorem end1 : Results (n := 4) (R := 128) (C := 256) (first m c main_arg5) (first m c main_arg4) (first m c main_arg6) (first m c main_arg7)
    (last m ρ c main_v1_0) (last m ρ c main_v1_1) (last m ρ c main_v1_2) (last m ρ c main_v1_3) :=
  (arr1 (V := V1 m ρ) (c := c)).cast (W1_args m ρ c main_arg5 (by decide)) (W1_args m ρ c main_arg4 (by decide))
    (W1_args m ρ c main_arg6 (by decide)) (W1_args m ρ c main_arg7 (by decide))
    ((spared2 m ρ c main_v1_0 (by decide)).trans (W2_arr m ρ c 4))
    ((spared2 m ρ c main_v1_1 (by decide)).trans (W2_arr m ρ c 5))
    ((spared2 m ρ c main_v1_2 (by decide)).trans (W2_arr m ρ c 6))
    ((spared2 m ρ c main_v1_3 (by decide)).trans (W2_arr m ρ c 7))

/-- What call 2 leaves: the meta rows. -/
theorem end2 : Results (n := 4) (R := 16) (C := 128) (first m c main_arg9) (first m c main_arg8) (first m c main_arg10) (first m c main_arg11)
    (last m ρ c main_v2_0) (last m ρ c main_v2_1) (last m ρ c main_v2_2) (last m ρ c main_v2_3) :=
  (arr2 (V := V2 m ρ) (c := c)).cast (W2_args m ρ c main_arg9 (by decide)) (W2_args m ρ c main_arg8 (by decide))
    (W2_args m ρ c main_arg10 (by decide)) (W2_args m ρ c main_arg11 (by decide))
    ((spared3 m ρ c main_v2_0 (by decide)).trans (W3_arr m ρ c 4))
    ((spared3 m ρ c main_v2_1 (by decide)).trans (W3_arr m ρ c 5))
    ((spared3 m ρ c main_v2_2 (by decide)).trans (W3_arr m ρ c 6))
    ((spared3 m ρ c main_v2_3 (by decide)).trans (W3_arr m ρ c 7))

/-- What call 3 leaves: a gain of 48 numbers. -/
theorem end3 : Results (n := 4) (R := 1) (C := 48) (first m c main_arg13) (first m c main_arg12) (first m c main_arg14) (first m c main_arg15)
    (last m ρ c main_v3_0) (last m ρ c main_v3_1) (last m ρ c main_v3_2) (last m ρ c main_v3_3) :=
  (arr3 (V := V3 m ρ) (c := c)).cast (W3_args m ρ c main_arg13 (by decide)) (W3_args m ρ c main_arg12 (by decide))
    (W3_args m ρ c main_arg14 (by decide)) (W3_args m ρ c main_arg15 (by decide))
    ((spared4 m ρ c main_v3_0 (by decide)).trans (W4_arr m ρ c 4))
    ((spared4 m ρ c main_v3_1 (by decide)).trans (W4_arr m ρ c 5))
    ((spared4 m ρ c main_v3_2 (by decide)).trans (W4_arr m ρ c 6))
    ((spared4 m ρ c main_v3_3 (by decide)).trans (W4_arr m ρ c 7))

/-- What call 4 leaves: a gain of 32 numbers. -/
theorem end4 : Results (n := 4) (R := 1) (C := 32) (first m c main_arg17) (first m c main_arg16) (first m c main_arg18) (first m c main_arg19)
    (last m ρ c main_v4_0) (last m ρ c main_v4_1) (last m ρ c main_v4_2) (last m ρ c main_v4_3) :=
  (arr4 (V := V4 m ρ) (c := c)).cast (W4_args m ρ c main_arg17 (by decide)) (W4_args m ρ c main_arg16 (by decide))
    (W4_args m ρ c main_arg18 (by decide)) (W4_args m ρ c main_arg19 (by decide))
    ((spared5 m ρ c main_v4_0 (by decide)).trans (W5_arr m ρ c 4))
    ((spared5 m ρ c main_v4_1 (by decide)).trans (W5_arr m ρ c 5))
    ((spared5 m ρ c main_v4_2 (by decide)).trans (W5_arr m ρ c 6))
    ((spared5 m ρ c main_v4_3 (by decide)).trans (W5_arr m ρ c 7))

/-- What call 5 leaves: the packed replicated arrays. -/
theorem end5 : Results (n := 8) (R := 16) (C := 1024) (first m c main_arg21) (first m c main_arg20) (first m c main_arg22) (first m c main_arg23)
    (last m ρ c main_v5_0) (last m ρ c main_v5_1) (last m ρ c main_v5_2) (last m ρ c main_v5_3) :=
  (arr5 (V := V5 m ρ) (c := c)).cast (W5_args m ρ c main_arg21 (by decide)) (W5_args m ρ c main_arg20 (by decide))
    (W5_args m ρ c main_arg22 (by decide)) (W5_args m ρ c main_arg23 (by decide))
    (W6_arr m ρ c 4)
    (W6_arr m ρ c 5)
    (W6_arr m ρ c 6)
    (W6_arr m ρ c 7)

end Cert.Kernel7Ideal.Hand

end
-- ==== Proof.Adam.More.Ref.lean ====
module

public import proofs.«01_k».proof.Proof.Adam.Math
public import proofs.«01_k».proof.Proof.Gen.Reference7Ideal.Read
public import Idealize.ShloMosaic.Lib.Pointwise

@[expose] public section

set_option maxRecDepth 16384

/-!
# What the reference of AdamW computes

Each weight's results are the sum of the parts and the three functions of it.
-/

noncomputable section

namespace Cert.Reference7Ideal.Hand

open Cert.Reference7Ideal Cert.Reference7Ideal.Gen Cert.Reference7Ideal.Read Cert.Adam Finset
open Idealize.ShloMosaic Idealize.ShloMosaic.TcCoe

/-- The results of the weight down of the dense layer. -/
theorem ref0 (x0 x2 x3 : Vec Ideal S1408x1024 .f32) (x1 : Vec Ideal S4x1408x1024 .bf16) : Results (n := 4) (R := 1408) (C := 1024) x1 x0 x2 x3
    (val_main_v1 x1) (val_main_v25 x0 x1 x2 x3) (val_main_v6 x1 x2) (val_main_v12 x1 x3) := by
  have g : val_main_v1 (F := Ideal) x1 = grad (n := 4) (R := 1408) (C := 1024) x1 := funext fun y => by
    rw [eq_ix2 y]
    pointwise [val_main_v1, val_main_v0, val_main_cst]
    rfl
  have m : val_main_v6 (F := Ideal) x1 x2 = means x1 x2 := funext fun y => by
    rw [eq_ix2 y]
    pointwise [val_main_v2, val_main_v3, val_main_v4, val_main_v5, val_main_v6, val_main_cst_0, val_main_cst_1]
    rw [g]
    rfl
  have s : val_main_v12 (F := Ideal) x1 x3 = squares x1 x3 := funext fun y => by
    rw [eq_ix2 y]
    pointwise [val_main_v7, val_main_v8, val_main_v9, val_main_v10, val_main_v11, val_main_v12, val_main_cst_2, val_main_cst_3]
    rw [g]
    rfl
  refine ⟨g, funext fun y => ?_, m, s⟩
  rw [eq_ix2 y]
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]
  rw [m, s]
  rfl

/-- The results of the pooling weight. -/
theorem ref1 (x0 x2 x3 : Vec Ideal S128x256 .f32) (x1 : Vec Ideal S4x128x256 .bf16) : Results (n := 4) (R := 128) (C := 256) x1 x0 x2 x3
    (val_main_v27 x1) (val_main_v51 x0 x1 x2 x3) (val_main_v32 x1 x2) (val_main_v38 x1 x3) := by
  have g : val_main_v27 (F := Ideal) x1 = grad (n := 4) (R := 128) (C := 256) x1 := funext fun y => by
    rw [eq_ix2 y]
    pointwise [val_main_v27, val_main_v26, val_main_cst_9]
    rfl
  have m : val_main_v32 (F := Ideal) x1 x2 = means x1 x2 := funext fun y => by
    rw [eq_ix2 y]
    pointwise [val_main_v28, val_main_v29, val_main_v30, val_main_v31, val_main_v32, val_main_cst_10, val_main_cst_11]
    rw [g]
    rfl
  have s : val_main_v38 (F := Ideal) x1 x3 = squares x1 x3 := funext fun y => by
    rw [eq_ix2 y]
    pointwise [val_main_v33, val_main_v34, val_main_v35, val_main_v36, val_main_v37, val_main_v38, val_main_cst_12, val_main_cst_13]
    rw [g]
    rfl
  refine ⟨g, funext fun y => ?_, m, s⟩
  rw [eq_ix2 y]
  pointwise [val_main_v39, val_main_v40, val_main_v41, val_main_v42, val_main_v43, val_main_v44, val_main_v45, val_main_v46, val_main_v47, val_main_v48, val_main_v49, val_main_v50, val_main_v51, val_main_cst_14, val_main_cst_15, val_main_cst_16, val_main_cst_17, val_main_cst_18]
  rw [m, s]
  rfl

/-- The results of the meta rows. -/
theorem ref2 (x0 x2 x3 : Vec Ideal S16x128 .f32) (x1 : Vec Ideal S4x16x128 .f32) : Results (n := 4) (R := 16) (C := 128) x1 x0 x2 x3
    (val_main_v52 x1) (val_main_v76 x0 x1 x2 x3) (val_main_v57 x1 x2) (val_main_v63 x1 x3) := by
  have g : val_main_v52 (F := Ideal) x1 = grad (n := 4) (R := 16) (C := 128) x1 := funext fun y => by
    rw [eq_ix2 y]
    pointwise [val_main_v52, val_main_cst_19]
    rfl
  have m : val_main_v57 (F := Ideal) x1 x2 = means x1 x2 := funext fun y => by
    rw [eq_ix2 y]
    pointwise [val_main_v53, val_main_v54, val_main_v55, val_main_v56, val_main_v57, val_main_cst_20, val_main_cst_21]
    rw [g]
    rfl
  have s : val_main_v63 (F := Ideal) x1 x3 = squares x1 x3 := funext fun y => by
    rw [eq_ix2 y]
    pointwise [val_main_v58, val_main_v59, val_main_v60, val_main_v61, val_main_v62, val_main_v63, val_main_cst_22, val_main_cst_23]
    rw [g]
    rfl
  refine ⟨g, funext fun y => ?_, m, s⟩
  rw [eq_ix2 y]
  pointwise [val_main_v64, val_main_v65, val_main_v66, val_main_v67, val_main_v68, val_main_v69, val_main_v70, val_main_v71, val_main_v72, val_main_v73, val_main_v74, val_main_v75, val_main_v76, val_main_cst_24, val_main_cst_25, val_main_cst_26, val_main_cst_27, val_main_cst_28]
  rw [m, s]
  rfl

/-- The results of a gain of 48 numbers. -/
theorem ref3 (x0 x2 x3 : Vec Ideal S1x48 .f32) (x1 : Vec Ideal S4x1x48 .f32) : Results (n := 4) (R := 1) (C := 48) x1 x0 x2 x3
    (val_main_v77 x1) (val_main_v101 x0 x1 x2 x3) (val_main_v82 x1 x2) (val_main_v88 x1 x3) := by
  have g : val_main_v77 (F := Ideal) x1 = grad (n := 4) (R := 1) (C := 48) x1 := funext fun y => by
    obtain ⟨r, l, rfl⟩ : ∃ (r : Fin 1) (l : Fin 48), y = ix2 r l := ⟨y 0, y 1, eq_ix2 y⟩
    rw [Subsingleton.elim r 0]
    pointwise [val_main_v77, val_main_cst_29]
    rfl
  have m : val_main_v82 (F := Ideal) x1 x2 = means x1 x2 := funext fun y => by
    rw [eq_ix2 y]
    pointwise [val_main_v78, val_main_v79, val_main_v80, val_main_v81, val_main_v82, val_main_cst_30, val_main_cst_31]
    rw [g]
    rfl
  have s : val_main_v88 (F := Ideal) x1 x3 = squares x1 x3 := funext fun y => by
    rw [eq_ix2 y]
    pointwise [val_main_v83, val_main_v84, val_main_v85, val_main_v86, val_main_v87, val_main_v88, val_main_cst_32, val_main_cst_33]
    rw [g]
    rfl
  refine ⟨g, funext fun y => ?_, m, s⟩
  rw [eq_ix2 y]
  pointwise [val_main_v89, val_main_v90, val_main_v91, val_main_v92, val_main_v93, val_main_v94, val_main_v95, val_main_v96, val_main_v97, val_main_v98, val_main_v99, val_main_v100, val_main_v101, val_main_cst_34, val_main_cst_35, val_main_cst_36, val_main_cst_37, val_main_cst_38]
  rw [m, s]
  rfl

/-- The results of a gain of 32 numbers. -/
theorem ref4 (x0 x2 x3 : Vec Ideal S1x32 .f32) (x1 : Vec Ideal S4x1x32 .f32) : Results (n := 4) (R := 1) (C := 32) x1 x0 x2 x3
    (val_main_v102 x1) (val_main_v126 x0 x1 x2 x3) (val_main_v107 x1 x2) (val_main_v113 x1 x3) := by
  have g : val_main_v102 (F := Ideal) x1 = grad (n := 4) (R := 1) (C := 32) x1 := funext fun y => by
    obtain ⟨r, l, rfl⟩ : ∃ (r : Fin 1) (l : Fin 32), y = ix2 r l := ⟨y 0, y 1, eq_ix2 y⟩
    rw [Subsingleton.elim r 0]
    pointwise [val_main_v102, val_main_cst_39]
    rfl
  have m : val_main_v107 (F := Ideal) x1 x2 = means x1 x2 := funext fun y => by
    rw [eq_ix2 y]
    pointwise [val_main_v103, val_main_v104, val_main_v105, val_main_v106, val_main_v107, val_main_cst_40, val_main_cst_41]
    rw [g]
    rfl
  have s : val_main_v113 (F := Ideal) x1 x3 = squares x1 x3 := funext fun y => by
    rw [eq_ix2 y]
    pointwise [val_main_v108, val_main_v109, val_main_v110, val_main_v111, val_main_v112, val_main_v113, val_main_cst_42, val_main_cst_43]
    rw [g]
    rfl
  refine ⟨g, funext fun y => ?_, m, s⟩
  rw [eq_ix2 y]
  pointwise [val_main_v114, val_main_v115, val_main_v116, val_main_v117, val_main_v118, val_main_v119, val_main_v120, val_main_v121, val_main_v122, val_main_v123, val_main_v124, val_main_v125, val_main_v126, val_main_cst_44, val_main_cst_45, val_main_cst_46, val_main_cst_47, val_main_cst_48]
  rw [m, s]
  rfl

/-- The results of the packed replicated arrays. -/
theorem ref5 (x0 x2 x3 : Vec Ideal S16x1024 .f32) (x1 : Vec Ideal S8x16x1024 .f32) : Results (n := 8) (R := 16) (C := 1024) x1 x0 x2 x3
    (val_main_v127 x1) (val_main_v151 x0 x1 x2 x3) (val_main_v132 x1 x2) (val_main_v138 x1 x3) := by
  have g : val_main_v127 (F := Ideal) x1 = grad (n := 8) (R := 16) (C := 1024) x1 := funext fun y => by
    rw [eq_ix2 y]
    pointwise [val_main_v127, val_main_cst_49]
    rfl
  have m : val_main_v132 (F := Ideal) x1 x2 = means x1 x2 := funext fun y => by
    rw [eq_ix2 y]
    pointwise [val_main_v128, val_main_v129, val_main_v130, val_main_v131, val_main_v132, val_main_cst_50, val_main_cst_51]
    rw [g]
    rfl
  have s : val_main_v138 (F := Ideal) x1 x3 = squares x1 x3 := funext fun y => by
    rw [eq_ix2 y]
    pointwise [val_main_v133, val_main_v134, val_main_v135, val_main_v136, val_main_v137, val_main_v138, val_main_cst_52, val_main_cst_53]
    rw [g]
    rfl
  refine ⟨g, funext fun y => ?_, m, s⟩
  rw [eq_ix2 y]
  pointwise [val_main_v139, val_main_v140, val_main_v141, val_main_v142, val_main_v143, val_main_v144, val_main_v145, val_main_v146, val_main_v147, val_main_v148, val_main_v149, val_main_v150, val_main_v151, val_main_cst_54, val_main_cst_55, val_main_cst_56, val_main_cst_57, val_main_cst_58]
  rw [m, s]
  rfl

end Cert.Reference7Ideal.Hand

end
-- ==== Proof.Adam.More.Algebraic.lean ====
module

public import proofs.«01_k».proof.Proof.Adam.More.Frames
public import proofs.«01_k».proof.Proof.Adam.More.Ends
public import proofs.«01_k».proof.Proof.Adam.More.Ref

@[expose] public section

set_option maxRecDepth 16384

/-!
# The equation of AdamW

The calls' and the reference's runs end with the same arrays: for each weight the gradient, what is added to the weight,
and the new means.
-/

noncomputable section

namespace Cert.Kernel7Ideal.Hand

open Idealize.SL.Sem Cert.Kernel7Ideal Cert.Kernel7Ideal.Gen Cert.Adam
open Idealize.ShloMosaic Idealize.ShloMosaic.TcCoe

open Cert.Reference7Ideal.Read in
set_option maxHeartbeats 3200000 in
/-- The calls and the reference end with the same arrays. -/
theorem equation_adam_more : Cert.algebraic_Kernel7Ideal_Reference7Ideal := fun m g m' g' _ e => by
  refine ⟨fun c => grad (n := 4) (R := 1408) (C := 1024) (first m c main_arg1), fun c => deltas (n := 4) (R := 1408) (C := 1024) (first m c main_arg1) (first m c main_arg0) (first m c main_arg2) (first m c main_arg3),
    fun c => means (n := 4) (R := 1408) (C := 1024) (first m c main_arg1) (first m c main_arg2), fun c => squares (n := 4) (R := 1408) (C := 1024) (first m c main_arg1) (first m c main_arg3),
    fun c => grad (n := 4) (R := 128) (C := 256) (first m c main_arg5), fun c => deltas (n := 4) (R := 128) (C := 256) (first m c main_arg5) (first m c main_arg4) (first m c main_arg6) (first m c main_arg7),
    fun c => means (n := 4) (R := 128) (C := 256) (first m c main_arg5) (first m c main_arg6), fun c => squares (n := 4) (R := 128) (C := 256) (first m c main_arg5) (first m c main_arg7),
    fun c => grad (n := 4) (R := 16) (C := 128) (first m c main_arg9), fun c => deltas (n := 4) (R := 16) (C := 128) (first m c main_arg9) (first m c main_arg8) (first m c main_arg10) (first m c main_arg11),
    fun c => means (n := 4) (R := 16) (C := 128) (first m c main_arg9) (first m c main_arg10), fun c => squares (n := 4) (R := 16) (C := 128) (first m c main_arg9) (first m c main_arg11),
    fun c => grad (n := 4) (R := 1) (C := 48) (first m c main_arg13), fun c => deltas (n := 4) (R := 1) (C := 48) (first m c main_arg13) (first m c main_arg12) (first m c main_arg14) (first m c main_arg15),
    fun c => means (n := 4) (R := 1) (C := 48) (first m c main_arg13) (first m c main_arg14), fun c => squares (n := 4) (R := 1) (C := 48) (first m c main_arg13) (first m c main_arg15),
    fun c => grad (n := 4) (R := 1) (C := 32) (first m c main_arg17), fun c => deltas (n := 4) (R := 1) (C := 32) (first m c main_arg17) (first m c main_arg16) (first m c main_arg18) (first m c main_arg19),
    fun c => means (n := 4) (R := 1) (C := 32) (first m c main_arg17) (first m c main_arg18), fun c => squares (n := 4) (R := 1) (C := 32) (first m c main_arg17) (first m c main_arg19),
    fun c => grad (n := 8) (R := 16) (C := 1024) (first m c main_arg21), fun c => deltas (n := 8) (R := 16) (C := 1024) (first m c main_arg21) (first m c main_arg20) (first m c main_arg22) (first m c main_arg23),
    fun c => means (n := 8) (R := 16) (C := 1024) (first m c main_arg21) (first m c main_arg22), fun c => squares (n := 8) (R := 16) (C := 1024) (first m c main_arg21) (first m c main_arg23),
    (θ_run defs _ _).mono (fun _ h c => ?_) (run_end (F := Ideal) m g),
    (θ_run Cert.Reference7Ideal.defs _ _).mono (fun _ h c => ?_) (Cert.Reference7Ideal.Value.run (F := Ideal) m' g')⟩
  · exact ⟨(h.1 c _ (mem_uc main_v0_0 (by decide))).trans (end0 m g c).g, (h.1 c _ (mem_uc main_v0_1 (by decide))).trans (end0 m g c).d, (h.1 c _ (mem_uc main_v0_2 (by decide))).trans (end0 m g c).m, (h.1 c _ (mem_uc main_v0_3 (by decide))).trans (end0 m g c).v,
      (h.1 c _ (mem_uc main_v1_0 (by decide))).trans (end1 m g c).g, (h.1 c _ (mem_uc main_v1_1 (by decide))).trans (end1 m g c).d, (h.1 c _ (mem_uc main_v1_2 (by decide))).trans (end1 m g c).m, (h.1 c _ (mem_uc main_v1_3 (by decide))).trans (end1 m g c).v,
      (h.1 c _ (mem_uc main_v2_0 (by decide))).trans (end2 m g c).g, (h.1 c _ (mem_uc main_v2_1 (by decide))).trans (end2 m g c).d, (h.1 c _ (mem_uc main_v2_2 (by decide))).trans (end2 m g c).m, (h.1 c _ (mem_uc main_v2_3 (by decide))).trans (end2 m g c).v,
      (h.1 c _ (mem_uc main_v3_0 (by decide))).trans (end3 m g c).g, (h.1 c _ (mem_uc main_v3_1 (by decide))).trans (end3 m g c).d, (h.1 c _ (mem_uc main_v3_2 (by decide))).trans (end3 m g c).m, (h.1 c _ (mem_uc main_v3_3 (by decide))).trans (end3 m g c).v,
      (h.1 c _ (mem_uc main_v4_0 (by decide))).trans (end4 m g c).g, (h.1 c _ (mem_uc main_v4_1 (by decide))).trans (end4 m g c).d, (h.1 c _ (mem_uc main_v4_2 (by decide))).trans (end4 m g c).m, (h.1 c _ (mem_uc main_v4_3 (by decide))).trans (end4 m g c).v,
      (h.1 c _ (mem_uc main_v5_0 (by decide))).trans (end5 m g c).g, (h.1 c _ (mem_uc main_v5_1 (by decide))).trans (end5 m g c).d, (h.1 c _ (mem_uc main_v5_2 (by decide))).trans (end5 m g c).m, (h.1 c _ (mem_uc main_v5_3 (by decide))).trans (end5 m g c).v,
      by and_intros <;> exact (h.1 c _ (mem_uc _ (by decide))).trans (W6_args m g c _ (by decide))⟩
  · obtain ⟨A0, A1, A2, A3, A4, A5, A6, A7, A8, A9, A10, A11, A12, A13, A14, A15, A16, A17, A18, A19, A20, A21, A22, A23⟩ := e c
    obtain ⟨E0, E1, E2, E3, E4, E5, E6, E7, E8, E9, E10, E11, E12, E13, E14, E15, E16, E17, E18, E19, E20, E21, E22, E23, E⟩ := h c
    let L := StableHlo.launchContents m' c
    have R0 := (Cert.Reference7Ideal.Hand.ref0 _ _ _ _).cast A1 A0 A2 A3 (E0.trans (val_main_v1_eq L)) (E1.trans (val_main_v25_eq L)) (E2.trans (val_main_v6_eq L)) (E3.trans (val_main_v12_eq L))
    have R1 := (Cert.Reference7Ideal.Hand.ref1 _ _ _ _).cast A5 A4 A6 A7 (E4.trans (val_main_v27_eq L)) (E5.trans (val_main_v51_eq L)) (E6.trans (val_main_v32_eq L)) (E7.trans (val_main_v38_eq L))
    have R2 := (Cert.Reference7Ideal.Hand.ref2 _ _ _ _).cast A9 A8 A10 A11 (E8.trans (val_main_v52_eq L)) (E9.trans (val_main_v76_eq L)) (E10.trans (val_main_v57_eq L)) (E11.trans (val_main_v63_eq L))
    have R3 := (Cert.Reference7Ideal.Hand.ref3 _ _ _ _).cast A13 A12 A14 A15 (E12.trans (val_main_v77_eq L)) (E13.trans (val_main_v101_eq L)) (E14.trans (val_main_v82_eq L)) (E15.trans (val_main_v88_eq L))
    have R4 := (Cert.Reference7Ideal.Hand.ref4 _ _ _ _).cast A17 A16 A18 A19 (E16.trans (val_main_v102_eq L)) (E17.trans (val_main_v126_eq L)) (E18.trans (val_main_v107_eq L)) (E19.trans (val_main_v113_eq L))
    have R5 := (Cert.Reference7Ideal.Hand.ref5 _ _ _ _).cast A21 A20 A22 A23 (E20.trans (val_main_v127_eq L)) (E21.trans (val_main_v151_eq L)) (E22.trans (val_main_v132_eq L)) (E23.trans (val_main_v138_eq L))
    exact ⟨R0.g, R0.d, R0.m, R0.v, R1.g, R1.d, R1.m, R1.v, R2.g, R2.d, R2.m, R2.v, R3.g, R3.d, R3.m, R3.v, R4.g, R4.d, R4.m, R4.v, R5.g, R5.d, R5.m, R5.v, E⟩

end Cert.Kernel7Ideal.Hand

end
-- ==== Proof.lean ====
module

public import proofs.«01_k».proof.Proof.Algebraic
public import proofs.«01_k».proof.Proof.Dense.Algebraic
public import proofs.«01_k».proof.Proof.Sb.Algebraic
public import proofs.«01_k».proof.Proof.Fox.Algebraic
public import proofs.«01_k».proof.Proof.Mla.Algebraic
public import proofs.«01_k».proof.Proof.Adam.Algebraic
public import proofs.«01_k».proof.Proof.Adam.More.Algebraic

@[expose] public section

/-!
# The claim

The facts the programs state are the ones the generated modules prove; every claim is a theorem of `Proof/`.
-/

noncomputable section

namespace Cert.Proof

open Cert.KernelIdeal.Hand Cert.Kernel2Ideal.Hand

/-- The claim. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Hand.facts, Cert.Pre_ffn_finite.Hand.facts,
    frame_kernel, frame_ideal, frame_ideal_finite, frame_reference, frame_reference_finite,
    frame_calls, frame_calls_ideal, frame_calls_finite, frame_layer, frame_layer_finite,
    Cert.Kernel3Ideal.Hand.frame_sides, Cert.Kernel3Ideal.Hand.frame_sides_ideal, Cert.Kernel3Ideal.Hand.frame_sides_reference,
    Cert.Kernel4Ideal.Hand.frame_sides, Cert.Kernel4Ideal.Hand.frame_sides_ideal, Cert.Kernel4Ideal.Hand.frame_sides_reference,
    Cert.Kernel5Ideal.Hand.frame_sides, Cert.Kernel5Ideal.Hand.frame_sides_ideal, Cert.Kernel5Ideal.Hand.frame_sides_reference,
    Cert.Kernel6Ideal.Hand.frame_adam, Cert.Kernel6Ideal.Hand.frame_adam_ideal, Cert.Kernel6Ideal.Hand.frame_adam_reference,
    Cert.Kernel7Ideal.Hand.frame_adam_more, Cert.Kernel7Ideal.Hand.frame_adam_more_ideal, Cert.Kernel7Ideal.Hand.frame_adam_more_reference,
    trivial, equation, trivial, equation_layer, trivial, Cert.Kernel3Ideal.Hand.equation_sides,
    trivial, Cert.Kernel4Ideal.Hand.equation_sides, trivial, Cert.Kernel5Ideal.Hand.equation_sides,
    trivial, Cert.Kernel6Ideal.Hand.equation_adam, trivial, Cert.Kernel7Ideal.Hand.equation_adam_more⟩

end Cert.Proof

end
